-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDwOther [hPre_is_core : Cert.Pre_is_core.Facts] (m : (ℓ : Loc Cert.DownDwOther.nD Cert.DownDwOther.τ Cert.DownDwOther.sig) → Buf (Elt Bits) ℓ) : Prop :=
  ∀ c : Dev Cert.DownDwOther.nD,
    (Cert.Pre_is_core.fn (F := Bits) (m ((c.tc : Thread Cert.DownDwOther.nD Cert.DownDwOther.τ).loc Cert.DownDwOther.main_arg0)) (m ((c.tc : Thread Cert.DownDwOther.nD Cert.DownDwOther.τ).loc Cert.DownDwOther.main_arg1)) (m ((c.tc : Thread Cert.DownDwOther.nD Cert.DownDwOther.τ).loc Cert.DownDwOther.main_arg2))) = (fun _ => 1#1)

def Pre_DownDwOtherIdeal [hPre_is_core : Cert.Pre_is_core.Facts] (m : (ℓ : Loc Cert.DownDwOtherIdeal.nD Cert.DownDwOtherIdeal.τ Cert.DownDwOtherIdeal.sig) → Buf (Elt Ideal) ℓ) : Prop :=
  ∀ c : Dev Cert.DownDwOtherIdeal.nD,
    (Cert.Pre_is_core.fn (F := Ideal) (m ((c.tc : Thread Cert.DownDwOtherIdeal.nD Cert.DownDwOtherIdeal.τ).loc Cert.DownDwOtherIdeal.main_arg0)) (m ((c.tc : Thread Cert.DownDwOtherIdeal.nD Cert.DownDwOtherIdeal.τ).loc Cert.DownDwOtherIdeal.main_arg1)) (m ((c.tc : Thread Cert.DownDwOtherIdeal.nD Cert.DownDwOtherIdeal.τ).loc Cert.DownDwOtherIdeal.main_arg2))) = (fun _ => 1#1)

def Pre_DownDwOtherReferenceIdeal (m : (ℓ : Loc Cert.DownDwOtherReferenceIdeal.nD Cert.DownDwOtherReferenceIdeal.τ Cert.DownDwOtherReferenceIdeal.sig) → Buf (Elt Ideal) ℓ) : Prop :=
  True

def Pre_DownDwOtherReferenceIdeal_is_core [hPre_is_core : Cert.Pre_is_core.Facts] (m : (ℓ : Loc Cert.DownDwOtherReferenceIdeal.nD Cert.DownDwOtherReferenceIdeal.τ Cert.DownDwOtherReferenceIdeal.sig) → Buf (Elt Ideal) ℓ) : Prop :=
  ∀ c : Dev Cert.DownDwOtherReferenceIdeal.nD,
    (Cert.Pre_is_core.fn (F := Ideal) (m ((c.tc : Thread Cert.DownDwOtherReferenceIdeal.nD Cert.DownDwOtherReferenceIdeal.τ).loc Cert.DownDwOtherReferenceIdeal.main_arg0)) (m ((c.tc : Thread Cert.DownDwOtherReferenceIdeal.nD Cert.DownDwOtherReferenceIdeal.τ).loc Cert.DownDwOtherReferenceIdeal.main_arg1)) (m ((c.tc : Thread Cert.DownDwOtherReferenceIdeal.nD Cert.DownDwOtherReferenceIdeal.τ).loc Cert.DownDwOtherReferenceIdeal.main_arg2))) = (fun _ => 1#1)

def Pre_DownDwOwn [hPre_is_core_down_own : Cert.Pre_is_core_down_own.Facts] (m : (ℓ : Loc Cert.DownDwOwn.nD Cert.DownDwOwn.τ Cert.DownDwOwn.sig) → Buf (Elt Bits) ℓ) : Prop :=
  ∀ c : Dev Cert.DownDwOwn.nD,
    (Cert.Pre_is_core_down_own.fn (F := Bits) (m ((c.tc : Thread Cert.DownDwOwn.nD Cert.DownDwOwn.τ).loc Cert.DownDwOwn.main_arg0)) (m ((c.tc : Thread Cert.DownDwOwn.nD Cert.DownDwOwn.τ).loc Cert.DownDwOwn.main_arg1)) (m ((c.tc : Thread Cert.DownDwOwn.nD Cert.DownDwOwn.τ).loc Cert.DownDwOwn.main_arg2)) (m ((c.tc : Thread Cert.DownDwOwn.nD Cert.DownDwOwn.τ).loc Cert.DownDwOwn.main_arg3))) = (fun _ => 1#1)

def Pre_DownDwOwnIdeal [hPre_is_core_down_own : Cert.Pre_is_core_down_own.Facts] (m : (ℓ : Loc Cert.DownDwOwnIdeal.nD Cert.DownDwOwnIdeal.τ Cert.DownDwOwnIdeal.sig) → Buf (Elt Ideal) ℓ) : Prop :=
  ∀ c : Dev Cert.DownDwOwnIdeal.nD,
    (Cert.Pre_is_core_down_own.fn (F := Ideal) (m ((c.tc : Thread Cert.DownDwOwnIdeal.nD Cert.DownDwOwnIdeal.τ).loc Cert.DownDwOwnIdeal.main_arg0)) (m ((c.tc : Thread Cert.DownDwOwnIdeal.nD Cert.DownDwOwnIdeal.τ).loc Cert.DownDwOwnIdeal.main_arg1)) (m ((c.tc : Thread Cert.DownDwOwnIdeal.nD Cert.DownDwOwnIdeal.τ).loc Cert.DownDwOwnIdeal.main_arg2)) (m ((c.tc : Thread Cert.DownDwOwnIdeal.nD Cert.DownDwOwnIdeal.τ).loc Cert.DownDwOwnIdeal.main_arg3))) = (fun _ => 1#1)

def Pre_DownDwOwnReferenceIdeal (m : (ℓ : Loc Cert.DownDwOwnReferenceIdeal.nD Cert.DownDwOwnReferenceIdeal.τ Cert.DownDwOwnReferenceIdeal.sig) → Buf (Elt Ideal) ℓ) : Prop :=
  True

def Pre_DownDwOwnReferenceIdeal_is_core_down_own [hPre_is_core_down_own : Cert.Pre_is_core_down_own.Facts] (m : (ℓ : Loc Cert.DownDwOwnReferenceIdeal.nD Cert.DownDwOwnReferenceIdeal.τ Cert.DownDwOwnReferenceIdeal.sig) → Buf (Elt Ideal) ℓ) : Prop :=
  ∀ c : Dev Cert.DownDwOwnReferenceIdeal.nD,
    (Cert.Pre_is_core_down_own.fn (F := Ideal) (m ((c.tc : Thread Cert.DownDwOwnReferenceIdeal.nD Cert.DownDwOwnReferenceIdeal.τ).loc Cert.DownDwOwnReferenceIdeal.main_arg0)) (m ((c.tc : Thread Cert.DownDwOwnReferenceIdeal.nD Cert.DownDwOwnReferenceIdeal.τ).loc Cert.DownDwOwnReferenceIdeal.main_arg1)) (m ((c.tc : Thread Cert.DownDwOwnReferenceIdeal.nD Cert.DownDwOwnReferenceIdeal.τ).loc Cert.DownDwOwnReferenceIdeal.main_arg2)) (m ((c.tc : Thread Cert.DownDwOwnReferenceIdeal.nD Cert.DownDwOwnReferenceIdeal.τ).loc Cert.DownDwOwnReferenceIdeal.main_arg3))) = (fun _ => 1#1)

def Pre_UpDwOther [hPre_is_core_up : Cert.Pre_is_core_up.Facts] (m : (ℓ : Loc Cert.UpDwOther.nD Cert.UpDwOther.τ Cert.UpDwOther.sig) → Buf (Elt Bits) ℓ) : Prop :=
  ∀ c : Dev Cert.UpDwOther.nD,
    (Cert.Pre_is_core_up.fn (F := Bits) (m ((c.tc : Thread Cert.UpDwOther.nD Cert.UpDwOther.τ).loc Cert.UpDwOther.main_arg0)) (m ((c.tc : Thread Cert.UpDwOther.nD Cert.UpDwOther.τ).loc Cert.UpDwOther.main_arg1)) (m ((c.tc : Thread Cert.UpDwOther.nD Cert.UpDwOther.τ).loc Cert.UpDwOther.main_arg2))) = (fun _ => 1#1)

def Pre_UpDwOtherIdeal [hPre_is_core_up : Cert.Pre_is_core_up.Facts] (m : (ℓ : Loc Cert.UpDwOtherIdeal.nD Cert.UpDwOtherIdeal.τ Cert.UpDwOtherIdeal.sig) → Buf (Elt Ideal) ℓ) : Prop :=
  ∀ c : Dev Cert.UpDwOtherIdeal.nD,
    (Cert.Pre_is_core_up.fn (F := Ideal) (m ((c.tc : Thread Cert.UpDwOtherIdeal.nD Cert.UpDwOtherIdeal.τ).loc Cert.UpDwOtherIdeal.main_arg0)) (m ((c.tc : Thread Cert.UpDwOtherIdeal.nD Cert.UpDwOtherIdeal.τ).loc Cert.UpDwOtherIdeal.main_arg1)) (m ((c.tc : Thread Cert.UpDwOtherIdeal.nD Cert.UpDwOtherIdeal.τ).loc Cert.UpDwOtherIdeal.main_arg2))) = (fun _ => 1#1)

def Pre_UpDwOtherReferenceIdeal (m : (ℓ : Loc Cert.UpDwOtherReferenceIdeal.nD Cert.UpDwOtherReferenceIdeal.τ Cert.UpDwOtherReferenceIdeal.sig) → Buf (Elt Ideal) ℓ) : Prop :=
  True

def Pre_UpDwOtherReferenceIdeal_is_core_up [hPre_is_core_up : Cert.Pre_is_core_up.Facts] (m : (ℓ : Loc Cert.UpDwOtherReferenceIdeal.nD Cert.UpDwOtherReferenceIdeal.τ Cert.UpDwOtherReferenceIdeal.sig) → Buf (Elt Ideal) ℓ) : Prop :=
  ∀ c : Dev Cert.UpDwOtherReferenceIdeal.nD,
    (Cert.Pre_is_core_up.fn (F := Ideal) (m ((c.tc : Thread Cert.UpDwOtherReferenceIdeal.nD Cert.UpDwOtherReferenceIdeal.τ).loc Cert.UpDwOtherReferenceIdeal.main_arg0)) (m ((c.tc : Thread Cert.UpDwOtherReferenceIdeal.nD Cert.UpDwOtherReferenceIdeal.τ).loc Cert.UpDwOtherReferenceIdeal.main_arg1)) (m ((c.tc : Thread Cert.UpDwOtherReferenceIdeal.nD Cert.UpDwOtherReferenceIdeal.τ).loc Cert.UpDwOtherReferenceIdeal.main_arg2))) = (fun _ => 1#1)

def Pre_UpDwOwn [hPre_is_core_up_own : Cert.Pre_is_core_up_own.Facts] (m : (ℓ : Loc Cert.UpDwOwn.nD Cert.UpDwOwn.τ Cert.UpDwOwn.sig) → Buf (Elt Bits) ℓ) : Prop :=
  ∀ c : Dev Cert.UpDwOwn.nD,
    (Cert.Pre_is_core_up_own.fn (F := Bits) (m ((c.tc : Thread Cert.UpDwOwn.nD Cert.UpDwOwn.τ).loc Cert.UpDwOwn.main_arg0)) (m ((c.tc : Thread Cert.UpDwOwn.nD Cert.UpDwOwn.τ).loc Cert.UpDwOwn.main_arg1)) (m ((c.tc : Thread Cert.UpDwOwn.nD Cert.UpDwOwn.τ).loc Cert.UpDwOwn.main_arg2)) (m ((c.tc : Thread Cert.UpDwOwn.nD Cert.UpDwOwn.τ).loc Cert.UpDwOwn.main_arg3))) = (fun _ => 1#1)

def Pre_UpDwOwnIdeal [hPre_is_core_up_own : Cert.Pre_is_core_up_own.Facts] (m : (ℓ : Loc Cert.UpDwOwnIdeal.nD Cert.UpDwOwnIdeal.τ Cert.UpDwOwnIdeal.sig) → Buf (Elt Ideal) ℓ) : Prop :=
  ∀ c : Dev Cert.UpDwOwnIdeal.nD,
    (Cert.Pre_is_core_up_own.fn (F := Ideal) (m ((c.tc : Thread Cert.UpDwOwnIdeal.nD Cert.UpDwOwnIdeal.τ).loc Cert.UpDwOwnIdeal.main_arg0)) (m ((c.tc : Thread Cert.UpDwOwnIdeal.nD Cert.UpDwOwnIdeal.τ).loc Cert.UpDwOwnIdeal.main_arg1)) (m ((c.tc : Thread Cert.UpDwOwnIdeal.nD Cert.UpDwOwnIdeal.τ).loc Cert.UpDwOwnIdeal.main_arg2)) (m ((c.tc : Thread Cert.UpDwOwnIdeal.nD Cert.UpDwOwnIdeal.τ).loc Cert.UpDwOwnIdeal.main_arg3))) = (fun _ => 1#1)

def Pre_UpDwOwnReferenceIdeal (m : (ℓ : Loc Cert.UpDwOwnReferenceIdeal.nD Cert.UpDwOwnReferenceIdeal.τ Cert.UpDwOwnReferenceIdeal.sig) → Buf (Elt Ideal) ℓ) : Prop :=
  True

def Pre_UpDwOwnReferenceIdeal_is_core_up_own [hPre_is_core_up_own : Cert.Pre_is_core_up_own.Facts] (m : (ℓ : Loc Cert.UpDwOwnReferenceIdeal.nD Cert.UpDwOwnReferenceIdeal.τ Cert.UpDwOwnReferenceIdeal.sig) → Buf (Elt Ideal) ℓ) : Prop :=
  ∀ c : Dev Cert.UpDwOwnReferenceIdeal.nD,
    (Cert.Pre_is_core_up_own.fn (F := Ideal) (m ((c.tc : Thread Cert.UpDwOwnReferenceIdeal.nD Cert.UpDwOwnReferenceIdeal.τ).loc Cert.UpDwOwnReferenceIdeal.main_arg0)) (m ((c.tc : Thread Cert.UpDwOwnReferenceIdeal.nD Cert.UpDwOwnReferenceIdeal.τ).loc Cert.UpDwOwnReferenceIdeal.main_arg1)) (m ((c.tc : Thread Cert.UpDwOwnReferenceIdeal.nD Cert.UpDwOwnReferenceIdeal.τ).loc Cert.UpDwOwnReferenceIdeal.main_arg2)) (m ((c.tc : Thread Cert.UpDwOwnReferenceIdeal.nD Cert.UpDwOwnReferenceIdeal.τ).loc Cert.UpDwOwnReferenceIdeal.main_arg3))) = (fun _ => 1#1)

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxReferenceIdeal (m : (ℓ : Loc Cert.SquareDxReferenceIdeal.nD Cert.SquareDxReferenceIdeal.τ Cert.SquareDxReferenceIdeal.sig) → Buf (Elt Ideal) ℓ) : Prop :=
  True

def Pre_MixaInDx (m : (ℓ : Loc Cert.MixaInDx.nD Cert.MixaInDx.τ Cert.MixaInDx.sig) → Buf (Elt Bits) ℓ) : Prop :=
  True

def Pre_MixaInDxIdeal (m : (ℓ : Loc Cert.MixaInDxIdeal.nD Cert.MixaInDxIdeal.τ Cert.MixaInDxIdeal.sig) → Buf (Elt Ideal) ℓ) : Prop :=
  True

def Pre_MixaInDxReferenceIdeal (m : (ℓ : Loc Cert.MixaInDxReferenceIdeal.nD Cert.MixaInDxReferenceIdeal.τ Cert.MixaInDxReferenceIdeal.sig) → Buf (Elt Ideal) ℓ) : Prop :=
  True

def Pre_SquareDwOther [hPre_is_core_square : Cert.Pre_is_core_square.Facts] (m : (ℓ : Loc Cert.SquareDwOther.nD Cert.SquareDwOther.τ Cert.SquareDwOther.sig) → Buf (Elt Bits) ℓ) : Prop :=
  ∀ c : Dev Cert.SquareDwOther.nD,
    (Cert.Pre_is_core_square.fn (F := Bits) (m ((c.tc : Thread Cert.SquareDwOther.nD Cert.SquareDwOther.τ).loc Cert.SquareDwOther.main_arg0)) (m ((c.tc : Thread Cert.SquareDwOther.nD Cert.SquareDwOther.τ).loc Cert.SquareDwOther.main_arg1)) (m ((c.tc : Thread Cert.SquareDwOther.nD Cert.SquareDwOther.τ).loc Cert.SquareDwOther.main_arg2))) = (fun _ => 1#1)

def Pre_SquareDwOtherIdeal [hPre_is_core_square : Cert.Pre_is_core_square.Facts] (m : (ℓ : Loc Cert.SquareDwOtherIdeal.nD Cert.SquareDwOtherIdeal.τ Cert.SquareDwOtherIdeal.sig) → Buf (Elt Ideal) ℓ) : Prop :=
  ∀ c : Dev Cert.SquareDwOtherIdeal.nD,
    (Cert.Pre_is_core_square.fn (F := Ideal) (m ((c.tc : Thread Cert.SquareDwOtherIdeal.nD Cert.SquareDwOtherIdeal.τ).loc Cert.SquareDwOtherIdeal.main_arg0)) (m ((c.tc : Thread Cert.SquareDwOtherIdeal.nD Cert.SquareDwOtherIdeal.τ).loc Cert.SquareDwOtherIdeal.main_arg1)) (m ((c.tc : Thread Cert.SquareDwOtherIdeal.nD Cert.SquareDwOtherIdeal.τ).loc Cert.SquareDwOtherIdeal.main_arg2))) = (fun _ => 1#1)

def Pre_SquareDwOtherReferenceIdeal (m : (ℓ : Loc Cert.SquareDwOtherReferenceIdeal.nD Cert.SquareDwOtherReferenceIdeal.τ Cert.SquareDwOtherReferenceIdeal.sig) → Buf (Elt Ideal) ℓ) : Prop :=
  True

def Pre_SquareDwOtherReferenceIdeal_is_core_square [hPre_is_core_square : Cert.Pre_is_core_square.Facts] (m : (ℓ : Loc Cert.SquareDwOtherReferenceIdeal.nD Cert.SquareDwOtherReferenceIdeal.τ Cert.SquareDwOtherReferenceIdeal.sig) → Buf (Elt Ideal) ℓ) : Prop :=
  ∀ c : Dev Cert.SquareDwOtherReferenceIdeal.nD,
    (Cert.Pre_is_core_square.fn (F := Ideal) (m ((c.tc : Thread Cert.SquareDwOtherReferenceIdeal.nD Cert.SquareDwOtherReferenceIdeal.τ).loc Cert.SquareDwOtherReferenceIdeal.main_arg0)) (m ((c.tc : Thread Cert.SquareDwOtherReferenceIdeal.nD Cert.SquareDwOtherReferenceIdeal.τ).loc Cert.SquareDwOtherReferenceIdeal.main_arg1)) (m ((c.tc : Thread Cert.SquareDwOtherReferenceIdeal.nD Cert.SquareDwOtherReferenceIdeal.τ).loc Cert.SquareDwOtherReferenceIdeal.main_arg2))) = (fun _ => 1#1)

def Pre_SquareDwOwn [hPre_is_core_square_own : Cert.Pre_is_core_square_own.Facts] (m : (ℓ : Loc Cert.SquareDwOwn.nD Cert.SquareDwOwn.τ Cert.SquareDwOwn.sig) → Buf (Elt Bits) ℓ) : Prop :=
  ∀ c : Dev Cert.SquareDwOwn.nD,
    (Cert.Pre_is_core_square_own.fn (F := Bits) (m ((c.tc : Thread Cert.SquareDwOwn.nD Cert.SquareDwOwn.τ).loc Cert.SquareDwOwn.main_arg0)) (m ((c.tc : Thread Cert.SquareDwOwn.nD Cert.SquareDwOwn.τ).loc Cert.SquareDwOwn.main_arg1)) (m ((c.tc : Thread Cert.SquareDwOwn.nD Cert.SquareDwOwn.τ).loc Cert.SquareDwOwn.main_arg2)) (m ((c.tc : Thread Cert.SquareDwOwn.nD Cert.SquareDwOwn.τ).loc Cert.SquareDwOwn.main_arg3))) = (fun _ => 1#1)

def Pre_SquareDwOwnIdeal [hPre_is_core_square_own : Cert.Pre_is_core_square_own.Facts] (m : (ℓ : Loc Cert.SquareDwOwnIdeal.nD Cert.SquareDwOwnIdeal.τ Cert.SquareDwOwnIdeal.sig) → Buf (Elt Ideal) ℓ) : Prop :=
  ∀ c : Dev Cert.SquareDwOwnIdeal.nD,
    (Cert.Pre_is_core_square_own.fn (F := Ideal) (m ((c.tc : Thread Cert.SquareDwOwnIdeal.nD Cert.SquareDwOwnIdeal.τ).loc Cert.SquareDwOwnIdeal.main_arg0)) (m ((c.tc : Thread Cert.SquareDwOwnIdeal.nD Cert.SquareDwOwnIdeal.τ).loc Cert.SquareDwOwnIdeal.main_arg1)) (m ((c.tc : Thread Cert.SquareDwOwnIdeal.nD Cert.SquareDwOwnIdeal.τ).loc Cert.SquareDwOwnIdeal.main_arg2)) (m ((c.tc : Thread Cert.SquareDwOwnIdeal.nD Cert.SquareDwOwnIdeal.τ).loc Cert.SquareDwOwnIdeal.main_arg3))) = (fun _ => 1#1)

def Pre_SquareDwOwnReferenceIdeal (m : (ℓ : Loc Cert.SquareDwOwnReferenceIdeal.nD Cert.SquareDwOwnReferenceIdeal.τ Cert.SquareDwOwnReferenceIdeal.sig) → Buf (Elt Ideal) ℓ) : Prop :=
  True

def Pre_SquareDwOwnReferenceIdeal_is_core_square_own [hPre_is_core_square_own : Cert.Pre_is_core_square_own.Facts] (m : (ℓ : Loc Cert.SquareDwOwnReferenceIdeal.nD Cert.SquareDwOwnReferenceIdeal.τ Cert.SquareDwOwnReferenceIdeal.sig) → Buf (Elt Ideal) ℓ) : Prop :=
  ∀ c : Dev Cert.SquareDwOwnReferenceIdeal.nD,
    (Cert.Pre_is_core_square_own.fn (F := Ideal) (m ((c.tc : Thread Cert.SquareDwOwnReferenceIdeal.nD Cert.SquareDwOwnReferenceIdeal.τ).loc Cert.SquareDwOwnReferenceIdeal.main_arg0)) (m ((c.tc : Thread Cert.SquareDwOwnReferenceIdeal.nD Cert.SquareDwOwnReferenceIdeal.τ).loc Cert.SquareDwOwnReferenceIdeal.main_arg1)) (m ((c.tc : Thread Cert.SquareDwOwnReferenceIdeal.nD Cert.SquareDwOwnReferenceIdeal.τ).loc Cert.SquareDwOwnReferenceIdeal.main_arg2)) (m ((c.tc : Thread Cert.SquareDwOwnReferenceIdeal.nD Cert.SquareDwOwnReferenceIdeal.τ).loc Cert.SquareDwOwnReferenceIdeal.main_arg3))) = (fun _ => 1#1)

def Pre_MixaInDwOther [hPre_is_core_mixa : Cert.Pre_is_core_mixa.Facts] (m : (ℓ : Loc Cert.MixaInDwOther.nD Cert.MixaInDwOther.τ Cert.MixaInDwOther.sig) → Buf (Elt Bits) ℓ) : Prop :=
  ∀ c : Dev Cert.MixaInDwOther.nD,
    (Cert.Pre_is_core_mixa.fn (F := Bits) (m ((c.tc : Thread Cert.MixaInDwOther.nD Cert.MixaInDwOther.τ).loc Cert.MixaInDwOther.main_arg0)) (m ((c.tc : Thread Cert.MixaInDwOther.nD Cert.MixaInDwOther.τ).loc Cert.MixaInDwOther.main_arg1)) (m ((c.tc : Thread Cert.MixaInDwOther.nD Cert.MixaInDwOther.τ).loc Cert.MixaInDwOther.main_arg2))) = (fun _ => 1#1)

def Pre_MixaInDwOtherIdeal [hPre_is_core_mixa : Cert.Pre_is_core_mixa.Facts] (m : (ℓ : Loc Cert.MixaInDwOtherIdeal.nD Cert.MixaInDwOtherIdeal.τ Cert.MixaInDwOtherIdeal.sig) → Buf (Elt Ideal) ℓ) : Prop :=
  ∀ c : Dev Cert.MixaInDwOtherIdeal.nD,
    (Cert.Pre_is_core_mixa.fn (F := Ideal) (m ((c.tc : Thread Cert.MixaInDwOtherIdeal.nD Cert.MixaInDwOtherIdeal.τ).loc Cert.MixaInDwOtherIdeal.main_arg0)) (m ((c.tc : Thread Cert.MixaInDwOtherIdeal.nD Cert.MixaInDwOtherIdeal.τ).loc Cert.MixaInDwOtherIdeal.main_arg1)) (m ((c.tc : Thread Cert.MixaInDwOtherIdeal.nD Cert.MixaInDwOtherIdeal.τ).loc Cert.MixaInDwOtherIdeal.main_arg2))) = (fun _ => 1#1)

def Pre_MixaInDwOtherReferenceIdeal (m : (ℓ : Loc Cert.MixaInDwOtherReferenceIdeal.nD Cert.MixaInDwOtherReferenceIdeal.τ Cert.MixaInDwOtherReferenceIdeal.sig) → Buf (Elt Ideal) ℓ) : Prop :=
  True

def Pre_MixaInDwOtherReferenceIdeal_is_core_mixa [hPre_is_core_mixa : Cert.Pre_is_core_mixa.Facts] (m : (ℓ : Loc Cert.MixaInDwOtherReferenceIdeal.nD Cert.MixaInDwOtherReferenceIdeal.τ Cert.MixaInDwOtherReferenceIdeal.sig) → Buf (Elt Ideal) ℓ) : Prop :=
  ∀ c : Dev Cert.MixaInDwOtherReferenceIdeal.nD,
    (Cert.Pre_is_core_mixa.fn (F := Ideal) (m ((c.tc : Thread Cert.MixaInDwOtherReferenceIdeal.nD Cert.MixaInDwOtherReferenceIdeal.τ).loc Cert.MixaInDwOtherReferenceIdeal.main_arg0)) (m ((c.tc : Thread Cert.MixaInDwOtherReferenceIdeal.nD Cert.MixaInDwOtherReferenceIdeal.τ).loc Cert.MixaInDwOtherReferenceIdeal.main_arg1)) (m ((c.tc : Thread Cert.MixaInDwOtherReferenceIdeal.nD Cert.MixaInDwOtherReferenceIdeal.τ).loc Cert.MixaInDwOtherReferenceIdeal.main_arg2))) = (fun _ => 1#1)

def Pre_MixaInDwOwn [hPre_is_core_mixa_own : Cert.Pre_is_core_mixa_own.Facts] (m : (ℓ : Loc Cert.MixaInDwOwn.nD Cert.MixaInDwOwn.τ Cert.MixaInDwOwn.sig) → Buf (Elt Bits) ℓ) : Prop :=
  ∀ c : Dev Cert.MixaInDwOwn.nD,
    (Cert.Pre_is_core_mixa_own.fn (F := Bits) (m ((c.tc : Thread Cert.MixaInDwOwn.nD Cert.MixaInDwOwn.τ).loc Cert.MixaInDwOwn.main_arg0)) (m ((c.tc : Thread Cert.MixaInDwOwn.nD Cert.MixaInDwOwn.τ).loc Cert.MixaInDwOwn.main_arg1)) (m ((c.tc : Thread Cert.MixaInDwOwn.nD Cert.MixaInDwOwn.τ).loc Cert.MixaInDwOwn.main_arg2)) (m ((c.tc : Thread Cert.MixaInDwOwn.nD Cert.MixaInDwOwn.τ).loc Cert.MixaInDwOwn.main_arg3))) = (fun _ => 1#1)

def Pre_MixaInDwOwnIdeal [hPre_is_core_mixa_own : Cert.Pre_is_core_mixa_own.Facts] (m : (ℓ : Loc Cert.MixaInDwOwnIdeal.nD Cert.MixaInDwOwnIdeal.τ Cert.MixaInDwOwnIdeal.sig) → Buf (Elt Ideal) ℓ) : Prop :=
  ∀ c : Dev Cert.MixaInDwOwnIdeal.nD,
    (Cert.Pre_is_core_mixa_own.fn (F := Ideal) (m ((c.tc : Thread Cert.MixaInDwOwnIdeal.nD Cert.MixaInDwOwnIdeal.τ).loc Cert.MixaInDwOwnIdeal.main_arg0)) (m ((c.tc : Thread Cert.MixaInDwOwnIdeal.nD Cert.MixaInDwOwnIdeal.τ).loc Cert.MixaInDwOwnIdeal.main_arg1)) (m ((c.tc : Thread Cert.MixaInDwOwnIdeal.nD Cert.MixaInDwOwnIdeal.τ).loc Cert.MixaInDwOwnIdeal.main_arg2)) (m ((c.tc : Thread Cert.MixaInDwOwnIdeal.nD Cert.MixaInDwOwnIdeal.τ).loc Cert.MixaInDwOwnIdeal.main_arg3))) = (fun _ => 1#1)

def Pre_MixaInDwOwnReferenceIdeal (m : (ℓ : Loc Cert.MixaInDwOwnReferenceIdeal.nD Cert.MixaInDwOwnReferenceIdeal.τ Cert.MixaInDwOwnReferenceIdeal.sig) → Buf (Elt Ideal) ℓ) : Prop :=
  True

def Pre_MixaInDwOwnReferenceIdeal_is_core_mixa_own [hPre_is_core_mixa_own : Cert.Pre_is_core_mixa_own.Facts] (m : (ℓ : Loc Cert.MixaInDwOwnReferenceIdeal.nD Cert.MixaInDwOwnReferenceIdeal.τ Cert.MixaInDwOwnReferenceIdeal.sig) → Buf (Elt Ideal) ℓ) : Prop :=
  ∀ c : Dev Cert.MixaInDwOwnReferenceIdeal.nD,
    (Cert.Pre_is_core_mixa_own.fn (F := Ideal) (m ((c.tc : Thread Cert.MixaInDwOwnReferenceIdeal.nD Cert.MixaInDwOwnReferenceIdeal.τ).loc Cert.MixaInDwOwnReferenceIdeal.main_arg0)) (m ((c.tc : Thread Cert.MixaInDwOwnReferenceIdeal.nD Cert.MixaInDwOwnReferenceIdeal.τ).loc Cert.MixaInDwOwnReferenceIdeal.main_arg1)) (m ((c.tc : Thread Cert.MixaInDwOwnReferenceIdeal.nD Cert.MixaInDwOwnReferenceIdeal.τ).loc Cert.MixaInDwOwnReferenceIdeal.main_arg2)) (m ((c.tc : Thread Cert.MixaInDwOwnReferenceIdeal.nD Cert.MixaInDwOwnReferenceIdeal.τ).loc Cert.MixaInDwOwnReferenceIdeal.main_arg3))) = (fun _ => 1#1)

def Pre_MixaIn (m : (ℓ : Loc Cert.MixaIn.nD Cert.MixaIn.τ Cert.MixaIn.sig) → Buf (Elt Bits) ℓ) : Prop :=
  True

def Pre_MixaInIdeal (m : (ℓ : Loc Cert.MixaInIdeal.nD Cert.MixaInIdeal.τ Cert.MixaInIdeal.sig) → Buf (Elt Ideal) ℓ) : Prop :=
  True

def Pre_MixaInReferenceIdeal (m : (ℓ : Loc Cert.MixaInReferenceIdeal.nD Cert.MixaInReferenceIdeal.τ Cert.MixaInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixbIn (m : (ℓ : Loc Cert.MixbIn.nD Cert.MixbIn.τ Cert.MixbIn.sig) → Buf (Elt Bits) ℓ) : Prop :=
  True

def Pre_MixbInIdeal (m : (ℓ : Loc Cert.MixbInIdeal.nD Cert.MixbInIdeal.τ Cert.MixbInIdeal.sig) → Buf (Elt Ideal) ℓ) : Prop :=
  True

def Pre_MixbInReferenceIdeal (m : (ℓ : Loc Cert.MixbInReferenceIdeal.nD Cert.MixbInReferenceIdeal.τ Cert.MixbInReferenceIdeal.sig) → Buf (Elt Ideal) ℓ) : Prop :=
  True

def Pre_ScaledDx (m : (ℓ : Loc Cert.ScaledDx.nD Cert.ScaledDx.τ Cert.ScaledDx.sig) → Buf (Elt Bits) ℓ) : Prop :=
  True

def Pre_ScaledDxIdeal (m : (ℓ : Loc Cert.ScaledDxIdeal.nD Cert.ScaledDxIdeal.τ Cert.ScaledDxIdeal.sig) → Buf (Elt Ideal) ℓ) : Prop :=
  True

def Pre_ScaledDxReferenceIdeal (m : (ℓ : Loc Cert.ScaledDxReferenceIdeal.nD Cert.ScaledDxReferenceIdeal.τ Cert.ScaledDxReferenceIdeal.sig) → Buf (Elt Ideal) ℓ) : Prop :=
  True

def Pre_GrpDx (m : (ℓ : Loc Cert.GrpDx.nD Cert.GrpDx.τ Cert.GrpDx.sig) → Buf (Elt Bits) ℓ) : Prop :=
  True

def Pre_GrpDxIdeal (m : (ℓ : Loc Cert.GrpDxIdeal.nD Cert.GrpDxIdeal.τ Cert.GrpDxIdeal.sig) → Buf (Elt Ideal) ℓ) : Prop :=
  True

def Pre_GrpDxReferenceIdeal (m : (ℓ : Loc Cert.GrpDxReferenceIdeal.nD Cert.GrpDxReferenceIdeal.τ Cert.GrpDxReferenceIdeal.sig) → Buf (Elt Ideal) ℓ) : Prop :=
  True

def Pre_GrpDw (m : (ℓ : Loc Cert.GrpDw.nD Cert.GrpDw.τ Cert.GrpDw.sig) → Buf (Elt Bits) ℓ) : Prop :=
  True

def Pre_GrpDwIdeal (m : (ℓ : Loc Cert.GrpDwIdeal.nD Cert.GrpDwIdeal.τ Cert.GrpDwIdeal.sig) → Buf (Elt Ideal) ℓ) : Prop :=
  True

def Pre_GrpDwReferenceIdeal (m : (ℓ : Loc Cert.GrpDwReferenceIdeal.nD Cert.GrpDwReferenceIdeal.τ Cert.GrpDwReferenceIdeal.sig) → Buf (Elt Ideal) ℓ) : Prop :=
  True

def Pre_Grp (m : (ℓ : Loc Cert.Grp.nD Cert.Grp.τ Cert.Grp.sig) → Buf (Elt Bits) ℓ) : Prop :=
  True

def Pre_GrpIdeal (m : (ℓ : Loc Cert.GrpIdeal.nD Cert.GrpIdeal.τ Cert.GrpIdeal.sig) → Buf (Elt Ideal) ℓ) : Prop :=
  True

def Pre_GrpReferenceIdeal (m : (ℓ : Loc Cert.GrpReferenceIdeal.nD Cert.GrpReferenceIdeal.τ Cert.GrpReferenceIdeal.sig) → Buf (Elt Ideal) ℓ) : Prop :=
  True

def Pre_MixaGate (m : (ℓ : Loc Cert.MixaGate.nD Cert.MixaGate.τ Cert.MixaGate.sig) → Buf (Elt Bits) ℓ) : Prop :=
  True

def Pre_MixaGateIdeal (m : (ℓ : Loc Cert.MixaGateIdeal.nD Cert.MixaGateIdeal.τ Cert.MixaGateIdeal.sig) → Buf (Elt Ideal) ℓ) : Prop :=
  True

def Pre_MixaGateReferenceIdeal (m : (ℓ : Loc Cert.MixaGateReferenceIdeal.nD Cert.MixaGateReferenceIdeal.τ Cert.MixaGateReferenceIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxIdeal_finite_rows [hPre_finite_rows : Cert.Pre_finite_rows.Facts] (m : (ℓ : Loc Cert.PoolDxIdeal.nD Cert.PoolDxIdeal.τ Cert.PoolDxIdeal.sig) → Buf (Elt Ideal) ℓ) : Prop :=
  ∀ c : Dev Cert.PoolDxIdeal.nD,
    (Cert.Pre_finite_rows.fn (F := Ideal) (m ((c.tc : Thread Cert.PoolDxIdeal.nD Cert.PoolDxIdeal.τ).loc Cert.PoolDxIdeal.main_arg0))) = (fun _ => 1#1)

def Pre_PoolDxReferenceIdeal (m : (ℓ : Loc Cert.PoolDxReferenceIdeal.nD Cert.PoolDxReferenceIdeal.τ Cert.PoolDxReferenceIdeal.sig) → Buf (Elt Ideal) ℓ) : Prop :=
  True

def Pre_PoolDxReferenceIdeal_finite_rows [hPre_finite_rows : Cert.Pre_finite_rows.Facts] (m : (ℓ : Loc Cert.PoolDxReferenceIdeal.nD Cert.PoolDxReferenceIdeal.τ Cert.PoolDxReferenceIdeal.sig) → Buf (Elt Ideal) ℓ) : Prop :=
  ∀ c : Dev Cert.PoolDxReferenceIdeal.nD,
    (Cert.Pre_finite_rows.fn (F := Ideal) (m ((c.tc : Thread Cert.PoolDxReferenceIdeal.nD Cert.PoolDxReferenceIdeal.τ).loc Cert.PoolDxReferenceIdeal.main_arg0))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_rows [hPre_finite_rows : Cert.Pre_finite_rows.Facts] (m : (ℓ : Loc Cert.PoolIdeal.nD Cert.PoolIdeal.τ Cert.PoolIdeal.sig) → Buf (Elt Ideal) ℓ) : Prop :=
  ∀ c : Dev Cert.PoolIdeal.nD,
    (Cert.Pre_finite_rows.fn (F := Ideal) (m ((c.tc : Thread Cert.PoolIdeal.nD Cert.PoolIdeal.τ).loc Cert.PoolIdeal.main_arg0))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_rows [hPre_finite_rows : Cert.Pre_finite_rows.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_rows.fn (F := Ideal) (m ((c.tc : Thread Cert.PoolReferenceIdeal.nD Cert.PoolReferenceIdeal.τ).loc Cert.PoolReferenceIdeal.main_arg0))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownDwOther [hDownDwOther : Cert.DownDwOther.Facts] [hPre_is_core : Cert.Pre_is_core.Facts] : Prop :=
  ∀ (m : (ℓ : Loc Cert.DownDwOther.nD Cert.DownDwOther.τ Cert.DownDwOther.sig) → Buf (Elt Bits) ℓ) (g : Dev Cert.DownDwOther.nD → PrngReg), Pre_DownDwOther m →
    θ_run (Cert.DownDwOther.defs (F := Bits)) (onTc (τ := Cert.DownDwOther.τ) (Cert.DownDwOther.main (F := Bits))) ⟨m, fun _ => 0, g⟩ (fun r => (∀ c : Dev Cert.DownDwOther.nD,
      r.2.mem ((c.tc : Thread Cert.DownDwOther.nD Cert.DownDwOther.τ).loc Cert.DownDwOther.main_arg0) = m ((c.tc : Thread Cert.DownDwOther.nD Cert.DownDwOther.τ).loc Cert.DownDwOther.main_arg0)
      ∧ r.2.mem ((c.tc : Thread Cert.DownDwOther.nD Cert.DownDwOther.τ).loc Cert.DownDwOther.main_arg1) = m ((c.tc : Thread Cert.DownDwOther.nD Cert.DownDwOther.τ).loc Cert.DownDwOther.main_arg1)
      ∧ r.2.mem ((c.tc : Thread Cert.DownDwOther.nD Cert.DownDwOther.τ).loc Cert.DownDwOther.main_arg2) = m ((c.tc : Thread Cert.DownDwOther.nD Cert.DownDwOther.τ).loc Cert.DownDwOther.main_arg2))
      ∧ r.2.sem = fun _ => 0)

def quiescent_DownDwOtherIdeal [hDownDwOtherIdeal : Cert.DownDwOtherIdeal.Facts] [hPre_is_core : Cert.Pre_is_core.Facts] : Prop :=
  ∀ (m : (ℓ : Loc Cert.DownDwOtherIdeal.nD Cert.DownDwOtherIdeal.τ Cert.DownDwOtherIdeal.sig) → Buf (Elt Ideal) ℓ) (g : Dev Cert.DownDwOtherIdeal.nD → PrngReg), Pre_DownDwOtherIdeal m →
    θ_run (Cert.DownDwOtherIdeal.defs (F := Ideal)) (onTc (τ := Cert.DownDwOtherIdeal.τ) (Cert.DownDwOtherIdeal.main (F := Ideal))) ⟨m, fun _ => 0, g⟩ (fun r => (∀ c : Dev Cert.DownDwOtherIdeal.nD,
      r.2.mem ((c.tc : Thread Cert.DownDwOtherIdeal.nD Cert.DownDwOtherIdeal.τ).loc Cert.DownDwOtherIdeal.main_arg0) = m ((c.tc : Thread Cert.DownDwOtherIdeal.nD Cert.DownDwOtherIdeal.τ).loc Cert.DownDwOtherIdeal.main_arg0)
      ∧ r.2.mem ((c.tc : Thread Cert.DownDwOtherIdeal.nD Cert.DownDwOtherIdeal.τ).loc Cert.DownDwOtherIdeal.main_arg1) = m ((c.tc : Thread Cert.DownDwOtherIdeal.nD Cert.DownDwOtherIdeal.τ).loc Cert.DownDwOtherIdeal.main_arg1)
      ∧ r.2.mem ((c.tc : Thread Cert.DownDwOtherIdeal.nD Cert.DownDwOtherIdeal.τ).loc Cert.DownDwOtherIdeal.main_arg2) = m ((c.tc : Thread Cert.DownDwOtherIdeal.nD Cert.DownDwOtherIdeal.τ).loc Cert.DownDwOtherIdeal.main_arg2))
      ∧ r.2.sem = fun _ => 0)

def quiescent_DownDwOtherReferenceIdeal [hDownDwOtherReferenceIdeal : Cert.DownDwOtherReferenceIdeal.Facts] : Prop :=
  ∀ (m : (ℓ : Loc Cert.DownDwOtherReferenceIdeal.nD Cert.DownDwOtherReferenceIdeal.τ Cert.DownDwOtherReferenceIdeal.sig) → Buf (Elt Ideal) ℓ) (g : Dev Cert.DownDwOtherReferenceIdeal.nD → PrngReg), Pre_DownDwOtherReferenceIdeal m →
    θ_run (Cert.DownDwOtherReferenceIdeal.defs (F := Ideal)) (onTc (τ := Cert.DownDwOtherReferenceIdeal.τ) (Cert.DownDwOtherReferenceIdeal.main (F := Ideal))) ⟨m, fun _ => 0, g⟩ (fun r => (∀ c : Dev Cert.DownDwOtherReferenceIdeal.nD,
      r.2.mem ((c.tc : Thread Cert.DownDwOtherReferenceIdeal.nD Cert.DownDwOtherReferenceIdeal.τ).loc Cert.DownDwOtherReferenceIdeal.main_arg0) = m ((c.tc : Thread Cert.DownDwOtherReferenceIdeal.nD Cert.DownDwOtherReferenceIdeal.τ).loc Cert.DownDwOtherReferenceIdeal.main_arg0)
      ∧ r.2.mem ((c.tc : Thread Cert.DownDwOtherReferenceIdeal.nD Cert.DownDwOtherReferenceIdeal.τ).loc Cert.DownDwOtherReferenceIdeal.main_arg1) = m ((c.tc : Thread Cert.DownDwOtherReferenceIdeal.nD Cert.DownDwOtherReferenceIdeal.τ).loc Cert.DownDwOtherReferenceIdeal.main_arg1)
      ∧ r.2.mem ((c.tc : Thread Cert.DownDwOtherReferenceIdeal.nD Cert.DownDwOtherReferenceIdeal.τ).loc Cert.DownDwOtherReferenceIdeal.main_arg2) = m ((c.tc : Thread Cert.DownDwOtherReferenceIdeal.nD Cert.DownDwOtherReferenceIdeal.τ).loc Cert.DownDwOtherReferenceIdeal.main_arg2))
      ∧ r.2.sem = fun _ => 0)

def quiescent_DownDwOtherReferenceIdeal_pre_is_core [hDownDwOtherReferenceIdeal : Cert.DownDwOtherReferenceIdeal.Facts] [hPre_is_core : Cert.Pre_is_core.Facts] : Prop :=
  ∀ (m : (ℓ : Loc Cert.DownDwOtherReferenceIdeal.nD Cert.DownDwOtherReferenceIdeal.τ Cert.DownDwOtherReferenceIdeal.sig) → Buf (Elt Ideal) ℓ) (g : Dev Cert.DownDwOtherReferenceIdeal.nD → PrngReg), Pre_DownDwOtherReferenceIdeal_is_core m →
    θ_run (Cert.DownDwOtherReferenceIdeal.defs (F := Ideal)) (onTc (τ := Cert.DownDwOtherReferenceIdeal.τ) (Cert.DownDwOtherReferenceIdeal.main (F := Ideal))) ⟨m, fun _ => 0, g⟩ (fun r => (∀ c : Dev Cert.DownDwOtherReferenceIdeal.nD,
      r.2.mem ((c.tc : Thread Cert.DownDwOtherReferenceIdeal.nD Cert.DownDwOtherReferenceIdeal.τ).loc Cert.DownDwOtherReferenceIdeal.main_arg0) = m ((c.tc : Thread Cert.DownDwOtherReferenceIdeal.nD Cert.DownDwOtherReferenceIdeal.τ).loc Cert.DownDwOtherReferenceIdeal.main_arg0)
      ∧ r.2.mem ((c.tc : Thread Cert.DownDwOtherReferenceIdeal.nD Cert.DownDwOtherReferenceIdeal.τ).loc Cert.DownDwOtherReferenceIdeal.main_arg1) = m ((c.tc : Thread Cert.DownDwOtherReferenceIdeal.nD Cert.DownDwOtherReferenceIdeal.τ).loc Cert.DownDwOtherReferenceIdeal.main_arg1)
      ∧ r.2.mem ((c.tc : Thread Cert.DownDwOtherReferenceIdeal.nD Cert.DownDwOtherReferenceIdeal.τ).loc Cert.DownDwOtherReferenceIdeal.main_arg2) = m ((c.tc : Thread Cert.DownDwOtherReferenceIdeal.nD Cert.DownDwOtherReferenceIdeal.τ).loc Cert.DownDwOtherReferenceIdeal.main_arg2))
      ∧ r.2.sem = fun _ => 0)

def quiescent_DownDwOwn [hDownDwOwn : Cert.DownDwOwn.Facts] [hPre_is_core_down_own : Cert.Pre_is_core_down_own.Facts] : Prop :=
  ∀ (m : (ℓ : Loc Cert.DownDwOwn.nD Cert.DownDwOwn.τ Cert.DownDwOwn.sig) → Buf (Elt Bits) ℓ) (g : Dev Cert.DownDwOwn.nD → PrngReg), Pre_DownDwOwn m →
    θ_run (Cert.DownDwOwn.defs (F := Bits)) (onTc (τ := Cert.DownDwOwn.τ) (Cert.DownDwOwn.main (F := Bits))) ⟨m, fun _ => 0, g⟩ (fun r => (∀ c : Dev Cert.DownDwOwn.nD,
      r.2.mem ((c.tc : Thread Cert.DownDwOwn.nD Cert.DownDwOwn.τ).loc Cert.DownDwOwn.main_arg0) = m ((c.tc : Thread Cert.DownDwOwn.nD Cert.DownDwOwn.τ).loc Cert.DownDwOwn.main_arg0)
      ∧ r.2.mem ((c.tc : Thread Cert.DownDwOwn.nD Cert.DownDwOwn.τ).loc Cert.DownDwOwn.main_arg1) = m ((c.tc : Thread Cert.DownDwOwn.nD Cert.DownDwOwn.τ).loc Cert.DownDwOwn.main_arg1)
      ∧ r.2.mem ((c.tc : Thread Cert.DownDwOwn.nD Cert.DownDwOwn.τ).loc Cert.DownDwOwn.main_arg2) = m ((c.tc : Thread Cert.DownDwOwn.nD Cert.DownDwOwn.τ).loc Cert.DownDwOwn.main_arg2)
      ∧ r.2.mem ((c.tc : Thread Cert.DownDwOwn.nD Cert.DownDwOwn.τ).loc Cert.DownDwOwn.main_arg3) = m ((c.tc : Thread Cert.DownDwOwn.nD Cert.DownDwOwn.τ).loc Cert.DownDwOwn.main_arg3))
      ∧ r.2.sem = fun _ => 0)

def quiescent_DownDwOwnIdeal [hDownDwOwnIdeal : Cert.DownDwOwnIdeal.Facts] [hPre_is_core_down_own : Cert.Pre_is_core_down_own.Facts] : Prop :=
  ∀ (m : (ℓ : Loc Cert.DownDwOwnIdeal.nD Cert.DownDwOwnIdeal.τ Cert.DownDwOwnIdeal.sig) → Buf (Elt Ideal) ℓ) (g : Dev Cert.DownDwOwnIdeal.nD → PrngReg), Pre_DownDwOwnIdeal m →
    θ_run (Cert.DownDwOwnIdeal.defs (F := Ideal)) (onTc (τ := Cert.DownDwOwnIdeal.τ) (Cert.DownDwOwnIdeal.main (F := Ideal))) ⟨m, fun _ => 0, g⟩ (fun r => (∀ c : Dev Cert.DownDwOwnIdeal.nD,
      r.2.mem ((c.tc : Thread Cert.DownDwOwnIdeal.nD Cert.DownDwOwnIdeal.τ).loc Cert.DownDwOwnIdeal.main_arg0) = m ((c.tc : Thread Cert.DownDwOwnIdeal.nD Cert.DownDwOwnIdeal.τ).loc Cert.DownDwOwnIdeal.main_arg0)
      ∧ r.2.mem ((c.tc : Thread Cert.DownDwOwnIdeal.nD Cert.DownDwOwnIdeal.τ).loc Cert.DownDwOwnIdeal.main_arg1) = m ((c.tc : Thread Cert.DownDwOwnIdeal.nD Cert.DownDwOwnIdeal.τ).loc Cert.DownDwOwnIdeal.main_arg1)
      ∧ r.2.mem ((c.tc : Thread Cert.DownDwOwnIdeal.nD Cert.DownDwOwnIdeal.τ).loc Cert.DownDwOwnIdeal.main_arg2) = m ((c.tc : Thread Cert.DownDwOwnIdeal.nD Cert.DownDwOwnIdeal.τ).loc Cert.DownDwOwnIdeal.main_arg2)
      ∧ r.2.mem ((c.tc : Thread Cert.DownDwOwnIdeal.nD Cert.DownDwOwnIdeal.τ).loc Cert.DownDwOwnIdeal.main_arg3) = m ((c.tc : Thread Cert.DownDwOwnIdeal.nD Cert.DownDwOwnIdeal.τ).loc Cert.DownDwOwnIdeal.main_arg3))
      ∧ r.2.sem = fun _ => 0)

def quiescent_DownDwOwnReferenceIdeal [hDownDwOwnReferenceIdeal : Cert.DownDwOwnReferenceIdeal.Facts] : Prop :=
  ∀ (m : (ℓ : Loc Cert.DownDwOwnReferenceIdeal.nD Cert.DownDwOwnReferenceIdeal.τ Cert.DownDwOwnReferenceIdeal.sig) → Buf (Elt Ideal) ℓ) (g : Dev Cert.DownDwOwnReferenceIdeal.nD → PrngReg), Pre_DownDwOwnReferenceIdeal m →
    θ_run (Cert.DownDwOwnReferenceIdeal.defs (F := Ideal)) (onTc (τ := Cert.DownDwOwnReferenceIdeal.τ) (Cert.DownDwOwnReferenceIdeal.main (F := Ideal))) ⟨m, fun _ => 0, g⟩ (fun r => (∀ c : Dev Cert.DownDwOwnReferenceIdeal.nD,
      r.2.mem ((c.tc : Thread Cert.DownDwOwnReferenceIdeal.nD Cert.DownDwOwnReferenceIdeal.τ).loc Cert.DownDwOwnReferenceIdeal.main_arg0) = m ((c.tc : Thread Cert.DownDwOwnReferenceIdeal.nD Cert.DownDwOwnReferenceIdeal.τ).loc Cert.DownDwOwnReferenceIdeal.main_arg0)
      ∧ r.2.mem ((c.tc : Thread Cert.DownDwOwnReferenceIdeal.nD Cert.DownDwOwnReferenceIdeal.τ).loc Cert.DownDwOwnReferenceIdeal.main_arg1) = m ((c.tc : Thread Cert.DownDwOwnReferenceIdeal.nD Cert.DownDwOwnReferenceIdeal.τ).loc Cert.DownDwOwnReferenceIdeal.main_arg1)
      ∧ r.2.mem ((c.tc : Thread Cert.DownDwOwnReferenceIdeal.nD Cert.DownDwOwnReferenceIdeal.τ).loc Cert.DownDwOwnReferenceIdeal.main_arg2) = m ((c.tc : Thread Cert.DownDwOwnReferenceIdeal.nD Cert.DownDwOwnReferenceIdeal.τ).loc Cert.DownDwOwnReferenceIdeal.main_arg2)
      ∧ r.2.mem ((c.tc : Thread Cert.DownDwOwnReferenceIdeal.nD Cert.DownDwOwnReferenceIdeal.τ).loc Cert.DownDwOwnReferenceIdeal.main_arg3) = m ((c.tc : Thread Cert.DownDwOwnReferenceIdeal.nD Cert.DownDwOwnReferenceIdeal.τ).loc Cert.DownDwOwnReferenceIdeal.main_arg3))
      ∧ r.2.sem = fun _ => 0)

def quiescent_DownDwOwnReferenceIdeal_pre_is_core_down_own [hDownDwOwnReferenceIdeal : Cert.DownDwOwnReferenceIdeal.Facts] [hPre_is_core_down_own : Cert.Pre_is_core_down_own.Facts] : Prop :=
  ∀ (m : (ℓ : Loc Cert.DownDwOwnReferenceIdeal.nD Cert.DownDwOwnReferenceIdeal.τ Cert.DownDwOwnReferenceIdeal.sig) → Buf (Elt Ideal) ℓ) (g : Dev Cert.DownDwOwnReferenceIdeal.nD → PrngReg), Pre_DownDwOwnReferenceIdeal_is_core_down_own m →
    θ_run (Cert.DownDwOwnReferenceIdeal.defs (F := Ideal)) (onTc (τ := Cert.DownDwOwnReferenceIdeal.τ) (Cert.DownDwOwnReferenceIdeal.main (F := Ideal))) ⟨m, fun _ => 0, g⟩ (fun r => (∀ c : Dev Cert.DownDwOwnReferenceIdeal.nD,
      r.2.mem ((c.tc : Thread Cert.DownDwOwnReferenceIdeal.nD Cert.DownDwOwnReferenceIdeal.τ).loc Cert.DownDwOwnReferenceIdeal.main_arg0) = m ((c.tc : Thread Cert.DownDwOwnReferenceIdeal.nD Cert.DownDwOwnReferenceIdeal.τ).loc Cert.DownDwOwnReferenceIdeal.main_arg0)
      ∧ r.2.mem ((c.tc : Thread Cert.DownDwOwnReferenceIdeal.nD Cert.DownDwOwnReferenceIdeal.τ).loc Cert.DownDwOwnReferenceIdeal.main_arg1) = m ((c.tc : Thread Cert.DownDwOwnReferenceIdeal.nD Cert.DownDwOwnReferenceIdeal.τ).loc Cert.DownDwOwnReferenceIdeal.main_arg1)
      ∧ r.2.mem ((c.tc : Thread Cert.DownDwOwnReferenceIdeal.nD Cert.DownDwOwnReferenceIdeal.τ).loc Cert.DownDwOwnReferenceIdeal.main_arg2) = m ((c.tc : Thread Cert.DownDwOwnReferenceIdeal.nD Cert.DownDwOwnReferenceIdeal.τ).loc Cert.DownDwOwnReferenceIdeal.main_arg2)
      ∧ r.2.mem ((c.tc : Thread Cert.DownDwOwnReferenceIdeal.nD Cert.DownDwOwnReferenceIdeal.τ).loc Cert.DownDwOwnReferenceIdeal.main_arg3) = m ((c.tc : Thread Cert.DownDwOwnReferenceIdeal.nD Cert.DownDwOwnReferenceIdeal.τ).loc Cert.DownDwOwnReferenceIdeal.main_arg3))
      ∧ r.2.sem = fun _ => 0)

def quiescent_UpDwOther [hUpDwOther : Cert.UpDwOther.Facts] [hPre_is_core_up : Cert.Pre_is_core_up.Facts] : Prop :=
  ∀ (m : (ℓ : Loc Cert.UpDwOther.nD Cert.UpDwOther.τ Cert.UpDwOther.sig) → Buf (Elt Bits) ℓ) (g : Dev Cert.UpDwOther.nD → PrngReg), Pre_UpDwOther m →
    θ_run (Cert.UpDwOther.defs (F := Bits)) (onTc (τ := Cert.UpDwOther.τ) (Cert.UpDwOther.main (F := Bits))) ⟨m, fun _ => 0, g⟩ (fun r => (∀ c : Dev Cert.UpDwOther.nD,
      r.2.mem ((c.tc : Thread Cert.UpDwOther.nD Cert.UpDwOther.τ).loc Cert.UpDwOther.main_arg0) = m ((c.tc : Thread Cert.UpDwOther.nD Cert.UpDwOther.τ).loc Cert.UpDwOther.main_arg0)
      ∧ r.2.mem ((c.tc : Thread Cert.UpDwOther.nD Cert.UpDwOther.τ).loc Cert.UpDwOther.main_arg1) = m ((c.tc : Thread Cert.UpDwOther.nD Cert.UpDwOther.τ).loc Cert.UpDwOther.main_arg1)
      ∧ r.2.mem ((c.tc : Thread Cert.UpDwOther.nD Cert.UpDwOther.τ).loc Cert.UpDwOther.main_arg2) = m ((c.tc : Thread Cert.UpDwOther.nD Cert.UpDwOther.τ).loc Cert.UpDwOther.main_arg2))
      ∧ r.2.sem = fun _ => 0)

def quiescent_UpDwOtherIdeal [hUpDwOtherIdeal : Cert.UpDwOtherIdeal.Facts] [hPre_is_core_up : Cert.Pre_is_core_up.Facts] : Prop :=
  ∀ (m : (ℓ : Loc Cert.UpDwOtherIdeal.nD Cert.UpDwOtherIdeal.τ Cert.UpDwOtherIdeal.sig) → Buf (Elt Ideal) ℓ) (g : Dev Cert.UpDwOtherIdeal.nD → PrngReg), Pre_UpDwOtherIdeal m →
    θ_run (Cert.UpDwOtherIdeal.defs (F := Ideal)) (onTc (τ := Cert.UpDwOtherIdeal.τ) (Cert.UpDwOtherIdeal.main (F := Ideal))) ⟨m, fun _ => 0, g⟩ (fun r => (∀ c : Dev Cert.UpDwOtherIdeal.nD,
      r.2.mem ((c.tc : Thread Cert.UpDwOtherIdeal.nD Cert.UpDwOtherIdeal.τ).loc Cert.UpDwOtherIdeal.main_arg0) = m ((c.tc : Thread Cert.UpDwOtherIdeal.nD Cert.UpDwOtherIdeal.τ).loc Cert.UpDwOtherIdeal.main_arg0)
      ∧ r.2.mem ((c.tc : Thread Cert.UpDwOtherIdeal.nD Cert.UpDwOtherIdeal.τ).loc Cert.UpDwOtherIdeal.main_arg1) = m ((c.tc : Thread Cert.UpDwOtherIdeal.nD Cert.UpDwOtherIdeal.τ).loc Cert.UpDwOtherIdeal.main_arg1)
      ∧ r.2.mem ((c.tc : Thread Cert.UpDwOtherIdeal.nD Cert.UpDwOtherIdeal.τ).loc Cert.UpDwOtherIdeal.main_arg2) = m ((c.tc : Thread Cert.UpDwOtherIdeal.nD Cert.UpDwOtherIdeal.τ).loc Cert.UpDwOtherIdeal.main_arg2))
      ∧ r.2.sem = fun _ => 0)

def quiescent_UpDwOtherReferenceIdeal [hUpDwOtherReferenceIdeal : Cert.UpDwOtherReferenceIdeal.Facts] : Prop :=
  ∀ (m : (ℓ : Loc Cert.UpDwOtherReferenceIdeal.nD Cert.UpDwOtherReferenceIdeal.τ Cert.UpDwOtherReferenceIdeal.sig) → Buf (Elt Ideal) ℓ) (g : Dev Cert.UpDwOtherReferenceIdeal.nD → PrngReg), Pre_UpDwOtherReferenceIdeal m →
    θ_run (Cert.UpDwOtherReferenceIdeal.defs (F := Ideal)) (onTc (τ := Cert.UpDwOtherReferenceIdeal.τ) (Cert.UpDwOtherReferenceIdeal.main (F := Ideal))) ⟨m, fun _ => 0, g⟩ (fun r => (∀ c : Dev Cert.UpDwOtherReferenceIdeal.nD,
      r.2.mem ((c.tc : Thread Cert.UpDwOtherReferenceIdeal.nD Cert.UpDwOtherReferenceIdeal.τ).loc Cert.UpDwOtherReferenceIdeal.main_arg0) = m ((c.tc : Thread Cert.UpDwOtherReferenceIdeal.nD Cert.UpDwOtherReferenceIdeal.τ).loc Cert.UpDwOtherReferenceIdeal.main_arg0)
      ∧ r.2.mem ((c.tc : Thread Cert.UpDwOtherReferenceIdeal.nD Cert.UpDwOtherReferenceIdeal.τ).loc Cert.UpDwOtherReferenceIdeal.main_arg1) = m ((c.tc : Thread Cert.UpDwOtherReferenceIdeal.nD Cert.UpDwOtherReferenceIdeal.τ).loc Cert.UpDwOtherReferenceIdeal.main_arg1)
      ∧ r.2.mem ((c.tc : Thread Cert.UpDwOtherReferenceIdeal.nD Cert.UpDwOtherReferenceIdeal.τ).loc Cert.UpDwOtherReferenceIdeal.main_arg2) = m ((c.tc : Thread Cert.UpDwOtherReferenceIdeal.nD Cert.UpDwOtherReferenceIdeal.τ).loc Cert.UpDwOtherReferenceIdeal.main_arg2))
      ∧ r.2.sem = fun _ => 0)

def quiescent_UpDwOtherReferenceIdeal_pre_is_core_up [hUpDwOtherReferenceIdeal : Cert.UpDwOtherReferenceIdeal.Facts] [hPre_is_core_up : Cert.Pre_is_core_up.Facts] : Prop :=
  ∀ (m : (ℓ : Loc Cert.UpDwOtherReferenceIdeal.nD Cert.UpDwOtherReferenceIdeal.τ Cert.UpDwOtherReferenceIdeal.sig) → Buf (Elt Ideal) ℓ) (g : Dev Cert.UpDwOtherReferenceIdeal.nD → PrngReg), Pre_UpDwOtherReferenceIdeal_is_core_up m →
    θ_run (Cert.UpDwOtherReferenceIdeal.defs (F := Ideal)) (onTc (τ := Cert.UpDwOtherReferenceIdeal.τ) (Cert.UpDwOtherReferenceIdeal.main (F := Ideal))) ⟨m, fun _ => 0, g⟩ (fun r => (∀ c : Dev Cert.UpDwOtherReferenceIdeal.nD,
      r.2.mem ((c.tc : Thread Cert.UpDwOtherReferenceIdeal.nD Cert.UpDwOtherReferenceIdeal.τ).loc Cert.UpDwOtherReferenceIdeal.main_arg0) = m ((c.tc : Thread Cert.UpDwOtherReferenceIdeal.nD Cert.UpDwOtherReferenceIdeal.τ).loc Cert.UpDwOtherReferenceIdeal.main_arg0)
      ∧ r.2.mem ((c.tc : Thread Cert.UpDwOtherReferenceIdeal.nD Cert.UpDwOtherReferenceIdeal.τ).loc Cert.UpDwOtherReferenceIdeal.main_arg1) = m ((c.tc : Thread Cert.UpDwOtherReferenceIdeal.nD Cert.UpDwOtherReferenceIdeal.τ).loc Cert.UpDwOtherReferenceIdeal.main_arg1)
      ∧ r.2.mem ((c.tc : Thread Cert.UpDwOtherReferenceIdeal.nD Cert.UpDwOtherReferenceIdeal.τ).loc Cert.UpDwOtherReferenceIdeal.main_arg2) = m ((c.tc : Thread Cert.UpDwOtherReferenceIdeal.nD Cert.UpDwOtherReferenceIdeal.τ).loc Cert.UpDwOtherReferenceIdeal.main_arg2))
      ∧ r.2.sem = fun _ => 0)

def quiescent_UpDwOwn [hUpDwOwn : Cert.UpDwOwn.Facts] [hPre_is_core_up_own : Cert.Pre_is_core_up_own.Facts] : Prop :=
  ∀ (m : (ℓ : Loc Cert.UpDwOwn.nD Cert.UpDwOwn.τ Cert.UpDwOwn.sig) → Buf (Elt Bits) ℓ) (g : Dev Cert.UpDwOwn.nD → PrngReg), Pre_UpDwOwn m →
    θ_run (Cert.UpDwOwn.defs (F := Bits)) (onTc (τ := Cert.UpDwOwn.τ) (Cert.UpDwOwn.main (F := Bits))) ⟨m, fun _ => 0, g⟩ (fun r => (∀ c : Dev Cert.UpDwOwn.nD,
      r.2.mem ((c.tc : Thread Cert.UpDwOwn.nD Cert.UpDwOwn.τ).loc Cert.UpDwOwn.main_arg0) = m ((c.tc : Thread Cert.UpDwOwn.nD Cert.UpDwOwn.τ).loc Cert.UpDwOwn.main_arg0)
      ∧ r.2.mem ((c.tc : Thread Cert.UpDwOwn.nD Cert.UpDwOwn.τ).loc Cert.UpDwOwn.main_arg1) = m ((c.tc : Thread Cert.UpDwOwn.nD Cert.UpDwOwn.τ).loc Cert.UpDwOwn.main_arg1)
      ∧ r.2.mem ((c.tc : Thread Cert.UpDwOwn.nD Cert.UpDwOwn.τ).loc Cert.UpDwOwn.main_arg2) = m ((c.tc : Thread Cert.UpDwOwn.nD Cert.UpDwOwn.τ).loc Cert.UpDwOwn.main_arg2)
      ∧ r.2.mem ((c.tc : Thread Cert.UpDwOwn.nD Cert.UpDwOwn.τ).loc Cert.UpDwOwn.main_arg3) = m ((c.tc : Thread Cert.UpDwOwn.nD Cert.UpDwOwn.τ).loc Cert.UpDwOwn.main_arg3))
      ∧ r.2.sem = fun _ => 0)

def quiescent_UpDwOwnIdeal [hUpDwOwnIdeal : Cert.UpDwOwnIdeal.Facts] [hPre_is_core_up_own : Cert.Pre_is_core_up_own.Facts] : Prop :=
  ∀ (m : (ℓ : Loc Cert.UpDwOwnIdeal.nD Cert.UpDwOwnIdeal.τ Cert.UpDwOwnIdeal.sig) → Buf (Elt Ideal) ℓ) (g : Dev Cert.UpDwOwnIdeal.nD → PrngReg), Pre_UpDwOwnIdeal m →
    θ_run (Cert.UpDwOwnIdeal.defs (F := Ideal)) (onTc (τ := Cert.UpDwOwnIdeal.τ) (Cert.UpDwOwnIdeal.main (F := Ideal))) ⟨m, fun _ => 0, g⟩ (fun r => (∀ c : Dev Cert.UpDwOwnIdeal.nD,
      r.2.mem ((c.tc : Thread Cert.UpDwOwnIdeal.nD Cert.UpDwOwnIdeal.τ).loc Cert.UpDwOwnIdeal.main_arg0) = m ((c.tc : Thread Cert.UpDwOwnIdeal.nD Cert.UpDwOwnIdeal.τ).loc Cert.UpDwOwnIdeal.main_arg0)
      ∧ r.2.mem ((c.tc : Thread Cert.UpDwOwnIdeal.nD Cert.UpDwOwnIdeal.τ).loc Cert.UpDwOwnIdeal.main_arg1) = m ((c.tc : Thread Cert.UpDwOwnIdeal.nD Cert.UpDwOwnIdeal.τ).loc Cert.UpDwOwnIdeal.main_arg1)
      ∧ r.2.mem ((c.tc : Thread Cert.UpDwOwnIdeal.nD Cert.UpDwOwnIdeal.τ).loc Cert.UpDwOwnIdeal.main_arg2) = m ((c.tc : Thread Cert.UpDwOwnIdeal.nD Cert.UpDwOwnIdeal.τ).loc Cert.UpDwOwnIdeal.main_arg2)
      ∧ r.2.mem ((c.tc : Thread Cert.UpDwOwnIdeal.nD Cert.UpDwOwnIdeal.τ).loc Cert.UpDwOwnIdeal.main_arg3) = m ((c.tc : Thread Cert.UpDwOwnIdeal.nD Cert.UpDwOwnIdeal.τ).loc Cert.UpDwOwnIdeal.main_arg3))
      ∧ r.2.sem = fun _ => 0)

def quiescent_UpDwOwnReferenceIdeal [hUpDwOwnReferenceIdeal : Cert.UpDwOwnReferenceIdeal.Facts] : Prop :=
  ∀ (m : (ℓ : Loc Cert.UpDwOwnReferenceIdeal.nD Cert.UpDwOwnReferenceIdeal.τ Cert.UpDwOwnReferenceIdeal.sig) → Buf (Elt Ideal) ℓ) (g : Dev Cert.UpDwOwnReferenceIdeal.nD → PrngReg), Pre_UpDwOwnReferenceIdeal m →
    θ_run (Cert.UpDwOwnReferenceIdeal.defs (F := Ideal)) (onTc (τ := Cert.UpDwOwnReferenceIdeal.τ) (Cert.UpDwOwnReferenceIdeal.main (F := Ideal))) ⟨m, fun _ => 0, g⟩ (fun r => (∀ c : Dev Cert.UpDwOwnReferenceIdeal.nD,
      r.2.mem ((c.tc : Thread Cert.UpDwOwnReferenceIdeal.nD Cert.UpDwOwnReferenceIdeal.τ).loc Cert.UpDwOwnReferenceIdeal.main_arg0) = m ((c.tc : Thread Cert.UpDwOwnReferenceIdeal.nD Cert.UpDwOwnReferenceIdeal.τ).loc Cert.UpDwOwnReferenceIdeal.main_arg0)
      ∧ r.2.mem ((c.tc : Thread Cert.UpDwOwnReferenceIdeal.nD Cert.UpDwOwnReferenceIdeal.τ).loc Cert.UpDwOwnReferenceIdeal.main_arg1) = m ((c.tc : Thread Cert.UpDwOwnReferenceIdeal.nD Cert.UpDwOwnReferenceIdeal.τ).loc Cert.UpDwOwnReferenceIdeal.main_arg1)
      ∧ r.2.mem ((c.tc : Thread Cert.UpDwOwnReferenceIdeal.nD Cert.UpDwOwnReferenceIdeal.τ).loc Cert.UpDwOwnReferenceIdeal.main_arg2) = m ((c.tc : Thread Cert.UpDwOwnReferenceIdeal.nD Cert.UpDwOwnReferenceIdeal.τ).loc Cert.UpDwOwnReferenceIdeal.main_arg2)
      ∧ r.2.mem ((c.tc : Thread Cert.UpDwOwnReferenceIdeal.nD Cert.UpDwOwnReferenceIdeal.τ).loc Cert.UpDwOwnReferenceIdeal.main_arg3) = m ((c.tc : Thread Cert.UpDwOwnReferenceIdeal.nD Cert.UpDwOwnReferenceIdeal.τ).loc Cert.UpDwOwnReferenceIdeal.main_arg3))
      ∧ r.2.sem = fun _ => 0)

def quiescent_UpDwOwnReferenceIdeal_pre_is_core_up_own [hUpDwOwnReferenceIdeal : Cert.UpDwOwnReferenceIdeal.Facts] [hPre_is_core_up_own : Cert.Pre_is_core_up_own.Facts] : Prop :=
  ∀ (m : (ℓ : Loc Cert.UpDwOwnReferenceIdeal.nD Cert.UpDwOwnReferenceIdeal.τ Cert.UpDwOwnReferenceIdeal.sig) → Buf (Elt Ideal) ℓ) (g : Dev Cert.UpDwOwnReferenceIdeal.nD → PrngReg), Pre_UpDwOwnReferenceIdeal_is_core_up_own m →
    θ_run (Cert.UpDwOwnReferenceIdeal.defs (F := Ideal)) (onTc (τ := Cert.UpDwOwnReferenceIdeal.τ) (Cert.UpDwOwnReferenceIdeal.main (F := Ideal))) ⟨m, fun _ => 0, g⟩ (fun r => (∀ c : Dev Cert.UpDwOwnReferenceIdeal.nD,
      r.2.mem ((c.tc : Thread Cert.UpDwOwnReferenceIdeal.nD Cert.UpDwOwnReferenceIdeal.τ).loc Cert.UpDwOwnReferenceIdeal.main_arg0) = m ((c.tc : Thread Cert.UpDwOwnReferenceIdeal.nD Cert.UpDwOwnReferenceIdeal.τ).loc Cert.UpDwOwnReferenceIdeal.main_arg0)
      ∧ r.2.mem ((c.tc : Thread Cert.UpDwOwnReferenceIdeal.nD Cert.UpDwOwnReferenceIdeal.τ).loc Cert.UpDwOwnReferenceIdeal.main_arg1) = m ((c.tc : Thread Cert.UpDwOwnReferenceIdeal.nD Cert.UpDwOwnReferenceIdeal.τ).loc Cert.UpDwOwnReferenceIdeal.main_arg1)
      ∧ r.2.mem ((c.tc : Thread Cert.UpDwOwnReferenceIdeal.nD Cert.UpDwOwnReferenceIdeal.τ).loc Cert.UpDwOwnReferenceIdeal.main_arg2) = m ((c.tc : Thread Cert.UpDwOwnReferenceIdeal.nD Cert.UpDwOwnReferenceIdeal.τ).loc Cert.UpDwOwnReferenceIdeal.main_arg2)
      ∧ r.2.mem ((c.tc : Thread Cert.UpDwOwnReferenceIdeal.nD Cert.UpDwOwnReferenceIdeal.τ).loc Cert.UpDwOwnReferenceIdeal.main_arg3) = m ((c.tc : Thread Cert.UpDwOwnReferenceIdeal.nD Cert.UpDwOwnReferenceIdeal.τ).loc Cert.UpDwOwnReferenceIdeal.main_arg3))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1)
      ∧ r.2.mem ((c.tc : Thread Cert.SquareDx.nD Cert.SquareDx.τ).loc Cert.SquareDx.main_arg2) = m ((c.tc : Thread Cert.SquareDx.nD Cert.SquareDx.τ).loc Cert.SquareDx.main_arg2))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
      ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ r.2.sem = fun _ => 0)

def quiescent_SquareDxReferenceIdeal [hSquareDxReferenceIdeal : Cert.SquareDxReferenceIdeal.Facts] : Prop :=
  ∀ (m : (ℓ : Loc Cert.SquareDxReferenceIdeal.nD Cert.SquareDxReferenceIdeal.τ Cert.SquareDxReferenceIdeal.sig) → Buf (Elt Ideal) ℓ) (g : Dev Cert.SquareDxReferenceIdeal.nD → PrngReg), Pre_SquareDxReferenceIdeal m →
    θ_run (Cert.SquareDxReferenceIdeal.defs (F := Ideal)) (onTc (τ := Cert.SquareDxReferenceIdeal.τ) (Cert.SquareDxReferenceIdeal.main (F := Ideal))) ⟨m, fun _ => 0, g⟩ (fun r => (∀ c : Dev Cert.SquareDxReferenceIdeal.nD,
      r.2.mem ((c.tc : Thread Cert.SquareDxReferenceIdeal.nD Cert.SquareDxReferenceIdeal.τ).loc Cert.SquareDxReferenceIdeal.main_arg0) = m ((c.tc : Thread Cert.SquareDxReferenceIdeal.nD Cert.SquareDxReferenceIdeal.τ).loc Cert.SquareDxReferenceIdeal.main_arg0)
      ∧ r.2.mem ((c.tc : Thread Cert.SquareDxReferenceIdeal.nD Cert.SquareDxReferenceIdeal.τ).loc Cert.SquareDxReferenceIdeal.main_arg1) = m ((c.tc : Thread Cert.SquareDxReferenceIdeal.nD Cert.SquareDxReferenceIdeal.τ).loc Cert.SquareDxReferenceIdeal.main_arg1)
      ∧ r.2.mem ((c.tc : Thread Cert.SquareDxReferenceIdeal.nD Cert.SquareDxReferenceIdeal.τ).loc Cert.SquareDxReferenceIdeal.main_arg2) = m ((c.tc : Thread Cert.SquareDxReferenceIdeal.nD Cert.SquareDxReferenceIdeal.τ).loc Cert.SquareDxReferenceIdeal.main_arg2))
      ∧ r.2.sem = fun _ => 0)

def quiescent_MixaInDx [hMixaInDx : Cert.MixaInDx.Facts] : Prop :=
  ∀ (m : (ℓ : Loc Cert.MixaInDx.nD Cert.MixaInDx.τ Cert.MixaInDx.sig) → Buf (Elt Bits) ℓ) (g : Dev Cert.MixaInDx.nD → PrngReg), Pre_MixaInDx m →
    θ_run (Cert.MixaInDx.defs (F := Bits)) (onTc (τ := Cert.MixaInDx.τ) (Cert.MixaInDx.main (F := Bits))) ⟨m, fun _ => 0, g⟩ (fun r => (∀ c : Dev Cert.MixaInDx.nD,
      r.2.mem ((c.tc : Thread Cert.MixaInDx.nD Cert.MixaInDx.τ).loc Cert.MixaInDx.main_arg0) = m ((c.tc : Thread Cert.MixaInDx.nD Cert.MixaInDx.τ).loc Cert.MixaInDx.main_arg0)
      ∧ r.2.mem ((c.tc : Thread Cert.MixaInDx.nD Cert.MixaInDx.τ).loc Cert.MixaInDx.main_arg1) = m ((c.tc : Thread Cert.MixaInDx.nD Cert.MixaInDx.τ).loc Cert.MixaInDx.main_arg1)
      ∧ r.2.mem ((c.tc : Thread Cert.MixaInDx.nD Cert.MixaInDx.τ).loc Cert.MixaInDx.main_arg2) = m ((c.tc : Thread Cert.MixaInDx.nD Cert.MixaInDx.τ).loc Cert.MixaInDx.main_arg2))
      ∧ r.2.sem = fun _ => 0)

def quiescent_MixaInDxIdeal [hMixaInDxIdeal : Cert.MixaInDxIdeal.Facts] : Prop :=
  ∀ (m : (ℓ : Loc Cert.MixaInDxIdeal.nD Cert.MixaInDxIdeal.τ Cert.MixaInDxIdeal.sig) → Buf (Elt Ideal) ℓ) (g : Dev Cert.MixaInDxIdeal.nD → PrngReg), Pre_MixaInDxIdeal m →
    θ_run (Cert.MixaInDxIdeal.defs (F := Ideal)) (onTc (τ := Cert.MixaInDxIdeal.τ) (Cert.MixaInDxIdeal.main (F := Ideal))) ⟨m, fun _ => 0, g⟩ (fun r => (∀ c : Dev Cert.MixaInDxIdeal.nD,
      r.2.mem ((c.tc : Thread Cert.MixaInDxIdeal.nD Cert.MixaInDxIdeal.τ).loc Cert.MixaInDxIdeal.main_arg0) = m ((c.tc : Thread Cert.MixaInDxIdeal.nD Cert.MixaInDxIdeal.τ).loc Cert.MixaInDxIdeal.main_arg0)
      ∧ r.2.mem ((c.tc : Thread Cert.MixaInDxIdeal.nD Cert.MixaInDxIdeal.τ).loc Cert.MixaInDxIdeal.main_arg1) = m ((c.tc : Thread Cert.MixaInDxIdeal.nD Cert.MixaInDxIdeal.τ).loc Cert.MixaInDxIdeal.main_arg1)
      ∧ r.2.mem ((c.tc : Thread Cert.MixaInDxIdeal.nD Cert.MixaInDxIdeal.τ).loc Cert.MixaInDxIdeal.main_arg2) = m ((c.tc : Thread Cert.MixaInDxIdeal.nD Cert.MixaInDxIdeal.τ).loc Cert.MixaInDxIdeal.main_arg2))
      ∧ r.2.sem = fun _ => 0)

def quiescent_MixaInDxReferenceIdeal [hMixaInDxReferenceIdeal : Cert.MixaInDxReferenceIdeal.Facts] : Prop :=
  ∀ (m : (ℓ : Loc Cert.MixaInDxReferenceIdeal.nD Cert.MixaInDxReferenceIdeal.τ Cert.MixaInDxReferenceIdeal.sig) → Buf (Elt Ideal) ℓ) (g : Dev Cert.MixaInDxReferenceIdeal.nD → PrngReg), Pre_MixaInDxReferenceIdeal m →
    θ_run (Cert.MixaInDxReferenceIdeal.defs (F := Ideal)) (onTc (τ := Cert.MixaInDxReferenceIdeal.τ) (Cert.MixaInDxReferenceIdeal.main (F := Ideal))) ⟨m, fun _ => 0, g⟩ (fun r => (∀ c : Dev Cert.MixaInDxReferenceIdeal.nD,
      r.2.mem ((c.tc : Thread Cert.MixaInDxReferenceIdeal.nD Cert.MixaInDxReferenceIdeal.τ).loc Cert.MixaInDxReferenceIdeal.main_arg0) = m ((c.tc : Thread Cert.MixaInDxReferenceIdeal.nD Cert.MixaInDxReferenceIdeal.τ).loc Cert.MixaInDxReferenceIdeal.main_arg0)
      ∧ r.2.mem ((c.tc : Thread Cert.MixaInDxReferenceIdeal.nD Cert.MixaInDxReferenceIdeal.τ).loc Cert.MixaInDxReferenceIdeal.main_arg1) = m ((c.tc : Thread Cert.MixaInDxReferenceIdeal.nD Cert.MixaInDxReferenceIdeal.τ).loc Cert.MixaInDxReferenceIdeal.main_arg1)
      ∧ r.2.mem ((c.tc : Thread Cert.MixaInDxReferenceIdeal.nD Cert.MixaInDxReferenceIdeal.τ).loc Cert.MixaInDxReferenceIdeal.main_arg2) = m ((c.tc : Thread Cert.MixaInDxReferenceIdeal.nD Cert.MixaInDxReferenceIdeal.τ).loc Cert.MixaInDxReferenceIdeal.main_arg2))
      ∧ r.2.sem = fun _ => 0)

def quiescent_SquareDwOther [hSquareDwOther : Cert.SquareDwOther.Facts] [hPre_is_core_square : Cert.Pre_is_core_square.Facts] : Prop :=
  ∀ (m : (ℓ : Loc Cert.SquareDwOther.nD Cert.SquareDwOther.τ Cert.SquareDwOther.sig) → Buf (Elt Bits) ℓ) (g : Dev Cert.SquareDwOther.nD → PrngReg), Pre_SquareDwOther m →
    θ_run (Cert.SquareDwOther.defs (F := Bits)) (onTc (τ := Cert.SquareDwOther.τ) (Cert.SquareDwOther.main (F := Bits))) ⟨m, fun _ => 0, g⟩ (fun r => (∀ c : Dev Cert.SquareDwOther.nD,
      r.2.mem ((c.tc : Thread Cert.SquareDwOther.nD Cert.SquareDwOther.τ).loc Cert.SquareDwOther.main_arg0) = m ((c.tc : Thread Cert.SquareDwOther.nD Cert.SquareDwOther.τ).loc Cert.SquareDwOther.main_arg0)
      ∧ r.2.mem ((c.tc : Thread Cert.SquareDwOther.nD Cert.SquareDwOther.τ).loc Cert.SquareDwOther.main_arg1) = m ((c.tc : Thread Cert.SquareDwOther.nD Cert.SquareDwOther.τ).loc Cert.SquareDwOther.main_arg1)
      ∧ r.2.mem ((c.tc : Thread Cert.SquareDwOther.nD Cert.SquareDwOther.τ).loc Cert.SquareDwOther.main_arg2) = m ((c.tc : Thread Cert.SquareDwOther.nD Cert.SquareDwOther.τ).loc Cert.SquareDwOther.main_arg2))
      ∧ r.2.sem = fun _ => 0)

def quiescent_SquareDwOtherIdeal [hSquareDwOtherIdeal : Cert.SquareDwOtherIdeal.Facts] [hPre_is_core_square : Cert.Pre_is_core_square.Facts] : Prop :=
  ∀ (m : (ℓ : Loc Cert.SquareDwOtherIdeal.nD Cert.SquareDwOtherIdeal.τ Cert.SquareDwOtherIdeal.sig) → Buf (Elt Ideal) ℓ) (g : Dev Cert.SquareDwOtherIdeal.nD → PrngReg), Pre_SquareDwOtherIdeal m →
    θ_run (Cert.SquareDwOtherIdeal.defs (F := Ideal)) (onTc (τ := Cert.SquareDwOtherIdeal.τ) (Cert.SquareDwOtherIdeal.main (F := Ideal))) ⟨m, fun _ => 0, g⟩ (fun r => (∀ c : Dev Cert.SquareDwOtherIdeal.nD,
      r.2.mem ((c.tc : Thread Cert.SquareDwOtherIdeal.nD Cert.SquareDwOtherIdeal.τ).loc Cert.SquareDwOtherIdeal.main_arg0) = m ((c.tc : Thread Cert.SquareDwOtherIdeal.nD Cert.SquareDwOtherIdeal.τ).loc Cert.SquareDwOtherIdeal.main_arg0)
      ∧ r.2.mem ((c.tc : Thread Cert.SquareDwOtherIdeal.nD Cert.SquareDwOtherIdeal.τ).loc Cert.SquareDwOtherIdeal.main_arg1) = m ((c.tc : Thread Cert.SquareDwOtherIdeal.nD Cert.SquareDwOtherIdeal.τ).loc Cert.SquareDwOtherIdeal.main_arg1)
      ∧ r.2.mem ((c.tc : Thread Cert.SquareDwOtherIdeal.nD Cert.SquareDwOtherIdeal.τ).loc Cert.SquareDwOtherIdeal.main_arg2) = m ((c.tc : Thread Cert.SquareDwOtherIdeal.nD Cert.SquareDwOtherIdeal.τ).loc Cert.SquareDwOtherIdeal.main_arg2))
      ∧ r.2.sem = fun _ => 0)

def quiescent_SquareDwOtherReferenceIdeal [hSquareDwOtherReferenceIdeal : Cert.SquareDwOtherReferenceIdeal.Facts] : Prop :=
  ∀ (m : (ℓ : Loc Cert.SquareDwOtherReferenceIdeal.nD Cert.SquareDwOtherReferenceIdeal.τ Cert.SquareDwOtherReferenceIdeal.sig) → Buf (Elt Ideal) ℓ) (g : Dev Cert.SquareDwOtherReferenceIdeal.nD → PrngReg), Pre_SquareDwOtherReferenceIdeal m →
    θ_run (Cert.SquareDwOtherReferenceIdeal.defs (F := Ideal)) (onTc (τ := Cert.SquareDwOtherReferenceIdeal.τ) (Cert.SquareDwOtherReferenceIdeal.main (F := Ideal))) ⟨m, fun _ => 0, g⟩ (fun r => (∀ c : Dev Cert.SquareDwOtherReferenceIdeal.nD,
      r.2.mem ((c.tc : Thread Cert.SquareDwOtherReferenceIdeal.nD Cert.SquareDwOtherReferenceIdeal.τ).loc Cert.SquareDwOtherReferenceIdeal.main_arg0) = m ((c.tc : Thread Cert.SquareDwOtherReferenceIdeal.nD Cert.SquareDwOtherReferenceIdeal.τ).loc Cert.SquareDwOtherReferenceIdeal.main_arg0)
      ∧ r.2.mem ((c.tc : Thread Cert.SquareDwOtherReferenceIdeal.nD Cert.SquareDwOtherReferenceIdeal.τ).loc Cert.SquareDwOtherReferenceIdeal.main_arg1) = m ((c.tc : Thread Cert.SquareDwOtherReferenceIdeal.nD Cert.SquareDwOtherReferenceIdeal.τ).loc Cert.SquareDwOtherReferenceIdeal.main_arg1)
      ∧ r.2.mem ((c.tc : Thread Cert.SquareDwOtherReferenceIdeal.nD Cert.SquareDwOtherReferenceIdeal.τ).loc Cert.SquareDwOtherReferenceIdeal.main_arg2) = m ((c.tc : Thread Cert.SquareDwOtherReferenceIdeal.nD Cert.SquareDwOtherReferenceIdeal.τ).loc Cert.SquareDwOtherReferenceIdeal.main_arg2))
      ∧ r.2.sem = fun _ => 0)

def quiescent_SquareDwOtherReferenceIdeal_pre_is_core_square [hSquareDwOtherReferenceIdeal : Cert.SquareDwOtherReferenceIdeal.Facts] [hPre_is_core_square : Cert.Pre_is_core_square.Facts] : Prop :=
  ∀ (m : (ℓ : Loc Cert.SquareDwOtherReferenceIdeal.nD Cert.SquareDwOtherReferenceIdeal.τ Cert.SquareDwOtherReferenceIdeal.sig) → Buf (Elt Ideal) ℓ) (g : Dev Cert.SquareDwOtherReferenceIdeal.nD → PrngReg), Pre_SquareDwOtherReferenceIdeal_is_core_square m →
    θ_run (Cert.SquareDwOtherReferenceIdeal.defs (F := Ideal)) (onTc (τ := Cert.SquareDwOtherReferenceIdeal.τ) (Cert.SquareDwOtherReferenceIdeal.main (F := Ideal))) ⟨m, fun _ => 0, g⟩ (fun r => (∀ c : Dev Cert.SquareDwOtherReferenceIdeal.nD,
      r.2.mem ((c.tc : Thread Cert.SquareDwOtherReferenceIdeal.nD Cert.SquareDwOtherReferenceIdeal.τ).loc Cert.SquareDwOtherReferenceIdeal.main_arg0) = m ((c.tc : Thread Cert.SquareDwOtherReferenceIdeal.nD Cert.SquareDwOtherReferenceIdeal.τ).loc Cert.SquareDwOtherReferenceIdeal.main_arg0)
      ∧ r.2.mem ((c.tc : Thread Cert.SquareDwOtherReferenceIdeal.nD Cert.SquareDwOtherReferenceIdeal.τ).loc Cert.SquareDwOtherReferenceIdeal.main_arg1) = m ((c.tc : Thread Cert.SquareDwOtherReferenceIdeal.nD Cert.SquareDwOtherReferenceIdeal.τ).loc Cert.SquareDwOtherReferenceIdeal.main_arg1)
      ∧ r.2.mem ((c.tc : Thread Cert.SquareDwOtherReferenceIdeal.nD Cert.SquareDwOtherReferenceIdeal.τ).loc Cert.SquareDwOtherReferenceIdeal.main_arg2) = m ((c.tc : Thread Cert.SquareDwOtherReferenceIdeal.nD Cert.SquareDwOtherReferenceIdeal.τ).loc Cert.SquareDwOtherReferenceIdeal.main_arg2))
      ∧ r.2.sem = fun _ => 0)

def quiescent_SquareDwOwn [hSquareDwOwn : Cert.SquareDwOwn.Facts] [hPre_is_core_square_own : Cert.Pre_is_core_square_own.Facts] : Prop :=
  ∀ (m : (ℓ : Loc Cert.SquareDwOwn.nD Cert.SquareDwOwn.τ Cert.SquareDwOwn.sig) → Buf (Elt Bits) ℓ) (g : Dev Cert.SquareDwOwn.nD → PrngReg), Pre_SquareDwOwn m →
    θ_run (Cert.SquareDwOwn.defs (F := Bits)) (onTc (τ := Cert.SquareDwOwn.τ) (Cert.SquareDwOwn.main (F := Bits))) ⟨m, fun _ => 0, g⟩ (fun r => (∀ c : Dev Cert.SquareDwOwn.nD,
      r.2.mem ((c.tc : Thread Cert.SquareDwOwn.nD Cert.SquareDwOwn.τ).loc Cert.SquareDwOwn.main_arg0) = m ((c.tc : Thread Cert.SquareDwOwn.nD Cert.SquareDwOwn.τ).loc Cert.SquareDwOwn.main_arg0)
      ∧ r.2.mem ((c.tc : Thread Cert.SquareDwOwn.nD Cert.SquareDwOwn.τ).loc Cert.SquareDwOwn.main_arg1) = m ((c.tc : Thread Cert.SquareDwOwn.nD Cert.SquareDwOwn.τ).loc Cert.SquareDwOwn.main_arg1)
      ∧ r.2.mem ((c.tc : Thread Cert.SquareDwOwn.nD Cert.SquareDwOwn.τ).loc Cert.SquareDwOwn.main_arg2) = m ((c.tc : Thread Cert.SquareDwOwn.nD Cert.SquareDwOwn.τ).loc Cert.SquareDwOwn.main_arg2)
      ∧ r.2.mem ((c.tc : Thread Cert.SquareDwOwn.nD Cert.SquareDwOwn.τ).loc Cert.SquareDwOwn.main_arg3) = m ((c.tc : Thread Cert.SquareDwOwn.nD Cert.SquareDwOwn.τ).loc Cert.SquareDwOwn.main_arg3))
      ∧ r.2.sem = fun _ => 0)

def quiescent_SquareDwOwnIdeal [hSquareDwOwnIdeal : Cert.SquareDwOwnIdeal.Facts] [hPre_is_core_square_own : Cert.Pre_is_core_square_own.Facts] : Prop :=
  ∀ (m : (ℓ : Loc Cert.SquareDwOwnIdeal.nD Cert.SquareDwOwnIdeal.τ Cert.SquareDwOwnIdeal.sig) → Buf (Elt Ideal) ℓ) (g : Dev Cert.SquareDwOwnIdeal.nD → PrngReg), Pre_SquareDwOwnIdeal m →
    θ_run (Cert.SquareDwOwnIdeal.defs (F := Ideal)) (onTc (τ := Cert.SquareDwOwnIdeal.τ) (Cert.SquareDwOwnIdeal.main (F := Ideal))) ⟨m, fun _ => 0, g⟩ (fun r => (∀ c : Dev Cert.SquareDwOwnIdeal.nD,
      r.2.mem ((c.tc : Thread Cert.SquareDwOwnIdeal.nD Cert.SquareDwOwnIdeal.τ).loc Cert.SquareDwOwnIdeal.main_arg0) = m ((c.tc : Thread Cert.SquareDwOwnIdeal.nD Cert.SquareDwOwnIdeal.τ).loc Cert.SquareDwOwnIdeal.main_arg0)
      ∧ r.2.mem ((c.tc : Thread Cert.SquareDwOwnIdeal.nD Cert.SquareDwOwnIdeal.τ).loc Cert.SquareDwOwnIdeal.main_arg1) = m ((c.tc : Thread Cert.SquareDwOwnIdeal.nD Cert.SquareDwOwnIdeal.τ).loc Cert.SquareDwOwnIdeal.main_arg1)
      ∧ r.2.mem ((c.tc : Thread Cert.SquareDwOwnIdeal.nD Cert.SquareDwOwnIdeal.τ).loc Cert.SquareDwOwnIdeal.main_arg2) = m ((c.tc : Thread Cert.SquareDwOwnIdeal.nD Cert.SquareDwOwnIdeal.τ).loc Cert.SquareDwOwnIdeal.main_arg2)
      ∧ r.2.mem ((c.tc : Thread Cert.SquareDwOwnIdeal.nD Cert.SquareDwOwnIdeal.τ).loc Cert.SquareDwOwnIdeal.main_arg3) = m ((c.tc : Thread Cert.SquareDwOwnIdeal.nD Cert.SquareDwOwnIdeal.τ).loc Cert.SquareDwOwnIdeal.main_arg3))
      ∧ r.2.sem = fun _ => 0)

def quiescent_SquareDwOwnReferenceIdeal [hSquareDwOwnReferenceIdeal : Cert.SquareDwOwnReferenceIdeal.Facts] : Prop :=
  ∀ (m : (ℓ : Loc Cert.SquareDwOwnReferenceIdeal.nD Cert.SquareDwOwnReferenceIdeal.τ Cert.SquareDwOwnReferenceIdeal.sig) → Buf (Elt Ideal) ℓ) (g : Dev Cert.SquareDwOwnReferenceIdeal.nD → PrngReg), Pre_SquareDwOwnReferenceIdeal m →
    θ_run (Cert.SquareDwOwnReferenceIdeal.defs (F := Ideal)) (onTc (τ := Cert.SquareDwOwnReferenceIdeal.τ) (Cert.SquareDwOwnReferenceIdeal.main (F := Ideal))) ⟨m, fun _ => 0, g⟩ (fun r => (∀ c : Dev Cert.SquareDwOwnReferenceIdeal.nD,
      r.2.mem ((c.tc : Thread Cert.SquareDwOwnReferenceIdeal.nD Cert.SquareDwOwnReferenceIdeal.τ).loc Cert.SquareDwOwnReferenceIdeal.main_arg0) = m ((c.tc : Thread Cert.SquareDwOwnReferenceIdeal.nD Cert.SquareDwOwnReferenceIdeal.τ).loc Cert.SquareDwOwnReferenceIdeal.main_arg0)
      ∧ r.2.mem ((c.tc : Thread Cert.SquareDwOwnReferenceIdeal.nD Cert.SquareDwOwnReferenceIdeal.τ).loc Cert.SquareDwOwnReferenceIdeal.main_arg1) = m ((c.tc : Thread Cert.SquareDwOwnReferenceIdeal.nD Cert.SquareDwOwnReferenceIdeal.τ).loc Cert.SquareDwOwnReferenceIdeal.main_arg1)
      ∧ r.2.mem ((c.tc : Thread Cert.SquareDwOwnReferenceIdeal.nD Cert.SquareDwOwnReferenceIdeal.τ).loc Cert.SquareDwOwnReferenceIdeal.main_arg2) = m ((c.tc : Thread Cert.SquareDwOwnReferenceIdeal.nD Cert.SquareDwOwnReferenceIdeal.τ).loc Cert.SquareDwOwnReferenceIdeal.main_arg2)
      ∧ r.2.mem ((c.tc : Thread Cert.SquareDwOwnReferenceIdeal.nD Cert.SquareDwOwnReferenceIdeal.τ).loc Cert.SquareDwOwnReferenceIdeal.main_arg3) = m ((c.tc : Thread Cert.SquareDwOwnReferenceIdeal.nD Cert.SquareDwOwnReferenceIdeal.τ).loc Cert.SquareDwOwnReferenceIdeal.main_arg3))
      ∧ r.2.sem = fun _ => 0)

def quiescent_SquareDwOwnReferenceIdeal_pre_is_core_square_own [hSquareDwOwnReferenceIdeal : Cert.SquareDwOwnReferenceIdeal.Facts] [hPre_is_core_square_own : Cert.Pre_is_core_square_own.Facts] : Prop :=
  ∀ (m : (ℓ : Loc Cert.SquareDwOwnReferenceIdeal.nD Cert.SquareDwOwnReferenceIdeal.τ Cert.SquareDwOwnReferenceIdeal.sig) → Buf (Elt Ideal) ℓ) (g : Dev Cert.SquareDwOwnReferenceIdeal.nD → PrngReg), Pre_SquareDwOwnReferenceIdeal_is_core_square_own m →
    θ_run (Cert.SquareDwOwnReferenceIdeal.defs (F := Ideal)) (onTc (τ := Cert.SquareDwOwnReferenceIdeal.τ) (Cert.SquareDwOwnReferenceIdeal.main (F := Ideal))) ⟨m, fun _ => 0, g⟩ (fun r => (∀ c : Dev Cert.SquareDwOwnReferenceIdeal.nD,
      r.2.mem ((c.tc : Thread Cert.SquareDwOwnReferenceIdeal.nD Cert.SquareDwOwnReferenceIdeal.τ).loc Cert.SquareDwOwnReferenceIdeal.main_arg0) = m ((c.tc : Thread Cert.SquareDwOwnReferenceIdeal.nD Cert.SquareDwOwnReferenceIdeal.τ).loc Cert.SquareDwOwnReferenceIdeal.main_arg0)
      ∧ r.2.mem ((c.tc : Thread Cert.SquareDwOwnReferenceIdeal.nD Cert.SquareDwOwnReferenceIdeal.τ).loc Cert.SquareDwOwnReferenceIdeal.main_arg1) = m ((c.tc : Thread Cert.SquareDwOwnReferenceIdeal.nD Cert.SquareDwOwnReferenceIdeal.τ).loc Cert.SquareDwOwnReferenceIdeal.main_arg1)
      ∧ r.2.mem ((c.tc : Thread Cert.SquareDwOwnReferenceIdeal.nD Cert.SquareDwOwnReferenceIdeal.τ).loc Cert.SquareDwOwnReferenceIdeal.main_arg2) = m ((c.tc : Thread Cert.SquareDwOwnReferenceIdeal.nD Cert.SquareDwOwnReferenceIdeal.τ).loc Cert.SquareDwOwnReferenceIdeal.main_arg2)
      ∧ r.2.mem ((c.tc : Thread Cert.SquareDwOwnReferenceIdeal.nD Cert.SquareDwOwnReferenceIdeal.τ).loc Cert.SquareDwOwnReferenceIdeal.main_arg3) = m ((c.tc : Thread Cert.SquareDwOwnReferenceIdeal.nD Cert.SquareDwOwnReferenceIdeal.τ).loc Cert.SquareDwOwnReferenceIdeal.main_arg3))
      ∧ r.2.sem = fun _ => 0)

def quiescent_MixaInDwOther [hMixaInDwOther : Cert.MixaInDwOther.Facts] [hPre_is_core_mixa : Cert.Pre_is_core_mixa.Facts] : Prop :=
  ∀ (m : (ℓ : Loc Cert.MixaInDwOther.nD Cert.MixaInDwOther.τ Cert.MixaInDwOther.sig) → Buf (Elt Bits) ℓ) (g : Dev Cert.MixaInDwOther.nD → PrngReg), Pre_MixaInDwOther m →
    θ_run (Cert.MixaInDwOther.defs (F := Bits)) (onTc (τ := Cert.MixaInDwOther.τ) (Cert.MixaInDwOther.main (F := Bits))) ⟨m, fun _ => 0, g⟩ (fun r => (∀ c : Dev Cert.MixaInDwOther.nD,
      r.2.mem ((c.tc : Thread Cert.MixaInDwOther.nD Cert.MixaInDwOther.τ).loc Cert.MixaInDwOther.main_arg0) = m ((c.tc : Thread Cert.MixaInDwOther.nD Cert.MixaInDwOther.τ).loc Cert.MixaInDwOther.main_arg0)
      ∧ r.2.mem ((c.tc : Thread Cert.MixaInDwOther.nD Cert.MixaInDwOther.τ).loc Cert.MixaInDwOther.main_arg1) = m ((c.tc : Thread Cert.MixaInDwOther.nD Cert.MixaInDwOther.τ).loc Cert.MixaInDwOther.main_arg1)
      ∧ r.2.mem ((c.tc : Thread Cert.MixaInDwOther.nD Cert.MixaInDwOther.τ).loc Cert.MixaInDwOther.main_arg2) = m ((c.tc : Thread Cert.MixaInDwOther.nD Cert.MixaInDwOther.τ).loc Cert.MixaInDwOther.main_arg2))
      ∧ r.2.sem = fun _ => 0)

def quiescent_MixaInDwOtherIdeal [hMixaInDwOtherIdeal : Cert.MixaInDwOtherIdeal.Facts] [hPre_is_core_mixa : Cert.Pre_is_core_mixa.Facts] : Prop :=
  ∀ (m : (ℓ : Loc Cert.MixaInDwOtherIdeal.nD Cert.MixaInDwOtherIdeal.τ Cert.MixaInDwOtherIdeal.sig) → Buf (Elt Ideal) ℓ) (g : Dev Cert.MixaInDwOtherIdeal.nD → PrngReg), Pre_MixaInDwOtherIdeal m →
    θ_run (Cert.MixaInDwOtherIdeal.defs (F := Ideal)) (onTc (τ := Cert.MixaInDwOtherIdeal.τ) (Cert.MixaInDwOtherIdeal.main (F := Ideal))) ⟨m, fun _ => 0, g⟩ (fun r => (∀ c : Dev Cert.MixaInDwOtherIdeal.nD,
      r.2.mem ((c.tc : Thread Cert.MixaInDwOtherIdeal.nD Cert.MixaInDwOtherIdeal.τ).loc Cert.MixaInDwOtherIdeal.main_arg0) = m ((c.tc : Thread Cert.MixaInDwOtherIdeal.nD Cert.MixaInDwOtherIdeal.τ).loc Cert.MixaInDwOtherIdeal.main_arg0)
      ∧ r.2.mem ((c.tc : Thread Cert.MixaInDwOtherIdeal.nD Cert.MixaInDwOtherIdeal.τ).loc Cert.MixaInDwOtherIdeal.main_arg1) = m ((c.tc : Thread Cert.MixaInDwOtherIdeal.nD Cert.MixaInDwOtherIdeal.τ).loc Cert.MixaInDwOtherIdeal.main_arg1)
      ∧ r.2.mem ((c.tc : Thread Cert.MixaInDwOtherIdeal.nD Cert.MixaInDwOtherIdeal.τ).loc Cert.MixaInDwOtherIdeal.main_arg2) = m ((c.tc : Thread Cert.MixaInDwOtherIdeal.nD Cert.MixaInDwOtherIdeal.τ).loc Cert.MixaInDwOtherIdeal.main_arg2))
      ∧ r.2.sem = fun _ => 0)

def quiescent_MixaInDwOtherReferenceIdeal [hMixaInDwOtherReferenceIdeal : Cert.MixaInDwOtherReferenceIdeal.Facts] : Prop :=
  ∀ (m : (ℓ : Loc Cert.MixaInDwOtherReferenceIdeal.nD Cert.MixaInDwOtherReferenceIdeal.τ Cert.MixaInDwOtherReferenceIdeal.sig) → Buf (Elt Ideal) ℓ) (g : Dev Cert.MixaInDwOtherReferenceIdeal.nD → PrngReg), Pre_MixaInDwOtherReferenceIdeal m →
    θ_run (Cert.MixaInDwOtherReferenceIdeal.defs (F := Ideal)) (onTc (τ := Cert.MixaInDwOtherReferenceIdeal.τ) (Cert.MixaInDwOtherReferenceIdeal.main (F := Ideal))) ⟨m, fun _ => 0, g⟩ (fun r => (∀ c : Dev Cert.MixaInDwOtherReferenceIdeal.nD,
      r.2.mem ((c.tc : Thread Cert.MixaInDwOtherReferenceIdeal.nD Cert.MixaInDwOtherReferenceIdeal.τ).loc Cert.MixaInDwOtherReferenceIdeal.main_arg0) = m ((c.tc : Thread Cert.MixaInDwOtherReferenceIdeal.nD Cert.MixaInDwOtherReferenceIdeal.τ).loc Cert.MixaInDwOtherReferenceIdeal.main_arg0)
      ∧ r.2.mem ((c.tc : Thread Cert.MixaInDwOtherReferenceIdeal.nD Cert.MixaInDwOtherReferenceIdeal.τ).loc Cert.MixaInDwOtherReferenceIdeal.main_arg1) = m ((c.tc : Thread Cert.MixaInDwOtherReferenceIdeal.nD Cert.MixaInDwOtherReferenceIdeal.τ).loc Cert.MixaInDwOtherReferenceIdeal.main_arg1)
      ∧ r.2.mem ((c.tc : Thread Cert.MixaInDwOtherReferenceIdeal.nD Cert.MixaInDwOtherReferenceIdeal.τ).loc Cert.MixaInDwOtherReferenceIdeal.main_arg2) = m ((c.tc : Thread Cert.MixaInDwOtherReferenceIdeal.nD Cert.MixaInDwOtherReferenceIdeal.τ).loc Cert.MixaInDwOtherReferenceIdeal.main_arg2))
      ∧ r.2.sem = fun _ => 0)

def quiescent_MixaInDwOtherReferenceIdeal_pre_is_core_mixa [hMixaInDwOtherReferenceIdeal : Cert.MixaInDwOtherReferenceIdeal.Facts] [hPre_is_core_mixa : Cert.Pre_is_core_mixa.Facts] : Prop :=
  ∀ (m : (ℓ : Loc Cert.MixaInDwOtherReferenceIdeal.nD Cert.MixaInDwOtherReferenceIdeal.τ Cert.MixaInDwOtherReferenceIdeal.sig) → Buf (Elt Ideal) ℓ) (g : Dev Cert.MixaInDwOtherReferenceIdeal.nD → PrngReg), Pre_MixaInDwOtherReferenceIdeal_is_core_mixa m →
    θ_run (Cert.MixaInDwOtherReferenceIdeal.defs (F := Ideal)) (onTc (τ := Cert.MixaInDwOtherReferenceIdeal.τ) (Cert.MixaInDwOtherReferenceIdeal.main (F := Ideal))) ⟨m, fun _ => 0, g⟩ (fun r => (∀ c : Dev Cert.MixaInDwOtherReferenceIdeal.nD,
      r.2.mem ((c.tc : Thread Cert.MixaInDwOtherReferenceIdeal.nD Cert.MixaInDwOtherReferenceIdeal.τ).loc Cert.MixaInDwOtherReferenceIdeal.main_arg0) = m ((c.tc : Thread Cert.MixaInDwOtherReferenceIdeal.nD Cert.MixaInDwOtherReferenceIdeal.τ).loc Cert.MixaInDwOtherReferenceIdeal.main_arg0)
      ∧ r.2.mem ((c.tc : Thread Cert.MixaInDwOtherReferenceIdeal.nD Cert.MixaInDwOtherReferenceIdeal.τ).loc Cert.MixaInDwOtherReferenceIdeal.main_arg1) = m ((c.tc : Thread Cert.MixaInDwOtherReferenceIdeal.nD Cert.MixaInDwOtherReferenceIdeal.τ).loc Cert.MixaInDwOtherReferenceIdeal.main_arg1)
      ∧ r.2.mem ((c.tc : Thread Cert.MixaInDwOtherReferenceIdeal.nD Cert.MixaInDwOtherReferenceIdeal.τ).loc Cert.MixaInDwOtherReferenceIdeal.main_arg2) = m ((c.tc : Thread Cert.MixaInDwOtherReferenceIdeal.nD Cert.MixaInDwOtherReferenceIdeal.τ).loc Cert.MixaInDwOtherReferenceIdeal.main_arg2))
      ∧ r.2.sem = fun _ => 0)

def quiescent_MixaInDwOwn [hMixaInDwOwn : Cert.MixaInDwOwn.Facts] [hPre_is_core_mixa_own : Cert.Pre_is_core_mixa_own.Facts] : Prop :=
  ∀ (m : (ℓ : Loc Cert.MixaInDwOwn.nD Cert.MixaInDwOwn.τ Cert.MixaInDwOwn.sig) → Buf (Elt Bits) ℓ) (g : Dev Cert.MixaInDwOwn.nD → PrngReg), Pre_MixaInDwOwn m →
    θ_run (Cert.MixaInDwOwn.defs (F := Bits)) (onTc (τ := Cert.MixaInDwOwn.τ) (Cert.MixaInDwOwn.main (F := Bits))) ⟨m, fun _ => 0, g⟩ (fun r => (∀ c : Dev Cert.MixaInDwOwn.nD,
      r.2.mem ((c.tc : Thread Cert.MixaInDwOwn.nD Cert.MixaInDwOwn.τ).loc Cert.MixaInDwOwn.main_arg0) = m ((c.tc : Thread Cert.MixaInDwOwn.nD Cert.MixaInDwOwn.τ).loc Cert.MixaInDwOwn.main_arg0)
      ∧ r.2.mem ((c.tc : Thread Cert.MixaInDwOwn.nD Cert.MixaInDwOwn.τ).loc Cert.MixaInDwOwn.main_arg1) = m ((c.tc : Thread Cert.MixaInDwOwn.nD Cert.MixaInDwOwn.τ).loc Cert.MixaInDwOwn.main_arg1)
      ∧ r.2.mem ((c.tc : Thread Cert.MixaInDwOwn.nD Cert.MixaInDwOwn.τ).loc Cert.MixaInDwOwn.main_arg2) = m ((c.tc : Thread Cert.MixaInDwOwn.nD Cert.MixaInDwOwn.τ).loc Cert.MixaInDwOwn.main_arg2)
      ∧ r.2.mem ((c.tc : Thread Cert.MixaInDwOwn.nD Cert.MixaInDwOwn.τ).loc Cert.MixaInDwOwn.main_arg3) = m ((c.tc : Thread Cert.MixaInDwOwn.nD Cert.MixaInDwOwn.τ).loc Cert.MixaInDwOwn.main_arg3))
      ∧ r.2.sem = fun _ => 0)

def quiescent_MixaInDwOwnIdeal [hMixaInDwOwnIdeal : Cert.MixaInDwOwnIdeal.Facts] [hPre_is_core_mixa_own : Cert.Pre_is_core_mixa_own.Facts] : Prop :=
  ∀ (m : (ℓ : Loc Cert.MixaInDwOwnIdeal.nD Cert.MixaInDwOwnIdeal.τ Cert.MixaInDwOwnIdeal.sig) → Buf (Elt Ideal) ℓ) (g : Dev Cert.MixaInDwOwnIdeal.nD → PrngReg), Pre_MixaInDwOwnIdeal m →
    θ_run (Cert.MixaInDwOwnIdeal.defs (F := Ideal)) (onTc (τ := Cert.MixaInDwOwnIdeal.τ) (Cert.MixaInDwOwnIdeal.main (F := Ideal))) ⟨m, fun _ => 0, g⟩ (fun r => (∀ c : Dev Cert.MixaInDwOwnIdeal.nD,
      r.2.mem ((c.tc : Thread Cert.MixaInDwOwnIdeal.nD Cert.MixaInDwOwnIdeal.τ).loc Cert.MixaInDwOwnIdeal.main_arg0) = m ((c.tc : Thread Cert.MixaInDwOwnIdeal.nD Cert.MixaInDwOwnIdeal.τ).loc Cert.MixaInDwOwnIdeal.main_arg0)
      ∧ r.2.mem ((c.tc : Thread Cert.MixaInDwOwnIdeal.nD Cert.MixaInDwOwnIdeal.τ).loc Cert.MixaInDwOwnIdeal.main_arg1) = m ((c.tc : Thread Cert.MixaInDwOwnIdeal.nD Cert.MixaInDwOwnIdeal.τ).loc Cert.MixaInDwOwnIdeal.main_arg1)
      ∧ r.2.mem ((c.tc : Thread Cert.MixaInDwOwnIdeal.nD Cert.MixaInDwOwnIdeal.τ).loc Cert.MixaInDwOwnIdeal.main_arg2) = m ((c.tc : Thread Cert.MixaInDwOwnIdeal.nD Cert.MixaInDwOwnIdeal.τ).loc Cert.MixaInDwOwnIdeal.main_arg2)
      ∧ r.2.mem ((c.tc : Thread Cert.MixaInDwOwnIdeal.nD Cert.MixaInDwOwnIdeal.τ).loc Cert.MixaInDwOwnIdeal.main_arg3) = m ((c.tc : Thread Cert.MixaInDwOwnIdeal.nD Cert.MixaInDwOwnIdeal.τ).loc Cert.MixaInDwOwnIdeal.main_arg3))
      ∧ r.2.sem = fun _ => 0)

def quiescent_MixaInDwOwnReferenceIdeal [hMixaInDwOwnReferenceIdeal : Cert.MixaInDwOwnReferenceIdeal.Facts] : Prop :=
  ∀ (m : (ℓ : Loc Cert.MixaInDwOwnReferenceIdeal.nD Cert.MixaInDwOwnReferenceIdeal.τ Cert.MixaInDwOwnReferenceIdeal.sig) → Buf (Elt Ideal) ℓ) (g : Dev Cert.MixaInDwOwnReferenceIdeal.nD → PrngReg), Pre_MixaInDwOwnReferenceIdeal m →
    θ_run (Cert.MixaInDwOwnReferenceIdeal.defs (F := Ideal)) (onTc (τ := Cert.MixaInDwOwnReferenceIdeal.τ) (Cert.MixaInDwOwnReferenceIdeal.main (F := Ideal))) ⟨m, fun _ => 0, g⟩ (fun r => (∀ c : Dev Cert.MixaInDwOwnReferenceIdeal.nD,
      r.2.mem ((c.tc : Thread Cert.MixaInDwOwnReferenceIdeal.nD Cert.MixaInDwOwnReferenceIdeal.τ).loc Cert.MixaInDwOwnReferenceIdeal.main_arg0) = m ((c.tc : Thread Cert.MixaInDwOwnReferenceIdeal.nD Cert.MixaInDwOwnReferenceIdeal.τ).loc Cert.MixaInDwOwnReferenceIdeal.main_arg0)
      ∧ r.2.mem ((c.tc : Thread Cert.MixaInDwOwnReferenceIdeal.nD Cert.MixaInDwOwnReferenceIdeal.τ).loc Cert.MixaInDwOwnReferenceIdeal.main_arg1) = m ((c.tc : Thread Cert.MixaInDwOwnReferenceIdeal.nD Cert.MixaInDwOwnReferenceIdeal.τ).loc Cert.MixaInDwOwnReferenceIdeal.main_arg1)
      ∧ r.2.mem ((c.tc : Thread Cert.MixaInDwOwnReferenceIdeal.nD Cert.MixaInDwOwnReferenceIdeal.τ).loc Cert.MixaInDwOwnReferenceIdeal.main_arg2) = m ((c.tc : Thread Cert.MixaInDwOwnReferenceIdeal.nD Cert.MixaInDwOwnReferenceIdeal.τ).loc Cert.MixaInDwOwnReferenceIdeal.main_arg2)
      ∧ r.2.mem ((c.tc : Thread Cert.MixaInDwOwnReferenceIdeal.nD Cert.MixaInDwOwnReferenceIdeal.τ).loc Cert.MixaInDwOwnReferenceIdeal.main_arg3) = m ((c.tc : Thread Cert.MixaInDwOwnReferenceIdeal.nD Cert.MixaInDwOwnReferenceIdeal.τ).loc Cert.MixaInDwOwnReferenceIdeal.main_arg3))
      ∧ r.2.sem = fun _ => 0)

def quiescent_MixaInDwOwnReferenceIdeal_pre_is_core_mixa_own [hMixaInDwOwnReferenceIdeal : Cert.MixaInDwOwnReferenceIdeal.Facts] [hPre_is_core_mixa_own : Cert.Pre_is_core_mixa_own.Facts] : Prop :=
  ∀ (m : (ℓ : Loc Cert.MixaInDwOwnReferenceIdeal.nD Cert.MixaInDwOwnReferenceIdeal.τ Cert.MixaInDwOwnReferenceIdeal.sig) → Buf (Elt Ideal) ℓ) (g : Dev Cert.MixaInDwOwnReferenceIdeal.nD → PrngReg), Pre_MixaInDwOwnReferenceIdeal_is_core_mixa_own m →
    θ_run (Cert.MixaInDwOwnReferenceIdeal.defs (F := Ideal)) (onTc (τ := Cert.MixaInDwOwnReferenceIdeal.τ) (Cert.MixaInDwOwnReferenceIdeal.main (F := Ideal))) ⟨m, fun _ => 0, g⟩ (fun r => (∀ c : Dev Cert.MixaInDwOwnReferenceIdeal.nD,
      r.2.mem ((c.tc : Thread Cert.MixaInDwOwnReferenceIdeal.nD Cert.MixaInDwOwnReferenceIdeal.τ).loc Cert.MixaInDwOwnReferenceIdeal.main_arg0) = m ((c.tc : Thread Cert.MixaInDwOwnReferenceIdeal.nD Cert.MixaInDwOwnReferenceIdeal.τ).loc Cert.MixaInDwOwnReferenceIdeal.main_arg0)
      ∧ r.2.mem ((c.tc : Thread Cert.MixaInDwOwnReferenceIdeal.nD Cert.MixaInDwOwnReferenceIdeal.τ).loc Cert.MixaInDwOwnReferenceIdeal.main_arg1) = m ((c.tc : Thread Cert.MixaInDwOwnReferenceIdeal.nD Cert.MixaInDwOwnReferenceIdeal.τ).loc Cert.MixaInDwOwnReferenceIdeal.main_arg1)
      ∧ r.2.mem ((c.tc : Thread Cert.MixaInDwOwnReferenceIdeal.nD Cert.MixaInDwOwnReferenceIdeal.τ).loc Cert.MixaInDwOwnReferenceIdeal.main_arg2) = m ((c.tc : Thread Cert.MixaInDwOwnReferenceIdeal.nD Cert.MixaInDwOwnReferenceIdeal.τ).loc Cert.MixaInDwOwnReferenceIdeal.main_arg2)
      ∧ r.2.mem ((c.tc : Thread Cert.MixaInDwOwnReferenceIdeal.nD Cert.MixaInDwOwnReferenceIdeal.τ).loc Cert.MixaInDwOwnReferenceIdeal.main_arg3) = m ((c.tc : Thread Cert.MixaInDwOwnReferenceIdeal.nD Cert.MixaInDwOwnReferenceIdeal.τ).loc Cert.MixaInDwOwnReferenceIdeal.main_arg3))
      ∧ r.2.sem = fun _ => 0)

def quiescent_MixaIn [hMixaIn : Cert.MixaIn.Facts] : Prop :=
  ∀ (m : (ℓ : Loc Cert.MixaIn.nD Cert.MixaIn.τ Cert.MixaIn.sig) → Buf (Elt Bits) ℓ) (g : Dev Cert.MixaIn.nD → PrngReg), Pre_MixaIn m →
    θ_run (Cert.MixaIn.defs (F := Bits)) (onTc (τ := Cert.MixaIn.τ) (Cert.MixaIn.main (F := Bits))) ⟨m, fun _ => 0, g⟩ (fun r => (∀ c : Dev Cert.MixaIn.nD,
      r.2.mem ((c.tc : Thread Cert.MixaIn.nD Cert.MixaIn.τ).loc Cert.MixaIn.main_arg0) = m ((c.tc : Thread Cert.MixaIn.nD Cert.MixaIn.τ).loc Cert.MixaIn.main_arg0)
      ∧ r.2.mem ((c.tc : Thread Cert.MixaIn.nD Cert.MixaIn.τ).loc Cert.MixaIn.main_arg1) = m ((c.tc : Thread Cert.MixaIn.nD Cert.MixaIn.τ).loc Cert.MixaIn.main_arg1))
      ∧ r.2.sem = fun _ => 0)

def quiescent_MixaInIdeal [hMixaInIdeal : Cert.MixaInIdeal.Facts] : Prop :=
  ∀ (m : (ℓ : Loc Cert.MixaInIdeal.nD Cert.MixaInIdeal.τ Cert.MixaInIdeal.sig) → Buf (Elt Ideal) ℓ) (g : Dev Cert.MixaInIdeal.nD → PrngReg), Pre_MixaInIdeal m →
    θ_run (Cert.MixaInIdeal.defs (F := Ideal)) (onTc (τ := Cert.MixaInIdeal.τ) (Cert.MixaInIdeal.main (F := Ideal))) ⟨m, fun _ => 0, g⟩ (fun r => (∀ c : Dev Cert.MixaInIdeal.nD,
      r.2.mem ((c.tc : Thread Cert.MixaInIdeal.nD Cert.MixaInIdeal.τ).loc Cert.MixaInIdeal.main_arg0) = m ((c.tc : Thread Cert.MixaInIdeal.nD Cert.MixaInIdeal.τ).loc Cert.MixaInIdeal.main_arg0)
      ∧ r.2.mem ((c.tc : Thread Cert.MixaInIdeal.nD Cert.MixaInIdeal.τ).loc Cert.MixaInIdeal.main_arg1) = m ((c.tc : Thread Cert.MixaInIdeal.nD Cert.MixaInIdeal.τ).loc Cert.MixaInIdeal.main_arg1))
      ∧ r.2.sem = fun _ => 0)

def quiescent_MixaInReferenceIdeal [hMixaInReferenceIdeal : Cert.MixaInReferenceIdeal.Facts] : Prop :=
  ∀ (m : (ℓ : Loc Cert.MixaInReferenceIdeal.nD Cert.MixaInReferenceIdeal.τ Cert.MixaInReferenceIdeal.sig) → Buf (Elt Ideal) ℓ) (g : Dev Cert.MixaInReferenceIdeal.nD → PrngReg), Pre_MixaInReferenceIdeal m →
    θ_run (Cert.MixaInReferenceIdeal.defs (F := Ideal)) (onTc (τ := Cert.MixaInReferenceIdeal.τ) (Cert.MixaInReferenceIdeal.main (F := Ideal))) ⟨m, fun _ => 0, g⟩ (fun r => (∀ c : Dev Cert.MixaInReferenceIdeal.nD,
      r.2.mem ((c.tc : Thread Cert.MixaInReferenceIdeal.nD Cert.MixaInReferenceIdeal.τ).loc Cert.MixaInReferenceIdeal.main_arg0) = m ((c.tc : Thread Cert.MixaInReferenceIdeal.nD Cert.MixaInReferenceIdeal.τ).loc Cert.MixaInReferenceIdeal.main_arg0)
      ∧ r.2.mem ((c.tc : Thread Cert.MixaInReferenceIdeal.nD Cert.MixaInReferenceIdeal.τ).loc Cert.MixaInReferenceIdeal.main_arg1) = m ((c.tc : Thread Cert.MixaInReferenceIdeal.nD Cert.MixaInReferenceIdeal.τ).loc Cert.MixaInReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_MixbIn [hMixbIn : Cert.MixbIn.Facts] : Prop :=
  ∀ (m : (ℓ : Loc Cert.MixbIn.nD Cert.MixbIn.τ Cert.MixbIn.sig) → Buf (Elt Bits) ℓ) (g : Dev Cert.MixbIn.nD → PrngReg), Pre_MixbIn m →
    θ_run (Cert.MixbIn.defs (F := Bits)) (onTc (τ := Cert.MixbIn.τ) (Cert.MixbIn.main (F := Bits))) ⟨m, fun _ => 0, g⟩ (fun r => (∀ c : Dev Cert.MixbIn.nD,
      r.2.mem ((c.tc : Thread Cert.MixbIn.nD Cert.MixbIn.τ).loc Cert.MixbIn.main_arg0) = m ((c.tc : Thread Cert.MixbIn.nD Cert.MixbIn.τ).loc Cert.MixbIn.main_arg0)
      ∧ r.2.mem ((c.tc : Thread Cert.MixbIn.nD Cert.MixbIn.τ).loc Cert.MixbIn.main_arg1) = m ((c.tc : Thread Cert.MixbIn.nD Cert.MixbIn.τ).loc Cert.MixbIn.main_arg1))
      ∧ r.2.sem = fun _ => 0)

def quiescent_MixbInIdeal [hMixbInIdeal : Cert.MixbInIdeal.Facts] : Prop :=
  ∀ (m : (ℓ : Loc Cert.MixbInIdeal.nD Cert.MixbInIdeal.τ Cert.MixbInIdeal.sig) → Buf (Elt Ideal) ℓ) (g : Dev Cert.MixbInIdeal.nD → PrngReg), Pre_MixbInIdeal m →
    θ_run (Cert.MixbInIdeal.defs (F := Ideal)) (onTc (τ := Cert.MixbInIdeal.τ) (Cert.MixbInIdeal.main (F := Ideal))) ⟨m, fun _ => 0, g⟩ (fun r => (∀ c : Dev Cert.MixbInIdeal.nD,
      r.2.mem ((c.tc : Thread Cert.MixbInIdeal.nD Cert.MixbInIdeal.τ).loc Cert.MixbInIdeal.main_arg0) = m ((c.tc : Thread Cert.MixbInIdeal.nD Cert.MixbInIdeal.τ).loc Cert.MixbInIdeal.main_arg0)
      ∧ r.2.mem ((c.tc : Thread Cert.MixbInIdeal.nD Cert.MixbInIdeal.τ).loc Cert.MixbInIdeal.main_arg1) = m ((c.tc : Thread Cert.MixbInIdeal.nD Cert.MixbInIdeal.τ).loc Cert.MixbInIdeal.main_arg1))
      ∧ r.2.sem = fun _ => 0)

def quiescent_MixbInReferenceIdeal [hMixbInReferenceIdeal : Cert.MixbInReferenceIdeal.Facts] : Prop :=
  ∀ (m : (ℓ : Loc Cert.MixbInReferenceIdeal.nD Cert.MixbInReferenceIdeal.τ Cert.MixbInReferenceIdeal.sig) → Buf (Elt Ideal) ℓ) (g : Dev Cert.MixbInReferenceIdeal.nD → PrngReg), Pre_MixbInReferenceIdeal m →
    θ_run (Cert.MixbInReferenceIdeal.defs (F := Ideal)) (onTc (τ := Cert.MixbInReferenceIdeal.τ) (Cert.MixbInReferenceIdeal.main (F := Ideal))) ⟨m, fun _ => 0, g⟩ (fun r => (∀ c : Dev Cert.MixbInReferenceIdeal.nD,
      r.2.mem ((c.tc : Thread Cert.MixbInReferenceIdeal.nD Cert.MixbInReferenceIdeal.τ).loc Cert.MixbInReferenceIdeal.main_arg0) = m ((c.tc : Thread Cert.MixbInReferenceIdeal.nD Cert.MixbInReferenceIdeal.τ).loc Cert.MixbInReferenceIdeal.main_arg0)
      ∧ r.2.mem ((c.tc : Thread Cert.MixbInReferenceIdeal.nD Cert.MixbInReferenceIdeal.τ).loc Cert.MixbInReferenceIdeal.main_arg1) = m ((c.tc : Thread Cert.MixbInReferenceIdeal.nD Cert.MixbInReferenceIdeal.τ).loc Cert.MixbInReferenceIdeal.main_arg1))
      ∧ r.2.sem = fun _ => 0)

def quiescent_ScaledDx [hScaledDx : Cert.ScaledDx.Facts] : Prop :=
  ∀ (m : (ℓ : Loc Cert.ScaledDx.nD Cert.ScaledDx.τ Cert.ScaledDx.sig) → Buf (Elt Bits) ℓ) (g : Dev Cert.ScaledDx.nD → PrngReg), Pre_ScaledDx m →
    θ_run (Cert.ScaledDx.defs (F := Bits)) (onTc (τ := Cert.ScaledDx.τ) (Cert.ScaledDx.main (F := Bits))) ⟨m, fun _ => 0, g⟩ (fun r => (∀ c : Dev Cert.ScaledDx.nD,
      r.2.mem ((c.tc : Thread Cert.ScaledDx.nD Cert.ScaledDx.τ).loc Cert.ScaledDx.main_arg0) = m ((c.tc : Thread Cert.ScaledDx.nD Cert.ScaledDx.τ).loc Cert.ScaledDx.main_arg0)
      ∧ r.2.mem ((c.tc : Thread Cert.ScaledDx.nD Cert.ScaledDx.τ).loc Cert.ScaledDx.main_arg1) = m ((c.tc : Thread Cert.ScaledDx.nD Cert.ScaledDx.τ).loc Cert.ScaledDx.main_arg1)
      ∧ r.2.mem ((c.tc : Thread Cert.ScaledDx.nD Cert.ScaledDx.τ).loc Cert.ScaledDx.main_arg2) = m ((c.tc : Thread Cert.ScaledDx.nD Cert.ScaledDx.τ).loc Cert.ScaledDx.main_arg2)
      ∧ r.2.mem ((c.tc : Thread Cert.ScaledDx.nD Cert.ScaledDx.τ).loc Cert.ScaledDx.main_arg3) = m ((c.tc : Thread Cert.ScaledDx.nD Cert.ScaledDx.τ).loc Cert.ScaledDx.main_arg3))
      ∧ r.2.sem = fun _ => 0)

def quiescent_ScaledDxIdeal [hScaledDxIdeal : Cert.ScaledDxIdeal.Facts] : Prop :=
  ∀ (m : (ℓ : Loc Cert.ScaledDxIdeal.nD Cert.ScaledDxIdeal.τ Cert.ScaledDxIdeal.sig) → Buf (Elt Ideal) ℓ) (g : Dev Cert.ScaledDxIdeal.nD → PrngReg), Pre_ScaledDxIdeal m →
    θ_run (Cert.ScaledDxIdeal.defs (F := Ideal)) (onTc (τ := Cert.ScaledDxIdeal.τ) (Cert.ScaledDxIdeal.main (F := Ideal))) ⟨m, fun _ => 0, g⟩ (fun r => (∀ c : Dev Cert.ScaledDxIdeal.nD,
      r.2.mem ((c.tc : Thread Cert.ScaledDxIdeal.nD Cert.ScaledDxIdeal.τ).loc Cert.ScaledDxIdeal.main_arg0) = m ((c.tc : Thread Cert.ScaledDxIdeal.nD Cert.ScaledDxIdeal.τ).loc Cert.ScaledDxIdeal.main_arg0)
      ∧ r.2.mem ((c.tc : Thread Cert.ScaledDxIdeal.nD Cert.ScaledDxIdeal.τ).loc Cert.ScaledDxIdeal.main_arg1) = m ((c.tc : Thread Cert.ScaledDxIdeal.nD Cert.ScaledDxIdeal.τ).loc Cert.ScaledDxIdeal.main_arg1)
      ∧ r.2.mem ((c.tc : Thread Cert.ScaledDxIdeal.nD Cert.ScaledDxIdeal.τ).loc Cert.ScaledDxIdeal.main_arg2) = m ((c.tc : Thread Cert.ScaledDxIdeal.nD Cert.ScaledDxIdeal.τ).loc Cert.ScaledDxIdeal.main_arg2)
      ∧ r.2.mem ((c.tc : Thread Cert.ScaledDxIdeal.nD Cert.ScaledDxIdeal.τ).loc Cert.ScaledDxIdeal.main_arg3) = m ((c.tc : Thread Cert.ScaledDxIdeal.nD Cert.ScaledDxIdeal.τ).loc Cert.ScaledDxIdeal.main_arg3))
      ∧ r.2.sem = fun _ => 0)

def quiescent_ScaledDxReferenceIdeal [hScaledDxReferenceIdeal : Cert.ScaledDxReferenceIdeal.Facts] : Prop :=
  ∀ (m : (ℓ : Loc Cert.ScaledDxReferenceIdeal.nD Cert.ScaledDxReferenceIdeal.τ Cert.ScaledDxReferenceIdeal.sig) → Buf (Elt Ideal) ℓ) (g : Dev Cert.ScaledDxReferenceIdeal.nD → PrngReg), Pre_ScaledDxReferenceIdeal m →
    θ_run (Cert.ScaledDxReferenceIdeal.defs (F := Ideal)) (onTc (τ := Cert.ScaledDxReferenceIdeal.τ) (Cert.ScaledDxReferenceIdeal.main (F := Ideal))) ⟨m, fun _ => 0, g⟩ (fun r => (∀ c : Dev Cert.ScaledDxReferenceIdeal.nD,
      r.2.mem ((c.tc : Thread Cert.ScaledDxReferenceIdeal.nD Cert.ScaledDxReferenceIdeal.τ).loc Cert.ScaledDxReferenceIdeal.main_arg0) = m ((c.tc : Thread Cert.ScaledDxReferenceIdeal.nD Cert.ScaledDxReferenceIdeal.τ).loc Cert.ScaledDxReferenceIdeal.main_arg0)
      ∧ r.2.mem ((c.tc : Thread Cert.ScaledDxReferenceIdeal.nD Cert.ScaledDxReferenceIdeal.τ).loc Cert.ScaledDxReferenceIdeal.main_arg1) = m ((c.tc : Thread Cert.ScaledDxReferenceIdeal.nD Cert.ScaledDxReferenceIdeal.τ).loc Cert.ScaledDxReferenceIdeal.main_arg1)
      ∧ r.2.mem ((c.tc : Thread Cert.ScaledDxReferenceIdeal.nD Cert.ScaledDxReferenceIdeal.τ).loc Cert.ScaledDxReferenceIdeal.main_arg2) = m ((c.tc : Thread Cert.ScaledDxReferenceIdeal.nD Cert.ScaledDxReferenceIdeal.τ).loc Cert.ScaledDxReferenceIdeal.main_arg2)
      ∧ r.2.mem ((c.tc : Thread Cert.ScaledDxReferenceIdeal.nD Cert.ScaledDxReferenceIdeal.τ).loc Cert.ScaledDxReferenceIdeal.main_arg3) = m ((c.tc : Thread Cert.ScaledDxReferenceIdeal.nD Cert.ScaledDxReferenceIdeal.τ).loc Cert.ScaledDxReferenceIdeal.main_arg3))
      ∧ r.2.sem = fun _ => 0)

def quiescent_GrpDx [hGrpDx : Cert.GrpDx.Facts] : Prop :=
  ∀ (m : (ℓ : Loc Cert.GrpDx.nD Cert.GrpDx.τ Cert.GrpDx.sig) → Buf (Elt Bits) ℓ) (g : Dev Cert.GrpDx.nD → PrngReg), Pre_GrpDx m →
    θ_run (Cert.GrpDx.defs (F := Bits)) (onTc (τ := Cert.GrpDx.τ) (Cert.GrpDx.main (F := Bits))) ⟨m, fun _ => 0, g⟩ (fun r => (∀ c : Dev Cert.GrpDx.nD,
      r.2.mem ((c.tc : Thread Cert.GrpDx.nD Cert.GrpDx.τ).loc Cert.GrpDx.main_arg0) = m ((c.tc : Thread Cert.GrpDx.nD Cert.GrpDx.τ).loc Cert.GrpDx.main_arg0)
      ∧ r.2.mem ((c.tc : Thread Cert.GrpDx.nD Cert.GrpDx.τ).loc Cert.GrpDx.main_arg1) = m ((c.tc : Thread Cert.GrpDx.nD Cert.GrpDx.τ).loc Cert.GrpDx.main_arg1)
      ∧ r.2.mem ((c.tc : Thread Cert.GrpDx.nD Cert.GrpDx.τ).loc Cert.GrpDx.main_arg2) = m ((c.tc : Thread Cert.GrpDx.nD Cert.GrpDx.τ).loc Cert.GrpDx.main_arg2))
      ∧ r.2.sem = fun _ => 0)

def quiescent_GrpDxIdeal [hGrpDxIdeal : Cert.GrpDxIdeal.Facts] : Prop :=
  ∀ (m : (ℓ : Loc Cert.GrpDxIdeal.nD Cert.GrpDxIdeal.τ Cert.GrpDxIdeal.sig) → Buf (Elt Ideal) ℓ) (g : Dev Cert.GrpDxIdeal.nD → PrngReg), Pre_GrpDxIdeal m →
    θ_run (Cert.GrpDxIdeal.defs (F := Ideal)) (onTc (τ := Cert.GrpDxIdeal.τ) (Cert.GrpDxIdeal.main (F := Ideal))) ⟨m, fun _ => 0, g⟩ (fun r => (∀ c : Dev Cert.GrpDxIdeal.nD,
      r.2.mem ((c.tc : Thread Cert.GrpDxIdeal.nD Cert.GrpDxIdeal.τ).loc Cert.GrpDxIdeal.main_arg0) = m ((c.tc : Thread Cert.GrpDxIdeal.nD Cert.GrpDxIdeal.τ).loc Cert.GrpDxIdeal.main_arg0)
      ∧ r.2.mem ((c.tc : Thread Cert.GrpDxIdeal.nD Cert.GrpDxIdeal.τ).loc Cert.GrpDxIdeal.main_arg1) = m ((c.tc : Thread Cert.GrpDxIdeal.nD Cert.GrpDxIdeal.τ).loc Cert.GrpDxIdeal.main_arg1)
      ∧ r.2.mem ((c.tc : Thread Cert.GrpDxIdeal.nD Cert.GrpDxIdeal.τ).loc Cert.GrpDxIdeal.main_arg2) = m ((c.tc : Thread Cert.GrpDxIdeal.nD Cert.GrpDxIdeal.τ).loc Cert.GrpDxIdeal.main_arg2))
      ∧ r.2.sem = fun _ => 0)

def quiescent_GrpDxReferenceIdeal [hGrpDxReferenceIdeal : Cert.GrpDxReferenceIdeal.Facts] : Prop :=
  ∀ (m : (ℓ : Loc Cert.GrpDxReferenceIdeal.nD Cert.GrpDxReferenceIdeal.τ Cert.GrpDxReferenceIdeal.sig) → Buf (Elt Ideal) ℓ) (g : Dev Cert.GrpDxReferenceIdeal.nD → PrngReg), Pre_GrpDxReferenceIdeal m →
    θ_run (Cert.GrpDxReferenceIdeal.defs (F := Ideal)) (onTc (τ := Cert.GrpDxReferenceIdeal.τ) (Cert.GrpDxReferenceIdeal.main (F := Ideal))) ⟨m, fun _ => 0, g⟩ (fun r => (∀ c : Dev Cert.GrpDxReferenceIdeal.nD,
      r.2.mem ((c.tc : Thread Cert.GrpDxReferenceIdeal.nD Cert.GrpDxReferenceIdeal.τ).loc Cert.GrpDxReferenceIdeal.main_arg0) = m ((c.tc : Thread Cert.GrpDxReferenceIdeal.nD Cert.GrpDxReferenceIdeal.τ).loc Cert.GrpDxReferenceIdeal.main_arg0)
      ∧ r.2.mem ((c.tc : Thread Cert.GrpDxReferenceIdeal.nD Cert.GrpDxReferenceIdeal.τ).loc Cert.GrpDxReferenceIdeal.main_arg1) = m ((c.tc : Thread Cert.GrpDxReferenceIdeal.nD Cert.GrpDxReferenceIdeal.τ).loc Cert.GrpDxReferenceIdeal.main_arg1)
      ∧ r.2.mem ((c.tc : Thread Cert.GrpDxReferenceIdeal.nD Cert.GrpDxReferenceIdeal.τ).loc Cert.GrpDxReferenceIdeal.main_arg2) = m ((c.tc : Thread Cert.GrpDxReferenceIdeal.nD Cert.GrpDxReferenceIdeal.τ).loc Cert.GrpDxReferenceIdeal.main_arg2))
      ∧ r.2.sem = fun _ => 0)

def quiescent_GrpDw [hGrpDw : Cert.GrpDw.Facts] : Prop :=
  ∀ (m : (ℓ : Loc Cert.GrpDw.nD Cert.GrpDw.τ Cert.GrpDw.sig) → Buf (Elt Bits) ℓ) (g : Dev Cert.GrpDw.nD → PrngReg), Pre_GrpDw m →
    θ_run (Cert.GrpDw.defs (F := Bits)) (onTc (τ := Cert.GrpDw.τ) (Cert.GrpDw.main (F := Bits))) ⟨m, fun _ => 0, g⟩ (fun r => (∀ c : Dev Cert.GrpDw.nD,
      r.2.mem ((c.tc : Thread Cert.GrpDw.nD Cert.GrpDw.τ).loc Cert.GrpDw.main_arg0) = m ((c.tc : Thread Cert.GrpDw.nD Cert.GrpDw.τ).loc Cert.GrpDw.main_arg0)
      ∧ r.2.mem ((c.tc : Thread Cert.GrpDw.nD Cert.GrpDw.τ).loc Cert.GrpDw.main_arg1) = m ((c.tc : Thread Cert.GrpDw.nD Cert.GrpDw.τ).loc Cert.GrpDw.main_arg1)
      ∧ r.2.mem ((c.tc : Thread Cert.GrpDw.nD Cert.GrpDw.τ).loc Cert.GrpDw.main_arg2) = m ((c.tc : Thread Cert.GrpDw.nD Cert.GrpDw.τ).loc Cert.GrpDw.main_arg2))
      ∧ r.2.sem = fun _ => 0)

def quiescent_GrpDwIdeal [hGrpDwIdeal : Cert.GrpDwIdeal.Facts] : Prop :=
  ∀ (m : (ℓ : Loc Cert.GrpDwIdeal.nD Cert.GrpDwIdeal.τ Cert.GrpDwIdeal.sig) → Buf (Elt Ideal) ℓ) (g : Dev Cert.GrpDwIdeal.nD → PrngReg), Pre_GrpDwIdeal m →
    θ_run (Cert.GrpDwIdeal.defs (F := Ideal)) (onTc (τ := Cert.GrpDwIdeal.τ) (Cert.GrpDwIdeal.main (F := Ideal))) ⟨m, fun _ => 0, g⟩ (fun r => (∀ c : Dev Cert.GrpDwIdeal.nD,
      r.2.mem ((c.tc : Thread Cert.GrpDwIdeal.nD Cert.GrpDwIdeal.τ).loc Cert.GrpDwIdeal.main_arg0) = m ((c.tc : Thread Cert.GrpDwIdeal.nD Cert.GrpDwIdeal.τ).loc Cert.GrpDwIdeal.main_arg0)
      ∧ r.2.mem ((c.tc : Thread Cert.GrpDwIdeal.nD Cert.GrpDwIdeal.τ).loc Cert.GrpDwIdeal.main_arg1) = m ((c.tc : Thread Cert.GrpDwIdeal.nD Cert.GrpDwIdeal.τ).loc Cert.GrpDwIdeal.main_arg1)
      ∧ r.2.mem ((c.tc : Thread Cert.GrpDwIdeal.nD Cert.GrpDwIdeal.τ).loc Cert.GrpDwIdeal.main_arg2) = m ((c.tc : Thread Cert.GrpDwIdeal.nD Cert.GrpDwIdeal.τ).loc Cert.GrpDwIdeal.main_arg2))
      ∧ r.2.sem = fun _ => 0)

def quiescent_GrpDwReferenceIdeal [hGrpDwReferenceIdeal : Cert.GrpDwReferenceIdeal.Facts] : Prop :=
  ∀ (m : (ℓ : Loc Cert.GrpDwReferenceIdeal.nD Cert.GrpDwReferenceIdeal.τ Cert.GrpDwReferenceIdeal.sig) → Buf (Elt Ideal) ℓ) (g : Dev Cert.GrpDwReferenceIdeal.nD → PrngReg), Pre_GrpDwReferenceIdeal m →
    θ_run (Cert.GrpDwReferenceIdeal.defs (F := Ideal)) (onTc (τ := Cert.GrpDwReferenceIdeal.τ) (Cert.GrpDwReferenceIdeal.main (F := Ideal))) ⟨m, fun _ => 0, g⟩ (fun r => (∀ c : Dev Cert.GrpDwReferenceIdeal.nD,
      r.2.mem ((c.tc : Thread Cert.GrpDwReferenceIdeal.nD Cert.GrpDwReferenceIdeal.τ).loc Cert.GrpDwReferenceIdeal.main_arg0) = m ((c.tc : Thread Cert.GrpDwReferenceIdeal.nD Cert.GrpDwReferenceIdeal.τ).loc Cert.GrpDwReferenceIdeal.main_arg0)
      ∧ r.2.mem ((c.tc : Thread Cert.GrpDwReferenceIdeal.nD Cert.GrpDwReferenceIdeal.τ).loc Cert.GrpDwReferenceIdeal.main_arg1) = m ((c.tc : Thread Cert.GrpDwReferenceIdeal.nD Cert.GrpDwReferenceIdeal.τ).loc Cert.GrpDwReferenceIdeal.main_arg1)
      ∧ r.2.mem ((c.tc : Thread Cert.GrpDwReferenceIdeal.nD Cert.GrpDwReferenceIdeal.τ).loc Cert.GrpDwReferenceIdeal.main_arg2) = m ((c.tc : Thread Cert.GrpDwReferenceIdeal.nD Cert.GrpDwReferenceIdeal.τ).loc Cert.GrpDwReferenceIdeal.main_arg2))
      ∧ r.2.sem = fun _ => 0)

def quiescent_Grp [hGrp : Cert.Grp.Facts] : Prop :=
  ∀ (m : (ℓ : Loc Cert.Grp.nD Cert.Grp.τ Cert.Grp.sig) → Buf (Elt Bits) ℓ) (g : Dev Cert.Grp.nD → PrngReg), Pre_Grp m →
    θ_run (Cert.Grp.defs (F := Bits)) (onTc (τ := Cert.Grp.τ) (Cert.Grp.main (F := Bits))) ⟨m, fun _ => 0, g⟩ (fun r => (∀ c : Dev Cert.Grp.nD,
      r.2.mem ((c.tc : Thread Cert.Grp.nD Cert.Grp.τ).loc Cert.Grp.main_arg0) = m ((c.tc : Thread Cert.Grp.nD Cert.Grp.τ).loc Cert.Grp.main_arg0)
      ∧ r.2.mem ((c.tc : Thread Cert.Grp.nD Cert.Grp.τ).loc Cert.Grp.main_arg1) = m ((c.tc : Thread Cert.Grp.nD Cert.Grp.τ).loc Cert.Grp.main_arg1)
      ∧ r.2.mem ((c.tc : Thread Cert.Grp.nD Cert.Grp.τ).loc Cert.Grp.main_arg2) = m ((c.tc : Thread Cert.Grp.nD Cert.Grp.τ).loc Cert.Grp.main_arg2))
      ∧ r.2.sem = fun _ => 0)

def quiescent_GrpIdeal [hGrpIdeal : Cert.GrpIdeal.Facts] : Prop :=
  ∀ (m : (ℓ : Loc Cert.GrpIdeal.nD Cert.GrpIdeal.τ Cert.GrpIdeal.sig) → Buf (Elt Ideal) ℓ) (g : Dev Cert.GrpIdeal.nD → PrngReg), Pre_GrpIdeal m →
    θ_run (Cert.GrpIdeal.defs (F := Ideal)) (onTc (τ := Cert.GrpIdeal.τ) (Cert.GrpIdeal.main (F := Ideal))) ⟨m, fun _ => 0, g⟩ (fun r => (∀ c : Dev Cert.GrpIdeal.nD,
      r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
      ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
      ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2))
      ∧ r.2.sem = fun _ => 0)

def quiescent_GrpReferenceIdeal [hGrpReferenceIdeal : Cert.GrpReferenceIdeal.Facts] : Prop :=
  ∀ (m : (ℓ : Loc Cert.GrpReferenceIdeal.nD Cert.GrpReferenceIdeal.τ Cert.GrpReferenceIdeal.sig) → Buf (Elt Ideal) ℓ) (g : Dev Cert.GrpReferenceIdeal.nD → PrngReg), Pre_GrpReferenceIdeal m →
    θ_run (Cert.GrpReferenceIdeal.defs (F := Ideal)) (onTc (τ := Cert.GrpReferenceIdeal.τ) (Cert.GrpReferenceIdeal.main (F := Ideal))) ⟨m, fun _ => 0, g⟩ (fun r => (∀ c : Dev Cert.GrpReferenceIdeal.nD,
      r.2.mem ((c.tc : Thread Cert.GrpReferenceIdeal.nD Cert.GrpReferenceIdeal.τ).loc Cert.GrpReferenceIdeal.main_arg0) = m ((c.tc : Thread Cert.GrpReferenceIdeal.nD Cert.GrpReferenceIdeal.τ).loc Cert.GrpReferenceIdeal.main_arg0)
      ∧ r.2.mem ((c.tc : Thread Cert.GrpReferenceIdeal.nD Cert.GrpReferenceIdeal.τ).loc Cert.GrpReferenceIdeal.main_arg1) = m ((c.tc : Thread Cert.GrpReferenceIdeal.nD Cert.GrpReferenceIdeal.τ).loc Cert.GrpReferenceIdeal.main_arg1)
      ∧ r.2.mem ((c.tc : Thread Cert.GrpReferenceIdeal.nD Cert.GrpReferenceIdeal.τ).loc Cert.GrpReferenceIdeal.main_arg2) = m ((c.tc : Thread Cert.GrpReferenceIdeal.nD Cert.GrpReferenceIdeal.τ).loc Cert.GrpReferenceIdeal.main_arg2))
      ∧ r.2.sem = fun _ => 0)

def quiescent_MixaGate [hMixaGate : Cert.MixaGate.Facts] : Prop :=
  ∀ (m : (ℓ : Loc Cert.MixaGate.nD Cert.MixaGate.τ Cert.MixaGate.sig) → Buf (Elt Bits) ℓ) (g : Dev Cert.MixaGate.nD → PrngReg), Pre_MixaGate m →
    θ_run (Cert.MixaGate.defs (F := Bits)) (onTc (τ := Cert.MixaGate.τ) (Cert.MixaGate.main (F := Bits))) ⟨m, fun _ => 0, g⟩ (fun r => (∀ c : Dev Cert.MixaGate.nD,
      r.2.mem ((c.tc : Thread Cert.MixaGate.nD Cert.MixaGate.τ).loc Cert.MixaGate.main_arg0) = m ((c.tc : Thread Cert.MixaGate.nD Cert.MixaGate.τ).loc Cert.MixaGate.main_arg0)
      ∧ r.2.mem ((c.tc : Thread Cert.MixaGate.nD Cert.MixaGate.τ).loc Cert.MixaGate.main_arg1) = m ((c.tc : Thread Cert.MixaGate.nD Cert.MixaGate.τ).loc Cert.MixaGate.main_arg1)
      ∧ r.2.mem ((c.tc : Thread Cert.MixaGate.nD Cert.MixaGate.τ).loc Cert.MixaGate.main_arg2) = m ((c.tc : Thread Cert.MixaGate.nD Cert.MixaGate.τ).loc Cert.MixaGate.main_arg2)
      ∧ r.2.mem ((c.tc : Thread Cert.MixaGate.nD Cert.MixaGate.τ).loc Cert.MixaGate.main_arg3) = m ((c.tc : Thread Cert.MixaGate.nD Cert.MixaGate.τ).loc Cert.MixaGate.main_arg3)
      ∧ r.2.mem ((c.tc : Thread Cert.MixaGate.nD Cert.MixaGate.τ).loc Cert.MixaGate.main_arg4) = m ((c.tc : Thread Cert.MixaGate.nD Cert.MixaGate.τ).loc Cert.MixaGate.main_arg4))
      ∧ r.2.sem = fun _ => 0)

def quiescent_MixaGateIdeal [hMixaGateIdeal : Cert.MixaGateIdeal.Facts] : Prop :=
  ∀ (m : (ℓ : Loc Cert.MixaGateIdeal.nD Cert.MixaGateIdeal.τ Cert.MixaGateIdeal.sig) → Buf (Elt Ideal) ℓ) (g : Dev Cert.MixaGateIdeal.nD → PrngReg), Pre_MixaGateIdeal m →
    θ_run (Cert.MixaGateIdeal.defs (F := Ideal)) (onTc (τ := Cert.MixaGateIdeal.τ) (Cert.MixaGateIdeal.main (F := Ideal))) ⟨m, fun _ => 0, g⟩ (fun r => (∀ c : Dev Cert.MixaGateIdeal.nD,
      r.2.mem ((c.tc : Thread Cert.MixaGateIdeal.nD Cert.MixaGateIdeal.τ).loc Cert.MixaGateIdeal.main_arg0) = m ((c.tc : Thread Cert.MixaGateIdeal.nD Cert.MixaGateIdeal.τ).loc Cert.MixaGateIdeal.main_arg0)
      ∧ r.2.mem ((c.tc : Thread Cert.MixaGateIdeal.nD Cert.MixaGateIdeal.τ).loc Cert.MixaGateIdeal.main_arg1) = m ((c.tc : Thread Cert.MixaGateIdeal.nD Cert.MixaGateIdeal.τ).loc Cert.MixaGateIdeal.main_arg1)
      ∧ r.2.mem ((c.tc : Thread Cert.MixaGateIdeal.nD Cert.MixaGateIdeal.τ).loc Cert.MixaGateIdeal.main_arg2) = m ((c.tc : Thread Cert.MixaGateIdeal.nD Cert.MixaGateIdeal.τ).loc Cert.MixaGateIdeal.main_arg2)
      ∧ r.2.mem ((c.tc : Thread Cert.MixaGateIdeal.nD Cert.MixaGateIdeal.τ).loc Cert.MixaGateIdeal.main_arg3) = m ((c.tc : Thread Cert.MixaGateIdeal.nD Cert.MixaGateIdeal.τ).loc Cert.MixaGateIdeal.main_arg3)
      ∧ r.2.mem ((c.tc : Thread Cert.MixaGateIdeal.nD Cert.MixaGateIdeal.τ).loc Cert.MixaGateIdeal.main_arg4) = m ((c.tc : Thread Cert.MixaGateIdeal.nD Cert.MixaGateIdeal.τ).loc Cert.MixaGateIdeal.main_arg4))
      ∧ r.2.sem = fun _ => 0)

def quiescent_MixaGateReferenceIdeal [hMixaGateReferenceIdeal : Cert.MixaGateReferenceIdeal.Facts] : Prop :=
  ∀ (m : (ℓ : Loc Cert.MixaGateReferenceIdeal.nD Cert.MixaGateReferenceIdeal.τ Cert.MixaGateReferenceIdeal.sig) → Buf (Elt Ideal) ℓ) (g : Dev Cert.MixaGateReferenceIdeal.nD → PrngReg), Pre_MixaGateReferenceIdeal m →
    θ_run (Cert.MixaGateReferenceIdeal.defs (F := Ideal)) (onTc (τ := Cert.MixaGateReferenceIdeal.τ) (Cert.MixaGateReferenceIdeal.main (F := Ideal))) ⟨m, fun _ => 0, g⟩ (fun r => (∀ c : Dev Cert.MixaGateReferenceIdeal.nD,
      r.2.mem ((c.tc : Thread Cert.MixaGateReferenceIdeal.nD Cert.MixaGateReferenceIdeal.τ).loc Cert.MixaGateReferenceIdeal.main_arg0) = m ((c.tc : Thread Cert.MixaGateReferenceIdeal.nD Cert.MixaGateReferenceIdeal.τ).loc Cert.MixaGateReferenceIdeal.main_arg0)
      ∧ r.2.mem ((c.tc : Thread Cert.MixaGateReferenceIdeal.nD Cert.MixaGateReferenceIdeal.τ).loc Cert.MixaGateReferenceIdeal.main_arg1) = m ((c.tc : Thread Cert.MixaGateReferenceIdeal.nD Cert.MixaGateReferenceIdeal.τ).loc Cert.MixaGateReferenceIdeal.main_arg1)
      ∧ r.2.mem ((c.tc : Thread Cert.MixaGateReferenceIdeal.nD Cert.MixaGateReferenceIdeal.τ).loc Cert.MixaGateReferenceIdeal.main_arg2) = m ((c.tc : Thread Cert.MixaGateReferenceIdeal.nD Cert.MixaGateReferenceIdeal.τ).loc Cert.MixaGateReferenceIdeal.main_arg2)
      ∧ r.2.mem ((c.tc : Thread Cert.MixaGateReferenceIdeal.nD Cert.MixaGateReferenceIdeal.τ).loc Cert.MixaGateReferenceIdeal.main_arg3) = m ((c.tc : Thread Cert.MixaGateReferenceIdeal.nD Cert.MixaGateReferenceIdeal.τ).loc Cert.MixaGateReferenceIdeal.main_arg3)
      ∧ r.2.mem ((c.tc : Thread Cert.MixaGateReferenceIdeal.nD Cert.MixaGateReferenceIdeal.τ).loc Cert.MixaGateReferenceIdeal.main_arg4) = m ((c.tc : Thread Cert.MixaGateReferenceIdeal.nD Cert.MixaGateReferenceIdeal.τ).loc Cert.MixaGateReferenceIdeal.main_arg4))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0))
      ∧ r.2.sem = fun _ => 0)

def quiescent_PoolDxIdeal_pre_finite_rows [hPoolDxIdeal : Cert.PoolDxIdeal.Facts] [hPre_finite_rows : Cert.Pre_finite_rows.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal_finite_rows m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0))
      ∧ r.2.sem = fun _ => 0)

def quiescent_PoolDxReferenceIdeal [hPoolDxReferenceIdeal : Cert.PoolDxReferenceIdeal.Facts] : Prop :=
  ∀ (m : (ℓ : Loc Cert.PoolDxReferenceIdeal.nD Cert.PoolDxReferenceIdeal.τ Cert.PoolDxReferenceIdeal.sig) → Buf (Elt Ideal) ℓ) (g : Dev Cert.PoolDxReferenceIdeal.nD → PrngReg), Pre_PoolDxReferenceIdeal m →
    θ_run (Cert.PoolDxReferenceIdeal.defs (F := Ideal)) (onTc (τ := Cert.PoolDxReferenceIdeal.τ) (Cert.PoolDxReferenceIdeal.main (F := Ideal))) ⟨m, fun _ => 0, g⟩ (fun r => (∀ c : Dev Cert.PoolDxReferenceIdeal.nD,
      r.2.mem ((c.tc : Thread Cert.PoolDxReferenceIdeal.nD Cert.PoolDxReferenceIdeal.τ).loc Cert.PoolDxReferenceIdeal.main_arg0) = m ((c.tc : Thread Cert.PoolDxReferenceIdeal.nD Cert.PoolDxReferenceIdeal.τ).loc Cert.PoolDxReferenceIdeal.main_arg0))
      ∧ r.2.sem = fun _ => 0)

def quiescent_PoolDxReferenceIdeal_pre_finite_rows [hPoolDxReferenceIdeal : Cert.PoolDxReferenceIdeal.Facts] [hPre_finite_rows : Cert.Pre_finite_rows.Facts] : Prop :=
  ∀ (m : (ℓ : Loc Cert.PoolDxReferenceIdeal.nD Cert.PoolDxReferenceIdeal.τ Cert.PoolDxReferenceIdeal.sig) → Buf (Elt Ideal) ℓ) (g : Dev Cert.PoolDxReferenceIdeal.nD → PrngReg), Pre_PoolDxReferenceIdeal_finite_rows m →
    θ_run (Cert.PoolDxReferenceIdeal.defs (F := Ideal)) (onTc (τ := Cert.PoolDxReferenceIdeal.τ) (Cert.PoolDxReferenceIdeal.main (F := Ideal))) ⟨m, fun _ => 0, g⟩ (fun r => (∀ c : Dev Cert.PoolDxReferenceIdeal.nD,
      r.2.mem ((c.tc : Thread Cert.PoolDxReferenceIdeal.nD Cert.PoolDxReferenceIdeal.τ).loc Cert.PoolDxReferenceIdeal.main_arg0) = m ((c.tc : Thread Cert.PoolDxReferenceIdeal.nD Cert.PoolDxReferenceIdeal.τ).loc Cert.PoolDxReferenceIdeal.main_arg0))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolIdeal_pre_finite_rows [hPoolIdeal : Cert.PoolIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_rows m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0))
      ∧ r.2.sem = fun _ => 0)

def quiescent_PoolReferenceIdeal_pre_finite_rows [hPoolReferenceIdeal : Cert.PoolReferenceIdeal.Facts] [hPre_finite_rows : Cert.Pre_finite_rows.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_rows m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v4)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v4) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v12) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v1) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v4) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownDwOther_DownDwOtherIdeal : Prop :=
  True

def algebraic_DownDwOtherIdeal_DownDwOtherReferenceIdeal [hDownDwOtherIdeal : Cert.DownDwOtherIdeal.Facts] [hDownDwOtherReferenceIdeal : Cert.DownDwOtherReferenceIdeal.Facts] [hPre_is_core : Cert.Pre_is_core.Facts] : Prop :=
  ∀ (m : (ℓ : Loc Cert.DownDwOtherIdeal.nD Cert.DownDwOtherIdeal.τ Cert.DownDwOtherIdeal.sig) → Buf (Elt Ideal) ℓ) (g : Dev Cert.DownDwOtherIdeal.nD → PrngReg)
    (m' : (ℓ : Loc Cert.DownDwOtherReferenceIdeal.nD Cert.DownDwOtherReferenceIdeal.τ Cert.DownDwOtherReferenceIdeal.sig) → Buf (Elt Ideal) ℓ) (g' : Dev Cert.DownDwOtherReferenceIdeal.nD → PrngReg), Pre_DownDwOtherIdeal m →
    (∀ c : Dev Cert.DownDwOtherIdeal.nD,
      m' ((c.tc : Thread Cert.DownDwOtherReferenceIdeal.nD Cert.DownDwOtherReferenceIdeal.τ).loc Cert.DownDwOtherReferenceIdeal.main_arg0) = m ((c.tc : Thread Cert.DownDwOtherIdeal.nD Cert.DownDwOtherIdeal.τ).loc Cert.DownDwOtherIdeal.main_arg0)
      ∧ m' ((c.tc : Thread Cert.DownDwOtherReferenceIdeal.nD Cert.DownDwOtherReferenceIdeal.τ).loc Cert.DownDwOtherReferenceIdeal.main_arg1) = m ((c.tc : Thread Cert.DownDwOtherIdeal.nD Cert.DownDwOtherIdeal.τ).loc Cert.DownDwOtherIdeal.main_arg1)
      ∧ m' ((c.tc : Thread Cert.DownDwOtherReferenceIdeal.nD Cert.DownDwOtherReferenceIdeal.τ).loc Cert.DownDwOtherReferenceIdeal.main_arg2) = m ((c.tc : Thread Cert.DownDwOtherIdeal.nD Cert.DownDwOtherIdeal.τ).loc Cert.DownDwOtherIdeal.main_arg2)) →
    ∃ (v0 : (c : Dev Cert.DownDwOtherIdeal.nD) → Buf (Elt Ideal) ((c.tc : Thread Cert.DownDwOtherIdeal.nD Cert.DownDwOtherIdeal.τ).loc Cert.DownDwOtherIdeal.main_v2)),
      θ_run (Cert.DownDwOtherIdeal.defs (F := Ideal)) (onTc (τ := Cert.DownDwOtherIdeal.τ) (Cert.DownDwOtherIdeal.main (F := Ideal))) ⟨m, fun _ => 0, g⟩ (fun r => ∀ c : Dev Cert.DownDwOtherIdeal.nD,
          r.2.mem ((c.tc : Thread Cert.DownDwOtherIdeal.nD Cert.DownDwOtherIdeal.τ).loc Cert.DownDwOtherIdeal.main_v2) = v0 c
          ∧ r.2.mem ((c.tc : Thread Cert.DownDwOtherIdeal.nD Cert.DownDwOtherIdeal.τ).loc Cert.DownDwOtherIdeal.main_arg0) = m ((c.tc : Thread Cert.DownDwOtherIdeal.nD Cert.DownDwOtherIdeal.τ).loc Cert.DownDwOtherIdeal.main_arg0)
          ∧ r.2.mem ((c.tc : Thread Cert.DownDwOtherIdeal.nD Cert.DownDwOtherIdeal.τ).loc Cert.DownDwOtherIdeal.main_arg1) = m ((c.tc : Thread Cert.DownDwOtherIdeal.nD Cert.DownDwOtherIdeal.τ).loc Cert.DownDwOtherIdeal.main_arg1)
          ∧ r.2.mem ((c.tc : Thread Cert.DownDwOtherIdeal.nD Cert.DownDwOtherIdeal.τ).loc Cert.DownDwOtherIdeal.main_arg2) = m ((c.tc : Thread Cert.DownDwOtherIdeal.nD Cert.DownDwOtherIdeal.τ).loc Cert.DownDwOtherIdeal.main_arg2))
      ∧ θ_run (Cert.DownDwOtherReferenceIdeal.defs (F := Ideal)) (onTc (τ := Cert.DownDwOtherReferenceIdeal.τ) (Cert.DownDwOtherReferenceIdeal.main (F := Ideal))) ⟨m', fun _ => 0, g'⟩ (fun r => ∀ c : Dev Cert.DownDwOtherReferenceIdeal.nD,
          r.2.mem ((c.tc : Thread Cert.DownDwOtherReferenceIdeal.nD Cert.DownDwOtherReferenceIdeal.τ).loc Cert.DownDwOtherReferenceIdeal.main_v12) = v0 c
          ∧ r.2.mem ((c.tc : Thread Cert.DownDwOtherReferenceIdeal.nD Cert.DownDwOtherReferenceIdeal.τ).loc Cert.DownDwOtherReferenceIdeal.main_arg0) = m' ((c.tc : Thread Cert.DownDwOtherReferenceIdeal.nD Cert.DownDwOtherReferenceIdeal.τ).loc Cert.DownDwOtherReferenceIdeal.main_arg0)
          ∧ r.2.mem ((c.tc : Thread Cert.DownDwOtherReferenceIdeal.nD Cert.DownDwOtherReferenceIdeal.τ).loc Cert.DownDwOtherReferenceIdeal.main_arg1) = m' ((c.tc : Thread Cert.DownDwOtherReferenceIdeal.nD Cert.DownDwOtherReferenceIdeal.τ).loc Cert.DownDwOtherReferenceIdeal.main_arg1)
          ∧ r.2.mem ((c.tc : Thread Cert.DownDwOtherReferenceIdeal.nD Cert.DownDwOtherReferenceIdeal.τ).loc Cert.DownDwOtherReferenceIdeal.main_arg2) = m' ((c.tc : Thread Cert.DownDwOtherReferenceIdeal.nD Cert.DownDwOtherReferenceIdeal.τ).loc Cert.DownDwOtherReferenceIdeal.main_arg2))

def preserves_DownDwOwn_DownDwOwnIdeal : Prop :=
  True

def algebraic_DownDwOwnIdeal_DownDwOwnReferenceIdeal [hDownDwOwnIdeal : Cert.DownDwOwnIdeal.Facts] [hDownDwOwnReferenceIdeal : Cert.DownDwOwnReferenceIdeal.Facts] [hPre_is_core_down_own : Cert.Pre_is_core_down_own.Facts] : Prop :=
  ∀ (m : (ℓ : Loc Cert.DownDwOwnIdeal.nD Cert.DownDwOwnIdeal.τ Cert.DownDwOwnIdeal.sig) → Buf (Elt Ideal) ℓ) (g : Dev Cert.DownDwOwnIdeal.nD → PrngReg)
    (m' : (ℓ : Loc Cert.DownDwOwnReferenceIdeal.nD Cert.DownDwOwnReferenceIdeal.τ Cert.DownDwOwnReferenceIdeal.sig) → Buf (Elt Ideal) ℓ) (g' : Dev Cert.DownDwOwnReferenceIdeal.nD → PrngReg), Pre_DownDwOwnIdeal m →
    (∀ c : Dev Cert.DownDwOwnIdeal.nD,
      m' ((c.tc : Thread Cert.DownDwOwnReferenceIdeal.nD Cert.DownDwOwnReferenceIdeal.τ).loc Cert.DownDwOwnReferenceIdeal.main_arg0) = m ((c.tc : Thread Cert.DownDwOwnIdeal.nD Cert.DownDwOwnIdeal.τ).loc Cert.DownDwOwnIdeal.main_arg0)
      ∧ m' ((c.tc : Thread Cert.DownDwOwnReferenceIdeal.nD Cert.DownDwOwnReferenceIdeal.τ).loc Cert.DownDwOwnReferenceIdeal.main_arg1) = m ((c.tc : Thread Cert.DownDwOwnIdeal.nD Cert.DownDwOwnIdeal.τ).loc Cert.DownDwOwnIdeal.main_arg1)
      ∧ m' ((c.tc : Thread Cert.DownDwOwnReferenceIdeal.nD Cert.DownDwOwnReferenceIdeal.τ).loc Cert.DownDwOwnReferenceIdeal.main_arg2) = m ((c.tc : Thread Cert.DownDwOwnIdeal.nD Cert.DownDwOwnIdeal.τ).loc Cert.DownDwOwnIdeal.main_arg2)
      ∧ m' ((c.tc : Thread Cert.DownDwOwnReferenceIdeal.nD Cert.DownDwOwnReferenceIdeal.τ).loc Cert.DownDwOwnReferenceIdeal.main_arg3) = m ((c.tc : Thread Cert.DownDwOwnIdeal.nD Cert.DownDwOwnIdeal.τ).loc Cert.DownDwOwnIdeal.main_arg3)) →
    ∃ (v0 : (c : Dev Cert.DownDwOwnIdeal.nD) → Buf (Elt Ideal) ((c.tc : Thread Cert.DownDwOwnIdeal.nD Cert.DownDwOwnIdeal.τ).loc Cert.DownDwOwnIdeal.main_v2)),
      θ_run (Cert.DownDwOwnIdeal.defs (F := Ideal)) (onTc (τ := Cert.DownDwOwnIdeal.τ) (Cert.DownDwOwnIdeal.main (F := Ideal))) ⟨m, fun _ => 0, g⟩ (fun r => ∀ c : Dev Cert.DownDwOwnIdeal.nD,
          r.2.mem ((c.tc : Thread Cert.DownDwOwnIdeal.nD Cert.DownDwOwnIdeal.τ).loc Cert.DownDwOwnIdeal.main_v2) = v0 c
          ∧ r.2.mem ((c.tc : Thread Cert.DownDwOwnIdeal.nD Cert.DownDwOwnIdeal.τ).loc Cert.DownDwOwnIdeal.main_arg0) = m ((c.tc : Thread Cert.DownDwOwnIdeal.nD Cert.DownDwOwnIdeal.τ).loc Cert.DownDwOwnIdeal.main_arg0)
          ∧ r.2.mem ((c.tc : Thread Cert.DownDwOwnIdeal.nD Cert.DownDwOwnIdeal.τ).loc Cert.DownDwOwnIdeal.main_arg1) = m ((c.tc : Thread Cert.DownDwOwnIdeal.nD Cert.DownDwOwnIdeal.τ).loc Cert.DownDwOwnIdeal.main_arg1)
          ∧ r.2.mem ((c.tc : Thread Cert.DownDwOwnIdeal.nD Cert.DownDwOwnIdeal.τ).loc Cert.DownDwOwnIdeal.main_arg2) = m ((c.tc : Thread Cert.DownDwOwnIdeal.nD Cert.DownDwOwnIdeal.τ).loc Cert.DownDwOwnIdeal.main_arg2)
          ∧ r.2.mem ((c.tc : Thread Cert.DownDwOwnIdeal.nD Cert.DownDwOwnIdeal.τ).loc Cert.DownDwOwnIdeal.main_arg3) = m ((c.tc : Thread Cert.DownDwOwnIdeal.nD Cert.DownDwOwnIdeal.τ).loc Cert.DownDwOwnIdeal.main_arg3))
      ∧ θ_run (Cert.DownDwOwnReferenceIdeal.defs (F := Ideal)) (onTc (τ := Cert.DownDwOwnReferenceIdeal.τ) (Cert.DownDwOwnReferenceIdeal.main (F := Ideal))) ⟨m', fun _ => 0, g'⟩ (fun r => ∀ c : Dev Cert.DownDwOwnReferenceIdeal.nD,
          r.2.mem ((c.tc : Thread Cert.DownDwOwnReferenceIdeal.nD Cert.DownDwOwnReferenceIdeal.τ).loc Cert.DownDwOwnReferenceIdeal.main_v14) = v0 c
          ∧ r.2.mem ((c.tc : Thread Cert.DownDwOwnReferenceIdeal.nD Cert.DownDwOwnReferenceIdeal.τ).loc Cert.DownDwOwnReferenceIdeal.main_arg0) = m' ((c.tc : Thread Cert.DownDwOwnReferenceIdeal.nD Cert.DownDwOwnReferenceIdeal.τ).loc Cert.DownDwOwnReferenceIdeal.main_arg0)
          ∧ r.2.mem ((c.tc : Thread Cert.DownDwOwnReferenceIdeal.nD Cert.DownDwOwnReferenceIdeal.τ).loc Cert.DownDwOwnReferenceIdeal.main_arg1) = m' ((c.tc : Thread Cert.DownDwOwnReferenceIdeal.nD Cert.DownDwOwnReferenceIdeal.τ).loc Cert.DownDwOwnReferenceIdeal.main_arg1)
          ∧ r.2.mem ((c.tc : Thread Cert.DownDwOwnReferenceIdeal.nD Cert.DownDwOwnReferenceIdeal.τ).loc Cert.DownDwOwnReferenceIdeal.main_arg2) = m' ((c.tc : Thread Cert.DownDwOwnReferenceIdeal.nD Cert.DownDwOwnReferenceIdeal.τ).loc Cert.DownDwOwnReferenceIdeal.main_arg2)
          ∧ r.2.mem ((c.tc : Thread Cert.DownDwOwnReferenceIdeal.nD Cert.DownDwOwnReferenceIdeal.τ).loc Cert.DownDwOwnReferenceIdeal.main_arg3) = m' ((c.tc : Thread Cert.DownDwOwnReferenceIdeal.nD Cert.DownDwOwnReferenceIdeal.τ).loc Cert.DownDwOwnReferenceIdeal.main_arg3))

def preserves_UpDwOther_UpDwOtherIdeal : Prop :=
  True

def algebraic_UpDwOtherIdeal_UpDwOtherReferenceIdeal [hUpDwOtherIdeal : Cert.UpDwOtherIdeal.Facts] [hUpDwOtherReferenceIdeal : Cert.UpDwOtherReferenceIdeal.Facts] [hPre_is_core_up : Cert.Pre_is_core_up.Facts] : Prop :=
  ∀ (m : (ℓ : Loc Cert.UpDwOtherIdeal.nD Cert.UpDwOtherIdeal.τ Cert.UpDwOtherIdeal.sig) → Buf (Elt Ideal) ℓ) (g : Dev Cert.UpDwOtherIdeal.nD → PrngReg)
    (m' : (ℓ : Loc Cert.UpDwOtherReferenceIdeal.nD Cert.UpDwOtherReferenceIdeal.τ Cert.UpDwOtherReferenceIdeal.sig) → Buf (Elt Ideal) ℓ) (g' : Dev Cert.UpDwOtherReferenceIdeal.nD → PrngReg), Pre_UpDwOtherIdeal m →
    (∀ c : Dev Cert.UpDwOtherIdeal.nD,
      m' ((c.tc : Thread Cert.UpDwOtherReferenceIdeal.nD Cert.UpDwOtherReferenceIdeal.τ).loc Cert.UpDwOtherReferenceIdeal.main_arg0) = m ((c.tc : Thread Cert.UpDwOtherIdeal.nD Cert.UpDwOtherIdeal.τ).loc Cert.UpDwOtherIdeal.main_arg0)
      ∧ m' ((c.tc : Thread Cert.UpDwOtherReferenceIdeal.nD Cert.UpDwOtherReferenceIdeal.τ).loc Cert.UpDwOtherReferenceIdeal.main_arg1) = m ((c.tc : Thread Cert.UpDwOtherIdeal.nD Cert.UpDwOtherIdeal.τ).loc Cert.UpDwOtherIdeal.main_arg1)
      ∧ m' ((c.tc : Thread Cert.UpDwOtherReferenceIdeal.nD Cert.UpDwOtherReferenceIdeal.τ).loc Cert.UpDwOtherReferenceIdeal.main_arg2) = m ((c.tc : Thread Cert.UpDwOtherIdeal.nD Cert.UpDwOtherIdeal.τ).loc Cert.UpDwOtherIdeal.main_arg2)) →
    ∃ (v0 : (c : Dev Cert.UpDwOtherIdeal.nD) → Buf (Elt Ideal) ((c.tc : Thread Cert.UpDwOtherIdeal.nD Cert.UpDwOtherIdeal.τ).loc Cert.UpDwOtherIdeal.main_v2)),
      θ_run (Cert.UpDwOtherIdeal.defs (F := Ideal)) (onTc (τ := Cert.UpDwOtherIdeal.τ) (Cert.UpDwOtherIdeal.main (F := Ideal))) ⟨m, fun _ => 0, g⟩ (fun r => ∀ c : Dev Cert.UpDwOtherIdeal.nD,
          r.2.mem ((c.tc : Thread Cert.UpDwOtherIdeal.nD Cert.UpDwOtherIdeal.τ).loc Cert.UpDwOtherIdeal.main_v2) = v0 c
          ∧ r.2.mem ((c.tc : Thread Cert.UpDwOtherIdeal.nD Cert.UpDwOtherIdeal.τ).loc Cert.UpDwOtherIdeal.main_arg0) = m ((c.tc : Thread Cert.UpDwOtherIdeal.nD Cert.UpDwOtherIdeal.τ).loc Cert.UpDwOtherIdeal.main_arg0)
          ∧ r.2.mem ((c.tc : Thread Cert.UpDwOtherIdeal.nD Cert.UpDwOtherIdeal.τ).loc Cert.UpDwOtherIdeal.main_arg1) = m ((c.tc : Thread Cert.UpDwOtherIdeal.nD Cert.UpDwOtherIdeal.τ).loc Cert.UpDwOtherIdeal.main_arg1)
          ∧ r.2.mem ((c.tc : Thread Cert.UpDwOtherIdeal.nD Cert.UpDwOtherIdeal.τ).loc Cert.UpDwOtherIdeal.main_arg2) = m ((c.tc : Thread Cert.UpDwOtherIdeal.nD Cert.UpDwOtherIdeal.τ).loc Cert.UpDwOtherIdeal.main_arg2))
      ∧ θ_run (Cert.UpDwOtherReferenceIdeal.defs (F := Ideal)) (onTc (τ := Cert.UpDwOtherReferenceIdeal.τ) (Cert.UpDwOtherReferenceIdeal.main (F := Ideal))) ⟨m', fun _ => 0, g'⟩ (fun r => ∀ c : Dev Cert.UpDwOtherReferenceIdeal.nD,
          r.2.mem ((c.tc : Thread Cert.UpDwOtherReferenceIdeal.nD Cert.UpDwOtherReferenceIdeal.τ).loc Cert.UpDwOtherReferenceIdeal.main_v13) = v0 c
          ∧ r.2.mem ((c.tc : Thread Cert.UpDwOtherReferenceIdeal.nD Cert.UpDwOtherReferenceIdeal.τ).loc Cert.UpDwOtherReferenceIdeal.main_arg0) = m' ((c.tc : Thread Cert.UpDwOtherReferenceIdeal.nD Cert.UpDwOtherReferenceIdeal.τ).loc Cert.UpDwOtherReferenceIdeal.main_arg0)
          ∧ r.2.mem ((c.tc : Thread Cert.UpDwOtherReferenceIdeal.nD Cert.UpDwOtherReferenceIdeal.τ).loc Cert.UpDwOtherReferenceIdeal.main_arg1) = m' ((c.tc : Thread Cert.UpDwOtherReferenceIdeal.nD Cert.UpDwOtherReferenceIdeal.τ).loc Cert.UpDwOtherReferenceIdeal.main_arg1)
          ∧ r.2.mem ((c.tc : Thread Cert.UpDwOtherReferenceIdeal.nD Cert.UpDwOtherReferenceIdeal.τ).loc Cert.UpDwOtherReferenceIdeal.main_arg2) = m' ((c.tc : Thread Cert.UpDwOtherReferenceIdeal.nD Cert.UpDwOtherReferenceIdeal.τ).loc Cert.UpDwOtherReferenceIdeal.main_arg2))

def preserves_UpDwOwn_UpDwOwnIdeal : Prop :=
  True

def algebraic_UpDwOwnIdeal_UpDwOwnReferenceIdeal [hUpDwOwnIdeal : Cert.UpDwOwnIdeal.Facts] [hUpDwOwnReferenceIdeal : Cert.UpDwOwnReferenceIdeal.Facts] [hPre_is_core_up_own : Cert.Pre_is_core_up_own.Facts] : Prop :=
  ∀ (m : (ℓ : Loc Cert.UpDwOwnIdeal.nD Cert.UpDwOwnIdeal.τ Cert.UpDwOwnIdeal.sig) → Buf (Elt Ideal) ℓ) (g : Dev Cert.UpDwOwnIdeal.nD → PrngReg)
    (m' : (ℓ : Loc Cert.UpDwOwnReferenceIdeal.nD Cert.UpDwOwnReferenceIdeal.τ Cert.UpDwOwnReferenceIdeal.sig) → Buf (Elt Ideal) ℓ) (g' : Dev Cert.UpDwOwnReferenceIdeal.nD → PrngReg), Pre_UpDwOwnIdeal m →
    (∀ c : Dev Cert.UpDwOwnIdeal.nD,
      m' ((c.tc : Thread Cert.UpDwOwnReferenceIdeal.nD Cert.UpDwOwnReferenceIdeal.τ).loc Cert.UpDwOwnReferenceIdeal.main_arg0) = m ((c.tc : Thread Cert.UpDwOwnIdeal.nD Cert.UpDwOwnIdeal.τ).loc Cert.UpDwOwnIdeal.main_arg0)
      ∧ m' ((c.tc : Thread Cert.UpDwOwnReferenceIdeal.nD Cert.UpDwOwnReferenceIdeal.τ).loc Cert.UpDwOwnReferenceIdeal.main_arg1) = m ((c.tc : Thread Cert.UpDwOwnIdeal.nD Cert.UpDwOwnIdeal.τ).loc Cert.UpDwOwnIdeal.main_arg1)
      ∧ m' ((c.tc : Thread Cert.UpDwOwnReferenceIdeal.nD Cert.UpDwOwnReferenceIdeal.τ).loc Cert.UpDwOwnReferenceIdeal.main_arg2) = m ((c.tc : Thread Cert.UpDwOwnIdeal.nD Cert.UpDwOwnIdeal.τ).loc Cert.UpDwOwnIdeal.main_arg2)
      ∧ m' ((c.tc : Thread Cert.UpDwOwnReferenceIdeal.nD Cert.UpDwOwnReferenceIdeal.τ).loc Cert.UpDwOwnReferenceIdeal.main_arg3) = m ((c.tc : Thread Cert.UpDwOwnIdeal.nD Cert.UpDwOwnIdeal.τ).loc Cert.UpDwOwnIdeal.main_arg3)) →
    ∃ (v0 : (c : Dev Cert.UpDwOwnIdeal.nD) → Buf (Elt Ideal) ((c.tc : Thread Cert.UpDwOwnIdeal.nD Cert.UpDwOwnIdeal.τ).loc Cert.UpDwOwnIdeal.main_v2)),
      θ_run (Cert.UpDwOwnIdeal.defs (F := Ideal)) (onTc (τ := Cert.UpDwOwnIdeal.τ) (Cert.UpDwOwnIdeal.main (F := Ideal))) ⟨m, fun _ => 0, g⟩ (fun r => ∀ c : Dev Cert.UpDwOwnIdeal.nD,
          r.2.mem ((c.tc : Thread Cert.UpDwOwnIdeal.nD Cert.UpDwOwnIdeal.τ).loc Cert.UpDwOwnIdeal.main_v2) = v0 c
          ∧ r.2.mem ((c.tc : Thread Cert.UpDwOwnIdeal.nD Cert.UpDwOwnIdeal.τ).loc Cert.UpDwOwnIdeal.main_arg0) = m ((c.tc : Thread Cert.UpDwOwnIdeal.nD Cert.UpDwOwnIdeal.τ).loc Cert.UpDwOwnIdeal.main_arg0)
          ∧ r.2.mem ((c.tc : Thread Cert.UpDwOwnIdeal.nD Cert.UpDwOwnIdeal.τ).loc Cert.UpDwOwnIdeal.main_arg1) = m ((c.tc : Thread Cert.UpDwOwnIdeal.nD Cert.UpDwOwnIdeal.τ).loc Cert.UpDwOwnIdeal.main_arg1)
          ∧ r.2.mem ((c.tc : Thread Cert.UpDwOwnIdeal.nD Cert.UpDwOwnIdeal.τ).loc Cert.UpDwOwnIdeal.main_arg2) = m ((c.tc : Thread Cert.UpDwOwnIdeal.nD Cert.UpDwOwnIdeal.τ).loc Cert.UpDwOwnIdeal.main_arg2)
          ∧ r.2.mem ((c.tc : Thread Cert.UpDwOwnIdeal.nD Cert.UpDwOwnIdeal.τ).loc Cert.UpDwOwnIdeal.main_arg3) = m ((c.tc : Thread Cert.UpDwOwnIdeal.nD Cert.UpDwOwnIdeal.τ).loc Cert.UpDwOwnIdeal.main_arg3))
      ∧ θ_run (Cert.UpDwOwnReferenceIdeal.defs (F := Ideal)) (onTc (τ := Cert.UpDwOwnReferenceIdeal.τ) (Cert.UpDwOwnReferenceIdeal.main (F := Ideal))) ⟨m', fun _ => 0, g'⟩ (fun r => ∀ c : Dev Cert.UpDwOwnReferenceIdeal.nD,
          r.2.mem ((c.tc : Thread Cert.UpDwOwnReferenceIdeal.nD Cert.UpDwOwnReferenceIdeal.τ).loc Cert.UpDwOwnReferenceIdeal.main_v15) = v0 c
          ∧ r.2.mem ((c.tc : Thread Cert.UpDwOwnReferenceIdeal.nD Cert.UpDwOwnReferenceIdeal.τ).loc Cert.UpDwOwnReferenceIdeal.main_arg0) = m' ((c.tc : Thread Cert.UpDwOwnReferenceIdeal.nD Cert.UpDwOwnReferenceIdeal.τ).loc Cert.UpDwOwnReferenceIdeal.main_arg0)
          ∧ r.2.mem ((c.tc : Thread Cert.UpDwOwnReferenceIdeal.nD Cert.UpDwOwnReferenceIdeal.τ).loc Cert.UpDwOwnReferenceIdeal.main_arg1) = m' ((c.tc : Thread Cert.UpDwOwnReferenceIdeal.nD Cert.UpDwOwnReferenceIdeal.τ).loc Cert.UpDwOwnReferenceIdeal.main_arg1)
          ∧ r.2.mem ((c.tc : Thread Cert.UpDwOwnReferenceIdeal.nD Cert.UpDwOwnReferenceIdeal.τ).loc Cert.UpDwOwnReferenceIdeal.main_arg2) = m' ((c.tc : Thread Cert.UpDwOwnReferenceIdeal.nD Cert.UpDwOwnReferenceIdeal.τ).loc Cert.UpDwOwnReferenceIdeal.main_arg2)
          ∧ r.2.mem ((c.tc : Thread Cert.UpDwOwnReferenceIdeal.nD Cert.UpDwOwnReferenceIdeal.τ).loc Cert.UpDwOwnReferenceIdeal.main_arg3) = m' ((c.tc : Thread Cert.UpDwOwnReferenceIdeal.nD Cert.UpDwOwnReferenceIdeal.τ).loc Cert.UpDwOwnReferenceIdeal.main_arg3))

def preserves_SquareDx_SquareDxIdeal : Prop :=
  True

def algebraic_SquareDxIdeal_SquareDxReferenceIdeal [hSquareDxIdeal : Cert.SquareDxIdeal.Facts] [hSquareDxReferenceIdeal : Cert.SquareDxReferenceIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxReferenceIdeal.nD Cert.SquareDxReferenceIdeal.τ Cert.SquareDxReferenceIdeal.sig) → Buf (Elt Ideal) ℓ) (g' : Dev Cert.SquareDxReferenceIdeal.nD → PrngReg), Pre_SquareDxIdeal m →
    (∀ c : Dev Cert.SquareDxIdeal.nD,
      m' ((c.tc : Thread Cert.SquareDxReferenceIdeal.nD Cert.SquareDxReferenceIdeal.τ).loc Cert.SquareDxReferenceIdeal.main_arg0) = m ((c.tc : Thread Cert.SquareDxIdeal.nD Cert.SquareDxIdeal.τ).loc Cert.SquareDxIdeal.main_arg0)
      ∧ m' ((c.tc : Thread Cert.SquareDxReferenceIdeal.nD Cert.SquareDxReferenceIdeal.τ).loc Cert.SquareDxReferenceIdeal.main_arg1) = m ((c.tc : Thread Cert.SquareDxIdeal.nD Cert.SquareDxIdeal.τ).loc Cert.SquareDxIdeal.main_arg1)
      ∧ m' ((c.tc : Thread Cert.SquareDxReferenceIdeal.nD Cert.SquareDxReferenceIdeal.τ).loc Cert.SquareDxReferenceIdeal.main_arg2) = m ((c.tc : Thread Cert.SquareDxIdeal.nD Cert.SquareDxIdeal.τ).loc Cert.SquareDxIdeal.main_arg2)) →
    ∃ (v0 : (c : Dev Cert.SquareDxIdeal.nD) → Buf (Elt Ideal) ((c.tc : Thread Cert.SquareDxIdeal.nD Cert.SquareDxIdeal.τ).loc Cert.SquareDxIdeal.main_v2)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v2) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1)
          ∧ r.2.mem ((c.tc : Thread Cert.SquareDxIdeal.nD Cert.SquareDxIdeal.τ).loc Cert.SquareDxIdeal.main_arg2) = m ((c.tc : Thread Cert.SquareDxIdeal.nD Cert.SquareDxIdeal.τ).loc Cert.SquareDxIdeal.main_arg2))
      ∧ θ_run (Cert.SquareDxReferenceIdeal.defs (F := Ideal)) (onTc (τ := Cert.SquareDxReferenceIdeal.τ) (Cert.SquareDxReferenceIdeal.main (F := Ideal))) ⟨m', fun _ => 0, g'⟩ (fun r => ∀ c : Dev Cert.SquareDxReferenceIdeal.nD,
          r.2.mem ((c.tc : Thread Cert.SquareDxReferenceIdeal.nD Cert.SquareDxReferenceIdeal.τ).loc Cert.SquareDxReferenceIdeal.main_v1) = v0 c
          ∧ r.2.mem ((c.tc : Thread Cert.SquareDxReferenceIdeal.nD Cert.SquareDxReferenceIdeal.τ).loc Cert.SquareDxReferenceIdeal.main_arg0) = m' ((c.tc : Thread Cert.SquareDxReferenceIdeal.nD Cert.SquareDxReferenceIdeal.τ).loc Cert.SquareDxReferenceIdeal.main_arg0)
          ∧ r.2.mem ((c.tc : Thread Cert.SquareDxReferenceIdeal.nD Cert.SquareDxReferenceIdeal.τ).loc Cert.SquareDxReferenceIdeal.main_arg1) = m' ((c.tc : Thread Cert.SquareDxReferenceIdeal.nD Cert.SquareDxReferenceIdeal.τ).loc Cert.SquareDxReferenceIdeal.main_arg1)
          ∧ r.2.mem ((c.tc : Thread Cert.SquareDxReferenceIdeal.nD Cert.SquareDxReferenceIdeal.τ).loc Cert.SquareDxReferenceIdeal.main_arg2) = m' ((c.tc : Thread Cert.SquareDxReferenceIdeal.nD Cert.SquareDxReferenceIdeal.τ).loc Cert.SquareDxReferenceIdeal.main_arg2))

def preserves_MixaInDx_MixaInDxIdeal : Prop :=
  True

def algebraic_MixaInDxIdeal_MixaInDxReferenceIdeal [hMixaInDxIdeal : Cert.MixaInDxIdeal.Facts] [hMixaInDxReferenceIdeal : Cert.MixaInDxReferenceIdeal.Facts] : Prop :=
  ∀ (m : (ℓ : Loc Cert.MixaInDxIdeal.nD Cert.MixaInDxIdeal.τ Cert.MixaInDxIdeal.sig) → Buf (Elt Ideal) ℓ) (g : Dev Cert.MixaInDxIdeal.nD → PrngReg)
    (m' : (ℓ : Loc Cert.MixaInDxReferenceIdeal.nD Cert.MixaInDxReferenceIdeal.τ Cert.MixaInDxReferenceIdeal.sig) → Buf (Elt Ideal) ℓ) (g' : Dev Cert.MixaInDxReferenceIdeal.nD → PrngReg), Pre_MixaInDxIdeal m →
    (∀ c : Dev Cert.MixaInDxIdeal.nD,
      m' ((c.tc : Thread Cert.MixaInDxReferenceIdeal.nD Cert.MixaInDxReferenceIdeal.τ).loc Cert.MixaInDxReferenceIdeal.main_arg0) = m ((c.tc : Thread Cert.MixaInDxIdeal.nD Cert.MixaInDxIdeal.τ).loc Cert.MixaInDxIdeal.main_arg0)
      ∧ m' ((c.tc : Thread Cert.MixaInDxReferenceIdeal.nD Cert.MixaInDxReferenceIdeal.τ).loc Cert.MixaInDxReferenceIdeal.main_arg1) = m ((c.tc : Thread Cert.MixaInDxIdeal.nD Cert.MixaInDxIdeal.τ).loc Cert.MixaInDxIdeal.main_arg1)
      ∧ m' ((c.tc : Thread Cert.MixaInDxReferenceIdeal.nD Cert.MixaInDxReferenceIdeal.τ).loc Cert.MixaInDxReferenceIdeal.main_arg2) = m ((c.tc : Thread Cert.MixaInDxIdeal.nD Cert.MixaInDxIdeal.τ).loc Cert.MixaInDxIdeal.main_arg2)) →
    ∃ (v0 : (c : Dev Cert.MixaInDxIdeal.nD) → Buf (Elt Ideal) ((c.tc : Thread Cert.MixaInDxIdeal.nD Cert.MixaInDxIdeal.τ).loc Cert.MixaInDxIdeal.main_v4)),
      θ_run (Cert.MixaInDxIdeal.defs (F := Ideal)) (onTc (τ := Cert.MixaInDxIdeal.τ) (Cert.MixaInDxIdeal.main (F := Ideal))) ⟨m, fun _ => 0, g⟩ (fun r => ∀ c : Dev Cert.MixaInDxIdeal.nD,
          r.2.mem ((c.tc : Thread Cert.MixaInDxIdeal.nD Cert.MixaInDxIdeal.τ).loc Cert.MixaInDxIdeal.main_v4) = v0 c
          ∧ r.2.mem ((c.tc : Thread Cert.MixaInDxIdeal.nD Cert.MixaInDxIdeal.τ).loc Cert.MixaInDxIdeal.main_arg0) = m ((c.tc : Thread Cert.MixaInDxIdeal.nD Cert.MixaInDxIdeal.τ).loc Cert.MixaInDxIdeal.main_arg0)
          ∧ r.2.mem ((c.tc : Thread Cert.MixaInDxIdeal.nD Cert.MixaInDxIdeal.τ).loc Cert.MixaInDxIdeal.main_arg1) = m ((c.tc : Thread Cert.MixaInDxIdeal.nD Cert.MixaInDxIdeal.τ).loc Cert.MixaInDxIdeal.main_arg1)
          ∧ r.2.mem ((c.tc : Thread Cert.MixaInDxIdeal.nD Cert.MixaInDxIdeal.τ).loc Cert.MixaInDxIdeal.main_arg2) = m ((c.tc : Thread Cert.MixaInDxIdeal.nD Cert.MixaInDxIdeal.τ).loc Cert.MixaInDxIdeal.main_arg2))
      ∧ θ_run (Cert.MixaInDxReferenceIdeal.defs (F := Ideal)) (onTc (τ := Cert.MixaInDxReferenceIdeal.τ) (Cert.MixaInDxReferenceIdeal.main (F := Ideal))) ⟨m', fun _ => 0, g'⟩ (fun r => ∀ c : Dev Cert.MixaInDxReferenceIdeal.nD,
          r.2.mem ((c.tc : Thread Cert.MixaInDxReferenceIdeal.nD Cert.MixaInDxReferenceIdeal.τ).loc Cert.MixaInDxReferenceIdeal.main_v1) = v0 c
          ∧ r.2.mem ((c.tc : Thread Cert.MixaInDxReferenceIdeal.nD Cert.MixaInDxReferenceIdeal.τ).loc Cert.MixaInDxReferenceIdeal.main_arg0) = m' ((c.tc : Thread Cert.MixaInDxReferenceIdeal.nD Cert.MixaInDxReferenceIdeal.τ).loc Cert.MixaInDxReferenceIdeal.main_arg0)
          ∧ r.2.mem ((c.tc : Thread Cert.MixaInDxReferenceIdeal.nD Cert.MixaInDxReferenceIdeal.τ).loc Cert.MixaInDxReferenceIdeal.main_arg1) = m' ((c.tc : Thread Cert.MixaInDxReferenceIdeal.nD Cert.MixaInDxReferenceIdeal.τ).loc Cert.MixaInDxReferenceIdeal.main_arg1)
          ∧ r.2.mem ((c.tc : Thread Cert.MixaInDxReferenceIdeal.nD Cert.MixaInDxReferenceIdeal.τ).loc Cert.MixaInDxReferenceIdeal.main_arg2) = m' ((c.tc : Thread Cert.MixaInDxReferenceIdeal.nD Cert.MixaInDxReferenceIdeal.τ).loc Cert.MixaInDxReferenceIdeal.main_arg2))

def preserves_SquareDwOther_SquareDwOtherIdeal : Prop :=
  True

def algebraic_SquareDwOtherIdeal_SquareDwOtherReferenceIdeal [hSquareDwOtherIdeal : Cert.SquareDwOtherIdeal.Facts] [hSquareDwOtherReferenceIdeal : Cert.SquareDwOtherReferenceIdeal.Facts] [hPre_is_core_square : Cert.Pre_is_core_square.Facts] : Prop :=
  ∀ (m : (ℓ : Loc Cert.SquareDwOtherIdeal.nD Cert.SquareDwOtherIdeal.τ Cert.SquareDwOtherIdeal.sig) → Buf (Elt Ideal) ℓ) (g : Dev Cert.SquareDwOtherIdeal.nD → PrngReg)
    (m' : (ℓ : Loc Cert.SquareDwOtherReferenceIdeal.nD Cert.SquareDwOtherReferenceIdeal.τ Cert.SquareDwOtherReferenceIdeal.sig) → Buf (Elt Ideal) ℓ) (g' : Dev Cert.SquareDwOtherReferenceIdeal.nD → PrngReg), Pre_SquareDwOtherIdeal m →
    (∀ c : Dev Cert.SquareDwOtherIdeal.nD,
      m' ((c.tc : Thread Cert.SquareDwOtherReferenceIdeal.nD Cert.SquareDwOtherReferenceIdeal.τ).loc Cert.SquareDwOtherReferenceIdeal.main_arg0) = m ((c.tc : Thread Cert.SquareDwOtherIdeal.nD Cert.SquareDwOtherIdeal.τ).loc Cert.SquareDwOtherIdeal.main_arg0)
      ∧ m' ((c.tc : Thread Cert.SquareDwOtherReferenceIdeal.nD Cert.SquareDwOtherReferenceIdeal.τ).loc Cert.SquareDwOtherReferenceIdeal.main_arg1) = m ((c.tc : Thread Cert.SquareDwOtherIdeal.nD Cert.SquareDwOtherIdeal.τ).loc Cert.SquareDwOtherIdeal.main_arg1)
      ∧ m' ((c.tc : Thread Cert.SquareDwOtherReferenceIdeal.nD Cert.SquareDwOtherReferenceIdeal.τ).loc Cert.SquareDwOtherReferenceIdeal.main_arg2) = m ((c.tc : Thread Cert.SquareDwOtherIdeal.nD Cert.SquareDwOtherIdeal.τ).loc Cert.SquareDwOtherIdeal.main_arg2)) →
    ∃ (v0 : (c : Dev Cert.SquareDwOtherIdeal.nD) → Buf (Elt Ideal) ((c.tc : Thread Cert.SquareDwOtherIdeal.nD Cert.SquareDwOtherIdeal.τ).loc Cert.SquareDwOtherIdeal.main_v2)),
      θ_run (Cert.SquareDwOtherIdeal.defs (F := Ideal)) (onTc (τ := Cert.SquareDwOtherIdeal.τ) (Cert.SquareDwOtherIdeal.main (F := Ideal))) ⟨m, fun _ => 0, g⟩ (fun r => ∀ c : Dev Cert.SquareDwOtherIdeal.nD,
          r.2.mem ((c.tc : Thread Cert.SquareDwOtherIdeal.nD Cert.SquareDwOtherIdeal.τ).loc Cert.SquareDwOtherIdeal.main_v2) = v0 c
          ∧ r.2.mem ((c.tc : Thread Cert.SquareDwOtherIdeal.nD Cert.SquareDwOtherIdeal.τ).loc Cert.SquareDwOtherIdeal.main_arg0) = m ((c.tc : Thread Cert.SquareDwOtherIdeal.nD Cert.SquareDwOtherIdeal.τ).loc Cert.SquareDwOtherIdeal.main_arg0)
          ∧ r.2.mem ((c.tc : Thread Cert.SquareDwOtherIdeal.nD Cert.SquareDwOtherIdeal.τ).loc Cert.SquareDwOtherIdeal.main_arg1) = m ((c.tc : Thread Cert.SquareDwOtherIdeal.nD Cert.SquareDwOtherIdeal.τ).loc Cert.SquareDwOtherIdeal.main_arg1)
          ∧ r.2.mem ((c.tc : Thread Cert.SquareDwOtherIdeal.nD Cert.SquareDwOtherIdeal.τ).loc Cert.SquareDwOtherIdeal.main_arg2) = m ((c.tc : Thread Cert.SquareDwOtherIdeal.nD Cert.SquareDwOtherIdeal.τ).loc Cert.SquareDwOtherIdeal.main_arg2))
      ∧ θ_run (Cert.SquareDwOtherReferenceIdeal.defs (F := Ideal)) (onTc (τ := Cert.SquareDwOtherReferenceIdeal.τ) (Cert.SquareDwOtherReferenceIdeal.main (F := Ideal))) ⟨m', fun _ => 0, g'⟩ (fun r => ∀ c : Dev Cert.SquareDwOtherReferenceIdeal.nD,
          r.2.mem ((c.tc : Thread Cert.SquareDwOtherReferenceIdeal.nD Cert.SquareDwOtherReferenceIdeal.τ).loc Cert.SquareDwOtherReferenceIdeal.main_v12) = v0 c
          ∧ r.2.mem ((c.tc : Thread Cert.SquareDwOtherReferenceIdeal.nD Cert.SquareDwOtherReferenceIdeal.τ).loc Cert.SquareDwOtherReferenceIdeal.main_arg0) = m' ((c.tc : Thread Cert.SquareDwOtherReferenceIdeal.nD Cert.SquareDwOtherReferenceIdeal.τ).loc Cert.SquareDwOtherReferenceIdeal.main_arg0)
          ∧ r.2.mem ((c.tc : Thread Cert.SquareDwOtherReferenceIdeal.nD Cert.SquareDwOtherReferenceIdeal.τ).loc Cert.SquareDwOtherReferenceIdeal.main_arg1) = m' ((c.tc : Thread Cert.SquareDwOtherReferenceIdeal.nD Cert.SquareDwOtherReferenceIdeal.τ).loc Cert.SquareDwOtherReferenceIdeal.main_arg1)
          ∧ r.2.mem ((c.tc : Thread Cert.SquareDwOtherReferenceIdeal.nD Cert.SquareDwOtherReferenceIdeal.τ).loc Cert.SquareDwOtherReferenceIdeal.main_arg2) = m' ((c.tc : Thread Cert.SquareDwOtherReferenceIdeal.nD Cert.SquareDwOtherReferenceIdeal.τ).loc Cert.SquareDwOtherReferenceIdeal.main_arg2))

def preserves_SquareDwOwn_SquareDwOwnIdeal : Prop :=
  True

def algebraic_SquareDwOwnIdeal_SquareDwOwnReferenceIdeal [hSquareDwOwnIdeal : Cert.SquareDwOwnIdeal.Facts] [hSquareDwOwnReferenceIdeal : Cert.SquareDwOwnReferenceIdeal.Facts] [hPre_is_core_square_own : Cert.Pre_is_core_square_own.Facts] : Prop :=
  ∀ (m : (ℓ : Loc Cert.SquareDwOwnIdeal.nD Cert.SquareDwOwnIdeal.τ Cert.SquareDwOwnIdeal.sig) → Buf (Elt Ideal) ℓ) (g : Dev Cert.SquareDwOwnIdeal.nD → PrngReg)
    (m' : (ℓ : Loc Cert.SquareDwOwnReferenceIdeal.nD Cert.SquareDwOwnReferenceIdeal.τ Cert.SquareDwOwnReferenceIdeal.sig) → Buf (Elt Ideal) ℓ) (g' : Dev Cert.SquareDwOwnReferenceIdeal.nD → PrngReg), Pre_SquareDwOwnIdeal m →
    (∀ c : Dev Cert.SquareDwOwnIdeal.nD,
      m' ((c.tc : Thread Cert.SquareDwOwnReferenceIdeal.nD Cert.SquareDwOwnReferenceIdeal.τ).loc Cert.SquareDwOwnReferenceIdeal.main_arg0) = m ((c.tc : Thread Cert.SquareDwOwnIdeal.nD Cert.SquareDwOwnIdeal.τ).loc Cert.SquareDwOwnIdeal.main_arg0)
      ∧ m' ((c.tc : Thread Cert.SquareDwOwnReferenceIdeal.nD Cert.SquareDwOwnReferenceIdeal.τ).loc Cert.SquareDwOwnReferenceIdeal.main_arg1) = m ((c.tc : Thread Cert.SquareDwOwnIdeal.nD Cert.SquareDwOwnIdeal.τ).loc Cert.SquareDwOwnIdeal.main_arg1)
      ∧ m' ((c.tc : Thread Cert.SquareDwOwnReferenceIdeal.nD Cert.SquareDwOwnReferenceIdeal.τ).loc Cert.SquareDwOwnReferenceIdeal.main_arg2) = m ((c.tc : Thread Cert.SquareDwOwnIdeal.nD Cert.SquareDwOwnIdeal.τ).loc Cert.SquareDwOwnIdeal.main_arg2)
      ∧ m' ((c.tc : Thread Cert.SquareDwOwnReferenceIdeal.nD Cert.SquareDwOwnReferenceIdeal.τ).loc Cert.SquareDwOwnReferenceIdeal.main_arg3) = m ((c.tc : Thread Cert.SquareDwOwnIdeal.nD Cert.SquareDwOwnIdeal.τ).loc Cert.SquareDwOwnIdeal.main_arg3)) →
    ∃ (v0 : (c : Dev Cert.SquareDwOwnIdeal.nD) → Buf (Elt Ideal) ((c.tc : Thread Cert.SquareDwOwnIdeal.nD Cert.SquareDwOwnIdeal.τ).loc Cert.SquareDwOwnIdeal.main_v2)),
      θ_run (Cert.SquareDwOwnIdeal.defs (F := Ideal)) (onTc (τ := Cert.SquareDwOwnIdeal.τ) (Cert.SquareDwOwnIdeal.main (F := Ideal))) ⟨m, fun _ => 0, g⟩ (fun r => ∀ c : Dev Cert.SquareDwOwnIdeal.nD,
          r.2.mem ((c.tc : Thread Cert.SquareDwOwnIdeal.nD Cert.SquareDwOwnIdeal.τ).loc Cert.SquareDwOwnIdeal.main_v2) = v0 c
          ∧ r.2.mem ((c.tc : Thread Cert.SquareDwOwnIdeal.nD Cert.SquareDwOwnIdeal.τ).loc Cert.SquareDwOwnIdeal.main_arg0) = m ((c.tc : Thread Cert.SquareDwOwnIdeal.nD Cert.SquareDwOwnIdeal.τ).loc Cert.SquareDwOwnIdeal.main_arg0)
          ∧ r.2.mem ((c.tc : Thread Cert.SquareDwOwnIdeal.nD Cert.SquareDwOwnIdeal.τ).loc Cert.SquareDwOwnIdeal.main_arg1) = m ((c.tc : Thread Cert.SquareDwOwnIdeal.nD Cert.SquareDwOwnIdeal.τ).loc Cert.SquareDwOwnIdeal.main_arg1)
          ∧ r.2.mem ((c.tc : Thread Cert.SquareDwOwnIdeal.nD Cert.SquareDwOwnIdeal.τ).loc Cert.SquareDwOwnIdeal.main_arg2) = m ((c.tc : Thread Cert.SquareDwOwnIdeal.nD Cert.SquareDwOwnIdeal.τ).loc Cert.SquareDwOwnIdeal.main_arg2)
          ∧ r.2.mem ((c.tc : Thread Cert.SquareDwOwnIdeal.nD Cert.SquareDwOwnIdeal.τ).loc Cert.SquareDwOwnIdeal.main_arg3) = m ((c.tc : Thread Cert.SquareDwOwnIdeal.nD Cert.SquareDwOwnIdeal.τ).loc Cert.SquareDwOwnIdeal.main_arg3))
      ∧ θ_run (Cert.SquareDwOwnReferenceIdeal.defs (F := Ideal)) (onTc (τ := Cert.SquareDwOwnReferenceIdeal.τ) (Cert.SquareDwOwnReferenceIdeal.main (F := Ideal))) ⟨m', fun _ => 0, g'⟩ (fun r => ∀ c : Dev Cert.SquareDwOwnReferenceIdeal.nD,
          r.2.mem ((c.tc : Thread Cert.SquareDwOwnReferenceIdeal.nD Cert.SquareDwOwnReferenceIdeal.τ).loc Cert.SquareDwOwnReferenceIdeal.main_v14) = v0 c
          ∧ r.2.mem ((c.tc : Thread Cert.SquareDwOwnReferenceIdeal.nD Cert.SquareDwOwnReferenceIdeal.τ).loc Cert.SquareDwOwnReferenceIdeal.main_arg0) = m' ((c.tc : Thread Cert.SquareDwOwnReferenceIdeal.nD Cert.SquareDwOwnReferenceIdeal.τ).loc Cert.SquareDwOwnReferenceIdeal.main_arg0)
          ∧ r.2.mem ((c.tc : Thread Cert.SquareDwOwnReferenceIdeal.nD Cert.SquareDwOwnReferenceIdeal.τ).loc Cert.SquareDwOwnReferenceIdeal.main_arg1) = m' ((c.tc : Thread Cert.SquareDwOwnReferenceIdeal.nD Cert.SquareDwOwnReferenceIdeal.τ).loc Cert.SquareDwOwnReferenceIdeal.main_arg1)
          ∧ r.2.mem ((c.tc : Thread Cert.SquareDwOwnReferenceIdeal.nD Cert.SquareDwOwnReferenceIdeal.τ).loc Cert.SquareDwOwnReferenceIdeal.main_arg2) = m' ((c.tc : Thread Cert.SquareDwOwnReferenceIdeal.nD Cert.SquareDwOwnReferenceIdeal.τ).loc Cert.SquareDwOwnReferenceIdeal.main_arg2)
          ∧ r.2.mem ((c.tc : Thread Cert.SquareDwOwnReferenceIdeal.nD Cert.SquareDwOwnReferenceIdeal.τ).loc Cert.SquareDwOwnReferenceIdeal.main_arg3) = m' ((c.tc : Thread Cert.SquareDwOwnReferenceIdeal.nD Cert.SquareDwOwnReferenceIdeal.τ).loc Cert.SquareDwOwnReferenceIdeal.main_arg3))

def preserves_MixaInDwOther_MixaInDwOtherIdeal : Prop :=
  True

def algebraic_MixaInDwOtherIdeal_MixaInDwOtherReferenceIdeal [hMixaInDwOtherIdeal : Cert.MixaInDwOtherIdeal.Facts] [hMixaInDwOtherReferenceIdeal : Cert.MixaInDwOtherReferenceIdeal.Facts] [hPre_is_core_mixa : Cert.Pre_is_core_mixa.Facts] : Prop :=
  ∀ (m : (ℓ : Loc Cert.MixaInDwOtherIdeal.nD Cert.MixaInDwOtherIdeal.τ Cert.MixaInDwOtherIdeal.sig) → Buf (Elt Ideal) ℓ) (g : Dev Cert.MixaInDwOtherIdeal.nD → PrngReg)
    (m' : (ℓ : Loc Cert.MixaInDwOtherReferenceIdeal.nD Cert.MixaInDwOtherReferenceIdeal.τ Cert.MixaInDwOtherReferenceIdeal.sig) → Buf (Elt Ideal) ℓ) (g' : Dev Cert.MixaInDwOtherReferenceIdeal.nD → PrngReg), Pre_MixaInDwOtherIdeal m →
    (∀ c : Dev Cert.MixaInDwOtherIdeal.nD,
      m' ((c.tc : Thread Cert.MixaInDwOtherReferenceIdeal.nD Cert.MixaInDwOtherReferenceIdeal.τ).loc Cert.MixaInDwOtherReferenceIdeal.main_arg0) = m ((c.tc : Thread Cert.MixaInDwOtherIdeal.nD Cert.MixaInDwOtherIdeal.τ).loc Cert.MixaInDwOtherIdeal.main_arg0)
      ∧ m' ((c.tc : Thread Cert.MixaInDwOtherReferenceIdeal.nD Cert.MixaInDwOtherReferenceIdeal.τ).loc Cert.MixaInDwOtherReferenceIdeal.main_arg1) = m ((c.tc : Thread Cert.MixaInDwOtherIdeal.nD Cert.MixaInDwOtherIdeal.τ).loc Cert.MixaInDwOtherIdeal.main_arg1)
      ∧ m' ((c.tc : Thread Cert.MixaInDwOtherReferenceIdeal.nD Cert.MixaInDwOtherReferenceIdeal.τ).loc Cert.MixaInDwOtherReferenceIdeal.main_arg2) = m ((c.tc : Thread Cert.MixaInDwOtherIdeal.nD Cert.MixaInDwOtherIdeal.τ).loc Cert.MixaInDwOtherIdeal.main_arg2)) →
    ∃ (v0 : (c : Dev Cert.MixaInDwOtherIdeal.nD) → Buf (Elt Ideal) ((c.tc : Thread Cert.MixaInDwOtherIdeal.nD Cert.MixaInDwOtherIdeal.τ).loc Cert.MixaInDwOtherIdeal.main_v2)),
      θ_run (Cert.MixaInDwOtherIdeal.defs (F := Ideal)) (onTc (τ := Cert.MixaInDwOtherIdeal.τ) (Cert.MixaInDwOtherIdeal.main (F := Ideal))) ⟨m, fun _ => 0, g⟩ (fun r => ∀ c : Dev Cert.MixaInDwOtherIdeal.nD,
          r.2.mem ((c.tc : Thread Cert.MixaInDwOtherIdeal.nD Cert.MixaInDwOtherIdeal.τ).loc Cert.MixaInDwOtherIdeal.main_v2) = v0 c
          ∧ r.2.mem ((c.tc : Thread Cert.MixaInDwOtherIdeal.nD Cert.MixaInDwOtherIdeal.τ).loc Cert.MixaInDwOtherIdeal.main_arg0) = m ((c.tc : Thread Cert.MixaInDwOtherIdeal.nD Cert.MixaInDwOtherIdeal.τ).loc Cert.MixaInDwOtherIdeal.main_arg0)
          ∧ r.2.mem ((c.tc : Thread Cert.MixaInDwOtherIdeal.nD Cert.MixaInDwOtherIdeal.τ).loc Cert.MixaInDwOtherIdeal.main_arg1) = m ((c.tc : Thread Cert.MixaInDwOtherIdeal.nD Cert.MixaInDwOtherIdeal.τ).loc Cert.MixaInDwOtherIdeal.main_arg1)
          ∧ r.2.mem ((c.tc : Thread Cert.MixaInDwOtherIdeal.nD Cert.MixaInDwOtherIdeal.τ).loc Cert.MixaInDwOtherIdeal.main_arg2) = m ((c.tc : Thread Cert.MixaInDwOtherIdeal.nD Cert.MixaInDwOtherIdeal.τ).loc Cert.MixaInDwOtherIdeal.main_arg2))
      ∧ θ_run (Cert.MixaInDwOtherReferenceIdeal.defs (F := Ideal)) (onTc (τ := Cert.MixaInDwOtherReferenceIdeal.τ) (Cert.MixaInDwOtherReferenceIdeal.main (F := Ideal))) ⟨m', fun _ => 0, g'⟩ (fun r => ∀ c : Dev Cert.MixaInDwOtherReferenceIdeal.nD,
          r.2.mem ((c.tc : Thread Cert.MixaInDwOtherReferenceIdeal.nD Cert.MixaInDwOtherReferenceIdeal.τ).loc Cert.MixaInDwOtherReferenceIdeal.main_v13) = v0 c
          ∧ r.2.mem ((c.tc : Thread Cert.MixaInDwOtherReferenceIdeal.nD Cert.MixaInDwOtherReferenceIdeal.τ).loc Cert.MixaInDwOtherReferenceIdeal.main_arg0) = m' ((c.tc : Thread Cert.MixaInDwOtherReferenceIdeal.nD Cert.MixaInDwOtherReferenceIdeal.τ).loc Cert.MixaInDwOtherReferenceIdeal.main_arg0)
          ∧ r.2.mem ((c.tc : Thread Cert.MixaInDwOtherReferenceIdeal.nD Cert.MixaInDwOtherReferenceIdeal.τ).loc Cert.MixaInDwOtherReferenceIdeal.main_arg1) = m' ((c.tc : Thread Cert.MixaInDwOtherReferenceIdeal.nD Cert.MixaInDwOtherReferenceIdeal.τ).loc Cert.MixaInDwOtherReferenceIdeal.main_arg1)
          ∧ r.2.mem ((c.tc : Thread Cert.MixaInDwOtherReferenceIdeal.nD Cert.MixaInDwOtherReferenceIdeal.τ).loc Cert.MixaInDwOtherReferenceIdeal.main_arg2) = m' ((c.tc : Thread Cert.MixaInDwOtherReferenceIdeal.nD Cert.MixaInDwOtherReferenceIdeal.τ).loc Cert.MixaInDwOtherReferenceIdeal.main_arg2))

def preserves_MixaInDwOwn_MixaInDwOwnIdeal : Prop :=
  True

def algebraic_MixaInDwOwnIdeal_MixaInDwOwnReferenceIdeal [hMixaInDwOwnIdeal : Cert.MixaInDwOwnIdeal.Facts] [hMixaInDwOwnReferenceIdeal : Cert.MixaInDwOwnReferenceIdeal.Facts] [hPre_is_core_mixa_own : Cert.Pre_is_core_mixa_own.Facts] : Prop :=
  ∀ (m : (ℓ : Loc Cert.MixaInDwOwnIdeal.nD Cert.MixaInDwOwnIdeal.τ Cert.MixaInDwOwnIdeal.sig) → Buf (Elt Ideal) ℓ) (g : Dev Cert.MixaInDwOwnIdeal.nD → PrngReg)
    (m' : (ℓ : Loc Cert.MixaInDwOwnReferenceIdeal.nD Cert.MixaInDwOwnReferenceIdeal.τ Cert.MixaInDwOwnReferenceIdeal.sig) → Buf (Elt Ideal) ℓ) (g' : Dev Cert.MixaInDwOwnReferenceIdeal.nD → PrngReg), Pre_MixaInDwOwnIdeal m →
    (∀ c : Dev Cert.MixaInDwOwnIdeal.nD,
      m' ((c.tc : Thread Cert.MixaInDwOwnReferenceIdeal.nD Cert.MixaInDwOwnReferenceIdeal.τ).loc Cert.MixaInDwOwnReferenceIdeal.main_arg0) = m ((c.tc : Thread Cert.MixaInDwOwnIdeal.nD Cert.MixaInDwOwnIdeal.τ).loc Cert.MixaInDwOwnIdeal.main_arg0)
      ∧ m' ((c.tc : Thread Cert.MixaInDwOwnReferenceIdeal.nD Cert.MixaInDwOwnReferenceIdeal.τ).loc Cert.MixaInDwOwnReferenceIdeal.main_arg1) = m ((c.tc : Thread Cert.MixaInDwOwnIdeal.nD Cert.MixaInDwOwnIdeal.τ).loc Cert.MixaInDwOwnIdeal.main_arg1)
      ∧ m' ((c.tc : Thread Cert.MixaInDwOwnReferenceIdeal.nD Cert.MixaInDwOwnReferenceIdeal.τ).loc Cert.MixaInDwOwnReferenceIdeal.main_arg2) = m ((c.tc : Thread Cert.MixaInDwOwnIdeal.nD Cert.MixaInDwOwnIdeal.τ).loc Cert.MixaInDwOwnIdeal.main_arg2)
      ∧ m' ((c.tc : Thread Cert.MixaInDwOwnReferenceIdeal.nD Cert.MixaInDwOwnReferenceIdeal.τ).loc Cert.MixaInDwOwnReferenceIdeal.main_arg3) = m ((c.tc : Thread Cert.MixaInDwOwnIdeal.nD Cert.MixaInDwOwnIdeal.τ).loc Cert.MixaInDwOwnIdeal.main_arg3)) →
    ∃ (v0 : (c : Dev Cert.MixaInDwOwnIdeal.nD) → Buf (Elt Ideal) ((c.tc : Thread Cert.MixaInDwOwnIdeal.nD Cert.MixaInDwOwnIdeal.τ).loc Cert.MixaInDwOwnIdeal.main_v2)),
      θ_run (Cert.MixaInDwOwnIdeal.defs (F := Ideal)) (onTc (τ := Cert.MixaInDwOwnIdeal.τ) (Cert.MixaInDwOwnIdeal.main (F := Ideal))) ⟨m, fun _ => 0, g⟩ (fun r => ∀ c : Dev Cert.MixaInDwOwnIdeal.nD,
          r.2.mem ((c.tc : Thread Cert.MixaInDwOwnIdeal.nD Cert.MixaInDwOwnIdeal.τ).loc Cert.MixaInDwOwnIdeal.main_v2) = v0 c
          ∧ r.2.mem ((c.tc : Thread Cert.MixaInDwOwnIdeal.nD Cert.MixaInDwOwnIdeal.τ).loc Cert.MixaInDwOwnIdeal.main_arg0) = m ((c.tc : Thread Cert.MixaInDwOwnIdeal.nD Cert.MixaInDwOwnIdeal.τ).loc Cert.MixaInDwOwnIdeal.main_arg0)
          ∧ r.2.mem ((c.tc : Thread Cert.MixaInDwOwnIdeal.nD Cert.MixaInDwOwnIdeal.τ).loc Cert.MixaInDwOwnIdeal.main_arg1) = m ((c.tc : Thread Cert.MixaInDwOwnIdeal.nD Cert.MixaInDwOwnIdeal.τ).loc Cert.MixaInDwOwnIdeal.main_arg1)
          ∧ r.2.mem ((c.tc : Thread Cert.MixaInDwOwnIdeal.nD Cert.MixaInDwOwnIdeal.τ).loc Cert.MixaInDwOwnIdeal.main_arg2) = m ((c.tc : Thread Cert.MixaInDwOwnIdeal.nD Cert.MixaInDwOwnIdeal.τ).loc Cert.MixaInDwOwnIdeal.main_arg2)
          ∧ r.2.mem ((c.tc : Thread Cert.MixaInDwOwnIdeal.nD Cert.MixaInDwOwnIdeal.τ).loc Cert.MixaInDwOwnIdeal.main_arg3) = m ((c.tc : Thread Cert.MixaInDwOwnIdeal.nD Cert.MixaInDwOwnIdeal.τ).loc Cert.MixaInDwOwnIdeal.main_arg3))
      ∧ θ_run (Cert.MixaInDwOwnReferenceIdeal.defs (F := Ideal)) (onTc (τ := Cert.MixaInDwOwnReferenceIdeal.τ) (Cert.MixaInDwOwnReferenceIdeal.main (F := Ideal))) ⟨m', fun _ => 0, g'⟩ (fun r => ∀ c : Dev Cert.MixaInDwOwnReferenceIdeal.nD,
          r.2.mem ((c.tc : Thread Cert.MixaInDwOwnReferenceIdeal.nD Cert.MixaInDwOwnReferenceIdeal.τ).loc Cert.MixaInDwOwnReferenceIdeal.main_v15) = v0 c
          ∧ r.2.mem ((c.tc : Thread Cert.MixaInDwOwnReferenceIdeal.nD Cert.MixaInDwOwnReferenceIdeal.τ).loc Cert.MixaInDwOwnReferenceIdeal.main_arg0) = m' ((c.tc : Thread Cert.MixaInDwOwnReferenceIdeal.nD Cert.MixaInDwOwnReferenceIdeal.τ).loc Cert.MixaInDwOwnReferenceIdeal.main_arg0)
          ∧ r.2.mem ((c.tc : Thread Cert.MixaInDwOwnReferenceIdeal.nD Cert.MixaInDwOwnReferenceIdeal.τ).loc Cert.MixaInDwOwnReferenceIdeal.main_arg1) = m' ((c.tc : Thread Cert.MixaInDwOwnReferenceIdeal.nD Cert.MixaInDwOwnReferenceIdeal.τ).loc Cert.MixaInDwOwnReferenceIdeal.main_arg1)
          ∧ r.2.mem ((c.tc : Thread Cert.MixaInDwOwnReferenceIdeal.nD Cert.MixaInDwOwnReferenceIdeal.τ).loc Cert.MixaInDwOwnReferenceIdeal.main_arg2) = m' ((c.tc : Thread Cert.MixaInDwOwnReferenceIdeal.nD Cert.MixaInDwOwnReferenceIdeal.τ).loc Cert.MixaInDwOwnReferenceIdeal.main_arg2)
          ∧ r.2.mem ((c.tc : Thread Cert.MixaInDwOwnReferenceIdeal.nD Cert.MixaInDwOwnReferenceIdeal.τ).loc Cert.MixaInDwOwnReferenceIdeal.main_arg3) = m' ((c.tc : Thread Cert.MixaInDwOwnReferenceIdeal.nD Cert.MixaInDwOwnReferenceIdeal.τ).loc Cert.MixaInDwOwnReferenceIdeal.main_arg3))

def preserves_MixaIn_MixaInIdeal : Prop :=
  True

def algebraic_MixaInIdeal_MixaInReferenceIdeal [hMixaInIdeal : Cert.MixaInIdeal.Facts] [hMixaInReferenceIdeal : Cert.MixaInReferenceIdeal.Facts] : Prop :=
  ∀ (m : (ℓ : Loc Cert.MixaInIdeal.nD Cert.MixaInIdeal.τ Cert.MixaInIdeal.sig) → Buf (Elt Ideal) ℓ) (g : Dev Cert.MixaInIdeal.nD → PrngReg)
    (m' : (ℓ : Loc Cert.MixaInReferenceIdeal.nD Cert.MixaInReferenceIdeal.τ Cert.MixaInReferenceIdeal.sig) → Buf (Elt Ideal) ℓ) (g' : Dev Cert.MixaInReferenceIdeal.nD → PrngReg), Pre_MixaInIdeal m →
    (∀ c : Dev Cert.MixaInIdeal.nD,
      m' ((c.tc : Thread Cert.MixaInReferenceIdeal.nD Cert.MixaInReferenceIdeal.τ).loc Cert.MixaInReferenceIdeal.main_arg0) = m ((c.tc : Thread Cert.MixaInIdeal.nD Cert.MixaInIdeal.τ).loc Cert.MixaInIdeal.main_arg0)
      ∧ m' ((c.tc : Thread Cert.MixaInReferenceIdeal.nD Cert.MixaInReferenceIdeal.τ).loc Cert.MixaInReferenceIdeal.main_arg1) = m ((c.tc : Thread Cert.MixaInIdeal.nD Cert.MixaInIdeal.τ).loc Cert.MixaInIdeal.main_arg1)) →
    ∃ (v0 : (c : Dev Cert.MixaInIdeal.nD) → Buf (Elt Ideal) ((c.tc : Thread Cert.MixaInIdeal.nD Cert.MixaInIdeal.τ).loc Cert.MixaInIdeal.main_v4)),
      θ_run (Cert.MixaInIdeal.defs (F := Ideal)) (onTc (τ := Cert.MixaInIdeal.τ) (Cert.MixaInIdeal.main (F := Ideal))) ⟨m, fun _ => 0, g⟩ (fun r => ∀ c : Dev Cert.MixaInIdeal.nD,
          r.2.mem ((c.tc : Thread Cert.MixaInIdeal.nD Cert.MixaInIdeal.τ).loc Cert.MixaInIdeal.main_v4) = v0 c
          ∧ r.2.mem ((c.tc : Thread Cert.MixaInIdeal.nD Cert.MixaInIdeal.τ).loc Cert.MixaInIdeal.main_arg0) = m ((c.tc : Thread Cert.MixaInIdeal.nD Cert.MixaInIdeal.τ).loc Cert.MixaInIdeal.main_arg0)
          ∧ r.2.mem ((c.tc : Thread Cert.MixaInIdeal.nD Cert.MixaInIdeal.τ).loc Cert.MixaInIdeal.main_arg1) = m ((c.tc : Thread Cert.MixaInIdeal.nD Cert.MixaInIdeal.τ).loc Cert.MixaInIdeal.main_arg1))
      ∧ θ_run (Cert.MixaInReferenceIdeal.defs (F := Ideal)) (onTc (τ := Cert.MixaInReferenceIdeal.τ) (Cert.MixaInReferenceIdeal.main (F := Ideal))) ⟨m', fun _ => 0, g'⟩ (fun r => ∀ c : Dev Cert.MixaInReferenceIdeal.nD,
          r.2.mem ((c.tc : Thread Cert.MixaInReferenceIdeal.nD Cert.MixaInReferenceIdeal.τ).loc Cert.MixaInReferenceIdeal.main_v0) = v0 c
          ∧ r.2.mem ((c.tc : Thread Cert.MixaInReferenceIdeal.nD Cert.MixaInReferenceIdeal.τ).loc Cert.MixaInReferenceIdeal.main_arg0) = m' ((c.tc : Thread Cert.MixaInReferenceIdeal.nD Cert.MixaInReferenceIdeal.τ).loc Cert.MixaInReferenceIdeal.main_arg0)
          ∧ r.2.mem ((c.tc : Thread Cert.MixaInReferenceIdeal.nD Cert.MixaInReferenceIdeal.τ).loc Cert.MixaInReferenceIdeal.main_arg1) = m' ((c.tc : Thread Cert.MixaInReferenceIdeal.nD Cert.MixaInReferenceIdeal.τ).loc Cert.MixaInReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v1) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_MixbIn_MixbInIdeal : Prop :=
  True

def algebraic_MixbInIdeal_MixbInReferenceIdeal [hMixbInIdeal : Cert.MixbInIdeal.Facts] [hMixbInReferenceIdeal : Cert.MixbInReferenceIdeal.Facts] : Prop :=
  ∀ (m : (ℓ : Loc Cert.MixbInIdeal.nD Cert.MixbInIdeal.τ Cert.MixbInIdeal.sig) → Buf (Elt Ideal) ℓ) (g : Dev Cert.MixbInIdeal.nD → PrngReg)
    (m' : (ℓ : Loc Cert.MixbInReferenceIdeal.nD Cert.MixbInReferenceIdeal.τ Cert.MixbInReferenceIdeal.sig) → Buf (Elt Ideal) ℓ) (g' : Dev Cert.MixbInReferenceIdeal.nD → PrngReg), Pre_MixbInIdeal m →
    (∀ c : Dev Cert.MixbInIdeal.nD,
      m' ((c.tc : Thread Cert.MixbInReferenceIdeal.nD Cert.MixbInReferenceIdeal.τ).loc Cert.MixbInReferenceIdeal.main_arg0) = m ((c.tc : Thread Cert.MixbInIdeal.nD Cert.MixbInIdeal.τ).loc Cert.MixbInIdeal.main_arg0)
      ∧ m' ((c.tc : Thread Cert.MixbInReferenceIdeal.nD Cert.MixbInReferenceIdeal.τ).loc Cert.MixbInReferenceIdeal.main_arg1) = m ((c.tc : Thread Cert.MixbInIdeal.nD Cert.MixbInIdeal.τ).loc Cert.MixbInIdeal.main_arg1)) →
    ∃ (v0 : (c : Dev Cert.MixbInIdeal.nD) → Buf (Elt Ideal) ((c.tc : Thread Cert.MixbInIdeal.nD Cert.MixbInIdeal.τ).loc Cert.MixbInIdeal.main_v2)),
      θ_run (Cert.MixbInIdeal.defs (F := Ideal)) (onTc (τ := Cert.MixbInIdeal.τ) (Cert.MixbInIdeal.main (F := Ideal))) ⟨m, fun _ => 0, g⟩ (fun r => ∀ c : Dev Cert.MixbInIdeal.nD,
          r.2.mem ((c.tc : Thread Cert.MixbInIdeal.nD Cert.MixbInIdeal.τ).loc Cert.MixbInIdeal.main_v2) = v0 c
          ∧ r.2.mem ((c.tc : Thread Cert.MixbInIdeal.nD Cert.MixbInIdeal.τ).loc Cert.MixbInIdeal.main_arg0) = m ((c.tc : Thread Cert.MixbInIdeal.nD Cert.MixbInIdeal.τ).loc Cert.MixbInIdeal.main_arg0)
          ∧ r.2.mem ((c.tc : Thread Cert.MixbInIdeal.nD Cert.MixbInIdeal.τ).loc Cert.MixbInIdeal.main_arg1) = m ((c.tc : Thread Cert.MixbInIdeal.nD Cert.MixbInIdeal.τ).loc Cert.MixbInIdeal.main_arg1))
      ∧ θ_run (Cert.MixbInReferenceIdeal.defs (F := Ideal)) (onTc (τ := Cert.MixbInReferenceIdeal.τ) (Cert.MixbInReferenceIdeal.main (F := Ideal))) ⟨m', fun _ => 0, g'⟩ (fun r => ∀ c : Dev Cert.MixbInReferenceIdeal.nD,
          r.2.mem ((c.tc : Thread Cert.MixbInReferenceIdeal.nD Cert.MixbInReferenceIdeal.τ).loc Cert.MixbInReferenceIdeal.main_v0) = v0 c
          ∧ r.2.mem ((c.tc : Thread Cert.MixbInReferenceIdeal.nD Cert.MixbInReferenceIdeal.τ).loc Cert.MixbInReferenceIdeal.main_arg0) = m' ((c.tc : Thread Cert.MixbInReferenceIdeal.nD Cert.MixbInReferenceIdeal.τ).loc Cert.MixbInReferenceIdeal.main_arg0)
          ∧ r.2.mem ((c.tc : Thread Cert.MixbInReferenceIdeal.nD Cert.MixbInReferenceIdeal.τ).loc Cert.MixbInReferenceIdeal.main_arg1) = m' ((c.tc : Thread Cert.MixbInReferenceIdeal.nD Cert.MixbInReferenceIdeal.τ).loc Cert.MixbInReferenceIdeal.main_arg1))

def preserves_ScaledDx_ScaledDxIdeal : Prop :=
  True

def algebraic_ScaledDxIdeal_ScaledDxReferenceIdeal [hScaledDxIdeal : Cert.ScaledDxIdeal.Facts] [hScaledDxReferenceIdeal : Cert.ScaledDxReferenceIdeal.Facts] : Prop :=
  ∀ (m : (ℓ : Loc Cert.ScaledDxIdeal.nD Cert.ScaledDxIdeal.τ Cert.ScaledDxIdeal.sig) → Buf (Elt Ideal) ℓ) (g : Dev Cert.ScaledDxIdeal.nD → PrngReg)
    (m' : (ℓ : Loc Cert.ScaledDxReferenceIdeal.nD Cert.ScaledDxReferenceIdeal.τ Cert.ScaledDxReferenceIdeal.sig) → Buf (Elt Ideal) ℓ) (g' : Dev Cert.ScaledDxReferenceIdeal.nD → PrngReg), Pre_ScaledDxIdeal m →
    (∀ c : Dev Cert.ScaledDxIdeal.nD,
      m' ((c.tc : Thread Cert.ScaledDxReferenceIdeal.nD Cert.ScaledDxReferenceIdeal.τ).loc Cert.ScaledDxReferenceIdeal.main_arg0) = m ((c.tc : Thread Cert.ScaledDxIdeal.nD Cert.ScaledDxIdeal.τ).loc Cert.ScaledDxIdeal.main_arg0)
      ∧ m' ((c.tc : Thread Cert.ScaledDxReferenceIdeal.nD Cert.ScaledDxReferenceIdeal.τ).loc Cert.ScaledDxReferenceIdeal.main_arg1) = m ((c.tc : Thread Cert.ScaledDxIdeal.nD Cert.ScaledDxIdeal.τ).loc Cert.ScaledDxIdeal.main_arg1)
      ∧ m' ((c.tc : Thread Cert.ScaledDxReferenceIdeal.nD Cert.ScaledDxReferenceIdeal.τ).loc Cert.ScaledDxReferenceIdeal.main_arg2) = m ((c.tc : Thread Cert.ScaledDxIdeal.nD Cert.ScaledDxIdeal.τ).loc Cert.ScaledDxIdeal.main_arg2)
      ∧ m' ((c.tc : Thread Cert.ScaledDxReferenceIdeal.nD Cert.ScaledDxReferenceIdeal.τ).loc Cert.ScaledDxReferenceIdeal.main_arg3) = m ((c.tc : Thread Cert.ScaledDxIdeal.nD Cert.ScaledDxIdeal.τ).loc Cert.ScaledDxIdeal.main_arg3)) →
    ∃ (v0 : (c : Dev Cert.ScaledDxIdeal.nD) → Buf (Elt Ideal) ((c.tc : Thread Cert.ScaledDxIdeal.nD Cert.ScaledDxIdeal.τ).loc Cert.ScaledDxIdeal.main_v3_0)) (v1 : (c : Dev Cert.ScaledDxIdeal.nD) → Buf (Elt Ideal) ((c.tc : Thread Cert.ScaledDxIdeal.nD Cert.ScaledDxIdeal.τ).loc Cert.ScaledDxIdeal.main_v3_1)),
      θ_run (Cert.ScaledDxIdeal.defs (F := Ideal)) (onTc (τ := Cert.ScaledDxIdeal.τ) (Cert.ScaledDxIdeal.main (F := Ideal))) ⟨m, fun _ => 0, g⟩ (fun r => ∀ c : Dev Cert.ScaledDxIdeal.nD,
          r.2.mem ((c.tc : Thread Cert.ScaledDxIdeal.nD Cert.ScaledDxIdeal.τ).loc Cert.ScaledDxIdeal.main_v3_0) = v0 c
          ∧ r.2.mem ((c.tc : Thread Cert.ScaledDxIdeal.nD Cert.ScaledDxIdeal.τ).loc Cert.ScaledDxIdeal.main_v3_1) = v1 c
          ∧ r.2.mem ((c.tc : Thread Cert.ScaledDxIdeal.nD Cert.ScaledDxIdeal.τ).loc Cert.ScaledDxIdeal.main_arg0) = m ((c.tc : Thread Cert.ScaledDxIdeal.nD Cert.ScaledDxIdeal.τ).loc Cert.ScaledDxIdeal.main_arg0)
          ∧ r.2.mem ((c.tc : Thread Cert.ScaledDxIdeal.nD Cert.ScaledDxIdeal.τ).loc Cert.ScaledDxIdeal.main_arg1) = m ((c.tc : Thread Cert.ScaledDxIdeal.nD Cert.ScaledDxIdeal.τ).loc Cert.ScaledDxIdeal.main_arg1)
          ∧ r.2.mem ((c.tc : Thread Cert.ScaledDxIdeal.nD Cert.ScaledDxIdeal.τ).loc Cert.ScaledDxIdeal.main_arg2) = m ((c.tc : Thread Cert.ScaledDxIdeal.nD Cert.ScaledDxIdeal.τ).loc Cert.ScaledDxIdeal.main_arg2)
          ∧ r.2.mem ((c.tc : Thread Cert.ScaledDxIdeal.nD Cert.ScaledDxIdeal.τ).loc Cert.ScaledDxIdeal.main_arg3) = m ((c.tc : Thread Cert.ScaledDxIdeal.nD Cert.ScaledDxIdeal.τ).loc Cert.ScaledDxIdeal.main_arg3))
      ∧ θ_run (Cert.ScaledDxReferenceIdeal.defs (F := Ideal)) (onTc (τ := Cert.ScaledDxReferenceIdeal.τ) (Cert.ScaledDxReferenceIdeal.main (F := Ideal))) ⟨m', fun _ => 0, g'⟩ (fun r => ∀ c : Dev Cert.ScaledDxReferenceIdeal.nD,
          r.2.mem ((c.tc : Thread Cert.ScaledDxReferenceIdeal.nD Cert.ScaledDxReferenceIdeal.τ).loc Cert.ScaledDxReferenceIdeal.main_v9) = v0 c
          ∧ r.2.mem ((c.tc : Thread Cert.ScaledDxReferenceIdeal.nD Cert.ScaledDxReferenceIdeal.τ).loc Cert.ScaledDxReferenceIdeal.main_v6) = v1 c
          ∧ r.2.mem ((c.tc : Thread Cert.ScaledDxReferenceIdeal.nD Cert.ScaledDxReferenceIdeal.τ).loc Cert.ScaledDxReferenceIdeal.main_arg0) = m' ((c.tc : Thread Cert.ScaledDxReferenceIdeal.nD Cert.ScaledDxReferenceIdeal.τ).loc Cert.ScaledDxReferenceIdeal.main_arg0)
          ∧ r.2.mem ((c.tc : Thread Cert.ScaledDxReferenceIdeal.nD Cert.ScaledDxReferenceIdeal.τ).loc Cert.ScaledDxReferenceIdeal.main_arg1) = m' ((c.tc : Thread Cert.ScaledDxReferenceIdeal.nD Cert.ScaledDxReferenceIdeal.τ).loc Cert.ScaledDxReferenceIdeal.main_arg1)
          ∧ r.2.mem ((c.tc : Thread Cert.ScaledDxReferenceIdeal.nD Cert.ScaledDxReferenceIdeal.τ).loc Cert.ScaledDxReferenceIdeal.main_arg2) = m' ((c.tc : Thread Cert.ScaledDxReferenceIdeal.nD Cert.ScaledDxReferenceIdeal.τ).loc Cert.ScaledDxReferenceIdeal.main_arg2)
          ∧ r.2.mem ((c.tc : Thread Cert.ScaledDxReferenceIdeal.nD Cert.ScaledDxReferenceIdeal.τ).loc Cert.ScaledDxReferenceIdeal.main_arg3) = m' ((c.tc : Thread Cert.ScaledDxReferenceIdeal.nD Cert.ScaledDxReferenceIdeal.τ).loc Cert.ScaledDxReferenceIdeal.main_arg3))

def preserves_GrpDx_GrpDxIdeal : Prop :=
  True

def algebraic_GrpDxIdeal_GrpDxReferenceIdeal [hGrpDxIdeal : Cert.GrpDxIdeal.Facts] [hGrpDxReferenceIdeal : Cert.GrpDxReferenceIdeal.Facts] : Prop :=
  ∀ (m : (ℓ : Loc Cert.GrpDxIdeal.nD Cert.GrpDxIdeal.τ Cert.GrpDxIdeal.sig) → Buf (Elt Ideal) ℓ) (g : Dev Cert.GrpDxIdeal.nD → PrngReg)
    (m' : (ℓ : Loc Cert.GrpDxReferenceIdeal.nD Cert.GrpDxReferenceIdeal.τ Cert.GrpDxReferenceIdeal.sig) → Buf (Elt Ideal) ℓ) (g' : Dev Cert.GrpDxReferenceIdeal.nD → PrngReg), Pre_GrpDxIdeal m →
    (∀ c : Dev Cert.GrpDxIdeal.nD,
      m' ((c.tc : Thread Cert.GrpDxReferenceIdeal.nD Cert.GrpDxReferenceIdeal.τ).loc Cert.GrpDxReferenceIdeal.main_arg0) = m ((c.tc : Thread Cert.GrpDxIdeal.nD Cert.GrpDxIdeal.τ).loc Cert.GrpDxIdeal.main_arg0)
      ∧ m' ((c.tc : Thread Cert.GrpDxReferenceIdeal.nD Cert.GrpDxReferenceIdeal.τ).loc Cert.GrpDxReferenceIdeal.main_arg1) = m ((c.tc : Thread Cert.GrpDxIdeal.nD Cert.GrpDxIdeal.τ).loc Cert.GrpDxIdeal.main_arg1)
      ∧ m' ((c.tc : Thread Cert.GrpDxReferenceIdeal.nD Cert.GrpDxReferenceIdeal.τ).loc Cert.GrpDxReferenceIdeal.main_arg2) = m ((c.tc : Thread Cert.GrpDxIdeal.nD Cert.GrpDxIdeal.τ).loc Cert.GrpDxIdeal.main_arg2)) →
    ∃ (v0 : (c : Dev Cert.GrpDxIdeal.nD) → Buf (Elt Ideal) ((c.tc : Thread Cert.GrpDxIdeal.nD Cert.GrpDxIdeal.τ).loc Cert.GrpDxIdeal.main_v2)),
      θ_run (Cert.GrpDxIdeal.defs (F := Ideal)) (onTc (τ := Cert.GrpDxIdeal.τ) (Cert.GrpDxIdeal.main (F := Ideal))) ⟨m, fun _ => 0, g⟩ (fun r => ∀ c : Dev Cert.GrpDxIdeal.nD,
          r.2.mem ((c.tc : Thread Cert.GrpDxIdeal.nD Cert.GrpDxIdeal.τ).loc Cert.GrpDxIdeal.main_v2) = v0 c
          ∧ r.2.mem ((c.tc : Thread Cert.GrpDxIdeal.nD Cert.GrpDxIdeal.τ).loc Cert.GrpDxIdeal.main_arg0) = m ((c.tc : Thread Cert.GrpDxIdeal.nD Cert.GrpDxIdeal.τ).loc Cert.GrpDxIdeal.main_arg0)
          ∧ r.2.mem ((c.tc : Thread Cert.GrpDxIdeal.nD Cert.GrpDxIdeal.τ).loc Cert.GrpDxIdeal.main_arg1) = m ((c.tc : Thread Cert.GrpDxIdeal.nD Cert.GrpDxIdeal.τ).loc Cert.GrpDxIdeal.main_arg1)
          ∧ r.2.mem ((c.tc : Thread Cert.GrpDxIdeal.nD Cert.GrpDxIdeal.τ).loc Cert.GrpDxIdeal.main_arg2) = m ((c.tc : Thread Cert.GrpDxIdeal.nD Cert.GrpDxIdeal.τ).loc Cert.GrpDxIdeal.main_arg2))
      ∧ θ_run (Cert.GrpDxReferenceIdeal.defs (F := Ideal)) (onTc (τ := Cert.GrpDxReferenceIdeal.τ) (Cert.GrpDxReferenceIdeal.main (F := Ideal))) ⟨m', fun _ => 0, g'⟩ (fun r => ∀ c : Dev Cert.GrpDxReferenceIdeal.nD,
          r.2.mem ((c.tc : Thread Cert.GrpDxReferenceIdeal.nD Cert.GrpDxReferenceIdeal.τ).loc Cert.GrpDxReferenceIdeal.main_v8) = v0 c
          ∧ r.2.mem ((c.tc : Thread Cert.GrpDxReferenceIdeal.nD Cert.GrpDxReferenceIdeal.τ).loc Cert.GrpDxReferenceIdeal.main_arg0) = m' ((c.tc : Thread Cert.GrpDxReferenceIdeal.nD Cert.GrpDxReferenceIdeal.τ).loc Cert.GrpDxReferenceIdeal.main_arg0)
          ∧ r.2.mem ((c.tc : Thread Cert.GrpDxReferenceIdeal.nD Cert.GrpDxReferenceIdeal.τ).loc Cert.GrpDxReferenceIdeal.main_arg1) = m' ((c.tc : Thread Cert.GrpDxReferenceIdeal.nD Cert.GrpDxReferenceIdeal.τ).loc Cert.GrpDxReferenceIdeal.main_arg1)
          ∧ r.2.mem ((c.tc : Thread Cert.GrpDxReferenceIdeal.nD Cert.GrpDxReferenceIdeal.τ).loc Cert.GrpDxReferenceIdeal.main_arg2) = m' ((c.tc : Thread Cert.GrpDxReferenceIdeal.nD Cert.GrpDxReferenceIdeal.τ).loc Cert.GrpDxReferenceIdeal.main_arg2))

def preserves_GrpDw_GrpDwIdeal : Prop :=
  True

def algebraic_GrpDwIdeal_GrpDwReferenceIdeal [hGrpDwIdeal : Cert.GrpDwIdeal.Facts] [hGrpDwReferenceIdeal : Cert.GrpDwReferenceIdeal.Facts] : Prop :=
  ∀ (m : (ℓ : Loc Cert.GrpDwIdeal.nD Cert.GrpDwIdeal.τ Cert.GrpDwIdeal.sig) → Buf (Elt Ideal) ℓ) (g : Dev Cert.GrpDwIdeal.nD → PrngReg)
    (m' : (ℓ : Loc Cert.GrpDwReferenceIdeal.nD Cert.GrpDwReferenceIdeal.τ Cert.GrpDwReferenceIdeal.sig) → Buf (Elt Ideal) ℓ) (g' : Dev Cert.GrpDwReferenceIdeal.nD → PrngReg), Pre_GrpDwIdeal m →
    (∀ c : Dev Cert.GrpDwIdeal.nD,
      m' ((c.tc : Thread Cert.GrpDwReferenceIdeal.nD Cert.GrpDwReferenceIdeal.τ).loc Cert.GrpDwReferenceIdeal.main_arg0) = m ((c.tc : Thread Cert.GrpDwIdeal.nD Cert.GrpDwIdeal.τ).loc Cert.GrpDwIdeal.main_arg0)
      ∧ m' ((c.tc : Thread Cert.GrpDwReferenceIdeal.nD Cert.GrpDwReferenceIdeal.τ).loc Cert.GrpDwReferenceIdeal.main_arg1) = m ((c.tc : Thread Cert.GrpDwIdeal.nD Cert.GrpDwIdeal.τ).loc Cert.GrpDwIdeal.main_arg1)
      ∧ m' ((c.tc : Thread Cert.GrpDwReferenceIdeal.nD Cert.GrpDwReferenceIdeal.τ).loc Cert.GrpDwReferenceIdeal.main_arg2) = m ((c.tc : Thread Cert.GrpDwIdeal.nD Cert.GrpDwIdeal.τ).loc Cert.GrpDwIdeal.main_arg2)) →
    ∃ (v0 : (c : Dev Cert.GrpDwIdeal.nD) → Buf (Elt Ideal) ((c.tc : Thread Cert.GrpDwIdeal.nD Cert.GrpDwIdeal.τ).loc Cert.GrpDwIdeal.main_v2)),
      θ_run (Cert.GrpDwIdeal.defs (F := Ideal)) (onTc (τ := Cert.GrpDwIdeal.τ) (Cert.GrpDwIdeal.main (F := Ideal))) ⟨m, fun _ => 0, g⟩ (fun r => ∀ c : Dev Cert.GrpDwIdeal.nD,
          r.2.mem ((c.tc : Thread Cert.GrpDwIdeal.nD Cert.GrpDwIdeal.τ).loc Cert.GrpDwIdeal.main_v2) = v0 c
          ∧ r.2.mem ((c.tc : Thread Cert.GrpDwIdeal.nD Cert.GrpDwIdeal.τ).loc Cert.GrpDwIdeal.main_arg0) = m ((c.tc : Thread Cert.GrpDwIdeal.nD Cert.GrpDwIdeal.τ).loc Cert.GrpDwIdeal.main_arg0)
          ∧ r.2.mem ((c.tc : Thread Cert.GrpDwIdeal.nD Cert.GrpDwIdeal.τ).loc Cert.GrpDwIdeal.main_arg1) = m ((c.tc : Thread Cert.GrpDwIdeal.nD Cert.GrpDwIdeal.τ).loc Cert.GrpDwIdeal.main_arg1)
          ∧ r.2.mem ((c.tc : Thread Cert.GrpDwIdeal.nD Cert.GrpDwIdeal.τ).loc Cert.GrpDwIdeal.main_arg2) = m ((c.tc : Thread Cert.GrpDwIdeal.nD Cert.GrpDwIdeal.τ).loc Cert.GrpDwIdeal.main_arg2))
      ∧ θ_run (Cert.GrpDwReferenceIdeal.defs (F := Ideal)) (onTc (τ := Cert.GrpDwReferenceIdeal.τ) (Cert.GrpDwReferenceIdeal.main (F := Ideal))) ⟨m', fun _ => 0, g'⟩ (fun r => ∀ c : Dev Cert.GrpDwReferenceIdeal.nD,
          r.2.mem ((c.tc : Thread Cert.GrpDwReferenceIdeal.nD Cert.GrpDwReferenceIdeal.τ).loc Cert.GrpDwReferenceIdeal.main_v8) = v0 c
          ∧ r.2.mem ((c.tc : Thread Cert.GrpDwReferenceIdeal.nD Cert.GrpDwReferenceIdeal.τ).loc Cert.GrpDwReferenceIdeal.main_arg0) = m' ((c.tc : Thread Cert.GrpDwReferenceIdeal.nD Cert.GrpDwReferenceIdeal.τ).loc Cert.GrpDwReferenceIdeal.main_arg0)
          ∧ r.2.mem ((c.tc : Thread Cert.GrpDwReferenceIdeal.nD Cert.GrpDwReferenceIdeal.τ).loc Cert.GrpDwReferenceIdeal.main_arg1) = m' ((c.tc : Thread Cert.GrpDwReferenceIdeal.nD Cert.GrpDwReferenceIdeal.τ).loc Cert.GrpDwReferenceIdeal.main_arg1)
          ∧ r.2.mem ((c.tc : Thread Cert.GrpDwReferenceIdeal.nD Cert.GrpDwReferenceIdeal.τ).loc Cert.GrpDwReferenceIdeal.main_arg2) = m' ((c.tc : Thread Cert.GrpDwReferenceIdeal.nD Cert.GrpDwReferenceIdeal.τ).loc Cert.GrpDwReferenceIdeal.main_arg2))

def preserves_Grp_GrpIdeal : Prop :=
  True

def algebraic_GrpIdeal_GrpReferenceIdeal [hGrpIdeal : Cert.GrpIdeal.Facts] [hGrpReferenceIdeal : Cert.GrpReferenceIdeal.Facts] : Prop :=
  ∀ (m : (ℓ : Loc Cert.GrpIdeal.nD Cert.GrpIdeal.τ Cert.GrpIdeal.sig) → Buf (Elt Ideal) ℓ) (g : Dev Cert.GrpIdeal.nD → PrngReg)
    (m' : (ℓ : Loc Cert.GrpReferenceIdeal.nD Cert.GrpReferenceIdeal.τ Cert.GrpReferenceIdeal.sig) → Buf (Elt Ideal) ℓ) (g' : Dev Cert.GrpReferenceIdeal.nD → PrngReg), Pre_GrpIdeal m →
    (∀ c : Dev Cert.GrpIdeal.nD,
      m' ((c.tc : Thread Cert.GrpReferenceIdeal.nD Cert.GrpReferenceIdeal.τ).loc Cert.GrpReferenceIdeal.main_arg0) = m ((c.tc : Thread Cert.GrpIdeal.nD Cert.GrpIdeal.τ).loc Cert.GrpIdeal.main_arg0)
      ∧ m' ((c.tc : Thread Cert.GrpReferenceIdeal.nD Cert.GrpReferenceIdeal.τ).loc Cert.GrpReferenceIdeal.main_arg1) = m ((c.tc : Thread Cert.GrpIdeal.nD Cert.GrpIdeal.τ).loc Cert.GrpIdeal.main_arg1)
      ∧ m' ((c.tc : Thread Cert.GrpReferenceIdeal.nD Cert.GrpReferenceIdeal.τ).loc Cert.GrpReferenceIdeal.main_arg2) = m ((c.tc : Thread Cert.GrpIdeal.nD Cert.GrpIdeal.τ).loc Cert.GrpIdeal.main_arg2)) →
    ∃ (v0 : (c : Dev Cert.GrpIdeal.nD) → Buf (Elt Ideal) ((c.tc : Thread Cert.GrpIdeal.nD Cert.GrpIdeal.τ).loc Cert.GrpIdeal.main_v2_0)) (v1 : (c : Dev Cert.GrpIdeal.nD) → Buf (Elt Ideal) ((c.tc : Thread Cert.GrpIdeal.nD Cert.GrpIdeal.τ).loc Cert.GrpIdeal.main_v2_1)),
      θ_run (Cert.GrpIdeal.defs (F := Ideal)) (onTc (τ := Cert.GrpIdeal.τ) (Cert.GrpIdeal.main (F := Ideal))) ⟨m, fun _ => 0, g⟩ (fun r => ∀ c : Dev Cert.GrpIdeal.nD,
          r.2.mem ((c.tc : Thread Cert.GrpIdeal.nD Cert.GrpIdeal.τ).loc Cert.GrpIdeal.main_v2_0) = v0 c
          ∧ r.2.mem ((c.tc : Thread Cert.GrpIdeal.nD Cert.GrpIdeal.τ).loc Cert.GrpIdeal.main_v2_1) = v1 c
          ∧ r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
          ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
          ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2))
      ∧ θ_run (Cert.GrpReferenceIdeal.defs (F := Ideal)) (onTc (τ := Cert.GrpReferenceIdeal.τ) (Cert.GrpReferenceIdeal.main (F := Ideal))) ⟨m', fun _ => 0, g'⟩ (fun r => ∀ c : Dev Cert.GrpReferenceIdeal.nD,
          r.2.mem ((c.tc : Thread Cert.GrpReferenceIdeal.nD Cert.GrpReferenceIdeal.τ).loc Cert.GrpReferenceIdeal.main_v4) = v0 c
          ∧ r.2.mem ((c.tc : Thread Cert.GrpReferenceIdeal.nD Cert.GrpReferenceIdeal.τ).loc Cert.GrpReferenceIdeal.main_v7) = v1 c
          ∧ r.2.mem ((c.tc : Thread Cert.GrpReferenceIdeal.nD Cert.GrpReferenceIdeal.τ).loc Cert.GrpReferenceIdeal.main_arg0) = m' ((c.tc : Thread Cert.GrpReferenceIdeal.nD Cert.GrpReferenceIdeal.τ).loc Cert.GrpReferenceIdeal.main_arg0)
          ∧ r.2.mem ((c.tc : Thread Cert.GrpReferenceIdeal.nD Cert.GrpReferenceIdeal.τ).loc Cert.GrpReferenceIdeal.main_arg1) = m' ((c.tc : Thread Cert.GrpReferenceIdeal.nD Cert.GrpReferenceIdeal.τ).loc Cert.GrpReferenceIdeal.main_arg1)
          ∧ r.2.mem ((c.tc : Thread Cert.GrpReferenceIdeal.nD Cert.GrpReferenceIdeal.τ).loc Cert.GrpReferenceIdeal.main_arg2) = m' ((c.tc : Thread Cert.GrpReferenceIdeal.nD Cert.GrpReferenceIdeal.τ).loc Cert.GrpReferenceIdeal.main_arg2))

def preserves_MixaGate_MixaGateIdeal : Prop :=
  IdealRules.named_const.Statement Cert.MixaGateIdeal.κ "sqrt_half" .f32 0x3F3504F3#32 (((Real.sqrt 2)⁻¹ : ℝ) : EReal)

def algebraic_MixaGateIdeal_MixaGateReferenceIdeal [hMixaGateIdeal : Cert.MixaGateIdeal.Facts] [hMixaGateReferenceIdeal : Cert.MixaGateReferenceIdeal.Facts] : Prop :=
  ∀ (m : (ℓ : Loc Cert.MixaGateIdeal.nD Cert.MixaGateIdeal.τ Cert.MixaGateIdeal.sig) → Buf (Elt Ideal) ℓ) (g : Dev Cert.MixaGateIdeal.nD → PrngReg)
    (m' : (ℓ : Loc Cert.MixaGateReferenceIdeal.nD Cert.MixaGateReferenceIdeal.τ Cert.MixaGateReferenceIdeal.sig) → Buf (Elt Ideal) ℓ) (g' : Dev Cert.MixaGateReferenceIdeal.nD → PrngReg), Pre_MixaGateIdeal m →
    (∀ c : Dev Cert.MixaGateIdeal.nD,
      m' ((c.tc : Thread Cert.MixaGateReferenceIdeal.nD Cert.MixaGateReferenceIdeal.τ).loc Cert.MixaGateReferenceIdeal.main_arg0) = m ((c.tc : Thread Cert.MixaGateIdeal.nD Cert.MixaGateIdeal.τ).loc Cert.MixaGateIdeal.main_arg0)
      ∧ m' ((c.tc : Thread Cert.MixaGateReferenceIdeal.nD Cert.MixaGateReferenceIdeal.τ).loc Cert.MixaGateReferenceIdeal.main_arg1) = m ((c.tc : Thread Cert.MixaGateIdeal.nD Cert.MixaGateIdeal.τ).loc Cert.MixaGateIdeal.main_arg1)
      ∧ m' ((c.tc : Thread Cert.MixaGateReferenceIdeal.nD Cert.MixaGateReferenceIdeal.τ).loc Cert.MixaGateReferenceIdeal.main_arg2) = m ((c.tc : Thread Cert.MixaGateIdeal.nD Cert.MixaGateIdeal.τ).loc Cert.MixaGateIdeal.main_arg2)
      ∧ m' ((c.tc : Thread Cert.MixaGateReferenceIdeal.nD Cert.MixaGateReferenceIdeal.τ).loc Cert.MixaGateReferenceIdeal.main_arg3) = m ((c.tc : Thread Cert.MixaGateIdeal.nD Cert.MixaGateIdeal.τ).loc Cert.MixaGateIdeal.main_arg3)
      ∧ m' ((c.tc : Thread Cert.MixaGateReferenceIdeal.nD Cert.MixaGateReferenceIdeal.τ).loc Cert.MixaGateReferenceIdeal.main_arg4) = m ((c.tc : Thread Cert.MixaGateIdeal.nD Cert.MixaGateIdeal.τ).loc Cert.MixaGateIdeal.main_arg4)) →
    ∃ (v0 : (c : Dev Cert.MixaGateIdeal.nD) → Buf (Elt Ideal) ((c.tc : Thread Cert.MixaGateIdeal.nD Cert.MixaGateIdeal.τ).loc Cert.MixaGateIdeal.main_v3)),
      θ_run (Cert.MixaGateIdeal.defs (F := Ideal)) (onTc (τ := Cert.MixaGateIdeal.τ) (Cert.MixaGateIdeal.main (F := Ideal))) ⟨m, fun _ => 0, g⟩ (fun r => ∀ c : Dev Cert.MixaGateIdeal.nD,
          r.2.mem ((c.tc : Thread Cert.MixaGateIdeal.nD Cert.MixaGateIdeal.τ).loc Cert.MixaGateIdeal.main_v3) = v0 c
          ∧ r.2.mem ((c.tc : Thread Cert.MixaGateIdeal.nD Cert.MixaGateIdeal.τ).loc Cert.MixaGateIdeal.main_arg0) = m ((c.tc : Thread Cert.MixaGateIdeal.nD Cert.MixaGateIdeal.τ).loc Cert.MixaGateIdeal.main_arg0)
          ∧ r.2.mem ((c.tc : Thread Cert.MixaGateIdeal.nD Cert.MixaGateIdeal.τ).loc Cert.MixaGateIdeal.main_arg1) = m ((c.tc : Thread Cert.MixaGateIdeal.nD Cert.MixaGateIdeal.τ).loc Cert.MixaGateIdeal.main_arg1)
          ∧ r.2.mem ((c.tc : Thread Cert.MixaGateIdeal.nD Cert.MixaGateIdeal.τ).loc Cert.MixaGateIdeal.main_arg2) = m ((c.tc : Thread Cert.MixaGateIdeal.nD Cert.MixaGateIdeal.τ).loc Cert.MixaGateIdeal.main_arg2)
          ∧ r.2.mem ((c.tc : Thread Cert.MixaGateIdeal.nD Cert.MixaGateIdeal.τ).loc Cert.MixaGateIdeal.main_arg3) = m ((c.tc : Thread Cert.MixaGateIdeal.nD Cert.MixaGateIdeal.τ).loc Cert.MixaGateIdeal.main_arg3)
          ∧ r.2.mem ((c.tc : Thread Cert.MixaGateIdeal.nD Cert.MixaGateIdeal.τ).loc Cert.MixaGateIdeal.main_arg4) = m ((c.tc : Thread Cert.MixaGateIdeal.nD Cert.MixaGateIdeal.τ).loc Cert.MixaGateIdeal.main_arg4))
      ∧ θ_run (Cert.MixaGateReferenceIdeal.defs (F := Ideal)) (onTc (τ := Cert.MixaGateReferenceIdeal.τ) (Cert.MixaGateReferenceIdeal.main (F := Ideal))) ⟨m', fun _ => 0, g'⟩ (fun r => ∀ c : Dev Cert.MixaGateReferenceIdeal.nD,
          r.2.mem ((c.tc : Thread Cert.MixaGateReferenceIdeal.nD Cert.MixaGateReferenceIdeal.τ).loc Cert.MixaGateReferenceIdeal.main_v51) = v0 c
          ∧ r.2.mem ((c.tc : Thread Cert.MixaGateReferenceIdeal.nD Cert.MixaGateReferenceIdeal.τ).loc Cert.MixaGateReferenceIdeal.main_arg0) = m' ((c.tc : Thread Cert.MixaGateReferenceIdeal.nD Cert.MixaGateReferenceIdeal.τ).loc Cert.MixaGateReferenceIdeal.main_arg0)
          ∧ r.2.mem ((c.tc : Thread Cert.MixaGateReferenceIdeal.nD Cert.MixaGateReferenceIdeal.τ).loc Cert.MixaGateReferenceIdeal.main_arg1) = m' ((c.tc : Thread Cert.MixaGateReferenceIdeal.nD Cert.MixaGateReferenceIdeal.τ).loc Cert.MixaGateReferenceIdeal.main_arg1)
          ∧ r.2.mem ((c.tc : Thread Cert.MixaGateReferenceIdeal.nD Cert.MixaGateReferenceIdeal.τ).loc Cert.MixaGateReferenceIdeal.main_arg2) = m' ((c.tc : Thread Cert.MixaGateReferenceIdeal.nD Cert.MixaGateReferenceIdeal.τ).loc Cert.MixaGateReferenceIdeal.main_arg2)
          ∧ r.2.mem ((c.tc : Thread Cert.MixaGateReferenceIdeal.nD Cert.MixaGateReferenceIdeal.τ).loc Cert.MixaGateReferenceIdeal.main_arg3) = m' ((c.tc : Thread Cert.MixaGateReferenceIdeal.nD Cert.MixaGateReferenceIdeal.τ).loc Cert.MixaGateReferenceIdeal.main_arg3)
          ∧ r.2.mem ((c.tc : Thread Cert.MixaGateReferenceIdeal.nD Cert.MixaGateReferenceIdeal.τ).loc Cert.MixaGateReferenceIdeal.main_arg4) = m' ((c.tc : Thread Cert.MixaGateReferenceIdeal.nD Cert.MixaGateReferenceIdeal.τ).loc Cert.MixaGateReferenceIdeal.main_arg4))

def preserves_PoolDx_PoolDxIdeal : Prop :=
  True

def algebraic_PoolDxIdeal_PoolDxReferenceIdeal_pre_finite_rows [hPoolDxIdeal : Cert.PoolDxIdeal.Facts] [hPoolDxReferenceIdeal : Cert.PoolDxReferenceIdeal.Facts] [hPre_finite_rows : Cert.Pre_finite_rows.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxReferenceIdeal.nD Cert.PoolDxReferenceIdeal.τ Cert.PoolDxReferenceIdeal.sig) → Buf (Elt Ideal) ℓ) (g' : Dev Cert.PoolDxReferenceIdeal.nD → PrngReg), Pre_PoolDxIdeal_finite_rows m →
    (∀ c : Dev Cert.PoolDxIdeal.nD,
      m' ((c.tc : Thread Cert.PoolDxReferenceIdeal.nD Cert.PoolDxReferenceIdeal.τ).loc Cert.PoolDxReferenceIdeal.main_arg0) = m ((c.tc : Thread Cert.PoolDxIdeal.nD Cert.PoolDxIdeal.τ).loc Cert.PoolDxIdeal.main_arg0)) →
    ∃ (v0 : (c : Dev Cert.PoolDxIdeal.nD) → Buf (Elt Ideal) ((c.tc : Thread Cert.PoolDxIdeal.nD Cert.PoolDxIdeal.τ).loc Cert.PoolDxIdeal.main_v0)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v0) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0))
      ∧ θ_run (Cert.PoolDxReferenceIdeal.defs (F := Ideal)) (onTc (τ := Cert.PoolDxReferenceIdeal.τ) (Cert.PoolDxReferenceIdeal.main (F := Ideal))) ⟨m', fun _ => 0, g'⟩ (fun r => ∀ c : Dev Cert.PoolDxReferenceIdeal.nD,
          r.2.mem ((c.tc : Thread Cert.PoolDxReferenceIdeal.nD Cert.PoolDxReferenceIdeal.τ).loc Cert.PoolDxReferenceIdeal.main_v157) = v0 c
          ∧ r.2.mem ((c.tc : Thread Cert.PoolDxReferenceIdeal.nD Cert.PoolDxReferenceIdeal.τ).loc Cert.PoolDxReferenceIdeal.main_arg0) = m' ((c.tc : Thread Cert.PoolDxReferenceIdeal.nD Cert.PoolDxReferenceIdeal.τ).loc Cert.PoolDxReferenceIdeal.main_arg0))

def preserves_Pool_PoolIdeal : Prop :=
  True

def algebraic_PoolIdeal_PoolReferenceIdeal_pre_finite_rows [hPoolIdeal : Cert.PoolIdeal.Facts] [hPoolReferenceIdeal : Cert.PoolReferenceIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_finite_rows m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v83) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hUpDx : Cert.UpDx.Facts) (hUpDxIdeal : Cert.UpDxIdeal.Facts) (hUpDxReferenceIdeal : Cert.UpDxReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDownDwOther : Cert.DownDwOther.Facts) (hDownDwOtherIdeal : Cert.DownDwOtherIdeal.Facts) (hDownDwOtherReferenceIdeal : Cert.DownDwOtherReferenceIdeal.Facts) (hDownDwOwn : Cert.DownDwOwn.Facts) (hDownDwOwnIdeal : Cert.DownDwOwnIdeal.Facts) (hDownDwOwnReferenceIdeal : Cert.DownDwOwnReferenceIdeal.Facts) (hUpDwOther : Cert.UpDwOther.Facts) (hUpDwOtherIdeal : Cert.UpDwOtherIdeal.Facts) (hUpDwOtherReferenceIdeal : Cert.UpDwOtherReferenceIdeal.Facts) (hUpDwOwn : Cert.UpDwOwn.Facts) (hUpDwOwnIdeal : Cert.UpDwOwnIdeal.Facts) (hUpDwOwnReferenceIdeal : Cert.UpDwOwnReferenceIdeal.Facts) (hSquareDx : Cert.SquareDx.Facts) (hSquareDxIdeal : Cert.SquareDxIdeal.Facts) (hSquareDxReferenceIdeal : Cert.SquareDxReferenceIdeal.Facts) (hMixaInDx : Cert.MixaInDx.Facts) (hMixaInDxIdeal : Cert.MixaInDxIdeal.Facts) (hMixaInDxReferenceIdeal : Cert.MixaInDxReferenceIdeal.Facts) (hSquareDwOther : Cert.SquareDwOther.Facts) (hSquareDwOtherIdeal : Cert.SquareDwOtherIdeal.Facts) (hSquareDwOtherReferenceIdeal : Cert.SquareDwOtherReferenceIdeal.Facts) (hSquareDwOwn : Cert.SquareDwOwn.Facts) (hSquareDwOwnIdeal : Cert.SquareDwOwnIdeal.Facts) (hSquareDwOwnReferenceIdeal : Cert.SquareDwOwnReferenceIdeal.Facts) (hMixaInDwOther : Cert.MixaInDwOther.Facts) (hMixaInDwOtherIdeal : Cert.MixaInDwOtherIdeal.Facts) (hMixaInDwOtherReferenceIdeal : Cert.MixaInDwOtherReferenceIdeal.Facts) (hMixaInDwOwn : Cert.MixaInDwOwn.Facts) (hMixaInDwOwnIdeal : Cert.MixaInDwOwnIdeal.Facts) (hMixaInDwOwnReferenceIdeal : Cert.MixaInDwOwnReferenceIdeal.Facts) (hMixaIn : Cert.MixaIn.Facts) (hMixaInIdeal : Cert.MixaInIdeal.Facts) (hMixaInReferenceIdeal : Cert.MixaInReferenceIdeal.Facts) (hMixOut : Cert.MixOut.Facts) (hMixOutIdeal : Cert.MixOutIdeal.Facts) (hMixOutReferenceIdeal : Cert.MixOutReferenceIdeal.Facts) (hMixbIn : Cert.MixbIn.Facts) (hMixbInIdeal : Cert.MixbInIdeal.Facts) (hMixbInReferenceIdeal : Cert.MixbInReferenceIdeal.Facts) (hScaledDx : Cert.ScaledDx.Facts) (hScaledDxIdeal : Cert.ScaledDxIdeal.Facts) (hScaledDxReferenceIdeal : Cert.ScaledDxReferenceIdeal.Facts) (hGrpDx : Cert.GrpDx.Facts) (hGrpDxIdeal : Cert.GrpDxIdeal.Facts) (hGrpDxReferenceIdeal : Cert.GrpDxReferenceIdeal.Facts) (hGrpDw : Cert.GrpDw.Facts) (hGrpDwIdeal : Cert.GrpDwIdeal.Facts) (hGrpDwReferenceIdeal : Cert.GrpDwReferenceIdeal.Facts) (hGrp : Cert.Grp.Facts) (hGrpIdeal : Cert.GrpIdeal.Facts) (hGrpReferenceIdeal : Cert.GrpReferenceIdeal.Facts) (hMixaGate : Cert.MixaGate.Facts) (hMixaGateIdeal : Cert.MixaGateIdeal.Facts) (hMixaGateReferenceIdeal : Cert.MixaGateReferenceIdeal.Facts) (hPoolDx : Cert.PoolDx.Facts) (hPoolDxIdeal : Cert.PoolDxIdeal.Facts) (hPoolDxReferenceIdeal : Cert.PoolDxReferenceIdeal.Facts) (hPool : Cert.Pool.Facts) (hPoolIdeal : Cert.PoolIdeal.Facts) (hPoolReferenceIdeal : Cert.PoolReferenceIdeal.Facts) (hRms : Cert.Rms.Facts) (hRmsIdeal : Cert.RmsIdeal.Facts) (hRmsReferenceIdeal : Cert.RmsReferenceIdeal.Facts) (hPre_finite : Cert.Pre_finite.Facts) (hPre_is_core : Cert.Pre_is_core.Facts) (hPre_is_core_down_own : Cert.Pre_is_core_down_own.Facts) (hPre_is_core_up : Cert.Pre_is_core_up.Facts) (hPre_is_core_up_own : Cert.Pre_is_core_up_own.Facts) (hPre_is_core_square : Cert.Pre_is_core_square.Facts) (hPre_is_core_square_own : Cert.Pre_is_core_square_own.Facts) (hPre_is_core_mixa : Cert.Pre_is_core_mixa.Facts) (hPre_is_core_mixa_own : Cert.Pre_is_core_mixa_own.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_DownDwOther (hDownDwOther := hDownDwOther) (hPre_is_core := hPre_is_core)
    ∧ quiescent_DownDwOtherIdeal (hDownDwOtherIdeal := hDownDwOtherIdeal) (hPre_is_core := hPre_is_core)
    ∧ quiescent_DownDwOtherReferenceIdeal (hDownDwOtherReferenceIdeal := hDownDwOtherReferenceIdeal)
    ∧ quiescent_DownDwOtherReferenceIdeal_pre_is_core (hDownDwOtherReferenceIdeal := hDownDwOtherReferenceIdeal) (hPre_is_core := hPre_is_core)
    ∧ quiescent_DownDwOwn (hDownDwOwn := hDownDwOwn) (hPre_is_core_down_own := hPre_is_core_down_own)
    ∧ quiescent_DownDwOwnIdeal (hDownDwOwnIdeal := hDownDwOwnIdeal) (hPre_is_core_down_own := hPre_is_core_down_own)
    ∧ quiescent_DownDwOwnReferenceIdeal (hDownDwOwnReferenceIdeal := hDownDwOwnReferenceIdeal)
    ∧ quiescent_DownDwOwnReferenceIdeal_pre_is_core_down_own (hDownDwOwnReferenceIdeal := hDownDwOwnReferenceIdeal) (hPre_is_core_down_own := hPre_is_core_down_own)
    ∧ quiescent_UpDwOther (hUpDwOther := hUpDwOther) (hPre_is_core_up := hPre_is_core_up)
    ∧ quiescent_UpDwOtherIdeal (hUpDwOtherIdeal := hUpDwOtherIdeal) (hPre_is_core_up := hPre_is_core_up)
    ∧ quiescent_UpDwOtherReferenceIdeal (hUpDwOtherReferenceIdeal := hUpDwOtherReferenceIdeal)
    ∧ quiescent_UpDwOtherReferenceIdeal_pre_is_core_up (hUpDwOtherReferenceIdeal := hUpDwOtherReferenceIdeal) (hPre_is_core_up := hPre_is_core_up)
    ∧ quiescent_UpDwOwn (hUpDwOwn := hUpDwOwn) (hPre_is_core_up_own := hPre_is_core_up_own)
    ∧ quiescent_UpDwOwnIdeal (hUpDwOwnIdeal := hUpDwOwnIdeal) (hPre_is_core_up_own := hPre_is_core_up_own)
    ∧ quiescent_UpDwOwnReferenceIdeal (hUpDwOwnReferenceIdeal := hUpDwOwnReferenceIdeal)
    ∧ quiescent_UpDwOwnReferenceIdeal_pre_is_core_up_own (hUpDwOwnReferenceIdeal := hUpDwOwnReferenceIdeal) (hPre_is_core_up_own := hPre_is_core_up_own)
    ∧ quiescent_SquareDx (hSquareDx := hSquareDx)
    ∧ quiescent_SquareDxIdeal (hSquareDxIdeal := hSquareDxIdeal)
    ∧ quiescent_SquareDxReferenceIdeal (hSquareDxReferenceIdeal := hSquareDxReferenceIdeal)
    ∧ quiescent_MixaInDx (hMixaInDx := hMixaInDx)
    ∧ quiescent_MixaInDxIdeal (hMixaInDxIdeal := hMixaInDxIdeal)
    ∧ quiescent_MixaInDxReferenceIdeal (hMixaInDxReferenceIdeal := hMixaInDxReferenceIdeal)
    ∧ quiescent_SquareDwOther (hSquareDwOther := hSquareDwOther) (hPre_is_core_square := hPre_is_core_square)
    ∧ quiescent_SquareDwOtherIdeal (hSquareDwOtherIdeal := hSquareDwOtherIdeal) (hPre_is_core_square := hPre_is_core_square)
    ∧ quiescent_SquareDwOtherReferenceIdeal (hSquareDwOtherReferenceIdeal := hSquareDwOtherReferenceIdeal)
    ∧ quiescent_SquareDwOtherReferenceIdeal_pre_is_core_square (hSquareDwOtherReferenceIdeal := hSquareDwOtherReferenceIdeal) (hPre_is_core_square := hPre_is_core_square)
    ∧ quiescent_SquareDwOwn (hSquareDwOwn := hSquareDwOwn) (hPre_is_core_square_own := hPre_is_core_square_own)
    ∧ quiescent_SquareDwOwnIdeal (hSquareDwOwnIdeal := hSquareDwOwnIdeal) (hPre_is_core_square_own := hPre_is_core_square_own)
    ∧ quiescent_SquareDwOwnReferenceIdeal (hSquareDwOwnReferenceIdeal := hSquareDwOwnReferenceIdeal)
    ∧ quiescent_SquareDwOwnReferenceIdeal_pre_is_core_square_own (hSquareDwOwnReferenceIdeal := hSquareDwOwnReferenceIdeal) (hPre_is_core_square_own := hPre_is_core_square_own)
    ∧ quiescent_MixaInDwOther (hMixaInDwOther := hMixaInDwOther) (hPre_is_core_mixa := hPre_is_core_mixa)
    ∧ quiescent_MixaInDwOtherIdeal (hMixaInDwOtherIdeal := hMixaInDwOtherIdeal) (hPre_is_core_mixa := hPre_is_core_mixa)
    ∧ quiescent_MixaInDwOtherReferenceIdeal (hMixaInDwOtherReferenceIdeal := hMixaInDwOtherReferenceIdeal)
    ∧ quiescent_MixaInDwOtherReferenceIdeal_pre_is_core_mixa (hMixaInDwOtherReferenceIdeal := hMixaInDwOtherReferenceIdeal) (hPre_is_core_mixa := hPre_is_core_mixa)
    ∧ quiescent_MixaInDwOwn (hMixaInDwOwn := hMixaInDwOwn) (hPre_is_core_mixa_own := hPre_is_core_mixa_own)
    ∧ quiescent_MixaInDwOwnIdeal (hMixaInDwOwnIdeal := hMixaInDwOwnIdeal) (hPre_is_core_mixa_own := hPre_is_core_mixa_own)
    ∧ quiescent_MixaInDwOwnReferenceIdeal (hMixaInDwOwnReferenceIdeal := hMixaInDwOwnReferenceIdeal)
    ∧ quiescent_MixaInDwOwnReferenceIdeal_pre_is_core_mixa_own (hMixaInDwOwnReferenceIdeal := hMixaInDwOwnReferenceIdeal) (hPre_is_core_mixa_own := hPre_is_core_mixa_own)
    ∧ quiescent_MixaIn (hMixaIn := hMixaIn)
    ∧ quiescent_MixaInIdeal (hMixaInIdeal := hMixaInIdeal)
    ∧ quiescent_MixaInReferenceIdeal (hMixaInReferenceIdeal := hMixaInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixbIn (hMixbIn := hMixbIn)
    ∧ quiescent_MixbInIdeal (hMixbInIdeal := hMixbInIdeal)
    ∧ quiescent_MixbInReferenceIdeal (hMixbInReferenceIdeal := hMixbInReferenceIdeal)
    ∧ quiescent_ScaledDx (hScaledDx := hScaledDx)
    ∧ quiescent_ScaledDxIdeal (hScaledDxIdeal := hScaledDxIdeal)
    ∧ quiescent_ScaledDxReferenceIdeal (hScaledDxReferenceIdeal := hScaledDxReferenceIdeal)
    ∧ quiescent_GrpDx (hGrpDx := hGrpDx)
    ∧ quiescent_GrpDxIdeal (hGrpDxIdeal := hGrpDxIdeal)
    ∧ quiescent_GrpDxReferenceIdeal (hGrpDxReferenceIdeal := hGrpDxReferenceIdeal)
    ∧ quiescent_GrpDw (hGrpDw := hGrpDw)
    ∧ quiescent_GrpDwIdeal (hGrpDwIdeal := hGrpDwIdeal)
    ∧ quiescent_GrpDwReferenceIdeal (hGrpDwReferenceIdeal := hGrpDwReferenceIdeal)
    ∧ quiescent_Grp (hGrp := hGrp)
    ∧ quiescent_GrpIdeal (hGrpIdeal := hGrpIdeal)
    ∧ quiescent_GrpReferenceIdeal (hGrpReferenceIdeal := hGrpReferenceIdeal)
    ∧ quiescent_MixaGate (hMixaGate := hMixaGate)
    ∧ quiescent_MixaGateIdeal (hMixaGateIdeal := hMixaGateIdeal)
    ∧ quiescent_MixaGateReferenceIdeal (hMixaGateReferenceIdeal := hMixaGateReferenceIdeal)
    ∧ quiescent_PoolDx (hPoolDx := hPoolDx)
    ∧ quiescent_PoolDxIdeal (hPoolDxIdeal := hPoolDxIdeal)
    ∧ quiescent_PoolDxIdeal_pre_finite_rows (hPoolDxIdeal := hPoolDxIdeal) (hPre_finite_rows := hPre_finite_rows)
    ∧ quiescent_PoolDxReferenceIdeal (hPoolDxReferenceIdeal := hPoolDxReferenceIdeal)
    ∧ quiescent_PoolDxReferenceIdeal_pre_finite_rows (hPoolDxReferenceIdeal := hPoolDxReferenceIdeal) (hPre_finite_rows := hPre_finite_rows)
    ∧ quiescent_Pool (hPool := hPool)
    ∧ quiescent_PoolIdeal (hPoolIdeal := hPoolIdeal)
    ∧ quiescent_PoolIdeal_pre_finite_rows (hPoolIdeal := hPoolIdeal) (hPre_finite_rows := hPre_finite_rows)
    ∧ quiescent_PoolReferenceIdeal (hPoolReferenceIdeal := hPoolReferenceIdeal)
    ∧ quiescent_PoolReferenceIdeal_pre_finite_rows (hPoolReferenceIdeal := hPoolReferenceIdeal) (hPre_finite_rows := hPre_finite_rows)
    ∧ quiescent_Rms (hRms := hRms)
    ∧ quiescent_RmsIdeal (hRmsIdeal := hRmsIdeal)
    ∧ quiescent_RmsReferenceIdeal (hRmsReferenceIdeal := hRmsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_UpDx_UpDxIdeal
    ∧ algebraic_UpDxIdeal_UpDxReferenceIdeal (hUpDxIdeal := hUpDxIdeal) (hUpDxReferenceIdeal := hUpDxReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_DownDwOther_DownDwOtherIdeal
    ∧ algebraic_DownDwOtherIdeal_DownDwOtherReferenceIdeal (hDownDwOtherIdeal := hDownDwOtherIdeal) (hDownDwOtherReferenceIdeal := hDownDwOtherReferenceIdeal) (hPre_is_core := hPre_is_core)
    ∧ preserves_DownDwOwn_DownDwOwnIdeal
    ∧ algebraic_DownDwOwnIdeal_DownDwOwnReferenceIdeal (hDownDwOwnIdeal := hDownDwOwnIdeal) (hDownDwOwnReferenceIdeal := hDownDwOwnReferenceIdeal) (hPre_is_core_down_own := hPre_is_core_down_own)
    ∧ preserves_UpDwOther_UpDwOtherIdeal
    ∧ algebraic_UpDwOtherIdeal_UpDwOtherReferenceIdeal (hUpDwOtherIdeal := hUpDwOtherIdeal) (hUpDwOtherReferenceIdeal := hUpDwOtherReferenceIdeal) (hPre_is_core_up := hPre_is_core_up)
    ∧ preserves_UpDwOwn_UpDwOwnIdeal
    ∧ algebraic_UpDwOwnIdeal_UpDwOwnReferenceIdeal (hUpDwOwnIdeal := hUpDwOwnIdeal) (hUpDwOwnReferenceIdeal := hUpDwOwnReferenceIdeal) (hPre_is_core_up_own := hPre_is_core_up_own)
    ∧ preserves_SquareDx_SquareDxIdeal
    ∧ algebraic_SquareDxIdeal_SquareDxReferenceIdeal (hSquareDxIdeal := hSquareDxIdeal) (hSquareDxReferenceIdeal := hSquareDxReferenceIdeal)
    ∧ preserves_MixaInDx_MixaInDxIdeal
    ∧ algebraic_MixaInDxIdeal_MixaInDxReferenceIdeal (hMixaInDxIdeal := hMixaInDxIdeal) (hMixaInDxReferenceIdeal := hMixaInDxReferenceIdeal)
    ∧ preserves_SquareDwOther_SquareDwOtherIdeal
    ∧ algebraic_SquareDwOtherIdeal_SquareDwOtherReferenceIdeal (hSquareDwOtherIdeal := hSquareDwOtherIdeal) (hSquareDwOtherReferenceIdeal := hSquareDwOtherReferenceIdeal) (hPre_is_core_square := hPre_is_core_square)
    ∧ preserves_SquareDwOwn_SquareDwOwnIdeal
    ∧ algebraic_SquareDwOwnIdeal_SquareDwOwnReferenceIdeal (hSquareDwOwnIdeal := hSquareDwOwnIdeal) (hSquareDwOwnReferenceIdeal := hSquareDwOwnReferenceIdeal) (hPre_is_core_square_own := hPre_is_core_square_own)
    ∧ preserves_MixaInDwOther_MixaInDwOtherIdeal
    ∧ algebraic_MixaInDwOtherIdeal_MixaInDwOtherReferenceIdeal (hMixaInDwOtherIdeal := hMixaInDwOtherIdeal) (hMixaInDwOtherReferenceIdeal := hMixaInDwOtherReferenceIdeal) (hPre_is_core_mixa := hPre_is_core_mixa)
    ∧ preserves_MixaInDwOwn_MixaInDwOwnIdeal
    ∧ algebraic_MixaInDwOwnIdeal_MixaInDwOwnReferenceIdeal (hMixaInDwOwnIdeal := hMixaInDwOwnIdeal) (hMixaInDwOwnReferenceIdeal := hMixaInDwOwnReferenceIdeal) (hPre_is_core_mixa_own := hPre_is_core_mixa_own)
    ∧ preserves_MixaIn_MixaInIdeal
    ∧ algebraic_MixaInIdeal_MixaInReferenceIdeal (hMixaInIdeal := hMixaInIdeal) (hMixaInReferenceIdeal := hMixaInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixbIn_MixbInIdeal
    ∧ algebraic_MixbInIdeal_MixbInReferenceIdeal (hMixbInIdeal := hMixbInIdeal) (hMixbInReferenceIdeal := hMixbInReferenceIdeal)
    ∧ preserves_ScaledDx_ScaledDxIdeal
    ∧ algebraic_ScaledDxIdeal_ScaledDxReferenceIdeal (hScaledDxIdeal := hScaledDxIdeal) (hScaledDxReferenceIdeal := hScaledDxReferenceIdeal)
    ∧ preserves_GrpDx_GrpDxIdeal
    ∧ algebraic_GrpDxIdeal_GrpDxReferenceIdeal (hGrpDxIdeal := hGrpDxIdeal) (hGrpDxReferenceIdeal := hGrpDxReferenceIdeal)
    ∧ preserves_GrpDw_GrpDwIdeal
    ∧ algebraic_GrpDwIdeal_GrpDwReferenceIdeal (hGrpDwIdeal := hGrpDwIdeal) (hGrpDwReferenceIdeal := hGrpDwReferenceIdeal)
    ∧ preserves_Grp_GrpIdeal
    ∧ algebraic_GrpIdeal_GrpReferenceIdeal (hGrpIdeal := hGrpIdeal) (hGrpReferenceIdeal := hGrpReferenceIdeal)
    ∧ preserves_MixaGate_MixaGateIdeal
    ∧ algebraic_MixaGateIdeal_MixaGateReferenceIdeal (hMixaGateIdeal := hMixaGateIdeal) (hMixaGateReferenceIdeal := hMixaGateReferenceIdeal)
    ∧ preserves_PoolDx_PoolDxIdeal
    ∧ algebraic_PoolDxIdeal_PoolDxReferenceIdeal_pre_finite_rows (hPoolDxIdeal := hPoolDxIdeal) (hPoolDxReferenceIdeal := hPoolDxReferenceIdeal) (hPre_finite_rows := hPre_finite_rows)
    ∧ preserves_Pool_PoolIdeal
    ∧ algebraic_PoolIdeal_PoolReferenceIdeal_pre_finite_rows (hPoolIdeal := hPoolIdeal) (hPoolReferenceIdeal := hPoolReferenceIdeal) (hPre_finite_rows := hPre_finite_rows)
    ∧ preserves_Rms_RmsIdeal
    ∧ algebraic_RmsIdeal_RmsReferenceIdeal (hRmsIdeal := hRmsIdeal) (hRmsReferenceIdeal := hRmsReferenceIdeal)
-- ==== Pre_finite.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x4096 : S_.BroadcastsInDim S2048x4096 (![] : Fin 0 → Fin S2048x4096.rank)
  bcast_S_S2048x2048 : S_.BroadcastsInDim S2048x2048 (![] : Fin 0 → Fin S2048x2048.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S2048x4096 .f32) (main_arg1 : FVec F S2048x2048 .f32) (main_arg2 : FVec F S1x2048 .f32) (main_arg3 : FVec F S1x2048 .f32) (main_arg4 : FVec F S1x8x128x128 .f32) (main_arg5 : FVec F S1x8x128 .f32) : IVec S2048x4096 1 × IVec S2048x2048 1 × IVec S1x2048 1 × IVec S1x2048 1 × IVec S1x8x128x128 1 × IVec S1x8x128 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_rows.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_is_core.lean ====
abbrev S1 : Shape := ⟨1, ![1]⟩
abbrev S2048x8192 : Shape := ⟨2, ![2048, 8192]⟩
abbrev S2048x2048 : Shape := ⟨2, ![2048, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x8192 .f32) (main_arg2 : FVec F S2048x2048 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_down_own.lean ====
abbrev S1 : Shape := ⟨1, ![1]⟩
abbrev S2048x8192 : Shape := ⟨2, ![2048, 8192]⟩
abbrev S2048x2048 : Shape := ⟨2, ![2048, 2048]⟩
abbrev S4x1024x2048 : Shape := ⟨3, ![4, 1024, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x8192 .f32) (main_arg2 : FVec F S2048x2048 .f32) (main_arg3 : FVec F S4x1024x2048 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_mixa.lean ====
abbrev S1 : Shape := ⟨1, ![1]⟩
abbrev S2048x2048 : Shape := ⟨2, ![2048, 2048]⟩
abbrev S2048x4096 : Shape := ⟨2, ![2048, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x4096 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_mixa_own.lean ====
abbrev S1 : Shape := ⟨1, ![1]⟩
abbrev S2048x2048 : Shape := ⟨2, ![2048, 2048]⟩
abbrev S2048x4096 : Shape := ⟨2, ![2048, 4096]⟩
abbrev S4x2048x512 : Shape := ⟨3, ![4, 2048, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x4096 .f32) (main_arg3 : FVec F S4x2048x512 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_square.lean ====
abbrev S1 : Shape := ⟨1, ![1]⟩
abbrev S2048x2048 : Shape := ⟨2, ![2048, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x2048 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_square_own.lean ====
abbrev S1 : Shape := ⟨1, ![1]⟩
abbrev S2048x2048 : Shape := ⟨2, ![2048, 2048]⟩
abbrev S4x256x2048 : Shape := ⟨3, ![4, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x2048 .f32) (main_arg3 : FVec F S4x256x2048 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_up.lean ====
abbrev S1 : Shape := ⟨1, ![1]⟩
abbrev S2048x2048 : Shape := ⟨2, ![2048, 2048]⟩
abbrev S2048x8192 : Shape := ⟨2, ![2048, 8192]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x8192 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_core_up_own.lean ====
abbrev S1 : Shape := ⟨1, ![1]⟩
abbrev S2048x2048 : Shape := ⟨2, ![2048, 2048]⟩
abbrev S2048x8192 : Shape := ⟨2, ![2048, 8192]⟩
abbrev S4x2048x1024 : Shape := ⟨3, ![4, 2048, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S2048x8192 .f32) (main_arg3 : FVec F S4x2048x1024 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Kernel.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S128x4096 : Shape := ⟨2, ![128, 4096]⟩
abbrev S128x2048 : Shape := ⟨2, ![128, 2048]⟩
abbrev S128x1 : Shape := ⟨2, ![128, 1]⟩
abbrev S128x256 : Shape := ⟨2, ![128, 256]⟩
abbrev S128 : Shape := ⟨1, ![128]⟩
abbrev S128x128 : Shape := ⟨2, ![128, 128]⟩
abbrev S1x256 : Shape := ⟨2, ![1, 256]⟩
abbrev S1x128x128 : Shape := ⟨3, ![1, 128, 128]⟩
abbrev S1x128x1 : Shape := ⟨3, ![1, 128, 1]⟩
abbrev S256 : Shape := ⟨1, ![256]⟩

abbrev nBuf : Space → Nat
  | .hbm => 14
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128, .f32⟩
  | .hbm, ⟨7, _⟩ => ⟨S8x128x1, .f32⟩
  | .hbm, ⟨8, _⟩ => ⟨S8x128x128, .f32⟩
  | .hbm, ⟨9, _⟩ => ⟨S2048x4096, .bf16⟩
  | .hbm, ⟨10, _⟩ => ⟨S1x2048, .f32⟩
  | .hbm, ⟨11, _⟩ => ⟨S1x2048, .f32⟩
  | .hbm, ⟨12, _⟩ => ⟨S8x128x128, .f32⟩
  | .hbm, ⟨13, _⟩ => ⟨S8x128x1, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S8x128x1, .f32⟩
  | .local _ .vmem, ⟨14, _⟩ => ⟨S128x2048, .f32⟩
  | .local _ .vmem, ⟨15, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== ReferenceIdeal.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S8x128x128 : Shape := ⟨3, ![8, 128, 128]⟩
abbrev S1x128x128 : Shape := ⟨3, ![1, 128, 128]⟩
abbrev S8x16x256x128 : Shape := ⟨4, ![8, 16, 256, 128]⟩
abbrev S8x128 : Shape := ⟨2, ![8, 128]⟩
abbrev S128x8 : Shape := ⟨2, ![128, 8]⟩
abbrev S1x128x8x1 : Shape := ⟨4, ![1, 128, 8, 1]⟩
abbrev S8x128x1 : Shape := ⟨3, ![8, 128, 1]⟩

abbrev nBuf : Space → Nat
  | .hbm => 165
  | .vmem => 0
  | .smem => 0
  | _ => 0

abbrev hbmTy0_0 (i : Nat) : BufTy := match i % 128 with
  | 0 => ⟨S2048x4096, .f32⟩
  | 1 => ⟨S2048x2048, .f32⟩
  | 2 => ⟨S1x2048, .f32⟩
  | 3 => ⟨S1x2048, .f32⟩
  | 4 => ⟨S1x8x128x128, .f32⟩
  | 5 => ⟨S1x8x128, .f32⟩
  | 6 => ⟨S_, .f32⟩
  | 7 => ⟨S2048x4096, .f32⟩
  | 8 => ⟨S2048x4096, .f32⟩
  | 9 => ⟨S_, .f32⟩
  | 10 => ⟨S_, .f32⟩
  | 11 => ⟨S2048x4096, .f32⟩
  | 12 => ⟨S2048x4096, .f32⟩
  | 13 => ⟨S2048x4096, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S2048x4096, .f32⟩
  | 22 => ⟨S2048x4096, .f32⟩
  | 23 => ⟨S2048x4096, .f32⟩
  | 24 => ⟨S_, .f32⟩
  | 25 => ⟨S2048x4096, .f32⟩
  | 26 => ⟨S2048x4096, .f32⟩
  | 27 => ⟨S2048x4096, .f32⟩
  | 28 => ⟨S2048x2048, .f32⟩
  | 29 => ⟨S2048x2048, .f32⟩
  | 30 => ⟨S2048, .f32⟩
  | 31 => ⟨S2048, .f32⟩
  | 32 => ⟨S_, .f32⟩
  | 33 => ⟨S2048, .f32⟩
  | 34 => ⟨S2048x1, .f32⟩
  | 35 => ⟨S_, .f32⟩
  | 36 => ⟨S2048x1, .f32⟩
  | 37 => ⟨S2048x1, .f32⟩
  | 38 => ⟨S2048x2048, .f32⟩
  | 39 => ⟨S2048x2048, .f32⟩
  | 40 => ⟨S2048x2048, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x2048, .f32⟩
  | 56 => ⟨S2048x2048, .f32⟩
  | 57 => ⟨S1x2048, .f32⟩
  | 58 => ⟨S2048x2048, .f32⟩
  | 59 => ⟨S2048x2048, .f32⟩
  | 60 => ⟨S1x2048, .f32⟩
  | 61 => ⟨S2048x2048, .f32⟩
  | 62 => ⟨S2048x2048, .f32⟩
  | 63 => ⟨S16x128x8x256, .f32⟩
  | 64 => ⟨S_, .f32⟩
  | 65 => ⟨S128x128, .f32⟩
  | 66 => ⟨S128x128, .i32⟩
  | 67 => ⟨S_, .i32⟩
  | 68 => ⟨S128x128, .i32⟩
  | 69 => ⟨S128x128, .i32⟩
  | 70 => ⟨S128x128, .i32⟩
  | 71 => ⟨S128x128, .i1⟩
  | 72 => ⟨S_, .f32⟩
  | 73 => ⟨S128x128, .f32⟩
  | 74 => ⟨S128x128, .f32⟩
  | 75 => ⟨S8x128x128, .f32⟩
  | 76 => ⟨S1x128x128, .f32⟩
  | 77 => ⟨S8x128x128, .f32⟩
  | 78 => ⟨S8x128x128, .f32⟩
  | 79 => ⟨S8x16x256x128, .f32⟩
  | 80 => ⟨S16x128x8x256, .f32⟩
  | 81 => ⟨S8x128, .f32⟩
  | 82 => ⟨S128x8, .f32⟩
  | 83 => ⟨S1x128x8x1, .f32⟩
  | 84 => ⟨S16x128x8x256, .f32⟩
  | 85 => ⟨S16x128x8x256, .f32⟩
  | 86 => ⟨S2048x2048, .f32⟩
  | 87 => ⟨S2048x2048, .f32⟩
  | 88 => ⟨S2048x2048, .f32⟩
  | 89 => ⟨S2048x2048, .f32⟩
  | 90 => ⟨S16x128x8x256, .f32⟩
  | 91 => ⟨S_, .f32⟩
  | 92 => ⟨S128x8, .f32⟩
  | 93 => ⟨S1x128x8x1, .f32⟩
  | 94 => ⟨S_, .f32⟩
  | 95 => ⟨S128x8, .f32⟩
  | 96 => ⟨S8x128, .f32⟩
  | 97 => ⟨S1x8x128, .f32⟩
  | 98 => ⟨S8x16x256x128, .f32⟩
  | 99 => ⟨S8x128x128, .f32⟩
  | 100 => ⟨S8x16x256x128, .f32⟩
  | 101 => ⟨S16x128x8x256, .f32⟩
  | 102 => ⟨S8x128x128, .f32⟩
  | 103 => ⟨S8x128x128, .f32⟩
  | 104 => ⟨S1x8x128x128, .f32⟩
  | 105 => ⟨S2048x2048, .f32⟩
  | 106 => ⟨S_, .f32⟩
  | 107 => ⟨S2048, .f32⟩
  | 108 => ⟨S1x2048, .f32⟩
  | 109 => ⟨S_, .f32⟩
  | 110 => ⟨S2048, .f32⟩
  | 111 => ⟨S2048x2048, .f32⟩
  | 112 => ⟨S_, .f32⟩
  | 113 => ⟨S2048, .f32⟩
  | 114 => ⟨S1x2048, .f32⟩
  | 115 => ⟨S2048x2048, .f32⟩
  | 116 => ⟨S2048x2048, .f32⟩
  | 117 => ⟨S_, .f32⟩
  | 118 => ⟨S2048, .f32⟩
  | 119 => ⟨S2048x2048, .f32⟩
  | 120 => ⟨S_, .f32⟩
  | 121 => ⟨S2048, .f32⟩
  | 122 => ⟨S2048x1, .f32⟩
  | 123 => ⟨S2048x2048, .f32⟩
  | 124 => ⟨S2048x2048, .f32⟩
  | 125 => ⟨S2048x1, .f32⟩
  | 126 => ⟨S_, .f32⟩
  | 127 => ⟨S2048x1, .f32⟩
  | _ => ⟨S2048x4096, .f32⟩

abbrev hbmTy0_1 (i : Nat) : BufTy := match i % 128 with
  | 0 => ⟨S2048x1, .f32⟩
  | 1 => ⟨S_, .f32⟩
  | 2 => ⟨S2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048, .f32⟩
  | 17 => ⟨S2048x2048, .f32⟩
  | 18 => ⟨S2048x2048, .f32⟩
  | 19 => ⟨S1x2048, .f32⟩
  | 20 => ⟨S1x2048, .f32⟩
  | 21 => ⟨S2048x4096, .f32⟩
  | 22 => ⟨S2048x4096, .f32⟩
  | 23 => ⟨S2048x4096, .f32⟩
  | 24 => ⟨S2048x4096, .f32⟩
  | 25 => ⟨S2048x4096, .f32⟩
  | 26 => ⟨S2048x4096, .f32⟩
  | 27 => ⟨S2048x4096, .f32⟩
  | 28 => ⟨S2048x4096, .f32⟩
  | 29 => ⟨S_, .f32⟩
  | 30 => ⟨S2048x4096, .f32⟩
  | 31 => ⟨S2048x4096, .f32⟩
  | 32 => ⟨S2048x4096, .f32⟩
  | 33 => ⟨S2048x4096, .bf16⟩
  | 34 => ⟨S8x128x128, .f32⟩
  | 35 => ⟨S8x128, .f32⟩
  | 36 => ⟨S8x128x1, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_cst : Ref sig .tc := ⟨.hbm, 72, rfl⟩
abbrev main_call0_v5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_24 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩

abbrev nD : Nat := 1
abbrev τ : Topo := Topo.v7x

variable {F : FTy → Type} [FloatOps F]
-- ==== DownDx.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x2048, .bf16⟩
  | .hbm, ⟨8, _⟩ => ⟨S8192x2048, .bf16⟩
  | .hbm, ⟨9, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x2048, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== UpDx.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S2048x8192, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x2048, .bf16⟩
  | .hbm, ⟨6, _⟩ => ⟨S2048x8192, .bf16⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x8192, .bf16⟩
  | .hbm, ⟨4, _⟩ => ⟨S8192x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDwOther.lean ====
abbrev S1 : Shape := ⟨1, ![1]⟩
abbrev S2048x8192 : Shape := ⟨2, ![2048, 8192]⟩
abbrev S2048x2048 : Shape := ⟨2, ![2048, 2048]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let c1_i32_5 : BitVec 32 := 1#32
  let v19 : BitVec 32 := Scalar.subi c1_i32_5 v18
  let v20 : BitVec 32 := Scalar.addi v17 v19
  let c1_i32_6 : BitVec 32 := 1#32
  let v21 : BitVec 32 := Scalar.muli v20 c1_i32_6
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwOtherReferenceIdeal.lean ====
abbrev S1 : Shape := ⟨1, ![1]⟩
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x8192, .f32⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S4x2x1024x2048, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S4x1x1024x2048, .f32⟩
  | .hbm, ⟨13, _⟩ => ⟨S4x1024x2048, .f32⟩
  | .hbm, ⟨14, _⟩ => ⟨S4x1x1024x2048, .f32⟩
  | .hbm, ⟨15, _⟩ => ⟨S4x1024x2048, .f32⟩
  | .hbm, ⟨16, _⟩ => ⟨S4x1024x2048, .f32⟩
  | .hbm, ⟨17, _⟩ => ⟨S4x1024x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DownDwOwn.lean ====
abbrev S1 : Shape := ⟨1, ![1]⟩
abbrev S2048x8192 : Shape := ⟨2, ![2048, 8192]⟩
abbrev S2048x2048 : Shape := ⟨2, ![2048, 2048]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 1
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S4x1024x2048, .bf16⟩
  | .hbm, ⟨3, _⟩ => ⟨S2048x8192, .bf16⟩
  | .hbm, ⟨4, _⟩ => ⟨S2048x2048, .bf16⟩
  | .hbm, ⟨5, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .smem, ⟨0, _⟩ => ⟨S1, .i32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwOwnReferenceIdeal.lean ====
abbrev S1 : Shape := ⟨1, ![1]⟩
abbrev S2048x8192 : Shape := ⟨2, ![2048, 8192]⟩
abbrev S2048x2048 : Shape := ⟨2, ![2048, 2048]⟩
abbrev S4x1024x2048 : Shape := ⟨3, ![4, 1024, 2048]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x8192, .f32⟩
  | .hbm, ⟨2, _⟩ => ⟨S2048x2048, .f32⟩
  | .hbm, ⟨3, _⟩ => ⟨S4x1024x2048, .bf16⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S4x2x1024x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x1024x2048, .f32⟩
  | .hbm, ⟨14, _⟩ => ⟨S4x1024x2048, .f32⟩
  | .hbm, ⟨15, _⟩ => ⟨S4x1x1024x2048, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S4x1024x2048, .f32⟩
  | .hbm, ⟨20, _⟩ => ⟨S4x1024x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== UpDwOther.lean ====
abbrev S1 : Shape := ⟨1, ![1]⟩
abbrev S2048x2048 : Shape := ⟨2, ![2048, 2048]⟩
abbrev S2048x8192 : Shape := ⟨2, ![2048, 8192]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let c1_i32_5 : BitVec 32 := 1#32
  let v19 : BitVec 32 := Scalar.subi c1_i32_5 v18
  let v20 : BitVec 32 := Scalar.addi v17 v19
  let c1_i32_6 : BitVec 32 := 1#32
  let v21 : BitVec 32 := Scalar.muli v20 c1_i32_6
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg1 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwOtherReferenceIdeal.lean ====
abbrev S1 : Shape := ⟨1, ![1]⟩
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩
abbrev S4x2048x1024 : Shape := ⟨3, ![4, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x4x2x1024, .f32⟩
  | .hbm, ⟨9, _⟩ => ⟨S4x2x2048x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x2048x1024, .f32⟩
  | .hbm, ⟨14, _⟩ => ⟨S4x2048x1024, .f32⟩
  | .hbm, ⟨15, _⟩ => ⟨S4x1x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== UpDwOwn.lean ====
abbrev S1 : Shape := ⟨1, ![1]⟩
abbrev S2048x2048 : Shape := ⟨2, ![2048, 2048]⟩
abbrev S2048x8192 : Shape := ⟨2, ![2048, 8192]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 1
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S4x2048x1024, .bf16⟩
  | .hbm, ⟨3, _⟩ => ⟨S2048x2048, .bf16⟩
  | .hbm, ⟨4, _⟩ => ⟨S2048x8192, .bf16⟩
  | .hbm, ⟨5, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwOwnReferenceIdeal.lean ====
abbrev S1 : Shape := ⟨1, ![1]⟩
abbrev S2048x2048 : Shape := ⟨2, ![2048, 2048]⟩
abbrev S2048x8192 : Shape := ⟨2, ![2048, 8192]⟩
abbrev S4x2048x1024 : Shape := ⟨3, ![4, 2048, 1024]⟩
abbrev S_ : Shape := ⟨0, ![]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x8192, .f32⟩
  | .hbm, ⟨3, _⟩ => ⟨S4x2048x1024, .bf16⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x4x2x1024, .f32⟩
  | .hbm, ⟨10, _⟩ => ⟨S4x2x2048x1024, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4x1x2048x1024, .f32⟩
  | .hbm, ⟨15, _⟩ => ⟨S4x2048x1024, .f32⟩
  | .hbm, ⟨16, _⟩ => ⟨S4x1x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SquareDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixaInDx.lean ====
abbrev S2048x2048 : Shape := ⟨2, ![2048, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | .hbm, ⟨3, _⟩ => ⟨S2048x8x512, .f32⟩
  | .hbm, ⟨4, _⟩ => ⟨S8x2048x512, .f32⟩
  | .hbm, ⟨5, _⟩ => ⟨S8x2048x512, .bf16⟩
  | .hbm, ⟨6, _⟩ => ⟨S2048x4096, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixaInDxReferenceIdeal.lean ====
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== SquareDwOther.lean ====
abbrev S1 : Shape := ⟨1, ![1]⟩
abbrev S2048x2048 : Shape := ⟨2, ![2048, 2048]⟩
abbrev S4x256x2048 : Shape := ⟨3, ![4, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let c1_i32_5 : BitVec 32 := 1#32
  let v19 : BitVec 32 := Scalar.subi c1_i32_5 v18
  let v20 : BitVec 32 := Scalar.addi v17 v19
  let c1_i32_6 : BitVec 32 := 1#32
  let v21 : BitVec 32 := Scalar.muli v20 c1_i32_6
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwOtherReferenceIdeal.lean ====
abbrev S1 : Shape := ⟨1, ![1]⟩
abbrev S2048x2048 : Shape := ⟨2, ![2048, 2048]⟩
abbrev S_ : Shape := ⟨0, ![]⟩
abbrev S4x2x256x2048 : Shape := ⟨4, ![4, 2, 256, 2048]⟩
abbrev S4x1x256x2048 : Shape := ⟨4, ![4, 1, 256, 2048]⟩
abbrev S4x256x2048 : Shape := ⟨3, ![4, 256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4x2x256x2048, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S4x1x256x2048, .f32⟩
  | .hbm, ⟨13, _⟩ => ⟨S4x256x2048, .f32⟩
  | .hbm, ⟨14, _⟩ => ⟨S4x1x256x2048, .f32⟩
  | .hbm, ⟨15, _⟩ => ⟨S4x256x2048, .f32⟩
  | .hbm, ⟨16, _⟩ => ⟨S4x256x2048, .f32⟩
  | .hbm, ⟨17, _⟩ => ⟨S4x256x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SquareDwOwn.lean ====
abbrev S1 : Shape := ⟨1, ![1]⟩
abbrev S2048x2048 : Shape := ⟨2, ![2048, 2048]⟩
abbrev S4x256x2048 : Shape := ⟨3, ![4, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 6
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x256x2048, .bf16⟩
  | .hbm, ⟨3, _⟩ => ⟨S2048x2048, .bf16⟩
  | .hbm, ⟨4, _⟩ => ⟨S2048x2048, .bf16⟩
  | .hbm, ⟨5, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SquareDwOwnReferenceIdeal.lean ====
abbrev S1 : Shape := ⟨1, ![1]⟩
abbrev S2048x2048 : Shape := ⟨2, ![2048, 2048]⟩
abbrev S4x256x2048 : Shape := ⟨3, ![4, 256, 2048]⟩
abbrev S_ : Shape := ⟨0, ![]⟩
abbrev S4x2x256x2048 : Shape := ⟨4, ![4, 2, 256, 2048]⟩
abbrev S4x1x256x2048 : Shape := ⟨4, ![4, 1, 256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x2048, .f32⟩
  | .hbm, ⟨3, _⟩ => ⟨S4x256x2048, .bf16⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x256x2048, .f32⟩
  | .hbm, ⟨14, _⟩ => ⟨S4x256x2048, .f32⟩
  | .hbm, ⟨15, _⟩ => ⟨S4x1x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S4x256x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixaInDwOther.lean ====
abbrev S1 : Shape := ⟨1, ![1]⟩
abbrev S2048x2048 : Shape := ⟨2, ![2048, 2048]⟩
abbrev S2048x4096 : Shape := ⟨2, ![2048, 4096]⟩
abbrev S4x2048x512 : Shape := ⟨3, ![4, 2048, 512]⟩
abbrev S2048x512 : Shape := ⟨2, ![2048, 512]⟩
abbrev S1x2048x512 : Shape := ⟨3, ![1, 2048, 512]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .bf16⟩
  | .hbm, ⟨3, _⟩ => ⟨S2048x4096, .bf16⟩
  | .hbm, ⟨4, _⟩ => ⟨S4x2048x512, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let c1_i32_5 : BitVec 32 := 1#32
  let v19 : BitVec 32 := Scalar.subi c1_i32_5 v18
  let v20 : BitVec 32 := Scalar.addi v17 v19
  let c1_i32_6 : BitVec 32 := 1#32
  let v21 : BitVec 32 := Scalar.muli v20 c1_i32_6
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg1 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixaInDwOtherReferenceIdeal.lean ====
abbrev S1 : Shape := ⟨1, ![1]⟩
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x2x512 : Shape := ⟨4, ![2048, 4, 2, 512]⟩
abbrev S4x2x2048x512 : Shape := ⟨4, ![4, 2, 2048, 512]⟩
abbrev S4x1x2048x512 : Shape := ⟨4, ![4, 1, 2048, 512]⟩
abbrev S4x2048x512 : Shape := ⟨3, ![4, 2048, 512]⟩

abbrev nBuf : Space → Nat
  | .hbm => 19
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S4096x2048, .f32⟩
  | .hbm, ⟨7, _⟩ => ⟨S2048x4096, .f32⟩
  | .hbm, ⟨8, _⟩ => ⟨S2048x4x2x512, .f32⟩
  | .hbm, ⟨9, _⟩ => ⟨S4x2x2048x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1x2048x512, .f32⟩
  | .hbm, ⟨14, _⟩ => ⟨S4x2048x512, .f32⟩
  | .hbm, ⟨15, _⟩ => ⟨S4x1x2048x512, .f32⟩
  | .hbm, ⟨16, _⟩ => ⟨S4x2048x512, .f32⟩
  | .hbm, ⟨17, _⟩ => ⟨S4x2048x512, .f32⟩
  | .hbm, ⟨18, _⟩ => ⟨S4x2048x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixaInDwOwn.lean ====
abbrev S1 : Shape := ⟨1, ![1]⟩
abbrev S2048x2048 : Shape := ⟨2, ![2048, 2048]⟩
abbrev S2048x4096 : Shape := ⟨2, ![2048, 4096]⟩
abbrev S4x2048x512 : Shape := ⟨3, ![4, 2048, 512]⟩
abbrev S2048x512 : Shape := ⟨2, ![2048, 512]⟩
abbrev S1x2048x512 : Shape := ⟨3, ![1, 2048, 512]⟩

abbrev nBuf : Space → Nat
  | .hbm => 6
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4x2048x512, .bf16⟩
  | .hbm, ⟨3, _⟩ => ⟨S2048x2048, .bf16⟩
  | .hbm, ⟨4, _⟩ => ⟨S2048x4096, .bf16⟩
  | .hbm, ⟨5, _⟩ => ⟨S4x2048x512, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixaInDwOwnReferenceIdeal.lean ====
abbrev S1 : Shape := ⟨1, ![1]⟩
abbrev S2048x2048 : Shape := ⟨2, ![2048, 2048]⟩
abbrev S2048x4096 : Shape := ⟨2, ![2048, 4096]⟩
abbrev S4x2048x512 : Shape := ⟨3, ![4, 2048, 512]⟩
abbrev S_ : Shape := ⟨0, ![]⟩
abbrev S4096x2048 : Shape := ⟨2, ![4096, 2048]⟩
abbrev S2048x4x2x512 : Shape := ⟨4, ![2048, 4, 2, 512]⟩
abbrev S4x2x2048x512 : Shape := ⟨4, ![4, 2, 2048, 512]⟩
abbrev S4x1x2048x512 : Shape := ⟨4, ![4, 1, 2048, 512]⟩

abbrev nBuf : Space → Nat
  | .hbm => 22
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S2048x4096, .f32⟩
  | .hbm, ⟨3, _⟩ => ⟨S4x2048x512, .bf16⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4x2x512, .f32⟩
  | .hbm, ⟨10, _⟩ => ⟨S4x2x2048x512, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4x1x2048x512, .f32⟩
  | .hbm, ⟨15, _⟩ => ⟨S4x2048x512, .f32⟩
  | .hbm, ⟨16, _⟩ => ⟨S4x1x2048x512, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixaIn.lean ====
abbrev S2048x2048 : Shape := ⟨2, ![2048, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x8x512, .f32⟩
  | .hbm, ⟨3, _⟩ => ⟨S8x2048x512, .f32⟩
  | .hbm, ⟨4, _⟩ => ⟨S8x2048x512, .bf16⟩
  | .hbm, ⟨5, _⟩ => ⟨S2048x2048, .bf16⟩
  | .hbm, ⟨6, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixaInReferenceIdeal.lean ====
abbrev S2048x2048 : Shape := ⟨2, ![2048, 2048]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixbIn.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixbInReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ScaledDx.lean ====
abbrev S2048x2048 : Shape := ⟨2, ![2048, 2048]⟩
abbrev S1x2048 : Shape := ⟨2, ![1, 2048]⟩
abbrev S1024x2048 : Shape := ⟨2, ![1024, 2048]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_10 : BitVec 32 := 0#32
  let v18 : BitVec 1 := Scalar.cmpi .ne v17 c0_i32_10
  v18

def k0_cond2 (i : grid0.Coords) : BitVec 1 :=
  let arg1 : BitVec 32 := BitVec.ofNat 32 (i 1).val
  let c0_i32_11 : BitVec 32 := 0#32
  let v19 : BitVec 1 := Scalar.cmpi .sgt arg1 c0_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ScaledDxReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== GrpDx.lean ====
abbrev S2048x2048 : Shape := ⟨2, ![2048, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .f32⟩
  | .hbm, ⟨3, _⟩ => ⟨S2048x2048, .bf16⟩
  | .hbm, ⟨4, _⟩ => ⟨S4x512x512, .bf16⟩
  | .hbm, ⟨5, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GrpDxReferenceIdeal.lean ====
abbrev S2048x2048 : Shape := ⟨2, ![2048, 2048]⟩
abbrev S4x512x512 : Shape := ⟨3, ![4, 512, 512]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .f32⟩
  | .hbm, ⟨3, _⟩ => ⟨S2048x4x512, .f32⟩
  | .hbm, ⟨4, _⟩ => ⟨S4x512x2048, .f32⟩
  | .hbm, ⟨5, _⟩ => ⟨S2048x4x512, .f32⟩
  | .hbm, ⟨6, _⟩ => ⟨S2048x2048, .f32⟩
  | .hbm, ⟨7, _⟩ => ⟨S2048x4x512, .f32⟩
  | .hbm, ⟨8, _⟩ => ⟨S4x512x2048, .f32⟩
  | .hbm, ⟨9, _⟩ => ⟨S4x2048x512, .f32⟩
  | .hbm, ⟨10, _⟩ => ⟨S2048x4x512, .f32⟩
  | .hbm, ⟨11, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GrpDw.lean ====
abbrev S2048x2048 : Shape := ⟨2, ![2048, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S4x512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GrpDwReferenceIdeal.lean ====
abbrev S2048x2048 : Shape := ⟨2, ![2048, 2048]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .f32⟩
  | .hbm, ⟨3, _⟩ => ⟨S2048x4x512, .f32⟩
  | .hbm, ⟨4, _⟩ => ⟨S4x512x2048, .f32⟩
  | .hbm, ⟨5, _⟩ => ⟨S2048x4x512, .f32⟩
  | .hbm, ⟨6, _⟩ => ⟨S2048x2048, .f32⟩
  | .hbm, ⟨7, _⟩ => ⟨S2048x4x512, .f32⟩
  | .hbm, ⟨8, _⟩ => ⟨S4x512x2048, .f32⟩
  | .hbm, ⟨9, _⟩ => ⟨S4x512x512, .f32⟩
  | .hbm, ⟨10, _⟩ => ⟨S4x512x512, .f32⟩
  | .hbm, ⟨11, _⟩ => ⟨S4x512x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Grp.lean ====
abbrev S2048x2048 : Shape := ⟨2, ![2048, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S1x2048, .f32⟩
  | .hbm, ⟨3, _⟩ => ⟨S2048x2048, .bf16⟩
  | .hbm, ⟨4, _⟩ => ⟨S4x512x512, .bf16⟩
  | .hbm, ⟨5, _⟩ => ⟨S2048x2048, .bf16⟩
  | .hbm, ⟨6, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GrpReferenceIdeal.lean ====
abbrev S2048x2048 : Shape := ⟨2, ![2048, 2048]⟩
abbrev S4x512x512 : Shape := ⟨3, ![4, 512, 512]⟩
abbrev S1x2048 : Shape := ⟨2, ![1, 2048]⟩
abbrev S2048x4x512 : Shape := ⟨3, ![2048, 4, 512]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S1x2048, .f32⟩
  | .hbm, ⟨3, _⟩ => ⟨S2048x4x512, .f32⟩
  | .hbm, ⟨4, _⟩ => ⟨S4x512x2048, .f32⟩
  | .hbm, ⟨5, _⟩ => ⟨S2048x4x512, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixaGate.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S2048x2048 : Shape := ⟨2, ![2048, 2048]⟩
abbrev S128x4096 : Shape := ⟨2, ![128, 4096]⟩
abbrev S128x2048 : Shape := ⟨2, ![128, 2048]⟩
abbrev S128x1 : Shape := ⟨2, ![128, 1]⟩
abbrev S128x256 : Shape := ⟨2, ![128, 256]⟩
abbrev S128 : Shape := ⟨1, ![128]⟩
abbrev S1x256 : Shape := ⟨2, ![1, 256]⟩
abbrev S128x128 : Shape := ⟨2, ![128, 128]⟩
abbrev S1x128x128 : Shape := ⟨3, ![1, 128, 128]⟩
abbrev S1x128x1 : Shape := ⟨3, ![1, 128, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S8x128x1, .f32⟩
  | .hbm, ⟨8, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S8x128x1, .f32⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixaGateIdeal.lean ====
variable {F : FTy → Type} [FloatOps F] [Named F]
def κ : String → Option EReal := fun
  | "sqrt_half" => some (((Real.sqrt 2)⁻¹ : ℝ) : EReal)
  | _ => none
-- ==== MixaGateReferenceIdeal.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S8x128x128 : Shape := ⟨3, ![8, 128, 128]⟩
abbrev S1x128x128 : Shape := ⟨3, ![1, 128, 128]⟩
abbrev S8x16x256x128 : Shape := ⟨4, ![8, 16, 256, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x2048, .f32⟩
  | .hbm, ⟨18, _⟩ => ⟨S2048x2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S16x128x8x256, .f32⟩
  | .hbm, ⟨49, _⟩ => ⟨S_, .f32⟩
  | .hbm, ⟨50, _⟩ => ⟨S128x128, .f32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S8x128x128, .f32⟩
  | .hbm, ⟨61, _⟩ => ⟨S1x128x128, .f32⟩
  | .hbm, ⟨62, _⟩ => ⟨S8x128x128, .f32⟩
  | .hbm, ⟨63, _⟩ => ⟨S8x128x128, .f32⟩
  | .hbm, ⟨64, _⟩ => ⟨S8x16x256x128, .f32⟩
  | .hbm, ⟨65, _⟩ => ⟨S16x128x8x256, .f32⟩
  | .hbm, ⟨66, _⟩ => ⟨S8x128, .f32⟩
  | .hbm, ⟨67, _⟩ => ⟨S128x8, .f32⟩
  | .hbm, ⟨68, _⟩ => ⟨S1x128x8x1, .f32⟩
  | .hbm, ⟨69, _⟩ => ⟨S16x128x8x256, .f32⟩
  | .hbm, ⟨70, _⟩ => ⟨S16x128x8x256, .f32⟩
  | .hbm, ⟨71, _⟩ => ⟨S2048x2048, .f32⟩
  | .hbm, ⟨72, _⟩ => ⟨S2048x2048, .f32⟩
  | .hbm, ⟨73, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_cst : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== PoolDx.lean ====
abbrev S2048x2048 : Shape := ⟨2, ![2048, 2048]⟩
abbrev S2048x512 : Shape := ⟨2, ![2048, 512]⟩
abbrev S2048x128 : Shape := ⟨2, ![2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolDxReferenceIdeal.lean ====
abbrev S2048x2048 : Shape := ⟨2, ![2048, 2048]⟩
abbrev S_ : Shape := ⟨0, ![]⟩
abbrev S2048x4x512 : Shape := ⟨3, ![2048, 4, 512]⟩
abbrev S2048x1x512 : Shape := ⟨3, ![2048, 1, 512]⟩
abbrev S2048x512 : Shape := ⟨2, ![2048, 512]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 204
  | .vmem => 0
  | .smem => 0
  | _ => 0

abbrev hbmTy0_0 (i : Nat) : BufTy := match i % 128 with
  | 0 => ⟨S2048x2048, .f32⟩
  | 1 => ⟨S_, .f32⟩
  | 2 => ⟨S2048x2048, .f32⟩
  | 3 => ⟨S2048x4x512, .f32⟩
  | 4 => ⟨S2048x1x512, .f32⟩
  | 5 => ⟨S2048x512, .f32⟩
  | 6 => ⟨S_, .f32⟩
  | 7 => ⟨S_, .f32⟩
  | 8 => ⟨S2048x512, .f32⟩
  | 9 => ⟨S_, .f32⟩
  | 10 => ⟨S2x512, .f32⟩
  | 11 => ⟨S2046x512, .f32⟩
  | 12 => ⟨S2048x512, .f32⟩
  | 13 => ⟨S_, .f32⟩
  | 14 => ⟨S2x512, .f32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .f32⟩
  | 23 => ⟨S2048x512, .f32⟩
  | 24 => ⟨S2048x1, .f32⟩
  | 25 => ⟨S2048x512, .f32⟩
  | 26 => ⟨S2048x512, .f32⟩
  | 27 => ⟨S2048x1x512, .f32⟩
  | 28 => ⟨S2048x512, .f32⟩
  | 29 => ⟨S2048x512, .f32⟩
  | 30 => ⟨S2048x1x512, .f32⟩
  | 31 => ⟨S2048x512, .f32⟩
  | 32 => ⟨S_, .f32⟩
  | 33 => ⟨S_, .f32⟩
  | 34 => ⟨S2048x512, .f32⟩
  | 35 => ⟨S_, .f32⟩
  | 36 => ⟨S4x512, .f32⟩
  | 37 => ⟨S2044x512, .f32⟩
  | 38 => ⟨S2048x512, .f32⟩
  | 39 => ⟨S_, .f32⟩
  | 40 => ⟨S4x512, .f32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S2048, .f32⟩
  | 49 => ⟨S2048x512, .f32⟩
  | 50 => ⟨S2048x1, .f32⟩
  | 51 => ⟨S2048x512, .f32⟩
  | 52 => ⟨S2048x512, .f32⟩
  | 53 => ⟨S2048x1x512, .f32⟩
  | 54 => ⟨S2048x512, .f32⟩
  | 55 => ⟨S2048x512, .f32⟩
  | 56 => ⟨S2048x1x512, .f32⟩
  | 57 => ⟨S2048x512, .f32⟩
  | 58 => ⟨S_, .f32⟩
  | 59 => ⟨S_, .f32⟩
  | 60 => ⟨S2048x512, .f32⟩
  | 61 => ⟨S_, .f32⟩
  | 62 => ⟨S8x512, .f32⟩
  | 63 => ⟨S2040x512, .f32⟩
  | 64 => ⟨S2048x512, .f32⟩
  | 65 => ⟨S_, .f32⟩
  | 66 => ⟨S8x512, .f32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S2048x512, .f32⟩
  | 76 => ⟨S2048x1, .f32⟩
  | 77 => ⟨S2048x512, .f32⟩
  | 78 => ⟨S2048x512, .f32⟩
  | 79 => ⟨S2048x1x512, .f32⟩
  | 80 => ⟨S2048x512, .f32⟩
  | 81 => ⟨S2048x512, .f32⟩
  | 82 => ⟨S2048x1x512, .f32⟩
  | 83 => ⟨S2048x512, .f32⟩
  | 84 => ⟨S_, .f32⟩
  | 85 => ⟨S_, .f32⟩
  | 86 => ⟨S2048x512, .f32⟩
  | 87 => ⟨S_, .f32⟩
  | 88 => ⟨S16x512, .f32⟩
  | 89 => ⟨S2032x512, .f32⟩
  | 90 => ⟨S2048x512, .f32⟩
  | 91 => ⟨S_, .f32⟩
  | 92 => ⟨S16x512, .f32⟩
  | 93 => ⟨S2048, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S2048, .f32⟩
  | 101 => ⟨S2048x512, .f32⟩
  | 102 => ⟨S2048x1, .f32⟩
  | 103 => ⟨S2048x512, .f32⟩
  | 104 => ⟨S2048x512, .f32⟩
  | 105 => ⟨S2048x1x512, .f32⟩
  | 106 => ⟨S2048x512, .f32⟩
  | 107 => ⟨S2048x512, .f32⟩
  | 108 => ⟨S2048x1x512, .f32⟩
  | 109 => ⟨S2048x1x512, .f32⟩
  | 110 => ⟨S2048x1x512, .f32⟩
  | 111 => ⟨S2048x1x512, .f32⟩
  | 112 => ⟨S2048x4x512, .f32⟩
  | 113 => ⟨S2048x2048, .f32⟩
  | 114 => ⟨S2048x4x512, .f32⟩
  | 115 => ⟨S2048x1x512, .f32⟩
  | 116 => ⟨S2048x512, .f32⟩
  | 117 => ⟨S2048x1x512, .f32⟩
  | 118 => ⟨S2048x512, .f32⟩
  | 119 => ⟨S2048x1x512, .f32⟩
  | 120 => ⟨S2048x512, .f32⟩
  | 121 => ⟨S2048x1x512, .f32⟩
  | 122 => ⟨S2048x512, .f32⟩
  | 123 => ⟨S2048x512, .f32⟩
  | 124 => ⟨S2048x1x512, .f32⟩
  | 125 => ⟨S_, .f32⟩
  | 126 => ⟨S2048x4x512, .f32⟩
  | 127 => ⟨S2048x512, .f32⟩
  | _ => ⟨S2048x2048, .f32⟩

abbrev hbmTy0_1 (i : Nat) : BufTy := match i % 128 with
  | 0 => ⟨S2048x512, .f32⟩
  | 1 => ⟨S2048x512, .f32⟩
  | 2 => ⟨S16x512, .f32⟩
  | 3 => ⟨S2032x512, .f32⟩
  | 4 => ⟨S_, .f32⟩
  | 5 => ⟨S2048x512, .f32⟩
  | 6 => ⟨S2048x512, .f32⟩
  | 7 => ⟨S_, .f32⟩
  | 8 => ⟨S_, .f32⟩
  | 9 => ⟨S2048x512, .f32⟩
  | 10 => ⟨S2048x1x512, .f32⟩
  | 11 => ⟨S_, .f32⟩
  | 12 => ⟨S2048x4x512, .f32⟩
  | 13 => ⟨S2048x4x512, .f32⟩
  | 14 => ⟨S2048x512, .f32⟩
  | 15 => ⟨S2048x1x512, .f32⟩
  | 16 => ⟨S_, .f32⟩
  | 17 => ⟨S2048x4x512, .f32⟩
  | 18 => ⟨S2048x4x512, .f32⟩
  | 19 => ⟨S2048x512, .f32⟩
  | 20 => ⟨S2048x512, .f32⟩
  | 21 => ⟨S2048x512, .f32⟩
  | 22 => ⟨S8x512, .f32⟩
  | 23 => ⟨S2040x512, .f32⟩
  | 24 => ⟨S_, .f32⟩
  | 25 => ⟨S2048x512, .f32⟩
  | 26 => ⟨S2048x512, .f32⟩
  | 27 => ⟨S_, .f32⟩
  | 28 => ⟨S_, .f32⟩
  | 29 => ⟨S2048x512, .f32⟩
  | 30 => ⟨S2048x1x512, .f32⟩
  | 31 => ⟨S_, .f32⟩
  | 32 => ⟨S2048x4x512, .f32⟩
  | 33 => ⟨S2048x4x512, .f32⟩
  | 34 => ⟨S2048x512, .f32⟩
  | 35 => ⟨S2048x1x512, .f32⟩
  | 36 => ⟨S_, .f32⟩
  | 37 => ⟨S2048x4x512, .f32⟩
  | 38 => ⟨S2048x4x512, .f32⟩
  | 39 => ⟨S2048x512, .f32⟩
  | 40 => ⟨S2048x512, .f32⟩
  | 41 => ⟨S2048x512, .f32⟩
  | 42 => ⟨S4x512, .f32⟩
  | 43 => ⟨S2044x512, .f32⟩
  | 44 => ⟨S_, .f32⟩
  | 45 => ⟨S2048x512, .f32⟩
  | 46 => ⟨S2048x512, .f32⟩
  | 47 => ⟨S_, .f32⟩
  | 48 => ⟨S_, .f32⟩
  | 49 => ⟨S2048x512, .f32⟩
  | 50 => ⟨S2048x1x512, .f32⟩
  | 51 => ⟨S_, .f32⟩
  | 52 => ⟨S2048x4x512, .f32⟩
  | 53 => ⟨S2048x4x512, .f32⟩
  | 54 => ⟨S2048x512, .f32⟩
  | 55 => ⟨S2048x1x512, .f32⟩
  | 56 => ⟨S_, .f32⟩
  | 57 => ⟨S2048x4x512, .f32⟩
  | 58 => ⟨S2048x4x512, .f32⟩
  | 59 => ⟨S2048x512, .f32⟩
  | 60 => ⟨S2048x512, .f32⟩
  | 61 => ⟨S2048x512, .f32⟩
  | 62 => ⟨S2x512, .f32⟩
  | 63 => ⟨S2046x512, .f32⟩
  | 64 => ⟨S_, .f32⟩
  | 65 => ⟨S2048x512, .f32⟩
  | 66 => ⟨S2048x512, .f32⟩
  | 67 => ⟨S_, .f32⟩
  | 68 => ⟨S_, .f32⟩
  | 69 => ⟨S2048x512, .f32⟩
  | 70 => ⟨S2048x1x512, .f32⟩
  | 71 => ⟨S_, .f32⟩
  | 72 => ⟨S2048x4x512, .f32⟩
  | 73 => ⟨S2048x4x512, .f32⟩
  | 74 => ⟨S2048x2048, .f32⟩
  | 75 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_call0_cst : Ref sig .tc := ⟨.hbm, 32, rfl⟩
abbrev main_call1_call0_v0 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call2_call0_cst : Ref sig .tc := ⟨.hbm, 58, rfl⟩
abbrev main_call2_call0_v0 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call3_call0_cst : Ref sig .tc := ⟨.hbm, 84, rfl⟩
abbrev main_call3_call0_v0 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_15 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_16 : Ref sig .tc := ⟨.hbm, 132, rfl⟩
abbrev main_v105 : Ref sig .tc := ⟨.hbm, 133, rfl⟩
abbrev main_v106 : Ref sig .tc := ⟨.hbm, 134, rfl⟩
abbrev main_call4_call0_cst : Ref sig .tc := ⟨.hbm, 135, rfl⟩
abbrev main_call4_call0_v0 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_19 : Ref sig .tc := ⟨.hbm, 152, rfl⟩
abbrev main_v120 : Ref sig .tc := ⟨.hbm, 153, rfl⟩
abbrev main_v121 : Ref sig .tc := ⟨.hbm, 154, rfl⟩
abbrev main_call5_call0_cst : Ref sig .tc := ⟨.hbm, 155, rfl⟩
abbrev main_call5_call0_v0 : Ref sig .tc := ⟨.hbm, 156, rfl⟩
abbrev main_v122 : Ref sig .tc := ⟨.hbm, 157, rfl⟩
abbrev main_v123 : Ref sig .tc := ⟨.hbm, 158, rfl⟩
abbrev main_cst_20 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_21 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_call6_call0_cst : Ref sig .tc := ⟨.hbm, 175, rfl⟩
abbrev main_call6_call0_v0 : Ref sig .tc := ⟨.hbm, 176, rfl⟩
abbrev main_v137 : Ref sig .tc := ⟨.hbm, 177, rfl⟩
abbrev main_v138 : Ref sig .tc := ⟨.hbm, 178, rfl⟩
abbrev main_cst_23 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_24 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_25 : Ref sig .tc := ⟨.hbm, 192, rfl⟩
abbrev main_v150 : Ref sig .tc := ⟨.hbm, 193, rfl⟩
abbrev main_v151 : Ref sig .tc := ⟨.hbm, 194, rfl⟩
abbrev main_call7_call0_cst : Ref sig .tc := ⟨.hbm, 195, rfl⟩
abbrev main_call7_call0_v0 : Ref sig .tc := ⟨.hbm, 196, rfl⟩
abbrev main_v152 : Ref sig .tc := ⟨.hbm, 197, rfl⟩
abbrev main_v153 : Ref sig .tc := ⟨.hbm, 198, rfl⟩
abbrev main_cst_26 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩

abbrev nD : Nat := 1
abbrev τ : Topo := Topo.v7x

variable {F : FTy → Type} [FloatOps F]
-- ==== Pool.lean ====
abbrev S2048x2048 : Shape := ⟨2, ![2048, 2048]⟩
abbrev S2048x512 : Shape := ⟨2, ![2048, 512]⟩
abbrev S2048x128 : Shape := ⟨2, ![2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolReferenceIdeal.lean ====
abbrev S2048x2048 : Shape := ⟨2, ![2048, 2048]⟩
abbrev S2048x4x512 : Shape := ⟨3, ![2048, 4, 512]⟩
abbrev S2048x1x512 : Shape := ⟨3, ![2048, 1, 512]⟩
abbrev S2048x512 : Shape := ⟨2, ![2048, 512]⟩
abbrev S_ : Shape := ⟨0, ![]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 105
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4x512, .f32⟩
  | .hbm, ⟨2, _⟩ => ⟨S2048x1x512, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2x512, .f32⟩
  | .hbm, ⟨9, _⟩ => ⟨S2046x512, .f32⟩
  | .hbm, ⟨10, _⟩ => ⟨S2048x512, .f32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .f32⟩
  | .hbm, ⟨19, _⟩ => ⟨S2048x512, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S2048x1x512, .f32⟩
  | .hbm, ⟨24, _⟩ => ⟨S2048x512, .f32⟩
  | .hbm, ⟨25, _⟩ => ⟨S2048x512, .f32⟩
  | .hbm, ⟨26, _⟩ => ⟨S2048x1x512, .f32⟩
  | .hbm, ⟨27, _⟩ => ⟨S2048x512, .f32⟩
  | .hbm, ⟨28, _⟩ => ⟨S_, .f32⟩
  | .hbm, ⟨29, _⟩ => ⟨S_, .f32⟩
  | .hbm, ⟨30, _⟩ => ⟨S2048x512, .f32⟩
  | .hbm, ⟨31, _⟩ => ⟨S_, .f32⟩
  | .hbm, ⟨32, _⟩ => ⟨S4x512, .f32⟩
  | .hbm, ⟨33, _⟩ => ⟨S2044x512, .f32⟩
  | .hbm, ⟨34, _⟩ => ⟨S2048x512, .f32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S2048x512, .f32⟩
  | .hbm, ⟨44, _⟩ => ⟨S2048x1, .f32⟩
  | .hbm, ⟨45, _⟩ => ⟨S2048x512, .f32⟩
  | .hbm, ⟨46, _⟩ => ⟨S2048x512, .f32⟩
  | .hbm, ⟨47, _⟩ => ⟨S2048x1x512, .f32⟩
  | .hbm, ⟨48, _⟩ => ⟨S2048x512, .f32⟩
  | .hbm, ⟨49, _⟩ => ⟨S2048x512, .f32⟩
  | .hbm, ⟨50, _⟩ => ⟨S2048x1x512, .f32⟩
  | .hbm, ⟨51, _⟩ => ⟨S2048x512, .f32⟩
  | .hbm, ⟨52, _⟩ => ⟨S_, .f32⟩
  | .hbm, ⟨53, _⟩ => ⟨S_, .f32⟩
  | .hbm, ⟨54, _⟩ => ⟨S2048x512, .f32⟩
  | .hbm, ⟨55, _⟩ => ⟨S_, .f32⟩
  | .hbm, ⟨56, _⟩ => ⟨S8x512, .f32⟩
  | .hbm, ⟨57, _⟩ => ⟨S2040x512, .f32⟩
  | .hbm, ⟨58, _⟩ => ⟨S2048x512, .f32⟩
  | .hbm, ⟨59, _⟩ => ⟨S2048, .i32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S2048x512, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1x512, .f32⟩
  | .hbm, ⟨72, _⟩ => ⟨S2048x512, .f32⟩
  | .hbm, ⟨73, _⟩ => ⟨S2048x512, .f32⟩
  | .hbm, ⟨74, _⟩ => ⟨S2048x1x512, .f32⟩
  | .hbm, ⟨75, _⟩ => ⟨S2048x512, .f32⟩
  | .hbm, ⟨76, _⟩ => ⟨S_, .f32⟩
  | .hbm, ⟨77, _⟩ => ⟨S_, .f32⟩
  | .hbm, ⟨78, _⟩ => ⟨S2048x512, .f32⟩
  | .hbm, ⟨79, _⟩ => ⟨S_, .f32⟩
  | .hbm, ⟨80, _⟩ => ⟨S16x512, .f32⟩
  | .hbm, ⟨81, _⟩ => ⟨S2032x512, .f32⟩
  | .hbm, ⟨82, _⟩ => ⟨S2048x512, .f32⟩
  | .hbm, ⟨83, _⟩ => ⟨S2048, .i32⟩
  | .hbm, ⟨84, _⟩ => ⟨S_, .i32⟩
  | .hbm, ⟨85, _⟩ => ⟨S2048, .i32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i32⟩
  | .hbm, ⟨90, _⟩ => ⟨S2048, .f32⟩
  | .hbm, ⟨91, _⟩ => ⟨S2048x512, .f32⟩
  | .hbm, ⟨92, _⟩ => ⟨S2048x1, .f32⟩
  | .hbm, ⟨93, _⟩ => ⟨S2048x512, .f32⟩
  | .hbm, ⟨94, _⟩ => ⟨S2048x512, .f32⟩
  | .hbm, ⟨95, _⟩ => ⟨S2048x1x512, .f32⟩
  | .hbm, ⟨96, _⟩ => ⟨S2048x512, .f32⟩
  | .hbm, ⟨97, _⟩ => ⟨S2048x512, .f32⟩
  | .hbm, ⟨98, _⟩ => ⟨S2048x1x512, .f32⟩
  | .hbm, ⟨99, _⟩ => ⟨S2048x1x512, .f32⟩
  | .hbm, ⟨100, _⟩ => ⟨S2048x1x512, .f32⟩
  | .hbm, ⟨101, _⟩ => ⟨S2048x1x512, .f32⟩
  | .hbm, ⟨102, _⟩ => ⟨S2048x4x512, .f32⟩
  | .hbm, ⟨103, _⟩ => ⟨S2048x2048, .f32⟩
  | .hbm, ⟨104, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call1_call0_cst : Ref sig .tc := ⟨.hbm, 28, rfl⟩
abbrev main_call1_call0_v0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call2_call0_cst : Ref sig .tc := ⟨.hbm, 52, rfl⟩
abbrev main_call2_call0_v0 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call3_call0_cst : Ref sig .tc := ⟨.hbm, 76, rfl⟩
abbrev main_call3_call0_v0 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_8 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Rms.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Spec.lean ====
module

public import proofs.«01_k».proof.Proof.Gen.KernelIdeal.Frame
public import Idealize.ShloMosaic.Lib.Pipeline.Value
public import Idealize.ShloMosaic.Lib.Pipeline.ReadBack

/-! The gate gradient's body, written once per group of 256 columns: what each of its values is as a vector, with the
    group's number a variable. `Words` shows that the eight written-out groups of the printed body are these. -/

@[expose] public section

set_option maxRecDepth 16384

noncomputable section

namespace Cert.KernelIdeal.Gate

open Idealize.ShloMosaic Idealize.ShloMosaic.TcCoe Idealize.SL.Sem Cert.KernelIdeal Cert.KernelIdeal.Gen

variable {F : FTy → Type} [FloatOps F] [Named F]

/-! ## Where group `g` lies -/

/-- Group `g`'s columns lie in the left half of a token row of 4096. -/
theorem inbU {g : ℕ} (h : g < 8) : ∀ a, (![0, 256 * g] : Fin 2 → ℕ) a + S128x256.size a ≤ S128x4096.size a := by
  intro a; fin_cases a
  · show 0 + 128 ≤ 128; omega
  · show 256 * g + 256 ≤ 4096; omega

/-- Group `g`'s columns lie in the right half of a token row of 4096. -/
theorem inbV {g : ℕ} (h : g < 8) : ∀ a, (![0, 2048 + 256 * g] : Fin 2 → ℕ) a + S128x256.size a ≤ S128x4096.size a := by
  intro a; fin_cases a
  · show 0 + 128 ≤ 128; omega
  · show 2048 + 256 * g + 256 ≤ 4096; omega

/-- Group `g`'s columns lie in a token row of 2048. -/
theorem inbD {g : ℕ} (h : g < 8) : ∀ a, (![0, 256 * g] : Fin 2 → ℕ) a + S128x256.size a ≤ S128x2048.size a := by
  intro a; fin_cases a
  · show 0 + 128 ≤ 128; omega
  · show 256 * g + 256 ≤ 2048; omega

/-- Group `g`'s columns lie in the one row of a gain. -/
theorem inbG {g : ℕ} (h : g < 8) : ∀ a, (![0, 256 * g] : Fin 2 → ℕ) a + S1x256.size a ≤ S1x2048.size a := by
  intro a; fin_cases a
  · show 0 + 1 ≤ 1; omega
  · show 256 * g + 256 ≤ 2048; omega

/-- Group `g`'s matrix lies in the stack of eight. -/
theorem inbW {g : ℕ} (h : g < 8) : ∀ a, (![g, 0, 0] : Fin 3 → ℕ) a + S1x128x128.size a ≤ S8x128x128.size a := by
  intro a; fin_cases a
  · show g + 1 ≤ 8; omega
  · show 0 + 128 ≤ 128; omega
  · show 0 + 128 ≤ 128; omega

/-- Group `g`'s column lies in the stack of eight. -/
theorem inbB {g : ℕ} (h : g < 8) : ∀ a, (![g, 0, 0] : Fin 3 → ℕ) a + S1x128x1.size a ≤ S8x128x1.size a := by
  intro a; fin_cases a
  · show g + 1 ≤ 8; omega
  · show 0 + 128 ≤ 128; omega
  · show 0 + 1 ≤ 1; omega

/-- The left columns of group `g`. -/
abbrev rU {g : ℕ} (h : g < 8) : Rect S128x4096 := Rect.unit ![0, 256 * g] S128x256.size (inbU h)
/-- The right columns of group `g`. -/
abbrev rV {g : ℕ} (h : g < 8) : Rect S128x4096 := Rect.unit ![0, 2048 + 256 * g] S128x256.size (inbV h)
/-- The columns of group `g` in a row of 2048. -/
abbrev rD {g : ℕ} (h : g < 8) : Rect S128x2048 := Rect.unit ![0, 256 * g] S128x256.size (inbD h)
/-- The columns of group `g` in a gain. -/
abbrev rG {g : ℕ} (h : g < 8) : Rect S1x2048 := Rect.unit ![0, 256 * g] S1x256.size (inbG h)
/-- The matrix of group `g`. -/
abbrev rW {g : ℕ} (h : g < 8) : Rect S8x128x128 := Rect.unit ![g, 0, 0] S1x128x128.size (inbW h)
/-- The column of group `g`. -/
abbrev rB {g : ℕ} (h : g < 8) : Rect S8x128x1 := Rect.unit ![g, 0, 0] S1x128x1.size (inbB h)

/-! ## The vectors -/

/-- The gelu of a tile. -/
def gelu (x : FVec F S128x256 .f32) : FVec F S128x256 .f32 :=
  mulf (mulf (broadcast S128x256 (Scalar.ofBits .f32 0x3F000000#32)) x)
    (addf (broadcast S128x256 (Scalar.ofBits .f32 0x3F800000#32))
      (erf (mulf x (broadcast S128x256 (Named.named κ "sqrt_half" 0x3F3504F3#32)))))

/-- The derivative of gelu, on a tile. -/
def geluGrad (x : FVec F S128x256 .f32) : FVec F S128x256 .f32 :=
  addf (mulf (broadcast S128x256 (Scalar.ofBits .f32 0x3F000000#32))
      (addf (broadcast S128x256 (Scalar.ofBits .f32 0x3F800000#32))
        (erf (mulf x (broadcast S128x256 (Named.named κ "sqrt_half" 0x3F3504F3#32))))))
    (mulf (mulf x (exp (mulf (mulf (broadcast S128x256 (Scalar.ofBits .f32 0xBF000000#32)) x) x)))
      (broadcast S128x256 (Named.named κ "inv_sqrt_2pi" 0x3ECC422A#32)))

/-- A running sum of rows, with one tile's rows added. -/
def rowAdd (a : FVec F S128x1 .f32) (v : FVec F S128x256 .f32) : FVec F S128x1 .f32 :=
  addf a (shapeCast S128x1 (multiReduction .add [1] S128 v 0x00000000#32 reduces_S128x256_S128 (.inl rfl) rfl) shapeCasts_S128_S128x1)

/-- The rows of eight tiles summed, from zero, tile by tile. -/
def rowSum8 (T : (g : ℕ) → g < 8 → FVec F S128x256 .f32) : FVec F S128x1 .f32 :=
  rowAdd (rowAdd (rowAdd (rowAdd (rowAdd (rowAdd (rowAdd (rowAdd (broadcast S128x1 (Scalar.ofBits .f32 0x00000000#32))
    (T 0 (by decide))) (T 1 (by decide))) (T 2 (by decide))) (T 3 (by decide))) (T 4 (by decide))) (T 5 (by decide)))
    (T 6 (by decide))) (T 7 (by decide))

/-- The same, over 2048. -/
def rowMean8 (T : (g : ℕ) → g < 8 → FVec F S128x256 .f32) : FVec F S128x1 .f32 :=
  mulf (rowSum8 T) (broadcast S128x1 (Scalar.ofBits .f32 0x3A000000#32))

/-- A tile's columns less a column. -/
def centred (mu : FVec F S128x1 .f32) (v : FVec F S128x256 .f32) : FVec F S128x256 .f32 :=
  subf v (broadcastTo S128x256 mu broadcasts_S128x1_S128x256)

/-- One over the square root of the mean square and epsilon. -/
def rstd (mu : FVec F S128x1 .f32) (T : (g : ℕ) → g < 8 → FVec F S128x256 .f32) : FVec F S128x1 .f32 :=
  rsqrt (addf (rowMean8 fun g h => mulf (centred mu (T g h)) (centred mu (T g h))) (broadcast S128x1 (Scalar.ofBits .f32 0x358637BD#32)))

/-- A tile normalised. -/
def vhat (mu rs : FVec F S128x1 .f32) (v : FVec F S128x256 .f32) : FVec F S128x256 .f32 :=
  mulf (centred mu v) (broadcastTo S128x256 rs broadcasts_S128x1_S128x256)

/-- A normalised tile with gain and bias. -/
def normed (vh : FVec F S128x256 .f32) (gn bs : FVec F S1x256 .f32) : FVec F S128x256 .bf16 :=
  truncf .bf16 (addf (mulf vh (broadcastTo S128x256 gn broadcasts_S1x256_S128x256)) (broadcastTo S128x256 bs broadcasts_S1x256_S128x256)) bitsLt_bf16_f32

/-- Row at or after column. -/
def causal : IVec S128x128 1 :=
  cmpi .sge (iota .tc S128x128 32 [0] iota_S128x128_d0_w32) (iota .tc S128x128 32 [1] iota_S128x128_d1_w32)

/-- A matrix, zero above its diagonal. -/
def masked (w : FVec F S128x128 .f32) : FVec F S128x128 .f32 :=
  select causal w (broadcast S128x128 (Scalar.ofBits .f32 0x00000000#32))

/-- A group's spatial matrix, masked. -/
def wMask (w : FVec F S1x128x128 .f32) : FVec F S128x128 .bf16 :=
  truncf .bf16 (masked (shapeCast S128x128 w shapeCasts_S1x128x128_S128x128)) bitsLt_bf16_f32

/-- A tile of the gate's cotangent times the gelu of the left half. -/
def dSpat (dg pu : FVec F S128x256 .f32) : FVec F S128x256 .f32 := mulf dg (gelu pu)

/-- A tile of the left half's gradient. -/
def dLeft (dg pu : FVec F S128x256 .f32) (vn : FVec F S128x256 .bf16) (w : FVec F S1x128x128 .f32) (b : FVec F S1x128x1 .f32) :
    FVec F S128x256 .bf16 :=
  truncf .bf16 (mulf (mulf dg (addf
      (matmul dot_S128x128_S128x256_S128x256_1_0_0_1_n_n none (wMask w) vn (constant S128x256 .f32 0x00000000#32))
      (broadcastTo S128x256 (shapeCast S128x1 b shapeCasts_S1x128x1_S128x1) broadcasts_S128x1_S128x256)))
    (geluGrad pu)) bitsLt_bf16_f32

/-- A tile of the normalised half's gradient. -/
def dNorm (ds : FVec F S128x256 .f32) (w : FVec F S1x128x128 .f32) : FVec F S128x256 .f32 :=
  matmul dot_S128x128_S128x256_S128x256_0_0_1_1_n_n none (wMask w) (truncf .bf16 ds bitsLt_bf16_f32) (constant S128x256 .f32 0x00000000#32)

/-- A group's gain gradient, added. -/
def accG (acc : FVec F S1x256 .f32) (dvn vh : FVec F S128x256 .f32) : FVec F S1x256 .f32 :=
  addf (shapeCast S1x256 acc shapeCasts_S1x256_S1x256)
    (shapeCast S1x256 (multiReduction .add [0] S256 (mulf dvn vh) 0x00000000#32 reduces_S128x256_S256 (.inl rfl) rfl) shapeCasts_S256_S1x256)

/-- A group's bias gradient, added. -/
def accB (acc : FVec F S1x256 .f32) (dvn : FVec F S128x256 .f32) : FVec F S1x256 .f32 :=
  addf (shapeCast S1x256 acc shapeCasts_S1x256_S1x256)
    (shapeCast S1x256 (multiReduction .add [0] S256 dvn 0x00000000#32 reduces_S128x256_S256 (.inl rfl) rfl) shapeCasts_S256_S1x256)

/-- A group's spatial matrix gradient, added. -/
def accW (acc : FVec F S1x128x128 .f32) (ds : FVec F S128x256 .f32) (vn : FVec F S128x256 .bf16) : FVec F S1x128x128 .f32 :=
  shapeCast S1x128x128 (addf (shapeCast S128x128 acc shapeCasts_S1x128x128_S128x128)
    (masked (matmul dot_S128x256_S128x256_S128x128_1_1_0_0_n_n none (truncf .bf16 ds bitsLt_bf16_f32) vn (constant S128x128 .f32 0x00000000#32))))
    shapeCasts_S128x128_S1x128x128

/-- A group's spatial bias gradient, added. -/
def accS (acc : FVec F S1x128x1 .f32) (ds : FVec F S128x256 .f32) : FVec F S1x128x1 .f32 :=
  shapeCast S1x128x1 (rowAdd (shapeCast S128x1 acc shapeCasts_S1x128x1_S128x1) ds) shapeCasts_S128x1_S1x128x1

/-- A tile's gradient through the gain. -/
def dHat (dvn : FVec F S128x256 .f32) (gn : FVec F S1x256 .f32) : FVec F S128x256 .f32 :=
  mulf dvn (broadcastTo S128x256 gn broadcasts_S1x256_S128x256)

/-- A tile of the right half's gradient. -/
def dRight (rs m1 m2 : FVec F S128x1 .f32) (vh dh pv : FVec F S128x256 .f32) : FVec F S128x256 .bf16 :=
  truncf .bf16 (mulf (mulf (broadcastTo S128x256 rs broadcasts_S128x1_S128x256)
      (subf (centred m1 dh) (mulf vh (broadcastTo S128x256 m2 broadcasts_S128x1_S128x256))))
    (geluGrad pv)) bitsLt_bf16_f32

/-! ## One point's values, group by group -/

section Point

variable (x0 : Vec F S128x4096 .f32) (x1 : Vec F S128x2048 .f32) (x2 x3 : Vec F S1x2048 .f32) (x4 : Vec F S8x128x128 .f32) (x5 : Vec F S8x128x1 .f32)
/- `V` and `D`: what the two scratch buffers hold, tile by tile. -/
variable (V D : (g : ℕ) → g < 8 → FVec F S128x256 .f32)

/-- The right half's gelu. -/
def vT (g : ℕ) (h : g < 8) : FVec F S128x256 .f32 := gelu (View.ld x0 (rV h))
/-- Its mean along a row. -/
def mu : FVec F S128x1 .f32 := rowMean8 (vT x0)
/-- Its reciprocal deviation. -/
def rs : FVec F S128x1 .f32 := rstd (mu x0) V
/-- It normalised. -/
def vhT (g : ℕ) (h : g < 8) : FVec F S128x256 .f32 := vhat (mu x0) (rs x0 V) (V g h)
/-- It normalised, with gain and bias. -/
def vnT (g : ℕ) (h : g < 8) : FVec F S128x256 .bf16 := normed (vhT x0 V g h) (View.ld x2 (rG h)) (View.ld x3 (rG h))
/-- The gradient of the spatial product. -/
def dsT (g : ℕ) (h : g < 8) : FVec F S128x256 .f32 := dSpat (View.ld x1 (rD h)) (View.ld x0 (rU h))
/-- The gradient of the normalised half. -/
def dvT (g : ℕ) (h : g < 8) : FVec F S128x256 .f32 := dNorm (dsT x0 x1 g h) (View.ld x4 (rW h))
/-- The same through the gain, as the first pass over the groups forms it. -/
def dhT (g : ℕ) (h : g < 8) : FVec F S128x256 .f32 := dHat (dvT x0 x1 x4 g h) (View.ld x2 (rG h))
/-- Its mean along a row. -/
def m1 : FVec F S128x1 .f32 := rowMean8 (dhT x0 x1 x2 x4)
/-- The mean along a row of its product with the normalised half. -/
def m2 : FVec F S128x1 .f32 := rowMean8 fun g h => mulf (dhT x0 x1 x2 x4 g h) (vhT x0 V g h)
/-- The left half's gradient. -/
def duT (g : ℕ) (h : g < 8) : FVec F S128x256 .bf16 :=
  dLeft (View.ld x1 (rD h)) (View.ld x0 (rU h)) (vnT x0 x2 x3 V g h) (View.ld x4 (rW h)) (View.ld x5 (rB h))
/-- The right half's gradient. -/
def drT (g : ℕ) (h : g < 8) : FVec F S128x256 .bf16 :=
  dRight (rs x0 V) (m1 x0 x1 x2 x4) (m2 x0 x1 x2 x4 V) (vhT x0 V g h) (dHat (D g h) (View.ld x2 (rG h))) (View.ld x0 (rV h))

/-- Eight pieces, last first. -/
abbrev eight {α : Type} (p : (g : ℕ) → g < 8 → α) : List α :=
  [p 7 (by decide), p 6 (by decide), p 5 (by decide), p 4 (by decide), p 3 (by decide), p 2 (by decide), p 1 (by decide), p 0 (by decide)]

/-- The stores into the first scratch buffer. -/
def pieceV (g : ℕ) (h : g < 8) : View.Piece (Elt F) S128x2048 .f32 := ⟨rD h, shapeCast S128x256 (vT x0 g h) shapeCasts_S128x256_S128x256⟩
/-- The stores into the second. -/
def pieceD (g : ℕ) (h : g < 8) : View.Piece (Elt F) S128x2048 .f32 := ⟨rD h, shapeCast S128x256 (dvT x0 x1 x4 g h) shapeCasts_S128x256_S128x256⟩
/-- The stores of the left half's gradient. -/
def pieceU (g : ℕ) (h : g < 8) : View.Piece (Elt F) S128x4096 .bf16 := ⟨rU h, duT x0 x1 x2 x3 x4 x5 V g h⟩
/-- The stores of the right half's gradient. -/
def pieceR (g : ℕ) (h : g < 8) : View.Piece (Elt F) S128x4096 .bf16 := ⟨rV h, drT x0 x1 x2 x4 V D g h⟩
/-- The stores of the gain's gradient, over what `acc` holds. -/
def pieceG (acc : (g : ℕ) → g < 8 → FVec F S1x256 .f32) (g : ℕ) (h : g < 8) : View.Piece (Elt F) S1x2048 .f32 :=
  ⟨rG h, accG (acc g h) (dvT x0 x1 x4 g h) (vhT x0 V g h)⟩
/-- The stores of the bias's gradient. -/
def pieceB (acc : (g : ℕ) → g < 8 → FVec F S1x256 .f32) (g : ℕ) (h : g < 8) : View.Piece (Elt F) S1x2048 .f32 :=
  ⟨rG h, accB (acc g h) (dvT x0 x1 x4 g h)⟩
/-- The stores of the spatial matrices' gradient. -/
def pieceW (acc : (g : ℕ) → g < 8 → FVec F S1x128x128 .f32) (g : ℕ) (h : g < 8) : View.Piece (Elt F) S8x128x128 .f32 :=
  ⟨rW h, accW (acc g h) (dsT x0 x1 g h) (vnT x0 x2 x3 V g h)⟩
/-- The stores of the spatial bias's gradient. -/
def pieceS (acc : (g : ℕ) → g < 8 → FVec F S1x128x1 .f32) (g : ℕ) (h : g < 8) : View.Piece (Elt F) S8x128x1 .f32 :=
  ⟨rB h, accS (acc g h) (dsT x0 x1 g h)⟩

end Point

end Cert.KernelIdeal.Gate

end
-- ==== Proof.RealGate.lean ====
module

public import Idealize.ShloMosaic.Lib.Pointwise
public import Idealize.ShloMosaic.PureOps.Ideal.Laws

/-! The gradient of the chunked gate over the reals, on one chunk of 128 tokens: what the kernel's point computes and what the
    reference computes on those tokens. Arrays are functions of natural numbers: row, then column. -/

@[expose] public section

noncomputable section

namespace Cert.Gate

open Idealize.ShloMosaic

/-- The error function on a real. -/
def erfR (x : ℝ) : ℝ := 2 / Real.sqrt Real.pi * ∫ t in (0 : ℝ)..x, Real.exp (-(t ^ 2))

/-- The gelu on a real. -/
def geluR (x : ℝ) : ℝ := 1 / 2 * x * (1 + erfR (x * (Real.sqrt 2)⁻¹))

/-- Its derivative. -/
def gradR (x : ℝ) : ℝ :=
  1 / 2 * (1 + erfR (x * (Real.sqrt 2)⁻¹)) + x * Real.exp (-(1 / 2) * x * x) * (Real.sqrt (2 * Real.pi))⁻¹

/-- The epsilon under the root: the f32 nearest to `1e-6`. -/
def epsR : ℝ := 8796093 / 8796093022208

section Chunk

variable (P D : ℕ → ℕ → ℝ) (γ β : ℕ → ℝ) (W : ℕ → ℕ → ℕ → ℝ) (B : ℕ → ℕ → ℝ)

/-- The right half's gelu. -/
def vR (i c : ℕ) : ℝ := geluR (P i (2048 + c))
/-- Its mean along a row. -/
def muR (i : ℕ) : ℝ := (∑ c ∈ Finset.range 2048, vR P i c) * (1 / 2048)
/-- Its variance along a row, with epsilon. -/
def varR (i : ℕ) : ℝ := (∑ c ∈ Finset.range 2048, (vR P i c - muR P i) * (vR P i c - muR P i)) * (1 / 2048) + epsR
/-- Its reciprocal deviation. -/
def rsR (i : ℕ) : ℝ := (Real.sqrt (varR P i))⁻¹
/-- It normalised. -/
def xhR (i c : ℕ) : ℝ := (vR P i c - muR P i) * rsR P i
/-- With gain and bias. -/
def nR (i c : ℕ) : ℝ := xhR P i c * γ c + β c
/-- The spatial matrix of a group, zero above the diagonal. -/
def wR (g t s : ℕ) : ℝ := if s ≤ t then W g t s else 0
/-- The gradient of the spatial product. -/
def dsR (i c : ℕ) : ℝ := D i c * geluR (P i c)
/-- The spatial product of group `g`, at column `c`. -/
def sR (g i c : ℕ) : ℝ := (∑ k ∈ Finset.range 128, wR W g i k * nR P γ β k c) + B g i
/-- The left half's gradient. -/
def duR (g i c : ℕ) : ℝ := D i c * sR P γ β W B g i c * gradR (P i c)
/-- The gradient of the normalised half, of group `g` at column `c`. -/
def dnR (g k c : ℕ) : ℝ := ∑ t ∈ Finset.range 128, wR W g t k * dsR P D t c
/-- One chunk's part of the spatial matrices' gradient. -/
def gwR (g t k : ℕ) : ℝ :=
  if k ≤ t then ∑ d ∈ Finset.range 256, dsR P D t (256 * g + d) * nR P γ β k (256 * g + d) else 0
/-- One chunk's part of the spatial bias's gradient. -/
def gsR (g t : ℕ) : ℝ := ∑ d ∈ Finset.range 256, dsR P D t (256 * g + d)
/-- One chunk's part of the gain's gradient. -/
def ggR (g c : ℕ) : ℝ := ∑ i ∈ Finset.range 128, dnR P D W g i c * xhR P i c
/-- One chunk's part of the bias's gradient. -/
def gbR (g c : ℕ) : ℝ := ∑ i ∈ Finset.range 128, dnR P D W g i c
/-- The gradient through the gain. -/
def dhR (i c : ℕ) : ℝ := dnR P D W (c / 256) i c * γ c
/-- Its mean along a row. -/
def m1R (i : ℕ) : ℝ := (∑ c ∈ Finset.range 2048, dhR P D γ W i c) * (1 / 2048)
/-- The mean along a row of its product with the normalised half. -/
def m2R (i : ℕ) : ℝ := (∑ c ∈ Finset.range 2048, dhR P D γ W i c * xhR P i c) * (1 / 2048)
/-- The right half's gradient. -/
def drR (i c : ℕ) : ℝ :=
  rsR P i * (dhR P D γ W i c - m1R P D γ W i - xhR P i c * m2R P D γ W i) * gradR (P i (2048 + c))

end Chunk

/-! ## Sums -/

/-- A sum over eight groups of 256 is the sum over 2048. -/
theorem sum_groups {M : Type} [AddCommMonoid M] (f : ℕ → M) :
    (∑ c ∈ Finset.range 2048, f c) = ∑ g ∈ Finset.range 8, ∑ d ∈ Finset.range 256, f (256 * g + d) := by
  have h : ∀ n : ℕ, (∑ c ∈ Finset.range (256 * n), f c) = ∑ g ∈ Finset.range n, ∑ d ∈ Finset.range 256, f (256 * g + d) := by
    intro n
    induction n with
    | zero => simp
    | succ n ih => rw [Finset.sum_range_succ, ← ih, Nat.mul_succ, Finset.sum_range_add]
  exact h 8

/-- A finite sum of reals, in the extended reals. -/
theorem coe_sumR {ι : Type} (s : Finset ι) (f : ι → ℝ) : (∑ k ∈ s, ((f k : ℝ) : EReal)) = ((∑ k ∈ s, f k : ℝ) : EReal) :=
  (map_sum (⟨⟨(↑), EReal.coe_zero⟩, EReal.coe_add⟩ : ℝ →+ EReal) _ _).symm

/-- The variance with epsilon is positive. -/
theorem varR_pos (P : ℕ → ℕ → ℝ) (i : ℕ) : 0 < varR P i := by
  have h : 0 ≤ ∑ c ∈ Finset.range 2048, (vR P i c - muR P i) * (vR P i c - muR P i) :=
    Finset.sum_nonneg fun c _ => mul_self_nonneg _
  have e : (0 : ℝ) < epsR := by unfold epsR; norm_num
  unfold varR
  positivity

/-! ## Constants and elementary functions in the extended reals -/

/-- One half, as an f32 pattern. -/
theorem half_f32 : Ideal.ofBits .f32 0x3F000000#32 = ((1 / 2 : ℝ) : EReal) := by
  simp [Ideal.ofBits, Ideal.ieee, -EReal.coe_mul]; norm_num
/-- One, as an f32 pattern. -/
theorem one_f32 : Ideal.ofBits .f32 0x3F800000#32 = ((1 : ℝ) : EReal) := by
  simp [Ideal.ofBits, Ideal.ieee, -EReal.coe_mul]; norm_num
/-- Two, as an f32 pattern. -/
theorem two_f32 : Ideal.ofBits .f32 0x40000000#32 = ((2 : ℝ) : EReal) := by
  simp [Ideal.ofBits, Ideal.ieee, -EReal.coe_mul]; norm_num
/-- Four, as an f32 pattern. -/
theorem four_f32 : Ideal.ofBits .f32 0x40800000#32 = ((4 : ℝ) : EReal) := by
  simp [Ideal.ofBits, Ideal.ieee, -EReal.coe_mul]; norm_num
/-- 2048, as an f32 pattern. -/
theorem n2048_f32 : Ideal.ofBits .f32 0x45000000#32 = ((2048 : ℝ) : EReal) := by
  simp [Ideal.ofBits, Ideal.ieee, -EReal.coe_mul]; norm_num
/-- One over 2048, as an f32 pattern. -/
theorem inv2048_f32 : Ideal.ofBits .f32 0x3A000000#32 = ((1 / 2048 : ℝ) : EReal) := by
  simp [Ideal.ofBits, Ideal.ieee, -EReal.coe_mul]; norm_num
/-- Minus one half, as an f32 pattern. -/
theorem neg_half_f32 : Ideal.ofBits .f32 0xBF000000#32 = ((-(1 / 2) : ℝ) : EReal) := by
  simp [Ideal.ofBits, Ideal.ieee, -EReal.coe_mul, -EReal.coe_neg]; norm_num
/-- The epsilon under the root, as an f32 pattern. -/
theorem eps_f32 : Ideal.ofBits .f32 0x358637BD#32 = ((epsR : ℝ) : EReal) := by
  simp [Ideal.ofBits, Ideal.ieee, -EReal.coe_mul, epsR]; norm_num

/-- The error function at a real. -/
theorem erf_real (x : ℝ) : Ideal.erf (x : EReal) = ((erfR x : ℝ) : EReal) := rfl

/-- The reciprocal root at a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

end Cert.Gate

end
-- ==== Proof.Tiles.lean ====
module

public import proofs.«01_k».proof.Proof.Spec
public import proofs.«01_k».proof.Proof.RealGate

/-! The vectors of `Spec` over real inputs: each is the real array of `RealGate`. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate

/-- A matrix of extended reals holds the real matrix `f`. -/
def Holds {a b : ℕ} (X : (⟨2, ![a, b]⟩ : Shape).Idx → EReal) (f : ℕ → ℕ → ℝ) : Prop := ∀ (i : Fin a) (d : Fin b), X (ix2 i d) = ((f i d : ℝ) : EReal)
/-- A stack of matrices holds the real stack `f`. -/
def Holds3 {a b c : ℕ} (X : (⟨3, ![a, b, c]⟩ : Shape).Idx → EReal) (f : ℕ → ℕ → ℕ → ℝ) : Prop :=
  ∀ (g : Fin a) (i : Fin b) (d : Fin c), X (ix3 g i d) = ((f g i d : ℝ) : EReal)

/-- The named one over the root of two. -/
theorem sqrt_half_named : Named.named (F := Ideal) κ "sqrt_half" (φ := .f32) 0x3F3504F3#32 = (((Real.sqrt 2)⁻¹ : ℝ) : EReal) :=
  IdealRules.named_const.ideal_named_scalar _ _ _ _ rfl
/-- The named one over the root of two pi. -/
theorem inv_sqrt_2pi_named : Named.named (F := Ideal) κ "inv_sqrt_2pi" (φ := .f32) 0x3ECC422A#32 = (((Real.sqrt (2 * Real.pi))⁻¹ : ℝ) : EReal) :=
  IdealRules.named_const.ideal_named_scalar _ _ _ _ rfl

/-- The gelu of a real tile. -/
theorem gelu_holds {X : FVec Ideal S128x256 .f32} {f : ℕ → ℕ → ℝ} (h : Holds X f) : Holds (gelu X) fun i d => geluR (f i d) := by
  intro i d
  pointwise [gelu]
  rw [h i d, sqrt_half_named, half_f32, ← EReal.coe_mul, ← EReal.coe_mul, Ideal.erf_def, erf_real, ← EReal.coe_one, ← EReal.coe_add, ← EReal.coe_mul]
  rfl

/-- The derivative of gelu on a real tile. -/
theorem geluGrad_holds {X : FVec Ideal S128x256 .f32} {f : ℕ → ℕ → ℝ} (h : Holds X f) : Holds (geluGrad X) fun i d => gradR (f i d) := by
  intro i d
  pointwise [geluGrad]
  rw [h i d, sqrt_half_named, inv_sqrt_2pi_named, half_f32, neg_half_f32]
  simp only [← EReal.coe_mul, Ideal.erf_def, erf_real, ← EReal.coe_one, ← EReal.coe_add, Ideal.exp_coe]
  rfl

/-- Rows of a real tile added to a real column. -/
theorem rowAdd_holds {a : FVec Ideal S128x1 .f32} {X : FVec Ideal S128x256 .f32} {u : ℕ → ℝ} {f : ℕ → ℕ → ℝ} (ha : Holds a fun i _ => u i) (h : Holds X f) :
    Holds (rowAdd a X) fun i _ => u i + ∑ d ∈ Finset.range 256, f i d := by
  intro i d
  pointwise [rowAdd]
  simp only [h _ _, ha _ _, coe_sumR, ← EReal.coe_add, Finset.sum_range]

/-- The mean along a row of eight real tiles. -/
theorem rowMean8_holds {T : (g : ℕ) → g < 8 → FVec Ideal S128x256 .f32} {f : ℕ → ℕ → ℕ → ℝ} (h : ∀ g hg, Holds (T g hg) (f g)) :
    Holds (rowMean8 T) fun i _ => (∑ g ∈ Finset.range 8, ∑ d ∈ Finset.range 256, f g i d) * (1 / 2048) := by
  have z : Holds (broadcast S128x1 (Scalar.ofBits (F := Ideal) .f32 0x00000000#32)) fun _ _ => (0 : ℝ) := by
    intro i d; pointwise; rfl
  have s := rowAdd_holds (rowAdd_holds (rowAdd_holds (rowAdd_holds (rowAdd_holds (rowAdd_holds (rowAdd_holds (rowAdd_holds z
    (h 0 (by decide))) (h 1 (by decide))) (h 2 (by decide))) (h 3 (by decide))) (h 4 (by decide))) (h 5 (by decide)))
    (h 6 (by decide))) (h 7 (by decide))
  intro i d
  have e := s i d
  show (rowSum8 (F := Ideal) T (ix2 i d) : EReal) * Ideal.ofBits .f32 0x3A000000#32 = _
  rw [inv2048_f32, show rowSum8 T (ix2 i d) = _ from e, ← EReal.coe_mul]
  simp only [Finset.sum_range_succ, Finset.sum_range_zero]

/-- A real tile less a real column. -/
theorem centred_holds {m : FVec Ideal S128x1 .f32} {X : FVec Ideal S128x256 .f32} {u : ℕ → ℝ} {f : ℕ → ℕ → ℝ} (hm : Holds m fun i _ => u i) (h : Holds X f) :
    Holds (centred m X) fun i d => f i d - u i := by
  intro i d
  pointwise [centred]
  rw [h i d, hm i 0, ← EReal.coe_sub]

/-- The product of two real tiles. -/
theorem mulf_holds {X Y : FVec Ideal S128x256 .f32} {f k : ℕ → ℕ → ℝ} (h : Holds X f) (hk : Holds Y k) :
    Holds (mulf X Y) fun i d => f i d * k i d := by
  intro i d
  pointwise
  rw [h i d, hk i d, ← EReal.coe_mul]

/-- The reciprocal deviation of eight real tiles, where the variance with epsilon is positive. -/
theorem rstd_holds {m : FVec Ideal S128x1 .f32} {T : (g : ℕ) → g < 8 → FVec Ideal S128x256 .f32} {u : ℕ → ℝ} {f : ℕ → ℕ → ℕ → ℝ}
    (hm : Holds m fun i _ => u i) (h : ∀ g hg, Holds (T g hg) (f g))
    (hp : ∀ i, 0 < (∑ g ∈ Finset.range 8, ∑ d ∈ Finset.range 256, (f g i d - u i) * (f g i d - u i)) * (1 / 2048) + epsR) :
    Holds (rstd m T) fun i _ => (Real.sqrt ((∑ g ∈ Finset.range 8, ∑ d ∈ Finset.range 256, (f g i d - u i) * (f g i d - u i)) * (1 / 2048) + epsR))⁻¹ := by
  intro i d
  have e := rowMean8_holds (fun g hg => mulf_holds (centred_holds hm (h g hg)) (centred_holds hm (h g hg))) i d
  show Ideal.rsqrt ((rowMean8 (F := Ideal) _ (ix2 i d) : EReal) + Ideal.ofBits .f32 0x358637BD#32) = _
  rw [e, eps_f32, ← EReal.coe_add, rsqrt_real (hp i)]

/-- A real tile normalised. -/
theorem vhat_holds {m r : FVec Ideal S128x1 .f32} {X : FVec Ideal S128x256 .f32} {u w : ℕ → ℝ} {f : ℕ → ℕ → ℝ}
    (hm : Holds m fun i _ => u i) (hr : Holds r fun i _ => w i) (h : Holds X f) :
    Holds (vhat m r X) fun i d => (f i d - u i) * w i := by
  intro i d
  pointwise [vhat, centred]
  rw [h i d, hm i 0, hr i 0, ← EReal.coe_sub, ← EReal.coe_mul]

/-- A normalised real tile with gain and bias. -/
theorem normed_holds {X : FVec Ideal S128x256 .f32} {gn bs : FVec Ideal S1x256 .f32} {f : ℕ → ℕ → ℝ} {u w : ℕ → ℝ}
    (h : Holds X f) (hu : Holds gn fun _ d => u d) (hw : Holds bs fun _ d => w d) :
    Holds (normed X gn bs) fun i d => f i d * u d + w d := by
  intro i d
  pointwise [normed]
  rw [h i d, hu 0 d, hw 0 d, ← EReal.coe_mul, ← EReal.coe_add]

/-- A choice by the causal mask, of reals. -/
theorem select_causal (i d : Fin 128) (x : ℝ) :
    Scalar.select (IntOp.cmpi CmpIPredicate.sge (BitVec.ofNat 32 i.val) (BitVec.ofNat 32 d.val)) (x : EReal) 0
      = ((if d.val ≤ i.val then x else 0 : ℝ) : EReal) := by
  have hi : i.val < 2 ^ (32 - 1) := lt_trans i.isLt (by norm_num)
  have hd : d.val < 2 ^ (32 - 1) := lt_trans d.isLt (by norm_num)
  unfold Scalar.select
  by_cases h : d.val ≤ i.val
  · exact (if_pos ((WordCmp.cmpi_sge_ofNat_eq_one_iff hi hd).mpr h)).trans (by rw [if_pos h])
  · exact (if_neg fun e => h ((WordCmp.cmpi_sge_ofNat_eq_one_iff hi hd).mp e)).trans (by rw [if_neg h, EReal.coe_zero])

/-- The gradient of the spatial product, on a real tile. -/
theorem dSpat_holds {X Y : FVec Ideal S128x256 .f32} {f k : ℕ → ℕ → ℝ} (h : Holds X f) (hk : Holds Y k) :
    Holds (dSpat X Y) fun i d => f i d * geluR (k i d) := mulf_holds h (gelu_holds hk)

/-- The left half's gradient, on a real tile. -/
theorem dLeft_holds {X Y : FVec Ideal S128x256 .f32} {Z : FVec Ideal S128x256 .bf16} {w : FVec Ideal S1x128x128 .f32} {b : FVec Ideal S1x128x1 .f32}
    {f k n W : ℕ → ℕ → ℝ} {B : ℕ → ℝ} (h : Holds X f) (hk : Holds Y k) (hn : Holds Z n) (hw : Holds3 w fun _ => W) (hb : Holds3 b fun _ i _ => B i) :
    Holds (dLeft X Y Z w b) fun i d =>
      f i d * ((∑ s ∈ Finset.range 128, (if s ≤ i then W i s else 0) * n s d) + B i) * gradR (k i d) := by
  intro i d
  have e := geluGrad_holds hk i d
  pointwise [dLeft, wMask, masked, causal]
  simp only [hw _ _ _, hn _ _, hb _ _ _, h _ _, e, ← EReal.coe_mul, ← EReal.coe_add, select_causal, coe_sumR, Finset.sum_range, ite_mul, zero_mul]

/-- The gradient of the normalised half, on a real tile. -/
theorem dNorm_holds {X : FVec Ideal S128x256 .f32} {w : FVec Ideal S1x128x128 .f32} {f W : ℕ → ℕ → ℝ} (h : Holds X f) (hw : Holds3 w fun _ => W) :
    Holds (dNorm X w) fun s d => ∑ t ∈ Finset.range 128, (if s ≤ t then W t s else 0) * f t d := by
  intro i d
  pointwise [dNorm, wMask, masked, causal]
  simp only [hw _ _ _, h _ _, ← EReal.coe_mul, select_causal, coe_sumR, Finset.sum_range, ite_mul, zero_mul]

/-- A group's gain gradient over reals. -/
theorem accG_holds {X Y : FVec Ideal S128x256 .f32} {a : FVec Ideal S1x256 .f32} {f k : ℕ → ℕ → ℝ} {u : ℕ → ℝ}
    (ha : Holds a fun _ d => u d) (h : Holds X f) (hk : Holds Y k) :
    Holds (accG a X Y) fun _ d => u d + ∑ i ∈ Finset.range 128, f i d * k i d := by
  intro i d
  pointwise [accG]
  simp only [ha _ _, hk _ _, h _ _, ← EReal.coe_mul, ← EReal.coe_add, coe_sumR, Finset.sum_range]

/-- A group's bias gradient over reals. -/
theorem accB_holds {X : FVec Ideal S128x256 .f32} {a : FVec Ideal S1x256 .f32} {f : ℕ → ℕ → ℝ} {u : ℕ → ℝ}
    (ha : Holds a fun _ d => u d) (h : Holds X f) :
    Holds (accB a X) fun _ d => u d + ∑ i ∈ Finset.range 128, f i d := by
  intro i d
  pointwise [accB]
  simp only [ha _ _, h _ _, ← EReal.coe_add, coe_sumR, Finset.sum_range]

/-- A group's spatial matrix gradient over reals. -/
theorem accW_holds {X : FVec Ideal S128x256 .f32} {Y : FVec Ideal S128x256 .bf16} {a : FVec Ideal S1x128x128 .f32} {f k u : ℕ → ℕ → ℝ}
    (ha : Holds3 a fun _ => u) (h : Holds X f) (hk : Holds Y k) :
    Holds3 (accW a X Y) fun _ t s => u t s + if s ≤ t then ∑ d ∈ Finset.range 256, f t d * k s d else 0 := by
  intro g i d
  pointwise [accW, masked, causal]
  simp only [ha _ _ _, hk _ _, h _ _, ← EReal.coe_mul, coe_sumR, select_causal, ← EReal.coe_add, Finset.sum_range]

/-- A group's spatial bias gradient over reals. -/
theorem accS_holds {X : FVec Ideal S128x256 .f32} {a : FVec Ideal S1x128x1 .f32} {f : ℕ → ℕ → ℝ} {u : ℕ → ℝ}
    (ha : Holds3 a fun _ i _ => u i) (h : Holds X f) :
    Holds3 (accS a X) fun _ i _ => u i + ∑ d ∈ Finset.range 256, f i d := by
  intro g i d
  pointwise [accS, rowAdd]
  simp only [ha _ _ _, h _ _, ← EReal.coe_add, coe_sumR, Finset.sum_range]

/-- A tile's gradient through the gain, over reals. -/
theorem dHat_holds {X : FVec Ideal S128x256 .f32} {gn : FVec Ideal S1x256 .f32} {f : ℕ → ℕ → ℝ} {u : ℕ → ℝ}
    (h : Holds X f) (hu : Holds gn fun _ d => u d) : Holds (dHat X gn) fun i d => f i d * u d := by
  intro i d
  pointwise [dHat]
  rw [h i d, hu 0 d, ← EReal.coe_mul]

/-- The right half's gradient, on a real tile. -/
theorem dRight_holds {r a b : FVec Ideal S128x1 .f32} {vh dh pv : FVec Ideal S128x256 .f32} {w p q : ℕ → ℝ} {x y z : ℕ → ℕ → ℝ}
    (hr : Holds r fun i _ => w i) (ha : Holds a fun i _ => p i) (hb : Holds b fun i _ => q i) (hx : Holds vh x) (hy : Holds dh y) (hz : Holds pv z) :
    Holds (dRight r a b vh dh pv) fun i d => w i * (y i d - p i - x i d * q i) * gradR (z i d) := by
  intro i d
  have e := geluGrad_holds hz i d
  pointwise [dRight, centred]
  rw [e, hr i 0, ha i 0, hb i 0, hx i d, hy i d]
  simp only [← EReal.coe_mul, ← EReal.coe_sub]

end Cert.KernelIdeal.Gate

end
-- ==== Proof.Point.lean ====
module

public import proofs.«01_k».proof.Proof.Tiles

/-! One point's values over real blocks: each of `Spec`'s vectors holds the chunk's real formula. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate

variable {x0 : Vec Ideal S128x4096 .f32} {x1 : Vec Ideal S128x2048 .f32} {x2 x3 : Vec Ideal S1x2048 .f32} {x4 : Vec Ideal S8x128x128 .f32} {x5 : Vec Ideal S8x128x1 .f32}
variable {P D : ℕ → ℕ → ℝ} {γ β : ℕ → ℝ} {W : ℕ → ℕ → ℕ → ℝ} {B : ℕ → ℕ → ℝ}

/-- A group's left columns of a real block. -/
theorem ldU_holds (h0 : Holds x0 P) {g : ℕ} (h : g < 8) : Holds (View.ld x0 (rU h)) fun i d => P i (256 * g + d) := by
  intro i d
  pointwise
  exact h0 i _

/-- A group's right columns of a real block. -/
theorem ldV_holds (h0 : Holds x0 P) {g : ℕ} (h : g < 8) : Holds (View.ld x0 (rV h)) fun i d => P i (2048 + (256 * g + d)) := by
  intro i d
  pointwise
  rw [← Nat.add_assoc]
  exact h0 i _

/-- A group's columns of a real block of the gate's cotangent. -/
theorem ldD_holds (h1 : Holds x1 D) {g : ℕ} (h : g < 8) : Holds (View.ld x1 (rD h)) fun i d => D i (256 * g + d) := by
  intro i d
  pointwise
  exact h1 i _

/-- A group's columns of a real row. -/
theorem ldG_holds (h2 : Holds x2 fun _ c => γ c) {g : ℕ} (h : g < 8) : Holds (View.ld x2 (rG h)) fun _ d => γ (256 * g + d) := by
  intro i d
  pointwise
  exact h2 _ _

/-- A group's matrix of a real stack. -/
theorem ldW_holds (h4 : Holds3 x4 W) {g : ℕ} (h : g < 8) : Holds3 (View.ld x4 (rW h)) fun _ => W g := by
  intro e i d
  pointwise
  exact h4 ⟨g, h⟩ i d

/-- A group's column of a real stack of columns. -/
theorem ldB_holds (h5 : Holds3 x5 fun g i _ => B g i) {g : ℕ} (h : g < 8) : Holds3 (View.ld x5 (rB h)) fun _ i _ => B g i := by
  intro e i d
  pointwise
  exact h5 ⟨g, h⟩ i 0

/-- The right half's gelu over reals. -/
theorem vT_holds (h0 : Holds x0 P) (g : ℕ) (h : g < 8) : Holds (vT x0 g h) fun i d => vR P i (256 * g + d) := gelu_holds (ldV_holds h0 h)

/-- Its mean. -/
theorem mu_holds (h0 : Holds x0 P) : Holds (mu x0) fun i _ => muR P i := by
  intro i d
  refine (rowMean8_holds (vT_holds h0) i d).trans ?_
  unfold muR
  beta_reduce
  rw [sum_groups]

variable {V E : (g : ℕ) → g < 8 → FVec Ideal S128x256 .f32}

/-- Its reciprocal deviation. -/
theorem rs_holds (h0 : Holds x0 P) (hV : ∀ g h, Holds (V g h) fun i d => vR P i (256 * g + d)) : Holds (rs x0 V) fun i _ => rsR P i := by
  have e : ∀ i, (∑ g ∈ Finset.range 8, ∑ d ∈ Finset.range 256, (vR P i (256 * g + d) - muR P i) * (vR P i (256 * g + d) - muR P i)) * (1 / 2048) + epsR = varR P i := by
    intro i
    unfold varR
    beta_reduce
    rw [sum_groups]
  intro i d
  refine (rstd_holds (mu_holds h0) hV (fun i => by rw [e i]; exact varR_pos P i) i d).trans ?_
  beta_reduce
  rw [e]
  rfl

/-- It normalised. -/
theorem vhT_holds (h0 : Holds x0 P) (hV : ∀ g h, Holds (V g h) fun i d => vR P i (256 * g + d)) (g : ℕ) (h : g < 8) :
    Holds (vhT x0 V g h) fun i d => xhR P i (256 * g + d) := vhat_holds (mu_holds h0) (rs_holds h0 hV) (hV g h)

/-- It normalised, with gain and bias. -/
theorem vnT_holds (h0 : Holds x0 P) (h2 : Holds x2 fun _ c => γ c) (h3 : Holds x3 fun _ c => β c)
    (hV : ∀ g h, Holds (V g h) fun i d => vR P i (256 * g + d)) (g : ℕ) (h : g < 8) :
    Holds (vnT x0 x2 x3 V g h) fun i d => nR P γ β i (256 * g + d) := normed_holds (vhT_holds h0 hV g h) (ldG_holds h2 h) (ldG_holds h3 h)

/-- The gradient of the spatial product. -/
theorem dsT_holds (h0 : Holds x0 P) (h1 : Holds x1 D) (g : ℕ) (h : g < 8) : Holds (dsT x0 x1 g h) fun i d => dsR P D i (256 * g + d) :=
  dSpat_holds (ldD_holds h1 h) (ldU_holds h0 h)

/-- The gradient of the normalised half. -/
theorem dvT_holds (h0 : Holds x0 P) (h1 : Holds x1 D) (h4 : Holds3 x4 W) (g : ℕ) (h : g < 8) :
    Holds (dvT x0 x1 x4 g h) fun i d => dnR P D W g i (256 * g + d) := dNorm_holds (dsT_holds h0 h1 g h) (ldW_holds h4 h)

/-- A column of group `g` is of group `g`. -/
theorem group_div (g : ℕ) {d : ℕ} (h : d < 256) : (256 * g + d) / 256 = g := by omega

/-- The same through the gain, out of any tile that holds it. -/
theorem dHatOf_holds (h2 : Holds x2 fun _ c => γ c) {g : ℕ} (h : g < 8) {X : FVec Ideal S128x256 .f32}
    (hX : Holds X fun i d => dnR P D W g i (256 * g + d)) : Holds (dHat X (View.ld x2 (rG h))) fun i d => dhR P D γ W i (256 * g + d) := by
  intro i d
  refine (dHat_holds hX (ldG_holds h2 h) i d).trans ?_
  unfold dhR
  beta_reduce
  rw [group_div g d.isLt]

/-- The same through the gain. -/
theorem dhT_holds (h0 : Holds x0 P) (h1 : Holds x1 D) (h2 : Holds x2 fun _ c => γ c) (h4 : Holds3 x4 W) (g : ℕ) (h : g < 8) :
    Holds (dhT x0 x1 x2 x4 g h) fun i d => dhR P D γ W i (256 * g + d) := dHatOf_holds h2 h (dvT_holds h0 h1 h4 g h)

/-- Its mean along a row. -/
theorem m1_holds (h0 : Holds x0 P) (h1 : Holds x1 D) (h2 : Holds x2 fun _ c => γ c) (h4 : Holds3 x4 W) :
    Holds (m1 x0 x1 x2 x4) fun i _ => m1R P D γ W i := by
  intro i d
  refine (rowMean8_holds (dhT_holds h0 h1 h2 h4) i d).trans ?_
  unfold m1R
  beta_reduce
  rw [sum_groups]

/-- The mean along a row of its product with the normalised half. -/
theorem m2_holds (h0 : Holds x0 P) (h1 : Holds x1 D) (h2 : Holds x2 fun _ c => γ c) (h4 : Holds3 x4 W)
    (hV : ∀ g h, Holds (V g h) fun i d => vR P i (256 * g + d)) :
    Holds (m2 x0 x1 x2 x4 V) fun i _ => m2R P D γ W i := by
  intro i d
  refine (rowMean8_holds (fun g h => mulf_holds (dhT_holds h0 h1 h2 h4 g h) (vhT_holds h0 hV g h)) i d).trans ?_
  unfold m2R
  beta_reduce
  rw [sum_groups]

/-- The left half's gradient. -/
theorem duT_holds (h0 : Holds x0 P) (h1 : Holds x1 D) (h2 : Holds x2 fun _ c => γ c) (h3 : Holds x3 fun _ c => β c) (h4 : Holds3 x4 W)
    (h5 : Holds3 x5 fun g i _ => B g i) (hV : ∀ g h, Holds (V g h) fun i d => vR P i (256 * g + d)) (g : ℕ) (h : g < 8) :
    Holds (duT x0 x1 x2 x3 x4 x5 V g h) fun i d => duR P D γ β W B g i (256 * g + d) :=
  dLeft_holds (ldD_holds h1 h) (ldU_holds h0 h) (vnT_holds h0 h2 h3 hV g h) (ldW_holds h4 h) (ldB_holds h5 h)

/-- The right half's gradient. -/
theorem drT_holds (h0 : Holds x0 P) (h1 : Holds x1 D) (h2 : Holds x2 fun _ c => γ c) (h4 : Holds3 x4 W)
    (hV : ∀ g h, Holds (V g h) fun i d => vR P i (256 * g + d)) (hE : ∀ g h, Holds (E g h) fun i d => dnR P D W g i (256 * g + d)) (g : ℕ) (h : g < 8) :
    Holds (drT x0 x1 x2 x4 V E g h) fun i d => drR P D γ W i (256 * g + d) :=
  dRight_holds (rs_holds h0 hV) (m1_holds h0 h1 h2 h4) (m2_holds h0 h1 h2 h4 hV) (vhT_holds h0 hV g h) (dHatOf_holds h2 h (hE g h)) (ldV_holds h0 h)

end Cert.KernelIdeal.Gate

end
-- ==== Proof.Words.lean ====
module

public import proofs.«01_k».proof.Proof.Spec

/-! The printed body's stores are the eight groups' of `Spec`: at a point after the first over what the point before left,
    at the first over a fill with zeros. -/

@[expose] public section

set_option maxRecDepth 16384
set_option maxHeartbeats 1000000

noncomputable section

namespace Cert.KernelIdeal.Gate

open Idealize.ShloMosaic Idealize.ShloMosaic.TcCoe Idealize.SL.Sem Cert.KernelIdeal Cert.KernelIdeal.Gen

variable {F : FTy → Type} [FloatOps F] [Named F]

/-- What a tile of the first scratch buffer reads back as. -/
abbrev rdV (a : Memref sig .tc .vmem S128x2048 .f32) (x0 : Vec F S128x4096 .f32) (g : ℕ) (h : g < 8) : FVec F S128x256 .f32 :=
  a.view.readCov (eight (pieceV x0)) (rD h).toLoadRect
/-- What a tile of the second reads back as. -/
abbrev rdD (a : Memref sig .tc .vmem S128x2048 .f32) (x0 : Vec F S128x4096 .f32) (x1 : Vec F S128x2048 .f32) (x4 : Vec F S8x128x128 .f32)
    (g : ℕ) (h : g < 8) : FVec F S128x256 .f32 :=
  a.view.readCov (eight (pieceD x0 x1 x4)) (rD h).toLoadRect

/-- The first `n` stores of eight over what stands, each made from the stores before it. -/
def stk {α : Type} (fill : List α) (p : (g : ℕ) → g < 8 → List α → α) : (n : ℕ) → n ≤ 8 → List α
  | 0, _ => fill
  | n + 1, h => p n h (stk fill p n (Nat.le_of_succ_le h)) :: stk fill p n (Nat.le_of_succ_le h)

section First
variable (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x4096 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S128x2048 .f32) (harg12 : arg12.IsWhole) (arg13 : Memref sig .tc .vmem S128x2048 .f32) (harg13 : arg13.IsWhole) (hc0 : cond0_0 i)
    (x0 : Vec F S128x4096 .f32) (x1 : Vec F S128x2048 .f32) (x2 : Vec F S1x2048 .f32) (x3 : Vec F S1x2048 .f32) (x4 : Vec F S8x128x128 .f32) (x5 : Vec F S8x128x1 .f32)

/-- The tokens' gradient at the first point. -/
theorem outA6 : out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = View.canon (eight (pieceR x0 x1 x2 x4 (rdV arg12 x0) (rdD arg13 x0 x1 x4)) ++ eight (pieceU x0 x1 x2 x3 x4 x5 (rdV arg12 x0))) := by
  have e : out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
      = View.canon (eight (pieceR (arg1.view.read (Elt F) (harg1.unread x0)) (arg2.view.read (Elt F) (harg2.unread x1)) (arg3.view.read (Elt F) (harg3.unread x2)) (arg5.view.read (Elt F) (harg5.unread x4)) (rdV arg12 (arg1.view.read (Elt F) (harg1.unread x0))) (rdD arg13 (arg1.view.read (Elt F) (harg1.unread x0)) (arg2.view.read (Elt F) (harg2.unread x1)) (arg5.view.read (Elt F) (harg5.unread x4)))) ++ eight (pieceU (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (rdV arg12 (arg1.view.read (Elt F) (harg1.unread x0))))) := View.read_writes_junk_eq_canon _ _
  rw [e]
  simp only [harg1.read_unread, harg2.read_unread, harg3.read_unread, harg4.read_unread, harg5.read_unread, harg6.read_unread]

/-- The gain's gradient at the first point, each store over the ones before it and the fill. -/
theorem outA7 : out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = View.canon (stk [⟨Rect.unit (s := S1x2048) ![0, 0] S1x2048.size inb_S1x2048_S1x2048_0_0, k0_pay2⟩] (fun g h L => ⟨rG h, accG (arg8.view.readCov L (rG h).toLoadRect) (dvT x0 x1 x4 g h) (vhT x0 (rdV arg12 x0) g h)⟩) 8 le_rfl) := by
  have e : out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
      = View.canon (stk [⟨Rect.unit (s := S1x2048) ![0, 0] S1x2048.size inb_S1x2048_S1x2048_0_0, k0_pay2⟩] (fun g h L => ⟨rG h, accG (arg8.view.readCov L (rG h).toLoadRect) (dvT (arg1.view.read (Elt F) (harg1.unread x0)) (arg2.view.read (Elt F) (harg2.unread x1)) (arg5.view.read (Elt F) (harg5.unread x4)) g h) (vhT (arg1.view.read (Elt F) (harg1.unread x0)) (rdV arg12 (arg1.view.read (Elt F) (harg1.unread x0))) g h)⟩) 8 le_rfl) := View.read_writes_junk_eq_canon _ _
  rw [e]
  simp only [harg1.read_unread, harg2.read_unread, harg5.read_unread]

/-- The bias's gradient at the first point, each store over the ones before it and the fill. -/
theorem outA8 : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = View.canon (stk [⟨Rect.unit (s := S1x2048) ![0, 0] S1x2048.size inb_S1x2048_S1x2048_0_0, k0_pay3⟩] (fun g h L => ⟨rG h, accB (arg9.view.readCov L (rG h).toLoadRect) (dvT x0 x1 x4 g h)⟩) 8 le_rfl) := by
  have e : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
      = View.canon (stk [⟨Rect.unit (s := S1x2048) ![0, 0] S1x2048.size inb_S1x2048_S1x2048_0_0, k0_pay3⟩] (fun g h L => ⟨rG h, accB (arg9.view.readCov L (rG h).toLoadRect) (dvT (arg1.view.read (Elt F) (harg1.unread x0)) (arg2.view.read (Elt F) (harg2.unread x1)) (arg5.view.read (Elt F) (harg5.unread x4)) g h)⟩) 8 le_rfl) := View.read_writes_junk_eq_canon _ _
  rw [e]
  simp only [harg1.read_unread, harg2.read_unread, harg5.read_unread]

/-- The spatial matrices' gradient at the first point, each store over the ones before it and the fill. -/
theorem outA9 : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = View.canon (stk [⟨Rect.unit (s := S8x128x128) ![0, 0, 0] S8x128x128.size inb_S8x128x128_S8x128x128_0_0_0, k0_pay4⟩] (fun g h L => ⟨rW h, accW (arg10.view.readCov L (rW h).toLoadRect) (dsT x0 x1 g h) (vnT x0 x2 x3 (rdV arg12 x0) g h)⟩) 8 le_rfl) := by
  have e : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
      = View.canon (stk [⟨Rect.unit (s := S8x128x128) ![0, 0, 0] S8x128x128.size inb_S8x128x128_S8x128x128_0_0_0, k0_pay4⟩] (fun g h L => ⟨rW h, accW (arg10.view.readCov L (rW h).toLoadRect) (dsT (arg1.view.read (Elt F) (harg1.unread x0)) (arg2.view.read (Elt F) (harg2.unread x1)) g h) (vnT (arg1.view.read (Elt F) (harg1.unread x0)) (arg3.view.read (Elt F) (harg3.unread x2)) (arg4.view.read (Elt F) (harg4.unread x3)) (rdV arg12 (arg1.view.read (Elt F) (harg1.unread x0))) g h)⟩) 8 le_rfl) := View.read_writes_junk_eq_canon _ _
  rw [e]
  simp only [harg1.read_unread, harg2.read_unread, harg3.read_unread, harg4.read_unread]

/-- The spatial biases' gradient at the first point, each store over the ones before it and the fill. -/
theorem outA10 : out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
    = View.canon (stk [⟨Rect.unit (s := S8x128x1) ![0, 0, 0] S8x128x1.size inb_S8x128x1_S8x128x1_0_0_0, k0_pay5⟩] (fun g h L => ⟨rB h, accS (arg11.view.readCov L (rB h).toLoadRect) (dsT x0 x1 g h)⟩) 8 le_rfl) := by
  have e : out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5
      = View.canon (stk [⟨Rect.unit (s := S8x128x1) ![0, 0, 0] S8x128x1.size inb_S8x128x1_S8x128x1_0_0_0, k0_pay5⟩] (fun g h L => ⟨rB h, accS (arg11.view.readCov L (rB h).toLoadRect) (dsT (arg1.view.read (Elt F) (harg1.unread x0)) (arg2.view.read (Elt F) (harg2.unread x1)) g h)⟩) 8 le_rfl) := View.read_writes_junk_eq_canon _ _
  rw [e]
  simp only [harg1.read_unread, harg2.read_unread]

end First

section Later
variable (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x4096 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x128x128 .f32) (harg10 : arg10.IsWhole) (arg11 : Memref sig .tc .vmem S8x128x1 .f32) (harg11 : arg11.IsWhole) (arg12 : Memref sig .tc .vmem S128x2048 .f32) (harg12 : arg12.IsWhole) (arg13 : Memref sig .tc .vmem S128x2048 .f32) (harg13 : arg13.IsWhole) (hc0 : ¬cond0_0 i)
    (x0 : Vec F S128x4096 .f32) (x1 : Vec F S128x2048 .f32) (x2 : Vec F S1x2048 .f32) (x3 : Vec F S1x2048 .f32) (x4 : Vec F S8x128x128 .f32) (x5 : Vec F S8x128x1 .f32) (xo7 : Vec F S1x2048 .f32) (xo8 : Vec F S1x2048 .f32) (xo9 : Vec F S8x128x128 .f32) (xo10 : Vec F S8x128x1 .f32)

/-- The tokens' gradient at a point after the first. -/
theorem outB6 : out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
    = View.canon (eight (pieceR x0 x1 x2 x4 (rdV arg12 x0) (rdD arg13 x0 x1 x4)) ++ eight (pieceU x0 x1 x2 x3 x4 x5 (rdV arg12 x0))) := by
  have e : out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
      = View.canon (eight (pieceR (arg1.view.read (Elt F) (harg1.unread x0)) (arg2.view.read (Elt F) (harg2.unread x1)) (arg3.view.read (Elt F) (harg3.unread x2)) (arg5.view.read (Elt F) (harg5.unread x4)) (rdV arg12 (arg1.view.read (Elt F) (harg1.unread x0))) (rdD arg13 (arg1.view.read (Elt F) (harg1.unread x0)) (arg2.view.read (Elt F) (harg2.unread x1)) (arg5.view.read (Elt F) (harg5.unread x4)))) ++ eight (pieceU (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (rdV arg12 (arg1.view.read (Elt F) (harg1.unread x0))))) := View.read_writes_junk_eq_canon _ _
  rw [e]
  simp only [harg1.read_unread, harg2.read_unread, harg3.read_unread, harg4.read_unread, harg5.read_unread, harg6.read_unread]

/-- The gain's gradient at a point after the first, each store over what the point before left. -/
theorem outB7 : out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
    = View.canon (eight (pieceG x0 x1 x4 (rdV arg12 x0) (fun g h => View.ld xo7 (rG h)))) := by
  have e : out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
      = View.canon (eight (pieceG (arg1.view.read (Elt F) (harg1.unread x0)) (arg2.view.read (Elt F) (harg2.unread x1)) (arg5.view.read (Elt F) (harg5.unread x4)) (rdV arg12 (arg1.view.read (Elt F) (harg1.unread x0))) (fun g h => View.ld (arg8.view.read (Elt F) (harg8.unread xo7)) (rG h)))) := View.read_writes_junk_eq_canon _ _
  rw [e]
  simp only [harg1.read_unread, harg2.read_unread, harg5.read_unread, harg8.read_unread]

/-- The bias's gradient at a point after the first, each store over what the point before left. -/
theorem outB8 : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
    = View.canon (eight (pieceB x0 x1 x4 (fun g h => View.ld xo8 (rG h)))) := by
  have e : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
      = View.canon (eight (pieceB (arg1.view.read (Elt F) (harg1.unread x0)) (arg2.view.read (Elt F) (harg2.unread x1)) (arg5.view.read (Elt F) (harg5.unread x4)) (fun g h => View.ld (arg9.view.read (Elt F) (harg9.unread xo8)) (rG h)))) := View.read_writes_junk_eq_canon _ _
  rw [e]
  simp only [harg1.read_unread, harg2.read_unread, harg5.read_unread, harg9.read_unread]

/-- The spatial matrices' gradient at a point after the first, each store over what the point before left. -/
theorem outB9 : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
    = View.canon (eight (pieceW x0 x1 x2 x3 (rdV arg12 x0) (fun g h => View.ld xo9 (rW h)))) := by
  have e : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
      = View.canon (eight (pieceW (arg1.view.read (Elt F) (harg1.unread x0)) (arg2.view.read (Elt F) (harg2.unread x1)) (arg3.view.read (Elt F) (harg3.unread x2)) (arg4.view.read (Elt F) (harg4.unread x3)) (rdV arg12 (arg1.view.read (Elt F) (harg1.unread x0))) (fun g h => View.ld (arg10.view.read (Elt F) (harg10.unread xo9)) (rW h)))) := View.read_writes_junk_eq_canon _ _
  rw [e]
  simp only [harg1.read_unread, harg2.read_unread, harg3.read_unread, harg4.read_unread, harg10.read_unread]

/-- The spatial biases' gradient at a point after the first, each store over what the point before left. -/
theorem outB10 : out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
    = View.canon (eight (pieceS x0 x1 (fun g h => View.ld xo10 (rB h)))) := by
  have e : out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10
      = View.canon (eight (pieceS (arg1.view.read (Elt F) (harg1.unread x0)) (arg2.view.read (Elt F) (harg2.unread x1)) (fun g h => View.ld (arg11.view.read (Elt F) (harg11.unread xo10)) (rB h)))) := View.read_writes_junk_eq_canon _ _
  rw [e]
  simp only [harg1.read_unread, harg2.read_unread, harg11.read_unread]

end Later

end Cert.KernelIdeal.Gate

end
-- ==== Proof.Canon.lean ====
module

public import proofs.«01_k».proof.Proof.Point
public import proofs.«01_k».proof.Proof.Words

/-! What eight stores of real tiles leave in a buffer, and what a load reads there. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate

/-- A member of eight is one of the eight. -/
theorem of_mem_eight {α : Type} {q : (g : ℕ) → g < 8 → α} {p : α} (h : p ∈ eight q) : ∃ g h, p = q g h := by
  simp only [eight, List.mem_cons, List.not_mem_nil, or_false] at h
  rcases h with h | h | h | h | h | h | h | h <;> exact ⟨_, _, h⟩

/-- Each of the eight is a member. -/
theorem mem_eight {α : Type} (q : (g : ℕ) → g < 8 → α) (g : ℕ) (h : g < 8) : q g h ∈ eight q := by
  interval_cases g <;> simp [eight]

/-- Eight column tiles stored into rows of 2048. -/
theorem canonD (w : (g : ℕ) → g < 8 → FVec Ideal S128x256 .f32) (L' : List (View.Piece (Elt Ideal) S128x2048 .f32)) {f : ℕ → ℕ → ℝ}
    (hw : ∀ g h, Holds (w g h) fun i d => f i (256 * g + d)) :
    Holds (View.canon (eight (fun g h => (⟨rD h, w g h⟩ : View.Piece (Elt Ideal) S128x2048 .f32)) ++ L')) f := by
  intro i c
  have hc : c.val / 256 < 8 := by omega
  refine View.canon_append_of_pieces (fun y : S128x2048.Idx => ((f (y 0) (y 1) : ℝ) : EReal)) L' _ (fun p hp x => ?_) (ix2 i c)
    ⟨_, mem_eight _ (c.val / 256) hc, ?_⟩
  · obtain ⟨g, h, rfl⟩ := of_mem_eight hp
    obtain ⟨a, b, rfl⟩ : ∃ (a : Fin 128) (b : Fin 256), x = ix2 a b := ⟨x 0, x 1, eq_ix2 x⟩
    refine (hw g h a b).trans ?_
    simp [Rect.emb, Rect.unit]
  · rw [Rect.mem_set_unit]
    intro a
    fin_cases a
    · simp
    · simp; omega

/-- Eight column tiles stored into a row of 2048. -/
theorem canonG (w : (g : ℕ) → g < 8 → FVec Ideal S1x256 .f32) (L' : List (View.Piece (Elt Ideal) S1x2048 .f32)) {f : ℕ → ℝ}
    (hw : ∀ g h, Holds (w g h) fun _ d => f (256 * g + d)) :
    Holds (View.canon (eight (fun g h => (⟨rG h, w g h⟩ : View.Piece (Elt Ideal) S1x2048 .f32)) ++ L')) fun _ c => f c := by
  intro i c
  have hc : c.val / 256 < 8 := by omega
  refine View.canon_append_of_pieces (fun y : S1x2048.Idx => ((f (y 1) : ℝ) : EReal)) L' _ (fun p hp x => ?_) (ix2 i c)
    ⟨_, mem_eight _ (c.val / 256) hc, ?_⟩
  · obtain ⟨g, h, rfl⟩ := of_mem_eight hp
    obtain ⟨a, b, rfl⟩ : ∃ (a : Fin 1) (b : Fin 256), x = ix2 a b := ⟨x 0, x 1, eq_ix2 x⟩
    refine (hw g h a b).trans ?_
    simp [Rect.emb, Rect.unit]
  · rw [Rect.mem_set_unit]
    intro a
    fin_cases a
    · simp
    · simp; omega

/-- Eight matrices stored into a stack. -/
theorem canonW (w : (g : ℕ) → g < 8 → FVec Ideal S1x128x128 .f32) (L' : List (View.Piece (Elt Ideal) S8x128x128 .f32)) {f : ℕ → ℕ → ℕ → ℝ}
    (hw : ∀ g h, Holds3 (w g h) fun _ => f g) :
    Holds3 (View.canon (eight (fun g h => (⟨rW h, w g h⟩ : View.Piece (Elt Ideal) S8x128x128 .f32)) ++ L')) f := by
  intro g i c
  refine View.canon_append_of_pieces (fun y : S8x128x128.Idx => ((f (y 0) (y 1) (y 2) : ℝ) : EReal)) L' _ (fun p hp x => ?_) (ix3 g i c)
    ⟨_, mem_eight _ g.val g.isLt, ?_⟩
  · obtain ⟨g, h, rfl⟩ := of_mem_eight hp
    obtain ⟨e, a, b, rfl⟩ : ∃ (e : Fin 1) (a : Fin 128) (b : Fin 128), x = ix3 e a b := ⟨x 0, x 1, x 2, eq_ix3 x⟩
    refine (hw g h e a b).trans ?_
    simp [Rect.emb, Rect.unit]
  · rw [Rect.mem_set_unit]
    intro a
    fin_cases a <;> simp

/-- Eight columns stored into a stack. -/
theorem canonB (w : (g : ℕ) → g < 8 → FVec Ideal S1x128x1 .f32) (L' : List (View.Piece (Elt Ideal) S8x128x1 .f32)) {f : ℕ → ℕ → ℝ}
    (hw : ∀ g h, Holds3 (w g h) fun _ i _ => f g i) :
    Holds3 (View.canon (eight (fun g h => (⟨rB h, w g h⟩ : View.Piece (Elt Ideal) S8x128x1 .f32)) ++ L')) fun g i _ => f g i := by
  intro g i c
  refine View.canon_append_of_pieces (fun y : S8x128x1.Idx => ((f (y 0) (y 1) : ℝ) : EReal)) L' _ (fun p hp x => ?_) (ix3 g i c)
    ⟨_, mem_eight _ g.val g.isLt, ?_⟩
  · obtain ⟨g, h, rfl⟩ := of_mem_eight hp
    obtain ⟨e, a, b, rfl⟩ : ∃ (e : Fin 1) (a : Fin 128) (b : Fin 1), x = ix3 e a b := ⟨x 0, x 1, x 2, eq_ix3 x⟩
    refine (hw g h e a b).trans ?_
    simp [Rect.emb, Rect.unit]
  · rw [Rect.mem_set_unit]
    intro a
    fin_cases a <;> simp

/-- Two real arrays side by side. -/
def halves (f k : ℕ → ℕ → ℝ) (y : S128x4096.Idx) : Elt Ideal .bf16 :=
  (((if (y 1).val < 2048 then f (y 0) (y 1) else k (y 0) ((y 1).val - 2048)) : ℝ) : EReal)

/-- Eight left tiles, then eight right ones, stored into rows of 4096. -/
theorem canonP (u r : (g : ℕ) → g < 8 → FVec Ideal S128x256 .bf16) {f k : ℕ → ℕ → ℝ}
    (hu : ∀ g h, Holds (u g h) fun i d => f i (256 * g + d)) (hr : ∀ g h, Holds (r g h) fun i d => k i (256 * g + d)) :
    Holds (View.canon (eight (fun g h => (⟨rV h, r g h⟩ : View.Piece (Elt Ideal) S128x4096 .bf16))
      ++ eight (fun g h => (⟨rU h, u g h⟩ : View.Piece (Elt Ideal) S128x4096 .bf16)))) fun i c => if c < 2048 then f i c else k i (c - 2048) := by
  intro i c
  have hc : c.val / 256 < 16 := by omega
  have hG : ∀ p ∈ eight (fun g h => (⟨rV h, r g h⟩ : View.Piece (Elt Ideal) S128x4096 .bf16))
      ++ eight (fun g h => (⟨rU h, u g h⟩ : View.Piece (Elt Ideal) S128x4096 .bf16)), ∀ x : p.1.shape.Idx,
      p.2 x = halves f k (p.1.emb x) := by
    intro p hp x
    unfold halves
    rcases List.mem_append.mp hp with hp | hp <;> obtain ⟨g, h, rfl⟩ := of_mem_eight hp
    · obtain ⟨a, b, rfl⟩ : ∃ (a : Fin 128) (b : Fin 256), x = ix2 a b := ⟨x 0, x 1, eq_ix2 x⟩
      refine (hr g h a b).trans ?_
      have e : ¬ 2048 + 256 * g + b.val < 2048 := by omega
      have e' : 2048 + 256 * g + b.val - 2048 = 256 * g + b.val := by omega
      simp [Rect.emb, Rect.unit, e, e']
    · obtain ⟨a, b, rfl⟩ : ∃ (a : Fin 128) (b : Fin 256), x = ix2 a b := ⟨x 0, x 1, eq_ix2 x⟩
      refine (hu g h a b).trans ?_
      have e : 256 * g + b.val < 2048 := by omega
      simp [Rect.emb, Rect.unit, e]
  refine View.canon_apply_of_pieces (halves f k) _ hG (ix2 i c) ?_
  by_cases h : c.val < 2048
  · refine ⟨_, List.mem_append.mpr (.inr (mem_eight _ (c.val / 256) (by omega))), ?_⟩
    rw [Rect.mem_set_unit]
    intro a
    fin_cases a
    · simp
    · simp; omega
  · refine ⟨_, List.mem_append.mpr (.inl (mem_eight _ (c.val / 256 - 8) (by omega))), ?_⟩
    rw [Rect.mem_set_unit]
    intro a
    fin_cases a
    · simp
    · simp; omega

/-- A load of a tile out of eight stored tiles. -/
theorem readD (a : Memref sig .tc .vmem S128x2048 .f32) (w : (g : ℕ) → g < 8 → FVec Ideal S128x256 .f32) {f : ℕ → ℕ → ℝ}
    (hw : ∀ g h, Holds (w g h) fun i d => f i (256 * g + d)) (g : ℕ) (h : g < 8) :
    Holds (a.view.readCov (eight (fun g h => (⟨rD h, w g h⟩ : View.Piece (Elt Ideal) S128x2048 .f32))) (rD h).toLoadRect) fun i d => f i (256 * g + d) := by
  have e := ldD_holds (canonD w [] hw) h
  rw [List.append_nil] at e
  intro i d
  rw [View.readCov_eq_canon']
  exact e i d

/-- The first scratch buffer reads back as the right half's gelu. -/
theorem rdV_holds (a : Memref sig .tc .vmem S128x2048 .f32) {x0 : Vec Ideal S128x4096 .f32} {P : ℕ → ℕ → ℝ} (h0 : Holds x0 P) (g : ℕ) (h : g < 8) :
    Holds (rdV a x0 g h) fun i d => vR P i (256 * g + d) :=
  readD a (fun g h => shapeCast S128x256 (vT x0 g h) shapeCasts_S128x256_S128x256)
    (fun g h i d => by pointwise; exact vT_holds h0 g h i d) g h

/-- The second reads back as the gradient of the normalised half. -/
theorem rdD_holds (a : Memref sig .tc .vmem S128x2048 .f32) {x0 : Vec Ideal S128x4096 .f32} {x1 : Vec Ideal S128x2048 .f32} {x4 : Vec Ideal S8x128x128 .f32}
    {P D : ℕ → ℕ → ℝ} {W : ℕ → ℕ → ℕ → ℝ} (h0 : Holds x0 P) (h1 : Holds x1 D) (h4 : Holds3 x4 W) (g : ℕ) (h : g < 8) :
    Holds (rdD a x0 x1 x4 g h) fun i d => dnR P D W g i (256 * g + d) := by
  refine fun i d => (readD a (fun g h => shapeCast S128x256 (dvT x0 x1 x4 g h) shapeCasts_S128x256_S128x256) (f := fun i c => dnR P D W (c / 256) i c)
    (fun g h i d => ?_) g h i d).trans ?_
  · pointwise
    rw [group_div g d.isLt]
    exact dvT_holds h0 h1 h4 g h i d
  · beta_reduce
    rw [group_div g d.isLt]

/-- The stores before a later group's leave that group's part of the fill. -/
theorem stk_read {s : Shape} (v : View sig .tc .vmem s .f32) (r : (g : ℕ) → g < 8 → Rect s)
    (hd : ∀ k hk m hm, k < m → LoadRect.disj (r k hk) (r m hm).toLoadRect = true)
    (w : (g : ℕ) → (h : g < 8) → List (View.Piece (Elt Ideal) s .f32) → (r g h).shape.Idx → Elt Ideal .f32) (fill : List (View.Piece (Elt Ideal) s .f32))
    (m : ℕ) (hm : m < 8) : ∀ (n : ℕ) (hn : n ≤ 8), n ≤ m →
      v.readCov (stk fill (fun g h L => ⟨r g h, w g h L⟩) n hn) (r m hm).toLoadRect = v.readCov fill (r m hm).toLoadRect
  | 0, _, _ => rfl
  | n + 1, hn, h => by
    rw [stk, View.readCov_skip _ _ _ _ _ (hd n hn m hm h), stk_read v r hd w fill m hm n (Nat.le_of_succ_le hn) (Nat.le_of_succ_le h)]

/-- The eight stores over a fill, each made from what it reads of the stores before it, are the eight made from the fill. -/
theorem stk_first {s : Shape} (v : View sig .tc .vmem s .f32) (r : (g : ℕ) → g < 8 → Rect s)
    (hd : ∀ k hk m hm, k < m → LoadRect.disj (r k hk) (r m hm).toLoadRect = true)
    (w : (g : ℕ) → (h : g < 8) → ((r g h).shape.Idx → Elt Ideal .f32) → (r g h).shape.Idx → Elt Ideal .f32)
    {off : Fin s.rank → ℕ} (inb : ∀ a, off a + s.size a ≤ s.size a) (hz : ∀ a, off a = 0) (Z : s.Idx → Elt Ideal .f32) :
    stk [(⟨Rect.unit off s.size inb, Z⟩ : View.Piece (Elt Ideal) s .f32)] (fun g h L => ⟨r g h, w g h (v.readCov L (r g h).toLoadRect)⟩) 8 le_rfl
      = eight (fun g h => (⟨r g h, w g h (View.ld Z (r g h))⟩ : View.Piece (Elt Ideal) s .f32)) ++ [⟨Rect.unit off s.size inb, Z⟩] := by
  have e : ∀ g h, v.readCov (stk [(⟨Rect.unit off s.size inb, Z⟩ : View.Piece (Elt Ideal) s .f32)]
      (fun g h L => ⟨r g h, w g h (v.readCov L (r g h).toLoadRect)⟩) g (Nat.le_of_lt h)) (r g h).toLoadRect = View.ld Z (r g h) := fun g h =>
    (stk_read v r hd (fun g h L => w g h (v.readCov L (r g h).toLoadRect)) _ g h g (Nat.le_of_lt h) le_rfl).trans (View.readCov_fill v inb Z [] (r g h) hz)
  simp only [← e]
  rfl

end Cert.KernelIdeal.Gate

end
-- ==== Proof.Outs.lean ====
module

public import proofs.«01_k».proof.Proof.Canon

/-! What one point leaves in each output's buffer, over real blocks: the chunk's part added to what stood there. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate

variable {x0 : Vec Ideal S128x4096 .f32} {x1 : Vec Ideal S128x2048 .f32} {x2 x3 : Vec Ideal S1x2048 .f32} {x4 : Vec Ideal S8x128x128 .f32} {x5 : Vec Ideal S8x128x1 .f32}
variable {P D : ℕ → ℕ → ℝ} {γ β : ℕ → ℝ} {W : ℕ → ℕ → ℕ → ℝ} {B : ℕ → ℕ → ℝ}

/-- One chunk's gradient of its tokens. -/
def dpR (P D : ℕ → ℕ → ℝ) (γ β : ℕ → ℝ) (W : ℕ → ℕ → ℕ → ℝ) (B : ℕ → ℕ → ℝ) (i c : ℕ) : ℝ :=
  if c < 2048 then duR P D γ β W B (c / 256) i c else drR P D γ W i (c - 2048)

/-- The tokens' gradient. -/
theorem canon_dp (a b : Memref sig .tc .vmem S128x2048 .f32) (h0 : Holds x0 P) (h1 : Holds x1 D) (h2 : Holds x2 fun _ c => γ c) (h3 : Holds x3 fun _ c => β c)
    (h4 : Holds3 x4 W) (h5 : Holds3 x5 fun g i _ => B g i) :
    Holds (View.canon (eight (pieceR x0 x1 x2 x4 (rdV a x0) (rdD b x0 x1 x4)) ++ eight (pieceU x0 x1 x2 x3 x4 x5 (rdV a x0)))) (dpR P D γ β W B) :=
  canonP (duT x0 x1 x2 x3 x4 x5 (rdV a x0)) (drT x0 x1 x2 x4 (rdV a x0) (rdD b x0 x1 x4))
    (f := fun i c => duR P D γ β W B (c / 256) i c) (k := drR P D γ W)
    (fun g h i d => by
      beta_reduce
      rw [group_div g d.isLt]
      exact duT_holds h0 h1 h2 h3 h4 h5 (rdV_holds a h0) g h i d)
    (drT_holds h0 h1 h2 h4 (rdV_holds a h0) (rdD_holds b h0 h1 h4))

/-- The gain's gradient, over any accumulator and any earlier stores. -/
theorem canon_gg (a : Memref sig .tc .vmem S128x2048 .f32) (h0 : Holds x0 P) (h1 : Holds x1 D) (h4 : Holds3 x4 W)
    (L' : List (View.Piece (Elt Ideal) S1x2048 .f32)) {acc : (g : ℕ) → g < 8 → FVec Ideal S1x256 .f32} {u : ℕ → ℝ}
    (ha : ∀ g h, Holds (acc g h) fun _ d => u (256 * g + d)) :
    Holds (View.canon (eight (pieceG x0 x1 x4 (rdV a x0) acc) ++ L')) fun _ c => u c + ggR P D W (c / 256) c :=
  canonG _ L' (f := fun c => u c + ggR P D W (c / 256) c) fun g h i d => by
    beta_reduce
    rw [group_div g d.isLt]
    exact accG_holds (ha g h) (dvT_holds h0 h1 h4 g h) (vhT_holds h0 (rdV_holds a h0) g h) i d

/-- The bias's gradient, likewise. -/
theorem canon_gb (h0 : Holds x0 P) (h1 : Holds x1 D) (h4 : Holds3 x4 W)
    (L' : List (View.Piece (Elt Ideal) S1x2048 .f32)) {acc : (g : ℕ) → g < 8 → FVec Ideal S1x256 .f32} {u : ℕ → ℝ}
    (ha : ∀ g h, Holds (acc g h) fun _ d => u (256 * g + d)) :
    Holds (View.canon (eight (pieceB x0 x1 x4 acc) ++ L')) fun _ c => u c + gbR P D W (c / 256) c :=
  canonG _ L' (f := fun c => u c + gbR P D W (c / 256) c) fun g h i d => by
    beta_reduce
    rw [group_div g d.isLt]
    exact accB_holds (ha g h) (dvT_holds h0 h1 h4 g h) i d

/-- The spatial matrices' gradient, likewise. -/
theorem canon_gw (a : Memref sig .tc .vmem S128x2048 .f32) (h0 : Holds x0 P) (h1 : Holds x1 D) (h2 : Holds x2 fun _ c => γ c) (h3 : Holds x3 fun _ c => β c)
    (L' : List (View.Piece (Elt Ideal) S8x128x128 .f32)) {acc : (g : ℕ) → g < 8 → FVec Ideal S1x128x128 .f32} {u : ℕ → ℕ → ℕ → ℝ}
    (ha : ∀ g h, Holds3 (acc g h) fun _ => u g) :
    Holds3 (View.canon (eight (pieceW x0 x1 x2 x3 (rdV a x0) acc) ++ L')) fun g t s => u g t s + gwR P D γ β g t s :=
  canonW _ L' fun g h => accW_holds (ha g h) (dsT_holds h0 h1 g h) (vnT_holds h0 h2 h3 (rdV_holds a h0) g h)

/-- The spatial biases' gradient, likewise. -/
theorem canon_gs (h0 : Holds x0 P) (h1 : Holds x1 D)
    (L' : List (View.Piece (Elt Ideal) S8x128x1 .f32)) {acc : (g : ℕ) → g < 8 → FVec Ideal S1x128x1 .f32} {u : ℕ → ℕ → ℝ}
    (ha : ∀ g h, Holds3 (acc g h) fun _ i _ => u g i) :
    Holds3 (View.canon (eight (pieceS x0 x1 acc) ++ L')) fun g t _ => u g t + gsR P D g t :=
  canonB _ L' fun g h => accS_holds (ha g h) (dsT_holds h0 h1 g h)

/-- Two groups' columns of a row are apart. -/
theorem disjG (k : ℕ) (hk : k < 8) (m : ℕ) (hm : m < 8) (h : k < m) : LoadRect.disj (rG hk) (rG hm).toLoadRect = true := by
  refine decide_eq_true ⟨1, .inr (.inr (.inl ?_))⟩
  show 256 * k + 1 * (256 - 1) < 256 * m
  omega

/-- Two groups' matrices are apart. -/
theorem disjW (k : ℕ) (hk : k < 8) (m : ℕ) (hm : m < 8) (h : k < m) : LoadRect.disj (rW hk) (rW hm).toLoadRect = true := by
  refine decide_eq_true ⟨0, .inr (.inr (.inl ?_))⟩
  show k + 1 * (1 - 1) < m
  omega

/-- Two groups' columns of the stack are apart. -/
theorem disjB (k : ℕ) (hk : k < 8) (m : ℕ) (hm : m < 8) (h : k < m) : LoadRect.disj (rB hk) (rB hm).toLoadRect = true := by
  refine decide_eq_true ⟨0, .inr (.inr (.inl ?_))⟩
  show k + 1 * (1 - 1) < m
  omega

/-- The first point's fill of the gain's gradient. -/
abbrev fillG : List (View.Piece (Elt Ideal) S1x2048 .f32) := [⟨Rect.unit (s := S1x2048) ![0, 0] S1x2048.size inb_S1x2048_S1x2048_0_0, k0_pay2 (F := Ideal)⟩]
/-- The first point's fill of the bias's gradient. -/
abbrev fillB : List (View.Piece (Elt Ideal) S1x2048 .f32) := [⟨Rect.unit (s := S1x2048) ![0, 0] S1x2048.size inb_S1x2048_S1x2048_0_0, k0_pay3 (F := Ideal)⟩]
/-- The first point's fill of the spatial matrices' gradient. -/
abbrev fillW : List (View.Piece (Elt Ideal) S8x128x128 .f32) := [⟨Rect.unit (s := S8x128x128) ![0, 0, 0] S8x128x128.size inb_S8x128x128_S8x128x128_0_0_0, k0_pay4 (F := Ideal)⟩]
/-- The first point's fill of the spatial biases' gradient. -/
abbrev fillS : List (View.Piece (Elt Ideal) S8x128x1 .f32) := [⟨Rect.unit (s := S8x128x1) ![0, 0, 0] S8x128x1.size inb_S8x128x1_S8x128x1_0_0_0, k0_pay5 (F := Ideal)⟩]

/-- The gain's gradient over the fill. -/
theorem first_gg (v : Memref sig .tc .vmem S1x2048 .f32) (a : Memref sig .tc .vmem S128x2048 .f32) (h0 : Holds x0 P) (h1 : Holds x1 D) (h4 : Holds3 x4 W) :
    Holds (View.canon (stk fillG (fun g h L => ⟨rG h, accG (v.view.readCov L (rG h).toLoadRect) (dvT x0 x1 x4 g h) (vhT x0 (rdV a x0) g h)⟩) 8 le_rfl))
      fun _ c => 0 + ggR P D W (c / 256) c := by
  rw [stk_first v.view (fun g h => rG h) disjG (fun g h X => accG X (dvT x0 x1 x4 g h) (vhT x0 (rdV a x0) g h)) _ (by intro a; fin_cases a <;> rfl)]
  exact canon_gg a h0 h1 h4 fillG (u := fun _ => 0) fun g h => ldG_holds (γ := fun _ => 0) (fun i c => by unfold k0_pay2; pointwise; rfl) h

/-- The bias's gradient over the fill. -/
theorem first_gb (v : Memref sig .tc .vmem S1x2048 .f32) (h0 : Holds x0 P) (h1 : Holds x1 D) (h4 : Holds3 x4 W) :
    Holds (View.canon (stk fillB (fun g h L => ⟨rG h, accB (v.view.readCov L (rG h).toLoadRect) (dvT x0 x1 x4 g h)⟩) 8 le_rfl))
      fun _ c => 0 + gbR P D W (c / 256) c := by
  rw [stk_first v.view (fun g h => rG h) disjG (fun g h X => accB X (dvT x0 x1 x4 g h)) _ (by intro a; fin_cases a <;> rfl)]
  exact canon_gb h0 h1 h4 fillB (u := fun _ => 0) fun g h => ldG_holds (γ := fun _ => 0) (fun i c => by unfold k0_pay3; pointwise; rfl) h

/-- The spatial matrices' gradient over the fill. -/
theorem first_gw (v : Memref sig .tc .vmem S8x128x128 .f32) (a : Memref sig .tc .vmem S128x2048 .f32) (h0 : Holds x0 P) (h1 : Holds x1 D)
    (h2 : Holds x2 fun _ c => γ c) (h3 : Holds x3 fun _ c => β c) :
    Holds3 (View.canon (stk fillW (fun g h L => ⟨rW h, accW (v.view.readCov L (rW h).toLoadRect) (dsT x0 x1 g h) (vnT x0 x2 x3 (rdV a x0) g h)⟩) 8 le_rfl))
      fun g t s => 0 + gwR P D γ β g t s := by
  rw [stk_first v.view (fun g h => rW h) disjW (fun g h X => accW X (dsT x0 x1 g h) (vnT x0 x2 x3 (rdV a x0) g h)) _ (by intro a; fin_cases a <;> rfl)]
  exact canon_gw a h0 h1 h2 h3 fillW (u := fun _ _ _ => 0) fun g h => ldW_holds (W := fun _ _ _ => 0) (fun g i c => by unfold k0_pay4; pointwise; rfl) h

/-- The spatial biases' gradient over the fill. -/
theorem first_gs (v : Memref sig .tc .vmem S8x128x1 .f32) (h0 : Holds x0 P) (h1 : Holds x1 D) :
    Holds3 (View.canon (stk fillS (fun g h L => ⟨rB h, accS (v.view.readCov L (rB h).toLoadRect) (dsT x0 x1 g h)⟩) 8 le_rfl))
      fun g t _ => 0 + gsR P D g t := by
  rw [stk_first v.view (fun g h => rB h) disjB (fun g h X => accS X (dsT x0 x1 g h)) _ (by intro a; fin_cases a <;> rfl)]
  exact canon_gs h0 h1 fillS (u := fun _ _ => 0) fun g h => ldB_holds (B := fun _ _ => 0) (fun g i c => by unfold k0_pay5; pointwise; rfl) h

end Cert.KernelIdeal.Gate

end
-- ==== Proof.Blocks.lean ====
module

public import proofs.«01_k».proof.Proof.Outs
public import proofs.«01_k».proof.Proof.Gen.KernelIdeal.Value
public import Idealize.ShloMosaic.Lib.Tactic

/-! The blocks the body is given at each point, over real arguments. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate

/-- A stack of stacks of matrices holds the real one `f`. -/
def Holds4 {a b c d : ℕ} (X : (⟨4, ![a, b, c, d]⟩ : Shape).Idx → EReal) (f : ℕ → ℕ → ℕ → ℕ → ℝ) : Prop :=
  ∀ (e : Fin a) (g : Fin b) (i : Fin c) (k : Fin d), X (ix4 e g i k) = ((f e g i k : ℝ) : EReal)

/-- The six arguments hold real arrays. -/
structure Args (a0 : S2048x4096.Idx → EReal) (a1 : S2048x2048.Idx → EReal) (a2 a3 : S1x2048.Idx → EReal) (a4 : S1x8x128x128.Idx → EReal)
    (a5 : S1x8x128.Idx → EReal) (p d : ℕ → ℕ → ℝ) (γ β : ℕ → ℝ) (W : ℕ → ℕ → ℕ → ℝ) (B : ℕ → ℕ → ℝ) : Prop where
  h0 : Holds a0 p
  h1 : Holds a1 d
  h2 : Holds a2 fun _ c => γ c
  h3 : Holds a3 fun _ c => β c
  h4 : Holds4 a4 fun _ => W
  h5 : Holds3 a5 fun _ => B

/-- Rows `128t …` of an array. -/
def chunk (p : ℕ → ℕ → ℝ) (t i c : ℕ) : ℝ := p (128 * t + i) c

variable (m : (ℓ : Loc nD τ sig) → Buf (Elt Ideal) ℓ)
variable {p d : ℕ → ℕ → ℝ} {γ β : ℕ → ℝ} {W : ℕ → ℕ → ℕ → ℝ} {B : ℕ → ℕ → ℝ}

/-- The six arguments of one device, as real arrays. -/
abbrev ArgsAt (c : Dev nD) (p d : ℕ → ℕ → ℝ) (γ β : ℕ → ℝ) (W : ℕ → ℕ → ℕ → ℝ) (B : ℕ → ℕ → ℝ) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) p d γ β W B

/-- The first window's block index. -/
theorem index0 (t : Fin cfg0.N) : win0_0.index t 0 = t.val ∧ win0_0.index t 1 = 0 :=
  (by decide +kernel : ∀ t : Fin grid0.N, win0_0.index t 0 = t.val ∧ win0_0.index t 1 = 0) t
/-- The second's. -/
theorem index1 (t : Fin cfg0.N) : win0_1.index t 0 = t.val ∧ win0_1.index t 1 = 0 :=
  (by decide +kernel : ∀ t : Fin grid0.N, win0_1.index t 0 = t.val ∧ win0_1.index t 1 = 0) t

/-- The tokens' block. -/
theorem blk0 (c : Dev nD) (h : ArgsAt m c p d γ β W B) (t : Fin cfg0.N) : Holds (iblk m c 0 t : Vec Ideal S128x4096 .f32) (chunk p t) := by
  intro i k
  have hi := index0 t
  have ht : 128 * t.val + i.val < 2048 := by have := t.isLt; have hN : cfg0.N = 16 := N_0; omega
  refine Eq.trans ?_ (h.h0 ⟨128 * t.val + i.val, ht⟩ k)
  unfold iblk
  rw [View.read_apply]
  show V m c main_arg0 _ = _
  rw [V_main_arg0]
  congr 1
  funext a
  apply Fin.ext
  match a with
  | ⟨0, _⟩ => show win0_0.index t 0 * 128 + 1 * i.val = 128 * t.val + i.val; rw [hi.1]; omega
  | ⟨1, _⟩ => show win0_0.index t 1 * 4096 + 1 * k.val = k.val; rw [hi.2]; omega

/-- The cotangent's block. -/
theorem blk1 (c : Dev nD) (h : ArgsAt m c p d γ β W B) (t : Fin cfg0.N) : Holds (iblk m c 1 t : Vec Ideal S128x2048 .f32) (chunk d t) := by
  intro i k
  have hi := index1 t
  have ht : 128 * t.val + i.val < 2048 := by have := t.isLt; have hN : cfg0.N = 16 := N_0; omega
  refine Eq.trans ?_ (h.h1 ⟨128 * t.val + i.val, ht⟩ k)
  unfold iblk
  rw [View.read_apply]
  show V m c main_arg1 _ = _
  rw [V_main_arg1]
  congr 1
  funext a
  apply Fin.ext
  match a with
  | ⟨0, _⟩ => show win0_1.index t 0 * 128 + 1 * i.val = 128 * t.val + i.val; rw [hi.1]; omega
  | ⟨1, _⟩ => show win0_1.index t 1 * 2048 + 1 * k.val = k.val; rw [hi.2]; omega

/-- The gain is one block. -/
theorem blk2 (c : Dev nD) (h : ArgsAt m c p d γ β W B) (t : Fin cfg0.N) : Holds (iblk m c 2 t : Vec Ideal S1x2048 .f32) fun _ k => γ k := by
  intro i k
  refine Eq.trans ?_ (h.h2 i k)
  unfold iblk
  rw [View.read_apply]
  show V m c main_arg2 _ = _
  rw [V_main_arg2]
  congr 1
  funext a
  apply Fin.ext
  match a with
  | ⟨0, _⟩ => show 0 * 1 + 1 * i.val = i.val; omega
  | ⟨1, _⟩ => show 0 * 2048 + 1 * k.val = k.val; omega

/-- The bias is one block. -/
theorem blk3 (c : Dev nD) (h : ArgsAt m c p d γ β W B) (t : Fin cfg0.N) : Holds (iblk m c 3 t : Vec Ideal S1x2048 .f32) fun _ k => β k := by
  intro i k
  refine Eq.trans ?_ (h.h3 i k)
  unfold iblk
  rw [View.read_apply]
  show V m c main_arg3 _ = _
  rw [V_main_arg3]
  congr 1
  funext a
  apply Fin.ext
  match a with
  | ⟨0, _⟩ => show 0 * 1 + 1 * i.val = i.val; omega
  | ⟨1, _⟩ => show 0 * 2048 + 1 * k.val = k.val; omega

/-- A leading axis of length one dropped. -/
theorem dropped_w (x : S1x8x128x128.Idx → EReal) (g : Fin 8) (i k : Fin 128) :
    shapeCast S8x128x128 x shapeCasts_S1x8x128x128_S8x128x128 (ix3 g i k) = x (ix4 0 g i k) := by pointwise

/-- A leading axis of length one dropped and a trailing one added. -/
theorem dropped_b (x : S1x8x128.Idx → EReal) (g : Fin 8) (i : Fin 128) (k : Fin 1) :
    broadcastInDim S8x128x1 ![0, 1] bcast_S8x128_S8x128x1_0_1 (shapeCast S8x128 x shapeCasts_S1x8x128_S8x128) (ix3 g i k) = x (ix3 0 g i) := by
  pointwise

/-- The spatial matrices as the region finds them. -/
theorem V_w (c : Dev nD) : V m c main_v2 = shapeCast S8x128x128 (m ((c : Thread nD τ).loc main_arg4)) shapeCasts_S1x8x128x128_S8x128x128 := by
  show StableHlo.after hostOps0 (fun b => m (c, b)) (Proc.devRef .tc main_v2) = _
  after_results
  rfl

/-- The spatial biases as the region finds them. -/
theorem V_b (c : Dev nD) : V m c main_v1 = broadcastInDim S8x128x1 ![0, 1] bcast_S8x128_S8x128x1_0_1
    (shapeCast S8x128 (m ((c : Thread nD τ).loc main_arg5)) shapeCasts_S1x8x128_S8x128) := by
  show StableHlo.after hostOps0 (fun b => m (c, b)) (Proc.devRef .tc main_v1) = _
  after_results
  rfl

/-- The spatial matrices are one block. -/
theorem blk4 (c : Dev nD) (h : ArgsAt m c p d γ β W B) (t : Fin cfg0.N) : Holds3 (iblk m c 4 t : Vec Ideal S8x128x128 .f32) W := by
  intro g i k
  have e : (iblk m c 4 t : Vec Ideal S8x128x128 .f32) (ix3 g i k) = V m c main_v2 (ix3 g i k) := by
    unfold iblk
    rw [View.read_apply]
    show V m c main_v2 _ = _
    congr 1
    funext a
    apply Fin.ext
    match a with
    | ⟨0, _⟩ => show 0 * 8 + 1 * g.val = g.val; omega
    | ⟨1, _⟩ => show 0 * 128 + 1 * i.val = i.val; omega
    | ⟨2, _⟩ => show 0 * 128 + 1 * k.val = k.val; omega
  rw [e, V_w]
  exact (dropped_w _ g i k).trans (h.h4 0 g i k)

/-- The spatial biases are one block. -/
theorem blk5 (c : Dev nD) (h : ArgsAt m c p d γ β W B) (t : Fin cfg0.N) : Holds3 (iblk m c 5 t : Vec Ideal S8x128x1 .f32) fun g i _ => B g i := by
  intro g i k
  have e : (iblk m c 5 t : Vec Ideal S8x128x1 .f32) (ix3 g i k) = V m c main_v1 (ix3 g i k) := by
    unfold iblk
    rw [View.read_apply]
    show V m c main_v1 _ = _
    congr 1
    funext a
    apply Fin.ext
    match a with
    | ⟨0, _⟩ => show 0 * 8 + 1 * g.val = g.val; omega
    | ⟨1, _⟩ => show 0 * 128 + 1 * i.val = i.val; omega
    | ⟨2, _⟩ => show 0 * 1 + 1 * k.val = k.val; omega
  rw [e, V_b]
  exact (dropped_b _ g i k).trans (h.h5 0 g i)

end Cert.KernelIdeal.Gate

end
-- ==== Proof.Steps.lean ====
module

public import proofs.«01_k».proof.Proof.Blocks

/-! What the five outputs hold after each point, by induction over the points. -/

@[expose] public section

set_option maxRecDepth 16384

noncomputable section

namespace Cert.KernelIdeal.Gate

open Idealize.ShloMosaic Idealize.ShloMosaic.TcCoe Idealize.SL.Sem Cert.KernelIdeal Cert.KernelIdeal.Gen Cert.Gate
open Finset (range sum_range_succ)

variable (m : (ℓ : Loc nD τ sig) → Buf (Elt Ideal) ℓ)
variable {p d : ℕ → ℕ → ℝ} {γ β : ℕ → ℝ} {W : ℕ → ℕ → ℕ → ℝ} {B : ℕ → ℕ → ℝ}

/-- The five outputs after point `n`: the tokens' gradient of chunk `n`, and the sums over the chunks so far. -/
structure After (o : Vec Ideal S128x4096 .bf16 × Vec Ideal S1x2048 .f32 × Vec Ideal S1x2048 .f32 × Vec Ideal S8x128x128 .f32 × Vec Ideal S8x128x1 .f32)
    (p d : ℕ → ℕ → ℝ) (γ β : ℕ → ℝ) (W : ℕ → ℕ → ℕ → ℝ) (B : ℕ → ℕ → ℝ) (n : ℕ) : Prop where
  dp : Holds o.1 (dpR (chunk p n) (chunk d n) γ β W B)
  gg : Holds o.2.1 fun _ c => ∑ t ∈ range (n + 1), ggR (chunk p t) (chunk d t) W (c / 256) c
  gb : Holds o.2.2.1 fun _ c => ∑ t ∈ range (n + 1), gbR (chunk p t) (chunk d t) W (c / 256) c
  gw : Holds3 o.2.2.2.1 fun g i k => ∑ t ∈ range (n + 1), gwR (chunk p t) (chunk d t) γ β g i k
  gs : Holds3 o.2.2.2.2 fun g i _ => ∑ t ∈ range (n + 1), gsR (chunk p t) (chunk d t) g i

/-- The first point starts the sums. -/
theorem after_first (c : Dev nD) (h : ArgsAt m c p d γ β W B) (t : Fin cfg0.N) (ht : t.val = 0) :
    After (outsAt0 m c t.val t.isLt) p d γ β W B t.val := by
  have h0 := blk0 m c h t
  have h1 := blk1 m c h t
  have h2 := blk2 m c h t
  have h3 := blk3 m c h t
  have h4 := blk4 m c h t
  have h5 := blk5 m c h t
  rw [outsAt0_A m c t (by rw [ht])]
  refine ⟨?_, ?_, ?_, ?_, ?_⟩
  · dsimp only
    rw [outA6]
    exact canon_dp _ _ h0 h1 h2 h3 h4 h5
  · dsimp only
    rw [outA7, show (fun (_ : ℕ) c => ∑ t ∈ range (t.val + 1), ggR (chunk p t) (chunk d t) W (c / 256) c)
      = fun _ c => 0 + ggR (chunk p t) (chunk d t) W (c / 256) c by funext _ c; rw [sum_range_succ, ht]; simp]
    exact first_gg _ _ h0 h1 h4
  · dsimp only
    rw [outA8, show (fun (_ : ℕ) c => ∑ t ∈ range (t.val + 1), gbR (chunk p t) (chunk d t) W (c / 256) c)
      = fun _ c => 0 + gbR (chunk p t) (chunk d t) W (c / 256) c by funext _ c; rw [sum_range_succ, ht]; simp]
    exact first_gb _ h0 h1 h4
  · dsimp only
    rw [outA9, show (fun g i k => ∑ t ∈ range (t.val + 1), gwR (chunk p t) (chunk d t) γ β g i k)
      = fun g i k => 0 + gwR (chunk p t) (chunk d t) γ β g i k by funext g i k; rw [sum_range_succ, ht]; simp]
    exact first_gw _ _ h0 h1 h2 h3
  · dsimp only
    rw [outA10, show (fun g i (_ : ℕ) => ∑ t ∈ range (t.val + 1), gsR (chunk p t) (chunk d t) g i)
      = fun g i _ => 0 + gsR (chunk p t) (chunk d t) g i by funext g i _; rw [sum_range_succ, ht]; simp]
    exact first_gs _ h0 h1

/-- A later point adds its chunk's part. -/
theorem after_next (c : Dev nD) (h : ArgsAt m c p d γ β W B) (n : ℕ) (hn : n + 1 < cfg0.N)
    (ih : After (outsAt0 m c n (Nat.lt_of_succ_lt hn)) p d γ β W B n) :
    After (outsAt0 m c (n + 1) hn) p d γ β W B (n + 1) := by
  have hN : cfg0.N = 16 := N_0
  have h0 := blk0 m c h ⟨n + 1, hn⟩
  have h1 := blk1 m c h ⟨n + 1, hn⟩
  have h2 := blk2 m c h ⟨n + 1, hn⟩
  have h3 := blk3 m c h ⟨n + 1, hn⟩
  have h4 := blk4 m c h ⟨n + 1, hn⟩
  have h5 := blk5 m c h ⟨n + 1, hn⟩
  have e := outsAt0_B m c ⟨n + 1, hn⟩ (show ¬(n + 1) % 16 = 0 by omega)
  refine (show outsAt0 m c (n + 1) hn = _ from e) ▸ ⟨?_, ?_, ?_, ?_, ?_⟩
  · dsimp only
    rw [outB6]
    exact canon_dp _ _ h0 h1 h2 h3 h4 h5
  · dsimp only
    rw [outB7]
    simp only [sum_range_succ _ (n + 1)]
    have := canon_gg scM0_0 h0 h1 h4 [] (u := fun c => ∑ t ∈ range (n + 1), ggR (chunk p t) (chunk d t) W (c / 256) c)
      fun g h => ldG_holds (γ := fun c => ∑ t ∈ range (n + 1), ggR (chunk p t) (chunk d t) W (c / 256) c) ih.gg h
    rwa [List.append_nil] at this
  · dsimp only
    rw [outB8]
    simp only [sum_range_succ _ (n + 1)]
    have := canon_gb h0 h1 h4 [] (u := fun c => ∑ t ∈ range (n + 1), gbR (chunk p t) (chunk d t) W (c / 256) c)
      fun g h => ldG_holds (γ := fun c => ∑ t ∈ range (n + 1), gbR (chunk p t) (chunk d t) W (c / 256) c) ih.gb h
    rwa [List.append_nil] at this
  · dsimp only
    rw [outB9]
    simp only [sum_range_succ _ (n + 1)]
    have := canon_gw scM0_0 h0 h1 h2 h3 [] (u := fun g i k => ∑ t ∈ range (n + 1), gwR (chunk p t) (chunk d t) γ β g i k)
      fun g h => ldW_holds (W := fun g i k => ∑ t ∈ range (n + 1), gwR (chunk p t) (chunk d t) γ β g i k) ih.gw h
    rwa [List.append_nil] at this
  · dsimp only
    rw [outB10]
    simp only [sum_range_succ _ (n + 1)]
    have := canon_gs h0 h1 [] (u := fun g i => ∑ t ∈ range (n + 1), gsR (chunk p t) (chunk d t) g i)
      fun g h => ldB_holds (B := fun g i => ∑ t ∈ range (n + 1), gsR (chunk p t) (chunk d t) g i) ih.gs h
    rwa [List.append_nil] at this

/-- After every point. -/
theorem after (c : Dev nD) (h : ArgsAt m c p d γ β W B) : ∀ (n : ℕ) (hn : n < cfg0.N), After (outsAt0 m c n hn) p d γ β W B n
  | 0, hn => after_first m c h ⟨0, hn⟩ rfl
  | n + 1, hn => after_next m c h n hn (after c h n (Nat.lt_of_succ_lt hn))

end Cert.KernelIdeal.Gate

end
-- ==== Proof.Final.lean ====
module

public import proofs.«01_k».proof.Proof.Steps
public import Idealize.ShloMosaic.Lib.Pipeline.Value

/-! The five result arrays of the kernel: the tokens' gradient chunk by chunk, the others the sums over all sixteen chunks. -/

@[expose] public section

set_option maxRecDepth 16384

noncomputable section

namespace Cert.KernelIdeal.Gate

open Idealize.ShloMosaic Idealize.ShloMosaic.TcCoe Idealize.SL.Sem Cert.KernelIdeal Cert.KernelIdeal.Gen Cert.KernelIdeal.Value Cert.Gate
open Idealize.ShloMosaic.Pipeline (Dat)
open Finset (range)

variable (m : (ℓ : Loc nD τ sig) → Buf (Elt Ideal) ℓ)
variable {p d : ℕ → ℕ → ℝ} {γ β : ℕ → ℝ} {W : ℕ → ℕ → ℕ → ℝ} {B : ℕ → ℕ → ℝ}

/-- The last point. -/
def last : Fin cfg0.N := ⟨15, by rw [show cfg0.N = 16 from N_0]; decide⟩

/-- Only the last point is one whose number is fifteen modulo sixteen. -/
theorem eq_last (t : Fin cfg0.N) (h : t.val % 16 = 15) : t = last := by
  have hN : cfg0.N = 16 := N_0
  exact Fin.ext (show t.val = 15 by have := t.isLt; omega)

/-- The gain's gradient is what the last point leaves. -/
theorem final7 (c : Dev nD) : (dats m 0 c).arrAt 7 cfg0.N = (outsAt0 m c last.val last.isLt).2.1 :=
  (dats m 0 c).arrAt_eq_of_cover 7 (outsAt0 m c last.val last.isLt).2.1
    (fun t hf => by
      obtain rfl := eq_last t ((flush0_7 t).mp hf)
      rw [flushed7]
      have hz' : (fun a => win0_7.index last a * main_v3_1.ty.shape.size a) = fun _ => 0 := funext fun a => by fin_cases a <;> decide
      exact (Memref.read_access_unit_zero (Elt Ideal) main_v3_1 hz' (fun a => by rw [congrFun hz' a]; simp) _).symm)
    fun i => ⟨last, (flush0_7 last).mpr rfl, by
      show i ∈ ((View.whole main_v3_1).slice (win0_7.rect last)).set
      rw [View.set_slice_whole, Rect.mem_set_unit]
      intro a
      have h0 : (i 0 : Nat) < 1 := (i 0).isLt
      have h1 : (i 1 : Nat) < 2048 := (i 1).isLt
      match a with
      | ⟨0, _⟩ => show 0 * 1 ≤ (i 0 : Nat) ∧ (i 0 : Nat) < 0 * 1 + 1; omega
      | ⟨1, _⟩ => show 0 * 2048 ≤ (i 1 : Nat) ∧ (i 1 : Nat) < 0 * 2048 + 2048; omega⟩

/-- The bias's gradient is what the last point leaves. -/
theorem final8 (c : Dev nD) : (dats m 0 c).arrAt 8 cfg0.N = (outsAt0 m c last.val last.isLt).2.2.1 :=
  (dats m 0 c).arrAt_eq_of_cover 8 (outsAt0 m c last.val last.isLt).2.2.1
    (fun t hf => by
      obtain rfl := eq_last t ((flush0_8 t).mp hf)
      rw [flushed8]
      have hz' : (fun a => win0_8.index last a * main_v3_2.ty.shape.size a) = fun _ => 0 := funext fun a => by fin_cases a <;> decide
      exact (Memref.read_access_unit_zero (Elt Ideal) main_v3_2 hz' (fun a => by rw [congrFun hz' a]; simp) _).symm)
    fun i => ⟨last, (flush0_8 last).mpr rfl, by
      show i ∈ ((View.whole main_v3_2).slice (win0_8.rect last)).set
      rw [View.set_slice_whole, Rect.mem_set_unit]
      intro a
      have h0 : (i 0 : Nat) < 1 := (i 0).isLt
      have h1 : (i 1 : Nat) < 2048 := (i 1).isLt
      match a with
      | ⟨0, _⟩ => show 0 * 1 ≤ (i 0 : Nat) ∧ (i 0 : Nat) < 0 * 1 + 1; omega
      | ⟨1, _⟩ => show 0 * 2048 ≤ (i 1 : Nat) ∧ (i 1 : Nat) < 0 * 2048 + 2048; omega⟩

/-- The spatial matrices' gradient is what the last point leaves. -/
theorem final9 (c : Dev nD) : (dats m 0 c).arrAt 9 cfg0.N = (outsAt0 m c last.val last.isLt).2.2.2.1 :=
  (dats m 0 c).arrAt_eq_of_cover 9 (outsAt0 m c last.val last.isLt).2.2.2.1
    (fun t hf => by
      obtain rfl := eq_last t ((flush0_9 t).mp hf)
      rw [flushed9]
      have hz' : (fun a => win0_9.index last a * main_v3_3.ty.shape.size a) = fun _ => 0 := funext fun a => by fin_cases a <;> decide
      exact (Memref.read_access_unit_zero (Elt Ideal) main_v3_3 hz' (fun a => by rw [congrFun hz' a]; simp) _).symm)
    fun i => ⟨last, (flush0_9 last).mpr rfl, by
      show i ∈ ((View.whole main_v3_3).slice (win0_9.rect last)).set
      rw [View.set_slice_whole, Rect.mem_set_unit]
      intro a
      have h0 : (i 0 : Nat) < 8 := (i 0).isLt
      have h1 : (i 1 : Nat) < 128 := (i 1).isLt
      have h2 : (i 2 : Nat) < 128 := (i 2).isLt
      match a with
      | ⟨0, _⟩ => show 0 * 8 ≤ (i 0 : Nat) ∧ (i 0 : Nat) < 0 * 8 + 8; omega
      | ⟨1, _⟩ => show 0 * 128 ≤ (i 1 : Nat) ∧ (i 1 : Nat) < 0 * 128 + 128; omega
      | ⟨2, _⟩ => show 0 * 128 ≤ (i 2 : Nat) ∧ (i 2 : Nat) < 0 * 128 + 128; omega⟩

/-- The spatial biases' gradient is what the last point leaves. -/
theorem final10 (c : Dev nD) : (dats m 0 c).arrAt 10 cfg0.N = (outsAt0 m c last.val last.isLt).2.2.2.2 :=
  (dats m 0 c).arrAt_eq_of_cover 10 (outsAt0 m c last.val last.isLt).2.2.2.2
    (fun t hf => by
      obtain rfl := eq_last t ((flush0_10 t).mp hf)
      rw [flushed10]
      have hz' : (fun a => win0_10.index last a * main_v3_4.ty.shape.size a) = fun _ => 0 := funext fun a => by fin_cases a <;> decide
      exact (Memref.read_access_unit_zero (Elt Ideal) main_v3_4 hz' (fun a => by rw [congrFun hz' a]; simp) _).symm)
    fun i => ⟨last, (flush0_10 last).mpr rfl, by
      show i ∈ ((View.whole main_v3_4).slice (win0_10.rect last)).set
      rw [View.set_slice_whole, Rect.mem_set_unit]
      intro a
      have h0 : (i 0 : Nat) < 8 := (i 0).isLt
      have h1 : (i 1 : Nat) < 128 := (i 1).isLt
      have h2 : (i 2 : Nat) < 1 := (i 2).isLt
      match a with
      | ⟨0, _⟩ => show 0 * 8 ≤ (i 0 : Nat) ∧ (i 0 : Nat) < 0 * 8 + 8; omega
      | ⟨1, _⟩ => show 0 * 128 ≤ (i 1 : Nat) ∧ (i 1 : Nat) < 0 * 128 + 128; omega
      | ⟨2, _⟩ => show 0 * 1 ≤ (i 2 : Nat) ∧ (i 2 : Nat) < 0 * 1 + 1; omega⟩

/-- The tokens' gradient, row `r` in chunk `r / 128`. -/
theorem final6 (c : Dev nD) (h : ArgsAt m c p d γ β W B) :
    Holds ((dats m 0 c).arrAt 6 cfg0.N : S2048x4096.Idx → EReal) fun r k => dpR (chunk p (r / 128)) (chunk d (r / 128)) γ β W B (r % 128) k := by
  intro r k
  have hN : cfg0.N = 16 := N_0
  have hr := r.isLt
  have ht : r.val / 128 < cfg0.N := by omega
  have key := congrFun (blocks6 m c ⟨r.val / 128, ht⟩ (flush0_6 _)) (ix2 ⟨r.val % 128, by omega⟩ k)
  rw [View.read_apply, flushed6] at key
  have hidx : win0_6.index ⟨r.val / 128, ht⟩ 0 = r.val / 128 ∧ win0_6.index ⟨r.val / 128, ht⟩ 1 = 0 :=
    (by decide +kernel : ∀ t : Fin grid0.N, win0_6.index t 0 = t.val ∧ win0_6.index t 1 = 0) ⟨r.val / 128, ht⟩
  refine Eq.trans ?_ (key.trans ((after m c h (r.val / 128) ht).dp ⟨r.val % 128, by omega⟩ k))
  congr 1
  funext a
  apply Fin.ext
  match a with
  | ⟨0, _⟩ => show r.val = win0_6.index ⟨r.val / 128, ht⟩ 0 * 128 + 1 * (r.val % 128); rw [hidx.1]; omega
  | ⟨1, _⟩ => show k.val = win0_6.index ⟨r.val / 128, ht⟩ 1 * 4096 + 1 * k.val; rw [hidx.2]; omega

end Cert.KernelIdeal.Gate

end
-- ==== Proof.Ref1.lean ====
module

public import proofs.«01_k».proof.Proof.Blocks
public import proofs.«01_k».proof.Proof.Gen.ReferenceIdeal.Read

/-! The reference's forward lines over real arguments: gelu, the layer norm, the masked spatial product. -/

@[expose] public section

set_option maxRecDepth 16384

noncomputable section

namespace Cert.ReferenceIdeal.Gate

open Idealize.ShloMosaic Idealize.ShloMosaic.TcCoe Idealize.SL.Sem Cert.ReferenceIdeal Cert.ReferenceIdeal.Gen Cert.ReferenceIdeal.Read Cert.Gate
open Cert.KernelIdeal.Gate (Holds Holds3 Holds4 Args chunk)

/-- The root of two, as the host takes it. -/
theorem root_two (i : S_.Idx) : val_main_v2 (F := Ideal) i = ((Real.sqrt 2 : ℝ) : EReal) := by
  show Ideal.sqrt (Ideal.ofBits .f32 0x40000000#32) = _
  rw [two_f32, Ideal.sqrt_coe]
  norm_num

variable {x0 : S2048x4096.Idx → EReal} {x1 : S2048x2048.Idx → EReal} {x2 x3 : S1x2048.Idx → EReal} {x4 : S1x8x128x128.Idx → EReal} {x5 : S1x8x128.Idx → EReal}
variable {p d : ℕ → ℕ → ℝ} {γ β : ℕ → ℝ} {W : ℕ → ℕ → ℕ → ℝ} {B : ℕ → ℕ → ℝ}

/-- The argument over the root of two. -/
theorem v4_holds (h0 : Holds x0 p) : Holds (val_main_v4 (F := Ideal) x0) fun r c => p r c * (Real.sqrt 2)⁻¹ := by
  intro r c
  rw [val_main_v4_apply, val_main_v3_apply]
  show Ideal.div (x0 (ix2 r c)) (val_main_v2 (F := Ideal) _) = _
  rw [h0 r c, root_two, Ideal.div_coe (by positivity), ← EReal.coe_mul, one_div]

/-- One plus the error function. -/
theorem v14_holds (h0 : Holds x0 p) : Holds (val_main_v14 (F := Ideal) x0) fun r c => 1 + erfR (p r c * (Real.sqrt 2)⁻¹) := by
  intro r c
  rw [val_main_v14_apply, val_main_v13_apply, val_main_cst_4_apply, val_main_v5_apply]
  show Ideal.ofBits .f32 0x3F800000#32 + Ideal.erf (val_main_v4 (F := Ideal) x0 (ix2 r c)) = _
  rw [v4_holds h0 r c, one_f32, erf_real, ← EReal.coe_add]

/-- Half the argument. -/
theorem v1_holds (h0 : Holds x0 p) : Holds (val_main_v1 (F := Ideal) x0) fun r c => 1 / 2 * p r c := by
  intro r c
  rw [val_main_v1_apply, val_main_v0_apply, val_main_cst_apply]
  show Ideal.ofBits .f32 0x3F000000#32 * (x0 (ix2 r c) : EReal) = _
  rw [h0 r c, half_f32, ← EReal.coe_mul]

/-- The gelu. -/
theorem v15_holds (h0 : Holds x0 p) : Holds (val_main_v15 (F := Ideal) x0) fun r c => geluR (p r c) := by
  intro r c
  rw [val_main_v15_apply]
  show (val_main_v1 (F := Ideal) x0 (ix2 r c) : EReal) * val_main_v14 (F := Ideal) x0 (ix2 r c) = _
  rw [v1_holds h0 r c, v14_holds h0 r c, ← EReal.coe_mul]
  rfl

/-- The left half. -/
theorem v16_holds (h0 : Holds x0 p) : Holds (val_main_v16 (F := Ideal) x0) fun r c => geluR (p r c) := by
  intro r c
  rw [val_main_v16_apply]
  refine Eq.trans (congrArg _ ?_) (v15_holds h0 r ⟨c.val, by omega⟩)
  funext a
  match a with
  | ⟨0, _⟩ => rfl
  | ⟨1, _⟩ => rfl

/-- The right half. -/
theorem v17_holds (h0 : Holds x0 p) : Holds (val_main_v17 (F := Ideal) x0) fun r c => vR p r c := by
  intro r c
  rw [val_main_v17_apply]
  refine Eq.trans (congrArg _ ?_) (v15_holds h0 r ⟨2048 + c.val, by omega⟩)
  funext a
  match a with
  | ⟨0, _⟩ => rfl
  | ⟨1, _⟩ => rfl

/-- Its mean. -/
theorem v23_holds (h0 : Holds x0 p) : Holds (val_main_v23 (F := Ideal) x0) fun r _ => muR p r := by
  intro r z
  have e := v17_holds h0
  pointwise [val_main_v23, val_main_v22, val_main_v21, val_main_v20, val_main_cst_5, val_main_cst_6]
  simp only [e _ _, coe_sumR, n2048_f32, Ideal.div_coe (show (2048 : ℝ) ≠ 0 by norm_num), ← EReal.coe_mul, muR, Finset.sum_range]

/-- It less its mean. -/
theorem v25_holds (h0 : Holds x0 p) : Holds (val_main_v25 (F := Ideal) x0) fun r c => vR p r c - muR p r := by
  intro r c
  have e := v17_holds h0 r c
  have e' := v23_holds h0 r 0
  pointwise [val_main_v25, val_main_v24]
  rw [e, e', ← EReal.coe_sub]

/-- Its variance with epsilon. -/
theorem v32_holds (h0 : Holds x0 p) : Holds (val_main_v32 (F := Ideal) x0) fun r _ => varR p r := by
  intro r z
  have e := v25_holds h0
  pointwise [val_main_v32, val_main_v31, val_main_v30, val_main_v29, val_main_v28, val_main_v27, val_main_v26, val_main_cst_7, val_main_cst_8, val_main_cst_9]
  simp only [e _ _, ← EReal.coe_mul, coe_sumR, n2048_f32, eps_f32, Ideal.div_coe (show (2048 : ℝ) ≠ 0 by norm_num), ← EReal.coe_add, varR, Finset.sum_range]

/-- The reciprocal deviation. -/
theorem v33_holds (h0 : Holds x0 p) : Holds (val_main_v33 (F := Ideal) x0) fun r _ => rsR p r := by
  intro r z
  rw [val_main_v33_apply]
  show Ideal.rsqrt (val_main_v32 (F := Ideal) x0 (ix2 r z)) = _
  rw [v32_holds h0 r z, rsqrt_real (varR_pos p r)]
  rfl

/-- It normalised. -/
theorem v38_holds (h0 : Holds x0 p) : Holds (val_main_v38 (F := Ideal) x0) fun r c => xhR p r c := by
  intro r c
  have e := v25_holds h0 r c
  have e' := v33_holds h0 r 0
  pointwise [val_main_v38, val_main_v37]
  rw [e, e', ← EReal.coe_mul]
  rfl

/-- With gain and bias. -/
theorem v44_holds (h0 : Holds x0 p) (h2 : Holds x2 fun _ c => γ c) (h3 : Holds x3 fun _ c => β c) :
    Holds (val_main_v44 (F := Ideal) x0 x2 x3) fun r c => nR p γ β r c := by
  intro r c
  have e := v38_holds h0 r c
  pointwise [val_main_v44, val_main_v43, val_main_v42, val_main_v41, val_main_v40, val_main_v39, val_main_v19, val_main_v18]
  rw [e, h2 0 c, h3 0 c, ← EReal.coe_mul, ← EReal.coe_add]
  rfl

/-- In chunks and groups. -/
theorem v45_holds (h0 : Holds x0 p) (h2 : Holds x2 fun _ c => γ c) (h3 : Holds x3 fun _ c => β c) :
    Holds4 (val_main_v45 (F := Ideal) x0 x2 x3) fun t i g k => nR p γ β (128 * t + i) (256 * g + k) := by
  intro t i g k
  rw [val_main_v45_apply]
  refine Eq.trans (congrArg _ ?_) (v44_holds h0 h2 h3 ⟨128 * t.val + i.val, by omega⟩ ⟨256 * g.val + k.val, by omega⟩)
  funext a
  apply Fin.ext
  match a with
  | ⟨0, _⟩ => show (((t.val * 128 + i.val) * 8 + g.val) * 256 + k.val) / 2048 = 128 * t.val + i.val; omega
  | ⟨1, _⟩ => show (((t.val * 128 + i.val) * 8 + g.val) * 256 + k.val) % 2048 = 256 * g.val + k.val; omega

/-- The lower triangle of ones. -/
theorem v47_holds : Holds (val_main_v47 (F := Ideal)) fun i k => if k ≤ i then 1 else 0 := by
  intro i k
  pointwise [val_main_v47, val_main_v46, val_main_call0_v0, val_main_call0_v1, val_main_call0_v2, val_main_call0_v3, val_main_call0_v4, val_main_call0_v5,
    val_main_call0_c, val_main_call0_cst, val_main_cst_11]
  rw [show IntOp.addi (BitVec.ofNat 32 i.val) 0#32 = BitVec.ofNat 32 i.val from BitVec.add_zero _]
  exact Cert.KernelIdeal.Gate.select_causal i k 1

/-- The masked spatial matrices. -/
theorem v51_holds (h4 : Holds4 x4 fun _ => W) : Holds3 (val_main_v51 (F := Ideal) x4) fun g t k => wR W g t k := by
  intro g t k
  have e := v47_holds t k
  pointwise [val_main_v51, val_main_v50, val_main_v49, val_main_v48]
  rw [h4 0 g t k, e, ← EReal.coe_mul, wR, mul_ite, mul_one, mul_zero]

/-- The spatial product with its bias, in chunks and groups. -/
theorem v58_holds (h0 : Holds x0 p) (h2 : Holds x2 fun _ c => γ c) (h3 : Holds x3 fun _ c => β c) (h4 : Holds4 x4 fun _ => W) (h5 : Holds3 x5 fun _ => B) :
    Holds4 (val_main_v58 (F := Ideal) x0 x2 x3 x4 x5) fun t i g k => sR (chunk p t) γ β W B g i (256 * g + k) := by
  intro t i g k
  have e := v45_holds h0 h2 h3
  have e' := v51_holds h4
  pointwise [val_main_v58, val_main_v57, val_main_v56, val_main_v55, val_main_v54, val_main_v53, val_main_v52]
  simp only [e _ _ _ _, e' _ _ _, h5 _ _ _, ← EReal.coe_mul, coe_sumR, ← EReal.coe_add, sR, Finset.sum_range, mul_comm (nR _ _ _ _ _)]
  rfl

/-- Its rows. -/
theorem v59_holds (h0 : Holds x0 p) (h2 : Holds x2 fun _ c => γ c) (h3 : Holds x3 fun _ c => β c) (h4 : Holds4 x4 fun _ => W) (h5 : Holds3 x5 fun _ => B) :
    Holds (val_main_v59 (F := Ideal) x0 x2 x3 x4 x5) fun r c => sR (chunk p (r / 128)) γ β W B (c / 256) (r % 128) c := by
  intro r c
  have hr := r.isLt
  have hc := c.isLt
  rw [val_main_v59_apply]
  refine Eq.trans (congrArg _ ?_) ((v58_holds h0 h2 h3 h4 h5 ⟨r.val / 128, by omega⟩ ⟨r.val % 128, by omega⟩ ⟨c.val / 256, by omega⟩ ⟨c.val % 256, by omega⟩).trans ?_)
  · funext a
    apply Fin.ext
    match a with
    | ⟨0, _⟩ => show (r.val * 2048 + c.val) / 262144 = r.val / 128; omega
    | ⟨1, _⟩ => show (r.val * 2048 + c.val) / 2048 % 128 = r.val % 128; omega
    | ⟨2, _⟩ => show (r.val * 2048 + c.val) / 256 % 8 = c.val / 256; omega
    | ⟨3, _⟩ => show (r.val * 2048 + c.val) % 256 = c.val % 256; omega
  · dsimp only
    rw [Nat.div_add_mod]

/-- The gradient of the spatial product. -/
theorem v61_holds (h0 : Holds x0 p) (h1 : Holds x1 d) : Holds (val_main_v61 (F := Ideal) x0 x1) fun r c => dsR p d r c := by
  intro r c
  have e := v16_holds h0 r c
  pointwise [val_main_v61]
  rw [e, h1 r c, ← EReal.coe_mul, dsR, mul_comm]

/-- In chunks and groups. -/
theorem v63_holds (h0 : Holds x0 p) (h1 : Holds x1 d) :
    Holds4 (val_main_v63 (F := Ideal) x0 x1) fun t i g k => dsR (chunk p t) (chunk d t) i (256 * g + k) := by
  intro t i g k
  rw [val_main_v63_apply]
  refine Eq.trans (congrArg _ ?_) (v61_holds h0 h1 ⟨128 * t.val + i.val, by omega⟩ ⟨256 * g.val + k.val, by omega⟩)
  funext a
  apply Fin.ext
  match a with
  | ⟨0, _⟩ => show (((t.val * 128 + i.val) * 8 + g.val) * 256 + k.val) / 2048 = 128 * t.val + i.val; omega
  | ⟨1, _⟩ => show (((t.val * 128 + i.val) * 8 + g.val) * 256 + k.val) % 2048 = 256 * g.val + k.val; omega

/-- The gradient that reaches the left half. -/
theorem v62_holds (h0 : Holds x0 p) (h1 : Holds x1 d) (h2 : Holds x2 fun _ c => γ c) (h3 : Holds x3 fun _ c => β c) (h4 : Holds4 x4 fun _ => W) (h5 : Holds3 x5 fun _ => B) :
    Holds (val_main_v62 (F := Ideal) x0 x1 x2 x3 x4 x5) fun r c => d r c * sR (chunk p (r / 128)) γ β W B (c / 256) (r % 128) c := by
  intro r c
  have e := v59_holds h0 h2 h3 h4 h5 r c
  pointwise [val_main_v62]
  rw [e, h1 r c, ← EReal.coe_mul]

/-- The gradient of the normalised half, in chunks and groups. -/
theorem v72_holds (h0 : Holds x0 p) (h1 : Holds x1 d) (h4 : Holds4 x4 fun _ => W) :
    Holds4 (val_main_v72 (F := Ideal) x0 x1 x4) fun t i g k => dnR (chunk p t) (chunk d t) W g i (256 * g + k) := by
  intro t i g k
  have e := v63_holds h0 h1
  have e' := v51_holds h4
  pointwise [val_main_v72, val_main_v71, val_main_v69]
  simp only [e _ _ _ _, e' _ _ _, ← EReal.coe_mul, coe_sumR, dnR, Finset.sum_range, mul_comm (dsR _ _ _ _)]

/-- Its rows. -/
theorem v76_holds (h0 : Holds x0 p) (h1 : Holds x1 d) (h4 : Holds4 x4 fun _ => W) :
    Holds (val_main_v76 (F := Ideal) x0 x1 x4) fun r c => dnR (chunk p (r / 128)) (chunk d (r / 128)) W (c / 256) (r % 128) c := by
  intro r c
  have hr := r.isLt
  have hc := c.isLt
  rw [val_main_v76_apply]
  refine Eq.trans (congrArg _ ?_) ((v72_holds h0 h1 h4 ⟨r.val / 128, by omega⟩ ⟨r.val % 128, by omega⟩ ⟨c.val / 256, by omega⟩ ⟨c.val % 256, by omega⟩).trans ?_)
  · funext a
    apply Fin.ext
    match a with
    | ⟨0, _⟩ => show (r.val * 2048 + c.val) / 262144 = r.val / 128; omega
    | ⟨1, _⟩ => show (r.val * 2048 + c.val) / 2048 % 128 = r.val % 128; omega
    | ⟨2, _⟩ => show (r.val * 2048 + c.val) / 256 % 8 = c.val / 256; omega
    | ⟨3, _⟩ => show (r.val * 2048 + c.val) % 256 = c.val % 256; omega
  · dsimp only
    rw [Nat.div_add_mod]

end Cert.ReferenceIdeal.Gate

end
-- ==== Proof.Ref2.lean ====
module

public import proofs.«01_k».proof.Proof.Ref1

/-! The reference's backward lines over real arguments, and that its five results hold the same real arrays as the kernel's. -/

@[expose] public section

set_option maxRecDepth 16384

noncomputable section

namespace Cert.ReferenceIdeal.Gate

open Idealize.ShloMosaic Idealize.ShloMosaic.TcCoe Idealize.SL.Sem Cert.ReferenceIdeal Cert.ReferenceIdeal.Gen Cert.ReferenceIdeal.Read Cert.Gate
open Cert.KernelIdeal.Gate (Holds Holds3 Holds4 Args chunk)
open Finset (range)

/-! ## Over the reals -/

/-- A sum over 2048 rows, chunk by chunk. -/
theorem sum_chunks (f : ℕ → ℝ) : (∑ r ∈ range 2048, f r) = ∑ t ∈ range 16, ∑ i ∈ range 128, f (128 * t + i) := by
  have h : ∀ n : ℕ, (∑ r ∈ range (128 * n), f r) = ∑ t ∈ range n, ∑ i ∈ range 128, f (128 * t + i) := by
    intro n
    induction n with
    | zero => simp
    | succ n ih => rw [Finset.sum_range_succ, ← ih, Nat.mul_succ, Finset.sum_range_add]
  exact h 16

/-- A sum over 2048 rows of what depends on the chunk and the row in it. -/
theorem sum_chunks_of (f : ℕ → ℕ → ℝ) : (∑ r ∈ range 2048, f (r / 128) (r % 128)) = ∑ t ∈ range 16, ∑ i ∈ range 128, f t i := by
  rw [sum_chunks]
  refine Finset.sum_congr rfl fun t _ => Finset.sum_congr rfl fun i hi => ?_
  have := Finset.mem_range.mp hi
  rw [show (128 * t + i) / 128 = t by omega, show (128 * t + i) % 128 = i by omega]

/-- A row less its mean sums to nothing. -/
theorem sum_centred (P : ℕ → ℕ → ℝ) (i : ℕ) : ∑ c ∈ range 2048, (vR P i c - muR P i) = 0 := by
  rw [Finset.sum_sub_distrib, Finset.sum_const, Finset.card_range, muR]
  simp only [nsmul_eq_mul]
  push_cast
  ring

/-- The reciprocal deviation over the variance is its cube. -/
theorem rs_div (P : ℕ → ℕ → ℝ) (i : ℕ) : rsR P i * (1 / varR P i) = rsR P i * rsR P i * rsR P i := by
  have h := (varR_pos P i).le
  rw [rsR, mul_assoc, ← mul_inv, Real.mul_self_sqrt h, one_div]

/-- The layer norm's gradient: through the variance and the mean, as the chain rule writes it, is the closed form. -/
theorem norm_grad (P : ℕ → ℕ → ℝ) (y : ℕ → ℝ) (i c : ℕ) (q n : ℝ) (f : ℕ → ℝ)
    (hq : q = (∑ c ∈ range 2048, (vR P i c - muR P i) * y c) * (-(1 / 2) * (rsR P i * (1 / varR P i))) * (1 / 2048))
    (hf : ∀ c, f c = y c * rsR P i + (vR P i c - muR P i) * q + q * (vR P i c - muR P i))
    (hn : n = (∑ c ∈ range 2048, -f c) * (1 / 2048)) :
    f c + n = rsR P i * (y c - (∑ c ∈ range 2048, y c) * (1 / 2048) - xhR P i c * ((∑ c ∈ range 2048, y c * xhR P i c) * (1 / 2048))) := by
  have s : (∑ c ∈ range 2048, f c) = (∑ c ∈ range 2048, y c) * rsR P i := by
    simp only [hf, Finset.sum_add_distrib, ← Finset.sum_mul, ← Finset.mul_sum, sum_centred]
    ring
  have x : (∑ c ∈ range 2048, y c * xhR P i c) = (∑ c ∈ range 2048, (vR P i c - muR P i) * y c) * rsR P i := by
    rw [Finset.sum_mul]
    exact Finset.sum_congr rfl fun c _ => by rw [xhR]; ring
  rw [hn, Finset.sum_neg_distrib, s, x, hf c, hq, rs_div, xhR]
  ring

/-- The normalised half of a row, counted in its chunk. -/
theorem row_xh (P : ℕ → ℕ → ℝ) (r c : ℕ) : xhR (chunk P (r / 128)) (r % 128) c = xhR P r c := by
  unfold xhR rsR varR muR vR chunk
  rw [Nat.div_add_mod]

/-- The gelu's gradient, as the chain rule writes it, is the closed form. -/
theorem gelu_grad (x y : ℝ) :
    1 / 2 * x * y * Real.exp (-(x * (Real.sqrt 2)⁻¹ * (x * (Real.sqrt 2)⁻¹))) * (2 * (1 / Real.sqrt (4 * Real.arctan 1))) * (1 / Real.sqrt 2)
      + 1 / 2 * (y * (1 + erfR (x * (Real.sqrt 2)⁻¹))) = y * gradR x := by
  have h2 : (Real.sqrt 2)⁻¹ * (Real.sqrt 2)⁻¹ = 1 / 2 := by rw [← mul_inv, Real.mul_self_sqrt (by norm_num), one_div]
  have e : -(x * (Real.sqrt 2)⁻¹ * (x * (Real.sqrt 2)⁻¹)) = -(1 / 2) * x * x := by
    linear_combination (-(x * x)) * h2
  have k : Real.sqrt (2 * Real.pi) = Real.sqrt 2 * Real.sqrt Real.pi := Real.sqrt_mul (by norm_num) _
  rw [e, Real.arctan_one, show 4 * (Real.pi / 4) = Real.pi by ring, gradR, k, mul_inv]
  ring

/-- The host's sum over the outer two of four axes. -/
theorem sum_outer {a b c e : ℕ} (h : (⟨4, ![a, b, c, e]⟩ : Shape).ReducesTo [0, 3] ⟨2, ![b, c]⟩) (x : (⟨4, ![a, b, c, e]⟩ : Shape).Idx → EReal) (z : EReal)
    (i : Fin b) (g : Fin c) : Ideal.hostReduceAdd h x z (ix2 i g) = z + ∑ t, ∑ k, x (ix4 t i g k) := by
  unfold Ideal.hostReduceAdd
  rw [← Fintype.sum_prod_type' (f := fun t k => x (ix4 t i g k))]
  refine congrArg (z + ·) (Finset.sum_bij' (fun j _ => (j 0, j 3)) (fun q _ => ix4 q.1 i g q.2) (fun _ _ => Finset.mem_univ _) ?_ ?_ (fun _ _ => rfl) ?_)
  · intro q _
    rw [Finset.mem_filter]
    refine ⟨Finset.mem_univ _, ?_⟩
    funext u
    apply Fin.ext
    match u with
    | ⟨0, _⟩ => rfl
    | ⟨1, _⟩ => rfl
  all_goals
    intro j hj
    have hj' := (Finset.mem_filter.mp hj).2
    have e : ix4 (j 0) i g (j 3) = j := by
      funext u
      match u with
      | ⟨0, _⟩ => rfl
      | ⟨1, _⟩ => exact Fin.ext (congrArg Fin.val (congrFun hj' 0)).symm
      | ⟨2, _⟩ => exact Fin.ext (congrArg Fin.val (congrFun hj' 1)).symm
      | ⟨3, _⟩ => rfl
  · exact e
  · exact congrArg x e.symm

/-! ## The results -/

variable {x0 : S2048x4096.Idx → EReal} {x1 : S2048x2048.Idx → EReal} {x2 x3 : S1x2048.Idx → EReal} {x4 : S1x8x128x128.Idx → EReal} {x5 : S1x8x128.Idx → EReal}
variable {p d : ℕ → ℕ → ℝ} {γ β : ℕ → ℝ} {W : ℕ → ℕ → ℕ → ℝ} {B : ℕ → ℕ → ℝ}

/-- The bias's gradient. -/
theorem v108_holds (h0 : Holds x0 p) (h1 : Holds x1 d) (h4 : Holds4 x4 fun _ => W) :
    Holds (val_main_v108 (F := Ideal) x0 x1 x4) fun _ c => ∑ t ∈ range 16, gbR (chunk p t) (chunk d t) W (c / 256) c := by
  intro z c
  have e := v76_holds h0 h1 h4
  pointwise [val_main_v108, val_main_v79, val_main_v78, val_main_v77, val_main_cst_14, val_main_cst_15]
  simp only [e _ _, coe_sumR, gbR, Finset.univ_unique, Finset.sum_singleton]
  rw [← sum_chunks_of fun t i => dnR (chunk p t) (chunk d t) W (c / 256) i c, Finset.sum_range]

/-- The gain's gradient. -/
theorem v109_holds (h0 : Holds x0 p) (h1 : Holds x1 d) (h4 : Holds4 x4 fun _ => W) :
    Holds (val_main_v109 (F := Ideal) x0 x1 x4) fun _ c => ∑ t ∈ range 16, ggR (chunk p t) (chunk d t) W (c / 256) c := by
  intro z c
  have e := v76_holds h0 h1 h4
  have e' := v38_holds h0
  pointwise [val_main_v109, val_main_v85, val_main_v82, val_main_v81, val_main_v80, val_main_cst_16, val_main_cst_17]
  simp only [e _ _, e' _ _, ← EReal.coe_mul, coe_sumR, ggR, Finset.univ_unique, Finset.sum_singleton]
  rw [← sum_chunks_of fun t i => dnR (chunk p t) (chunk d t) W (c / 256) i c * xhR (chunk p t) i c, Finset.sum_range]
  refine congrArg _ (Finset.sum_congr rfl fun r _ => ?_)
  rw [mul_comm, row_xh]

/-- The spatial biases' gradient. -/
theorem v124_holds (h0 : Holds x0 p) (h1 : Holds x1 d) :
    Holds3 (val_main_v124 (F := Ideal) x0 x1) fun g i _ => ∑ t ∈ range 16, gsR (chunk p t) (chunk d t) g i := by
  intro g i z
  have e := v63_holds h0 h1
  have s64 : ∀ (i : Fin 128) (g : Fin 8), val_main_v64 (F := Ideal) x0 x1 (ix2 i g) = ((∑ t ∈ range 16, gsR (chunk p t) (chunk d t) g i : ℝ) : EReal) := by
    intro i g
    refine (sum_outer (reducesTo_S16x128x8x256_S128x8_d0_3) (val_main_v63 (F := Ideal) x0 x1) _ i g).trans ?_
    rw [val_main_cst_12_apply]
    simp only [e _ _ _ _, coe_sumR, gsR, Finset.sum_range, Ideal.ofBits_def, Ideal.ofBits_zero_f32, zero_add]
  have s66 : val_main_v66 (F := Ideal) x0 x1 (ix2 i g) = ((∑ t ∈ range 16, gsR (chunk p t) (chunk d t) g i : ℝ) : EReal) := by
    refine (sum_outer (reducesTo_S1x128x8x1_S128x8_d0_3) (val_main_v65 (F := Ideal) x0 x1) _ i g).trans ?_
    rw [val_main_cst_13_apply]
    simp only [Finset.univ_unique, Finset.sum_singleton, Ideal.ofBits_def, Ideal.ofBits_zero_f32, zero_add]
    refine Eq.trans ?_ (s64 i g)
    pointwise [val_main_v65]
  pointwise [val_main_v124, val_main_v123, val_main_v68, val_main_v67]
  exact s66

/-- The spatial matrices' gradient. -/
theorem v122_holds (h0 : Holds x0 p) (h1 : Holds x1 d) (h2 : Holds x2 fun _ c => γ c) (h3 : Holds x3 fun _ c => β c) :
    Holds3 (val_main_v122 (F := Ideal) x0 x1 x2 x3) fun g i k => ∑ t ∈ range 16, gwR (chunk p t) (chunk d t) γ β g i k := by
  intro g i k
  have e := v63_holds h0 h1
  have e' := v45_holds h0 h2 h3
  have e'' := v47_holds i k
  pointwise [val_main_v122, val_main_v75, val_main_v74, val_main_v73, val_main_v70, val_main_v69, val_main_v49]
  simp only [e _ _ _ _, e' _ _ _ _, e'', ← EReal.coe_mul, coe_sumR, gwR, Finset.sum_range]
  split_ifs
  · rw [mul_one]
    rfl
  · simp

/-- The gradient through the gain. -/
theorem v84_holds (h0 : Holds x0 p) (h1 : Holds x1 d) (h2 : Holds x2 fun _ c => γ c) (h4 : Holds4 x4 fun _ => W) :
    Holds (val_main_v84 (F := Ideal) x0 x1 x2 x4) fun r c => dhR (chunk p (r / 128)) (chunk d (r / 128)) γ W (r % 128) c := by
  intro r c
  have e := v76_holds h0 h1 h4 r c
  pointwise [val_main_v84, val_main_v83, val_main_v39, val_main_v18]
  rw [e, h2 0 c, ← EReal.coe_mul, dhR]

/-- A row's part of the variance's gradient. -/
def qR (p d : ℕ → ℕ → ℝ) (γ : ℕ → ℝ) (W : ℕ → ℕ → ℕ → ℝ) (r : ℕ) : ℝ :=
  (∑ c ∈ range 2048, (vR p r c - muR p r) * dhR (chunk p (r / 128)) (chunk d (r / 128)) γ W (r % 128) c) * (-(1 / 2) * (rsR p r * (1 / varR p r))) * (1 / 2048)

/-- The variance's gradient. -/
theorem v93_holds (h0 : Holds x0 p) (h1 : Holds x1 d) (h2 : Holds x2 fun _ c => γ c) (h4 : Holds4 x4 fun _ => W) :
    Holds (val_main_v93 (F := Ideal) x0 x1 x2 x4) fun r _ => qR p d γ W r := by
  intro r z
  have e := v84_holds h0 h1 h2 h4
  have e1 := v25_holds h0
  have e2 := v32_holds h0
  have e3 := v33_holds h0
  pointwise [val_main_v93, val_main_v92, val_main_v91, val_main_v88, val_main_v87, val_main_v86, val_main_v36, val_main_v35, val_main_v34, val_main_cst_19,
    val_main_cst_18, val_main_cst_10]
  simp only [e _ _, e1 _ _, e2 _ _, e3 _ _, n2048_f32, neg_half_f32, Ideal.div_coe (show (2048 : ℝ) ≠ 0 by norm_num), Ideal.div_coe (varR_pos p r).ne',
    ← EReal.coe_mul, coe_sumR, qR, Finset.sum_range]

/-- The centred right half's gradient. -/
def zR (p d : ℕ → ℕ → ℝ) (γ : ℕ → ℝ) (W : ℕ → ℕ → ℕ → ℝ) (r c : ℕ) : ℝ :=
  dhR (chunk p (r / 128)) (chunk d (r / 128)) γ W (r % 128) c * rsR p r + (vR p r c - muR p r) * qR p d γ W r + qR p d γ W r * (vR p r c - muR p r)

/-- The centred right half's gradient. -/
theorem v99_holds (h0 : Holds x0 p) (h1 : Holds x1 d) (h2 : Holds x2 fun _ c => γ c) (h4 : Holds4 x4 fun _ => W) :
    Holds (val_main_v99 (F := Ideal) x0 x1 x2 x4) (zR p d γ W) := by
  intro r c
  have e := v84_holds h0 h1 h2 h4
  have e1 := v25_holds h0
  have e2 := v93_holds h0 h1 h2 h4
  have e3 := v33_holds h0
  pointwise [val_main_v99, val_main_v98, val_main_v97, val_main_v96, val_main_v95, val_main_v94, val_main_v90, val_main_v89, val_main_cst_20]
  simp only [e _ _, e1 _ _, e2 _ _, e3 _ _, Finset.univ_unique, Finset.sum_singleton, ← EReal.coe_mul, ← EReal.coe_add, zR]

/-- The right half's gradient, before its gelu's. -/
theorem v107_holds (h0 : Holds x0 p) (h1 : Holds x1 d) (h2 : Holds x2 fun _ c => γ c) (h4 : Holds4 x4 fun _ => W) :
    Holds (val_main_v107 (F := Ideal) x0 x1 x2 x4) fun r c => rsR p r * (dhR (chunk p (r / 128)) (chunk d (r / 128)) γ W (r % 128) c
      - m1R (chunk p (r / 128)) (chunk d (r / 128)) γ W (r % 128)
      - xhR p r c * m2R (chunk p (r / 128)) (chunk d (r / 128)) γ W (r % 128)) := by
  intro r c
  have e := v99_holds h0 h1 h2 h4
  pointwise [val_main_v107, val_main_v106, val_main_v105, val_main_v104, val_main_v103, val_main_v102, val_main_v101, val_main_v100, val_main_cst_21,
    val_main_cst_22, val_main_cst_23]
  simp only [e _ _, n2048_f32, Ideal.div_coe (show (2048 : ℝ) ≠ 0 by norm_num), ← EReal.coe_neg, ← EReal.coe_mul, ← EReal.coe_add, coe_sumR, Finset.univ_unique,
    Finset.sum_singleton]
  rw [← Finset.sum_range fun k => -zR p d γ W r k]
  refine congrArg _ ((norm_grad p (fun c => dhR (chunk p (r.val / 128)) (chunk d (r.val / 128)) γ W (r.val % 128) c) r c (qR p d γ W r) _ (zR p d γ W r) rfl
    (fun _ => rfl) rfl).trans ?_)
  rw [m1R, m2R]
  refine congrArg (fun y => rsR p r * (_ - _ - xhR p r c * (y * (1 / 2048)))) (Finset.sum_congr rfl fun k _ => ?_)
  rw [row_xh]

/-- What reaches the gelu: the gate's gradient to the left, the layer norm's to the right. -/
def ctR (p d : ℕ → ℕ → ℝ) (γ β : ℕ → ℝ) (W : ℕ → ℕ → ℕ → ℝ) (B : ℕ → ℕ → ℝ) (r c : ℕ) : ℝ :=
  if c < 2048 then d r c * sR (chunk p (r / 128)) γ β W B (c / 256) (r % 128) c
  else rsR p r * (dhR (chunk p (r / 128)) (chunk d (r / 128)) γ W (r % 128) (c - 2048) - m1R (chunk p (r / 128)) (chunk d (r / 128)) γ W (r % 128)
    - xhR p r (c - 2048) * m2R (chunk p (r / 128)) (chunk d (r / 128)) γ W (r % 128))

/-- The two halves joined. -/
theorem v110_holds (h0 : Holds x0 p) (h1 : Holds x1 d) (h2 : Holds x2 fun _ c => γ c) (h3 : Holds x3 fun _ c => β c) (h4 : Holds4 x4 fun _ => W)
    (h5 : Holds3 x5 fun _ => B) : Holds (val_main_v110 (F := Ideal) x0 x1 x2 x3 x4 x5) (ctR p d γ β W B) := by
  intro r c
  have e := v62_holds h0 h1 h2 h3 h4 h5
  have e' := v107_holds h0 h1 h2 h4
  pointwise [val_main_v110]
  unfold ctR
  by_cases h : c.val < 2048
  · rw [dif_pos h, if_pos h]
    exact e r ⟨c.val, h⟩
  · rw [dif_neg h, if_neg h]
    exact e' r ⟨c.val - 2048, by omega⟩

/-- The constant of the error function's derivative. -/
theorem v9_real (i : S_.Idx) : val_main_v9 (F := Ideal) i = ((2 * (1 / Real.sqrt (4 * Real.arctan 1)) : ℝ) : EReal) := by
  show Ideal.div (Ideal.ofBits .f32 0x40000000#32) (Ideal.sqrt (Ideal.ofBits .f32 0x40800000#32 * Ideal.atan (Ideal.ofBits .f32 0x3F800000#32))) = _
  have h : 0 < 4 * Real.arctan 1 := by rw [Real.arctan_one]; positivity
  rw [two_f32, four_f32, one_f32, show Ideal.atan ((1 : ℝ) : EReal) = ((Real.arctan 1 : ℝ) : EReal) from rfl, ← EReal.coe_mul, Ideal.sqrt_coe,
    if_neg (not_lt.mpr h.le), Ideal.div_coe (Real.sqrt_pos.mpr h).ne', ← EReal.coe_mul]

/-- The tokens' gradient. -/
theorem v121_holds (h0 : Holds x0 p) (h1 : Holds x1 d) (h2 : Holds x2 fun _ c => γ c) (h3 : Holds x3 fun _ c => β c) (h4 : Holds4 x4 fun _ => W)
    (h5 : Holds3 x5 fun _ => B) : Holds (val_main_v121 (F := Ideal) x0 x1 x2 x3 x4 x5 : S2048x4096.Idx → EReal) fun r c => ctR p d γ β W B r c * gradR (p r c) := by
  intro r c
  have e := v110_holds h0 h1 h2 h3 h4 h5 r c
  have e1 := v1_holds h0 r c
  have e4 := v4_holds h0 r c
  have e14 := v14_holds h0 r c
  pointwise [val_main_v121, val_main_v120, val_main_v119, val_main_v118, val_main_v117, val_main_v116, val_main_v115, val_main_v114, val_main_v113,
    val_main_v112, val_main_v111, val_main_v12, val_main_v11, val_main_v10, val_main_cst_24]
  rw [e, e1, e4, e14, root_two, v9_real, half_f32, Ideal.div_coe (by positivity)]
  simp only [← EReal.coe_mul, ← EReal.coe_neg, Ideal.exp_coe, ← EReal.coe_add, gelu_grad]

end Cert.ReferenceIdeal.Gate

end
-- ==== Proof.Finite.lean ====
module

public import proofs.«01_k».proof.Proof.Blocks
public import proofs.«01_k».proof.Defs

/-! Arguments whose every element is below infinity in absolute value hold real arrays. -/

@[expose] public section

set_option maxRecDepth 16384

noncomputable section

/-- The side conditions of the stated precondition. -/
theorem Cert.Pre_finite.Gate.facts : Cert.Pre_finite.Facts :=
  ⟨by decide, by decide, by decide, by decide, by decide⟩

namespace Cert.KernelIdeal.Gate

open Idealize.ShloMosaic Idealize.ShloMosaic.TcCoe Idealize.SL.Sem Cert.KernelIdeal Cert.KernelIdeal.Gen Cert.Gate

/-- The pattern of infinity denotes it. -/
theorem inf_f32 : Ideal.ofBits FTy.f32 0x7F800000#32 = ⊤ := by
  simp [Ideal.ofBits, Ideal.ieee]

/-- A value whose absolute value compares below infinity is a real number. -/
theorem real_of_lt {x : EReal} (h : Ideal.cmp .olt (max x (-x)) ⊤ = 1#1) : x = (x.toReal : EReal) := by
  induction x with
  | bot => simp [Ideal.cmp] at h
  | top => simp [Ideal.cmp] at h
  | coe r => rfl

/-- An array passing the test of finiteness holds real numbers. -/
theorem real_of_test {s : Shape} (X : s.Idx → EReal) (hb : (⟨0, ![]⟩ : Shape).BroadcastsInDim s (![] : Fin 0 → Fin s.rank))
    (h : cmpf (F := Ideal) (φ := .f32) .olt (Host.absf X) (broadcastInDim s ![] hb (constant ⟨0, ![]⟩ .f32 0x7F800000#32)) = fun _ => 1#1) (i : s.Idx) :
    X i = ((X i).toReal : EReal) := by
  have e := congrFun h i
  refine real_of_lt ?_
  rw [← inf_f32]
  exact e

/-- The real numbers of a matrix. -/
def real2 {a b : ℕ} (X : (⟨2, ![a, b]⟩ : Shape).Idx → EReal) (r c : ℕ) : ℝ :=
  if h : r < a ∧ c < b then (X (ix2 ⟨r, h.1⟩ ⟨c, h.2⟩)).toReal else 0

/-- The real numbers of a stack of matrices. -/
def real3 {a b c : ℕ} (X : (⟨3, ![a, b, c]⟩ : Shape).Idx → EReal) (g i k : ℕ) : ℝ :=
  if h : g < a ∧ i < b ∧ k < c then (X (ix3 ⟨g, h.1⟩ ⟨i, h.2.1⟩ ⟨k, h.2.2⟩)).toReal else 0

/-- The real numbers of a stack of stacks of matrices. -/
def real4 {a b c d : ℕ} (X : (⟨4, ![a, b, c, d]⟩ : Shape).Idx → EReal) (e g i k : ℕ) : ℝ :=
  if h : e < a ∧ g < b ∧ i < c ∧ k < d then (X (ix4 ⟨e, h.1⟩ ⟨g, h.2.1⟩ ⟨i, h.2.2.1⟩ ⟨k, h.2.2.2⟩)).toReal else 0

/-- A matrix of real numbers holds them. -/
theorem holds2 {a b : ℕ} {X : (⟨2, ![a, b]⟩ : Shape).Idx → EReal} (h : ∀ i, X i = ((X i).toReal : EReal)) : Holds X (real2 X) := by
  intro r c
  rw [real2, dif_pos ⟨r.isLt, c.isLt⟩]
  exact h _

/-- A one-row matrix of real numbers holds its row. -/
theorem holds_row {b : ℕ} {X : (⟨2, ![1, b]⟩ : Shape).Idx → EReal} (h : ∀ i, X i = ((X i).toReal : EReal)) :
    Holds X fun _ => real2 X 0 := by
  intro r c
  obtain rfl := Subsingleton.elim r 0
  exact holds2 h 0 c

/-- A stack of one matrix of real numbers holds it. -/
theorem holds3 {b c : ℕ} {X : (⟨3, ![1, b, c]⟩ : Shape).Idx → EReal} (h : ∀ i, X i = ((X i).toReal : EReal)) :
    Holds3 X fun _ => real3 X 0 := by
  intro g i k
  obtain rfl := Subsingleton.elim g 0
  show X _ = ((real3 X 0 i k : ℝ) : EReal)
  rw [real3, dif_pos ⟨Nat.one_pos, i.isLt, k.isLt⟩]
  exact h _

/-- A stack of one stack of real matrices holds it. -/
theorem holds4 {b c d : ℕ} {X : (⟨4, ![1, b, c, d]⟩ : Shape).Idx → EReal} (h : ∀ i, X i = ((X i).toReal : EReal)) :
    Holds4 X fun _ => real4 X 0 := by
  intro e g i k
  obtain rfl := Subsingleton.elim e 0
  show X _ = ((real4 X 0 g i k : ℝ) : EReal)
  rw [real4, dif_pos ⟨Nat.one_pos, g.isLt, i.isLt, k.isLt⟩]
  exact h _

/-- Where the precondition holds, the arguments of each device hold real arrays. -/
theorem args_of_finite (m : (ℓ : Loc nD τ sig) → Buf (Elt Ideal) ℓ)
    (h : Cert.Pre_KernelIdeal_finite (hPre_finite := Cert.Pre_finite.Gate.facts) m) (c : Dev nD) :
    ∃ p d γ β W B, ArgsAt m c p d γ β W B := by
  obtain ⟨h0, h1, h2, h3, h4, h5⟩ := h c
  exact ⟨_, _, _, _, _, _, holds2 (real_of_test _ _ h0), holds2 (real_of_test _ _ h1), holds_row (real_of_test _ _ h2),
    holds_row (real_of_test _ _ h3), holds4 (real_of_test _ _ h4), holds3 (real_of_test _ _ h5)⟩

end Cert.KernelIdeal.Gate

end
-- ==== Proof.Match.lean ====
module

public import proofs.«01_k».proof.Proof.Final
public import proofs.«01_k».proof.Proof.Ref2
public import proofs.«01_k».proof.Proof.Finite

/-! The kernel's results are the reference's, and the claims about both. -/

@[expose] public section

set_option maxRecDepth 16384

noncomputable section

namespace Cert.Gate

open Idealize.ShloMosaic Idealize.ShloMosaic.TcCoe Idealize.SL.Sem
open Cert.KernelIdeal.Gate (Holds Holds3 Args ArgsAt chunk dpR)

/-- Two matrices holding the same real one are equal. -/
theorem eq_of_holds {a b : ℕ} {X Y : (⟨2, ![a, b]⟩ : Shape).Idx → EReal} {f g : ℕ → ℕ → ℝ} (hX : Holds X f) (hY : Holds Y g)
    (h : ∀ r c, f r c = g r c) : X = Y := by
  funext i
  obtain ⟨r, c, rfl⟩ : ∃ (r : Fin a) (c : Fin b), i = ix2 r c := ⟨i 0, i 1, eq_ix2 i⟩
  rw [hX r c, hY r c, h]

/-- Two stacks holding the same real one are equal. -/
theorem eq_of_holds3 {a b c : ℕ} {X Y : (⟨3, ![a, b, c]⟩ : Shape).Idx → EReal} {f : ℕ → ℕ → ℕ → ℝ} (hX : Holds3 X f) (hY : Holds3 Y f) :
    X = Y := by
  funext i
  obtain ⟨r, s, t, rfl⟩ : ∃ (r : Fin a) (s : Fin b) (t : Fin c), i = ix3 r s t := ⟨i 0, i 1, i 2, eq_ix3 i⟩
  rw [hX r s t, hY r s t]

/-- The tokens' gradient of a chunk is that of the whole rows. -/
theorem dp_rows (p d : ℕ → ℕ → ℝ) (γ β : ℕ → ℝ) (W : ℕ → ℕ → ℕ → ℝ) (B : ℕ → ℕ → ℝ) (r c : ℕ) :
    dpR (chunk p (r / 128)) (chunk d (r / 128)) γ β W B (r % 128) c = Cert.ReferenceIdeal.Gate.ctR p d γ β W B r c * gradR (p r c) := by
  have hp : ∀ k, chunk p (r / 128) (r % 128) k = p r k := fun k => by rw [chunk, Nat.div_add_mod]
  have hd : ∀ k, chunk d (r / 128) (r % 128) k = d r k := fun k => by rw [chunk, Nat.div_add_mod]
  have hr : rsR (chunk p (r / 128)) (r % 128) = rsR p r := by
    unfold rsR varR muR vR
    simp only [hp]
  unfold dpR Cert.ReferenceIdeal.Gate.ctR
  split_ifs with h
  · rw [duR, hp, hd]
  · rw [drR, hp, hr, Cert.ReferenceIdeal.Gate.row_xh, show 2048 + (c - 2048) = c by omega]

open Cert.ReferenceIdeal.Read in
/-- The five results of one device agree. -/
theorem results (m : (ℓ : Loc Cert.KernelIdeal.nD Cert.KernelIdeal.τ Cert.KernelIdeal.sig) → Buf (Elt Ideal) ℓ)
    (c : Dev Cert.KernelIdeal.nD) {p d : ℕ → ℕ → ℝ} {γ β : ℕ → ℝ} {W : ℕ → ℕ → ℕ → ℝ} {B : ℕ → ℕ → ℝ} (h : ArgsAt m c p d γ β W B)
    {x0 : FVec Ideal ⟨2, ![2048, 4096]⟩ .f32} {x1 : FVec Ideal ⟨2, ![2048, 2048]⟩ .f32} {x2 x3 : FVec Ideal ⟨2, ![1, 2048]⟩ .f32}
    {x4 : FVec Ideal ⟨4, ![1, 8, 128, 128]⟩ .f32} {x5 : FVec Ideal ⟨3, ![1, 8, 128]⟩ .f32} (hx : Args x0 x1 x2 x3 x4 x5 p d γ β W B) :
    (val_main_v121 (F := Ideal) x0 x1 x2 x3 x4 x5 : (⟨2, ![2048, 4096]⟩ : Shape).Idx → EReal) = (Cert.KernelIdeal.Gen.dats m 0 c).arrAt 6 Cert.KernelIdeal.cfg0.N
    ∧ val_main_v109 (F := Ideal) x0 x1 x4 = (Cert.KernelIdeal.Gen.dats m 0 c).arrAt 7 Cert.KernelIdeal.cfg0.N
    ∧ val_main_v108 (F := Ideal) x0 x1 x4 = (Cert.KernelIdeal.Gen.dats m 0 c).arrAt 8 Cert.KernelIdeal.cfg0.N
    ∧ val_main_v122 (F := Ideal) x0 x1 x2 x3 = (Cert.KernelIdeal.Gen.dats m 0 c).arrAt 9 Cert.KernelIdeal.cfg0.N
    ∧ val_main_v124 (F := Ideal) x0 x1 = (Cert.KernelIdeal.Gen.dats m 0 c).arrAt 10 Cert.KernelIdeal.cfg0.N := by
  have k := Cert.KernelIdeal.Gate.after m c h _ Cert.KernelIdeal.Gate.last.isLt
  refine ⟨eq_of_holds (Cert.ReferenceIdeal.Gate.v121_holds hx.h0 hx.h1 hx.h2 hx.h3 hx.h4 hx.h5) (Cert.KernelIdeal.Gate.final6 m c h)
    fun r c => (dp_rows p d γ β W B r c).symm, ?_, ?_, ?_, ?_⟩
  · rw [Cert.KernelIdeal.Gate.final7]
    exact eq_of_holds (Cert.ReferenceIdeal.Gate.v109_holds hx.h0 hx.h1 hx.h4) k.gg fun _ _ => rfl
  · rw [Cert.KernelIdeal.Gate.final8]
    exact eq_of_holds (Cert.ReferenceIdeal.Gate.v108_holds hx.h0 hx.h1 hx.h4) k.gb fun _ _ => rfl
  · rw [Cert.KernelIdeal.Gate.final9]
    exact eq_of_holds3 (Cert.ReferenceIdeal.Gate.v122_holds hx.h0 hx.h1 hx.h2 hx.h3) k.gw
  · rw [Cert.KernelIdeal.Gate.final10]
    exact eq_of_holds3 (Cert.ReferenceIdeal.Gate.v124_holds hx.h0 hx.h1) k.gs

/-- Where every argument is finite, the kernel and the reference end with the same five results. -/
theorem same : Cert.algebraic_KernelIdeal_ReferenceIdeal_pre_finite (hKernelIdeal := Cert.KernelIdeal.Gen.facts)
    (hReferenceIdeal := Cert.ReferenceIdeal.Gen.facts) (hPre_finite := Cert.Pre_finite.Gate.facts) := by
  intro m ρ m' ρ' hpre hag
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m ρ, ?_⟩
  refine (θ_run _ _ _).mono (fun r h c => ?_) (Cert.ReferenceIdeal.Value.run m' ρ')
  obtain ⟨e0, e1, e2, e3, e4, rest⟩ := h c
  obtain ⟨p, d, γ, β, W, B, hA⟩ := Cert.KernelIdeal.Gate.args_of_finite m hpre c
  have hx := hA
  obtain ⟨a0, a1, a2, a3, a4, a5⟩ := hag c
  unfold ArgsAt at hx
  rw [← a0, ← a1, ← a2, ← a3, ← a4, ← a5] at hx
  obtain ⟨r0, r1, r2, r3, r4⟩ := results m c hA hx
  exact ⟨(e0.trans (Cert.ReferenceIdeal.Read.val_main_v121_eq _)).trans r0, (e1.trans (Cert.ReferenceIdeal.Read.val_main_v109_eq _)).trans r1,
    (e2.trans (Cert.ReferenceIdeal.Read.val_main_v108_eq _)).trans r2, (e3.trans (Cert.ReferenceIdeal.Read.val_main_v122_eq _)).trans r3,
    (e4.trans (Cert.ReferenceIdeal.Read.val_main_v124_eq _)).trans r4, rest⟩

end Cert.Gate

end
-- ==== Proof.DownDx.lean ====
module

public import proofs.«01_k».proof.Defs
public import proofs.«01_k».proof.Proof.RealGate
public import proofs.«01_k».proof.Proof.Gen.DownDx.Frame
public import proofs.«01_k».proof.Proof.Gen.DownDxIdeal.Value
public import proofs.«01_k».proof.Proof.Gen.DownDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through the MLP's second product and its squared relu: sixteen tiles, each one product of whole rows. -/

@[expose] public section

set_option maxRecDepth 16384

noncomputable section

namespace Cert.DownDxIdeal.Mlp

open Idealize.ShloMosaic Idealize.ShloMosaic.TcCoe Idealize.SL.Sem Cert.DownDxIdeal Cert.DownDxIdeal.Gen Cert.DownDxIdeal.Value Cert.Gate

/-- A tile of the result: twice the activation times the product of the two row blocks. -/
theorem pay (u v : Vec Ideal S1024x2048 .bf16) (w : Vec Ideal S1024x1024 .bf16) (i j : Fin 1024) :
    k0_pay1 u v w (ix2 i j) = ((2 : ℝ) : EReal) * w (ix2 i j) * ∑ k : Fin 2048, u (ix2 i k) * v (ix2 j k) := by
  unfold k0_pay1
  pointwise
  rw [two_f32]

/-- The body's result is its one tile. -/
theorem out (u v : Vec Ideal S1024x2048 .bf16) (w : Vec Ideal S1024x1024 .bf16) : out0_3 u v w = k0_pay1 u v w := by
  have hz : (![0, 0] : Fin 2 → Nat) = fun _ => 0 := funext fun a => by fin_cases a <;> rfl
  unfold out0_3
  rw [View.canon_unit_zero hz]
  simp only [View.ld_unit_zero (S := S1024x2048) hz, View.ld_unit_zero (S := S1024x1024) hz]

variable (m : (ℓ : Loc nD τ sig) → Buf (Elt Ideal) ℓ)

/-- The first product, -/
abbrev pre (c : Dev nD) : S2048x8192.Idx → EReal := m ((c : Thread nD τ).loc main_arg0)
/-- the weights -/
abbrev w2 (c : Dev nD) : S8192x2048.Idx → EReal := m ((c : Thread nD τ).loc main_arg1)
/-- and the cotangent, as launched. -/
abbrev dh (c : Dev nD) : S2048x2048.Idx → EReal := m ((c : Thread nD τ).loc main_arg2)

/-- The cotangent as the region finds it. -/
theorem V_dh (c : Dev nD) (i : S2048x2048.Idx) : V m c main_v2 i = dh m c i := by
  unfold V
  after_reads_at

/-- The weights as the region finds them. -/
theorem V_w2 (c : Dev nD) (i : S8192x2048.Idx) : V m c main_v3 i = w2 m c i := by
  unfold V
  after_reads_at

/-- The activation as the region finds it: the first product's relu. -/
theorem V_act (c : Dev nD) (i : S2048x8192.Idx) :
    (V m c main_v1 i : EReal) = max (pre m c i) 0 := by
  unfold V
  after_reads_at

/-- Where each window's block lies at a point. -/
theorem index (t : Fin cfg0.N) : (win0_0.index t 0 = t.val / 8 ∧ win0_0.index t 1 = 0) ∧ (win0_1.index t 0 = t.val % 8 ∧ win0_1.index t 1 = 0)
    ∧ (win0_2.index t 0 = t.val / 8 ∧ win0_2.index t 1 = t.val % 8) ∧ (win0_3.index t 0 = t.val / 8 ∧ win0_3.index t 1 = t.val % 8) :=
  (by decide +kernel : ∀ t : Fin grid0.N, (win0_0.index t 0 = t.val / 8 ∧ win0_0.index t 1 = 0) ∧ (win0_1.index t 0 = t.val % 8 ∧ win0_1.index t 1 = 0)
    ∧ (win0_2.index t 0 = t.val / 8 ∧ win0_2.index t 1 = t.val % 8) ∧ (win0_3.index t 0 = t.val / 8 ∧ win0_3.index t 1 = t.val % 8)) t

/-- The point whose tile holds row `r` and column `s`. -/
def at_ (r : Fin 2048) (s : Fin 8192) : Fin cfg0.N := ⟨8 * (r.val / 1024) + s.val / 1024, by have hN : cfg0.N = 16 := N_0; omega⟩

/-- Its block row. -/
theorem at_row (r : Fin 2048) (s : Fin 8192) : (at_ r s).val / 8 = r.val / 1024 := by
  show (8 * (r.val / 1024) + s.val / 1024) / 8 = _; omega
/-- Its block column. -/
theorem at_col (r : Fin 2048) (s : Fin 8192) : (at_ r s).val % 8 = s.val / 1024 := by
  show (8 * (r.val / 1024) + s.val / 1024) % 8 = _; omega

/-- A row in its tile. -/
def lo {n : ℕ} (r : Fin n) : Fin 1024 := ⟨r.val % 1024, Nat.mod_lt _ (by decide)⟩

/-- The cotangent's block. -/
theorem blk0 (c : Dev nD) (r : Fin 2048) (s : Fin 8192) (k : Fin 2048) :
    (iblk m c 0 (at_ r s) : Vec Ideal S1024x2048 .bf16) (ix2 (lo r) k) = dh m c (ix2 r k) := by
  have hi := (index (at_ r s)).1
  rw [at_row] at hi
  refine Eq.trans ?_ (V_dh m c (ix2 r k))
  unfold iblk
  rw [View.read_apply]
  show V m c main_v2 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r : Fin 2048) (s : Fin 8192) (k : Fin 2048) :
    (iblk m c 1 (at_ r s) : Vec Ideal S1024x2048 .bf16) (ix2 (lo s) k) = w2 m c (ix2 s k) := by
  have hi := (index (at_ r s)).2.1
  rw [at_col] at hi
  refine Eq.trans ?_ (V_w2 m c (ix2 s k))
  unfold iblk
  rw [View.read_apply]
  show V m c main_v3 _ = _
  congr 1
  funext a
  apply Fin.ext
  match a with
  | ⟨0, _⟩ => show win0_1.index (at_ r s) 0 * 1024 + 1 * (s.val % 1024) = s.val; rw [hi.1]; omega
  | ⟨1, _⟩ => show win0_1.index (at_ r s) 1 * 2048 + 1 * k.val = k.val; rw [hi.2]; omega

/-- The activation's block. -/
theorem blk2 (c : Dev nD) (r : Fin 2048) (s : Fin 8192) :
    ((iblk m c 2 (at_ r s) : Vec Ideal S1024x1024 .bf16) (ix2 (lo r) (lo s)) : EReal) = max (pre m c (ix2 r s)) 0 := by
  have hi := (index (at_ r s)).2.2.1
  rw [at_row, at_col] at hi
  refine Eq.trans ?_ (V_act m c (ix2 r s))
  unfold iblk
  rw [View.read_apply]
  show V m c main_v1 _ = _
  congr 1
  funext a
  apply Fin.ext
  match a with
  | ⟨0, _⟩ => show win0_2.index (at_ r s) 0 * 1024 + 1 * (r.val % 1024) = r.val; rw [hi.1]; omega
  | ⟨1, _⟩ => show win0_2.index (at_ r s) 1 * 1024 + 1 * (s.val % 1024) = s.val; rw [hi.2]; omega

/-- The result array, element by element. -/
theorem final (c : Dev nD) (r : Fin 2048) (s : Fin 8192) :
    ((dats m 0 c).arrAt 3 cfg0.N : S2048x8192.Idx → EReal) (ix2 r s)
      = ((2 : ℝ) : EReal) * max (pre m c (ix2 r s)) 0
        * ∑ k : Fin 2048, dh m c (ix2 r k) * w2 m c (ix2 s k) := by
  have key := congrFun (blocks3 m c (at_ r s) (flush0_3 _)) (ix2 (lo r) (lo s))
  rw [View.read_apply, flushed3, out] at key
  have hi := (index (at_ r s)).2.2.2
  rw [at_row, at_col] at hi
  refine Eq.trans ?_ (key.trans ?_)
  · congr 1
    funext a
    apply Fin.ext
    match a with
    | ⟨0, _⟩ => show r.val = win0_3.index (at_ r s) 0 * 1024 + 1 * (r.val % 1024); rw [hi.1]; omega
    | ⟨1, _⟩ => show s.val = win0_3.index (at_ r s) 1 * 1024 + 1 * (s.val % 1024); rw [hi.2]; omega
  · refine (pay (iblk m c 0 (at_ r s)) (iblk m c 1 (at_ r s)) (iblk m c 2 (at_ r s)) (lo r) (lo s)).trans ?_
    rw [blk2]
    congr 1
    refine Finset.sum_congr rfl fun k _ => ?_
    rw [blk0, blk1]

end Cert.DownDxIdeal.Mlp

namespace Cert.DownDxReferenceIdeal.Mlp

open Idealize.ShloMosaic Idealize.ShloMosaic.TcCoe Idealize.SL.Sem Cert.DownDxReferenceIdeal Cert.DownDxReferenceIdeal.Read Cert.Gate

/-- The squared relu's gradient: the two factors' gradients add up to twice the relu times the cotangent, and where the relu is flat both are zero. -/
theorem grad (x y : EReal) : (if 0 < x then max x 0 * y + y * max x 0 else 0) = ((2 : ℝ) : EReal) * max x 0 * y := by
  split_ifs with h
  · rw [mul_comm y, mul_assoc, show ((2 : ℝ) : EReal) = 1 + 1 by rw [← EReal.coe_one, ← EReal.coe_add]; norm_num,
      EReal.right_distrib_of_nonneg zero_le_one zero_le_one, one_mul]
  · rw [max_eq_right (not_lt.mp h), mul_zero, zero_mul]

/-- The reference's result, element by element. -/
theorem value (x0 : FVec Ideal S2048x8192 .f32) (x1 : FVec Ideal S8192x2048 .f32) (x2 : FVec Ideal S2048x2048 .f32) (r : Fin 2048) (s : Fin 8192) :
    (val_main_v12 (F := Ideal) x0 x1 x2 (ix2 r s) : EReal)
      = ((2 : ℝ) : EReal) * max (x0 (ix2 r s)) 0 * ∑ k : Fin 2048, x2 (ix2 r k) * x1 (ix2 s k) := by
  rw [← grad]
  have e6 : (val_main_v6 (F := Ideal) x1 x2 (ix2 r s) : EReal) = ∑ k : Fin 2048, x2 (ix2 r k) * x1 (ix2 s k) := by
    rw [val_main_v6_apply]
    refine Finset.sum_congr rfl fun k _ => ?_
    congr 2 <;> exact eq_ix2 _
  have e0 : (val_main_v0 (F := Ideal) x0 (ix2 r s) : EReal) = max (x0 (ix2 r s)) 0 := by
    unfold val_main_v0 val_main_call0_v0 val_main_call0_cst
    pointwise
  rw [val_main_v12_apply, val_main_v11_apply, val_main_v9_apply, val_main_v7_apply, val_main_v8_apply]
  unfold val_main_v2 val_main_v10 val_main_v1 val_main_cst val_main_cst_1
  pointwise
  rw [e0, e6]

end Cert.DownDxReferenceIdeal.Mlp

namespace Cert.Mlp

open Idealize.ShloMosaic Idealize.ShloMosaic.TcCoe Idealize.SL.Sem Cert.Gate

/-- The gradient's program runs and keeps its arguments. -/
theorem frame_DownDx : Cert.quiescent_DownDx (hDownDx := Cert.DownDx.Gen.facts) := fun m ρ _ =>
  Cert.DownDx.Gen.frame m ρ

/-- Its idealization runs and keeps its arguments. -/
theorem frame_DownDxIdeal : Cert.quiescent_DownDxIdeal (hDownDxIdeal := Cert.DownDxIdeal.Gen.facts) := fun m ρ _ =>
  Cert.DownDxIdeal.Gen.frame m ρ

/-- Its reference runs and keeps its arguments. -/
theorem frame_DownDxReferenceIdeal : Cert.quiescent_DownDxReferenceIdeal (hDownDxReferenceIdeal := Cert.DownDxReferenceIdeal.Gen.facts) := fun m ρ _ =>
  (θ_run Cert.DownDxReferenceIdeal.defs _ _).mono (fun r h => ⟨fun c => (h c).2, sem_eq_zero_of_no_sems (by decide) r.2⟩)
    (Cert.DownDxReferenceIdeal.Value.run (F := Ideal) m ρ)

/-- The kernel's result and the reference's are equal, for any arguments. -/
theorem same_DownDx : Cert.algebraic_DownDxIdeal_DownDxReferenceIdeal (hDownDxIdeal := Cert.DownDxIdeal.Gen.facts)
    (hDownDxReferenceIdeal := Cert.DownDxReferenceIdeal.Gen.facts) := by
  intro m ρ m' ρ' _ hag
  refine ⟨fun c => (Cert.DownDxIdeal.Gen.dats m 0 c).arrAt 3 Cert.DownDxIdeal.cfg0.N, Cert.DownDxIdeal.Value.run_blocks m ρ, ?_⟩
  refine (θ_run _ _ _).mono (fun r h c => ?_) (Cert.DownDxReferenceIdeal.Value.run m' ρ')
  obtain ⟨e, rest⟩ := h c
  refine ⟨(e.trans (Cert.DownDxReferenceIdeal.Read.val_main_v12_eq _ _ _)).trans ?_, rest⟩
  obtain ⟨a0, a1, a2⟩ := hag c
  rw [a0, a1, a2]
  funext i
  obtain ⟨r, s, rfl⟩ : ∃ (r : Fin 2048) (s : Fin 8192), i = ix2 r s := ⟨i 0, i 1, eq_ix2 i⟩
  exact (Cert.DownDxReferenceIdeal.Mlp.value _ _ _ r s).trans (Cert.DownDxIdeal.Mlp.final m c r s).symm

end Cert.Mlp

end
-- ==== Proof.Product.lean ====
module

public import Idealize.ShloMosaic.Lib.Tactic
public import Idealize.ShloMosaic.PureOps.Ideal

/-! Places in a tile, and a long sum taken piece by piece: what the products done tile by tile share. -/

@[expose] public section

noncomputable section

namespace Cert.Mlp

/-- A row or a column, in its tile. -/
def lo {n : ℕ} (r : Fin n) : Fin 1024 := ⟨r.val % 1024, Nat.mod_lt _ (by decide)⟩

/-- The `k`-th place of the `q`-th quarter. -/
def quarter (q : Fin 4) (k : Fin 2048) : Fin 8192 := ⟨2048 * q.val + k.val, by omega⟩

/-- The `k`-th place of the `p`-th half. -/
def half (p : Fin 2) (k : Fin 1024) : Fin 2048 := ⟨1024 * p.val + k.val, by omega⟩

/-- A sum is its quarters' sums, added in order. -/
theorem sum_quarters (f : Fin 8192 → EReal) : ∑ k, f k
    = ∑ k, f (quarter 0 k) + ∑ k, f (quarter 1 k) + ∑ k, f (quarter 2 k) + ∑ k, f (quarter 3 k) := by
  refine (Fin.sum_univ_add (a := 2048 + 2048 + 2048) (b := 2048) f).trans ?_
  rw [Fin.sum_univ_add (a := 2048 + 2048) (b := 2048), Fin.sum_univ_add (a := 2048) (b := 2048)]
  rfl

/-- A sum is its halves' sums, added in order. -/
theorem sum_halves (f : Fin 2048 → EReal) : ∑ k, f k = ∑ k, f (half 0 k) + ∑ k, f (half 1 k) :=
  (Fin.sum_univ_add (a := 1024) (b := 1024) f).trans rfl

end Cert.Mlp

end
-- ==== Proof.UpDx.lean ====
module

public import proofs.«01_k».proof.Defs
public import proofs.«01_k».proof.Proof.RealGate
public import proofs.«01_k».proof.Proof.Product
public import proofs.«01_k».proof.Proof.Gen.UpDx.Frame
public import proofs.«01_k».proof.Proof.Gen.UpDxIdeal.Value
public import proofs.«01_k».proof.Proof.Gen.UpDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through the MLP's first product: four tiles, each a sum over four blocks of columns, each block the two weight slabs it meets. -/

@[expose] public section

set_option maxRecDepth 16384

noncomputable section

namespace Cert.UpDxIdeal.Mlp

open Idealize.ShloMosaic Idealize.ShloMosaic.TcCoe Idealize.SL.Sem Cert.UpDxIdeal Cert.UpDxIdeal.Gen Cert.UpDxIdeal.Value Cert.Gate Cert.Mlp

/-- The two slabs' products, -/
abbrev two (x y : Vec Ideal S1024x1024 .bf16) (v w : Vec Ideal S1x1024x1024 .bf16) (i j : Fin 1024) : EReal :=
  (∑ k : Fin 1024, x (ix2 i k) * v (ix3 0 j k)) + ∑ k : Fin 1024, y (ix2 i k) * w (ix3 0 j k)

/-- at the tile's first point, -/
theorem pay1 (x y : Vec Ideal S1024x1024 .bf16) (v w : Vec Ideal S1x1024x1024 .bf16) (i j : Fin 1024) :
    (k0_pay1 x v y w (ix2 i j) : EReal) = two x y v w i j := by
  unfold k0_pay1
  pointwise

/-- added to what is kept, -/
theorem pay2 (a : Vec Ideal S1024x1024 .f32) (x y : Vec Ideal S1024x1024 .bf16) (v w : Vec Ideal S1x1024x1024 .bf16) (i j : Fin 1024) :
    (k0_pay2 a x v y w (ix2 i j) : EReal) = a (ix2 i j) + two x y v w i j := by
  unfold k0_pay2
  pointwise

/-- and at its last point. -/
theorem pay3 (a : Vec Ideal S1024x1024 .f32) (x y : Vec Ideal S1024x1024 .bf16) (v w : Vec Ideal S1x1024x1024 .bf16) (i j : Fin 1024) :
    (k0_pay3 a x v y w (ix2 i j) : EReal) = a (ix2 i j) + two x y v w i j := by
  unfold k0_pay3
  pointwise

/-- Offsets of zero. -/
theorem hz : (![0, 0] : Fin 2 → Nat) = fun _ => 0 := funext fun a => by fin_cases a <;> rfl

variable (m : (ℓ : Loc nD τ sig) → Buf (Elt Ideal) ℓ)

/-- The two halves of the cotangent's block at a point, -/
abbrev lefts (c : Dev nD) (t : Fin cfg0.N) (p : Fin 2) : Vec Ideal S1024x1024 .bf16 := fun i =>
  (iblk m c 0 t : Vec Ideal S1024x2048 .bf16) (ix2 (i 0) (half p (i 1)))
/-- and its two slabs. -/
abbrev rights (c : Dev nD) (t : Fin cfg0.N) (p : Fin 2) : Vec Ideal S1x1024x1024 .bf16 := fun i =>
  (iblk m c 1 t : Vec Ideal S2x1024x1024 .bf16) (ix3 p (i 1) (i 2))

/-- A load of half the columns. -/
theorem ld_half (x : Vec Ideal S1024x2048 .bf16) (p : Fin 2) (off : Fin 2 → ℕ) (h : off = ![0, 1024 * p.val]) (inb) :
    (View.ld x (Rect.unit (s := S1024x2048) off S1024x1024.size inb) : Vec Ideal S1024x1024 .bf16) = fun i => x (ix2 (i 0) (half p (i 1))) := by
  subst h
  funext i
  refine congrArg x ?_
  funext a
  apply Fin.ext
  match a with
  | ⟨0, _⟩ => show 0 + 1 * (i 0).val = (i 0).val; omega
  | ⟨1, _⟩ => show 1024 * p.val + 1 * (i 1).val = 1024 * p.val + (i 1).val; omega

/-- A load of one slab. -/
theorem ld_slab (x : Vec Ideal S2x1024x1024 .bf16) (p : Fin 2) (off : Fin 3 → ℕ) (h : off = ![p.val, 0, 0]) (inb) :
    (View.ld x (Rect.unit (s := S2x1024x1024) off S1x1024x1024.size inb) : Vec Ideal S1x1024x1024 .bf16) = fun i => x (ix3 p (i 1) (i 2)) := by
  subst h
  funext i
  refine congrArg x ?_
  funext a
  apply Fin.ext
  match a with
  | ⟨0, _⟩ => show p.val + 1 * (i 0).val = p.val; have h0 : (i 0).val < 1 := (i 0).isLt; omega
  | ⟨1, _⟩ => show 0 + 1 * (i 1).val = (i 1).val; omega
  | ⟨2, _⟩ => show 0 + 1 * (i 2).val = (i 2).val; omega

/-- At a tile's first point the first block's products are kept. -/
theorem first (c : Dev nD) (t : Fin cfg0.N) (h : t.val % 4 = 0) :
    (outsAt0 m c t.val t.isLt).2 = k0_pay1 (lefts m c t 0) (rights m c t 0) (lefts m c t 1) (rights m c t 1) := by
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  simp only [View.readAt_eq_ld, Memref.IsWhole.read_unread]
  exact congr (congr (congr (congrArg k0_pay1 (ld_half _ 0 _ rfl _)) (ld_slab _ 0 _ rfl _)) (ld_half _ 1 _ rfl _)) (ld_slab _ 1 _ rfl _)

/-- At the two points after it, the block's products are added. -/
theorem next (c : Dev nD) (t : Fin cfg0.N) (h : 1 ≤ t.val % 4 ∧ t.val % 4 ≤ 2) :
    (outsAt0 m c t.val t.isLt).2 = k0_pay2 (outsAt0 m c (t.val - 1) (Nat.lt_of_le_of_lt (Nat.sub_le _ _) t.isLt)).2
      (lefts m c t 0) (rights m c t 0) (lefts m c t 1) (rights m c t 1) := by
  rw [outsAt0_B m c t (by omega) h (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  simp only [View.readAt_eq_ld, Memref.IsWhole.read_unread, View.ld_unit_zero (S := S1024x1024) hz]
  exact congr (congr (congr (congr (congrArg k0_pay2 (Memref.IsWhole.read_unread _ _)) (ld_half _ 0 _ rfl _)) (ld_slab _ 0 _ rfl _)) (ld_half _ 1 _ rfl _)) (ld_slab _ 1 _ rfl _)

/-- At its last point the last products. -/
theorem last (c : Dev nD) (t : Fin cfg0.N) (h : t.val % 4 = 3) :
    (outsAt0 m c t.val t.isLt).1 = k0_pay3 (outsAt0 m c (t.val - 1) (Nat.lt_of_le_of_lt (Nat.sub_le _ _) t.isLt)).2
      (lefts m c t 0) (rights m c t 0) (lefts m c t 1) (rights m c t 1) := by
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz]
  simp only [View.readAt_eq_ld, Memref.IsWhole.read_unread, View.ld_unit_zero (S := S1024x1024) hz]
  exact congr (congr (congr (congr (congrArg k0_pay3 (Memref.IsWhole.read_unread _ _)) (ld_half _ 0 _ rfl _)) (ld_slab _ 0 _ rfl _)) (ld_half _ 1 _ rfl _)) (ld_slab _ 1 _ rfl _)

/-- The cotangent -/
abbrev dpre (c : Dev nD) : S2048x8192.Idx → EReal := m ((c : Thread nD τ).loc main_arg2)
/-- and the weights, as launched. -/
abbrev w1 (c : Dev nD) : S2048x8192.Idx → EReal := m ((c : Thread nD τ).loc main_arg1)

/-- The cotangent as the region finds it. -/
theorem V_dpre (c : Dev nD) (i : S2048x8192.Idx) : V m c main_v3 i = dpre m c i := by
  unfold V
  after_reads_at

/-- The weights as the region finds them: slab `p` holds columns `1024 p` to `1024 p + 1023`. -/
theorem V_w1 (c : Dev nD) (p : Fin 8) (s : Fin 2048) (k : Fin 1024) (d : Fin 8192) (hd : d.val = 1024 * p.val + k.val) :
    V m c main_v2 (ix3 p s k) = w1 m c (ix2 s d) := by
  unfold V
  after_reads_at
  refine congrArg (w1 m c) (funext fun a => Fin.ext ?_)
  match a with
  | ⟨0, _⟩ => rfl
  | ⟨1, _⟩ => show p.val * 1024 + k.val = d.val; omega

/-- Where each input window's block lies at a point. -/
theorem index (t : Fin cfg0.N) : (win0_0.index t 0 = t.val / 8 ∧ win0_0.index t 1 = t.val % 4)
    ∧ (win0_1.index t 0 = t.val % 4 ∧ win0_1.index t 1 = t.val / 4 % 2 ∧ win0_1.index t 2 = 0) :=
  (by decide +kernel : ∀ t : Fin grid0.N, (win0_0.index t 0 = t.val / 8 ∧ win0_0.index t 1 = t.val % 4)
    ∧ (win0_1.index t 0 = t.val % 4 ∧ win0_1.index t 1 = t.val / 4 % 2 ∧ win0_1.index t 2 = 0)) t

/-- The `q`-th point of the tile that holds row `r` and column `s`. -/
def at_ (r s : Fin 2048) (q : Fin 4) : Fin cfg0.N :=
  ⟨4 * (2 * (r.val / 1024) + s.val / 1024) + q.val, by have hN : cfg0.N = 16 := N_0; omega⟩

/-- Its block row, block column and place in the sum. -/
theorem at_parts (r s : Fin 2048) (q : Fin 4) :
    (at_ r s q).val / 8 = r.val / 1024 ∧ (at_ r s q).val / 4 % 2 = s.val / 1024 ∧ (at_ r s q).val % 4 = q.val := by
  show (4 * (2 * (r.val / 1024) + s.val / 1024) + q.val) / 8 = _ ∧ (4 * (2 * (r.val / 1024) + s.val / 1024) + q.val) / 4 % 2 = _
    ∧ (4 * (2 * (r.val / 1024) + s.val / 1024) + q.val) % 4 = _
  omega

/-- The cotangent's block. -/
theorem blk0 (c : Dev nD) (r s : Fin 2048) (q : Fin 4) (k : Fin 2048) :
    (iblk m c 0 (at_ r s q) : Vec Ideal S1024x2048 .bf16) (ix2 (lo r) k) = dpre m c (ix2 r (quarter q k)) := by
  have hi := (index (at_ r s q)).1
  rw [(at_parts r s q).1, (at_parts r s q).2.2] at hi
  refine Eq.trans ?_ (V_dpre m c (ix2 r (quarter q k)))
  unfold iblk
  rw [View.read_apply]
  show V m c main_v3 _ = _
  congr 1
  funext a
  apply Fin.ext
  match a with
  | ⟨0, _⟩ => show win0_0.index (at_ r s q) 0 * 1024 + 1 * (r.val % 1024) = r.val; rw [hi.1]; omega
  | ⟨1, _⟩ => show win0_0.index (at_ r s q) 1 * 2048 + 1 * k.val = 2048 * q.val + k.val; rw [hi.2]; omega

/-- The weights' block. -/
theorem blk1 (c : Dev nD) (r s : Fin 2048) (q : Fin 4) (p : Fin 2) (k : Fin 1024) :
    (iblk m c 1 (at_ r s q) : Vec Ideal S2x1024x1024 .bf16) (ix3 p (lo s) k) = w1 m c (ix2 s (quarter q (half p k))) := by
  have hi := (index (at_ r s q)).2
  rw [(at_parts r s q).2.1, (at_parts r s q).2.2] at hi
  refine Eq.trans ?_ (V_w1 m c ⟨2 * q.val + p.val, by omega⟩ s k (quarter q (half p k)) ?_)
  · unfold iblk
    rw [View.read_apply]
    show V m c main_v2 _ = _
    congr 1
    funext a
    apply Fin.ext
    match a with
    | ⟨0, _⟩ => show win0_1.index (at_ r s q) 0 * 2 + 1 * p.val = 2 * q.val + p.val; rw [hi.1]; omega
    | ⟨1, _⟩ => show win0_1.index (at_ r s q) 1 * 1024 + 1 * (s.val % 1024) = s.val; rw [hi.2.1]; omega
    | ⟨2, _⟩ => show win0_1.index (at_ r s q) 2 * 1024 + 1 * k.val = k.val; rw [hi.2.2]; omega
  · show 2048 * q.val + (1024 * p.val + k.val) = 1024 * (2 * q.val + p.val) + k.val
    omega

/-- A block's product: its two slabs' together. -/
theorem product (c : Dev nD) (r s : Fin 2048) (q : Fin 4) :
    two (lefts m c (at_ r s q) 0) (lefts m c (at_ r s q) 1) (rights m c (at_ r s q) 0) (rights m c (at_ r s q) 1) (lo r) (lo s)
      = ∑ k : Fin 2048, dpre m c (ix2 r (quarter q k)) * w1 m c (ix2 s (quarter q k)) := by
  rw [sum_halves]
  exact congrArg₂ (· + ·)
    (Finset.sum_congr rfl fun k _ => congrArg₂ (· * ·) (blk0 m c r s q (half 0 k)) (blk1 m c r s q 0 k))
    (Finset.sum_congr rfl fun k _ => congrArg₂ (· * ·) (blk0 m c r s q (half 1 k)) (blk1 m c r s q 1 k))

/-- What is kept after the first point, -/
theorem kept0 (c : Dev nD) (r s : Fin 2048) : ((outsAt0 m c (at_ r s 0).val (at_ r s 0).isLt).2 (ix2 (lo r) (lo s)) : EReal)
    = ∑ k : Fin 2048, dpre m c (ix2 r (quarter 0 k)) * w1 m c (ix2 s (quarter 0 k)) := by
  rw [first m c (at_ r s 0) (at_parts r s 0).2.2]
  exact (pay1 _ _ _ _ _ _).trans (product m c r s 0)

/-- and after each point that adds to it. -/
theorem kept_succ (c : Dev nD) (r s : Fin 2048) (q p : Fin 4) (h : q.val = p.val + 1) (hq : q.val ≤ 2) :
    ((outsAt0 m c (at_ r s q).val (at_ r s q).isLt).2 (ix2 (lo r) (lo s)) : EReal)
    = (outsAt0 m c (at_ r s p).val (at_ r s p).isLt).2 (ix2 (lo r) (lo s))
      + ∑ k : Fin 2048, dpre m c (ix2 r (quarter q k)) * w1 m c (ix2 s (quarter q k)) := by
  have e : (at_ r s q).val - 1 = (at_ r s p).val := by
    show 4 * (2 * (r.val / 1024) + s.val / 1024) + q.val - 1 = 4 * (2 * (r.val / 1024) + s.val / 1024) + p.val
    omega
  rw [next m c (at_ r s q) (by rw [(at_parts r s q).2.2]; omega)]
  refine (pay2 _ _ _ _ _ _ _).trans ?_
  rw [product]
  simp only [e]

/-- The result array, element by element. -/
theorem final (c : Dev nD) (r s : Fin 2048) :
    (G2 m c : S2048x2048.Idx → EReal) (ix2 r s) = ∑ k : Fin 8192, dpre m c (ix2 r k) * w1 m c (ix2 s k) := by
  have e : (at_ r s 3).val - 1 = (at_ r s 2).val := by
    show 4 * (2 * (r.val / 1024) + s.val / 1024) + 3 - 1 = 4 * (2 * (r.val / 1024) + s.val / 1024) + 2
    omega
  have hp : pt2Of (ix2 r s) = (at_ r s 3).val := by
    show 4 * (2 * (r.val / 1024 - 0) + 1 * (s.val / 1024 - 0)) + 3 = 4 * (2 * (r.val / 1024) + s.val / 1024) + 3
    omega
  have hl : loc2Of (ix2 r s) = ix2 (lo r) (lo s) := eq_ix2 _
  unfold G2
  rw [dif_pos (by rw [hp]; exact (at_ r s 3).isLt), hl, fold0_congr m c _ _ _ (by rw [Nat.zero_add]; exact (at_ r s 3).isLt) hp,
    ← outsAt0_sweep m c (at_ r s 3).val (at_ r s 3).isLt, last m c (at_ r s 3) (at_parts r s 3).2.2]
  refine (pay3 _ _ _ _ _ _ _).trans ?_
  rw [product]
  simp only [e]
  rw [kept_succ m c r s 2 1 rfl (by decide), kept_succ m c r s 1 0 rfl (by decide), kept0, sum_quarters]

end Cert.UpDxIdeal.Mlp

namespace Cert.UpDxReferenceIdeal.Mlp

open Idealize.ShloMosaic Idealize.ShloMosaic.TcCoe Idealize.SL.Sem Cert.UpDxReferenceIdeal Cert.UpDxReferenceIdeal.Read Cert.Gate

/-- The reference's result, element by element. -/
theorem value (x1 x2 : FVec Ideal S2048x8192 .f32) (r s : Fin 2048) :
    (val_main_v1 (F := Ideal) x1 x2 (ix2 r s) : EReal) = ∑ k : Fin 8192, x2 (ix2 r k) * x1 (ix2 s k) := by
  rw [val_main_v1_apply]
  refine Finset.sum_congr rfl fun k _ => ?_
  congr 2 <;> exact eq_ix2 _

end Cert.UpDxReferenceIdeal.Mlp

namespace Cert.Mlp

open Idealize.ShloMosaic Idealize.ShloMosaic.TcCoe Idealize.SL.Sem Cert.Gate

/-- The gradient's program runs and keeps its arguments. -/
theorem frame_UpDx : Cert.quiescent_UpDx (hUpDx := Cert.UpDx.Gen.facts) := fun m ρ _ =>
  Cert.UpDx.Gen.frame m ρ

/-- Its idealization runs and keeps its arguments. -/
theorem frame_UpDxIdeal : Cert.quiescent_UpDxIdeal (hUpDxIdeal := Cert.UpDxIdeal.Gen.facts) := fun m ρ _ =>
  Cert.UpDxIdeal.Gen.frame m ρ

/-- Its reference runs and keeps its arguments. -/
theorem frame_UpDxReferenceIdeal : Cert.quiescent_UpDxReferenceIdeal (hUpDxReferenceIdeal := Cert.UpDxReferenceIdeal.Gen.facts) := fun m ρ _ =>
  (θ_run Cert.UpDxReferenceIdeal.defs _ _).mono (fun r h => ⟨fun c => (h c).2, sem_eq_zero_of_no_sems (by decide) r.2⟩)
    (Cert.UpDxReferenceIdeal.Value.run (F := Ideal) m ρ)

/-- The kernel's result and the reference's are equal, for any arguments. -/
theorem same_UpDx : Cert.algebraic_UpDxIdeal_UpDxReferenceIdeal (hUpDxIdeal := Cert.UpDxIdeal.Gen.facts)
    (hUpDxReferenceIdeal := Cert.UpDxReferenceIdeal.Gen.facts) := by
  intro m ρ m' ρ' _ hag
  refine ⟨fun c => Cert.UpDxIdeal.Value.G2 m c, Cert.UpDxIdeal.Value.run m ρ, ?_⟩
  refine (θ_run _ _ _).mono (fun r h c => ?_) (Cert.UpDxReferenceIdeal.Value.run m' ρ')
  obtain ⟨e, rest⟩ := h c
  refine ⟨(e.trans (Cert.UpDxReferenceIdeal.Read.val_main_v1_eq _ _)).trans ?_, rest⟩
  obtain ⟨-, a1, a2⟩ := hag c
  rw [a1, a2]
  funext i
  obtain ⟨r, s, rfl⟩ : ∃ (r s : Fin 2048), i = ix2 r s := ⟨i 0, i 1, eq_ix2 i⟩
  exact (Cert.UpDxReferenceIdeal.Mlp.value _ _ r s).trans (Cert.UpDxIdeal.Mlp.final m c r s).symm

end Cert.Mlp

end
-- ==== Proof.Up.lean ====
module

public import proofs.«01_k».proof.Defs
public import proofs.«01_k».proof.Proof.RealGate
public import proofs.«01_k».proof.Proof.Product
public import proofs.«01_k».proof.Proof.Gen.Up.Frame
public import proofs.«01_k».proof.Proof.Gen.UpIdeal.Value
public import proofs.«01_k».proof.Proof.Gen.UpReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The MLP's first product, its relu and the relu's square: sixteen tiles, the weights split into eight slabs of columns. -/

@[expose] public section

set_option maxRecDepth 16384

noncomputable section

namespace Cert.UpIdeal.Mlp

open Idealize.ShloMosaic Idealize.ShloMosaic.TcCoe Idealize.SL.Sem Cert.UpIdeal Cert.UpIdeal.Gen Cert.UpIdeal.Value Cert.Gate Cert.Mlp

/-- The relu's tile. -/
theorem pay2 (u : Vec Ideal S1024x2048 .bf16) (v : Vec Ideal S1x2048x1024 .bf16) (i j : Fin 1024) :
    (k0_pay2 u v (ix2 i j) : EReal) = max (∑ k : Fin 2048, u (ix2 i k) * v (ix3 0 k j)) 0 := by
  unfold k0_pay2 k0_pay1
  pointwise

/-- The square's tile. -/
theorem pay3 (u : Vec Ideal S1024x2048 .bf16) (v : Vec Ideal S1x2048x1024 .bf16) (i j : Fin 1024) :
    (k0_pay3 u v (ix2 i j) : EReal) = max (∑ k : Fin 2048, u (ix2 i k) * v (ix3 0 k j)) 0 * max (∑ k : Fin 2048, u (ix2 i k) * v (ix3 0 k j)) 0 := by
  unfold k0_pay3 k0_pay1
  pointwise

/-- The body's results are its two tiles. -/
theorem out (u : Vec Ideal S1024x2048 .bf16) (v : Vec Ideal S1x2048x1024 .bf16) : out0_2 u v = k0_pay2 u v ∧ out0_3 u v = k0_pay3 u v := by
  have hz : (![0, 0] : Fin 2 → Nat) = fun _ => 0 := funext fun a => by fin_cases a <;> rfl
  have hz3 : (![0, 0, 0] : Fin 3 → Nat) = fun _ => 0 := funext fun a => by fin_cases a <;> rfl
  unfold out0_2 out0_3
  rw [View.canon_unit_zero hz, View.canon_unit_zero hz]
  simp only [View.ld_unit_zero (S := S1024x2048) hz, View.ld_unit_zero (S := S1x2048x1024) hz3, and_self]

variable (m : (ℓ : Loc nD τ sig) → Buf (Elt Ideal) ℓ)

/-- The normalized rows -/
abbrev u (c : Dev nD) : S2048x2048.Idx → EReal := m ((c : Thread nD τ).loc main_arg0)
/-- and the weights, as launched. -/
abbrev w1 (c : Dev nD) : S2048x8192.Idx → EReal := m ((c : Thread nD τ).loc main_arg1)

/-- The rows as the region finds them. -/
theorem V_u (c : Dev nD) (i : S2048x2048.Idx) : V m c main_v3 i = u m c i := by
  unfold V
  after_reads_at

/-- The weights as the region finds them: slab `p` holds columns `1024 p` to `1024 p + 1023`. -/
theorem V_w1 (c : Dev nD) (p : Fin 8) (k : Fin 2048) (s : Fin 8192) (hs : s.val / 1024 = p.val) :
    V m c main_v2 (ix3 p k (lo s)) = w1 m c (ix2 k s) := by
  unfold V
  after_reads_at
  refine congrArg (w1 m c) (funext fun a => Fin.ext ?_)
  match a with
  | ⟨0, _⟩ => rfl
  | ⟨1, _⟩ => show p.val * 1024 + s.val % 1024 = s.val; omega

/-- Where each window's block lies at a point. -/
theorem index (t : Fin cfg0.N) : (win0_0.index t 0 = t.val / 8 ∧ win0_0.index t 1 = 0)
    ∧ (win0_1.index t 0 = t.val % 8 ∧ win0_1.index t 1 = 0 ∧ win0_1.index t 2 = 0)
    ∧ (win0_2.index t 0 = t.val / 8 ∧ win0_2.index t 1 = t.val % 8) ∧ (win0_3.index t 0 = t.val / 8 ∧ win0_3.index t 1 = t.val % 8) :=
  (by decide +kernel : ∀ t : Fin grid0.N, (win0_0.index t 0 = t.val / 8 ∧ win0_0.index t 1 = 0)
    ∧ (win0_1.index t 0 = t.val % 8 ∧ win0_1.index t 1 = 0 ∧ win0_1.index t 2 = 0)
    ∧ (win0_2.index t 0 = t.val / 8 ∧ win0_2.index t 1 = t.val % 8) ∧ (win0_3.index t 0 = t.val / 8 ∧ win0_3.index t 1 = t.val % 8)) t

/-- The point whose tiles hold row `r` and column `s`. -/
def at_ (r : Fin 2048) (s : Fin 8192) : Fin cfg0.N := ⟨8 * (r.val / 1024) + s.val / 1024, by have hN : cfg0.N = 16 := N_0; omega⟩

/-- Its block row and block column. -/
theorem at_parts (r : Fin 2048) (s : Fin 8192) : (at_ r s).val / 8 = r.val / 1024 ∧ (at_ r s).val % 8 = s.val / 1024 := by
  show (8 * (r.val / 1024) + s.val / 1024) / 8 = _ ∧ (8 * (r.val / 1024) + s.val / 1024) % 8 = _
  omega

/-- The rows' block. -/
theorem blk0 (c : Dev nD) (r : Fin 2048) (s : Fin 8192) (k : Fin 2048) :
    (iblk m c 0 (at_ r s) : Vec Ideal S1024x2048 .bf16) (ix2 (lo r) k) = u m c (ix2 r k) := by
  have hi := (index (at_ r s)).1
  rw [(at_parts r s).1] at hi
  refine Eq.trans ?_ (V_u m c (ix2 r k))
  unfold iblk
  rw [View.read_apply]
  show V m c main_v3 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r : Fin 2048) (s : Fin 8192) (k : Fin 2048) :
    (iblk m c 1 (at_ r s) : Vec Ideal S1x2048x1024 .bf16) (ix3 0 k (lo s)) = w1 m c (ix2 k s) := by
  have hi := (index (at_ r s)).2.1
  rw [(at_parts r s).2] at hi
  refine Eq.trans ?_ (V_w1 m c ⟨s.val / 1024, by omega⟩ k s rfl)
  unfold iblk
  rw [View.read_apply]
  show V m c main_v2 _ = _
  congr 1
  funext a
  apply Fin.ext
  match a with
  | ⟨0, _⟩ => show win0_1.index (at_ r s) 0 * 1 + 1 * 0 = s.val / 1024; rw [hi.1]; omega
  | ⟨1, _⟩ => show win0_1.index (at_ r s) 1 * 2048 + 1 * k.val = k.val; rw [hi.2.1]; omega
  | ⟨2, _⟩ => show win0_1.index (at_ r s) 2 * 1024 + 1 * (s.val % 1024) = s.val % 1024; rw [hi.2.2]; omega

/-- The two factors' blocks at a point. -/
abbrev left (c : Dev nD) (t : Fin cfg0.N) : Vec Ideal S1024x2048 .bf16 := iblk m c 0 t
@[inherit_doc left]
abbrev right (c : Dev nD) (t : Fin cfg0.N) : Vec Ideal S1x2048x1024 .bf16 := iblk m c 1 t

/-- The blocks' product. -/
theorem product (c : Dev nD) (r : Fin 2048) (s : Fin 8192) :
    (∑ k : Fin 2048, left m c (at_ r s) (ix2 (lo r) k) * right m c (at_ r s) (ix3 0 k (lo s)) : EReal)
      = ∑ k : Fin 2048, u m c (ix2 r k) * w1 m c (ix2 k s) :=
  Finset.sum_congr rfl fun k _ => congrArg₂ (· * ·) (blk0 m c r s k) (blk1 m c r s k)

/-- The first result, element by element: the relu of the product. -/
theorem final2 (c : Dev nD) (r : Fin 2048) (s : Fin 8192) :
    ((dats m 0 c).arrAt 2 cfg0.N : S2048x8192.Idx → EReal) (ix2 r s) = max (∑ k : Fin 2048, u m c (ix2 r k) * w1 m c (ix2 k s)) 0 := by
  have key := congrFun (blocks2 m c (at_ r s) (flush0_2 _)) (ix2 (lo r) (lo s))
  rw [View.read_apply, flushed2, (out _ _).1] at key
  have hi := (index (at_ r s)).2.2.1
  rw [(at_parts r s).1, (at_parts r s).2] at hi
  refine Eq.trans ?_ (key.trans ?_)
  · congr 1
    funext a
    apply Fin.ext
    match a with
    | ⟨0, _⟩ => show r.val = win0_2.index (at_ r s) 0 * 1024 + 1 * (r.val % 1024); rw [hi.1]; omega
    | ⟨1, _⟩ => show s.val = win0_2.index (at_ r s) 1 * 1024 + 1 * (s.val % 1024); rw [hi.2]; omega
  · refine (pay2 (left m c (at_ r s)) (right m c (at_ r s)) (lo r) (lo s)).trans ?_
    rw [product]

/-- The second result, element by element: the relu's square. -/
theorem final3 (c : Dev nD) (r : Fin 2048) (s : Fin 8192) :
    ((dats m 0 c).arrAt 3 cfg0.N : S2048x8192.Idx → EReal) (ix2 r s)
      = max (∑ k : Fin 2048, u m c (ix2 r k) * w1 m c (ix2 k s)) 0 * max (∑ k : Fin 2048, u m c (ix2 r k) * w1 m c (ix2 k s)) 0 := by
  have key := congrFun (blocks3 m c (at_ r s) (flush0_3 _)) (ix2 (lo r) (lo s))
  rw [View.read_apply, flushed3, (out _ _).2] at key
  have hi := (index (at_ r s)).2.2.2
  rw [(at_parts r s).1, (at_parts r s).2] at hi
  refine Eq.trans ?_ (key.trans ?_)
  · congr 1
    funext a
    apply Fin.ext
    match a with
    | ⟨0, _⟩ => show r.val = win0_3.index (at_ r s) 0 * 1024 + 1 * (r.val % 1024); rw [hi.1]; omega
    | ⟨1, _⟩ => show s.val = win0_3.index (at_ r s) 1 * 1024 + 1 * (s.val % 1024); rw [hi.2]; omega
  · refine (pay3 (left m c (at_ r s)) (right m c (at_ r s)) (lo r) (lo s)).trans ?_
    rw [product]

end Cert.UpIdeal.Mlp

namespace Cert.UpReferenceIdeal.Mlp

open Idealize.ShloMosaic Idealize.ShloMosaic.TcCoe Idealize.SL.Sem Cert.UpReferenceIdeal Cert.UpReferenceIdeal.Read Cert.Gate

/-- The reference's relu, element by element. -/
theorem relu (x0 : FVec Ideal S2048x2048 .f32) (x1 : FVec Ideal S2048x8192 .f32) (r : Fin 2048) (s : Fin 8192) :
    (val_main_v1 (F := Ideal) x0 x1 (ix2 r s) : EReal) = max (∑ k : Fin 2048, x0 (ix2 r k) * x1 (ix2 k s)) 0 := by
  have e0 : (val_main_v0 (F := Ideal) x0 x1 (ix2 r s) : EReal) = ∑ k : Fin 2048, x0 (ix2 r k) * x1 (ix2 k s) := by
    rw [val_main_v0_apply]
    refine Finset.sum_congr rfl fun k _ => ?_
    congr 2 <;> exact eq_ix2 _
  rw [val_main_v1_apply, e0]
  unfold val_main_call0_v0 val_main_call0_cst
  pointwise

/-- Its two results, element by element. -/
theorem value (x0 : FVec Ideal S2048x2048 .f32) (x1 : FVec Ideal S2048x8192 .f32) (r : Fin 2048) (s : Fin 8192) :
    (val_main_v2 (F := Ideal) x0 x1 (ix2 r s) : EReal) = max (∑ k : Fin 2048, x0 (ix2 r k) * x1 (ix2 k s)) 0
    ∧ (val_main_v4 (F := Ideal) x0 x1 (ix2 r s) : EReal) = max (∑ k : Fin 2048, x0 (ix2 r k) * x1 (ix2 k s)) 0 * max (∑ k : Fin 2048, x0 (ix2 r k) * x1 (ix2 k s)) 0 := by
  constructor
  · exact relu x0 x1 r s
  · exact congrArg₂ (· * ·) (relu x0 x1 r s) (relu x0 x1 r s)

end Cert.UpReferenceIdeal.Mlp

namespace Cert.Mlp

open Idealize.ShloMosaic Idealize.ShloMosaic.TcCoe Idealize.SL.Sem Cert.Gate

/-- The first product's program runs and keeps its arguments. -/
theorem frame_Up : Cert.quiescent_Up (hUp := Cert.Up.Gen.facts) := fun m ρ _ =>
  Cert.Up.Gen.frame m ρ

/-- Its idealization runs and keeps its arguments. -/
theorem frame_UpIdeal : Cert.quiescent_UpIdeal (hUpIdeal := Cert.UpIdeal.Gen.facts) := fun m ρ _ =>
  Cert.UpIdeal.Gen.frame m ρ

/-- Its reference runs and keeps its arguments. -/
theorem frame_UpReferenceIdeal : Cert.quiescent_UpReferenceIdeal (hUpReferenceIdeal := Cert.UpReferenceIdeal.Gen.facts) := fun m ρ _ =>
  (θ_run Cert.UpReferenceIdeal.defs _ _).mono (fun r h => ⟨fun c => (h c).2.2, sem_eq_zero_of_no_sems (by decide) r.2⟩)
    (Cert.UpReferenceIdeal.Value.run (F := Ideal) m ρ)

/-- The kernel's results and the reference's are equal, for any arguments. -/
theorem same_Up : Cert.algebraic_UpIdeal_UpReferenceIdeal (hUpIdeal := Cert.UpIdeal.Gen.facts)
    (hUpReferenceIdeal := Cert.UpReferenceIdeal.Gen.facts) := by
  intro m ρ m' ρ' _ hag
  refine ⟨fun c => (Cert.UpIdeal.Gen.dats m 0 c).arrAt 2 Cert.UpIdeal.cfg0.N, fun c => (Cert.UpIdeal.Gen.dats m 0 c).arrAt 3 Cert.UpIdeal.cfg0.N,
    Cert.UpIdeal.Value.run_blocks m ρ, ?_⟩
  refine (θ_run _ _ _).mono (fun r h c => ?_) (Cert.UpReferenceIdeal.Value.run m' ρ')
  obtain ⟨e, e', rest⟩ := h c
  obtain ⟨a0, a1⟩ := hag c
  refine ⟨(e.trans (Cert.UpReferenceIdeal.Read.val_main_v2_eq _ _)).trans ?_, (e'.trans (Cert.UpReferenceIdeal.Read.val_main_v4_eq _ _)).trans ?_, rest⟩
  all_goals
    rw [a0, a1]
    funext i
    obtain ⟨r, s, rfl⟩ : ∃ (r : Fin 2048) (s : Fin 8192), i = ix2 r s := ⟨i 0, i 1, eq_ix2 i⟩
  · exact (Cert.UpReferenceIdeal.Mlp.value _ _ r s).1.trans (Cert.UpIdeal.Mlp.final2 m c r s).symm
  · exact (Cert.UpReferenceIdeal.Mlp.value _ _ r s).2.trans (Cert.UpIdeal.Mlp.final3 m c r s).symm

end Cert.Mlp

end
-- ==== Proof.Down.lean ====
module

public import proofs.«01_k».proof.Defs
public import proofs.«01_k».proof.Proof.RealGate
public import proofs.«01_k».proof.Proof.Product
public import proofs.«01_k».proof.Proof.Gen.Down.Frame
public import proofs.«01_k».proof.Proof.Gen.DownIdeal.Value
public import proofs.«01_k».proof.Proof.Gen.DownReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The MLP's second product, added to the residual: four tiles, each a sum over four blocks of columns, kept between grid points. -/

@[expose] public section

set_option maxRecDepth 16384

noncomputable section

namespace Cert.DownIdeal.Mlp

open Idealize.ShloMosaic Idealize.ShloMosaic.TcCoe Idealize.SL.Sem Cert.DownIdeal Cert.DownIdeal.Gen Cert.DownIdeal.Value Cert.Gate Cert.Mlp

/-- One block's product, -/
theorem pay1 (u : Vec Ideal S1024x2048 .bf16) (v : Vec Ideal S2048x1024 .bf16) (i j : Fin 1024) :
    (k0_pay1 u v (ix2 i j) : EReal) = ∑ k : Fin 2048, u (ix2 i k) * v (ix2 k j) := by
  unfold k0_pay1
  pointwise

/-- added to what is kept, -/
theorem pay2 (a : Vec Ideal S1024x1024 .f32) (u : Vec Ideal S1024x2048 .bf16) (v : Vec Ideal S2048x1024 .bf16) (i j : Fin 1024) :
    (k0_pay2 a u v (ix2 i j) : EReal) = a (ix2 i j) + ∑ k : Fin 2048, u (ix2 i k) * v (ix2 k j) := by
  unfold k0_pay2
  pointwise

/-- and at last to the residual. -/
theorem pay3 (a : Vec Ideal S1024x1024 .f32) (u : Vec Ideal S1024x2048 .bf16) (v : Vec Ideal S2048x1024 .bf16) (h : Vec Ideal S1024x1024 .f32) (i j : Fin 1024) :
    (k0_pay3 a u v h (ix2 i j) : EReal) = a (ix2 i j) + (∑ k : Fin 2048, u (ix2 i k) * v (ix2 k j)) + h (ix2 i j) := by
  unfold k0_pay3
  pointwise

/-- Offsets of zero. -/
theorem hz : (![0, 0] : Fin 2 → Nat) = fun _ => 0 := funext fun a => by fin_cases a <;> rfl

variable (m : (ℓ : Loc nD τ sig) → Buf (Elt Ideal) ℓ)

/-- At a tile's first point the first block's product is kept. -/
theorem first (c : Dev nD) (t : Fin cfg0.N) (h : t.val % 4 = 0) :
    (outsAt0 m c t.val t.isLt).2 = k0_pay1 (iblk m c 0 t : Vec Ideal S1024x2048 .bf16) (iblk m c 1 t : Vec Ideal S2048x1024 .bf16) := by
  rw [outsAt0_A m c t h (by omega) (by omega)]
  dsimp only
  unfold sout0_A_0
  rw [View.read_writes_eq_canon _ _ _ (scover0_A_0 _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz, View.ld_unit_zero (S := S2048x1024) hz]

/-- At the two points after it, the block's product is added. -/
theorem next (c : Dev nD) (t : Fin cfg0.N) (h : 1 ≤ t.val % 4 ∧ t.val % 4 ≤ 2) :
    (outsAt0 m c t.val t.isLt).2 = k0_pay2 (outsAt0 m c (t.val - 1) (Nat.lt_of_le_of_lt (Nat.sub_le _ _) t.isLt)).2
      (iblk m c 0 t : Vec Ideal S1024x2048 .bf16) (iblk m c 1 t : Vec Ideal S2048x1024 .bf16) := by
  rw [outsAt0_B m c t (by omega) h (by omega)]
  dsimp only
  unfold sout0_B_0
  rw [View.read_writes_eq_canon _ _ _ (scover0_B_0 _ _ _ _ _ _ _ _ _ _ _ _ _ _ _ _ _ _ _)]
  unfold kernelRun0_B
  dsimp only
  sl_unfold_words
  rw [View.canon_unit_zero hz]
  simp only [View.readAt_eq_ld, Memref.IsWhole.read_unread, View.ld_unit_zero (S := S1024x2048) hz, View.ld_unit_zero (S := S2048x1024) hz, View.ld_unit_zero (S := S1024x1024) hz]
  exact congrArg (fun x => k0_pay2 x _ _) (Memref.IsWhole.read_unread _ _)

/-- At its last point the last product and the residual. -/
theorem last (c : Dev nD) (t : Fin cfg0.N) (h : t.val % 4 = 3) :
    (outsAt0 m c t.val t.isLt).1 = k0_pay3 (outsAt0 m c (t.val - 1) (Nat.lt_of_le_of_lt (Nat.sub_le _ _) t.isLt)).2
      (iblk m c 0 t : Vec Ideal S1024x2048 .bf16) (iblk m c 1 t : Vec Ideal S2048x1024 .bf16) (iblk m c 2 t : Vec Ideal S1024x1024 .f32) := by
  rw [outsAt0_C m c t (by omega) (by omega) h]
  dsimp only
  unfold out0_C_3
  rw [View.read_writes_eq_canon _ _ _ (cover0_C_3 _ _ _ _ _ _ _ _ _ _ _ _ _ _ _ _ _ _ _)]
  unfold kernelRun0_C
  dsimp only
  sl_unfold_words
  rw [View.canon_unit_zero hz]
  simp only [View.readAt_eq_ld, Memref.IsWhole.read_unread, View.ld_unit_zero (S := S1024x2048) hz, View.ld_unit_zero (S := S2048x1024) hz, View.ld_unit_zero (S := S1024x1024) hz]
  exact congrArg (fun x => k0_pay3 x _ _ _) (Memref.IsWhole.read_unread _ _)

/-- The activations, -/
abbrev act (c : Dev nD) : S2048x8192.Idx → EReal := m ((c : Thread nD τ).loc main_arg0)
/-- the weights -/
abbrev w2 (c : Dev nD) : S8192x2048.Idx → EReal := m ((c : Thread nD τ).loc main_arg1)
/-- and the residual, as launched. -/
abbrev res (c : Dev nD) : S2048x2048.Idx → EReal := m ((c : Thread nD τ).loc main_arg2)

/-- The activations as the region finds them. -/
theorem V_act (c : Dev nD) (i : S2048x8192.Idx) : V m c main_v0 i = act m c i := by
  unfold V
  after_reads_at

/-- The weights as the region finds them. -/
theorem V_w2 (c : Dev nD) (i : S8192x2048.Idx) : V m c main_v1 i = w2 m c i := by
  unfold V
  after_reads_at

/-- The residual as the region finds it. -/
theorem V_res (c : Dev nD) (i : S2048x2048.Idx) : V m c main_arg2 i = res m c i := by
  unfold V
  after_reads_at

/-- Where each window's block lies at a point. -/
theorem index (t : Fin cfg0.N) : (win0_0.index t 0 = t.val / 8 ∧ win0_0.index t 1 = t.val % 4)
    ∧ (win0_1.index t 0 = t.val % 4 ∧ win0_1.index t 1 = t.val / 4 % 2) ∧ (win0_2.index t 0 = t.val / 8 ∧ win0_2.index t 1 = t.val / 4 % 2) :=
  (by decide +kernel : ∀ t : Fin grid0.N, (win0_0.index t 0 = t.val / 8 ∧ win0_0.index t 1 = t.val % 4)
    ∧ (win0_1.index t 0 = t.val % 4 ∧ win0_1.index t 1 = t.val / 4 % 2) ∧ (win0_2.index t 0 = t.val / 8 ∧ win0_2.index t 1 = t.val / 4 % 2)) t

/-- The `q`-th point of the tile that holds row `r` and column `s`. -/
def at_ (r s : Fin 2048) (q : Fin 4) : Fin cfg0.N :=
  ⟨4 * (2 * (r.val / 1024) + s.val / 1024) + q.val, by have hN : cfg0.N = 16 := N_0; omega⟩

/-- Its block row, block column and place in the sum. -/
theorem at_parts (r s : Fin 2048) (q : Fin 4) :
    (at_ r s q).val / 8 = r.val / 1024 ∧ (at_ r s q).val / 4 % 2 = s.val / 1024 ∧ (at_ r s q).val % 4 = q.val := by
  show (4 * (2 * (r.val / 1024) + s.val / 1024) + q.val) / 8 = _ ∧ (4 * (2 * (r.val / 1024) + s.val / 1024) + q.val) / 4 % 2 = _
    ∧ (4 * (2 * (r.val / 1024) + s.val / 1024) + q.val) % 4 = _
  omega

/-- The activations' block. -/
theorem blk0 (c : Dev nD) (r s : Fin 2048) (q : Fin 4) (k : Fin 2048) :
    (iblk m c 0 (at_ r s q) : Vec Ideal S1024x2048 .bf16) (ix2 (lo r) k) = act m c (ix2 r (quarter q k)) := by
  have hi := (index (at_ r s q)).1
  rw [(at_parts r s q).1, (at_parts r s q).2.2] at hi
  refine Eq.trans ?_ (V_act m c (ix2 r (quarter q k)))
  unfold iblk
  rw [View.read_apply]
  show V m c main_v0 _ = _
  congr 1
  funext a
  apply Fin.ext
  match a with
  | ⟨0, _⟩ => show win0_0.index (at_ r s q) 0 * 1024 + 1 * (r.val % 1024) = r.val; rw [hi.1]; omega
  | ⟨1, _⟩ => show win0_0.index (at_ r s q) 1 * 2048 + 1 * k.val = 2048 * q.val + k.val; rw [hi.2]; omega

/-- The weights' block. -/
theorem blk1 (c : Dev nD) (r s : Fin 2048) (q : Fin 4) (k : Fin 2048) :
    (iblk m c 1 (at_ r s q) : Vec Ideal S2048x1024 .bf16) (ix2 k (lo s)) = w2 m c (ix2 (quarter q k) s) := by
  have hi := (index (at_ r s q)).2.1
  rw [(at_parts r s q).2.1, (at_parts r s q).2.2] at hi
  refine Eq.trans ?_ (V_w2 m c (ix2 (quarter q k) s))
  unfold iblk
  rw [View.read_apply]
  show V m c main_v1 _ = _
  congr 1
  funext a
  apply Fin.ext
  match a with
  | ⟨0, _⟩ => show win0_1.index (at_ r s q) 0 * 2048 + 1 * k.val = 2048 * q.val + k.val; rw [hi.1]; omega
  | ⟨1, _⟩ => show win0_1.index (at_ r s q) 1 * 1024 + 1 * (s.val % 1024) = s.val; rw [hi.2]; omega

/-- The residual's block. -/
theorem blk2 (c : Dev nD) (r s : Fin 2048) (q : Fin 4) :
    (iblk m c 2 (at_ r s q) : Vec Ideal S1024x1024 .f32) (ix2 (lo r) (lo s)) = res m c (ix2 r s) := by
  have hi := (index (at_ r s q)).2.2
  rw [(at_parts r s q).1, (at_parts r s q).2.1] at hi
  refine Eq.trans ?_ (V_res m c (ix2 r s))
  unfold iblk
  rw [View.read_apply]
  show V m c main_arg2 _ = _
  congr 1
  funext a
  apply Fin.ext
  match a with
  | ⟨0, _⟩ => show win0_2.index (at_ r s q) 0 * 1024 + 1 * (r.val % 1024) = r.val; rw [hi.1]; omega
  | ⟨1, _⟩ => show win0_2.index (at_ r s q) 1 * 1024 + 1 * (s.val % 1024) = s.val; rw [hi.2]; omega

/-- The two factors' blocks at a point. -/
abbrev left (c : Dev nD) (t : Fin cfg0.N) : Vec Ideal S1024x2048 .bf16 := iblk m c 0 t
@[inherit_doc left]
abbrev right (c : Dev nD) (t : Fin cfg0.N) : Vec Ideal S2048x1024 .bf16 := iblk m c 1 t

/-- A block's product. -/
theorem product (c : Dev nD) (r s : Fin 2048) (q : Fin 4) :
    (∑ k : Fin 2048, left m c (at_ r s q) (ix2 (lo r) k) * right m c (at_ r s q) (ix2 k (lo s)) : EReal)
      = ∑ k : Fin 2048, act m c (ix2 r (quarter q k)) * w2 m c (ix2 (quarter q k) s) :=
  Finset.sum_congr rfl fun k _ => congrArg₂ (· * ·) (blk0 m c r s q k) (blk1 m c r s q k)

/-- What is kept after the first point, -/
theorem kept0 (c : Dev nD) (r s : Fin 2048) : ((outsAt0 m c (at_ r s 0).val (at_ r s 0).isLt).2 (ix2 (lo r) (lo s)) : EReal)
    = ∑ k : Fin 2048, act m c (ix2 r (quarter 0 k)) * w2 m c (ix2 (quarter 0 k) s) := by
  rw [first m c (at_ r s 0) (at_parts r s 0).2.2]
  exact (pay1 _ _ _ _).trans (product m c r s 0)

/-- and after each point that adds to it. -/
theorem kept_succ (c : Dev nD) (r s : Fin 2048) (q p : Fin 4) (h : q.val = p.val + 1) (hq : q.val ≤ 2) :
    ((outsAt0 m c (at_ r s q).val (at_ r s q).isLt).2 (ix2 (lo r) (lo s)) : EReal)
    = (outsAt0 m c (at_ r s p).val (at_ r s p).isLt).2 (ix2 (lo r) (lo s))
      + ∑ k : Fin 2048, act m c (ix2 r (quarter q k)) * w2 m c (ix2 (quarter q k) s) := by
  have e : (at_ r s q).val - 1 = (at_ r s p).val := by
    show 4 * (2 * (r.val / 1024) + s.val / 1024) + q.val - 1 = 4 * (2 * (r.val / 1024) + s.val / 1024) + p.val
    omega
  rw [next m c (at_ r s q) (by rw [(at_parts r s q).2.2]; omega)]
  refine (pay2 _ _ _ _ _).trans ?_
  rw [product]
  simp only [e]

/-- The result array, element by element. -/
theorem final (c : Dev nD) (r s : Fin 2048) :
    (G3 m c : S2048x2048.Idx → EReal) (ix2 r s) = res m c (ix2 r s) + ∑ k : Fin 8192, act m c (ix2 r k) * w2 m c (ix2 k s) := by
  have e : (at_ r s 3).val - 1 = (at_ r s 2).val := by
    show 4 * (2 * (r.val / 1024) + s.val / 1024) + 3 - 1 = 4 * (2 * (r.val / 1024) + s.val / 1024) + 2
    omega
  have hp : pt3Of (ix2 r s) = (at_ r s 3).val := by
    show 4 * (2 * (r.val / 1024 - 0) + 1 * (s.val / 1024 - 0)) + 3 = 4 * (2 * (r.val / 1024) + s.val / 1024) + 3
    omega
  have hl : loc3Of (ix2 r s) = ix2 (lo r) (lo s) := eq_ix2 _
  unfold G3
  rw [dif_pos (by rw [hp]; exact (at_ r s 3).isLt), hl, fold0_congr m c _ _ _ (by rw [Nat.zero_add]; exact (at_ r s 3).isLt) hp,
    ← outsAt0_sweep m c (at_ r s 3).val (at_ r s 3).isLt, last m c (at_ r s 3) (at_parts r s 3).2.2]
  refine (pay3 _ _ _ _ _ _).trans ?_
  rw [product, blk2]
  simp only [e]
  rw [kept_succ m c r s 2 1 rfl (by decide), kept_succ m c r s 1 0 rfl (by decide), kept0, sum_quarters]
  exact add_comm _ _

end Cert.DownIdeal.Mlp

namespace Cert.DownReferenceIdeal.Mlp

open Idealize.ShloMosaic Idealize.ShloMosaic.TcCoe Idealize.SL.Sem Cert.DownReferenceIdeal Cert.DownReferenceIdeal.Read Cert.Gate

/-- The reference's result, element by element. -/
theorem value (x0 : FVec Ideal S2048x8192 .f32) (x1 : FVec Ideal S8192x2048 .f32) (x2 : FVec Ideal S2048x2048 .f32) (r s : Fin 2048) :
    (val_main_v1 (F := Ideal) x0 x1 x2 (ix2 r s) : EReal) = x2 (ix2 r s) + ∑ k : Fin 8192, x0 (ix2 r k) * x1 (ix2 k s) := by
  rw [val_main_v1_apply, val_main_v0_apply]
  pointwise
  congr 1
  refine Finset.sum_congr rfl fun k _ => ?_
  congr 2 <;> exact eq_ix2 _

end Cert.DownReferenceIdeal.Mlp

namespace Cert.Mlp

open Idealize.ShloMosaic Idealize.ShloMosaic.TcCoe Idealize.SL.Sem Cert.Gate

/-- The second product's program runs and keeps its arguments. -/
theorem frame_Down : Cert.quiescent_Down (hDown := Cert.Down.Gen.facts) := fun m ρ _ =>
  Cert.Down.Gen.frame m ρ

/-- Its idealization runs and keeps its arguments. -/
theorem frame_DownIdeal : Cert.quiescent_DownIdeal (hDownIdeal := Cert.DownIdeal.Gen.facts) := fun m ρ _ =>
  Cert.DownIdeal.Gen.frame m ρ

/-- Its reference runs and keeps its arguments. -/
theorem frame_DownReferenceIdeal : Cert.quiescent_DownReferenceIdeal (hDownReferenceIdeal := Cert.DownReferenceIdeal.Gen.facts) := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The kernel's result and the reference's are equal, for any arguments. -/
theorem same_Down : Cert.algebraic_DownIdeal_DownReferenceIdeal (hDownIdeal := Cert.DownIdeal.Gen.facts)
    (hDownReferenceIdeal := Cert.DownReferenceIdeal.Gen.facts) := by
  intro m ρ m' ρ' _ hag
  refine ⟨fun c => Cert.DownIdeal.Value.G3 m c, Cert.DownIdeal.Value.run m ρ, ?_⟩
  refine (θ_run _ _ _).mono (fun r h c => ?_) (Cert.DownReferenceIdeal.Value.run m' ρ')
  obtain ⟨e, rest⟩ := h c
  refine ⟨(e.trans (Cert.DownReferenceIdeal.Read.val_main_v1_eq _ _ _)).trans ?_, rest⟩
  obtain ⟨a0, a1, a2⟩ := hag c
  rw [a0, a1, a2]
  funext i
  obtain ⟨r, s, rfl⟩ : ∃ (r s : Fin 2048), i = ix2 r s := ⟨i 0, i 1, eq_ix2 i⟩
  exact (Cert.DownReferenceIdeal.Mlp.value _ _ _ r s).trans (Cert.DownIdeal.Mlp.final m c r s).symm

end Cert.Mlp

end
-- ==== Proof.Owner.lean ====
module

public import proofs.«01_k».proof.Defs
public import Idealize.ShloMosaic.Lib.StableHlo.Predicate

/-! The word that says which of a chip's two cores this is: the preconditions make it zero or one. -/

@[expose] public section

namespace Cert.Mlp

open Idealize.ShloMosaic

/-- A single word has one place. -/
theorem only (x y : (⟨1, ![1]⟩ : Shape).Idx) : x = y := funext fun a => by
  match a with
  | ⟨0, _⟩ => exact Fin.ext (by have h : (x 0).val < 1 := (x 0).isLt; have h' : (y 0).val < 1 := (y 0).isLt; show (x 0).val = (y 0).val; omega)

/-- A word which is zero or one, as the preconditions print it. -/
theorem core_of (x : (⟨1, ![1]⟩ : Shape).Idx → BitVec 32)
    (h : (fun i => IntOp.ori (IntOp.cmpi .eq (x i) 0#32) (IntOp.cmpi .eq (x i) 1#32)) = fun _ => 1#1) :
    ∃ b : Fin 2, ∀ i, x i = BitVec.ofNat 32 b.val := by
  have hp : (0 : ℕ) < 1 := Nat.one_pos
  have h := congrFun h fun a => match a with | ⟨0, _⟩ => ⟨0, hp⟩
  generalize hy : (fun a => match a with | ⟨0, _⟩ => ⟨0, hp⟩ : (⟨1, ![1]⟩ : Shape).Idx) = y at h
  suffices hs : ∃ b : Fin 2, x y = BitVec.ofNat 32 b.val from hs.imp fun b hb i => (congrArg x (only i y)).trans hb
  by_cases h0 : x y = 0#32
  · exact ⟨0, h0⟩
  · by_cases h1 : x y = 1#32
    · exact ⟨1, h1⟩
    · exfalso
      change BitVec.ofBool (x y == 0#32) ||| BitVec.ofBool (x y == 1#32) = 1#1 at h
      rw [beq_eq_false_iff_ne.mpr h0, beq_eq_false_iff_ne.mpr h1] at h
      exact absurd h (by decide)

/-- The device of a chip's pair that a core's own half belongs to, and the one that the other half belongs to. -/
def mine (own : Bool) (b : Fin 2) : Fin 2 := if own then b else 1 - b

/-- A row of a chip's block, in the whole array: the chips' pairs of blocks lie one after another. -/
def ownedRow {n N : ℕ} (p : Fin 4) (q : Fin 2) (r : Fin n) (h : 8 * n = N) : Fin N := ⟨n * (2 * p.val + q.val) + r.val, by
  have hp := p.isLt; have hq := q.isLt; have hr := r.isLt
  have : n * (2 * p.val + q.val) ≤ n * 7 := Nat.mul_le_mul_left n (by omega)
  omega⟩

end Cert.Mlp
-- ==== Proof.DownDwOther.lean ====
module

public import proofs.«01_k».proof.Defs
public import proofs.«01_k».proof.Proof.Owner
public import proofs.«01_k».proof.Proof.Product
public import proofs.«01_k».proof.Proof.Gen.Pre_is_core
public import proofs.«01_k».proof.Proof.Gen.DownDwOther.Frame
public import proofs.«01_k».proof.Proof.Gen.DownDwOtherIdeal.Frame
public import proofs.«01_k».proof.Proof.Gen.DownDwOtherReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the MLP's second weights, the half that the chip's other core keeps. -/

@[expose] public section

set_option maxRecDepth 16384

noncomputable section

namespace Cert.DownDwOther.Mlp

open Idealize.ShloMosaic Idealize.ShloMosaic.TcCoe Idealize.SL.Sem Cert.DownDwOther Cert.DownDwOther.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core.Gen.facts

/-- The precondition says that the table holds a core's number. -/
theorem core (m : (ℓ : Loc nD τ sig) → Buf (Elt Bits) ℓ) (h : Cert.Pre_DownDwOther m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_DownDwOther m) : Ok m := by
  obtain ⟨b, hb⟩ := core m h
  unfold Ok
  rw [hb]
  clear hb
  revert b
  decide

end Cert.DownDwOther.Mlp

namespace Cert.DownDwOtherIdeal.Mlp

open Idealize.ShloMosaic Idealize.ShloMosaic.TcCoe Idealize.SL.Sem Cert.DownDwOtherIdeal Cert.DownDwOtherIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core.Gen.facts

/-- The precondition says that the table holds a core's number. -/
theorem core (m : (ℓ : Loc nD τ sig) → Buf (Elt Ideal) ℓ) (h : Cert.Pre_DownDwOtherIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns. -/
theorem pay (u v : Vec Ideal S2048x1024 .bf16) (i j : Fin 1024) :
    k0_pay1 u v (ix3 0 i j) = ∑ k : Fin 2048, u (ix2 k i) * v (ix2 k j) := by
  unfold k0_pay1
  pointwise

/-- The body leaves its one tile. -/
theorem body (c : Dev nD) (i : grid0.Coords) (arg4 : Memref sig .tc .vmem S2048x1024 .bf16) (harg4 : arg4.IsWhole) (arg5 : Memref sig .tc .vmem S2048x1024 .bf16)
    (harg5 : arg5.IsWhole) (arg6 : Memref sig .tc .vmem S1x1024x1024 .bf16) (harg6 : arg6.IsWhole) (x0 x1 : Vec Ideal S2048x1024 .bf16) (xt0 : TbBuf0 (F := Ideal) c tbM0_0) :
    out0_A_2 c i arg4 harg4 arg5 harg5 arg6 harg6 x0 x1 xt0 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_2
  rw [View.read_writes_eq_canon _ _ _ (cover0_A_2 _ _ _ _ _ _ _ _ _ _ _)]
  unfold kernelRun0_A
  dsimp only
  sl_unfold_words
  rw [View.canon_unit_zero hz3]
  simp only [View.readAt_eq_ld, Memref.IsWhole.read_unread, View.ld_unit_zero (S := S2048x1024) hz2]

variable (m : (ℓ : Loc nD τ sig) → Buf (Elt Ideal) ℓ) (hO : Ok m)

/-- The activations -/
abbrev act (c : Dev nD) : S2048x8192.Idx → EReal := m ((c : Thread nD τ).loc main_arg1)
/-- and the cotangent, as launched. -/
abbrev dh (c : Dev nD) : S2048x2048.Idx → EReal := m ((c : Thread nD τ).loc main_arg2)

/-- The activations as the region finds them. -/
theorem V_act (c : Dev nD) (i : S2048x8192.Idx) : V m c main_v0 i = act m c i := by
  unfold V
  after_reads_at

/-- The cotangent as the region finds it. -/
theorem V_dh (c : Dev nD) (i : S2048x2048.Idx) : V m c main_v1 i = dh m c i := by
  unfold V
  after_reads_at

/-- Where each window's block lies at a point, for either core. -/
theorem index : ∀ (b : Fin 2) (t : Fin grid0.N),
    (cc0_transform_0 inb_S1_S1_0 numel1_S1 (table b) (grid0.coords t) 0 = 0
      ∧ cc0_transform_0 inb_S1_S1_0 numel1_S1 (table b) (grid0.coords t) 1 = 2 * (t.val / 2) + (mine false b).val)
    ∧ (cc0_transform_1 (grid0.coords t) 0 = 0 ∧ cc0_transform_1 (grid0.coords t) 1 = t.val % 2)
    ∧ (cc0_transform_2 (grid0.coords t) 0 = t.val / 2 ∧ cc0_transform_2 (grid0.coords t) 1 = 0 ∧ cc0_transform_2 (grid0.coords t) 2 = t.val % 2) := by
  decide +kernel

variable {b : Fin 2} (hb : tbl m = table b)

include hb in
/-- Where the activations' block lies. -/
theorem index0 (t : Fin grid0.N) : cc0_transform_0 inb_S1_S1_0 numel1_S1 (tbl m) (grid0.coords t) 0 = 0
    ∧ cc0_transform_0 inb_S1_S1_0 numel1_S1 (tbl m) (grid0.coords t) 1 = 2 * (t.val / 2) + (mine false b).val := by
  have h := (index b t).1
  rw [← hb] at h
  exact h

/-- What a point leaves is its tile. -/
theorem out (c : Dev nD) (t : Fin (cfgM m hO).N) :
    (outsAt0 m hO c t : S1x1024x1024.Idx → EReal) = k0_pay1 (iblk m hO c 0 t : Vec Ideal S2048x1024 .bf16) (iblk m hO c 1 t : Vec Ideal S2048x1024 .bf16) :=
  body c _ _ _ _ _ _ _ _ _ _

/-- Two points write two tiles. -/
theorem tiles (t t' : Fin (cfgM m hO).N) (h : ((cfgM m hO).win 2).index t = ((cfgM m hO).win 2).index t') : t = t' :=
  (by decide +kernel : ∀ t t' : Fin grid0.N, cc0_transform_2 (grid0.coords t) = cc0_transform_2 (grid0.coords t') → t = t') t t' h

/-- So each tile of the result is what its point wrote. -/
theorem tile (c : Dev nD) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (fun t t' _ _ hne => ((cfgM m hO).win 2).disjoint_blk fun h => hne (tiles m hO t t' h))
    (cfgM m hO).N t t.isLt (flush0_2 _ t)

/-- The point whose tile holds column `s` of chip `p`'s rows. -/
noncomputable def at_ (p : Fin 4) (s : Fin 2048) : Fin grid0.N := ⟨2 * p.val + s.val / 1024, by show _ < 8; omega⟩

/-- Its block row. -/
theorem at_row (p : Fin 4) (s : Fin 2048) : (at_ p s).val / 2 = p.val := by
  show (2 * p.val + s.val / 1024) / 2 = _; omega
/-- Its block column. -/
theorem at_col (p : Fin 4) (s : Fin 2048) : (at_ p s).val % 2 = s.val / 1024 := by
  show (2 * p.val + s.val / 1024) % 2 = _; omega

include hb in
/-- The activations' block. -/
theorem blk0 (c : Dev nD) (p : Fin 4) (r : Fin 1024) (s k : Fin 2048) :
    (iblk m hO c 0 (at_ p s) : Vec Ideal S2048x1024 .bf16) (ix2 k r) = act m c (ix2 k (ownedRow p (mine false b) r rfl)) := by
  have hi := index0 m hb (at_ p s)
  rw [at_row] at hi
  refine Eq.trans ?_ (V_act m c (ix2 k (ownedRow p (mine false b) r rfl)))
  refine congrArg (V m c main_v0) ?_
  funext a
  apply Fin.ext
  match a with
  | ⟨0, _⟩ => show cc0_transform_0 inb_S1_S1_0 numel1_S1 (tbl m) (grid0.coords (at_ p s)) 0 * 2048 + 1 * k.val = k.val; rw [hi.1]; omega
  | ⟨1, _⟩ =>
    show cc0_transform_0 inb_S1_S1_0 numel1_S1 (tbl m) (grid0.coords (at_ p s)) 1 * 1024 + 1 * r.val = 1024 * (2 * p.val + (mine false b).val) + r.val
    rw [hi.2]; omega

/-- The cotangent's block. -/
theorem blk1 (c : Dev nD) (p : Fin 4) (s k : Fin 2048) :
    (iblk m hO c 1 (at_ p s) : Vec Ideal S2048x1024 .bf16) (ix2 k (lo s)) = dh m c (ix2 k s) := by
  have hi := (index 0 (at_ p s)).2.1
  rw [at_col] at hi
  refine Eq.trans ?_ (V_dh m c (ix2 k s))
  refine congrArg (V m c main_v1) ?_
  funext a
  apply Fin.ext
  match a with
  | ⟨0, _⟩ => show cc0_transform_1 (grid0.coords (at_ p s)) 0 * 2048 + 1 * k.val = k.val; rw [hi.1]; omega
  | ⟨1, _⟩ => show cc0_transform_1 (grid0.coords (at_ p s)) 1 * 1024 + 1 * (s.val % 1024) = s.val; rw [hi.2]; omega

/-- The result's tile, read off any array. -/
theorem blk2 (X : S4x1024x2048.Idx → EReal) (p : Fin 4) (r : Fin 1024) (s : Fin 2048) :
    X (ix3 p r s) = ((((cfgM m hO).win 2).blk (at_ p s)).view.read (Elt Ideal) X : S1x1024x1024.Idx → EReal) (ix3 0 r (lo s)) := by
  have hi := (index 0 (at_ p s)).2.2
  rw [at_row, at_col] at hi
  refine congrArg X ?_
  funext a
  apply Fin.ext
  match a with
  | ⟨0, _⟩ => show p.val = cc0_transform_2 (grid0.coords (at_ p s)) 0 * 1 + 1 * 0; rw [hi.1]; omega
  | ⟨1, _⟩ => show r.val = cc0_transform_2 (grid0.coords (at_ p s)) 1 * 1024 + 1 * r.val; rw [hi.2.1]; omega
  | ⟨2, _⟩ => show s.val = cc0_transform_2 (grid0.coords (at_ p s)) 2 * 1024 + 1 * (s.val % 1024); rw [hi.2.2]; omega

include hb in
/-- The result array, element by element. -/
theorem final (c : Dev nD) (p : Fin 4) (r : Fin 1024) (s : Fin 2048) :
    ((dats m hO 0 c).arrAt 2 (cfgM m hO).N : S4x1024x2048.Idx → EReal) (ix3 p r s)
      = ∑ k : Fin 2048, act m c (ix2 k (ownedRow p (mine false b) r rfl)) * dh m c (ix2 k s) := by
  refine (blk2 m hO _ p r s).trans ((congrFun (tile m hO c (at_ p s)) (ix3 0 r (lo s))).trans ?_)
  refine (congrFun ((after0_2 m hO c (at_ p s)).trans (out m hO c (at_ p s))) (ix3 0 r (lo s))).trans ?_
  refine (pay (iblk m hO c 0 (at_ p s)) (iblk m hO c 1 (at_ p s)) r (lo s)).trans ?_
  refine Finset.sum_congr rfl fun k _ => ?_
  rw [blk0 m hO hb, blk1]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.DownDwOtherIdeal.Mlp

namespace Cert.DownDwOtherReferenceIdeal.Mlp

open Idealize.ShloMosaic Idealize.ShloMosaic.TcCoe Idealize.SL.Sem Cert.DownDwOtherReferenceIdeal Cert.DownDwOtherReferenceIdeal.Read Cert.Mlp

/-- The gradient, cut into the devices' blocks of rows. -/
theorem blocks (x1 : FVec Ideal S2048x8192 .f32) (x2 : FVec Ideal S2048x2048 .f32) (p : Fin 4) (q : Fin 2) (r : Fin 1024) (s : Fin 2048)
    (i : S4x2x1024x2048.Idx) (h0 : (i 0).val = p.val) (h1 : (i 1).val = q.val) (h2 : (i 2).val = r.val) (h3 : (i 3).val = s.val) :
    (val_main_v4 (F := Ideal) x1 x2 i : EReal) = ∑ k : Fin 2048, x1 (ix2 k (ownedRow p q r rfl)) * x2 (ix2 k s) := by
  rw [val_main_v4_apply, val_main_v3_apply, val_main_v2_apply]
  refine Finset.sum_congr rfl fun k _ => (mul_comm _ _).trans ?_
  have hr : ((((i 0).val * 2 + (i 1).val) * 1024 + (i 2).val) * 2048 + (i 3).val) / 2048 = 1024 * (2 * p.val + q.val) + r.val := by
    rw [h0, h1, h2, h3]; omega
  have hs : ((((i 0).val * 2 + (i 1).val) * 1024 + (i 2).val) * 2048 + (i 3).val) % 2048 = s.val := by
    rw [h0, h1, h2, h3]; omega
  congr 2
  · funext a
    apply Fin.ext
    match a with
    | ⟨0, _⟩ => rfl
    | ⟨1, _⟩ => exact hr
  · funext a
    apply Fin.ext
    match a with
    | ⟨0, _⟩ => rfl
    | ⟨1, _⟩ => exact hs

/-- The reference's result, element by element, on either core. -/
theorem value (b : Fin 2) (x0 : IVec S1 32) (hx : ∀ i, x0 i = BitVec.ofNat 32 b.val) (x1 : FVec Ideal S2048x8192 .f32) (x2 : FVec Ideal S2048x2048 .f32)
    (p : Fin 4) (r : Fin 1024) (s : Fin 2048) :
    (val_main_v12 (F := Ideal) x0 x1 x2 (ix3 p r s) : EReal) = ∑ k : Fin 2048, x1 (ix2 k (ownedRow p (mine false b) r rfl)) * x2 (ix2 k s) := by
  have e0 : ((p.val * 1024 + r.val) * 2048 + s.val) / 2097152 = p.val := by omega
  have e2 : ((p.val * 1024 + r.val) * 2048 + s.val) / 2048 % 1024 = r.val := by omega
  have e3 : ((p.val * 1024 + r.val) * 2048 + s.val) % 2048 = s.val := by omega
  have hc : val_main_v6 (F := Ideal) x0 = fun _ => IntOp.cmpi .eq (BitVec.ofNat 32 b.val) 0#32 := by
    funext i
    unfold val_main_v6 val_main_v5 val_main_c
    exact congrArg (fun x => IntOp.cmpi .eq x 0#32) (hx _)
  rw [val_main_v12_apply]
  unfold val_main_v11
  rw [hc]
  match b with
  | ⟨0, _⟩ =>
    refine Eq.trans ?_ (blocks x1 x2 p 1 r s (idx_main_v7 (idx_main_v8 (ix3 p r s))) e0 rfl e2 e3)
    rw [← val_main_v7_apply, ← val_main_v8_apply]
    rfl
  | ⟨1, _⟩ =>
    refine Eq.trans ?_ (blocks x1 x2 p 0 r s (idx_main_v9 (idx_main_v10 (ix3 p r s))) e0 rfl e2 e3)
    rw [← val_main_v9_apply, ← val_main_v10_apply]
    rfl

end Cert.DownDwOtherReferenceIdeal.Mlp

namespace Cert.Mlp

open Idealize.ShloMosaic Idealize.ShloMosaic.TcCoe Idealize.SL.Sem

attribute [local instance] Cert.Pre_is_core.Gen.facts

/-- The gradient's program runs and keeps its arguments. -/
theorem frame_DownDwOther : Cert.quiescent_DownDwOther (hDownDwOther := Cert.DownDwOther.Gen.facts) := fun m ρ h =>
  Cert.DownDwOther.Gen.frame m ρ (Cert.DownDwOther.Mlp.ok m h)

/-- Its idealization runs and keeps its arguments. -/
theorem frame_DownDwOtherIdeal : Cert.quiescent_DownDwOtherIdeal (hDownDwOtherIdeal := Cert.DownDwOtherIdeal.Gen.facts) := fun m ρ h =>
  Cert.DownDwOtherIdeal.Gen.frame m ρ (Cert.DownDwOtherIdeal.Mlp.ok m (Cert.DownDwOtherIdeal.Mlp.core m h).choose_spec)

/-- Its reference runs and keeps its arguments. -/
theorem frame_DownDwOtherReferenceIdeal : Cert.quiescent_DownDwOtherReferenceIdeal (hDownDwOtherReferenceIdeal := Cert.DownDwOtherReferenceIdeal.Gen.facts) := fun m ρ _ =>
  (θ_run Cert.DownDwOtherReferenceIdeal.defs _ _).mono (fun r h => ⟨fun c => (h c).2, sem_eq_zero_of_no_sems (by decide) r.2⟩)
    (Cert.DownDwOtherReferenceIdeal.Value.run (F := Ideal) m ρ)

/-- The kernel's result and the reference's are equal, for any arguments on either core. -/
theorem same_DownDwOther : Cert.algebraic_DownDwOtherIdeal_DownDwOtherReferenceIdeal (hDownDwOtherIdeal := Cert.DownDwOtherIdeal.Gen.facts)
    (hDownDwOtherReferenceIdeal := Cert.DownDwOtherReferenceIdeal.Gen.facts) := by
  intro m ρ m' ρ' hp hag
  obtain ⟨b, hb⟩ := Cert.DownDwOtherIdeal.Mlp.core m hp
  have hO := Cert.DownDwOtherIdeal.Mlp.ok m hb
  refine ⟨fun c => (Cert.DownDwOtherIdeal.Gen.dats m hO 0 c).arrAt 2 (Cert.DownDwOtherIdeal.Gen.cfgM m hO).N, Cert.DownDwOtherIdeal.Mlp.run m hO ρ, ?_⟩
  refine (θ_run _ _ _).mono (fun r h c => ?_) (Cert.DownDwOtherReferenceIdeal.Value.run m' ρ')
  obtain ⟨e, rest⟩ := h c
  refine ⟨(e.trans (Cert.DownDwOtherReferenceIdeal.Read.val_main_v12_eq _ _ _)).trans ?_, rest⟩
  obtain ⟨a0, a1, a2⟩ := hag c
  rw [a0, a1, a2]
  funext i
  obtain ⟨p, r, s, rfl⟩ : ∃ (p : Fin 4) (r : Fin 1024) (s : Fin 2048), i = ix3 p r s := ⟨i 0, i 1, i 2, eq_ix3 i⟩
  obtain rfl : c = 0 := Subsingleton.elim _ _
  have hx : ∀ j, m (((0 : Dev Cert.DownDwOtherIdeal.nD) : Thread Cert.DownDwOtherIdeal.nD Cert.DownDwOtherIdeal.τ).loc Cert.DownDwOtherIdeal.main_arg0) j = BitVec.ofNat 32 b.val :=
    fun j => (congrFun (Cert.DownDwOtherIdeal.Gen.V_main_arg0 m 0) j).symm.trans (congrFun (congrFun hb 0) j)
  exact (Cert.DownDwOtherReferenceIdeal.Mlp.value b _ hx _ _ p r s).trans (Cert.DownDwOtherIdeal.Mlp.final m hO hb 0 p r s).symm

end Cert.Mlp

end
-- ==== Proof.DownDwOwn.lean ====
module

public import proofs.«01_k».proof.Defs
public import proofs.«01_k».proof.Proof.Owner
public import proofs.«01_k».proof.Proof.Product
public import proofs.«01_k».proof.Proof.DownDwOther
public import proofs.«01_k».proof.Proof.Gen.Pre_is_core_down_own
public import proofs.«01_k».proof.Proof.Gen.DownDwOwn.Frame
public import proofs.«01_k».proof.Proof.Gen.DownDwOwnIdeal.Frame
public import proofs.«01_k».proof.Proof.Gen.DownDwOwnReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the MLP's second weights, the half that this core keeps. -/

@[expose] public section

set_option maxRecDepth 16384

noncomputable section

namespace Cert.DownDwOwn.Mlp

open Idealize.ShloMosaic Idealize.ShloMosaic.TcCoe Idealize.SL.Sem Cert.DownDwOwn Cert.DownDwOwn.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_down_own.Gen.facts

/-- The precondition says that the table holds a core's number. -/
theorem core (m : (ℓ : Loc nD τ sig) → Buf (Elt Bits) ℓ) (h : Cert.Pre_DownDwOwn m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_DownDwOwn m) : Ok m := by
  obtain ⟨b, hb⟩ := core m h
  unfold Ok
  rw [hb]
  clear hb
  revert b
  decide

end Cert.DownDwOwn.Mlp

namespace Cert.DownDwOwnIdeal.Mlp

open Idealize.ShloMosaic Idealize.ShloMosaic.TcCoe Idealize.SL.Sem Cert.DownDwOwnIdeal Cert.DownDwOwnIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_down_own.Gen.facts

/-- The precondition says that the table holds a core's number. -/
theorem core (m : (ℓ : Loc nD τ sig) → Buf (Elt Ideal) ℓ) (h : Cert.Pre_DownDwOwnIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns and what the other core computed. -/
theorem pay (u v : Vec Ideal S2048x1024 .bf16) (w : Vec Ideal S1x1024x1024 .bf16) (i j : Fin 1024) :
    k0_pay1 u v w (ix3 0 i j) = (∑ k : Fin 2048, u (ix2 k i) * v (ix2 k j)) + w (ix3 0 i j) := by
  unfold k0_pay1
  pointwise

/-- The body leaves its one tile. -/
theorem body (c : Dev nD) (i : grid0.Coords) (arg4 : Memref sig .tc .vmem S2048x1024 .bf16) (harg4 : arg4.IsWhole) (arg5 : Memref sig .tc .vmem S2048x1024 .bf16)
    (harg5 : arg5.IsWhole) (arg6 : Memref sig .tc .vmem S1x1024x1024 .bf16) (harg6 : arg6.IsWhole) (arg7 : Memref sig .tc .vmem S1x1024x1024 .bf16) (harg7 : arg7.IsWhole)
    (x0 x1 : Vec Ideal S2048x1024 .bf16) (x2 : Vec Ideal S1x1024x1024 .bf16) (xt0 : TbBuf0 (F := Ideal) c tbM0_0) :
    out0_A_3 c i arg4 harg4 arg5 harg5 arg6 harg6 arg7 harg7 x0 x1 x2 xt0 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_3
  rw [View.read_writes_eq_canon _ _ _ (cover0_A_3 _ _ _ _ _ _ _ _ _ _ _ _ _ _)]
  unfold kernelRun0_A
  dsimp only
  sl_unfold_words
  rw [View.canon_unit_zero hz3]
  simp only [View.readAt_eq_ld, Memref.IsWhole.read_unread, View.ld_unit_zero (S := S2048x1024) hz2, View.ld_unit_zero (S := S1x1024x1024) hz3]

variable (m : (ℓ : Loc nD τ sig) → Buf (Elt Ideal) ℓ) (hO : Ok m)

/-- The activations -/
abbrev act (c : Dev nD) : S2048x8192.Idx → EReal := m ((c : Thread nD τ).loc main_arg1)
/-- and the cotangent -/
abbrev dh (c : Dev nD) : S2048x2048.Idx → EReal := m ((c : Thread nD τ).loc main_arg2)
/-- and the other core's product, as launched. -/
abbrev recv (c : Dev nD) : S4x1024x2048.Idx → EReal := m ((c : Thread nD τ).loc main_arg3)

/-- The activations as the region finds them. -/
theorem V_act (c : Dev nD) (i : S2048x8192.Idx) : V m c main_v0 i = act m c i := by
  unfold V
  after_reads_at

/-- The cotangent as the region finds it. -/
theorem V_dh (c : Dev nD) (i : S2048x2048.Idx) : V m c main_v1 i = dh m c i := by
  unfold V
  after_reads_at

/-- Where each window's block lies at a point, for either core. -/
theorem index : ∀ (b : Fin 2) (t : Fin grid0.N),
    (cc0_transform_0 inb_S1_S1_0 numel1_S1 (table b) (grid0.coords t) 0 = 0
      ∧ cc0_transform_0 inb_S1_S1_0 numel1_S1 (table b) (grid0.coords t) 1 = 2 * (t.val / 2) + (mine true b).val)
    ∧ (cc0_transform_1 (grid0.coords t) 0 = 0 ∧ cc0_transform_1 (grid0.coords t) 1 = t.val % 2)
    ∧ (cc0_transform_3 (grid0.coords t) 0 = t.val / 2 ∧ cc0_transform_3 (grid0.coords t) 1 = 0 ∧ cc0_transform_3 (grid0.coords t) 2 = t.val % 2)
    ∧ (cc0_transform_2 (grid0.coords t) 0 = t.val / 2 ∧ cc0_transform_2 (grid0.coords t) 1 = 0 ∧ cc0_transform_2 (grid0.coords t) 2 = t.val % 2) := by
  decide +kernel

variable {b : Fin 2} (hb : tbl m = table b)

include hb in
/-- Where the activations' block lies. -/
theorem index0 (t : Fin grid0.N) : cc0_transform_0 inb_S1_S1_0 numel1_S1 (tbl m) (grid0.coords t) 0 = 0
    ∧ cc0_transform_0 inb_S1_S1_0 numel1_S1 (tbl m) (grid0.coords t) 1 = 2 * (t.val / 2) + (mine true b).val := by
  have h := (index b t).1
  rw [← hb] at h
  exact h

/-- What a point leaves is its tile. -/
theorem out (c : Dev nD) (t : Fin (cfgM m hO).N) :
    (outsAt0 m hO c t : S1x1024x1024.Idx → EReal) = k0_pay1 (iblk m hO c 0 t : Vec Ideal S2048x1024 .bf16) (iblk m hO c 1 t : Vec Ideal S2048x1024 .bf16) (iblk m hO c 2 t : Vec Ideal S1x1024x1024 .bf16) :=
  body c _ _ _ _ _ _ _ _ _ _ _ _ _

/-- Two points write two tiles. -/
theorem tiles (t t' : Fin (cfgM m hO).N) (h : ((cfgM m hO).win 3).index t = ((cfgM m hO).win 3).index t') : t = t' :=
  (by decide +kernel : ∀ t t' : Fin grid0.N, cc0_transform_3 (grid0.coords t) = cc0_transform_3 (grid0.coords t') → t = t') t t' h

/-- So each tile of the result is what its point wrote. -/
theorem tile (c : Dev nD) (t : Fin (cfgM m hO).N) :
    (((cfgM m hO).win 3).blk t).view.read (Elt Ideal) ((dats m hO 0 c).arrAt 3 (cfgM m hO).N) = (dats m hO 0 c).flushed 3 t :=
  (dats m hO 0 c).read_blk_arrAt_eq_flushed 3 (fun t t' _ _ hne => ((cfgM m hO).win 3).disjoint_blk fun h => hne (tiles m hO t t' h))
    (cfgM m hO).N t t.isLt (flush0_3 _ t)

/-- The point whose tile holds column `s` of chip `p`'s rows. -/
noncomputable def at_ (p : Fin 4) (s : Fin 2048) : Fin grid0.N := ⟨2 * p.val + s.val / 1024, by show _ < 8; omega⟩

/-- Its block row. -/
theorem at_row (p : Fin 4) (s : Fin 2048) : (at_ p s).val / 2 = p.val := by
  show (2 * p.val + s.val / 1024) / 2 = _; omega
/-- Its block column. -/
theorem at_col (p : Fin 4) (s : Fin 2048) : (at_ p s).val % 2 = s.val / 1024 := by
  show (2 * p.val + s.val / 1024) % 2 = _; omega

include hb in
/-- The activations' block. -/
theorem blk0 (c : Dev nD) (p : Fin 4) (r : Fin 1024) (s k : Fin 2048) :
    (iblk m hO c 0 (at_ p s) : Vec Ideal S2048x1024 .bf16) (ix2 k r) = act m c (ix2 k (ownedRow p (mine true b) r rfl)) := by
  have hi := index0 m hb (at_ p s)
  rw [at_row] at hi
  refine Eq.trans ?_ (V_act m c (ix2 k (ownedRow p (mine true b) r rfl)))
  refine congrArg (V m c main_v0) ?_
  funext a
  apply Fin.ext
  match a with
  | ⟨0, _⟩ => show cc0_transform_0 inb_S1_S1_0 numel1_S1 (tbl m) (grid0.coords (at_ p s)) 0 * 2048 + 1 * k.val = k.val; rw [hi.1]; omega
  | ⟨1, _⟩ =>
    show cc0_transform_0 inb_S1_S1_0 numel1_S1 (tbl m) (grid0.coords (at_ p s)) 1 * 1024 + 1 * r.val = 1024 * (2 * p.val + (mine true b).val) + r.val
    rw [hi.2]; omega

/-- The cotangent's block. -/
theorem blk1 (c : Dev nD) (p : Fin 4) (s k : Fin 2048) :
    (iblk m hO c 1 (at_ p s) : Vec Ideal S2048x1024 .bf16) (ix2 k (lo s)) = dh m c (ix2 k s) := by
  have hi := (index 0 (at_ p s)).2.1
  rw [at_col] at hi
  refine Eq.trans ?_ (V_dh m c (ix2 k s))
  refine congrArg (V m c main_v1) ?_
  funext a
  apply Fin.ext
  match a with
  | ⟨0, _⟩ => show cc0_transform_1 (grid0.coords (at_ p s)) 0 * 2048 + 1 * k.val = k.val; rw [hi.1]; omega
  | ⟨1, _⟩ => show cc0_transform_1 (grid0.coords (at_ p s)) 1 * 1024 + 1 * (s.val % 1024) = s.val; rw [hi.2]; omega

/-- The other core's tile. -/
theorem blk2 (c : Dev nD) (p : Fin 4) (r : Fin 1024) (s : Fin 2048) :
    (iblk m hO c 2 (at_ p s) : Vec Ideal S1x1024x1024 .bf16) (ix3 0 r (lo s)) = recv m c (ix3 p r s) := by
  have hi := (index 0 (at_ p s)).2.2.2
  rw [at_row, at_col] at hi
  refine Eq.trans ?_ (congrFun (V_main_arg3 m c) (ix3 p r s))
  refine congrArg (V m c main_arg3) ?_
  funext a
  apply Fin.ext
  match a with
  | ⟨0, _⟩ => show cc0_transform_2 (grid0.coords (at_ p s)) 0 * 1 + 1 * 0 = p.val; rw [hi.1]; omega
  | ⟨1, _⟩ => show cc0_transform_2 (grid0.coords (at_ p s)) 1 * 1024 + 1 * r.val = r.val; rw [hi.2.1]; omega
  | ⟨2, _⟩ => show cc0_transform_2 (grid0.coords (at_ p s)) 2 * 1024 + 1 * (s.val % 1024) = s.val; rw [hi.2.2]; omega

/-- The result's tile, read off any array. -/
theorem blk3 (X : S4x1024x2048.Idx → EReal) (p : Fin 4) (r : Fin 1024) (s : Fin 2048) :
    X (ix3 p r s) = ((((cfgM m hO).win 3).blk (at_ p s)).view.read (Elt Ideal) X : S1x1024x1024.Idx → EReal) (ix3 0 r (lo s)) := by
  have hi := (index 0 (at_ p s)).2.2.1
  rw [at_row, at_col] at hi
  refine congrArg X ?_
  funext a
  apply Fin.ext
  match a with
  | ⟨0, _⟩ => show p.val = cc0_transform_3 (grid0.coords (at_ p s)) 0 * 1 + 1 * 0; rw [hi.1]; omega
  | ⟨1, _⟩ => show r.val = cc0_transform_3 (grid0.coords (at_ p s)) 1 * 1024 + 1 * r.val; rw [hi.2.1]; omega
  | ⟨2, _⟩ => show s.val = cc0_transform_3 (grid0.coords (at_ p s)) 2 * 1024 + 1 * (s.val % 1024); rw [hi.2.2]; omega

include hb in
/-- The result array, element by element. -/
theorem final (c : Dev nD) (p : Fin 4) (r : Fin 1024) (s : Fin 2048) :
    ((dats m hO 0 c).arrAt 3 (cfgM m hO).N : S4x1024x2048.Idx → EReal) (ix3 p r s)
      = (∑ k : Fin 2048, act m c (ix2 k (ownedRow p (mine true b) r rfl)) * dh m c (ix2 k s)) + recv m c (ix3 p r s) := by
  refine (blk3 m hO _ p r s).trans ((congrFun (tile m hO c (at_ p s)) (ix3 0 r (lo s))).trans ?_)
  refine (congrFun ((after0_3 m hO c (at_ p s)).trans (out m hO c (at_ p s))) (ix3 0 r (lo s))).trans ?_
  refine (pay (iblk m hO c 0 (at_ p s)) (iblk m hO c 1 (at_ p s)) (iblk m hO c 2 (at_ p s)) r (lo s)).trans ?_
  refine congrArg₂ (· + ·) (Finset.sum_congr rfl fun k _ => ?_) (blk2 m hO c p r s)
  rw [blk0 m hO hb, blk1]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

end Cert.DownDwOwnIdeal.Mlp

namespace Cert.DownDwOwnReferenceIdeal.Mlp

open Idealize.ShloMosaic Idealize.ShloMosaic.TcCoe Idealize.SL.Sem Cert.DownDwOwnReferenceIdeal Cert.DownDwOwnReferenceIdeal.Read Cert.Mlp

/-- The gradient, cut into the devices' blocks of rows. -/
theorem blocks (x1 : FVec Ideal S2048x8192 .f32) (x2 : FVec Ideal S2048x2048 .f32) (p : Fin 4) (q : Fin 2) (r : Fin 1024) (s : Fin 2048)
    (i : S4x2x1024x2048.Idx) (h0 : (i 0).val = p.val) (h1 : (i 1).val = q.val) (h2 : (i 2).val = r.val) (h3 : (i 3).val = s.val) :
    (val_main_v4 (F := Ideal) x1 x2 i : EReal) = ∑ k : Fin 2048, x1 (ix2 k (ownedRow p q r rfl)) * x2 (ix2 k s) :=
  Cert.DownDwOtherReferenceIdeal.Mlp.blocks x1 x2 p q r s i h0 h1 h2 h3

/-- The half which the reference takes, on either core. -/
theorem half (b : Fin 2) (x0 : IVec S1 32) (hx : ∀ i, x0 i = BitVec.ofNat 32 b.val) (x1 : FVec Ideal S2048x8192 .f32) (x2 : FVec Ideal S2048x2048 .f32)
    (p : Fin 4) (r : Fin 1024) (s : Fin 2048) :
    (val_main_v11 (F := Ideal) x0 x1 x2 (ix3 p r s) : EReal) = ∑ k : Fin 2048, x1 (ix2 k (ownedRow p (mine true b) r rfl)) * x2 (ix2 k s) := by
  have e0 : ((p.val * 1024 + r.val) * 2048 + s.val) / 2097152 = p.val := by omega
  have e2 : ((p.val * 1024 + r.val) * 2048 + s.val) / 2048 % 1024 = r.val := by omega
  have e3 : ((p.val * 1024 + r.val) * 2048 + s.val) % 2048 = s.val := by omega
  have hc : val_main_v6 (F := Ideal) x0 = fun _ => IntOp.cmpi .eq (BitVec.ofNat 32 b.val) 0#32 := by
    funext i
    unfold val_main_v6 val_main_v5 val_main_c
    exact congrArg (fun x => IntOp.cmpi .eq x 0#32) (hx _)
  unfold val_main_v11
  rw [hc]
  match b with
  | ⟨0, _⟩ =>
    refine Eq.trans ?_ (blocks x1 x2 p 0 r s (idx_main_v7 (idx_main_v8 (ix3 p r s))) e0 rfl e2 e3)
    rw [← val_main_v7_apply, ← val_main_v8_apply]
    rfl
  | ⟨1, _⟩ =>
    refine Eq.trans ?_ (blocks x1 x2 p 1 r s (idx_main_v9 (idx_main_v10 (ix3 p r s))) e0 rfl e2 e3)
    rw [← val_main_v9_apply, ← val_main_v10_apply]
    rfl

/-- The reference's result, element by element. -/
theorem value (b : Fin 2) (x0 : IVec S1 32) (hx : ∀ i, x0 i = BitVec.ofNat 32 b.val) (x1 : FVec Ideal S2048x8192 .f32) (x2 : FVec Ideal S2048x2048 .f32)
    (x3 : FVec Ideal S4x1024x2048 .bf16) (p : Fin 4) (r : Fin 1024) (s : Fin 2048) :
    (val_main_v14 (F := Ideal) x0 x1 x2 x3 (ix3 p r s) : EReal)
      = (∑ k : Fin 2048, x1 (ix2 k (ownedRow p (mine true b) r rfl)) * x2 (ix2 k s)) + x3 (ix3 p r s) := by
  rw [val_main_v14_apply, val_main_v13_apply]
  exact congrArg (· + (x3 (ix3 p r s) : EReal)) (half b x0 hx x1 x2 p r s)

end Cert.DownDwOwnReferenceIdeal.Mlp

namespace Cert.Mlp

open Idealize.ShloMosaic Idealize.ShloMosaic.TcCoe Idealize.SL.Sem

attribute [local instance] Cert.Pre_is_core_down_own.Gen.facts

/-- The gradient's program runs and keeps its arguments. -/
theorem frame_DownDwOwn : Cert.quiescent_DownDwOwn (hDownDwOwn := Cert.DownDwOwn.Gen.facts) := fun m ρ h =>
  Cert.DownDwOwn.Gen.frame m ρ (Cert.DownDwOwn.Mlp.ok m h)

/-- Its idealization runs and keeps its arguments. -/
theorem frame_DownDwOwnIdeal : Cert.quiescent_DownDwOwnIdeal (hDownDwOwnIdeal := Cert.DownDwOwnIdeal.Gen.facts) := fun m ρ h =>
  Cert.DownDwOwnIdeal.Gen.frame m ρ (Cert.DownDwOwnIdeal.Mlp.ok m (Cert.DownDwOwnIdeal.Mlp.core m h).choose_spec)

/-- Its reference runs and keeps its arguments. -/
theorem frame_DownDwOwnReferenceIdeal : Cert.quiescent_DownDwOwnReferenceIdeal (hDownDwOwnReferenceIdeal := Cert.DownDwOwnReferenceIdeal.Gen.facts) := fun m ρ _ =>
  (θ_run Cert.DownDwOwnReferenceIdeal.defs _ _).mono (fun r h => ⟨fun c => (h c).2, sem_eq_zero_of_no_sems (by decide) r.2⟩)
    (Cert.DownDwOwnReferenceIdeal.Value.run (F := Ideal) m ρ)

/-- The kernel's result and the reference's are equal, for any arguments on either core. -/
theorem same_DownDwOwn : Cert.algebraic_DownDwOwnIdeal_DownDwOwnReferenceIdeal (hDownDwOwnIdeal := Cert.DownDwOwnIdeal.Gen.facts)
    (hDownDwOwnReferenceIdeal := Cert.DownDwOwnReferenceIdeal.Gen.facts) := by
  intro m ρ m' ρ' hp hag
  obtain ⟨b, hb⟩ := Cert.DownDwOwnIdeal.Mlp.core m hp
  have hO := Cert.DownDwOwnIdeal.Mlp.ok m hb
  refine ⟨fun c => (Cert.DownDwOwnIdeal.Gen.dats m hO 0 c).arrAt 3 (Cert.DownDwOwnIdeal.Gen.cfgM m hO).N, Cert.DownDwOwnIdeal.Mlp.run m hO ρ, ?_⟩
  refine (θ_run _ _ _).mono (fun r h c => ?_) (Cert.DownDwOwnReferenceIdeal.Value.run m' ρ')
  obtain ⟨e, rest⟩ := h c
  refine ⟨(e.trans (Cert.DownDwOwnReferenceIdeal.Read.val_main_v14_eq _ _ _ _)).trans ?_, rest⟩
  obtain ⟨a0, a1, a2, a3⟩ := hag c
  rw [a0, a1, a2, a3]
  funext i
  obtain ⟨p, r, s, rfl⟩ : ∃ (p : Fin 4) (r : Fin 1024) (s : Fin 2048), i = ix3 p r s := ⟨i 0, i 1, i 2, eq_ix3 i⟩
  obtain rfl : c = 0 := Subsingleton.elim _ _
  have hx : ∀ j, m (((0 : Dev Cert.DownDwOwnIdeal.nD) : Thread Cert.DownDwOwnIdeal.nD Cert.DownDwOwnIdeal.τ).loc Cert.DownDwOwnIdeal.main_arg0) j = BitVec.ofNat 32 b.val :=
    fun j => (congrFun (Cert.DownDwOwnIdeal.Gen.V_main_arg0 m 0) j).symm.trans (congrFun (congrFun hb 0) j)
  exact (Cert.DownDwOwnReferenceIdeal.Mlp.value b _ hx _ _ _ p r s).trans (Cert.DownDwOwnIdeal.Mlp.final m hO hb 0 p r s).symm

end Cert.Mlp

end
-- ==== Proof.UpDwOther.lean ====
module

public import proofs.«01_k».proof.Defs
public import proofs.«01_k».proof.Proof.Owner
public import proofs.«01_k».proof.Proof.Product
public import proofs.«01_k».proof.Proof.Gen.Pre_is_core_up
public import proofs.«01_k».proof.Proof.Gen.UpDwOther.Frame
public import proofs.«01_k».proof.Proof.Gen.UpDwOtherIdeal.Frame
public import proofs.«01_k».proof.Proof.Gen.UpDwOtherReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the MLP's first weights, the half that the chip's other core keeps. -/

@[expose] public section

set_option maxRecDepth 16384

noncomputable section

namespace Cert.UpDwOther.Mlp

open Idealize.ShloMosaic Idealize.ShloMosaic.TcCoe Idealize.SL.Sem Cert.UpDwOther Cert.UpDwOther.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_up.Gen.facts

/-- The precondition says that the table holds a core's number. -/
theorem core (m : (ℓ : Loc nD τ sig) → Buf (Elt Bits) ℓ) (h : Cert.Pre_UpDwOther m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_UpDwOther m) : Ok m := by
  obtain ⟨b, hb⟩ := core m h
  unfold Ok
  rw [hb]
  clear hb
  revert b
  decide

end Cert.UpDwOther.Mlp

namespace Cert.UpDwOtherIdeal.Mlp

open Idealize.ShloMosaic Idealize.ShloMosaic.TcCoe Idealize.SL.Sem Cert.UpDwOtherIdeal Cert.UpDwOtherIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_up.Gen.facts

/-- The precondition says that the table holds a core's number. -/
theorem core (m : (ℓ : Loc nD τ sig) → Buf (Elt Ideal) ℓ) (h : Cert.Pre_UpDwOtherIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns. -/
theorem pay (u v : Vec Ideal S2048x1024 .bf16) (i j : Fin 1024) :
    k0_pay1 u v (ix3 0 i j) = ∑ k : Fin 2048, u (ix2 k i) * v (ix2 k j) := by
  unfold k0_pay1
  pointwise

/-- The body leaves its one tile. -/
theorem body (c : Dev nD) (i : grid0.Coords) (arg4 : Memref sig .tc .vmem S2048x1024 .bf16) (harg4 : arg4.IsWhole) (arg5 : Memref sig .tc .vmem S2048x1024 .bf16)
    (harg5 : arg5.IsWhole) (arg6 : Memref sig .tc .vmem S1x1024x1024 .bf16) (harg6 : arg6.IsWhole) (x0 x1 : Vec Ideal S2048x1024 .bf16) (xt0 : TbBuf0 (F := Ideal) c tbM0_0) :
    out0_A_2 c i arg4 harg4 arg5 harg5 arg6 harg6 x0 x1 xt0 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_2
  rw [View.read_writes_eq_canon _ _ _ (cover0_A_2 _ _ _ _ _ _ _ _ _ _ _)]
  unfold kernelRun0_A
  dsimp only
  sl_unfold_words
  rw [View.canon_unit_zero hz3]
  simp only [View.readAt_eq_ld, Memref.IsWhole.read_unread, View.ld_unit_zero (S := S2048x1024) hz2]

variable (m : (ℓ : Loc nD τ sig) → Buf (Elt Ideal) ℓ) (hO : Ok m)

/-- The layer's normalised input -/
abbrev hn (c : Dev nD) : S2048x2048.Idx → EReal := m ((c : Thread nD τ).loc main_arg1)
/-- and the cotangent, as launched. -/
abbrev dpre (c : Dev nD) : S2048x8192.Idx → EReal := m ((c : Thread nD τ).loc main_arg2)

/-- The input as the region finds it. -/
theorem V_hn (c : Dev nD) (i : S2048x2048.Idx) : V m c main_v0 i = hn m c i := by
  unfold V
  after_reads_at

/-- The cotangent as the region finds it. -/
theorem V_dpre (c : Dev nD) (i : S2048x8192.Idx) : V m c main_v1 i = dpre m c i := by
  unfold V
  after_reads_at

/-- Where each window's block lies at a point, for either core. -/
theorem index : ∀ (b : Fin 2) (t : Fin grid0.N),
    (cc0_transform_0 (grid0.coords t) 0 = 0 ∧ cc0_transform_0 (grid0.coords t) 1 = t.val / 4)
    ∧ (cc0_transform_1 inb_S1_S1_0 numel1_S1 (table b) (grid0.coords t) 0 = 0
      ∧ cc0_transform_1 inb_S1_S1_0 numel1_S1 (table b) (grid0.coords t) 1 = 2 * (t.val % 4) + (mine false b).val)
    ∧ (cc0_transform_2 (grid0.coords t) 0 = t.val % 4 ∧ cc0_transform_2 (grid0.coords t) 1 = t.val / 4 ∧ cc0_transform_2 (grid0.coords t) 2 = 0) := by
  decide +kernel

variable {b : Fin 2} (hb : tbl m = table b)

include hb in
/-- Where the cotangent's block lies. -/
theorem index1 (t : Fin grid0.N) : cc0_transform_1 inb_S1_S1_0 numel1_S1 (tbl m) (grid0.coords t) 0 = 0
    ∧ cc0_transform_1 inb_S1_S1_0 numel1_S1 (tbl m) (grid0.coords t) 1 = 2 * (t.val % 4) + (mine false b).val := by
  have h := (index b t).2.1
  rw [← hb] at h
  exact h

/-- What a point leaves is its tile. -/
theorem out (c : Dev nD) (t : Fin (cfgM m hO).N) :
    (outsAt0 m hO c t : S1x1024x1024.Idx → EReal) = k0_pay1 (iblk m hO c 0 t : Vec Ideal S2048x1024 .bf16) (iblk m hO c 1 t : Vec Ideal S2048x1024 .bf16) :=
  body c _ _ _ _ _ _ _ _ _ _

/-- Two points write two tiles. -/
theorem tiles (t t' : Fin (cfgM m hO).N) (h : ((cfgM m hO).win 2).index t = ((cfgM m hO).win 2).index t') : t = t' :=
  (by decide +kernel : ∀ t t' : Fin grid0.N, cc0_transform_2 (grid0.coords t) = cc0_transform_2 (grid0.coords t') → t = t') t t' h

/-- So each tile of the result is what its point wrote. -/
theorem tile (c : Dev nD) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (fun t t' _ _ hne => ((cfgM m hO).win 2).disjoint_blk fun h => hne (tiles m hO t t' h))
    (cfgM m hO).N t t.isLt (flush0_2 _ t)

/-- The point whose tile holds row `r` of chip `p`'s columns. -/
noncomputable def at_ (p : Fin 4) (r : Fin 2048) : Fin grid0.N := ⟨4 * (r.val / 1024) + p.val, by show _ < 8; omega⟩

/-- Its block row. -/
theorem at_row (p : Fin 4) (r : Fin 2048) : (at_ p r).val / 4 = r.val / 1024 := by
  show (4 * (r.val / 1024) + p.val) / 4 = _; omega
/-- Its chip. -/
theorem at_chip (p : Fin 4) (r : Fin 2048) : (at_ p r).val % 4 = p.val := by
  show (4 * (r.val / 1024) + p.val) % 4 = _; omega

/-- The input's block. -/
theorem blk0 (c : Dev nD) (p : Fin 4) (r k : Fin 2048) :
    (iblk m hO c 0 (at_ p r) : Vec Ideal S2048x1024 .bf16) (ix2 k (lo r)) = hn m c (ix2 k r) := by
  have hi := (index 0 (at_ p r)).1
  rw [at_row] at hi
  refine Eq.trans ?_ (V_hn m c (ix2 k r))
  refine congrArg (V m c main_v0) ?_
  funext a
  apply Fin.ext
  match a with
  | ⟨0, _⟩ => show cc0_transform_0 (grid0.coords (at_ p r)) 0 * 2048 + 1 * k.val = k.val; rw [hi.1]; omega
  | ⟨1, _⟩ => show cc0_transform_0 (grid0.coords (at_ p r)) 1 * 1024 + 1 * (r.val % 1024) = r.val; rw [hi.2]; omega

include hb in
/-- The cotangent's block. -/
theorem blk1 (c : Dev nD) (p : Fin 4) (r k : Fin 2048) (s : Fin 1024) :
    (iblk m hO c 1 (at_ p r) : Vec Ideal S2048x1024 .bf16) (ix2 k s) = dpre m c (ix2 k (ownedRow p (mine false b) s rfl)) := by
  have hi := index1 m hb (at_ p r)
  rw [at_chip] at hi
  refine Eq.trans ?_ (V_dpre m c (ix2 k (ownedRow p (mine false b) s rfl)))
  refine congrArg (V m c main_v1) ?_
  funext a
  apply Fin.ext
  match a with
  | ⟨0, _⟩ => show cc0_transform_1 inb_S1_S1_0 numel1_S1 (tbl m) (grid0.coords (at_ p r)) 0 * 2048 + 1 * k.val = k.val; rw [hi.1]; omega
  | ⟨1, _⟩ =>
    show cc0_transform_1 inb_S1_S1_0 numel1_S1 (tbl m) (grid0.coords (at_ p r)) 1 * 1024 + 1 * s.val = 1024 * (2 * p.val + (mine false b).val) + s.val
    rw [hi.2]; omega

/-- The result's tile, read off any array. -/
theorem blk2 (X : S4x2048x1024.Idx → EReal) (p : Fin 4) (r : Fin 2048) (s : Fin 1024) :
    X (ix3 p r s) = ((((cfgM m hO).win 2).blk (at_ p r)).view.read (Elt Ideal) X : S1x1024x1024.Idx → EReal) (ix3 0 (lo r) s) := by
  have hi := (index 0 (at_ p r)).2.2
  rw [at_row, at_chip] at hi
  refine congrArg X ?_
  funext a
  apply Fin.ext
  match a with
  | ⟨0, _⟩ => show p.val = cc0_transform_2 (grid0.coords (at_ p r)) 0 * 1 + 1 * 0; rw [hi.1]; omega
  | ⟨1, _⟩ => show r.val = cc0_transform_2 (grid0.coords (at_ p r)) 1 * 1024 + 1 * (r.val % 1024); rw [hi.2.1]; omega
  | ⟨2, _⟩ => show s.val = cc0_transform_2 (grid0.coords (at_ p r)) 2 * 1024 + 1 * s.val; rw [hi.2.2]; omega

include hb in
/-- The result array, element by element. -/
theorem final (c : Dev nD) (p : Fin 4) (r : Fin 2048) (s : Fin 1024) :
    ((dats m hO 0 c).arrAt 2 (cfgM m hO).N : S4x2048x1024.Idx → EReal) (ix3 p r s)
      = ∑ k : Fin 2048, hn m c (ix2 k r) * dpre m c (ix2 k (ownedRow p (mine false b) s rfl)) := by
  refine (blk2 m hO _ p r s).trans ((congrFun (tile m hO c (at_ p r)) (ix3 0 (lo r) s)).trans ?_)
  refine (congrFun ((after0_2 m hO c (at_ p r)).trans (out m hO c (at_ p r))) (ix3 0 (lo r) s)).trans ?_
  refine (pay (iblk m hO c 0 (at_ p r)) (iblk m hO c 1 (at_ p r)) (lo r) s).trans ?_
  refine Finset.sum_congr rfl fun k _ => ?_
  rw [blk0, blk1 m hO hb]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.UpDwOtherIdeal.Mlp

namespace Cert.UpDwOtherReferenceIdeal.Mlp

open Idealize.ShloMosaic Idealize.ShloMosaic.TcCoe Idealize.SL.Sem Cert.UpDwOtherReferenceIdeal Cert.UpDwOtherReferenceIdeal.Read Cert.Mlp

/-- The gradient, cut into the devices' blocks of columns. -/
theorem blocks (x1 : FVec Ideal S2048x2048 .f32) (x2 : FVec Ideal S2048x8192 .f32) (p : Fin 4) (q : Fin 2) (r : Fin 2048) (s : Fin 1024)
    (i : S4x2x2048x1024.Idx) (h0 : (i 0).val = p.val) (h1 : (i 1).val = q.val) (h2 : (i 2).val = r.val) (h3 : (i 3).val = s.val) :
    (val_main_v5 (F := Ideal) x1 x2 i : EReal) = ∑ k : Fin 2048, x1 (ix2 k r) * x2 (ix2 k (ownedRow p q s rfl)) := by
  rw [val_main_v5_apply, val_main_v4_apply, val_main_v3_apply, val_main_v2_apply]
  refine Finset.sum_congr rfl fun k _ => (mul_comm _ _).trans ?_
  have hr : ((((i 2).val * 4 + (i 0).val) * 2 + (i 1).val) * 1024 + (i 3).val) / 8192 = r.val := by
    rw [h0, h1, h2, h3]; omega
  have hs : ((((i 2).val * 4 + (i 0).val) * 2 + (i 1).val) * 1024 + (i 3).val) % 8192 = 1024 * (2 * p.val + q.val) + s.val := by
    rw [h0, h1, h2, h3]; omega
  congr 2
  · funext a
    apply Fin.ext
    match a with
    | ⟨0, _⟩ => rfl
    | ⟨1, _⟩ => exact hr
  · funext a
    apply Fin.ext
    match a with
    | ⟨0, _⟩ => rfl
    | ⟨1, _⟩ => exact hs

/-- The reference's result, element by element, on either core. -/
theorem value (b : Fin 2) (x0 : IVec S1 32) (hx : ∀ i, x0 i = BitVec.ofNat 32 b.val) (x1 : FVec Ideal S2048x2048 .f32) (x2 : FVec Ideal S2048x8192 .f32)
    (p : Fin 4) (r : Fin 2048) (s : Fin 1024) :
    (val_main_v13 (F := Ideal) x0 x1 x2 (ix3 p r s) : EReal) = ∑ k : Fin 2048, x1 (ix2 k r) * x2 (ix2 k (ownedRow p (mine false b) s rfl)) := by
  have e0 : ((p.val * 2048 + r.val) * 1024 + s.val) / 2097152 = p.val := by omega
  have e2 : ((p.val * 2048 + r.val) * 1024 + s.val) / 1024 % 2048 = r.val := by omega
  have e3 : ((p.val * 2048 + r.val) * 1024 + s.val) % 1024 = s.val := by omega
  have hc : val_main_v7 (F := Ideal) x0 = fun _ => IntOp.cmpi .eq (BitVec.ofNat 32 b.val) 0#32 := by
    funext i
    unfold val_main_v7 val_main_v6 val_main_c
    exact congrArg (fun x => IntOp.cmpi .eq x 0#32) (hx _)
  rw [val_main_v13_apply]
  unfold val_main_v12
  rw [hc]
  match b with
  | ⟨0, _⟩ =>
    refine Eq.trans ?_ (blocks x1 x2 p 1 r s (idx_main_v8 (idx_main_v9 (ix3 p r s))) e0 rfl e2 e3)
    rw [← val_main_v8_apply, ← val_main_v9_apply]
    rfl
  | ⟨1, _⟩ =>
    refine Eq.trans ?_ (blocks x1 x2 p 0 r s (idx_main_v10 (idx_main_v11 (ix3 p r s))) e0 rfl e2 e3)
    rw [← val_main_v10_apply, ← val_main_v11_apply]
    rfl

end Cert.UpDwOtherReferenceIdeal.Mlp

namespace Cert.Mlp

open Idealize.ShloMosaic Idealize.ShloMosaic.TcCoe Idealize.SL.Sem

attribute [local instance] Cert.Pre_is_core_up.Gen.facts

/-- The gradient's program runs and keeps its arguments. -/
theorem frame_UpDwOther : Cert.quiescent_UpDwOther (hUpDwOther := Cert.UpDwOther.Gen.facts) := fun m ρ h =>
  Cert.UpDwOther.Gen.frame m ρ (Cert.UpDwOther.Mlp.ok m h)

/-- Its idealization runs and keeps its arguments. -/
theorem frame_UpDwOtherIdeal : Cert.quiescent_UpDwOtherIdeal (hUpDwOtherIdeal := Cert.UpDwOtherIdeal.Gen.facts) := fun m ρ h =>
  Cert.UpDwOtherIdeal.Gen.frame m ρ (Cert.UpDwOtherIdeal.Mlp.ok m (Cert.UpDwOtherIdeal.Mlp.core m h).choose_spec)

/-- Its reference runs and keeps its arguments. -/
theorem frame_UpDwOtherReferenceIdeal : Cert.quiescent_UpDwOtherReferenceIdeal (hUpDwOtherReferenceIdeal := Cert.UpDwOtherReferenceIdeal.Gen.facts) := fun m ρ _ =>
  (θ_run Cert.UpDwOtherReferenceIdeal.defs _ _).mono (fun r h => ⟨fun c => (h c).2, sem_eq_zero_of_no_sems (by decide) r.2⟩)
    (Cert.UpDwOtherReferenceIdeal.Value.run (F := Ideal) m ρ)

/-- The kernel's result and the reference's are equal, for any arguments on either core. -/
theorem same_UpDwOther : Cert.algebraic_UpDwOtherIdeal_UpDwOtherReferenceIdeal (hUpDwOtherIdeal := Cert.UpDwOtherIdeal.Gen.facts)
    (hUpDwOtherReferenceIdeal := Cert.UpDwOtherReferenceIdeal.Gen.facts) := by
  intro m ρ m' ρ' hp hag
  obtain ⟨b, hb⟩ := Cert.UpDwOtherIdeal.Mlp.core m hp
  have hO := Cert.UpDwOtherIdeal.Mlp.ok m hb
  refine ⟨fun c => (Cert.UpDwOtherIdeal.Gen.dats m hO 0 c).arrAt 2 (Cert.UpDwOtherIdeal.Gen.cfgM m hO).N, Cert.UpDwOtherIdeal.Mlp.run m hO ρ, ?_⟩
  refine (θ_run _ _ _).mono (fun r h c => ?_) (Cert.UpDwOtherReferenceIdeal.Value.run m' ρ')
  obtain ⟨e, rest⟩ := h c
  refine ⟨(e.trans (Cert.UpDwOtherReferenceIdeal.Read.val_main_v13_eq _ _ _)).trans ?_, rest⟩
  obtain ⟨a0, a1, a2⟩ := hag c
  rw [a0, a1, a2]
  funext i
  obtain ⟨p, r, s, rfl⟩ : ∃ (p : Fin 4) (r : Fin 2048) (s : Fin 1024), i = ix3 p r s := ⟨i 0, i 1, i 2, eq_ix3 i⟩
  obtain rfl : c = 0 := Subsingleton.elim _ _
  have hx : ∀ j, m (((0 : Dev Cert.UpDwOtherIdeal.nD) : Thread Cert.UpDwOtherIdeal.nD Cert.UpDwOtherIdeal.τ).loc Cert.UpDwOtherIdeal.main_arg0) j = BitVec.ofNat 32 b.val :=
    fun j => (congrFun (Cert.UpDwOtherIdeal.Gen.V_main_arg0 m 0) j).symm.trans (congrFun (congrFun hb 0) j)
  exact (Cert.UpDwOtherReferenceIdeal.Mlp.value b _ hx _ _ p r s).trans (Cert.UpDwOtherIdeal.Mlp.final m hO hb 0 p r s).symm

end Cert.Mlp

end
-- ==== Proof.UpDwOwn.lean ====
module

public import proofs.«01_k».proof.Defs
public import proofs.«01_k».proof.Proof.Owner
public import proofs.«01_k».proof.Proof.Product
public import proofs.«01_k».proof.Proof.UpDwOther
public import proofs.«01_k».proof.Proof.Gen.Pre_is_core_up_own
public import proofs.«01_k».proof.Proof.Gen.UpDwOwn.Frame
public import proofs.«01_k».proof.Proof.Gen.UpDwOwnIdeal.Frame
public import proofs.«01_k».proof.Proof.Gen.UpDwOwnReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the MLP's first weights, the half that this core keeps. -/

@[expose] public section

set_option maxRecDepth 16384

noncomputable section

namespace Cert.UpDwOwn.Mlp

open Idealize.ShloMosaic Idealize.ShloMosaic.TcCoe Idealize.SL.Sem Cert.UpDwOwn Cert.UpDwOwn.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_up_own.Gen.facts

/-- The precondition says that the table holds a core's number. -/
theorem core (m : (ℓ : Loc nD τ sig) → Buf (Elt Bits) ℓ) (h : Cert.Pre_UpDwOwn m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_UpDwOwn m) : Ok m := by
  obtain ⟨b, hb⟩ := core m h
  unfold Ok
  rw [hb]
  clear hb
  revert b
  decide

end Cert.UpDwOwn.Mlp

namespace Cert.UpDwOwnIdeal.Mlp

open Idealize.ShloMosaic Idealize.ShloMosaic.TcCoe Idealize.SL.Sem Cert.UpDwOwnIdeal Cert.UpDwOwnIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_up_own.Gen.facts

/-- The precondition says that the table holds a core's number. -/
theorem core (m : (ℓ : Loc nD τ sig) → Buf (Elt Ideal) ℓ) (h : Cert.Pre_UpDwOwnIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns and what the other core computed. -/
theorem pay (u v : Vec Ideal S2048x1024 .bf16) (w : Vec Ideal S1x1024x1024 .bf16) (i j : Fin 1024) :
    k0_pay1 u v w (ix3 0 i j) = (∑ k : Fin 2048, u (ix2 k i) * v (ix2 k j)) + w (ix3 0 i j) := by
  unfold k0_pay1
  pointwise

/-- The body leaves its one tile. -/
theorem body (c : Dev nD) (i : grid0.Coords) (arg4 : Memref sig .tc .vmem S2048x1024 .bf16) (harg4 : arg4.IsWhole) (arg5 : Memref sig .tc .vmem S2048x1024 .bf16)
    (harg5 : arg5.IsWhole) (arg6 : Memref sig .tc .vmem S1x1024x1024 .bf16) (harg6 : arg6.IsWhole) (arg7 : Memref sig .tc .vmem S1x1024x1024 .bf16) (harg7 : arg7.IsWhole)
    (x0 x1 : Vec Ideal S2048x1024 .bf16) (x2 : Vec Ideal S1x1024x1024 .bf16) (xt0 : TbBuf0 (F := Ideal) c tbM0_0) :
    out0_A_3 c i arg4 harg4 arg5 harg5 arg6 harg6 arg7 harg7 x0 x1 x2 xt0 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_3
  rw [View.read_writes_eq_canon _ _ _ (cover0_A_3 _ _ _ _ _ _ _ _ _ _ _ _ _ _)]
  unfold kernelRun0_A
  dsimp only
  sl_unfold_words
  rw [View.canon_unit_zero hz3]
  simp only [View.readAt_eq_ld, Memref.IsWhole.read_unread, View.ld_unit_zero (S := S2048x1024) hz2, View.ld_unit_zero (S := S1x1024x1024) hz3]

variable (m : (ℓ : Loc nD τ sig) → Buf (Elt Ideal) ℓ) (hO : Ok m)

/-- The layer's normalised input -/
abbrev hn (c : Dev nD) : S2048x2048.Idx → EReal := m ((c : Thread nD τ).loc main_arg1)
/-- and the cotangent -/
abbrev dpre (c : Dev nD) : S2048x8192.Idx → EReal := m ((c : Thread nD τ).loc main_arg2)
/-- and the other core's product, as launched. -/
abbrev recv (c : Dev nD) : S4x2048x1024.Idx → EReal := m ((c : Thread nD τ).loc main_arg3)

/-- The input as the region finds it. -/
theorem V_hn (c : Dev nD) (i : S2048x2048.Idx) : V m c main_v0 i = hn m c i := by
  unfold V
  after_reads_at

/-- The cotangent as the region finds it. -/
theorem V_dpre (c : Dev nD) (i : S2048x8192.Idx) : V m c main_v1 i = dpre m c i := by
  unfold V
  after_reads_at

/-- Where each window's block lies at a point, for either core. -/
theorem index : ∀ (b : Fin 2) (t : Fin grid0.N),
    (cc0_transform_0 (grid0.coords t) 0 = 0 ∧ cc0_transform_0 (grid0.coords t) 1 = t.val / 4)
    ∧ (cc0_transform_1 inb_S1_S1_0 numel1_S1 (table b) (grid0.coords t) 0 = 0
      ∧ cc0_transform_1 inb_S1_S1_0 numel1_S1 (table b) (grid0.coords t) 1 = 2 * (t.val % 4) + (mine true b).val)
    ∧ (cc0_transform_3 (grid0.coords t) 0 = t.val % 4 ∧ cc0_transform_3 (grid0.coords t) 1 = t.val / 4 ∧ cc0_transform_3 (grid0.coords t) 2 = 0)
    ∧ (cc0_transform_2 (grid0.coords t) 0 = t.val % 4 ∧ cc0_transform_2 (grid0.coords t) 1 = t.val / 4 ∧ cc0_transform_2 (grid0.coords t) 2 = 0) := by
  decide +kernel

variable {b : Fin 2} (hb : tbl m = table b)

include hb in
/-- Where the cotangent's block lies. -/
theorem index1 (t : Fin grid0.N) : cc0_transform_1 inb_S1_S1_0 numel1_S1 (tbl m) (grid0.coords t) 0 = 0
    ∧ cc0_transform_1 inb_S1_S1_0 numel1_S1 (tbl m) (grid0.coords t) 1 = 2 * (t.val % 4) + (mine true b).val := by
  have h := (index b t).2.1
  rw [← hb] at h
  exact h

/-- What a point leaves is its tile. -/
theorem out (c : Dev nD) (t : Fin (cfgM m hO).N) :
    (outsAt0 m hO c t : S1x1024x1024.Idx → EReal) = k0_pay1 (iblk m hO c 0 t : Vec Ideal S2048x1024 .bf16) (iblk m hO c 1 t : Vec Ideal S2048x1024 .bf16) (iblk m hO c 2 t : Vec Ideal S1x1024x1024 .bf16) :=
  body c _ _ _ _ _ _ _ _ _ _ _ _ _

/-- Two points write two tiles. -/
theorem tiles (t t' : Fin (cfgM m hO).N) (h : ((cfgM m hO).win 3).index t = ((cfgM m hO).win 3).index t') : t = t' :=
  (by decide +kernel : ∀ t t' : Fin grid0.N, cc0_transform_3 (grid0.coords t) = cc0_transform_3 (grid0.coords t') → t = t') t t' h

/-- So each tile of the result is what its point wrote. -/
theorem tile (c : Dev nD) (t : Fin (cfgM m hO).N) :
    (((cfgM m hO).win 3).blk t).view.read (Elt Ideal) ((dats m hO 0 c).arrAt 3 (cfgM m hO).N) = (dats m hO 0 c).flushed 3 t :=
  (dats m hO 0 c).read_blk_arrAt_eq_flushed 3 (fun t t' _ _ hne => ((cfgM m hO).win 3).disjoint_blk fun h => hne (tiles m hO t t' h))
    (cfgM m hO).N t t.isLt (flush0_3 _ t)

/-- The point whose tile holds row `r` of chip `p`'s columns. -/
noncomputable def at_ (p : Fin 4) (r : Fin 2048) : Fin grid0.N := ⟨4 * (r.val / 1024) + p.val, by show _ < 8; omega⟩

/-- Its block row. -/
theorem at_row (p : Fin 4) (r : Fin 2048) : (at_ p r).val / 4 = r.val / 1024 := by
  show (4 * (r.val / 1024) + p.val) / 4 = _; omega
/-- Its chip. -/
theorem at_chip (p : Fin 4) (r : Fin 2048) : (at_ p r).val % 4 = p.val := by
  show (4 * (r.val / 1024) + p.val) % 4 = _; omega

/-- The input's block. -/
theorem blk0 (c : Dev nD) (p : Fin 4) (r k : Fin 2048) :
    (iblk m hO c 0 (at_ p r) : Vec Ideal S2048x1024 .bf16) (ix2 k (lo r)) = hn m c (ix2 k r) := by
  have hi := (index 0 (at_ p r)).1
  rw [at_row] at hi
  refine Eq.trans ?_ (V_hn m c (ix2 k r))
  refine congrArg (V m c main_v0) ?_
  funext a
  apply Fin.ext
  match a with
  | ⟨0, _⟩ => show cc0_transform_0 (grid0.coords (at_ p r)) 0 * 2048 + 1 * k.val = k.val; rw [hi.1]; omega
  | ⟨1, _⟩ => show cc0_transform_0 (grid0.coords (at_ p r)) 1 * 1024 + 1 * (r.val % 1024) = r.val; rw [hi.2]; omega

include hb in
/-- The cotangent's block. -/
theorem blk1 (c : Dev nD) (p : Fin 4) (r k : Fin 2048) (s : Fin 1024) :
    (iblk m hO c 1 (at_ p r) : Vec Ideal S2048x1024 .bf16) (ix2 k s) = dpre m c (ix2 k (ownedRow p (mine true b) s rfl)) := by
  have hi := index1 m hb (at_ p r)
  rw [at_chip] at hi
  refine Eq.trans ?_ (V_dpre m c (ix2 k (ownedRow p (mine true b) s rfl)))
  refine congrArg (V m c main_v1) ?_
  funext a
  apply Fin.ext
  match a with
  | ⟨0, _⟩ => show cc0_transform_1 inb_S1_S1_0 numel1_S1 (tbl m) (grid0.coords (at_ p r)) 0 * 2048 + 1 * k.val = k.val; rw [hi.1]; omega
  | ⟨1, _⟩ =>
    show cc0_transform_1 inb_S1_S1_0 numel1_S1 (tbl m) (grid0.coords (at_ p r)) 1 * 1024 + 1 * s.val = 1024 * (2 * p.val + (mine true b).val) + s.val
    rw [hi.2]; omega

/-- The other core's tile. -/
theorem blk2 (c : Dev nD) (p : Fin 4) (r : Fin 2048) (s : Fin 1024) :
    (iblk m hO c 2 (at_ p r) : Vec Ideal S1x1024x1024 .bf16) (ix3 0 (lo r) s) = recv m c (ix3 p r s) := by
  have hi := (index 0 (at_ p r)).2.2.2
  rw [at_row, at_chip] at hi
  refine Eq.trans ?_ (congrFun (V_main_arg3 m c) (ix3 p r s))
  refine congrArg (V m c main_arg3) ?_
  funext a
  apply Fin.ext
  match a with
  | ⟨0, _⟩ => show cc0_transform_2 (grid0.coords (at_ p r)) 0 * 1 + 1 * 0 = p.val; rw [hi.1]; omega
  | ⟨1, _⟩ => show cc0_transform_2 (grid0.coords (at_ p r)) 1 * 1024 + 1 * (r.val % 1024) = r.val; rw [hi.2.1]; omega
  | ⟨2, _⟩ => show cc0_transform_2 (grid0.coords (at_ p r)) 2 * 1024 + 1 * s.val = s.val; rw [hi.2.2]; omega

/-- The result's tile, read off any array. -/
theorem blk3 (X : S4x2048x1024.Idx → EReal) (p : Fin 4) (r : Fin 2048) (s : Fin 1024) :
    X (ix3 p r s) = ((((cfgM m hO).win 3).blk (at_ p r)).view.read (Elt Ideal) X : S1x1024x1024.Idx → EReal) (ix3 0 (lo r) s) := by
  have hi := (index 0 (at_ p r)).2.2.1
  rw [at_row, at_chip] at hi
  refine congrArg X ?_
  funext a
  apply Fin.ext
  match a with
  | ⟨0, _⟩ => show p.val = cc0_transform_3 (grid0.coords (at_ p r)) 0 * 1 + 1 * 0; rw [hi.1]; omega
  | ⟨1, _⟩ => show r.val = cc0_transform_3 (grid0.coords (at_ p r)) 1 * 1024 + 1 * (r.val % 1024); rw [hi.2.1]; omega
  | ⟨2, _⟩ => show s.val = cc0_transform_3 (grid0.coords (at_ p r)) 2 * 1024 + 1 * s.val; rw [hi.2.2]; omega

include hb in
/-- The result array, element by element. -/
theorem final (c : Dev nD) (p : Fin 4) (r : Fin 2048) (s : Fin 1024) :
    ((dats m hO 0 c).arrAt 3 (cfgM m hO).N : S4x2048x1024.Idx → EReal) (ix3 p r s)
      = (∑ k : Fin 2048, hn m c (ix2 k r) * dpre m c (ix2 k (ownedRow p (mine true b) s rfl))) + recv m c (ix3 p r s) := by
  refine (blk3 m hO _ p r s).trans ((congrFun (tile m hO c (at_ p r)) (ix3 0 (lo r) s)).trans ?_)
  refine (congrFun ((after0_3 m hO c (at_ p r)).trans (out m hO c (at_ p r))) (ix3 0 (lo r) s)).trans ?_
  refine (pay (iblk m hO c 0 (at_ p r)) (iblk m hO c 1 (at_ p r)) (iblk m hO c 2 (at_ p r)) (lo r) s).trans ?_
  refine congrArg₂ (· + ·) (Finset.sum_congr rfl fun k _ => ?_) (blk2 m hO c p r s)
  rw [blk0, blk1 m hO hb]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

end Cert.UpDwOwnIdeal.Mlp

namespace Cert.UpDwOwnReferenceIdeal.Mlp

open Idealize.ShloMosaic Idealize.ShloMosaic.TcCoe Idealize.SL.Sem Cert.UpDwOwnReferenceIdeal Cert.UpDwOwnReferenceIdeal.Read Cert.Mlp

/-- The gradient, cut into the devices' blocks of columns. -/
theorem blocks (x1 : FVec Ideal S2048x2048 .f32) (x2 : FVec Ideal S2048x8192 .f32) (p : Fin 4) (q : Fin 2) (r : Fin 2048) (s : Fin 1024)
    (i : S4x2x2048x1024.Idx) (h0 : (i 0).val = p.val) (h1 : (i 1).val = q.val) (h2 : (i 2).val = r.val) (h3 : (i 3).val = s.val) :
    (val_main_v5 (F := Ideal) x1 x2 i : EReal) = ∑ k : Fin 2048, x1 (ix2 k r) * x2 (ix2 k (ownedRow p q s rfl)) :=
  Cert.UpDwOtherReferenceIdeal.Mlp.blocks x1 x2 p q r s i h0 h1 h2 h3

/-- The half which the reference takes, on either core. -/
theorem half (b : Fin 2) (x0 : IVec S1 32) (hx : ∀ i, x0 i = BitVec.ofNat 32 b.val) (x1 : FVec Ideal S2048x2048 .f32) (x2 : FVec Ideal S2048x8192 .f32)
    (p : Fin 4) (r : Fin 2048) (s : Fin 1024) :
    (val_main_v12 (F := Ideal) x0 x1 x2 (ix3 p r s) : EReal) = ∑ k : Fin 2048, x1 (ix2 k r) * x2 (ix2 k (ownedRow p (mine true b) s rfl)) := by
  have e0 : ((p.val * 2048 + r.val) * 1024 + s.val) / 2097152 = p.val := by omega
  have e2 : ((p.val * 2048 + r.val) * 1024 + s.val) / 1024 % 2048 = r.val := by omega
  have e3 : ((p.val * 2048 + r.val) * 1024 + s.val) % 1024 = s.val := by omega
  have hc : val_main_v7 (F := Ideal) x0 = fun _ => IntOp.cmpi .eq (BitVec.ofNat 32 b.val) 0#32 := by
    funext i
    unfold val_main_v7 val_main_v6 val_main_c
    exact congrArg (fun x => IntOp.cmpi .eq x 0#32) (hx _)
  unfold val_main_v12
  rw [hc]
  match b with
  | ⟨0, _⟩ =>
    refine Eq.trans ?_ (blocks x1 x2 p 0 r s (idx_main_v8 (idx_main_v9 (ix3 p r s))) e0 rfl e2 e3)
    rw [← val_main_v8_apply, ← val_main_v9_apply]
    rfl
  | ⟨1, _⟩ =>
    refine Eq.trans ?_ (blocks x1 x2 p 1 r s (idx_main_v10 (idx_main_v11 (ix3 p r s))) e0 rfl e2 e3)
    rw [← val_main_v10_apply, ← val_main_v11_apply]
    rfl

/-- The reference's result, element by element. -/
theorem value (b : Fin 2) (x0 : IVec S1 32) (hx : ∀ i, x0 i = BitVec.ofNat 32 b.val) (x1 : FVec Ideal S2048x2048 .f32) (x2 : FVec Ideal S2048x8192 .f32)
    (x3 : FVec Ideal S4x2048x1024 .bf16) (p : Fin 4) (r : Fin 2048) (s : Fin 1024) :
    (val_main_v15 (F := Ideal) x0 x1 x2 x3 (ix3 p r s) : EReal)
      = (∑ k : Fin 2048, x1 (ix2 k r) * x2 (ix2 k (ownedRow p (mine true b) s rfl))) + x3 (ix3 p r s) := by
  rw [val_main_v15_apply, val_main_v14_apply]
  exact congrArg (· + (x3 (ix3 p r s) : EReal)) (half b x0 hx x1 x2 p r s)

end Cert.UpDwOwnReferenceIdeal.Mlp

namespace Cert.Mlp

open Idealize.ShloMosaic Idealize.ShloMosaic.TcCoe Idealize.SL.Sem

attribute [local instance] Cert.Pre_is_core_up_own.Gen.facts

/-- The gradient's program runs and keeps its arguments. -/
theorem frame_UpDwOwn : Cert.quiescent_UpDwOwn (hUpDwOwn := Cert.UpDwOwn.Gen.facts) := fun m ρ h =>
  Cert.UpDwOwn.Gen.frame m ρ (Cert.UpDwOwn.Mlp.ok m h)

/-- Its idealization runs and keeps its arguments. -/
theorem frame_UpDwOwnIdeal : Cert.quiescent_UpDwOwnIdeal (hUpDwOwnIdeal := Cert.UpDwOwnIdeal.Gen.facts) := fun m ρ h =>
  Cert.UpDwOwnIdeal.Gen.frame m ρ (Cert.UpDwOwnIdeal.Mlp.ok m (Cert.UpDwOwnIdeal.Mlp.core m h).choose_spec)

/-- Its reference runs and keeps its arguments. -/
theorem frame_UpDwOwnReferenceIdeal : Cert.quiescent_UpDwOwnReferenceIdeal (hUpDwOwnReferenceIdeal := Cert.UpDwOwnReferenceIdeal.Gen.facts) := fun m ρ _ =>
  (θ_run Cert.UpDwOwnReferenceIdeal.defs _ _).mono (fun r h => ⟨fun c => (h c).2, sem_eq_zero_of_no_sems (by decide) r.2⟩)
    (Cert.UpDwOwnReferenceIdeal.Value.run (F := Ideal) m ρ)

/-- The kernel's result and the reference's are equal, for any arguments on either core. -/
theorem same_UpDwOwn : Cert.algebraic_UpDwOwnIdeal_UpDwOwnReferenceIdeal (hUpDwOwnIdeal := Cert.UpDwOwnIdeal.Gen.facts)
    (hUpDwOwnReferenceIdeal := Cert.UpDwOwnReferenceIdeal.Gen.facts) := by
  intro m ρ m' ρ' hp hag
  obtain ⟨b, hb⟩ := Cert.UpDwOwnIdeal.Mlp.core m hp
  have hO := Cert.UpDwOwnIdeal.Mlp.ok m hb
  refine ⟨fun c => (Cert.UpDwOwnIdeal.Gen.dats m hO 0 c).arrAt 3 (Cert.UpDwOwnIdeal.Gen.cfgM m hO).N, Cert.UpDwOwnIdeal.Mlp.run m hO ρ, ?_⟩
  refine (θ_run _ _ _).mono (fun r h c => ?_) (Cert.UpDwOwnReferenceIdeal.Value.run m' ρ')
  obtain ⟨e, rest⟩ := h c
  refine ⟨(e.trans (Cert.UpDwOwnReferenceIdeal.Read.val_main_v15_eq _ _ _ _)).trans ?_, rest⟩
  obtain ⟨a0, a1, a2, a3⟩ := hag c
  rw [a0, a1, a2, a3]
  funext i
  obtain ⟨p, r, s, rfl⟩ : ∃ (p : Fin 4) (r : Fin 2048) (s : Fin 1024), i = ix3 p r s := ⟨i 0, i 1, i 2, eq_ix3 i⟩
  obtain rfl : c = 0 := Subsingleton.elim _ _
  have hx : ∀ j, m (((0 : Dev Cert.UpDwOwnIdeal.nD) : Thread Cert.UpDwOwnIdeal.nD Cert.UpDwOwnIdeal.τ).loc Cert.UpDwOwnIdeal.main_arg0) j = BitVec.ofNat 32 b.val :=
    fun j => (congrFun (Cert.UpDwOwnIdeal.Gen.V_main_arg0 m 0) j).symm.trans (congrFun (congrFun hb 0) j)
  exact (Cert.UpDwOwnReferenceIdeal.Mlp.value b _ hx _ _ _ p r s).trans (Cert.UpDwOwnIdeal.Mlp.final m hO hb 0 p r s).symm

end Cert.Mlp

end
-- ==== Proof.SquareDx.lean ====
module

public import proofs.«01_k».proof.Defs
public import proofs.«01_k».proof.Proof.RealGate
public import proofs.«01_k».proof.Proof.Product
public import proofs.«01_k».proof.Proof.Gen.SquareDx.Frame
public import proofs.«01_k».proof.Proof.Gen.SquareDxIdeal.Value
public import proofs.«01_k».proof.Proof.Gen.SquareDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through a mixer's square product: four tiles, each one product of whole rows. -/

@[expose] public section

set_option maxRecDepth 16384

noncomputable section

namespace Cert.SquareDxIdeal.Mlp

open Idealize.ShloMosaic Idealize.ShloMosaic.TcCoe Idealize.SL.Sem Cert.SquareDxIdeal Cert.SquareDxIdeal.Gen Cert.SquareDxIdeal.Value Cert.Gate Cert.Mlp

/-- A tile of the result: the product of two row blocks. -/
theorem pay (u v : Vec Ideal S1024x2048 .bf16) (i j : Fin 1024) :
    (k0_pay1 u v (ix2 i j) : EReal) = ∑ k : Fin 2048, u (ix2 i k) * v (ix2 j k) := by
  unfold k0_pay1
  pointwise

/-- The body's result is its one tile. -/
theorem out (u v : Vec Ideal S1024x2048 .bf16) : out0_2 u v = k0_pay1 u v := by
  have hz : (![0, 0] : Fin 2 → Nat) = fun _ => 0 := funext fun a => by fin_cases a <;> rfl
  unfold out0_2
  rw [View.canon_unit_zero hz]
  simp only [View.ld_unit_zero (S := S1024x2048) hz]

variable (m : (ℓ : Loc nD τ sig) → Buf (Elt Ideal) ℓ)

/-- The weights -/
abbrev w (c : Dev nD) : S2048x2048.Idx → EReal := m ((c : Thread nD τ).loc main_arg1)
/-- and the cotangent, as launched. -/
abbrev dy (c : Dev nD) : S2048x2048.Idx → EReal := m ((c : Thread nD τ).loc main_arg2)

/-- The cotangent as the region finds it. -/
theorem V_dy (c : Dev nD) (i : S2048x2048.Idx) : V m c main_v0 i = dy m c i := by
  unfold V
  after_reads_at

/-- The weights as the region finds them. -/
theorem V_w (c : Dev nD) (i : S2048x2048.Idx) : V m c main_v1 i = w m c i := by
  unfold V
  after_reads_at

/-- Where each window's block lies at a point. -/
theorem index (t : Fin cfg0.N) : (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) :=
  (by decide +kernel : ∀ t : Fin grid0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2)) t

/-- The point whose tile holds row `r` and column `s`. -/
def at_ (r s : Fin 2048) : Fin cfg0.N := ⟨2 * (r.val / 1024) + s.val / 1024, by have hN : cfg0.N = 4 := N_0; omega⟩

/-- Its block row and block column. -/
theorem at_parts (r s : Fin 2048) : (at_ r s).val / 2 = r.val / 1024 ∧ (at_ r s).val % 2 = s.val / 1024 := by
  show (2 * (r.val / 1024) + s.val / 1024) / 2 = _ ∧ (2 * (r.val / 1024) + s.val / 1024) % 2 = _
  omega

/-- The cotangent's block. -/
theorem blk0 (c : Dev nD) (r s k : Fin 2048) :
    (iblk m c 0 (at_ r s) : Vec Ideal S1024x2048 .bf16) (ix2 (lo r) k) = dy m c (ix2 r k) := by
  have hi := (index (at_ r s)).1
  rw [(at_parts r s).1] at hi
  refine Eq.trans ?_ (V_dy m c (ix2 r k))
  unfold iblk
  rw [View.read_apply]
  show V m c main_v0 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r s k : Fin 2048) :
    (iblk m c 1 (at_ r s) : Vec Ideal S1024x2048 .bf16) (ix2 (lo s) k) = w m c (ix2 s k) := by
  have hi := (index (at_ r s)).2.1
  rw [(at_parts r s).2] at hi
  refine Eq.trans ?_ (V_w m c (ix2 s k))
  unfold iblk
  rw [View.read_apply]
  show V m c main_v1 _ = _
  congr 1
  funext a
  apply Fin.ext
  match a with
  | ⟨0, _⟩ => show win0_1.index (at_ r s) 0 * 1024 + 1 * (s.val % 1024) = s.val; rw [hi.1]; omega
  | ⟨1, _⟩ => show win0_1.index (at_ r s) 1 * 2048 + 1 * k.val = k.val; rw [hi.2]; omega

/-- The result array, element by element. -/
theorem final (c : Dev nD) (r s : Fin 2048) :
    ((dats m 0 c).arrAt 2 cfg0.N : S2048x2048.Idx → EReal) (ix2 r s) = ∑ k : Fin 2048, dy m c (ix2 r k) * w m c (ix2 s k) := by
  have key := congrFun (blocks2 m c (at_ r s) (flush0_2 _)) (ix2 (lo r) (lo s))
  rw [View.read_apply, flushed2, out] at key
  have hi := (index (at_ r s)).2.2
  rw [(at_parts r s).1, (at_parts r s).2] at hi
  refine Eq.trans ?_ (key.trans ?_)
  · congr 1
    funext a
    apply Fin.ext
    match a with
    | ⟨0, _⟩ => show r.val = win0_2.index (at_ r s) 0 * 1024 + 1 * (r.val % 1024); rw [hi.1]; omega
    | ⟨1, _⟩ => show s.val = win0_2.index (at_ r s) 1 * 1024 + 1 * (s.val % 1024); rw [hi.2]; omega
  · refine (pay (iblk m c 0 (at_ r s)) (iblk m c 1 (at_ r s)) (lo r) (lo s)).trans ?_
    exact Finset.sum_congr rfl fun k _ => congrArg₂ (· * ·) (blk0 m c r s k) (blk1 m c r s k)

end Cert.SquareDxIdeal.Mlp

namespace Cert.SquareDxReferenceIdeal.Mlp

open Idealize.ShloMosaic Idealize.ShloMosaic.TcCoe Idealize.SL.Sem Cert.SquareDxReferenceIdeal Cert.SquareDxReferenceIdeal.Read Cert.Gate

/-- The reference's result, element by element. -/
theorem value (x1 x2 : FVec Ideal S2048x2048 .f32) (r s : Fin 2048) :
    (val_main_v1 (F := Ideal) x1 x2 (ix2 r s) : EReal) = ∑ k : Fin 2048, x2 (ix2 r k) * x1 (ix2 s k) := by
  rw [val_main_v1_apply]
  refine Finset.sum_congr rfl fun k _ => ?_
  congr 2 <;> exact eq_ix2 _

end Cert.SquareDxReferenceIdeal.Mlp

namespace Cert.Mlp

open Idealize.ShloMosaic Idealize.ShloMosaic.TcCoe Idealize.SL.Sem Cert.Gate

/-- The gradient's program runs and keeps its arguments. -/
theorem frame_SquareDx : Cert.quiescent_SquareDx (hSquareDx := Cert.SquareDx.Gen.facts) := fun m ρ _ =>
  Cert.SquareDx.Gen.frame m ρ

/-- Its idealization runs and keeps its arguments. -/
theorem frame_SquareDxIdeal : Cert.quiescent_SquareDxIdeal (hSquareDxIdeal := Cert.SquareDxIdeal.Gen.facts) := fun m ρ _ =>
  Cert.SquareDxIdeal.Gen.frame m ρ

/-- Its reference runs and keeps its arguments. -/
theorem frame_SquareDxReferenceIdeal : Cert.quiescent_SquareDxReferenceIdeal (hSquareDxReferenceIdeal := Cert.SquareDxReferenceIdeal.Gen.facts) := fun m ρ _ =>
  (θ_run Cert.SquareDxReferenceIdeal.defs _ _).mono (fun r h => ⟨fun c => (h c).2, sem_eq_zero_of_no_sems (by decide) r.2⟩)
    (Cert.SquareDxReferenceIdeal.Value.run (F := Ideal) m ρ)

/-- The kernel's result and the reference's are equal, for any arguments. -/
theorem same_SquareDx : Cert.algebraic_SquareDxIdeal_SquareDxReferenceIdeal (hSquareDxIdeal := Cert.SquareDxIdeal.Gen.facts)
    (hSquareDxReferenceIdeal := Cert.SquareDxReferenceIdeal.Gen.facts) := by
  intro m ρ m' ρ' _ hag
  refine ⟨fun c => (Cert.SquareDxIdeal.Gen.dats m 0 c).arrAt 2 Cert.SquareDxIdeal.cfg0.N, Cert.SquareDxIdeal.Value.run_blocks m ρ, ?_⟩
  refine (θ_run _ _ _).mono (fun r h c => ?_) (Cert.SquareDxReferenceIdeal.Value.run m' ρ')
  obtain ⟨e, rest⟩ := h c
  refine ⟨(e.trans (Cert.SquareDxReferenceIdeal.Read.val_main_v1_eq _ _)).trans ?_, rest⟩
  obtain ⟨-, a1, a2⟩ := hag c
  rw [a1, a2]
  funext i
  obtain ⟨r, s, rfl⟩ : ∃ (r s : Fin 2048), i = ix2 r s := ⟨i 0, i 1, eq_ix2 i⟩
  exact (Cert.SquareDxReferenceIdeal.Mlp.value _ _ r s).trans (Cert.SquareDxIdeal.Mlp.final m c r s).symm

end Cert.Mlp

end
-- ==== Proof.MixaInDx.lean ====
module

public import proofs.«01_k».proof.Defs
public import proofs.«01_k».proof.Proof.RealGate
public import proofs.«01_k».proof.Proof.Product
public import proofs.«01_k».proof.Proof.Gen.MixaInDx.Frame
public import proofs.«01_k».proof.Proof.Gen.MixaInDxIdeal.Value
public import proofs.«01_k».proof.Proof.Gen.MixaInDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through the first mixer's input product: four tiles, each a sum over two blocks of columns, each block the four weight slabs it meets. -/

@[expose] public section

set_option maxRecDepth 16384

noncomputable section

namespace Cert.MixaInDxIdeal.Mlp

open Idealize.ShloMosaic Idealize.ShloMosaic.TcCoe Idealize.SL.Sem Cert.MixaInDxIdeal Cert.MixaInDxIdeal.Gen Cert.MixaInDxIdeal.Value Cert.Gate Cert.Mlp

/-- The `k`-th column of the `p`-th slab, among the columns of a block of four slabs. -/
def quarter (p : Fin 4) (k : Fin 512) : Fin 2048 := ⟨512 * p.val + k.val, by omega⟩

/-- The `k`-th column of the `q`-th block. -/
def half (q : Fin 2) (k : Fin 2048) : Fin 4096 := ⟨2048 * q.val + k.val, by omega⟩

/-- A block's sum is its slabs' sums, added in order. -/
theorem sum_quarters (f : Fin 2048 → EReal) : ∑ k, f k
    = ∑ k, f (quarter 0 k) + ∑ k, f (quarter 1 k) + ∑ k, f (quarter 2 k) + ∑ k, f (quarter 3 k) := by
  refine (Fin.sum_univ_add (a := 512 + 512 + 512) (b := 512) f).trans ?_
  rw [Fin.sum_univ_add (a := 512 + 512) (b := 512), Fin.sum_univ_add (a := 512) (b := 512)]
  rfl

/-- The whole sum is the two blocks' sums. -/
theorem sum_halves (f : Fin 4096 → EReal) : ∑ k, f k = ∑ k, f (half 0 k) + ∑ k, f (half 1 k) :=
  (Fin.sum_univ_add (a := 2048) (b := 2048) f).trans rfl

/-- One slab's product. -/
abbrev one (x : Vec Ideal S1024x512 .bf16) (v : Vec Ideal S1x1024x512 .bf16) (i j : Fin 1024) : EReal := ∑ k : Fin 512, x (ix2 i k) * v (ix3 0 j k)

/-- The four slabs' products, added in order, -/
abbrev four (x : Fin 4 → Vec Ideal S1024x512 .bf16) (v : Fin 4 → Vec Ideal S1x1024x512 .bf16) (i j : Fin 1024) : EReal :=
  one (x 0) (v 0) i j + one (x 1) (v 1) i j + one (x 2) (v 2) i j + one (x 3) (v 3) i j

/-- at the tile's first point, -/
theorem pay1 (x : Fin 4 → Vec Ideal S1024x512 .bf16) (v : Fin 4 → Vec Ideal S1x1024x512 .bf16) (i j : Fin 1024) :
    (k0_pay1 (x 0) (v 0) (x 1) (v 1) (x 2) (v 2) (x 3) (v 3) (ix2 i j) : EReal) = four x v i j := by
  unfold k0_pay1
  pointwise

/-- and added to what is kept at its last. -/
theorem pay2 (a : Vec Ideal S1024x1024 .f32) (x : Fin 4 → Vec Ideal S1024x512 .bf16) (v : Fin 4 → Vec Ideal S1x1024x512 .bf16) (i j : Fin 1024) :
    (k0_pay2 a (x 0) (v 0) (x 1) (v 1) (x 2) (v 2) (x 3) (v 3) (ix2 i j) : EReal) = a (ix2 i j) + four x v i j := by
  unfold k0_pay2
  pointwise

/-- Offsets of zero. -/
theorem hz : (![0, 0] : Fin 2 → Nat) = fun _ => 0 := funext fun a => by fin_cases a <;> rfl

variable (m : (ℓ : Loc nD τ sig) → Buf (Elt Ideal) ℓ)

/-- The four pieces of the cotangent's block at a point, -/
abbrev lefts (c : Dev nD) (t : Fin cfg0.N) (p : Fin 4) : Vec Ideal S1024x512 .bf16 := fun i =>
  (iblk m c 0 t : Vec Ideal S1024x2048 .bf16) (ix2 (i 0) (quarter p (i 1)))
/-- and its four slabs. -/
abbrev rights (c : Dev nD) (t : Fin cfg0.N) (p : Fin 4) : Vec Ideal S1x1024x512 .bf16 := fun i =>
  (iblk m c 1 t : Vec Ideal S4x1024x512 .bf16) (ix3 p (i 1) (i 2))

/-- A load of a quarter of the columns. -/
theorem ld_quarter (x : Vec Ideal S1024x2048 .bf16) (p : Fin 4) (off : Fin 2 → ℕ) (h : off = ![0, 512 * p.val]) (inb) :
    (View.ld x (Rect.unit (s := S1024x2048) off S1024x512.size inb) : Vec Ideal S1024x512 .bf16) = fun i => x (ix2 (i 0) (quarter p (i 1))) := by
  subst h
  funext i
  refine congrArg x ?_
  funext a
  apply Fin.ext
  match a with
  | ⟨0, _⟩ => show 0 + 1 * (i 0).val = (i 0).val; omega
  | ⟨1, _⟩ => show 512 * p.val + 1 * (i 1).val = 512 * p.val + (i 1).val; omega

/-- A load of one slab. -/
theorem ld_slab (x : Vec Ideal S4x1024x512 .bf16) (p : Fin 4) (off : Fin 3 → ℕ) (h : off = ![p.val, 0, 0]) (inb) :
    (View.ld x (Rect.unit (s := S4x1024x512) off S1x1024x512.size inb) : Vec Ideal S1x1024x512 .bf16) = fun i => x (ix3 p (i 1) (i 2)) := by
  subst h
  funext i
  refine congrArg x ?_
  funext a
  apply Fin.ext
  match a with
  | ⟨0, _⟩ => show p.val + 1 * (i 0).val = p.val; have h0 : (i 0).val < 1 := (i 0).isLt; omega
  | ⟨1, _⟩ => show 0 + 1 * (i 1).val = (i 1).val; omega
  | ⟨2, _⟩ => show 0 + 1 * (i 2).val = (i 2).val; omega

/-- At a tile's first point the first block's products are kept. -/
theorem first (c : Dev nD) (t : Fin cfg0.N) (h : t.val % 2 = 0) :
    (outsAt0 m c t.val t.isLt).2 = k0_pay1 (lefts m c t 0) (rights m c t 0) (lefts m c t 1) (rights m c t 1)
      (lefts m c t 2) (rights m c t 2) (lefts m c t 3) (rights m c t 3) := by
  rw [outsAt0_A m c t h (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_unit_zero hz]
  simp only [View.readAt_eq_ld, Memref.IsWhole.read_unread]
  exact congr (congr (congr (congr (congr (congr (congr (congrArg k0_pay1 (ld_quarter _ 0 _ rfl _)) (ld_slab _ 0 _ rfl _)) (ld_quarter _ 1 _ rfl _)) (ld_slab _ 1 _ rfl _))
    (ld_quarter _ 2 _ rfl _)) (ld_slab _ 2 _ rfl _)) (ld_quarter _ 3 _ rfl _)) (ld_slab _ 3 _ rfl _)

/-- At its last point the last products are added. -/
theorem last (c : Dev nD) (t : Fin cfg0.N) (h : t.val % 2 = 1) :
    (outsAt0 m c t.val t.isLt).1 = k0_pay2 (outsAt0 m c (t.val - 1) (Nat.lt_of_le_of_lt (Nat.sub_le _ _) t.isLt)).2
      (lefts m c t 0) (rights m c t 0) (lefts m c t 1) (rights m c t 1) (lefts m c t 2) (rights m c t 2) (lefts m c t 3) (rights m c t 3) := by
  rw [outsAt0_B m c t (by omega) h]
  dsimp only
  unfold out0_B_2
  rw [View.read_writes_eq_canon _ _ _ (cover0_B_2 _ _ _ _ _ _ _ _ _ _ _ _ _ _ _)]
  unfold kernelRun0_B
  dsimp only
  sl_unfold_words
  rw [View.canon_unit_zero hz]
  simp only [View.readAt_eq_ld, Memref.IsWhole.read_unread, View.ld_unit_zero (S := S1024x1024) hz]
  exact congr (congr (congr (congr (congr (congr (congr (congr (congrArg k0_pay2 (Memref.IsWhole.read_unread _ _)) (ld_quarter _ 0 _ rfl _)) (ld_slab _ 0 _ rfl _))
    (ld_quarter _ 1 _ rfl _)) (ld_slab _ 1 _ rfl _)) (ld_quarter _ 2 _ rfl _)) (ld_slab _ 2 _ rfl _)) (ld_quarter _ 3 _ rfl _)) (ld_slab _ 3 _ rfl _)

/-- The cotangent -/
abbrev dpre (c : Dev nD) : S2048x4096.Idx → EReal := m ((c : Thread nD τ).loc main_arg2)
/-- and the weights, as launched. -/
abbrev w (c : Dev nD) : S2048x4096.Idx → EReal := m ((c : Thread nD τ).loc main_arg1)

/-- The cotangent as the region finds it. -/
theorem V_dpre (c : Dev nD) (i : S2048x4096.Idx) : V m c main_v3 i = dpre m c i := by
  unfold V
  after_reads_at

/-- The weights as the region finds them: slab `p` holds columns `512 p` to `512 p + 511`. -/
theorem V_w (c : Dev nD) (p : Fin 8) (s : Fin 2048) (k : Fin 512) (d : Fin 4096) (hd : d.val = 512 * p.val + k.val) :
    V m c main_v2 (ix3 p s k) = w m c (ix2 s d) := by
  unfold V
  after_reads_at
  refine congrArg (w m c) (funext fun a => Fin.ext ?_)
  match a with
  | ⟨0, _⟩ => rfl
  | ⟨1, _⟩ => show p.val * 512 + k.val = d.val; omega

/-- Where each input window's block lies at a point. -/
theorem index (t : Fin cfg0.N) : (win0_0.index t 0 = t.val / 4 ∧ win0_0.index t 1 = t.val % 2)
    ∧ (win0_1.index t 0 = t.val % 2 ∧ win0_1.index t 1 = t.val / 2 % 2 ∧ win0_1.index t 2 = 0) :=
  (by decide +kernel : ∀ t : Fin grid0.N, (win0_0.index t 0 = t.val / 4 ∧ win0_0.index t 1 = t.val % 2)
    ∧ (win0_1.index t 0 = t.val % 2 ∧ win0_1.index t 1 = t.val / 2 % 2 ∧ win0_1.index t 2 = 0)) t

/-- The `q`-th point of the tile that holds row `r` and column `s`. -/
def at_ (r s : Fin 2048) (q : Fin 2) : Fin cfg0.N :=
  ⟨2 * (2 * (r.val / 1024) + s.val / 1024) + q.val, by have hN : cfg0.N = 8 := N_0; omega⟩

/-- Its block row, block column and place in the sum. -/
theorem at_parts (r s : Fin 2048) (q : Fin 2) :
    (at_ r s q).val / 4 = r.val / 1024 ∧ (at_ r s q).val / 2 % 2 = s.val / 1024 ∧ (at_ r s q).val % 2 = q.val := by
  show (2 * (2 * (r.val / 1024) + s.val / 1024) + q.val) / 4 = _ ∧ (2 * (2 * (r.val / 1024) + s.val / 1024) + q.val) / 2 % 2 = _
    ∧ (2 * (2 * (r.val / 1024) + s.val / 1024) + q.val) % 2 = _
  omega

/-- The cotangent's block. -/
theorem blk0 (c : Dev nD) (r s : Fin 2048) (q : Fin 2) (k : Fin 2048) :
    (iblk m c 0 (at_ r s q) : Vec Ideal S1024x2048 .bf16) (ix2 (lo r) k) = dpre m c (ix2 r (half q k)) := by
  have hi := (index (at_ r s q)).1
  rw [(at_parts r s q).1, (at_parts r s q).2.2] at hi
  refine Eq.trans ?_ (V_dpre m c (ix2 r (half q k)))
  unfold iblk
  rw [View.read_apply]
  show V m c main_v3 _ = _
  congr 1
  funext a
  apply Fin.ext
  match a with
  | ⟨0, _⟩ => show win0_0.index (at_ r s q) 0 * 1024 + 1 * (r.val % 1024) = r.val; rw [hi.1]; omega
  | ⟨1, _⟩ => show win0_0.index (at_ r s q) 1 * 2048 + 1 * k.val = 2048 * q.val + k.val; rw [hi.2]; omega

/-- The weights' block. -/
theorem blk1 (c : Dev nD) (r s : Fin 2048) (q : Fin 2) (p : Fin 4) (k : Fin 512) :
    (iblk m c 1 (at_ r s q) : Vec Ideal S4x1024x512 .bf16) (ix3 p (lo s) k) = w m c (ix2 s (half q (quarter p k))) := by
  have hi := (index (at_ r s q)).2
  rw [(at_parts r s q).2.1, (at_parts r s q).2.2] at hi
  refine Eq.trans ?_ (V_w m c ⟨4 * q.val + p.val, by omega⟩ s k (half q (quarter p k)) ?_)
  · unfold iblk
    rw [View.read_apply]
    show V m c main_v2 _ = _
    congr 1
    funext a
    apply Fin.ext
    match a with
    | ⟨0, _⟩ => show win0_1.index (at_ r s q) 0 * 4 + 1 * p.val = 4 * q.val + p.val; rw [hi.1]; omega
    | ⟨1, _⟩ => show win0_1.index (at_ r s q) 1 * 1024 + 1 * (s.val % 1024) = s.val; rw [hi.2.1]; omega
    | ⟨2, _⟩ => show win0_1.index (at_ r s q) 2 * 512 + 1 * k.val = k.val; rw [hi.2.2]; omega
  · show 2048 * q.val + (512 * p.val + k.val) = 512 * (4 * q.val + p.val) + k.val
    omega

/-- One slab's product, in the launched arrays. -/
theorem slab (c : Dev nD) (r s : Fin 2048) (q : Fin 2) (p : Fin 4) :
    one (lefts m c (at_ r s q) p) (rights m c (at_ r s q) p) (lo r) (lo s)
      = ∑ k : Fin 512, dpre m c (ix2 r (half q (quarter p k))) * w m c (ix2 s (half q (quarter p k))) :=
  Finset.sum_congr rfl fun k _ => congrArg₂ (· * ·) (blk0 m c r s q (quarter p k)) (blk1 m c r s q p k)

/-- A block's product: its four slabs' together. -/
theorem product (c : Dev nD) (r s : Fin 2048) (q : Fin 2) :
    four (lefts m c (at_ r s q)) (rights m c (at_ r s q)) (lo r) (lo s)
      = ∑ k : Fin 2048, dpre m c (ix2 r (half q k)) * w m c (ix2 s (half q k)) := by
  rw [sum_quarters]
  exact congrArg₂ (· + ·) (congrArg₂ (· + ·) (congrArg₂ (· + ·) (slab m c r s q 0) (slab m c r s q 1)) (slab m c r s q 2)) (slab m c r s q 3)

/-- What is kept after the first point. -/
theorem kept (c : Dev nD) (r s : Fin 2048) : ((outsAt0 m c (at_ r s 0).val (at_ r s 0).isLt).2 (ix2 (lo r) (lo s)) : EReal)
    = ∑ k : Fin 2048, dpre m c (ix2 r (half 0 k)) * w m c (ix2 s (half 0 k)) := by
  rw [first m c (at_ r s 0) (at_parts r s 0).2.2]
  exact (pay1 (lefts m c (at_ r s 0)) (rights m c (at_ r s 0)) _ _).trans (product m c r s 0)

/-- The result array, element by element. -/
theorem final (c : Dev nD) (r s : Fin 2048) :
    (G2 m c : S2048x2048.Idx → EReal) (ix2 r s) = ∑ k : Fin 4096, dpre m c (ix2 r k) * w m c (ix2 s k) := by
  have e : (at_ r s 1).val - 1 = (at_ r s 0).val := by
    show 2 * (2 * (r.val / 1024) + s.val / 1024) + 1 - 1 = 2 * (2 * (r.val / 1024) + s.val / 1024) + 0
    omega
  have hp : pt2Of (ix2 r s) = (at_ r s 1).val := by
    show 2 * (2 * (r.val / 1024 - 0) + 1 * (s.val / 1024 - 0)) + 1 = 2 * (2 * (r.val / 1024) + s.val / 1024) + 1
    omega
  have hl : loc2Of (ix2 r s) = ix2 (lo r) (lo s) := eq_ix2 _
  unfold G2
  rw [dif_pos (by rw [hp]; exact (at_ r s 1).isLt), hl, fold0_congr m c _ _ _ (by rw [Nat.zero_add]; exact (at_ r s 1).isLt) hp,
    ← outsAt0_sweep m c (at_ r s 1).val (at_ r s 1).isLt, last m c (at_ r s 1) (at_parts r s 1).2.2]
  refine (pay2 _ (lefts m c (at_ r s 1)) (rights m c (at_ r s 1)) _ _).trans ?_
  rw [product]
  simp only [e]
  rw [kept, sum_halves]

end Cert.MixaInDxIdeal.Mlp

namespace Cert.MixaInDxReferenceIdeal.Mlp

open Idealize.ShloMosaic Idealize.ShloMosaic.TcCoe Idealize.SL.Sem Cert.MixaInDxReferenceIdeal Cert.MixaInDxReferenceIdeal.Read Cert.Gate

/-- The reference's result, element by element. -/
theorem value (x1 x2 : FVec Ideal S2048x4096 .f32) (r s : Fin 2048) :
    (val_main_v1 (F := Ideal) x1 x2 (ix2 r s) : EReal) = ∑ k : Fin 4096, x2 (ix2 r k) * x1 (ix2 s k) := by
  rw [val_main_v1_apply]
  refine Finset.sum_congr rfl fun k _ => ?_
  congr 2 <;> exact eq_ix2 _

end Cert.MixaInDxReferenceIdeal.Mlp

namespace Cert.Mlp

open Idealize.ShloMosaic Idealize.ShloMosaic.TcCoe Idealize.SL.Sem Cert.Gate

/-- The gradient's program runs and keeps its arguments. -/
theorem frame_MixaInDx : Cert.quiescent_MixaInDx (hMixaInDx := Cert.MixaInDx.Gen.facts) := fun m ρ _ =>
  Cert.MixaInDx.Gen.frame m ρ

/-- Its idealization runs and keeps its arguments. -/
theorem frame_MixaInDxIdeal : Cert.quiescent_MixaInDxIdeal (hMixaInDxIdeal := Cert.MixaInDxIdeal.Gen.facts) := fun m ρ _ =>
  Cert.MixaInDxIdeal.Gen.frame m ρ

/-- Its reference runs and keeps its arguments. -/
theorem frame_MixaInDxReferenceIdeal : Cert.quiescent_MixaInDxReferenceIdeal (hMixaInDxReferenceIdeal := Cert.MixaInDxReferenceIdeal.Gen.facts) := fun m ρ _ =>
  (θ_run Cert.MixaInDxReferenceIdeal.defs _ _).mono (fun r h => ⟨fun c => (h c).2, sem_eq_zero_of_no_sems (by decide) r.2⟩)
    (Cert.MixaInDxReferenceIdeal.Value.run (F := Ideal) m ρ)

/-- The kernel's result and the reference's are equal, for any arguments. -/
theorem same_MixaInDx : Cert.algebraic_MixaInDxIdeal_MixaInDxReferenceIdeal (hMixaInDxIdeal := Cert.MixaInDxIdeal.Gen.facts)
    (hMixaInDxReferenceIdeal := Cert.MixaInDxReferenceIdeal.Gen.facts) := by
  intro m ρ m' ρ' _ hag
  refine ⟨fun c => Cert.MixaInDxIdeal.Value.G2 m c, Cert.MixaInDxIdeal.Value.run m ρ, ?_⟩
  refine (θ_run _ _ _).mono (fun r h c => ?_) (Cert.MixaInDxReferenceIdeal.Value.run m' ρ')
  obtain ⟨e, rest⟩ := h c
  refine ⟨(e.trans (Cert.MixaInDxReferenceIdeal.Read.val_main_v1_eq _ _)).trans ?_, rest⟩
  obtain ⟨-, a1, a2⟩ := hag c
  rw [a1, a2]
  funext i
  obtain ⟨r, s, rfl⟩ : ∃ (r s : Fin 2048), i = ix2 r s := ⟨i 0, i 1, eq_ix2 i⟩
  exact (Cert.MixaInDxReferenceIdeal.Mlp.value _ _ r s).trans (Cert.MixaInDxIdeal.Mlp.final m c r s).symm

end Cert.Mlp

end
-- ==== Proof.SquareDwOther.lean ====
module

public import proofs.«01_k».proof.Defs
public import proofs.«01_k».proof.Proof.Owner
public import proofs.«01_k».proof.Proof.Product
public import proofs.«01_k».proof.Proof.Gen.Pre_is_core_square
public import proofs.«01_k».proof.Proof.Gen.SquareDwOther.Frame
public import proofs.«01_k».proof.Proof.Gen.SquareDwOtherIdeal.Frame
public import proofs.«01_k».proof.Proof.Gen.SquareDwOtherReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the mixers' square weights, the half that the chip's other core keeps. -/

@[expose] public section

set_option maxRecDepth 16384

noncomputable section

namespace Cert.SquareDwOther.Mlp

open Idealize.ShloMosaic Idealize.ShloMosaic.TcCoe Idealize.SL.Sem Cert.SquareDwOther Cert.SquareDwOther.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_square.Gen.facts

/-- The precondition says that the table holds a core's number. -/
theorem core (m : (ℓ : Loc nD τ sig) → Buf (Elt Bits) ℓ) (h : Cert.Pre_SquareDwOther m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_SquareDwOther m) : Ok m := by
  obtain ⟨b, hb⟩ := core m h
  unfold Ok
  rw [hb]
  clear hb
  revert b
  decide

end Cert.SquareDwOther.Mlp

namespace Cert.SquareDwOtherIdeal.Mlp

open Idealize.ShloMosaic Idealize.ShloMosaic.TcCoe Idealize.SL.Sem Cert.SquareDwOtherIdeal Cert.SquareDwOtherIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_square.Gen.facts

/-- The precondition says that the table holds a core's number. -/
theorem core (m : (ℓ : Loc nD τ sig) → Buf (Elt Ideal) ℓ) (h : Cert.Pre_SquareDwOtherIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns. -/
theorem pay (u : Vec Ideal S2048x256 .bf16) (v : Vec Ideal S2048x2048 .bf16) (i : Fin 256) (j : Fin 2048) :
    k0_pay1 u v (ix3 0 i j) = ∑ k : Fin 2048, u (ix2 k i) * v (ix2 k j) := by
  unfold k0_pay1
  pointwise

/-- The body leaves its one tile. -/
theorem body (c : Dev nD) (i : grid0.Coords) (arg4 : Memref sig .tc .vmem S2048x256 .bf16) (harg4 : arg4.IsWhole) (arg5 : Memref sig .tc .vmem S2048x2048 .bf16)
    (harg5 : arg5.IsWhole) (arg6 : Memref sig .tc .vmem S1x256x2048 .bf16) (harg6 : arg6.IsWhole) (x0 : Vec Ideal S2048x256 .bf16) (x1 : Vec Ideal S2048x2048 .bf16) (xt0 : TbBuf0 (F := Ideal) c tbM0_0) :
    out0_A_2 c i arg4 harg4 arg5 harg5 arg6 harg6 x0 x1 xt0 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_2
  rw [View.read_writes_eq_canon _ _ _ (cover0_A_2 _ _ _ _ _ _ _ _ _ _ _)]
  unfold kernelRun0_A
  dsimp only
  sl_unfold_words
  rw [View.canon_unit_zero hz3]
  simp only [View.readAt_eq_ld, Memref.IsWhole.read_unread, View.ld_unit_zero (S := S2048x256) hz2, View.ld_unit_zero (S := S2048x2048) hz2]

variable (m : (ℓ : Loc nD τ sig) → Buf (Elt Ideal) ℓ) (hO : Ok m)

/-- The left factor -/
abbrev act (c : Dev nD) : S2048x2048.Idx → EReal := m ((c : Thread nD τ).loc main_arg1)
/-- and the cotangent, as launched. -/
abbrev dh (c : Dev nD) : S2048x2048.Idx → EReal := m ((c : Thread nD τ).loc main_arg2)

/-- The left factor as the region finds it. -/
theorem V_act (c : Dev nD) (i : S2048x2048.Idx) : V m c main_v0 i = act m c i := by
  unfold V
  after_reads_at

/-- The cotangent as the region finds it. -/
theorem V_dh (c : Dev nD) (i : S2048x2048.Idx) : V m c main_v1 i = dh m c i := by
  unfold V
  after_reads_at

/-- Where each window's block lies at a point, for either core. -/
theorem index : ∀ (b : Fin 2) (t : Fin grid0.N),
    (cc0_transform_0 inb_S1_S1_0 numel1_S1 (table b) (grid0.coords t) 0 = 0
      ∧ cc0_transform_0 inb_S1_S1_0 numel1_S1 (table b) (grid0.coords t) 1 = 2 * t.val + (mine false b).val)
    ∧ (cc0_transform_1 (grid0.coords t) 0 = 0 ∧ cc0_transform_1 (grid0.coords t) 1 = 0)
    ∧ (cc0_transform_2 (grid0.coords t) 0 = t.val ∧ cc0_transform_2 (grid0.coords t) 1 = 0 ∧ cc0_transform_2 (grid0.coords t) 2 = 0) := by
  decide +kernel

variable {b : Fin 2} (hb : tbl m = table b)

include hb in
/-- Where the left factor's block lies. -/
theorem index0 (t : Fin grid0.N) : cc0_transform_0 inb_S1_S1_0 numel1_S1 (tbl m) (grid0.coords t) 0 = 0
    ∧ cc0_transform_0 inb_S1_S1_0 numel1_S1 (tbl m) (grid0.coords t) 1 = 2 * t.val + (mine false b).val := by
  have h := (index b t).1
  rw [← hb] at h
  exact h

/-- What a point leaves is its tile. -/
theorem out (c : Dev nD) (t : Fin (cfgM m hO).N) :
    (outsAt0 m hO c t : S1x256x2048.Idx → EReal) = k0_pay1 (iblk m hO c 0 t : Vec Ideal S2048x256 .bf16) (iblk m hO c 1 t : Vec Ideal S2048x2048 .bf16) :=
  body c _ _ _ _ _ _ _ _ _ _

/-- Two points write two tiles. -/
theorem tiles (t t' : Fin (cfgM m hO).N) (h : ((cfgM m hO).win 2).index t = ((cfgM m hO).win 2).index t') : t = t' :=
  (by decide +kernel : ∀ t t' : Fin grid0.N, cc0_transform_2 (grid0.coords t) = cc0_transform_2 (grid0.coords t') → t = t') t t' h

/-- So each tile of the result is what its point wrote. -/
theorem tile (c : Dev nD) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (fun t t' _ _ hne => ((cfgM m hO).win 2).disjoint_blk fun h => hne (tiles m hO t t' h))
    (cfgM m hO).N t t.isLt (flush0_2 _ t)

/-- The point whose tile holds chip `p`'s rows. -/
noncomputable def at_ (p : Fin 4) : Fin grid0.N := ⟨p.val, p.isLt⟩

/-- Its place among the points. -/
theorem at_row (p : Fin 4) : (at_ p).val = p.val := rfl

include hb in
/-- The left factor's block. -/
theorem blk0 (c : Dev nD) (p : Fin 4) (r : Fin 256) (k : Fin 2048) :
    (iblk m hO c 0 (at_ p) : Vec Ideal S2048x256 .bf16) (ix2 k r) = act m c (ix2 k (ownedRow p (mine false b) r rfl)) := by
  have hi := index0 m hb (at_ p)
  rw [at_row] at hi
  refine Eq.trans ?_ (V_act m c (ix2 k (ownedRow p (mine false b) r rfl)))
  refine congrArg (V m c main_v0) ?_
  funext a
  apply Fin.ext
  match a with
  | ⟨0, _⟩ => show cc0_transform_0 inb_S1_S1_0 numel1_S1 (tbl m) (grid0.coords (at_ p)) 0 * 2048 + 1 * k.val = k.val; rw [hi.1]; omega
  | ⟨1, _⟩ =>
    show cc0_transform_0 inb_S1_S1_0 numel1_S1 (tbl m) (grid0.coords (at_ p)) 1 * 256 + 1 * r.val = 256 * (2 * p.val + (mine false b).val) + r.val
    rw [hi.2]; omega

/-- The cotangent's block. -/
theorem blk1 (c : Dev nD) (p : Fin 4) (s k : Fin 2048) :
    (iblk m hO c 1 (at_ p) : Vec Ideal S2048x2048 .bf16) (ix2 k s) = dh m c (ix2 k s) := by
  have hi := (index 0 (at_ p)).2.1
  refine Eq.trans ?_ (V_dh m c (ix2 k s))
  refine congrArg (V m c main_v1) ?_
  funext a
  apply Fin.ext
  match a with
  | ⟨0, _⟩ => show cc0_transform_1 (grid0.coords (at_ p)) 0 * 2048 + 1 * k.val = k.val; rw [hi.1]; omega
  | ⟨1, _⟩ => show cc0_transform_1 (grid0.coords (at_ p)) 1 * 2048 + 1 * s.val = s.val; rw [hi.2]; omega

/-- The result's tile, read off any array. -/
theorem blk2 (X : S4x256x2048.Idx → EReal) (p : Fin 4) (r : Fin 256) (s : Fin 2048) :
    X (ix3 p r s) = ((((cfgM m hO).win 2).blk (at_ p)).view.read (Elt Ideal) X : S1x256x2048.Idx → EReal) (ix3 0 r s) := by
  have hi := (index 0 (at_ p)).2.2
  rw [at_row] at hi
  refine congrArg X ?_
  funext a
  apply Fin.ext
  match a with
  | ⟨0, _⟩ => show p.val = cc0_transform_2 (grid0.coords (at_ p)) 0 * 1 + 1 * 0; rw [hi.1]; omega
  | ⟨1, _⟩ => show r.val = cc0_transform_2 (grid0.coords (at_ p)) 1 * 256 + 1 * r.val; rw [hi.2.1]; omega
  | ⟨2, _⟩ => show s.val = cc0_transform_2 (grid0.coords (at_ p)) 2 * 2048 + 1 * s.val; rw [hi.2.2]; omega

include hb in
/-- The result array, element by element. -/
theorem final (c : Dev nD) (p : Fin 4) (r : Fin 256) (s : Fin 2048) :
    ((dats m hO 0 c).arrAt 2 (cfgM m hO).N : S4x256x2048.Idx → EReal) (ix3 p r s)
      = ∑ k : Fin 2048, act m c (ix2 k (ownedRow p (mine false b) r rfl)) * dh m c (ix2 k s) := by
  refine (blk2 m hO _ p r s).trans ((congrFun (tile m hO c (at_ p)) (ix3 0 r s)).trans ?_)
  refine (congrFun ((after0_2 m hO c (at_ p)).trans (out m hO c (at_ p))) (ix3 0 r s)).trans ?_
  refine (pay (iblk m hO c 0 (at_ p)) (iblk m hO c 1 (at_ p)) r s).trans ?_
  refine Finset.sum_congr rfl fun k _ => ?_
  rw [blk0 m hO hb, blk1]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.SquareDwOtherIdeal.Mlp

namespace Cert.SquareDwOtherReferenceIdeal.Mlp

open Idealize.ShloMosaic Idealize.ShloMosaic.TcCoe Idealize.SL.Sem Cert.SquareDwOtherReferenceIdeal Cert.SquareDwOtherReferenceIdeal.Read Cert.Mlp

/-- The gradient, cut into the devices' blocks of rows. -/
theorem blocks (x1 : FVec Ideal S2048x2048 .f32) (x2 : FVec Ideal S2048x2048 .f32) (p : Fin 4) (q : Fin 2) (r : Fin 256) (s : Fin 2048)
    (i : S4x2x256x2048.Idx) (h0 : (i 0).val = p.val) (h1 : (i 1).val = q.val) (h2 : (i 2).val = r.val) (h3 : (i 3).val = s.val) :
    (val_main_v4 (F := Ideal) x1 x2 i : EReal) = ∑ k : Fin 2048, x1 (ix2 k (ownedRow p q r rfl)) * x2 (ix2 k s) := by
  rw [val_main_v4_apply, val_main_v3_apply, val_main_v2_apply]
  refine Finset.sum_congr rfl fun k _ => (mul_comm _ _).trans ?_
  have hr : ((((i 0).val * 2 + (i 1).val) * 256 + (i 2).val) * 2048 + (i 3).val) / 2048 = 256 * (2 * p.val + q.val) + r.val := by
    rw [h0, h1, h2, h3]; omega
  have hs : ((((i 0).val * 2 + (i 1).val) * 256 + (i 2).val) * 2048 + (i 3).val) % 2048 = s.val := by
    rw [h0, h1, h2, h3]; omega
  congr 2
  · funext a
    apply Fin.ext
    match a with
    | ⟨0, _⟩ => rfl
    | ⟨1, _⟩ => exact hr
  · funext a
    apply Fin.ext
    match a with
    | ⟨0, _⟩ => rfl
    | ⟨1, _⟩ => exact hs

/-- The reference's result, element by element, on either core. -/
theorem value (b : Fin 2) (x0 : IVec S1 32) (hx : ∀ i, x0 i = BitVec.ofNat 32 b.val) (x1 : FVec Ideal S2048x2048 .f32) (x2 : FVec Ideal S2048x2048 .f32)
    (p : Fin 4) (r : Fin 256) (s : Fin 2048) :
    (val_main_v12 (F := Ideal) x0 x1 x2 (ix3 p r s) : EReal) = ∑ k : Fin 2048, x1 (ix2 k (ownedRow p (mine false b) r rfl)) * x2 (ix2 k s) := by
  have e0 : ((p.val * 256 + r.val) * 2048 + s.val) / 524288 = p.val := by omega
  have e2 : ((p.val * 256 + r.val) * 2048 + s.val) / 2048 % 256 = r.val := by omega
  have e3 : ((p.val * 256 + r.val) * 2048 + s.val) % 2048 = s.val := by omega
  have hc : val_main_v6 (F := Ideal) x0 = fun _ => IntOp.cmpi .eq (BitVec.ofNat 32 b.val) 0#32 := by
    funext i
    unfold val_main_v6 val_main_v5 val_main_c
    exact congrArg (fun x => IntOp.cmpi .eq x 0#32) (hx _)
  rw [val_main_v12_apply]
  unfold val_main_v11
  rw [hc]
  match b with
  | ⟨0, _⟩ =>
    refine Eq.trans ?_ (blocks x1 x2 p 1 r s (idx_main_v7 (idx_main_v8 (ix3 p r s))) e0 rfl e2 e3)
    rw [← val_main_v7_apply, ← val_main_v8_apply]
    rfl
  | ⟨1, _⟩ =>
    refine Eq.trans ?_ (blocks x1 x2 p 0 r s (idx_main_v9 (idx_main_v10 (ix3 p r s))) e0 rfl e2 e3)
    rw [← val_main_v9_apply, ← val_main_v10_apply]
    rfl

end Cert.SquareDwOtherReferenceIdeal.Mlp

namespace Cert.Mlp

open Idealize.ShloMosaic Idealize.ShloMosaic.TcCoe Idealize.SL.Sem

attribute [local instance] Cert.Pre_is_core_square.Gen.facts

/-- The gradient's program runs and keeps its arguments. -/
theorem frame_SquareDwOther : Cert.quiescent_SquareDwOther (hSquareDwOther := Cert.SquareDwOther.Gen.facts) := fun m ρ h =>
  Cert.SquareDwOther.Gen.frame m ρ (Cert.SquareDwOther.Mlp.ok m h)

/-- Its idealization runs and keeps its arguments. -/
theorem frame_SquareDwOtherIdeal : Cert.quiescent_SquareDwOtherIdeal (hSquareDwOtherIdeal := Cert.SquareDwOtherIdeal.Gen.facts) := fun m ρ h =>
  Cert.SquareDwOtherIdeal.Gen.frame m ρ (Cert.SquareDwOtherIdeal.Mlp.ok m (Cert.SquareDwOtherIdeal.Mlp.core m h).choose_spec)

/-- Its reference runs and keeps its arguments. -/
theorem frame_SquareDwOtherReferenceIdeal : Cert.quiescent_SquareDwOtherReferenceIdeal (hSquareDwOtherReferenceIdeal := Cert.SquareDwOtherReferenceIdeal.Gen.facts) := fun m ρ _ =>
  (θ_run Cert.SquareDwOtherReferenceIdeal.defs _ _).mono (fun r h => ⟨fun c => (h c).2, sem_eq_zero_of_no_sems (by decide) r.2⟩)
    (Cert.SquareDwOtherReferenceIdeal.Value.run (F := Ideal) m ρ)

/-- The kernel's result and the reference's are equal, for any arguments on either core. -/
theorem same_SquareDwOther : Cert.algebraic_SquareDwOtherIdeal_SquareDwOtherReferenceIdeal (hSquareDwOtherIdeal := Cert.SquareDwOtherIdeal.Gen.facts)
    (hSquareDwOtherReferenceIdeal := Cert.SquareDwOtherReferenceIdeal.Gen.facts) := by
  intro m ρ m' ρ' hp hag
  obtain ⟨b, hb⟩ := Cert.SquareDwOtherIdeal.Mlp.core m hp
  have hO := Cert.SquareDwOtherIdeal.Mlp.ok m hb
  refine ⟨fun c => (Cert.SquareDwOtherIdeal.Gen.dats m hO 0 c).arrAt 2 (Cert.SquareDwOtherIdeal.Gen.cfgM m hO).N, Cert.SquareDwOtherIdeal.Mlp.run m hO ρ, ?_⟩
  refine (θ_run _ _ _).mono (fun r h c => ?_) (Cert.SquareDwOtherReferenceIdeal.Value.run m' ρ')
  obtain ⟨e, rest⟩ := h c
  refine ⟨(e.trans (Cert.SquareDwOtherReferenceIdeal.Read.val_main_v12_eq _ _ _)).trans ?_, rest⟩
  obtain ⟨a0, a1, a2⟩ := hag c
  rw [a0, a1, a2]
  funext i
  obtain ⟨p, r, s, rfl⟩ : ∃ (p : Fin 4) (r : Fin 256) (s : Fin 2048), i = ix3 p r s := ⟨i 0, i 1, i 2, eq_ix3 i⟩
  obtain rfl : c = 0 := Subsingleton.elim _ _
  have hx : ∀ j, m (((0 : Dev Cert.SquareDwOtherIdeal.nD) : Thread Cert.SquareDwOtherIdeal.nD Cert.SquareDwOtherIdeal.τ).loc Cert.SquareDwOtherIdeal.main_arg0) j = BitVec.ofNat 32 b.val :=
    fun j => (congrFun (Cert.SquareDwOtherIdeal.Gen.V_main_arg0 m 0) j).symm.trans (congrFun (congrFun hb 0) j)
  exact (Cert.SquareDwOtherReferenceIdeal.Mlp.value b _ hx _ _ p r s).trans (Cert.SquareDwOtherIdeal.Mlp.final m hO hb 0 p r s).symm

end Cert.Mlp

end
-- ==== Proof.SquareDwOwn.lean ====
module

public import proofs.«01_k».proof.Defs
public import proofs.«01_k».proof.Proof.Owner
public import proofs.«01_k».proof.Proof.Product
public import proofs.«01_k».proof.Proof.SquareDwOther
public import proofs.«01_k».proof.Proof.Gen.Pre_is_core_square_own
public import proofs.«01_k».proof.Proof.Gen.SquareDwOwn.Frame
public import proofs.«01_k».proof.Proof.Gen.SquareDwOwnIdeal.Frame
public import proofs.«01_k».proof.Proof.Gen.SquareDwOwnReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the mixers' square weights, the half that this core keeps. -/

@[expose] public section

set_option maxRecDepth 16384

noncomputable section

namespace Cert.SquareDwOwn.Mlp

open Idealize.ShloMosaic Idealize.ShloMosaic.TcCoe Idealize.SL.Sem Cert.SquareDwOwn Cert.SquareDwOwn.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_square_own.Gen.facts

/-- The precondition says that the table holds a core's number. -/
theorem core (m : (ℓ : Loc nD τ sig) → Buf (Elt Bits) ℓ) (h : Cert.Pre_SquareDwOwn m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_SquareDwOwn m) : Ok m := by
  obtain ⟨b, hb⟩ := core m h
  unfold Ok
  rw [hb]
  clear hb
  revert b
  decide

end Cert.SquareDwOwn.Mlp

namespace Cert.SquareDwOwnIdeal.Mlp

open Idealize.ShloMosaic Idealize.ShloMosaic.TcCoe Idealize.SL.Sem Cert.SquareDwOwnIdeal Cert.SquareDwOwnIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_square_own.Gen.facts

/-- The precondition says that the table holds a core's number. -/
theorem core (m : (ℓ : Loc nD τ sig) → Buf (Elt Ideal) ℓ) (h : Cert.Pre_SquareDwOwnIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns and what the other core computed. -/
theorem pay (u : Vec Ideal S2048x256 .bf16) (v : Vec Ideal S2048x2048 .bf16) (w : Vec Ideal S1x256x2048 .bf16) (i : Fin 256) (j : Fin 2048) :
    k0_pay1 u v w (ix3 0 i j) = (∑ k : Fin 2048, u (ix2 k i) * v (ix2 k j)) + w (ix3 0 i j) := by
  unfold k0_pay1
  pointwise

/-- The body leaves its one tile. -/
theorem body (c : Dev nD) (i : grid0.Coords) (arg4 : Memref sig .tc .vmem S2048x256 .bf16) (harg4 : arg4.IsWhole) (arg5 : Memref sig .tc .vmem S2048x2048 .bf16)
    (harg5 : arg5.IsWhole) (arg6 : Memref sig .tc .vmem S1x256x2048 .bf16) (harg6 : arg6.IsWhole) (arg7 : Memref sig .tc .vmem S1x256x2048 .bf16) (harg7 : arg7.IsWhole)
    (x0 : Vec Ideal S2048x256 .bf16) (x1 : Vec Ideal S2048x2048 .bf16) (x2 : Vec Ideal S1x256x2048 .bf16) (xt0 : TbBuf0 (F := Ideal) c tbM0_0) :
    out0_A_3 c i arg4 harg4 arg5 harg5 arg6 harg6 arg7 harg7 x0 x1 x2 xt0 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_3
  rw [View.read_writes_eq_canon _ _ _ (cover0_A_3 _ _ _ _ _ _ _ _ _ _ _ _ _ _)]
  unfold kernelRun0_A
  dsimp only
  sl_unfold_words
  rw [View.canon_unit_zero hz3]
  simp only [View.readAt_eq_ld, Memref.IsWhole.read_unread, View.ld_unit_zero (S := S2048x256) hz2, View.ld_unit_zero (S := S2048x2048) hz2, View.ld_unit_zero (S := S1x256x2048) hz3]

variable (m : (ℓ : Loc nD τ sig) → Buf (Elt Ideal) ℓ) (hO : Ok m)

/-- The left factor -/
abbrev act (c : Dev nD) : S2048x2048.Idx → EReal := m ((c : Thread nD τ).loc main_arg1)
/-- and the cotangent -/
abbrev dh (c : Dev nD) : S2048x2048.Idx → EReal := m ((c : Thread nD τ).loc main_arg2)
/-- and the other core's product, as launched. -/
abbrev recv (c : Dev nD) : S4x256x2048.Idx → EReal := m ((c : Thread nD τ).loc main_arg3)

/-- The left factor as the region finds it. -/
theorem V_act (c : Dev nD) (i : S2048x2048.Idx) : V m c main_v0 i = act m c i := by
  unfold V
  after_reads_at

/-- The cotangent as the region finds it. -/
theorem V_dh (c : Dev nD) (i : S2048x2048.Idx) : V m c main_v1 i = dh m c i := by
  unfold V
  after_reads_at

/-- Where each window's block lies at a point, for either core. -/
theorem index : ∀ (b : Fin 2) (t : Fin grid0.N),
    (cc0_transform_0 inb_S1_S1_0 numel1_S1 (table b) (grid0.coords t) 0 = 0
      ∧ cc0_transform_0 inb_S1_S1_0 numel1_S1 (table b) (grid0.coords t) 1 = 2 * t.val + (mine true b).val)
    ∧ (cc0_transform_1 (grid0.coords t) 0 = 0 ∧ cc0_transform_1 (grid0.coords t) 1 = 0)
    ∧ (cc0_transform_3 (grid0.coords t) 0 = t.val ∧ cc0_transform_3 (grid0.coords t) 1 = 0 ∧ cc0_transform_3 (grid0.coords t) 2 = 0)
    ∧ (cc0_transform_2 (grid0.coords t) 0 = t.val ∧ cc0_transform_2 (grid0.coords t) 1 = 0 ∧ cc0_transform_2 (grid0.coords t) 2 = 0) := by
  decide +kernel

variable {b : Fin 2} (hb : tbl m = table b)

include hb in
/-- Where the left factor's block lies. -/
theorem index0 (t : Fin grid0.N) : cc0_transform_0 inb_S1_S1_0 numel1_S1 (tbl m) (grid0.coords t) 0 = 0
    ∧ cc0_transform_0 inb_S1_S1_0 numel1_S1 (tbl m) (grid0.coords t) 1 = 2 * t.val + (mine true b).val := by
  have h := (index b t).1
  rw [← hb] at h
  exact h

/-- What a point leaves is its tile. -/
theorem out (c : Dev nD) (t : Fin (cfgM m hO).N) :
    (outsAt0 m hO c t : S1x256x2048.Idx → EReal) = k0_pay1 (iblk m hO c 0 t : Vec Ideal S2048x256 .bf16) (iblk m hO c 1 t : Vec Ideal S2048x2048 .bf16) (iblk m hO c 2 t : Vec Ideal S1x256x2048 .bf16) :=
  body c _ _ _ _ _ _ _ _ _ _ _ _ _

/-- Two points write two tiles. -/
theorem tiles (t t' : Fin (cfgM m hO).N) (h : ((cfgM m hO).win 3).index t = ((cfgM m hO).win 3).index t') : t = t' :=
  (by decide +kernel : ∀ t t' : Fin grid0.N, cc0_transform_3 (grid0.coords t) = cc0_transform_3 (grid0.coords t') → t = t') t t' h

/-- So each tile of the result is what its point wrote. -/
theorem tile (c : Dev nD) (t : Fin (cfgM m hO).N) :
    (((cfgM m hO).win 3).blk t).view.read (Elt Ideal) ((dats m hO 0 c).arrAt 3 (cfgM m hO).N) = (dats m hO 0 c).flushed 3 t :=
  (dats m hO 0 c).read_blk_arrAt_eq_flushed 3 (fun t t' _ _ hne => ((cfgM m hO).win 3).disjoint_blk fun h => hne (tiles m hO t t' h))
    (cfgM m hO).N t t.isLt (flush0_3 _ t)

/-- The point whose tile holds chip `p`'s rows. -/
noncomputable def at_ (p : Fin 4) : Fin grid0.N := ⟨p.val, p.isLt⟩

/-- Its place among the points. -/
theorem at_row (p : Fin 4) : (at_ p).val = p.val := rfl

include hb in
/-- The left factor's block. -/
theorem blk0 (c : Dev nD) (p : Fin 4) (r : Fin 256) (k : Fin 2048) :
    (iblk m hO c 0 (at_ p) : Vec Ideal S2048x256 .bf16) (ix2 k r) = act m c (ix2 k (ownedRow p (mine true b) r rfl)) := by
  have hi := index0 m hb (at_ p)
  rw [at_row] at hi
  refine Eq.trans ?_ (V_act m c (ix2 k (ownedRow p (mine true b) r rfl)))
  refine congrArg (V m c main_v0) ?_
  funext a
  apply Fin.ext
  match a with
  | ⟨0, _⟩ => show cc0_transform_0 inb_S1_S1_0 numel1_S1 (tbl m) (grid0.coords (at_ p)) 0 * 2048 + 1 * k.val = k.val; rw [hi.1]; omega
  | ⟨1, _⟩ =>
    show cc0_transform_0 inb_S1_S1_0 numel1_S1 (tbl m) (grid0.coords (at_ p)) 1 * 256 + 1 * r.val = 256 * (2 * p.val + (mine true b).val) + r.val
    rw [hi.2]; omega

/-- The cotangent's block. -/
theorem blk1 (c : Dev nD) (p : Fin 4) (s k : Fin 2048) :
    (iblk m hO c 1 (at_ p) : Vec Ideal S2048x2048 .bf16) (ix2 k s) = dh m c (ix2 k s) := by
  have hi := (index 0 (at_ p)).2.1
  refine Eq.trans ?_ (V_dh m c (ix2 k s))
  refine congrArg (V m c main_v1) ?_
  funext a
  apply Fin.ext
  match a with
  | ⟨0, _⟩ => show cc0_transform_1 (grid0.coords (at_ p)) 0 * 2048 + 1 * k.val = k.val; rw [hi.1]; omega
  | ⟨1, _⟩ => show cc0_transform_1 (grid0.coords (at_ p)) 1 * 2048 + 1 * s.val = s.val; rw [hi.2]; omega

/-- The other core's tile. -/
theorem blk2 (c : Dev nD) (p : Fin 4) (r : Fin 256) (s : Fin 2048) :
    (iblk m hO c 2 (at_ p) : Vec Ideal S1x256x2048 .bf16) (ix3 0 r s) = recv m c (ix3 p r s) := by
  have hi := (index 0 (at_ p)).2.2.2
  rw [at_row] at hi
  refine Eq.trans ?_ (congrFun (V_main_arg3 m c) (ix3 p r s))
  refine congrArg (V m c main_arg3) ?_
  funext a
  apply Fin.ext
  match a with
  | ⟨0, _⟩ => show cc0_transform_2 (grid0.coords (at_ p)) 0 * 1 + 1 * 0 = p.val; rw [hi.1]; omega
  | ⟨1, _⟩ => show cc0_transform_2 (grid0.coords (at_ p)) 1 * 256 + 1 * r.val = r.val; rw [hi.2.1]; omega
  | ⟨2, _⟩ => show cc0_transform_2 (grid0.coords (at_ p)) 2 * 2048 + 1 * s.val = s.val; rw [hi.2.2]; omega

/-- The result's tile, read off any array. -/
theorem blk3 (X : S4x256x2048.Idx → EReal) (p : Fin 4) (r : Fin 256) (s : Fin 2048) :
    X (ix3 p r s) = ((((cfgM m hO).win 3).blk (at_ p)).view.read (Elt Ideal) X : S1x256x2048.Idx → EReal) (ix3 0 r s) := by
  have hi := (index 0 (at_ p)).2.2.1
  rw [at_row] at hi
  refine congrArg X ?_
  funext a
  apply Fin.ext
  match a with
  | ⟨0, _⟩ => show p.val = cc0_transform_3 (grid0.coords (at_ p)) 0 * 1 + 1 * 0; rw [hi.1]; omega
  | ⟨1, _⟩ => show r.val = cc0_transform_3 (grid0.coords (at_ p)) 1 * 256 + 1 * r.val; rw [hi.2.1]; omega
  | ⟨2, _⟩ => show s.val = cc0_transform_3 (grid0.coords (at_ p)) 2 * 2048 + 1 * s.val; rw [hi.2.2]; omega

include hb in
/-- The result array, element by element. -/
theorem final (c : Dev nD) (p : Fin 4) (r : Fin 256) (s : Fin 2048) :
    ((dats m hO 0 c).arrAt 3 (cfgM m hO).N : S4x256x2048.Idx → EReal) (ix3 p r s)
      = (∑ k : Fin 2048, act m c (ix2 k (ownedRow p (mine true b) r rfl)) * dh m c (ix2 k s)) + recv m c (ix3 p r s) := by
  refine (blk3 m hO _ p r s).trans ((congrFun (tile m hO c (at_ p)) (ix3 0 r s)).trans ?_)
  refine (congrFun ((after0_3 m hO c (at_ p)).trans (out m hO c (at_ p))) (ix3 0 r s)).trans ?_
  refine (pay (iblk m hO c 0 (at_ p)) (iblk m hO c 1 (at_ p)) (iblk m hO c 2 (at_ p)) r s).trans ?_
  refine congrArg₂ (· + ·) (Finset.sum_congr rfl fun k _ => ?_) (blk2 m hO c p r s)
  rw [blk0 m hO hb, blk1]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

end Cert.SquareDwOwnIdeal.Mlp

namespace Cert.SquareDwOwnReferenceIdeal.Mlp

open Idealize.ShloMosaic Idealize.ShloMosaic.TcCoe Idealize.SL.Sem Cert.SquareDwOwnReferenceIdeal Cert.SquareDwOwnReferenceIdeal.Read Cert.Mlp

/-- The gradient, cut into the devices' blocks of rows. -/
theorem blocks (x1 : FVec Ideal S2048x2048 .f32) (x2 : FVec Ideal S2048x2048 .f32) (p : Fin 4) (q : Fin 2) (r : Fin 256) (s : Fin 2048)
    (i : S4x2x256x2048.Idx) (h0 : (i 0).val = p.val) (h1 : (i 1).val = q.val) (h2 : (i 2).val = r.val) (h3 : (i 3).val = s.val) :
    (val_main_v4 (F := Ideal) x1 x2 i : EReal) = ∑ k : Fin 2048, x1 (ix2 k (ownedRow p q r rfl)) * x2 (ix2 k s) :=
  Cert.SquareDwOtherReferenceIdeal.Mlp.blocks x1 x2 p q r s i h0 h1 h2 h3

/-- The half which the reference takes, on either core. -/
theorem half (b : Fin 2) (x0 : IVec S1 32) (hx : ∀ i, x0 i = BitVec.ofNat 32 b.val) (x1 : FVec Ideal S2048x2048 .f32) (x2 : FVec Ideal S2048x2048 .f32)
    (p : Fin 4) (r : Fin 256) (s : Fin 2048) :
    (val_main_v11 (F := Ideal) x0 x1 x2 (ix3 p r s) : EReal) = ∑ k : Fin 2048, x1 (ix2 k (ownedRow p (mine true b) r rfl)) * x2 (ix2 k s) := by
  have e0 : ((p.val * 256 + r.val) * 2048 + s.val) / 524288 = p.val := by omega
  have e2 : ((p.val * 256 + r.val) * 2048 + s.val) / 2048 % 256 = r.val := by omega
  have e3 : ((p.val * 256 + r.val) * 2048 + s.val) % 2048 = s.val := by omega
  have hc : val_main_v6 (F := Ideal) x0 = fun _ => IntOp.cmpi .eq (BitVec.ofNat 32 b.val) 0#32 := by
    funext i
    unfold val_main_v6 val_main_v5 val_main_c
    exact congrArg (fun x => IntOp.cmpi .eq x 0#32) (hx _)
  unfold val_main_v11
  rw [hc]
  match b with
  | ⟨0, _⟩ =>
    refine Eq.trans ?_ (blocks x1 x2 p 0 r s (idx_main_v7 (idx_main_v8 (ix3 p r s))) e0 rfl e2 e3)
    rw [← val_main_v7_apply, ← val_main_v8_apply]
    rfl
  | ⟨1, _⟩ =>
    refine Eq.trans ?_ (blocks x1 x2 p 1 r s (idx_main_v9 (idx_main_v10 (ix3 p r s))) e0 rfl e2 e3)
    rw [← val_main_v9_apply, ← val_main_v10_apply]
    rfl

/-- The reference's result, element by element. -/
theorem value (b : Fin 2) (x0 : IVec S1 32) (hx : ∀ i, x0 i = BitVec.ofNat 32 b.val) (x1 : FVec Ideal S2048x2048 .f32) (x2 : FVec Ideal S2048x2048 .f32)
    (x3 : FVec Ideal S4x256x2048 .bf16) (p : Fin 4) (r : Fin 256) (s : Fin 2048) :
    (val_main_v14 (F := Ideal) x0 x1 x2 x3 (ix3 p r s) : EReal)
      = (∑ k : Fin 2048, x1 (ix2 k (ownedRow p (mine true b) r rfl)) * x2 (ix2 k s)) + x3 (ix3 p r s) := by
  rw [val_main_v14_apply, val_main_v13_apply]
  exact congrArg (· + (x3 (ix3 p r s) : EReal)) (half b x0 hx x1 x2 p r s)

end Cert.SquareDwOwnReferenceIdeal.Mlp

namespace Cert.Mlp

open Idealize.ShloMosaic Idealize.ShloMosaic.TcCoe Idealize.SL.Sem

attribute [local instance] Cert.Pre_is_core_square_own.Gen.facts

/-- The gradient's program runs and keeps its arguments. -/
theorem frame_SquareDwOwn : Cert.quiescent_SquareDwOwn (hSquareDwOwn := Cert.SquareDwOwn.Gen.facts) := fun m ρ h =>
  Cert.SquareDwOwn.Gen.frame m ρ (Cert.SquareDwOwn.Mlp.ok m h)

/-- Its idealization runs and keeps its arguments. -/
theorem frame_SquareDwOwnIdeal : Cert.quiescent_SquareDwOwnIdeal (hSquareDwOwnIdeal := Cert.SquareDwOwnIdeal.Gen.facts) := fun m ρ h =>
  Cert.SquareDwOwnIdeal.Gen.frame m ρ (Cert.SquareDwOwnIdeal.Mlp.ok m (Cert.SquareDwOwnIdeal.Mlp.core m h).choose_spec)

/-- Its reference runs and keeps its arguments. -/
theorem frame_SquareDwOwnReferenceIdeal : Cert.quiescent_SquareDwOwnReferenceIdeal (hSquareDwOwnReferenceIdeal := Cert.SquareDwOwnReferenceIdeal.Gen.facts) := fun m ρ _ =>
  (θ_run Cert.SquareDwOwnReferenceIdeal.defs _ _).mono (fun r h => ⟨fun c => (h c).2, sem_eq_zero_of_no_sems (by decide) r.2⟩)
    (Cert.SquareDwOwnReferenceIdeal.Value.run (F := Ideal) m ρ)

/-- The kernel's result and the reference's are equal, for any arguments on either core. -/
theorem same_SquareDwOwn : Cert.algebraic_SquareDwOwnIdeal_SquareDwOwnReferenceIdeal (hSquareDwOwnIdeal := Cert.SquareDwOwnIdeal.Gen.facts)
    (hSquareDwOwnReferenceIdeal := Cert.SquareDwOwnReferenceIdeal.Gen.facts) := by
  intro m ρ m' ρ' hp hag
  obtain ⟨b, hb⟩ := Cert.SquareDwOwnIdeal.Mlp.core m hp
  have hO := Cert.SquareDwOwnIdeal.Mlp.ok m hb
  refine ⟨fun c => (Cert.SquareDwOwnIdeal.Gen.dats m hO 0 c).arrAt 3 (Cert.SquareDwOwnIdeal.Gen.cfgM m hO).N, Cert.SquareDwOwnIdeal.Mlp.run m hO ρ, ?_⟩
  refine (θ_run _ _ _).mono (fun r h c => ?_) (Cert.SquareDwOwnReferenceIdeal.Value.run m' ρ')
  obtain ⟨e, rest⟩ := h c
  refine ⟨(e.trans (Cert.SquareDwOwnReferenceIdeal.Read.val_main_v14_eq _ _ _ _)).trans ?_, rest⟩
  obtain ⟨a0, a1, a2, a3⟩ := hag c
  rw [a0, a1, a2, a3]
  funext i
  obtain ⟨p, r, s, rfl⟩ : ∃ (p : Fin 4) (r : Fin 256) (s : Fin 2048), i = ix3 p r s := ⟨i 0, i 1, i 2, eq_ix3 i⟩
  obtain rfl : c = 0 := Subsingleton.elim _ _
  have hx : ∀ j, m (((0 : Dev Cert.SquareDwOwnIdeal.nD) : Thread Cert.SquareDwOwnIdeal.nD Cert.SquareDwOwnIdeal.τ).loc Cert.SquareDwOwnIdeal.main_arg0) j = BitVec.ofNat 32 b.val :=
    fun j => (congrFun (Cert.SquareDwOwnIdeal.Gen.V_main_arg0 m 0) j).symm.trans (congrFun (congrFun hb 0) j)
  exact (Cert.SquareDwOwnReferenceIdeal.Mlp.value b _ hx _ _ _ p r s).trans (Cert.SquareDwOwnIdeal.Mlp.final m hO hb 0 p r s).symm

end Cert.Mlp

end
-- ==== Proof.MixaInDwOther.lean ====
module

public import proofs.«01_k».proof.Defs
public import proofs.«01_k».proof.Proof.Owner
public import proofs.«01_k».proof.Proof.Product
public import proofs.«01_k».proof.Proof.Gen.Pre_is_core_mixa
public import proofs.«01_k».proof.Proof.Gen.MixaInDwOther.Frame
public import proofs.«01_k».proof.Proof.Gen.MixaInDwOtherIdeal.Frame
public import proofs.«01_k».proof.Proof.Gen.MixaInDwOtherReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the first mixer's input weights, the half that the chip's other core keeps. -/

@[expose] public section

set_option maxRecDepth 16384

noncomputable section

namespace Cert.MixaInDwOther.Mlp

open Idealize.ShloMosaic Idealize.ShloMosaic.TcCoe Idealize.SL.Sem Cert.MixaInDwOther Cert.MixaInDwOther.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_mixa.Gen.facts

/-- The precondition says that the table holds a core's number. -/
theorem core (m : (ℓ : Loc nD τ sig) → Buf (Elt Bits) ℓ) (h : Cert.Pre_MixaInDwOther m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_MixaInDwOther m) : Ok m := by
  obtain ⟨b, hb⟩ := core m h
  unfold Ok
  rw [hb]
  clear hb
  revert b
  decide

end Cert.MixaInDwOther.Mlp

namespace Cert.MixaInDwOtherIdeal.Mlp

open Idealize.ShloMosaic Idealize.ShloMosaic.TcCoe Idealize.SL.Sem Cert.MixaInDwOtherIdeal Cert.MixaInDwOtherIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_mixa.Gen.facts

/-- The precondition says that the table holds a core's number. -/
theorem core (m : (ℓ : Loc nD τ sig) → Buf (Elt Ideal) ℓ) (h : Cert.Pre_MixaInDwOtherIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns. -/
theorem pay (u : Vec Ideal S2048x2048 .bf16) (v : Vec Ideal S2048x512 .bf16) (i : Fin 2048) (j : Fin 512) :
    k0_pay1 u v (ix3 0 i j) = ∑ k : Fin 2048, u (ix2 k i) * v (ix2 k j) := by
  unfold k0_pay1
  pointwise

/-- The body leaves its one tile. -/
theorem body (c : Dev nD) (i : grid0.Coords) (arg4 : Memref sig .tc .vmem S2048x2048 .bf16) (harg4 : arg4.IsWhole) (arg5 : Memref sig .tc .vmem S2048x512 .bf16)
    (harg5 : arg5.IsWhole) (arg6 : Memref sig .tc .vmem S1x2048x512 .bf16) (harg6 : arg6.IsWhole) (x0 : Vec Ideal S2048x2048 .bf16) (x1 : Vec Ideal S2048x512 .bf16) (xt0 : TbBuf0 (F := Ideal) c tbM0_0) :
    out0_A_2 c i arg4 harg4 arg5 harg5 arg6 harg6 x0 x1 xt0 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_2
  rw [View.read_writes_eq_canon _ _ _ (cover0_A_2 _ _ _ _ _ _ _ _ _ _ _)]
  unfold kernelRun0_A
  dsimp only
  sl_unfold_words
  rw [View.canon_unit_zero hz3]
  simp only [View.readAt_eq_ld, Memref.IsWhole.read_unread, View.ld_unit_zero (S := S2048x2048) hz2, View.ld_unit_zero (S := S2048x512) hz2]

variable (m : (ℓ : Loc nD τ sig) → Buf (Elt Ideal) ℓ) (hO : Ok m)

/-- The layer's normalised input -/
abbrev hn (c : Dev nD) : S2048x2048.Idx → EReal := m ((c : Thread nD τ).loc main_arg1)
/-- and the cotangent, as launched. -/
abbrev dpre (c : Dev nD) : S2048x4096.Idx → EReal := m ((c : Thread nD τ).loc main_arg2)

/-- The input as the region finds it. -/
theorem V_hn (c : Dev nD) (i : S2048x2048.Idx) : V m c main_v0 i = hn m c i := by
  unfold V
  after_reads_at

/-- The cotangent as the region finds it. -/
theorem V_dpre (c : Dev nD) (i : S2048x4096.Idx) : V m c main_v1 i = dpre m c i := by
  unfold V
  after_reads_at

/-- Where each window's block lies at a point, for either core. -/
theorem index : ∀ (b : Fin 2) (t : Fin grid0.N),
    (cc0_transform_0 (grid0.coords t) 0 = 0 ∧ cc0_transform_0 (grid0.coords t) 1 = 0)
    ∧ (cc0_transform_1 inb_S1_S1_0 numel1_S1 (table b) (grid0.coords t) 0 = 0
      ∧ cc0_transform_1 inb_S1_S1_0 numel1_S1 (table b) (grid0.coords t) 1 = 2 * t.val + (mine false b).val)
    ∧ (cc0_transform_2 (grid0.coords t) 0 = t.val ∧ cc0_transform_2 (grid0.coords t) 1 = 0 ∧ cc0_transform_2 (grid0.coords t) 2 = 0) := by
  decide +kernel

variable {b : Fin 2} (hb : tbl m = table b)

include hb in
/-- Where the cotangent's block lies. -/
theorem index1 (t : Fin grid0.N) : cc0_transform_1 inb_S1_S1_0 numel1_S1 (tbl m) (grid0.coords t) 0 = 0
    ∧ cc0_transform_1 inb_S1_S1_0 numel1_S1 (tbl m) (grid0.coords t) 1 = 2 * t.val + (mine false b).val := by
  have h := (index b t).2.1
  rw [← hb] at h
  exact h

/-- What a point leaves is its tile. -/
theorem out (c : Dev nD) (t : Fin (cfgM m hO).N) :
    (outsAt0 m hO c t : S1x2048x512.Idx → EReal) = k0_pay1 (iblk m hO c 0 t : Vec Ideal S2048x2048 .bf16) (iblk m hO c 1 t : Vec Ideal S2048x512 .bf16) :=
  body c _ _ _ _ _ _ _ _ _ _

/-- Two points write two tiles. -/
theorem tiles (t t' : Fin (cfgM m hO).N) (h : ((cfgM m hO).win 2).index t = ((cfgM m hO).win 2).index t') : t = t' :=
  (by decide +kernel : ∀ t t' : Fin grid0.N, cc0_transform_2 (grid0.coords t) = cc0_transform_2 (grid0.coords t') → t = t') t t' h

/-- So each tile of the result is what its point wrote. -/
theorem tile (c : Dev nD) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (fun t t' _ _ hne => ((cfgM m hO).win 2).disjoint_blk fun h => hne (tiles m hO t t' h))
    (cfgM m hO).N t t.isLt (flush0_2 _ t)

/-- The point whose tile holds chip `p`'s columns. -/
noncomputable def at_ (p : Fin 4) : Fin grid0.N := ⟨p.val, p.isLt⟩

/-- Its place among the points. -/
theorem at_chip (p : Fin 4) : (at_ p).val = p.val := rfl

/-- The input's block. -/
theorem blk0 (c : Dev nD) (p : Fin 4) (r k : Fin 2048) :
    (iblk m hO c 0 (at_ p) : Vec Ideal S2048x2048 .bf16) (ix2 k r) = hn m c (ix2 k r) := by
  have hi := (index 0 (at_ p)).1
  refine Eq.trans ?_ (V_hn m c (ix2 k r))
  refine congrArg (V m c main_v0) ?_
  funext a
  apply Fin.ext
  match a with
  | ⟨0, _⟩ => show cc0_transform_0 (grid0.coords (at_ p)) 0 * 2048 + 1 * k.val = k.val; rw [hi.1]; omega
  | ⟨1, _⟩ => show cc0_transform_0 (grid0.coords (at_ p)) 1 * 2048 + 1 * r.val = r.val; rw [hi.2]; omega

include hb in
/-- The cotangent's block. -/
theorem blk1 (c : Dev nD) (p : Fin 4) (k : Fin 2048) (s : Fin 512) :
    (iblk m hO c 1 (at_ p) : Vec Ideal S2048x512 .bf16) (ix2 k s) = dpre m c (ix2 k (ownedRow p (mine false b) s rfl)) := by
  have hi := index1 m hb (at_ p)
  rw [at_chip] at hi
  refine Eq.trans ?_ (V_dpre m c (ix2 k (ownedRow p (mine false b) s rfl)))
  refine congrArg (V m c main_v1) ?_
  funext a
  apply Fin.ext
  match a with
  | ⟨0, _⟩ => show cc0_transform_1 inb_S1_S1_0 numel1_S1 (tbl m) (grid0.coords (at_ p)) 0 * 2048 + 1 * k.val = k.val; rw [hi.1]; omega
  | ⟨1, _⟩ =>
    show cc0_transform_1 inb_S1_S1_0 numel1_S1 (tbl m) (grid0.coords (at_ p)) 1 * 512 + 1 * s.val = 512 * (2 * p.val + (mine false b).val) + s.val
    rw [hi.2]; omega

/-- The result's tile, read off any array. -/
theorem blk2 (X : S4x2048x512.Idx → EReal) (p : Fin 4) (r : Fin 2048) (s : Fin 512) :
    X (ix3 p r s) = ((((cfgM m hO).win 2).blk (at_ p)).view.read (Elt Ideal) X : S1x2048x512.Idx → EReal) (ix3 0 r s) := by
  have hi := (index 0 (at_ p)).2.2
  rw [at_chip] at hi
  refine congrArg X ?_
  funext a
  apply Fin.ext
  match a with
  | ⟨0, _⟩ => show p.val = cc0_transform_2 (grid0.coords (at_ p)) 0 * 1 + 1 * 0; rw [hi.1]; omega
  | ⟨1, _⟩ => show r.val = cc0_transform_2 (grid0.coords (at_ p)) 1 * 2048 + 1 * r.val; rw [hi.2.1]; omega
  | ⟨2, _⟩ => show s.val = cc0_transform_2 (grid0.coords (at_ p)) 2 * 512 + 1 * s.val; rw [hi.2.2]; omega

include hb in
/-- The result array, element by element. -/
theorem final (c : Dev nD) (p : Fin 4) (r : Fin 2048) (s : Fin 512) :
    ((dats m hO 0 c).arrAt 2 (cfgM m hO).N : S4x2048x512.Idx → EReal) (ix3 p r s)
      = ∑ k : Fin 2048, hn m c (ix2 k r) * dpre m c (ix2 k (ownedRow p (mine false b) s rfl)) := by
  refine (blk2 m hO _ p r s).trans ((congrFun (tile m hO c (at_ p)) (ix3 0 r s)).trans ?_)
  refine (congrFun ((after0_2 m hO c (at_ p)).trans (out m hO c (at_ p))) (ix3 0 r s)).trans ?_
  refine (pay (iblk m hO c 0 (at_ p)) (iblk m hO c 1 (at_ p)) r s).trans ?_
  refine Finset.sum_congr rfl fun k _ => ?_
  rw [blk0, blk1 m hO hb]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.MixaInDwOtherIdeal.Mlp

namespace Cert.MixaInDwOtherReferenceIdeal.Mlp

open Idealize.ShloMosaic Idealize.ShloMosaic.TcCoe Idealize.SL.Sem Cert.MixaInDwOtherReferenceIdeal Cert.MixaInDwOtherReferenceIdeal.Read Cert.Mlp

/-- The gradient, cut into the devices' blocks of columns. -/
theorem blocks (x1 : FVec Ideal S2048x2048 .f32) (x2 : FVec Ideal S2048x4096 .f32) (p : Fin 4) (q : Fin 2) (r : Fin 2048) (s : Fin 512)
    (i : S4x2x2048x512.Idx) (h0 : (i 0).val = p.val) (h1 : (i 1).val = q.val) (h2 : (i 2).val = r.val) (h3 : (i 3).val = s.val) :
    (val_main_v5 (F := Ideal) x1 x2 i : EReal) = ∑ k : Fin 2048, x1 (ix2 k r) * x2 (ix2 k (ownedRow p q s rfl)) := by
  rw [val_main_v5_apply, val_main_v4_apply, val_main_v3_apply, val_main_v2_apply]
  refine Finset.sum_congr rfl fun k _ => (mul_comm _ _).trans ?_
  have hr : ((((i 2).val * 4 + (i 0).val) * 2 + (i 1).val) * 512 + (i 3).val) / 4096 = r.val := by
    rw [h0, h1, h2, h3]; omega
  have hs : ((((i 2).val * 4 + (i 0).val) * 2 + (i 1).val) * 512 + (i 3).val) % 4096 = 512 * (2 * p.val + q.val) + s.val := by
    rw [h0, h1, h2, h3]; omega
  congr 2
  · funext a
    apply Fin.ext
    match a with
    | ⟨0, _⟩ => rfl
    | ⟨1, _⟩ => exact hr
  · funext a
    apply Fin.ext
    match a with
    | ⟨0, _⟩ => rfl
    | ⟨1, _⟩ => exact hs

/-- The reference's result, element by element, on either core. -/
theorem value (b : Fin 2) (x0 : IVec S1 32) (hx : ∀ i, x0 i = BitVec.ofNat 32 b.val) (x1 : FVec Ideal S2048x2048 .f32) (x2 : FVec Ideal S2048x4096 .f32)
    (p : Fin 4) (r : Fin 2048) (s : Fin 512) :
    (val_main_v13 (F := Ideal) x0 x1 x2 (ix3 p r s) : EReal) = ∑ k : Fin 2048, x1 (ix2 k r) * x2 (ix2 k (ownedRow p (mine false b) s rfl)) := by
  have e0 : ((p.val * 2048 + r.val) * 512 + s.val) / 1048576 = p.val := by omega
  have e2 : ((p.val * 2048 + r.val) * 512 + s.val) / 512 % 2048 = r.val := by omega
  have e3 : ((p.val * 2048 + r.val) * 512 + s.val) % 512 = s.val := by omega
  have hc : val_main_v7 (F := Ideal) x0 = fun _ => IntOp.cmpi .eq (BitVec.ofNat 32 b.val) 0#32 := by
    funext i
    unfold val_main_v7 val_main_v6 val_main_c
    exact congrArg (fun x => IntOp.cmpi .eq x 0#32) (hx _)
  rw [val_main_v13_apply]
  unfold val_main_v12
  rw [hc]
  match b with
  | ⟨0, _⟩ =>
    refine Eq.trans ?_ (blocks x1 x2 p 1 r s (idx_main_v8 (idx_main_v9 (ix3 p r s))) e0 rfl e2 e3)
    rw [← val_main_v8_apply, ← val_main_v9_apply]
    rfl
  | ⟨1, _⟩ =>
    refine Eq.trans ?_ (blocks x1 x2 p 0 r s (idx_main_v10 (idx_main_v11 (ix3 p r s))) e0 rfl e2 e3)
    rw [← val_main_v10_apply, ← val_main_v11_apply]
    rfl

end Cert.MixaInDwOtherReferenceIdeal.Mlp

namespace Cert.Mlp

open Idealize.ShloMosaic Idealize.ShloMosaic.TcCoe Idealize.SL.Sem

attribute [local instance] Cert.Pre_is_core_mixa.Gen.facts

/-- The gradient's program runs and keeps its arguments. -/
theorem frame_MixaInDwOther : Cert.quiescent_MixaInDwOther (hMixaInDwOther := Cert.MixaInDwOther.Gen.facts) := fun m ρ h =>
  Cert.MixaInDwOther.Gen.frame m ρ (Cert.MixaInDwOther.Mlp.ok m h)

/-- Its idealization runs and keeps its arguments. -/
theorem frame_MixaInDwOtherIdeal : Cert.quiescent_MixaInDwOtherIdeal (hMixaInDwOtherIdeal := Cert.MixaInDwOtherIdeal.Gen.facts) := fun m ρ h =>
  Cert.MixaInDwOtherIdeal.Gen.frame m ρ (Cert.MixaInDwOtherIdeal.Mlp.ok m (Cert.MixaInDwOtherIdeal.Mlp.core m h).choose_spec)

/-- Its reference runs and keeps its arguments. -/
theorem frame_MixaInDwOtherReferenceIdeal : Cert.quiescent_MixaInDwOtherReferenceIdeal (hMixaInDwOtherReferenceIdeal := Cert.MixaInDwOtherReferenceIdeal.Gen.facts) := fun m ρ _ =>
  (θ_run Cert.MixaInDwOtherReferenceIdeal.defs _ _).mono (fun r h => ⟨fun c => (h c).2, sem_eq_zero_of_no_sems (by decide) r.2⟩)
    (Cert.MixaInDwOtherReferenceIdeal.Value.run (F := Ideal) m ρ)

/-- The kernel's result and the reference's are equal, for any arguments on either core. -/
theorem same_MixaInDwOther : Cert.algebraic_MixaInDwOtherIdeal_MixaInDwOtherReferenceIdeal (hMixaInDwOtherIdeal := Cert.MixaInDwOtherIdeal.Gen.facts)
    (hMixaInDwOtherReferenceIdeal := Cert.MixaInDwOtherReferenceIdeal.Gen.facts) := by
  intro m ρ m' ρ' hp hag
  obtain ⟨b, hb⟩ := Cert.MixaInDwOtherIdeal.Mlp.core m hp
  have hO := Cert.MixaInDwOtherIdeal.Mlp.ok m hb
  refine ⟨fun c => (Cert.MixaInDwOtherIdeal.Gen.dats m hO 0 c).arrAt 2 (Cert.MixaInDwOtherIdeal.Gen.cfgM m hO).N, Cert.MixaInDwOtherIdeal.Mlp.run m hO ρ, ?_⟩
  refine (θ_run _ _ _).mono (fun r h c => ?_) (Cert.MixaInDwOtherReferenceIdeal.Value.run m' ρ')
  obtain ⟨e, rest⟩ := h c
  refine ⟨(e.trans (Cert.MixaInDwOtherReferenceIdeal.Read.val_main_v13_eq _ _ _)).trans ?_, rest⟩
  obtain ⟨a0, a1, a2⟩ := hag c
  rw [a0, a1, a2]
  funext i
  obtain ⟨p, r, s, rfl⟩ : ∃ (p : Fin 4) (r : Fin 2048) (s : Fin 512), i = ix3 p r s := ⟨i 0, i 1, i 2, eq_ix3 i⟩
  obtain rfl : c = 0 := Subsingleton.elim _ _
  have hx : ∀ j, m (((0 : Dev Cert.MixaInDwOtherIdeal.nD) : Thread Cert.MixaInDwOtherIdeal.nD Cert.MixaInDwOtherIdeal.τ).loc Cert.MixaInDwOtherIdeal.main_arg0) j = BitVec.ofNat 32 b.val :=
    fun j => (congrFun (Cert.MixaInDwOtherIdeal.Gen.V_main_arg0 m 0) j).symm.trans (congrFun (congrFun hb 0) j)
  exact (Cert.MixaInDwOtherReferenceIdeal.Mlp.value b _ hx _ _ p r s).trans (Cert.MixaInDwOtherIdeal.Mlp.final m hO hb 0 p r s).symm

end Cert.Mlp

end
-- ==== Proof.MixaInDwOwn.lean ====
module

public import proofs.«01_k».proof.Defs
public import proofs.«01_k».proof.Proof.Owner
public import proofs.«01_k».proof.Proof.Product
public import proofs.«01_k».proof.Proof.MixaInDwOther
public import proofs.«01_k».proof.Proof.Gen.Pre_is_core_mixa_own
public import proofs.«01_k».proof.Proof.Gen.MixaInDwOwn.Frame
public import proofs.«01_k».proof.Proof.Gen.MixaInDwOwnIdeal.Frame
public import proofs.«01_k».proof.Proof.Gen.MixaInDwOwnReferenceIdeal.Read
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Adequacy
public import Idealize.ShloMosaic.Init
public import Idealize.ShloMosaic.Lib.Quiescent

/-! The gradient of the first mixer's input weights, the half that this core keeps. -/

@[expose] public section

set_option maxRecDepth 16384

noncomputable section

namespace Cert.MixaInDwOwn.Mlp

open Idealize.ShloMosaic Idealize.ShloMosaic.TcCoe Idealize.SL.Sem Cert.MixaInDwOwn Cert.MixaInDwOwn.Gen Cert.Mlp

set_option backward.proofsInPublic true in
/-- The table that holds the core's number. -/
def table (b : Fin 2) : pre0.Contents (Elt Bits) := fun | ⟨0, _⟩ => fun _ => BitVec.ofNat 32 b.val | ⟨_ + 1, h⟩ => absurd h (by simp)

attribute [local instance] Cert.Pre_is_core_mixa_own.Gen.facts

/-- The precondition says that the table holds a core's number. -/
theorem core (m : (ℓ : Loc nD τ sig) → Buf (Elt Bits) ℓ) (h : Cert.Pre_MixaInDwOwn m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Bits) ℓ) (h : Cert.Pre_MixaInDwOwn m) : Ok m := by
  obtain ⟨b, hb⟩ := core m h
  unfold Ok
  rw [hb]
  clear hb
  revert b
  decide

end Cert.MixaInDwOwn.Mlp

namespace Cert.MixaInDwOwnIdeal.Mlp

open Idealize.ShloMosaic Idealize.ShloMosaic.TcCoe Idealize.SL.Sem Cert.MixaInDwOwnIdeal Cert.MixaInDwOwnIdeal.Gen Cert.Mlp

set_option backward.proofsInPublic true in
/-- The table that holds the core's number. -/
def table (b : Fin 2) : pre0.Contents (Elt Ideal) := fun | ⟨0, _⟩ => fun _ => BitVec.ofNat 32 b.val | ⟨_ + 1, h⟩ => absurd h (by simp)

attribute [local instance] Cert.Pre_is_core_mixa_own.Gen.facts

/-- The precondition says that the table holds a core's number. -/
theorem core (m : (ℓ : Loc nD τ sig) → Buf (Elt Ideal) ℓ) (h : Cert.Pre_MixaInDwOwnIdeal m) : ∃ b, tbl m = table b := by
  obtain ⟨b, hb⟩ := core_of _ (h 0)
  refine ⟨b, ?_⟩
  funext j x
  match j with
  | ⟨0, _⟩ =>
    exact (congrFun (V_main_arg0 m 0) x).trans (hb x)

/-- Each block lies inside its array, then. -/
theorem ok (m : (ℓ : Loc nD τ sig) → Buf (Elt Ideal) ℓ) {b : Fin 2} (h : tbl m = table b) : Ok m := by
  unfold Ok
  rw [h]
  clear h
  revert b
  decide

/-- A tile of the result is the product of two blocks of columns and what the other core computed. -/
theorem pay (u : Vec Ideal S2048x2048 .bf16) (v : Vec Ideal S2048x512 .bf16) (w : Vec Ideal S1x2048x512 .bf16) (i : Fin 2048) (j : Fin 512) :
    k0_pay1 u v w (ix3 0 i j) = (∑ k : Fin 2048, u (ix2 k i) * v (ix2 k j)) + w (ix3 0 i j) := by
  unfold k0_pay1
  pointwise

/-- The body leaves its one tile. -/
theorem body (c : Dev nD) (i : grid0.Coords) (arg4 : Memref sig .tc .vmem S2048x2048 .bf16) (harg4 : arg4.IsWhole) (arg5 : Memref sig .tc .vmem S2048x512 .bf16)
    (harg5 : arg5.IsWhole) (arg6 : Memref sig .tc .vmem S1x2048x512 .bf16) (harg6 : arg6.IsWhole) (arg7 : Memref sig .tc .vmem S1x2048x512 .bf16) (harg7 : arg7.IsWhole)
    (x0 : Vec Ideal S2048x2048 .bf16) (x1 : Vec Ideal S2048x512 .bf16) (x2 : Vec Ideal S1x2048x512 .bf16) (xt0 : TbBuf0 (F := Ideal) c tbM0_0) :
    out0_A_3 c i arg4 harg4 arg5 harg5 arg6 harg6 arg7 harg7 x0 x1 x2 xt0 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_A_3
  rw [View.read_writes_eq_canon _ _ _ (cover0_A_3 _ _ _ _ _ _ _ _ _ _ _ _ _ _)]
  unfold kernelRun0_A
  dsimp only
  sl_unfold_words
  rw [View.canon_unit_zero hz3]
  simp only [View.readAt_eq_ld, Memref.IsWhole.read_unread, View.ld_unit_zero (S := S2048x2048) hz2, View.ld_unit_zero (S := S2048x512) hz2, View.ld_unit_zero (S := S1x2048x512) hz3]

variable (m : (ℓ : Loc nD τ sig) → Buf (Elt Ideal) ℓ) (hO : Ok m)

/-- The layer's normalised input -/
abbrev hn (c : Dev nD) : S2048x2048.Idx → EReal := m ((c : Thread nD τ).loc main_arg1)
/-- and the cotangent -/
abbrev dpre (c : Dev nD) : S2048x4096.Idx → EReal := m ((c : Thread nD τ).loc main_arg2)
/-- and the other core's product, as launched. -/
abbrev recv (c : Dev nD) : S4x2048x512.Idx → EReal := m ((c : Thread nD τ).loc main_arg3)

/-- The input as the region finds it. -/
theorem V_hn (c : Dev nD) (i : S2048x2048.Idx) : V m c main_v0 i = hn m c i := by
  unfold V
  after_reads_at

/-- The cotangent as the region finds it. -/
theorem V_dpre (c : Dev nD) (i : S2048x4096.Idx) : V m c main_v1 i = dpre m c i := by
  unfold V
  after_reads_at

/-- Where each window's block lies at a point, for either core. -/
theorem index : ∀ (b : Fin 2) (t : Fin grid0.N),
    (cc0_transform_0 (grid0.coords t) 0 = 0 ∧ cc0_transform_0 (grid0.coords t) 1 = 0)
    ∧ (cc0_transform_1 inb_S1_S1_0 numel1_S1 (table b) (grid0.coords t) 0 = 0
      ∧ cc0_transform_1 inb_S1_S1_0 numel1_S1 (table b) (grid0.coords t) 1 = 2 * t.val + (mine true b).val)
    ∧ (cc0_transform_3 (grid0.coords t) 0 = t.val ∧ cc0_transform_3 (grid0.coords t) 1 = 0 ∧ cc0_transform_3 (grid0.coords t) 2 = 0)
    ∧ (cc0_transform_2 (grid0.coords t) 0 = t.val ∧ cc0_transform_2 (grid0.coords t) 1 = 0 ∧ cc0_transform_2 (grid0.coords t) 2 = 0) := by
  decide +kernel

variable {b : Fin 2} (hb : tbl m = table b)

include hb in
/-- Where the cotangent's block lies. -/
theorem index1 (t : Fin grid0.N) : cc0_transform_1 inb_S1_S1_0 numel1_S1 (tbl m) (grid0.coords t) 0 = 0
    ∧ cc0_transform_1 inb_S1_S1_0 numel1_S1 (tbl m) (grid0.coords t) 1 = 2 * t.val + (mine true b).val := by
  have h := (index b t).2.1
  rw [← hb] at h
  exact h

/-- What a point leaves is its tile. -/
theorem out (c : Dev nD) (t : Fin (cfgM m hO).N) :
    (outsAt0 m hO c t : S1x2048x512.Idx → EReal) = k0_pay1 (iblk m hO c 0 t : Vec Ideal S2048x2048 .bf16) (iblk m hO c 1 t : Vec Ideal S2048x512 .bf16) (iblk m hO c 2 t : Vec Ideal S1x2048x512 .bf16) :=
  body c _ _ _ _ _ _ _ _ _ _ _ _ _

/-- Two points write two tiles. -/
theorem tiles (t t' : Fin (cfgM m hO).N) (h : ((cfgM m hO).win 3).index t = ((cfgM m hO).win 3).index t') : t = t' :=
  (by decide +kernel : ∀ t t' : Fin grid0.N, cc0_transform_3 (grid0.coords t) = cc0_transform_3 (grid0.coords t') → t = t') t t' h

/-- So each tile of the result is what its point wrote. -/
theorem tile (c : Dev nD) (t : Fin (cfgM m hO).N) :
    (((cfgM m hO).win 3).blk t).view.read (Elt Ideal) ((dats m hO 0 c).arrAt 3 (cfgM m hO).N) = (dats m hO 0 c).flushed 3 t :=
  (dats m hO 0 c).read_blk_arrAt_eq_flushed 3 (fun t t' _ _ hne => ((cfgM m hO).win 3).disjoint_blk fun h => hne (tiles m hO t t' h))
    (cfgM m hO).N t t.isLt (flush0_3 _ t)

/-- The point whose tile holds chip `p`'s columns. -/
noncomputable def at_ (p : Fin 4) : Fin grid0.N := ⟨p.val, p.isLt⟩

/-- Its place among the points. -/
theorem at_chip (p : Fin 4) : (at_ p).val = p.val := rfl

/-- The input's block. -/
theorem blk0 (c : Dev nD) (p : Fin 4) (r k : Fin 2048) :
    (iblk m hO c 0 (at_ p) : Vec Ideal S2048x2048 .bf16) (ix2 k r) = hn m c (ix2 k r) := by
  have hi := (index 0 (at_ p)).1
  refine Eq.trans ?_ (V_hn m c (ix2 k r))
  refine congrArg (V m c main_v0) ?_
  funext a
  apply Fin.ext
  match a with
  | ⟨0, _⟩ => show cc0_transform_0 (grid0.coords (at_ p)) 0 * 2048 + 1 * k.val = k.val; rw [hi.1]; omega
  | ⟨1, _⟩ => show cc0_transform_0 (grid0.coords (at_ p)) 1 * 2048 + 1 * r.val = r.val; rw [hi.2]; omega

include hb in
/-- The cotangent's block. -/
theorem blk1 (c : Dev nD) (p : Fin 4) (k : Fin 2048) (s : Fin 512) :
    (iblk m hO c 1 (at_ p) : Vec Ideal S2048x512 .bf16) (ix2 k s) = dpre m c (ix2 k (ownedRow p (mine true b) s rfl)) := by
  have hi := index1 m hb (at_ p)
  rw [at_chip] at hi
  refine Eq.trans ?_ (V_dpre m c (ix2 k (ownedRow p (mine true b) s rfl)))
  refine congrArg (V m c main_v1) ?_
  funext a
  apply Fin.ext
  match a with
  | ⟨0, _⟩ => show cc0_transform_1 inb_S1_S1_0 numel1_S1 (tbl m) (grid0.coords (at_ p)) 0 * 2048 + 1 * k.val = k.val; rw [hi.1]; omega
  | ⟨1, _⟩ =>
    show cc0_transform_1 inb_S1_S1_0 numel1_S1 (tbl m) (grid0.coords (at_ p)) 1 * 512 + 1 * s.val = 512 * (2 * p.val + (mine true b).val) + s.val
    rw [hi.2]; omega

/-- The other core's tile. -/
theorem blk2 (c : Dev nD) (p : Fin 4) (r : Fin 2048) (s : Fin 512) :
    (iblk m hO c 2 (at_ p) : Vec Ideal S1x2048x512 .bf16) (ix3 0 r s) = recv m c (ix3 p r s) := by
  have hi := (index 0 (at_ p)).2.2.2
  rw [at_chip] at hi
  refine Eq.trans ?_ (congrFun (V_main_arg3 m c) (ix3 p r s))
  refine congrArg (V m c main_arg3) ?_
  funext a
  apply Fin.ext
  match a with
  | ⟨0, _⟩ => show cc0_transform_2 (grid0.coords (at_ p)) 0 * 1 + 1 * 0 = p.val; rw [hi.1]; omega
  | ⟨1, _⟩ => show cc0_transform_2 (grid0.coords (at_ p)) 1 * 2048 + 1 * r.val = r.val; rw [hi.2.1]; omega
  | ⟨2, _⟩ => show cc0_transform_2 (grid0.coords (at_ p)) 2 * 512 + 1 * s.val = s.val; rw [hi.2.2]; omega

/-- The result's tile, read off any array. -/
theorem blk3 (X : S4x2048x512.Idx → EReal) (p : Fin 4) (r : Fin 2048) (s : Fin 512) :
    X (ix3 p r s) = ((((cfgM m hO).win 3).blk (at_ p)).view.read (Elt Ideal) X : S1x2048x512.Idx → EReal) (ix3 0 r s) := by
  have hi := (index 0 (at_ p)).2.2.1
  rw [at_chip] at hi
  refine congrArg X ?_
  funext a
  apply Fin.ext
  match a with
  | ⟨0, _⟩ => show p.val = cc0_transform_3 (grid0.coords (at_ p)) 0 * 1 + 1 * 0; rw [hi.1]; omega
  | ⟨1, _⟩ => show r.val = cc0_transform_3 (grid0.coords (at_ p)) 1 * 2048 + 1 * r.val; rw [hi.2.1]; omega
  | ⟨2, _⟩ => show s.val = cc0_transform_3 (grid0.coords (at_ p)) 2 * 512 + 1 * s.val; rw [hi.2.2]; omega

include hb in
/-- The result array, element by element. -/
theorem final (c : Dev nD) (p : Fin 4) (r : Fin 2048) (s : Fin 512) :
    ((dats m hO 0 c).arrAt 3 (cfgM m hO).N : S4x2048x512.Idx → EReal) (ix3 p r s)
      = (∑ k : Fin 2048, hn m c (ix2 k r) * dpre m c (ix2 k (ownedRow p (mine true b) s rfl))) + recv m c (ix3 p r s) := by
  refine (blk3 m hO _ p r s).trans ((congrFun (tile m hO c (at_ p)) (ix3 0 r s)).trans ?_)
  refine (congrFun ((after0_3 m hO c (at_ p)).trans (out m hO c (at_ p))) (ix3 0 r s)).trans ?_
  refine (pay (iblk m hO c 0 (at_ p)) (iblk m hO c 1 (at_ p)) (iblk m hO c 2 (at_ p)) r s).trans ?_
  refine congrArg₂ (· + ·) (Finset.sum_congr rfl fun k _ => ?_) (blk2 m hO c p r s)
  rw [blk0, blk1 m hO hb]

/-- The run, its result named and its arguments kept. -/
theorem run (ρ : Dev nD → PrngReg) : θ_run defs (onTc (τ := τ) (main (F := Ideal))) ⟨m, fun _ => 0, ρ⟩ fun r => ∀ c : Dev nD,
      r.2.mem ((c : Thread nD τ).loc main_v2) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

end Cert.MixaInDwOwnIdeal.Mlp

namespace Cert.MixaInDwOwnReferenceIdeal.Mlp

open Idealize.ShloMosaic Idealize.ShloMosaic.TcCoe Idealize.SL.Sem Cert.MixaInDwOwnReferenceIdeal Cert.MixaInDwOwnReferenceIdeal.Read Cert.Mlp

/-- The gradient, cut into the devices' blocks of columns. -/
theorem blocks (x1 : FVec Ideal S2048x2048 .f32) (x2 : FVec Ideal S2048x4096 .f32) (p : Fin 4) (q : Fin 2) (r : Fin 2048) (s : Fin 512)
    (i : S4x2x2048x512.Idx) (h0 : (i 0).val = p.val) (h1 : (i 1).val = q.val) (h2 : (i 2).val = r.val) (h3 : (i 3).val = s.val) :
    (val_main_v5 (F := Ideal) x1 x2 i : EReal) = ∑ k : Fin 2048, x1 (ix2 k r) * x2 (ix2 k (ownedRow p q s rfl)) :=
  Cert.MixaInDwOtherReferenceIdeal.Mlp.blocks x1 x2 p q r s i h0 h1 h2 h3

/-- The half which the reference takes, on either core. -/
theorem half (b : Fin 2) (x0 : IVec S1 32) (hx : ∀ i, x0 i = BitVec.ofNat 32 b.val) (x1 : FVec Ideal S2048x2048 .f32) (x2 : FVec Ideal S2048x4096 .f32)
    (p : Fin 4) (r : Fin 2048) (s : Fin 512) :
    (val_main_v12 (F := Ideal) x0 x1 x2 (ix3 p r s) : EReal) = ∑ k : Fin 2048, x1 (ix2 k r) * x2 (ix2 k (ownedRow p (mine true b) s rfl)) := by
  have e0 : ((p.val * 2048 + r.val) * 512 + s.val) / 1048576 = p.val := by omega
  have e2 : ((p.val * 2048 + r.val) * 512 + s.val) / 512 % 2048 = r.val := by omega
  have e3 : ((p.val * 2048 + r.val) * 512 + s.val) % 512 = s.val := by omega
  have hc : val_main_v7 (F := Ideal) x0 = fun _ => IntOp.cmpi .eq (BitVec.ofNat 32 b.val) 0#32 := by
    funext i
    unfold val_main_v7 val_main_v6 val_main_c
    exact congrArg (fun x => IntOp.cmpi .eq x 0#32) (hx _)
  unfold val_main_v12
  rw [hc]
  match b with
  | ⟨0, _⟩ =>
    refine Eq.trans ?_ (blocks x1 x2 p 0 r s (idx_main_v8 (idx_main_v9 (ix3 p r s))) e0 rfl e2 e3)
    rw [← val_main_v8_apply, ← val_main_v9_apply]
    rfl
  | ⟨1, _⟩ =>
    refine Eq.trans ?_ (blocks x1 x2 p 1 r s (idx_main_v10 (idx_main_v11 (ix3 p r s))) e0 rfl e2 e3)
    rw [← val_main_v10_apply, ← val_main_v11_apply]
    rfl

/-- The reference's result, element by element. -/
theorem value (b : Fin 2) (x0 : IVec S1 32) (hx : ∀ i, x0 i = BitVec.ofNat 32 b.val) (x1 : FVec Ideal S2048x2048 .f32) (x2 : FVec Ideal S2048x4096 .f32)
    (x3 : FVec Ideal S4x2048x512 .bf16) (p : Fin 4) (r : Fin 2048) (s : Fin 512) :
    (val_main_v15 (F := Ideal) x0 x1 x2 x3 (ix3 p r s) : EReal)
      = (∑ k : Fin 2048, x1 (ix2 k r) * x2 (ix2 k (ownedRow p (mine true b) s rfl))) + x3 (ix3 p r s) := by
  rw [val_main_v15_apply, val_main_v14_apply]
  exact congrArg (· + (x3 (ix3 p r s) : EReal)) (half b x0 hx x1 x2 p r s)

end Cert.MixaInDwOwnReferenceIdeal.Mlp

namespace Cert.Mlp

open Idealize.ShloMosaic Idealize.ShloMosaic.TcCoe Idealize.SL.Sem

attribute [local instance] Cert.Pre_is_core_mixa_own.Gen.facts

/-- The gradient's program runs and keeps its arguments. -/
theorem frame_MixaInDwOwn : Cert.quiescent_MixaInDwOwn (hMixaInDwOwn := Cert.MixaInDwOwn.Gen.facts) := fun m ρ h =>
  Cert.MixaInDwOwn.Gen.frame m ρ (Cert.MixaInDwOwn.Mlp.ok m h)

/-- Its idealization runs and keeps its arguments. -/
theorem frame_MixaInDwOwnIdeal : Cert.quiescent_MixaInDwOwnIdeal (hMixaInDwOwnIdeal := Cert.MixaInDwOwnIdeal.Gen.facts) := fun m ρ h =>
  Cert.MixaInDwOwnIdeal.Gen.frame m ρ (Cert.MixaInDwOwnIdeal.Mlp.ok m (Cert.MixaInDwOwnIdeal.Mlp.core m h).choose_spec)

/-- Its reference runs and keeps its arguments. -/
theorem frame_MixaInDwOwnReferenceIdeal : Cert.quiescent_MixaInDwOwnReferenceIdeal (hMixaInDwOwnReferenceIdeal := Cert.MixaInDwOwnReferenceIdeal.Gen.facts) := fun m ρ _ =>
  (θ_run Cert.MixaInDwOwnReferenceIdeal.defs _ _).mono (fun r h => ⟨fun c => (h c).2, sem_eq_zero_of_no_sems (by decide) r.2⟩)
    (Cert.MixaInDwOwnReferenceIdeal.Value.run (F := Ideal) m ρ)

/-- The kernel's result and the reference's are equal, for any arguments on either core. -/
theorem same_MixaInDwOwn : Cert.algebraic_MixaInDwOwnIdeal_MixaInDwOwnReferenceIdeal (hMixaInDwOwnIdeal := Cert.MixaInDwOwnIdeal.Gen.facts)
    (hMixaInDwOwnReferenceIdeal := Cert.MixaInDwOwnReferenceIdeal.Gen.facts) := by
  intro m ρ m' ρ' hp hag
  obtain ⟨b, hb⟩ := Cert.MixaInDwOwnIdeal.Mlp.core m hp
  have hO := Cert.MixaInDwOwnIdeal.Mlp.ok m hb
  refine ⟨fun c => (Cert.MixaInDwOwnIdeal.Gen.dats m hO 0 c).arrAt 3 (Cert.MixaInDwOwnIdeal.Gen.cfgM m hO).N, Cert.MixaInDwOwnIdeal.Mlp.run m hO ρ, ?_⟩
  refine (θ_run _ _ _).mono (fun r h c => ?_) (Cert.MixaInDwOwnReferenceIdeal.Value.run m' ρ')
  obtain ⟨e, rest⟩ := h c
  refine ⟨(e.trans (Cert.MixaInDwOwnReferenceIdeal.Read.val_main_v15_eq _ _ _ _)).trans ?_, rest⟩
  obtain ⟨a0, a1, a2, a3⟩ := hag c
  rw [a0, a1, a2, a3]
  funext i
  obtain ⟨p, r, s, rfl⟩ : ∃ (p : Fin 4) (r : Fin 2048) (s : Fin 512), i = ix3 p r s := ⟨i 0, i 1, i 2, eq_ix3 i⟩
  obtain rfl : c = 0 := Subsingleton.elim _ _
  have hx : ∀ j, m (((0 : Dev Cert.MixaInDwOwnIdeal.nD) : Thread Cert.MixaInDwOwnIdeal.nD Cert.MixaInDwOwnIdeal.τ).loc Cert.MixaInDwOwnIdeal.main_arg0) j = BitVec.ofNat 32 b.val :=
    fun j => (congrFun (Cert.MixaInDwOwnIdeal.Gen.V_main_arg0 m 0) j).symm.trans (congrFun (congrFun hb 0) j)
  exact (Cert.MixaInDwOwnReferenceIdeal.Mlp.value b _ hx _ _ _ p r s).trans (Cert.MixaInDwOwnIdeal.Mlp.final m hO hb 0 p r s).symm

end Cert.Mlp

end
-- ==== Proof.Group.lean ====
module

public import Idealize.ShloMosaic.Lib.Tactic
public import Idealize.ShloMosaic.PureOps.Ideal

/-! Slabs of 512 columns, and the channels of the second mixer in their four groups. -/

@[expose] public section

namespace Cert.Mlp

/-- A channel's group, -/
def of_ (s : Fin 2048) : Fin 4 := ⟨s.val / 512, by omega⟩
/-- its place in the group (as a column's in its slab), -/
def in_ {n : ℕ} (s : Fin n) : Fin 512 := ⟨s.val % 512, Nat.mod_lt _ (by decide)⟩
/-- and the group's `k`-th channel. -/
def grp (g : Fin 4) (k : Fin 512) : Fin 2048 := ⟨512 * g.val + k.val, by omega⟩

/-- A channel is its group's, at its place. -/
theorem grp_of (s : Fin 2048) : grp (of_ s) (in_ s) = s := Fin.ext (by show 512 * (s.val / 512) + s.val % 512 = s.val; omega)

end Cert.Mlp
-- ==== Proof.MixaIn.lean ====
module

public import proofs.«01_k».proof.Defs
public import proofs.«01_k».proof.Proof.RealGate
public import proofs.«01_k».proof.Proof.Product
public import proofs.«01_k».proof.Proof.Group
public import proofs.«01_k».proof.Proof.Gen.MixaIn.Frame
public import proofs.«01_k».proof.Proof.Gen.MixaInIdeal.Value
public import proofs.«01_k».proof.Proof.Gen.MixaInReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The first mixer's input product: sixteen tiles, the weights split into eight slabs of columns. -/

@[expose] public section

set_option maxRecDepth 16384

noncomputable section

namespace Cert.MixaInIdeal.Mlp

open Idealize.ShloMosaic Idealize.ShloMosaic.TcCoe Idealize.SL.Sem Cert.MixaInIdeal Cert.MixaInIdeal.Gen Cert.MixaInIdeal.Value Cert.Gate Cert.Mlp

/-- A tile of the result: a row block times a column block. -/
theorem pay (u : Vec Ideal S1024x2048 .bf16) (v : Vec Ideal S1x2048x512 .bf16) (i : Fin 1024) (j : Fin 512) :
    (k0_pay1 u v (ix2 i j) : EReal) = ∑ k : Fin 2048, u (ix2 i k) * v (ix3 0 k j) := by
  unfold k0_pay1
  pointwise

/-- The body's result is its one tile. -/
theorem out (u : Vec Ideal S1024x2048 .bf16) (v : Vec Ideal S1x2048x512 .bf16) : out0_2 u v = k0_pay1 u v := by
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz]
  simp only [View.ld_unit_zero (S := S1024x2048) hz, View.ld_unit_zero (S := S1x2048x512) hz3]

variable (m : (ℓ : Loc nD τ sig) → Buf (Elt Ideal) ℓ)

/-- The normalized rows -/
abbrev hn (c : Dev nD) : S2048x2048.Idx → EReal := m ((c : Thread nD τ).loc main_arg0)
/-- and the weights, as launched. -/
abbrev w (c : Dev nD) : S2048x4096.Idx → EReal := m ((c : Thread nD τ).loc main_arg1)

/-- The rows as the region finds them. -/
theorem V_hn (c : Dev nD) (i : S2048x2048.Idx) : V m c main_v3 i = hn m c i := by
  unfold V
  after_reads_at

/-- The weights as the region finds them: slab `p` holds columns `512 p` to `512 p + 511`. -/
theorem V_w (c : Dev nD) (p : Fin 8) (k : Fin 2048) (s : Fin 4096) (hs : s.val / 512 = p.val) :
    V m c main_v2 (ix3 p k (in_ s)) = w m c (ix2 k s) := by
  unfold V
  after_reads_at
  refine congrArg (w m c) (funext fun a => Fin.ext ?_)
  match a with
  | ⟨0, _⟩ => rfl
  | ⟨1, _⟩ => show p.val * 512 + s.val % 512 = s.val; omega

/-- Where each window's block lies at a point. -/
theorem index (t : Fin cfg0.N) : (win0_0.index t 0 = t.val / 8 ∧ win0_0.index t 1 = 0) ∧ (win0_1.index t 0 = t.val % 8 ∧ win0_1.index t 1 = 0 ∧ win0_1.index t 2 = 0)
    ∧ (win0_2.index t 0 = t.val / 8 ∧ win0_2.index t 1 = t.val % 8) :=
  (by decide +kernel : ∀ t : Fin grid0.N, (win0_0.index t 0 = t.val / 8 ∧ win0_0.index t 1 = 0) ∧ (win0_1.index t 0 = t.val % 8 ∧ win0_1.index t 1 = 0 ∧ win0_1.index t 2 = 0)
    ∧ (win0_2.index t 0 = t.val / 8 ∧ win0_2.index t 1 = t.val % 8)) t

/-- The point whose tile holds row `r` and column `s`. -/
def at_ (r : Fin 2048) (s : Fin 4096) : Fin cfg0.N := ⟨8 * (r.val / 1024) + s.val / 512, by have hN : cfg0.N = 16 := N_0; omega⟩

/-- Its block row and block column. -/
theorem at_parts (r : Fin 2048) (s : Fin 4096) : (at_ r s).val / 8 = r.val / 1024 ∧ (at_ r s).val % 8 = s.val / 512 := by
  show (8 * (r.val / 1024) + s.val / 512) / 8 = _ ∧ (8 * (r.val / 1024) + s.val / 512) % 8 = _
  omega

/-- The rows' block. -/
theorem blk0 (c : Dev nD) (r : Fin 2048) (s : Fin 4096) (k : Fin 2048) :
    (iblk m c 0 (at_ r s) : Vec Ideal S1024x2048 .bf16) (ix2 (lo r) k) = hn m c (ix2 r k) := by
  have hi := (index (at_ r s)).1
  rw [(at_parts r s).1] at hi
  refine Eq.trans ?_ (V_hn m c (ix2 r k))
  unfold iblk
  rw [View.read_apply]
  show V m c main_v3 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r : Fin 2048) (s : Fin 4096) (k : Fin 2048) :
    (iblk m c 1 (at_ r s) : Vec Ideal S1x2048x512 .bf16) (ix3 0 k (in_ s)) = w m c (ix2 k s) := by
  have hi := (index (at_ r s)).2.1
  rw [(at_parts r s).2] at hi
  refine Eq.trans ?_ (V_w m c ⟨s.val / 512, by omega⟩ k s rfl)
  unfold iblk
  rw [View.read_apply]
  show V m c main_v2 _ = _
  congr 1
  funext a
  apply Fin.ext
  match a with
  | ⟨0, _⟩ => show win0_1.index (at_ r s) 0 * 1 + 1 * 0 = s.val / 512; rw [hi.1]; omega
  | ⟨1, _⟩ => show win0_1.index (at_ r s) 1 * 2048 + 1 * k.val = k.val; rw [hi.2.1]; omega
  | ⟨2, _⟩ => show win0_1.index (at_ r s) 2 * 512 + 1 * (s.val % 512) = s.val % 512; rw [hi.2.2]; omega

/-- The result array, element by element. -/
theorem final (c : Dev nD) (r : Fin 2048) (s : Fin 4096) :
    ((dats m 0 c).arrAt 2 cfg0.N : S2048x4096.Idx → EReal) (ix2 r s) = ∑ k : Fin 2048, hn m c (ix2 r k) * w m c (ix2 k s) := by
  have key := congrFun (blocks2 m c (at_ r s) (flush0_2 _)) (ix2 (lo r) (in_ s))
  rw [View.read_apply, flushed2, out] at key
  have hi := (index (at_ r s)).2.2
  rw [(at_parts r s).1, (at_parts r s).2] at hi
  refine Eq.trans ?_ (key.trans ?_)
  · congr 1
    funext a
    apply Fin.ext
    match a with
    | ⟨0, _⟩ => show r.val = win0_2.index (at_ r s) 0 * 1024 + 1 * (r.val % 1024); rw [hi.1]; omega
    | ⟨1, _⟩ => show s.val = win0_2.index (at_ r s) 1 * 512 + 1 * (s.val % 512); rw [hi.2]; omega
  · refine (pay (iblk m c 0 (at_ r s)) (iblk m c 1 (at_ r s)) (lo r) (in_ s)).trans ?_
    exact Finset.sum_congr rfl fun k _ => congrArg₂ (· * ·) (blk0 m c r s k) (blk1 m c r s k)

end Cert.MixaInIdeal.Mlp

namespace Cert.MixaInReferenceIdeal.Mlp

open Idealize.ShloMosaic Idealize.ShloMosaic.TcCoe Idealize.SL.Sem Cert.MixaInReferenceIdeal Cert.MixaInReferenceIdeal.Read Cert.Gate

/-- The reference's result, element by element. -/
theorem value (x0 : FVec Ideal S2048x2048 .f32) (x1 : FVec Ideal S2048x4096 .f32) (r : Fin 2048) (s : Fin 4096) :
    (val_main_v0 (F := Ideal) x0 x1 (ix2 r s) : EReal) = ∑ k : Fin 2048, x0 (ix2 r k) * x1 (ix2 k s) := by
  rw [val_main_v0_apply]
  refine Finset.sum_congr rfl fun k _ => ?_
  congr 2 <;> exact eq_ix2 _

end Cert.MixaInReferenceIdeal.Mlp

namespace Cert.Mlp

open Idealize.ShloMosaic Idealize.ShloMosaic.TcCoe Idealize.SL.Sem Cert.Gate

/-- The product's program runs and keeps its arguments. -/
theorem frame_MixaIn : Cert.quiescent_MixaIn (hMixaIn := Cert.MixaIn.Gen.facts) := fun m ρ _ =>
  Cert.MixaIn.Gen.frame m ρ

/-- Its idealization runs and keeps its arguments. -/
theorem frame_MixaInIdeal : Cert.quiescent_MixaInIdeal (hMixaInIdeal := Cert.MixaInIdeal.Gen.facts) := fun m ρ _ =>
  Cert.MixaInIdeal.Gen.frame m ρ

/-- Its reference runs and keeps its arguments. -/
theorem frame_MixaInReferenceIdeal : Cert.quiescent_MixaInReferenceIdeal (hMixaInReferenceIdeal := Cert.MixaInReferenceIdeal.Gen.facts) := fun m ρ _ =>
  (θ_run Cert.MixaInReferenceIdeal.defs _ _).mono (fun r h => ⟨fun c => (h c).2, sem_eq_zero_of_no_sems (by decide) r.2⟩)
    (Cert.MixaInReferenceIdeal.Value.run (F := Ideal) m ρ)

/-- The kernel's result and the reference's are equal, for any arguments. -/
theorem same_MixaIn : Cert.algebraic_MixaInIdeal_MixaInReferenceIdeal (hMixaInIdeal := Cert.MixaInIdeal.Gen.facts)
    (hMixaInReferenceIdeal := Cert.MixaInReferenceIdeal.Gen.facts) := by
  intro m ρ m' ρ' _ hag
  refine ⟨fun c => (Cert.MixaInIdeal.Gen.dats m 0 c).arrAt 2 Cert.MixaInIdeal.cfg0.N, Cert.MixaInIdeal.Value.run_blocks m ρ, ?_⟩
  refine (θ_run _ _ _).mono (fun r h c => ?_) (Cert.MixaInReferenceIdeal.Value.run m' ρ')
  obtain ⟨e, rest⟩ := h c
  refine ⟨(e.trans (Cert.MixaInReferenceIdeal.Read.val_main_v0_eq _ _)).trans ?_, rest⟩
  obtain ⟨a0, a1⟩ := hag c
  rw [a0, a1]
  funext i
  obtain ⟨r, s, rfl⟩ : ∃ (r : Fin 2048) (s : Fin 4096), i = ix2 r s := ⟨i 0, i 1, eq_ix2 i⟩
  exact (Cert.MixaInReferenceIdeal.Mlp.value _ _ r s).trans (Cert.MixaInIdeal.Mlp.final m c r s).symm

end Cert.Mlp

end
-- ==== Proof.MixOut.lean ====
module

public import proofs.«01_k».proof.Defs
public import proofs.«01_k».proof.Proof.RealGate
public import proofs.«01_k».proof.Proof.Product
public import proofs.«01_k».proof.Proof.Gen.MixOut.Frame
public import proofs.«01_k».proof.Proof.Gen.MixOutIdeal.Value
public import proofs.«01_k».proof.Proof.Gen.MixOutReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! A mixer's output product and the residual: four tiles, each one product of whole rows and columns. -/

@[expose] public section

set_option maxRecDepth 16384

noncomputable section

namespace Cert.MixOutIdeal.Mlp

open Idealize.ShloMosaic Idealize.ShloMosaic.TcCoe Idealize.SL.Sem Cert.MixOutIdeal Cert.MixOutIdeal.Gen Cert.MixOutIdeal.Value Cert.Gate Cert.Mlp

/-- A tile of the result: a row block times a column block, and the residual's tile. -/
theorem pay (u : Vec Ideal S1024x2048 .bf16) (v : Vec Ideal S2048x1024 .bf16) (z : Vec Ideal S1024x1024 .f32) (i j : Fin 1024) :
    (k0_pay1 u v z (ix2 i j) : EReal) = (∑ k : Fin 2048, u (ix2 i k) * v (ix2 k j)) + z (ix2 i j) := by
  unfold k0_pay1
  pointwise

/-- The body's result is its one tile. -/
theorem out (u : Vec Ideal S1024x2048 .bf16) (v : Vec Ideal S2048x1024 .bf16) (z : Vec Ideal S1024x1024 .f32) : out0_3 u v z = k0_pay1 u v z := by
  have hz : (![0, 0] : Fin 2 → Nat) = fun _ => 0 := funext fun a => by fin_cases a <;> rfl
  unfold out0_3
  rw [View.canon_unit_zero hz]
  simp only [View.ld_unit_zero (S := S1024x2048) hz, View.ld_unit_zero (S := S2048x1024) hz, View.ld_unit_zero (S := S1024x1024) hz]

variable (m : (ℓ : Loc nD τ sig) → Buf (Elt Ideal) ℓ)

/-- The mixed rows, -/
abbrev x (c : Dev nD) : S2048x2048.Idx → EReal := m ((c : Thread nD τ).loc main_arg0)
/-- the weights -/
abbrev w (c : Dev nD) : S2048x2048.Idx → EReal := m ((c : Thread nD τ).loc main_arg1)
/-- and the residual, as launched. -/
abbrev res (c : Dev nD) : S2048x2048.Idx → EReal := m ((c : Thread nD τ).loc main_arg2)

/-- The rows as the region finds them. -/
theorem V_x (c : Dev nD) (i : S2048x2048.Idx) : V m c main_v0 i = x m c i := by
  unfold V
  after_reads_at

/-- The weights as the region finds them. -/
theorem V_w (c : Dev nD) (i : S2048x2048.Idx) : V m c main_v1 i = w m c i := by
  unfold V
  after_reads_at

/-- Where each window's block lies at a point. -/
theorem index (t : Fin cfg0.N) : (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = t.val / 2 ∧ win0_3.index t 1 = t.val % 2) :=
  (by decide +kernel : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = t.val / 2 ∧ win0_3.index t 1 = t.val % 2)) t

/-- The point whose tile holds row `r` and column `s`. -/
def at_ (r s : Fin 2048) : Fin cfg0.N := ⟨2 * (r.val / 1024) + s.val / 1024, by have hN : cfg0.N = 4 := N_0; omega⟩

/-- Its block row and block column. -/
theorem at_parts (r s : Fin 2048) : (at_ r s).val / 2 = r.val / 1024 ∧ (at_ r s).val % 2 = s.val / 1024 := by
  show (2 * (r.val / 1024) + s.val / 1024) / 2 = _ ∧ (2 * (r.val / 1024) + s.val / 1024) % 2 = _
  omega

/-- The rows' block. -/
theorem blk0 (c : Dev nD) (r s k : Fin 2048) :
    (iblk m c 0 (at_ r s) : Vec Ideal S1024x2048 .bf16) (ix2 (lo r) k) = x m c (ix2 r k) := by
  have hi := (index (at_ r s)).1
  rw [(at_parts r s).1] at hi
  refine Eq.trans ?_ (V_x m c (ix2 r k))
  unfold iblk
  rw [View.read_apply]
  show V m c main_v0 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r s k : Fin 2048) :
    (iblk m c 1 (at_ r s) : Vec Ideal S2048x1024 .bf16) (ix2 k (lo s)) = w m c (ix2 k s) := by
  have hi := (index (at_ r s)).2.1
  rw [(at_parts r s).2] at hi
  refine Eq.trans ?_ (V_w m c (ix2 k s))
  unfold iblk
  rw [View.read_apply]
  show V m c main_v1 _ = _
  congr 1
  funext a
  apply Fin.ext
  match a with
  | ⟨0, _⟩ => show win0_1.index (at_ r s) 0 * 2048 + 1 * k.val = k.val; rw [hi.1]; omega
  | ⟨1, _⟩ => show win0_1.index (at_ r s) 1 * 1024 + 1 * (s.val % 1024) = s.val; rw [hi.2]; omega

/-- The residual's tile. -/
theorem blk2 (c : Dev nD) (r s : Fin 2048) :
    (iblk m c 2 (at_ r s) : Vec Ideal S1024x1024 .f32) (ix2 (lo r) (lo s)) = res m c (ix2 r s) := by
  have hi := (index (at_ r s)).2.2.1
  rw [(at_parts r s).1, (at_parts r s).2] at hi
  refine Eq.trans ?_ (congrFun (V_main_arg2 m c) (ix2 r s))
  unfold iblk
  rw [View.read_apply]
  show V m c main_arg2 _ = _
  congr 1
  funext a
  apply Fin.ext
  match a with
  | ⟨0, _⟩ => show win0_2.index (at_ r s) 0 * 1024 + 1 * (r.val % 1024) = r.val; rw [hi.1]; omega
  | ⟨1, _⟩ => show win0_2.index (at_ r s) 1 * 1024 + 1 * (s.val % 1024) = s.val; rw [hi.2]; omega

/-- The result array, element by element. -/
theorem final (c : Dev nD) (r s : Fin 2048) :
    ((dats m 0 c).arrAt 3 cfg0.N : S2048x2048.Idx → EReal) (ix2 r s)
      = res m c (ix2 r s) + ∑ k : Fin 2048, x m c (ix2 r k) * w m c (ix2 k s) := by
  have key := congrFun (blocks3 m c (at_ r s) (flush0_3 _)) (ix2 (lo r) (lo s))
  rw [View.read_apply, flushed3, out] at key
  have hi := (index (at_ r s)).2.2.2
  rw [(at_parts r s).1, (at_parts r s).2] at hi
  refine Eq.trans ?_ (key.trans ?_)
  · congr 1
    funext a
    apply Fin.ext
    match a with
    | ⟨0, _⟩ => show r.val = win0_3.index (at_ r s) 0 * 1024 + 1 * (r.val % 1024); rw [hi.1]; omega
    | ⟨1, _⟩ => show s.val = win0_3.index (at_ r s) 1 * 1024 + 1 * (s.val % 1024); rw [hi.2]; omega
  · refine (pay (iblk m c 0 (at_ r s)) (iblk m c 1 (at_ r s)) (iblk m c 2 (at_ r s)) (lo r) (lo s)).trans ((add_comm _ _).trans ?_)
    exact congrArg₂ (· + ·) (blk2 m c r s) (Finset.sum_congr rfl fun k _ => congrArg₂ (· * ·) (blk0 m c r s k) (blk1 m c r s k))

end Cert.MixOutIdeal.Mlp

namespace Cert.MixOutReferenceIdeal.Mlp

open Idealize.ShloMosaic Idealize.ShloMosaic.TcCoe Idealize.SL.Sem Cert.MixOutReferenceIdeal Cert.MixOutReferenceIdeal.Read Cert.Gate

/-- The reference's result, element by element. -/
theorem value (x0 x1 x2 : FVec Ideal S2048x2048 .f32) (r s : Fin 2048) :
    (val_main_v1 (F := Ideal) x0 x1 x2 (ix2 r s) : EReal) = x2 (ix2 r s) + ∑ k : Fin 2048, x0 (ix2 r k) * x1 (ix2 k s) := by
  rw [val_main_v1_apply, val_main_v0_apply]
  pointwise
  congr 1
  refine Finset.sum_congr rfl fun k _ => ?_
  congr 2 <;> exact eq_ix2 _

end Cert.MixOutReferenceIdeal.Mlp

namespace Cert.Mlp

open Idealize.ShloMosaic Idealize.ShloMosaic.TcCoe Idealize.SL.Sem Cert.Gate

/-- The output product's program runs and keeps its arguments. -/
theorem frame_MixOut : Cert.quiescent_MixOut (hMixOut := Cert.MixOut.Gen.facts) := fun m ρ _ =>
  Cert.MixOut.Gen.frame m ρ

/-- Its idealization runs and keeps its arguments. -/
theorem frame_MixOutIdeal : Cert.quiescent_MixOutIdeal (hMixOutIdeal := Cert.MixOutIdeal.Gen.facts) := fun m ρ _ =>
  Cert.MixOutIdeal.Gen.frame m ρ

/-- Its reference runs and keeps its arguments. -/
theorem frame_MixOutReferenceIdeal : Cert.quiescent_MixOutReferenceIdeal (hMixOutReferenceIdeal := Cert.MixOutReferenceIdeal.Gen.facts) := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

/-- The kernel's result and the reference's are equal, for any arguments. -/
theorem same_MixOut : Cert.algebraic_MixOutIdeal_MixOutReferenceIdeal (hMixOutIdeal := Cert.MixOutIdeal.Gen.facts)
    (hMixOutReferenceIdeal := Cert.MixOutReferenceIdeal.Gen.facts) := by
  intro m ρ m' ρ' _ hag
  refine ⟨fun c => (Cert.MixOutIdeal.Gen.dats m 0 c).arrAt 3 Cert.MixOutIdeal.cfg0.N, Cert.MixOutIdeal.Value.run_blocks m ρ, ?_⟩
  refine (θ_run _ _ _).mono (fun r h c => ?_) (Cert.MixOutReferenceIdeal.Value.run m' ρ')
  obtain ⟨e, rest⟩ := h c
  refine ⟨(e.trans (Cert.MixOutReferenceIdeal.Read.val_main_v1_eq _ _ _)).trans ?_, rest⟩
  obtain ⟨a0, a1, a2⟩ := hag c
  rw [a0, a1, a2]
  funext i
  obtain ⟨r, s, rfl⟩ : ∃ (r s : Fin 2048), i = ix2 r s := ⟨i 0, i 1, eq_ix2 i⟩
  exact (Cert.MixOutReferenceIdeal.Mlp.value _ _ _ r s).trans (Cert.MixOutIdeal.Mlp.final m c r s).symm

end Cert.Mlp

end
-- ==== Proof.MixbIn.lean ====
module

public import proofs.«01_k».proof.Defs
public import proofs.«01_k».proof.Proof.RealGate
public import proofs.«01_k».proof.Proof.Product
public import proofs.«01_k».proof.Proof.Gen.MixbIn.Frame
public import proofs.«01_k».proof.Proof.Gen.MixbInIdeal.Value
public import proofs.«01_k».proof.Proof.Gen.MixbInReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The second mixer's input product: four tiles, each one product of whole rows and columns. -/

@[expose] public section

set_option maxRecDepth 16384

noncomputable section

namespace Cert.MixbInIdeal.Mlp

open Idealize.ShloMosaic Idealize.ShloMosaic.TcCoe Idealize.SL.Sem Cert.MixbInIdeal Cert.MixbInIdeal.Gen Cert.MixbInIdeal.Value Cert.Gate Cert.Mlp

/-- A tile of the result: a row block times a column block. -/
theorem pay (u : Vec Ideal S1024x2048 .bf16) (v : Vec Ideal S2048x1024 .bf16) (i j : Fin 1024) :
    (k0_pay1 u v (ix2 i j) : EReal) = ∑ k : Fin 2048, u (ix2 i k) * v (ix2 k j) := by
  unfold k0_pay1
  pointwise

/-- The body's result is its one tile. -/
theorem out (u : Vec Ideal S1024x2048 .bf16) (v : Vec Ideal S2048x1024 .bf16) : out0_2 u v = k0_pay1 u v := by
  have hz : (![0, 0] : Fin 2 → Nat) = fun _ => 0 := funext fun a => by fin_cases a <;> rfl
  unfold out0_2
  rw [View.canon_unit_zero hz]
  simp only [View.ld_unit_zero (S := S1024x2048) hz, View.ld_unit_zero (S := S2048x1024) hz]

variable (m : (ℓ : Loc nD τ sig) → Buf (Elt Ideal) ℓ)

/-- The normalized rows -/
abbrev hn (c : Dev nD) : S2048x2048.Idx → EReal := m ((c : Thread nD τ).loc main_arg0)
/-- and the weights, as launched. -/
abbrev w (c : Dev nD) : S2048x2048.Idx → EReal := m ((c : Thread nD τ).loc main_arg1)

/-- The rows as the region finds them. -/
theorem V_hn (c : Dev nD) (i : S2048x2048.Idx) : V m c main_v0 i = hn m c i := by
  unfold V
  after_reads_at

/-- The weights as the region finds them. -/
theorem V_w (c : Dev nD) (i : S2048x2048.Idx) : V m c main_v1 i = w m c i := by
  unfold V
  after_reads_at

/-- Where each window's block lies at a point. -/
theorem index (t : Fin cfg0.N) : (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2)) t

/-- The point whose tile holds row `r` and column `s`. -/
def at_ (r s : Fin 2048) : Fin cfg0.N := ⟨2 * (r.val / 1024) + s.val / 1024, by have hN : cfg0.N = 4 := N_0; omega⟩

/-- Its block row and block column. -/
theorem at_parts (r s : Fin 2048) : (at_ r s).val / 2 = r.val / 1024 ∧ (at_ r s).val % 2 = s.val / 1024 := by
  show (2 * (r.val / 1024) + s.val / 1024) / 2 = _ ∧ (2 * (r.val / 1024) + s.val / 1024) % 2 = _
  omega

/-- The rows' block. -/
theorem blk0 (c : Dev nD) (r s k : Fin 2048) :
    (iblk m c 0 (at_ r s) : Vec Ideal S1024x2048 .bf16) (ix2 (lo r) k) = hn m c (ix2 r k) := by
  have hi := (index (at_ r s)).1
  rw [(at_parts r s).1] at hi
  refine Eq.trans ?_ (V_hn m c (ix2 r k))
  unfold iblk
  rw [View.read_apply]
  show V m c main_v0 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 2048 + 1 * k.val = k.val; rw [hi.2]; omega

/-- The weights' block. -/
theorem blk1 (c : Dev nD) (r s k : Fin 2048) :
    (iblk m c 1 (at_ r s) : Vec Ideal S2048x1024 .bf16) (ix2 k (lo s)) = w m c (ix2 k s) := by
  have hi := (index (at_ r s)).2.1
  rw [(at_parts r s).2] at hi
  refine Eq.trans ?_ (V_w m c (ix2 k s))
  unfold iblk
  rw [View.read_apply]
  show V m c main_v1 _ = _
  congr 1
  funext a
  apply Fin.ext
  match a with
  | ⟨0, _⟩ => show win0_1.index (at_ r s) 0 * 2048 + 1 * k.val = k.val; rw [hi.1]; omega
  | ⟨1, _⟩ => show win0_1.index (at_ r s) 1 * 1024 + 1 * (s.val % 1024) = s.val; rw [hi.2]; omega

/-- The result array, element by element. -/
theorem final (c : Dev nD) (r s : Fin 2048) :
    ((dats m 0 c).arrAt 2 cfg0.N : S2048x2048.Idx → EReal) (ix2 r s) = ∑ k : Fin 2048, hn m c (ix2 r k) * w m c (ix2 k s) := by
  have key := congrFun (blocks2 m c (at_ r s) (flush0_2 _)) (ix2 (lo r) (lo s))
  rw [View.read_apply, flushed2, out] at key
  have hi := (index (at_ r s)).2.2
  rw [(at_parts r s).1, (at_parts r s).2] at hi
  refine Eq.trans ?_ (key.trans ?_)
  · congr 1
    funext a
    apply Fin.ext
    match a with
    | ⟨0, _⟩ => show r.val = win0_2.index (at_ r s) 0 * 1024 + 1 * (r.val % 1024); rw [hi.1]; omega
    | ⟨1, _⟩ => show s.val = win0_2.index (at_ r s) 1 * 1024 + 1 * (s.val % 1024); rw [hi.2]; omega
  · refine (pay (iblk m c 0 (at_ r s)) (iblk m c 1 (at_ r s)) (lo r) (lo s)).trans ?_
    exact Finset.sum_congr rfl fun k _ => congrArg₂ (· * ·) (blk0 m c r s k) (blk1 m c r s k)

end Cert.MixbInIdeal.Mlp

namespace Cert.MixbInReferenceIdeal.Mlp

open Idealize.ShloMosaic Idealize.ShloMosaic.TcCoe Idealize.SL.Sem Cert.MixbInReferenceIdeal Cert.MixbInReferenceIdeal.Read Cert.Gate

/-- The reference's result, element by element. -/
theorem value (x0 x1 : FVec Ideal S2048x2048 .f32) (r s : Fin 2048) :
    (val_main_v0 (F := Ideal) x0 x1 (ix2 r s) : EReal) = ∑ k : Fin 2048, x0 (ix2 r k) * x1 (ix2 k s) := by
  rw [val_main_v0_apply]
  refine Finset.sum_congr rfl fun k _ => ?_
  congr 2 <;> exact eq_ix2 _

end Cert.MixbInReferenceIdeal.Mlp

namespace Cert.Mlp

open Idealize.ShloMosaic Idealize.ShloMosaic.TcCoe Idealize.SL.Sem Cert.Gate

/-- The product's program runs and keeps its arguments. -/
theorem frame_MixbIn : Cert.quiescent_MixbIn (hMixbIn := Cert.MixbIn.Gen.facts) := fun m ρ _ =>
  Cert.MixbIn.Gen.frame m ρ

/-- Its idealization runs and keeps its arguments. -/
theorem frame_MixbInIdeal : Cert.quiescent_MixbInIdeal (hMixbInIdeal := Cert.MixbInIdeal.Gen.facts) := fun m ρ _ =>
  Cert.MixbInIdeal.Gen.frame m ρ

/-- Its reference runs and keeps its arguments. -/
theorem frame_MixbInReferenceIdeal : Cert.quiescent_MixbInReferenceIdeal (hMixbInReferenceIdeal := Cert.MixbInReferenceIdeal.Gen.facts) := fun m ρ _ =>
  (θ_run Cert.MixbInReferenceIdeal.defs _ _).mono (fun r h => ⟨fun c => (h c).2, sem_eq_zero_of_no_sems (by decide) r.2⟩)
    (Cert.MixbInReferenceIdeal.Value.run (F := Ideal) m ρ)

/-- The kernel's result and the reference's are equal, for any arguments. -/
theorem same_MixbIn : Cert.algebraic_MixbInIdeal_MixbInReferenceIdeal (hMixbInIdeal := Cert.MixbInIdeal.Gen.facts)
    (hMixbInReferenceIdeal := Cert.MixbInReferenceIdeal.Gen.facts) := by
  intro m ρ m' ρ' _ hag
  refine ⟨fun c => (Cert.MixbInIdeal.Gen.dats m 0 c).arrAt 2 Cert.MixbInIdeal.cfg0.N, Cert.MixbInIdeal.Value.run_blocks m ρ, ?_⟩
  refine (θ_run _ _ _).mono (fun r h c => ?_) (Cert.MixbInReferenceIdeal.Value.run m' ρ')
  obtain ⟨e, rest⟩ := h c
  refine ⟨(e.trans (Cert.MixbInReferenceIdeal.Read.val_main_v0_eq _ _)).trans ?_, rest⟩
  obtain ⟨a0, a1⟩ := hag c
  rw [a0, a1]
  funext i
  obtain ⟨r, s, rfl⟩ : ∃ (r s : Fin 2048), i = ix2 r s := ⟨i 0, i 1, eq_ix2 i⟩
  exact (Cert.MixbInReferenceIdeal.Mlp.value _ _ r s).trans (Cert.MixbInIdeal.Mlp.final m c r s).symm

end Cert.Mlp

end
-- ==== Proof.ScaledDx.lean ====
module

public import proofs.«01_k».proof.Defs
public import proofs.«01_k».proof.Proof.RealGate
public import proofs.«01_k».proof.Proof.Product
public import proofs.«01_k».proof.Proof.Gen.ScaledDx.Frame
public import proofs.«01_k».proof.Proof.Gen.ScaledDxIdeal.Value
public import proofs.«01_k».proof.Proof.Gen.ScaledDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through the second mixer's scaled output product, and the scale's: four tiles, the scale's gradient summed over the two block rows. -/

@[expose] public section

set_option maxRecDepth 16384

noncomputable section

namespace Cert.ScaledDxIdeal.Mlp

open Idealize.ShloMosaic Idealize.ShloMosaic.TcCoe Idealize.SL.Sem Cert.ScaledDxIdeal Cert.ScaledDxIdeal.Gen Cert.ScaledDxIdeal.Value Cert.Gate Cert.Mlp

/-- A tile's product. -/
abbrev one (u v : Vec Ideal S1024x2048 .bf16) (i j : Fin 1024) : EReal := ∑ k : Fin 2048, u (ix2 i k) * v (ix2 j k)

/-- It is the first step. -/
theorem pay1 (u v : Vec Ideal S1024x2048 .bf16) (i j : Fin 1024) : (k0_pay1 u v (ix2 i j) : EReal) = one u v i j := by
  unfold k0_pay1
  pointwise

/-- The first result's tile: the product scaled. -/
theorem pay2 (u v : Vec Ideal S1024x2048 .bf16) (g : Vec Ideal S1x1024 .f32) (i j : Fin 1024) :
    (k0_pay2 u v g (ix2 i j) : EReal) = one u v i j * g (ix2 0 j) := by
  unfold k0_pay2 k0_pay1
  pointwise

/-- The tile's part of the second: the product times the mixed rows, summed over the tile's rows. -/
theorem pay3 (u v : Vec Ideal S1024x2048 .bf16) (x : Vec Ideal S1024x1024 .bf16) (j : Fin 1024) :
    (k0_pay3 u v x (ix2 0 j) : EReal) = ∑ i : Fin 1024, one u v i j * x (ix2 i j) := by
  unfold k0_pay3 k0_pay1
  pointwise

/-- It is added to what stands there. -/
theorem pay4 (u v : Vec Ideal S1024x2048 .bf16) (x : Vec Ideal S1024x1024 .bf16) (y : Vec Ideal S1x1024 .f32) (j : Fin 1024) :
    (k0_pay4 u v x y (ix2 0 j) : EReal) = y (ix2 0 j) + ∑ i : Fin 1024, one u v i j * x (ix2 i j) := by
  have e : (k0_pay4 u v x y (ix2 0 j) : EReal) = y (ix2 0 j) + k0_pay3 u v x (ix2 0 j) := by
    unfold k0_pay4
    generalize k0_pay3 u v x = z
    pointwise
  rw [e, pay3]

/-- Offsets of zero. -/
theorem hz : (![0, 0] : Fin 2 → Nat) = fun _ => 0 := funext fun a => by fin_cases a <;> rfl

variable (m : (ℓ : Loc nD τ sig) → Buf (Elt Ideal) ℓ)

/-- The two factors' blocks at a point, -/
abbrev left (c : Dev nD) (t : Fin cfg0.N) : Vec Ideal S1024x2048 .bf16 := iblk m c 0 t
@[inherit_doc left]
abbrev right (c : Dev nD) (t : Fin cfg0.N) : Vec Ideal S1024x2048 .bf16 := iblk m c 1 t
/-- the scale's -/
abbrev gain (c : Dev nD) (t : Fin cfg0.N) : Vec Ideal S1x1024 .f32 := iblk m c 2 t
/-- and the mixed rows'. -/
abbrev mix (c : Dev nD) (t : Fin cfg0.N) : Vec Ideal S1024x1024 .bf16 := iblk m c 3 t

/-- What the first point of a block column leaves: its tile, and its part of the sum. -/
theorem first (c : Dev nD) (t : Fin cfg0.N) (h : t.val % 2 = 0) :
    (outsAt0 m c t.val t.isLt).1 = k0_pay2 (left m c t) (right m c t) (gain m c t)
    ∧ (outsAt0 m c t.val t.isLt).2 = k0_pay3 (left m c t) (right m c t) (mix m c t) := by
  rw [outsAt0_A m c t h (by omega)]
  dsimp only
  unfold out0_A_4 out0_A_5
  rw [View.read_writes_eq_canon _ _ _ (cover0_A_4 _ _ _ _ _ _ _ _ _ _ _ _ _ _ _ _ _ _ _ _),
    View.read_writes_eq_canon _ _ _ (cover0_A_5 _ _ _ _ _ _ _ _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S1024x2048) hz, View.ld_unit_zero (S := S1x1024) hz,
    View.ld_unit_zero (S := S1024x1024) hz, and_self]

/-- What the last leaves: its tile, and its part added. -/
theorem last (c : Dev nD) (t : Fin cfg0.N) (h : t.val % 2 = 1) :
    (outsAt0 m c t.val t.isLt).1 = k0_pay2 (left m c t) (right m c t) (gain m c t)
    ∧ (outsAt0 m c t.val t.isLt).2 = k0_pay4 (left m c t) (right m c t) (mix m c t)
        (outsAt0 m c (t.val - 1) (Nat.lt_of_le_of_lt (Nat.sub_le _ _) t.isLt)).2 := by
  rw [outsAt0_B m c t (by omega) h]
  dsimp only
  unfold out0_B_4 out0_B_5
  rw [View.read_writes_eq_canon _ _ _ (cover0_B_4 _ _ _ _ _ _ _ _ _ _ _ _ _ _ _ _ _ _ _ _ _),
    View.read_writes_eq_canon _ _ _ (cover0_B_5 _ _ _ _ _ _ _ _ _ _ _ _ _ _ _ _ _ _ _ _ _)]
  unfold kernelRun0_B
  dsimp only
  sl_unfold_words
  rw [View.canon_unit_zero hz, View.canon_unit_zero hz]
  simp only [View.readAt_eq_ld, Memref.IsWhole.read_unread, View.ld_unit_zero (S := S1024x2048) hz, View.ld_unit_zero (S := S1x1024) hz,
    View.ld_unit_zero (S := S1024x1024) hz, and_self]

/-- Every point leaves its tile. -/
theorem tile (c : Dev nD) (t : Fin cfg0.N) : (outsAt0 m c t.val t.isLt).1 = k0_pay2 (left m c t) (right m c t) (gain m c t) :=
  (Nat.mod_two_eq_zero_or_one t.val).elim (fun h => (first m c t h).1) fun h => (last m c t h).1

/-- The mixed rows, -/
abbrev mixed (c : Dev nD) : S2048x2048.Idx → EReal := m ((c : Thread nD τ).loc main_arg0)
/-- the scale, -/
abbrev scale (c : Dev nD) : S1x2048.Idx → EReal := m ((c : Thread nD τ).loc main_arg1)
/-- the weights -/
abbrev w (c : Dev nD) : S2048x2048.Idx → EReal := m ((c : Thread nD τ).loc main_arg2)
/-- and the cotangent, as launched. -/
abbrev dy (c : Dev nD) : S2048x2048.Idx → EReal := m ((c : Thread nD τ).loc main_arg3)

/-- The cotangent as the region finds it. -/
theorem V_dy (c : Dev nD) (i : S2048x2048.Idx) : V m c main_v0 i = dy m c i := by
  unfold V
  after_reads_at

/-- The weights as the region finds them. -/
theorem V_w (c : Dev nD) (i : S2048x2048.Idx) : V m c main_v1 i = w m c i := by
  unfold V
  after_reads_at

/-- The mixed rows as the region finds them. -/
theorem V_mixed (c : Dev nD) (i : S2048x2048.Idx) : V m c main_v2 i = mixed m c i := by
  unfold V
  after_reads_at

/-- Where each window's block lies at a point. -/
theorem index (t : Fin cfg0.N) : (win0_0.index t 0 = t.val % 2 ∧ win0_0.index t 1 = 0) ∧ (win0_1.index t 0 = t.val / 2 ∧ win0_1.index t 1 = 0)
    ∧ (win0_2.index t 0 = 0 ∧ win0_2.index t 1 = t.val / 2) ∧ (win0_3.index t 0 = t.val % 2 ∧ win0_3.index t 1 = t.val / 2)
    ∧ (win0_4.index t 0 = t.val % 2 ∧ win0_4.index t 1 = t.val / 2) ∧ (win0_5.index t 0 = 0 ∧ win0_5.index t 1 = t.val / 2) :=
  (by decide +kernel : ∀ t : Fin grid0.N, (win0_0.index t 0 = t.val % 2 ∧ win0_0.index t 1 = 0) ∧ (win0_1.index t 0 = t.val / 2 ∧ win0_1.index t 1 = 0)
    ∧ (win0_2.index t 0 = 0 ∧ win0_2.index t 1 = t.val / 2) ∧ (win0_3.index t 0 = t.val % 2 ∧ win0_3.index t 1 = t.val / 2)
    ∧ (win0_4.index t 0 = t.val % 2 ∧ win0_4.index t 1 = t.val / 2) ∧ (win0_5.index t 0 = 0 ∧ win0_5.index t 1 = t.val / 2)) t

/-- The point of block row `q` and column `s`. -/
def at_ (q : Fin 2) (s : Fin 2048) : Fin cfg0.N := ⟨2 * (s.val / 1024) + q.val, by have hN : cfg0.N = 4 := N_0; omega⟩

/-- Its block row and block column. -/
theorem at_parts (q : Fin 2) (s : Fin 2048) : (at_ q s).val % 2 = q.val ∧ (at_ q s).val / 2 = s.val / 1024 := by
  show (2 * (s.val / 1024) + q.val) % 2 = _ ∧ (2 * (s.val / 1024) + q.val) / 2 = _
  omega

/-- The cotangent's block. -/
theorem blk0 (c : Dev nD) (q : Fin 2) (s : Fin 2048) (i : Fin 1024) (k : Fin 2048) : left m c (at_ q s) (ix2 i k) = dy m c (ix2 (half q i) k) := by
  have hi := (index (at_ q s)).1
  rw [(at_parts q s).1] at hi
  refine Eq.trans ?_ (V_dy m c (ix2 (half q i) k))
  unfold left iblk
  rw [View.read_apply]
  show V m c main_v0 _ = _
  congr 1
  funext a
  apply Fin.ext
  match a with
  | ⟨0, _⟩ => show win0_0.index (at_ q s) 0 * 1024 + 1 * i.val = 1024 * q.val + i.val; rw [hi.1]; omega
  | ⟨1, _⟩ => show win0_0.index (at_ q s) 1 * 2048 + 1 * k.val = k.val; rw [hi.2]; omega

/-- The weights' block. -/
theorem blk1 (c : Dev nD) (q : Fin 2) (s : Fin 2048) (k : Fin 2048) : right m c (at_ q s) (ix2 (lo s) k) = w m c (ix2 s k) := by
  have hi := (index (at_ q s)).2.1
  rw [(at_parts q s).2] at hi
  refine Eq.trans ?_ (V_w m c (ix2 s k))
  unfold right iblk
  rw [View.read_apply]
  show V m c main_v1 _ = _
  congr 1
  funext a
  apply Fin.ext
  match a with
  | ⟨0, _⟩ => show win0_1.index (at_ q s) 0 * 1024 + 1 * (s.val % 1024) = s.val; rw [hi.1]; omega
  | ⟨1, _⟩ => show win0_1.index (at_ q s) 1 * 2048 + 1 * k.val = k.val; rw [hi.2]; omega

/-- The scale's block. -/
theorem blk2 (c : Dev nD) (q : Fin 2) (s : Fin 2048) : gain m c (at_ q s) (ix2 0 (lo s)) = scale m c (ix2 0 s) := by
  have hi := (index (at_ q s)).2.2.1
  rw [(at_parts q s).2] at hi
  refine Eq.trans ?_ (congrFun (V_main_arg1 m c) (ix2 0 s))
  unfold gain iblk
  rw [View.read_apply]
  show V m c main_arg1 _ = _
  congr 1
  funext a
  apply Fin.ext
  match a with
  | ⟨0, _⟩ => show win0_2.index (at_ q s) 0 * 1 + 1 * 0 = 0; rw [hi.1]
  | ⟨1, _⟩ => show win0_2.index (at_ q s) 1 * 1024 + 1 * (s.val % 1024) = s.val; rw [hi.2]; omega

/-- The mixed rows' block. -/
theorem blk3 (c : Dev nD) (q : Fin 2) (s : Fin 2048) (i : Fin 1024) : mix m c (at_ q s) (ix2 i (lo s)) = mixed m c (ix2 (half q i) s) := by
  have hi := (index (at_ q s)).2.2.2.1
  rw [(at_parts q s).1, (at_parts q s).2] at hi
  refine Eq.trans ?_ (V_mixed m c (ix2 (half q i) s))
  unfold mix iblk
  rw [View.read_apply]
  show V m c main_v2 _ = _
  congr 1
  funext a
  apply Fin.ext
  match a with
  | ⟨0, _⟩ => show win0_3.index (at_ q s) 0 * 1024 + 1 * i.val = 1024 * q.val + i.val; rw [hi.1]; omega
  | ⟨1, _⟩ => show win0_3.index (at_ q s) 1 * 1024 + 1 * (s.val % 1024) = s.val; rw [hi.2]; omega

/-- The whole product. -/
abbrev dot (c : Dev nD) (r s : Fin 2048) : EReal := ∑ k : Fin 2048, dy m c (ix2 r k) * w m c (ix2 s k)

/-- A tile's product, in the launched arrays. -/
theorem product (c : Dev nD) (q : Fin 2) (s : Fin 2048) (i : Fin 1024) :
    one (left m c (at_ q s)) (right m c (at_ q s)) i (lo s) = dot m c (half q i) s :=
  Finset.sum_congr rfl fun k _ => congrArg₂ (· * ·) (blk0 m c q s i k) (blk1 m c q s k)

/-- A tile's part of the sum. -/
theorem part (c : Dev nD) (q : Fin 2) (s : Fin 2048) :
    (∑ i : Fin 1024, one (left m c (at_ q s)) (right m c (at_ q s)) i (lo s) * mix m c (at_ q s) (ix2 i (lo s)) : EReal)
      = ∑ i : Fin 1024, dot m c (half q i) s * mixed m c (ix2 (half q i) s) :=
  Finset.sum_congr rfl fun i _ => congrArg₂ (· * ·) (product m c q s i) (blk3 m c q s i)

/-- The first result, element by element: the product scaled. -/
theorem final4 (c : Dev nD) (r s : Fin 2048) :
    ((dats m 0 c).arrAt 4 cfg0.N : S2048x2048.Idx → EReal) (ix2 r s) = dot m c r s * scale m c (ix2 0 s) := by
  obtain ⟨q, i, rfl⟩ : ∃ (q : Fin 2) (i : Fin 1024), r = half q i :=
    ⟨⟨r.val / 1024, by omega⟩, lo r, Fin.ext (by show r.val = 1024 * (r.val / 1024) + r.val % 1024; omega)⟩
  have key := congrFun (blocks4 m c (at_ q s) (flush0_4 _)) (ix2 i (lo s))
  rw [View.read_apply, flushed4, tile] at key
  have hi := (index (at_ q s)).2.2.2.2.1
  rw [(at_parts q s).1, (at_parts q s).2] at hi
  refine Eq.trans ?_ (key.trans ?_)
  · congr 1
    funext a
    apply Fin.ext
    match a with
    | ⟨0, _⟩ => show 1024 * q.val + i.val = win0_4.index (at_ q s) 0 * 1024 + 1 * i.val; rw [hi.1]; omega
    | ⟨1, _⟩ => show s.val = win0_4.index (at_ q s) 1 * 1024 + 1 * (s.val % 1024); rw [hi.2]; omega
  · exact (pay2 (left m c (at_ q s)) (right m c (at_ q s)) (gain m c (at_ q s)) i (lo s)).trans (congrArg₂ (· * ·) (product m c q s i) (blk2 m c q s))

/-- The summed row after a block column's last point. -/
theorem kept (c : Dev nD) (s : Fin 2048) : ((outsAt0 m c (at_ 1 s).val (at_ 1 s).isLt).2 (ix2 0 (lo s)) : EReal)
    = ∑ r : Fin 2048, dot m c r s * mixed m c (ix2 r s) := by
  have e : (at_ 1 s).val - 1 = (at_ 0 s).val := by
    show 2 * (s.val / 1024) + 1 - 1 = 2 * (s.val / 1024) + 0
    omega
  rw [(last m c (at_ 1 s) (at_parts 1 s).1).2]
  refine (pay4 _ _ _ _ _).trans ?_
  simp only [e]
  rw [(first m c (at_ 0 s) (at_parts 0 s).1).2]
  refine (congrArg₂ (· + ·) ((pay3 _ _ _ _).trans (part m c 0 s)) (part m c 1 s)).trans ?_
  exact (sum_halves fun r => dot m c r s * mixed m c (ix2 r s)).symm

/-- The summed row, each block column as its last point leaves it. -/
def row (c : Dev nD) : S1x2048.Idx → EReal := fun i => ∑ r : Fin 2048, dot m c r (i 1) * mixed m c (ix2 r (i 1))

/-- The second result: the product times the mixed rows, summed over all rows. -/
theorem final5 (c : Dev nD) : (dats m 0 c).arrAt 5 cfg0.N = row m c :=
  (dats m 0 c).arrAt_eq_of_cover 5 (row m c)
    (fun t hf => by
      have ht := (flush0_5 t).mp hf
      have hN : cfg0.N = 4 := N_0
      have htl := t.isLt
      rw [flushed5]
      funext y
      obtain ⟨j, rfl⟩ : ∃ j : Fin 1024, y = ix2 0 j := ⟨y 1, (eq_ix2 y).trans (congrArg (ix2 · (y 1)) (Fin.fin_one_eq_zero (y 0)))⟩
      obtain ⟨s, rfl, rfl⟩ : ∃ s : Fin 2048, t = at_ 1 s ∧ j = lo s := by
        refine ⟨⟨1024 * (t.val / 2) + j.val, by omega⟩, Fin.ext ?_, Fin.ext ?_⟩
        · show t.val = 2 * ((1024 * (t.val / 2) + j.val) / 1024) + 1
          omega
        · show j.val = (1024 * (t.val / 2) + j.val) % 1024
          omega
      have hi := (index (at_ 1 s)).2.2.2.2.2
      rw [(at_parts 1 s).2] at hi
      refine Eq.trans (kept m c s) ?_
      show row m c (ix2 0 s) = _
      rw [View.read_apply]
      show _ = row m c _
      congr 1
      funext a
      apply Fin.ext
      match a with
      | ⟨0, _⟩ => show 0 = win0_5.index (at_ 1 s) 0 * 1 + 1 * 0; rw [hi.1]
      | ⟨1, _⟩ => show s.val = win0_5.index (at_ 1 s) 1 * 1024 + 1 * (s.val % 1024); rw [hi.2]; omega)
    fun i => ⟨at_ 1 (i 1), (flush0_5 _).mpr (at_parts 1 _).1, by
      have hi := (index (at_ 1 (i 1))).2.2.2.2.2
      rw [(at_parts 1 (i 1)).2] at hi
      show i ∈ ((View.whole main_v3_1).slice (win0_5.rect (at_ 1 (i 1)))).set
      rw [View.set_slice_whole, Rect.mem_set_unit]
      intro a
      have h0 : (i 0 : Nat) < 1 := (i 0).isLt
      match a with
      | ⟨0, _⟩ => show win0_5.index (at_ 1 (i 1)) 0 * 1 ≤ (i 0 : Nat) ∧ (i 0 : Nat) < win0_5.index (at_ 1 (i 1)) 0 * 1 + 1; rw [hi.1]; omega
      | ⟨1, _⟩ => show win0_5.index (at_ 1 (i 1)) 1 * 1024 ≤ (i 1 : Nat) ∧ (i 1 : Nat) < win0_5.index (at_ 1 (i 1)) 1 * 1024 + 1024; rw [hi.2]; omega⟩

end Cert.ScaledDxIdeal.Mlp

namespace Cert.ScaledDxReferenceIdeal.Mlp

open Idealize.ShloMosaic Idealize.ShloMosaic.TcCoe Idealize.SL.Sem Cert.ScaledDxReferenceIdeal Cert.ScaledDxReferenceIdeal.Read Cert.Gate Cert.Mlp

/-- The reference's product, element by element. -/
theorem product (x2 x3 : FVec Ideal S2048x2048 .f32) (r s : Fin 2048) :
    (val_main_v3 (F := Ideal) x2 x3 (ix2 r s) : EReal) = ∑ k : Fin 2048, x3 (ix2 r k) * x2 (ix2 s k) := by
  rw [val_main_v3_apply]
  refine Finset.sum_congr rfl fun k _ => ?_
  congr 2 <;> exact eq_ix2 _

/-- Its first result, element by element. -/
theorem value9 (x1 : FVec Ideal S1x2048 .f32) (x2 x3 : FVec Ideal S2048x2048 .f32) (r s : Fin 2048) :
    (val_main_v9 (F := Ideal) x1 x2 x3 (ix2 r s) : EReal) = (∑ k : Fin 2048, x3 (ix2 r k) * x2 (ix2 s k)) * x1 (ix2 0 s) := by
  refine congrArg₂ (· * ·) (product x2 x3 r s) ((val_main_v7_apply x1 _).trans (congrArg x1 (funext fun a => Fin.ext ?_)))
  match a with
  | ⟨0, _⟩ => rfl
  | ⟨1, _⟩ => rfl

/-- Its second, element by element. -/
theorem value6 (x0 x2 x3 : FVec Ideal S2048x2048 .f32) (s : Fin 2048) :
    (val_main_v6 (F := Ideal) x0 x2 x3 (ix2 0 s) : EReal) = ∑ r : Fin 2048, (∑ k : Fin 2048, x3 (ix2 r k) * x2 (ix2 s k)) * x0 (ix2 r s) := by
  rw [val_main_v6_apply, val_main_v5_apply]
  have z : ∀ i, (val_main_cst (F := Ideal) i : EReal) = 0 := fun i => by
    unfold val_main_cst
    pointwise
  rw [z, zero_add]
  refine Finset.sum_congr rfl fun r _ => ?_
  have e : idx_main_v5 (idx_main_v6 (ix2 0 s)) r = ix2 r s := by
    funext a
    apply Fin.ext
    match a with
    | ⟨0, _⟩ => rfl
    | ⟨1, _⟩ => show 0 * 2048 + s.val = s.val; omega
  rw [e, mul_comm]
  exact congrArg (x0 (ix2 r s) * ·) (product x2 x3 r s)

end Cert.ScaledDxReferenceIdeal.Mlp

namespace Cert.Mlp

open Idealize.ShloMosaic Idealize.ShloMosaic.TcCoe Idealize.SL.Sem Cert.Gate

/-- The gradient's program runs and keeps its arguments. -/
theorem frame_ScaledDx : Cert.quiescent_ScaledDx (hScaledDx := Cert.ScaledDx.Gen.facts) := fun m ρ _ =>
  Cert.ScaledDx.Gen.frame m ρ

/-- Its idealization runs and keeps its arguments. -/
theorem frame_ScaledDxIdeal : Cert.quiescent_ScaledDxIdeal (hScaledDxIdeal := Cert.ScaledDxIdeal.Gen.facts) := fun m ρ _ =>
  Cert.ScaledDxIdeal.Gen.frame m ρ

/-- Its reference runs and keeps its arguments. -/
theorem frame_ScaledDxReferenceIdeal : Cert.quiescent_ScaledDxReferenceIdeal (hScaledDxReferenceIdeal := Cert.ScaledDxReferenceIdeal.Gen.facts) := fun m ρ _ =>
  (θ_run Cert.ScaledDxReferenceIdeal.defs _ _).mono (fun r h => ⟨fun c => (h c).2.2, sem_eq_zero_of_no_sems (by decide) r.2⟩)
    (Cert.ScaledDxReferenceIdeal.Value.run (F := Ideal) m ρ)

/-- The kernel's results and the reference's are equal, for any arguments. -/
theorem same_ScaledDx : Cert.algebraic_ScaledDxIdeal_ScaledDxReferenceIdeal (hScaledDxIdeal := Cert.ScaledDxIdeal.Gen.facts)
    (hScaledDxReferenceIdeal := Cert.ScaledDxReferenceIdeal.Gen.facts) := by
  intro m ρ m' ρ' _ hag
  refine ⟨fun c => (Cert.ScaledDxIdeal.Gen.dats m 0 c).arrAt 4 Cert.ScaledDxIdeal.cfg0.N, fun c => (Cert.ScaledDxIdeal.Gen.dats m 0 c).arrAt 5 Cert.ScaledDxIdeal.cfg0.N,
    Cert.ScaledDxIdeal.Value.run_blocks m ρ, ?_⟩
  refine (θ_run _ _ _).mono (fun r h c => ?_) (Cert.ScaledDxReferenceIdeal.Value.run m' ρ')
  obtain ⟨e, e', rest⟩ := h c
  obtain ⟨a0, a1, a2, a3⟩ := hag c
  refine ⟨(e.trans (Cert.ScaledDxReferenceIdeal.Read.val_main_v9_eq _ _ _)).trans ?_, (e'.trans (Cert.ScaledDxReferenceIdeal.Read.val_main_v6_eq _ _ _)).trans ?_, rest⟩
  · rw [a1, a2, a3]
    funext i
    obtain ⟨r, s, rfl⟩ : ∃ (r s : Fin 2048), i = ix2 r s := ⟨i 0, i 1, eq_ix2 i⟩
    exact (Cert.ScaledDxReferenceIdeal.Mlp.value9 _ _ _ r s).trans (Cert.ScaledDxIdeal.Mlp.final4 m c r s).symm
  · rw [a0, a2, a3]
    funext i
    obtain ⟨s, rfl⟩ : ∃ s : Fin 2048, i = ix2 0 s := ⟨i 1, (eq_ix2 i).trans (congrArg (ix2 · (i 1)) (Fin.fin_one_eq_zero (i 0)))⟩
    exact (Cert.ScaledDxReferenceIdeal.Mlp.value6 _ _ _ s).trans (congrFun (Cert.ScaledDxIdeal.Mlp.final5 m c) (ix2 0 s)).symm

end Cert.Mlp

end
-- ==== Proof.GrpDx.lean ====
module

public import proofs.«01_k».proof.Defs
public import proofs.«01_k».proof.Proof.RealGate
public import proofs.«01_k».proof.Proof.Product
public import proofs.«01_k».proof.Proof.Group
public import proofs.«01_k».proof.Proof.Gen.GrpDx.Frame
public import proofs.«01_k».proof.Proof.Gen.GrpDxIdeal.Value
public import proofs.«01_k».proof.Proof.Gen.GrpDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient through the second mixer's four groups' products: eight tiles, each one product of a group's rows. -/

@[expose] public section

set_option maxRecDepth 16384

noncomputable section

namespace Cert.GrpDxIdeal.Mlp

open Idealize.ShloMosaic Idealize.ShloMosaic.TcCoe Idealize.SL.Sem Cert.GrpDxIdeal Cert.GrpDxIdeal.Gen Cert.GrpDxIdeal.Value Cert.Gate Cert.Mlp

/-- A tile of the result: the product of a row block and the rows of its group's weights. -/
theorem pay (u : Vec Ideal S1024x512 .bf16) (v : Vec Ideal S1x512x512 .bf16) (i : Fin 1024) (j : Fin 512) :
    (k0_pay1 u v (ix2 i j) : EReal) = ∑ k : Fin 512, u (ix2 i k) * v (ix3 0 j k) := by
  unfold k0_pay1
  pointwise

/-- The body's result is its one tile. -/
theorem out (u : Vec Ideal S1024x512 .bf16) (v : Vec Ideal S1x512x512 .bf16) : out0_2 u v = k0_pay1 u v := by
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz]
  simp only [View.ld_unit_zero (S := S1024x512) hz, View.ld_unit_zero (S := S1x512x512) hz3]

variable (m : (ℓ : Loc nD τ sig) → Buf (Elt Ideal) ℓ)

/-- The weights -/
abbrev w (c : Dev nD) : S4x512x512.Idx → EReal := m ((c : Thread nD τ).loc main_arg1)
/-- and the cotangent, as launched. -/
abbrev dy (c : Dev nD) : S2048x2048.Idx → EReal := m ((c : Thread nD τ).loc main_arg2)

/-- The cotangent as the region finds it. -/
theorem V_dy (c : Dev nD) (i : S2048x2048.Idx) : V m c main_v0 i = dy m c i := by
  unfold V
  after_reads_at

/-- The weights as the region finds them. -/
theorem V_w (c : Dev nD) (i : S4x512x512.Idx) : V m c main_v1 i = w m c i := by
  unfold V
  after_reads_at

/-- Where each window's block lies at a point. -/
theorem index (t : Fin cfg0.N) : (win0_0.index t 0 = t.val / 4 ∧ win0_0.index t 1 = t.val % 4) ∧ (win0_1.index t 0 = t.val % 4 ∧ win0_1.index t 1 = 0 ∧ win0_1.index t 2 = 0)
    ∧ (win0_2.index t 0 = t.val / 4 ∧ win0_2.index t 1 = t.val % 4) :=
  (by decide +kernel : ∀ t : Fin grid0.N, (win0_0.index t 0 = t.val / 4 ∧ win0_0.index t 1 = t.val % 4) ∧ (win0_1.index t 0 = t.val % 4 ∧ win0_1.index t 1 = 0 ∧ win0_1.index t 2 = 0)
    ∧ (win0_2.index t 0 = t.val / 4 ∧ win0_2.index t 1 = t.val % 4)) t

/-- The point whose tile holds row `r` and column `s`. -/
def at_ (r s : Fin 2048) : Fin cfg0.N := ⟨4 * (r.val / 1024) + s.val / 512, by have hN : cfg0.N = 8 := N_0; omega⟩

/-- Its block row and block column. -/
theorem at_parts (r s : Fin 2048) : (at_ r s).val / 4 = r.val / 1024 ∧ (at_ r s).val % 4 = s.val / 512 := by
  show (4 * (r.val / 1024) + s.val / 512) / 4 = _ ∧ (4 * (r.val / 1024) + s.val / 512) % 4 = _
  omega

/-- The cotangent's block. -/
theorem blk0 (c : Dev nD) (r s : Fin 2048) (k : Fin 512) :
    (iblk m c 0 (at_ r s) : Vec Ideal S1024x512 .bf16) (ix2 (lo r) k) = dy m c (ix2 r (grp (of_ s) k)) := by
  have hi := (index (at_ r s)).1
  rw [(at_parts r s).1, (at_parts r s).2] at hi
  refine Eq.trans ?_ (V_dy m c (ix2 r (grp (of_ s) k)))
  unfold iblk
  rw [View.read_apply]
  show V m c main_v0 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 512 + 1 * k.val = 512 * (s.val / 512) + k.val; rw [hi.2]; omega

/-- The weights' block. -/
theorem blk1 (c : Dev nD) (r s : Fin 2048) (k : Fin 512) :
    (iblk m c 1 (at_ r s) : Vec Ideal S1x512x512 .bf16) (ix3 0 (in_ s) k) = w m c (ix3 (of_ s) (in_ s) k) := by
  have hi := (index (at_ r s)).2.1
  rw [(at_parts r s).2] at hi
  refine Eq.trans ?_ (V_w m c (ix3 (of_ s) (in_ s) k))
  unfold iblk
  rw [View.read_apply]
  show V m c main_v1 _ = _
  congr 1
  funext a
  apply Fin.ext
  match a with
  | ⟨0, _⟩ => show win0_1.index (at_ r s) 0 * 1 + 1 * 0 = s.val / 512; rw [hi.1]; omega
  | ⟨1, _⟩ => show win0_1.index (at_ r s) 1 * 512 + 1 * (s.val % 512) = s.val % 512; rw [hi.2.1]; omega
  | ⟨2, _⟩ => show win0_1.index (at_ r s) 2 * 512 + 1 * k.val = k.val; rw [hi.2.2]; omega

/-- The result array, element by element. -/
theorem final (c : Dev nD) (r s : Fin 2048) :
    ((dats m 0 c).arrAt 2 cfg0.N : S2048x2048.Idx → EReal) (ix2 r s)
      = ∑ k : Fin 512, dy m c (ix2 r (grp (of_ s) k)) * w m c (ix3 (of_ s) (in_ s) k) := by
  have key := congrFun (blocks2 m c (at_ r s) (flush0_2 _)) (ix2 (lo r) (in_ s))
  rw [View.read_apply, flushed2, out] at key
  have hi := (index (at_ r s)).2.2
  rw [(at_parts r s).1, (at_parts r s).2] at hi
  refine Eq.trans ?_ (key.trans ?_)
  · congr 1
    funext a
    apply Fin.ext
    match a with
    | ⟨0, _⟩ => show r.val = win0_2.index (at_ r s) 0 * 1024 + 1 * (r.val % 1024); rw [hi.1]; omega
    | ⟨1, _⟩ => show s.val = win0_2.index (at_ r s) 1 * 512 + 1 * (s.val % 512); rw [hi.2]; omega
  · refine (pay (iblk m c 0 (at_ r s)) (iblk m c 1 (at_ r s)) (lo r) (in_ s)).trans ?_
    exact Finset.sum_congr rfl fun k _ => congrArg₂ (· * ·) (blk0 m c r s k) (blk1 m c r s k)

end Cert.GrpDxIdeal.Mlp

namespace Cert.GrpDxReferenceIdeal.Mlp

open Idealize.ShloMosaic Idealize.ShloMosaic.TcCoe Idealize.SL.Sem Cert.GrpDxReferenceIdeal Cert.GrpDxReferenceIdeal.Read Cert.Gate Cert.Mlp

/-- The reference's result, element by element. -/
theorem value (x1 : FVec Ideal S4x512x512 .f32) (x2 : FVec Ideal S2048x2048 .f32) (r s : Fin 2048) :
    (val_main_v8 (F := Ideal) x1 x2 (ix2 r s) : EReal) = ∑ k : Fin 512, x2 (ix2 r (grp (of_ s) k)) * x1 (ix3 (of_ s) (in_ s) k) := by
  rw [val_main_v8_apply, val_main_v7_apply, val_main_v6_apply]
  refine Finset.sum_congr rfl fun k _ => ?_
  rw [val_main_v5_apply, val_main_v4_apply]
  refine congrArg₂ (· * ·) (congrArg x2 (funext fun a => Fin.ext ?_)) (congrArg x1 (funext fun a => Fin.ext ?_))
  · match a with
    | ⟨0, _⟩ => show (((r.val * 2048 + s.val) / 2048 * 4 + (r.val * 2048 + s.val) / 512 % 4) * 512 + k.val) / 2048 = r.val; omega
    | ⟨1, _⟩ => show (((r.val * 2048 + s.val) / 2048 * 4 + (r.val * 2048 + s.val) / 512 % 4) * 512 + k.val) % 2048 = 512 * (s.val / 512) + k.val; omega
  · match a with
    | ⟨0, _⟩ => show (r.val * 2048 + s.val) / 512 % 4 = s.val / 512; omega
    | ⟨1, _⟩ => show (r.val * 2048 + s.val) % 512 = s.val % 512; omega
    | ⟨2, _⟩ => rfl

end Cert.GrpDxReferenceIdeal.Mlp

namespace Cert.Mlp

open Idealize.ShloMosaic Idealize.ShloMosaic.TcCoe Idealize.SL.Sem Cert.Gate

/-- The gradient's program runs and keeps its arguments. -/
theorem frame_GrpDx : Cert.quiescent_GrpDx (hGrpDx := Cert.GrpDx.Gen.facts) := fun m ρ _ =>
  Cert.GrpDx.Gen.frame m ρ

/-- Its idealization runs and keeps its arguments. -/
theorem frame_GrpDxIdeal : Cert.quiescent_GrpDxIdeal (hGrpDxIdeal := Cert.GrpDxIdeal.Gen.facts) := fun m ρ _ =>
  Cert.GrpDxIdeal.Gen.frame m ρ

/-- Its reference runs and keeps its arguments. -/
theorem frame_GrpDxReferenceIdeal : Cert.quiescent_GrpDxReferenceIdeal (hGrpDxReferenceIdeal := Cert.GrpDxReferenceIdeal.Gen.facts) := fun m ρ _ =>
  (θ_run Cert.GrpDxReferenceIdeal.defs _ _).mono (fun r h => ⟨fun c => (h c).2, sem_eq_zero_of_no_sems (by decide) r.2⟩)
    (Cert.GrpDxReferenceIdeal.Value.run (F := Ideal) m ρ)

/-- The kernel's result and the reference's are equal, for any arguments. -/
theorem same_GrpDx : Cert.algebraic_GrpDxIdeal_GrpDxReferenceIdeal (hGrpDxIdeal := Cert.GrpDxIdeal.Gen.facts)
    (hGrpDxReferenceIdeal := Cert.GrpDxReferenceIdeal.Gen.facts) := by
  intro m ρ m' ρ' _ hag
  refine ⟨fun c => (Cert.GrpDxIdeal.Gen.dats m 0 c).arrAt 2 Cert.GrpDxIdeal.cfg0.N, Cert.GrpDxIdeal.Value.run_blocks m ρ, ?_⟩
  refine (θ_run _ _ _).mono (fun r h c => ?_) (Cert.GrpDxReferenceIdeal.Value.run m' ρ')
  obtain ⟨e, rest⟩ := h c
  refine ⟨(e.trans (Cert.GrpDxReferenceIdeal.Read.val_main_v8_eq _ _)).trans ?_, rest⟩
  obtain ⟨-, a1, a2⟩ := hag c
  rw [a1, a2]
  funext i
  obtain ⟨r, s, rfl⟩ : ∃ (r s : Fin 2048), i = ix2 r s := ⟨i 0, i 1, eq_ix2 i⟩
  exact (Cert.GrpDxReferenceIdeal.Mlp.value _ _ r s).trans (Cert.GrpDxIdeal.Mlp.final m c r s).symm

end Cert.Mlp

end
-- ==== Proof.GrpDw.lean ====
module

public import proofs.«01_k».proof.Defs
public import proofs.«01_k».proof.Proof.RealGate
public import proofs.«01_k».proof.Proof.Product
public import proofs.«01_k».proof.Proof.Group
public import proofs.«01_k».proof.Proof.Gen.GrpDw.Frame
public import proofs.«01_k».proof.Proof.Gen.GrpDwIdeal.Value
public import proofs.«01_k».proof.Proof.Gen.GrpDwReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The gradient of the second mixer's four groups' weights: one tile a group, each a sum over two blocks of rows. -/

@[expose] public section

set_option maxRecDepth 16384

noncomputable section

namespace Cert.GrpDwIdeal.Mlp

open Idealize.ShloMosaic Idealize.ShloMosaic.TcCoe Idealize.SL.Sem Cert.GrpDwIdeal Cert.GrpDwIdeal.Gen Cert.GrpDwIdeal.Value Cert.Gate Cert.Mlp

/-- One block of rows' product, -/
abbrev one (u v : Vec Ideal S1024x512 .bf16) (a b : Fin 512) : EReal := ∑ k : Fin 1024, u (ix2 k a) * v (ix2 k b)

/-- at a group's first point, -/
theorem pay1 (u v : Vec Ideal S1024x512 .bf16) (a b : Fin 512) : (k0_pay1 u v (ix2 a b) : EReal) = one u v a b := by
  unfold k0_pay1
  pointwise

/-- and added to what is kept at its last. -/
theorem pay2 (x : Vec Ideal S512x512 .f32) (u v : Vec Ideal S1024x512 .bf16) (a b : Fin 512) :
    (k0_pay2 x u v (ix3 0 a b) : EReal) = x (ix2 a b) + one u v a b := by
  unfold k0_pay2
  pointwise

/-- Offsets of zero, -/
theorem hz : (![0, 0] : Fin 2 → Nat) = fun _ => 0 := funext fun a => by fin_cases a <;> rfl
/-- and three of them. -/
theorem hz3 : (![0, 0, 0] : Fin 3 → Nat) = fun _ => 0 := funext fun a => by fin_cases a <;> rfl

variable (m : (ℓ : Loc nD τ sig) → Buf (Elt Ideal) ℓ)

/-- The two factors' blocks at a point. -/
abbrev left (c : Dev nD) (t : Fin cfg0.N) : Vec Ideal S1024x512 .bf16 := iblk m c 0 t
@[inherit_doc left]
abbrev right (c : Dev nD) (t : Fin cfg0.N) : Vec Ideal S1024x512 .bf16 := iblk m c 1 t

/-- At a group's first point the first block's product is kept. -/
theorem first (c : Dev nD) (t : Fin cfg0.N) (h : t.val % 2 = 0) : (outsAt0 m c t.val t.isLt).2 = k0_pay1 (left m c t) (right m c t) := by
  rw [outsAt0_A m c t h (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1024x512) hz]

/-- At its last point the last is added. -/
theorem last (c : Dev nD) (t : Fin cfg0.N) (h : t.val % 2 = 1) :
    (outsAt0 m c t.val t.isLt).1 = k0_pay2 (outsAt0 m c (t.val - 1) (Nat.lt_of_le_of_lt (Nat.sub_le _ _) t.isLt)).2 (left m c t) (right m c t) := by
  rw [outsAt0_B m c t (by omega) h]
  dsimp only
  unfold out0_B_2
  rw [View.read_writes_eq_canon _ _ _ (cover0_B_2 _ _ _ _ _ _ _ _ _ _ _ _ _ _ _)]
  unfold kernelRun0_B
  dsimp only
  sl_unfold_words
  rw [View.canon_unit_zero hz3]
  simp only [View.readAt_eq_ld, Memref.IsWhole.read_unread, View.ld_unit_zero (S := S1024x512) hz, View.ld_unit_zero (S := S512x512) hz]
  exact congrArg (fun x => k0_pay2 x (left m c t) (right m c t)) (Memref.IsWhole.read_unread _ _)

/-- The pooled rows -/
abbrev pooled (c : Dev nD) : S2048x2048.Idx → EReal := m ((c : Thread nD τ).loc main_arg0)
/-- and the cotangent, as launched. -/
abbrev dy (c : Dev nD) : S2048x2048.Idx → EReal := m ((c : Thread nD τ).loc main_arg2)

/-- The pooled rows as the region finds them. -/
theorem V_pooled (c : Dev nD) (i : S2048x2048.Idx) : V m c main_v0 i = pooled m c i := by
  unfold V
  after_reads_at

/-- The cotangent as the region finds it. -/
theorem V_dy (c : Dev nD) (i : S2048x2048.Idx) : V m c main_v1 i = dy m c i := by
  unfold V
  after_reads_at

/-- Where each input window's block lies at a point. -/
theorem index (t : Fin cfg0.N) : (win0_0.index t 0 = t.val % 2 ∧ win0_0.index t 1 = t.val / 2) ∧ (win0_1.index t 0 = t.val % 2 ∧ win0_1.index t 1 = t.val / 2) :=
  (by decide +kernel : ∀ t : Fin grid0.N, (win0_0.index t 0 = t.val % 2 ∧ win0_0.index t 1 = t.val / 2) ∧ (win0_1.index t 0 = t.val % 2 ∧ win0_1.index t 1 = t.val / 2)) t

/-- The `q`-th point of group `g`. -/
def at_ (g : Fin 4) (q : Fin 2) : Fin cfg0.N := ⟨2 * g.val + q.val, by have hN : cfg0.N = 8 := N_0; omega⟩

/-- Its place in the sum and its group. -/
theorem at_parts (g : Fin 4) (q : Fin 2) : (at_ g q).val % 2 = q.val ∧ (at_ g q).val / 2 = g.val := by
  show (2 * g.val + q.val) % 2 = _ ∧ (2 * g.val + q.val) / 2 = _
  omega

/-- The pooled rows' block. -/
theorem blk0 (c : Dev nD) (g : Fin 4) (q : Fin 2) (k : Fin 1024) (a : Fin 512) :
    left m c (at_ g q) (ix2 k a) = pooled m c (ix2 (half q k) (grp g a)) := by
  have hi := (index (at_ g q)).1
  rw [(at_parts g q).1, (at_parts g q).2] at hi
  refine Eq.trans ?_ (V_pooled m c (ix2 (half q k) (grp g a)))
  unfold left iblk
  rw [View.read_apply]
  show V m c main_v0 _ = _
  congr 1
  funext b
  apply Fin.ext
  match b with
  | ⟨0, _⟩ => show win0_0.index (at_ g q) 0 * 1024 + 1 * k.val = 1024 * q.val + k.val; rw [hi.1]; omega
  | ⟨1, _⟩ => show win0_0.index (at_ g q) 1 * 512 + 1 * a.val = 512 * g.val + a.val; rw [hi.2]; omega

/-- The cotangent's block. -/
theorem blk1 (c : Dev nD) (g : Fin 4) (q : Fin 2) (k : Fin 1024) (b : Fin 512) :
    right m c (at_ g q) (ix2 k b) = dy m c (ix2 (half q k) (grp g b)) := by
  have hi := (index (at_ g q)).2
  rw [(at_parts g q).1, (at_parts g q).2] at hi
  refine Eq.trans ?_ (V_dy m c (ix2 (half q k) (grp g b)))
  unfold right iblk
  rw [View.read_apply]
  show V m c main_v1 _ = _
  congr 1
  funext a
  apply Fin.ext
  match a with
  | ⟨0, _⟩ => show win0_1.index (at_ g q) 0 * 1024 + 1 * k.val = 1024 * q.val + k.val; rw [hi.1]; omega
  | ⟨1, _⟩ => show win0_1.index (at_ g q) 1 * 512 + 1 * b.val = 512 * g.val + b.val; rw [hi.2]; omega

/-- A block of rows' product, in the launched arrays. -/
theorem product (c : Dev nD) (g : Fin 4) (q : Fin 2) (a b : Fin 512) : one (left m c (at_ g q)) (right m c (at_ g q)) a b
    = ∑ k : Fin 1024, pooled m c (ix2 (half q k) (grp g a)) * dy m c (ix2 (half q k) (grp g b)) :=
  Finset.sum_congr rfl fun k _ => congrArg₂ (· * ·) (blk0 m c g q k a) (blk1 m c g q k b)

/-- What is kept after the first point. -/
theorem kept (c : Dev nD) (g : Fin 4) (a b : Fin 512) : ((outsAt0 m c (at_ g 0).val (at_ g 0).isLt).2 (ix2 a b) : EReal)
    = ∑ k : Fin 1024, pooled m c (ix2 (half 0 k) (grp g a)) * dy m c (ix2 (half 0 k) (grp g b)) := by
  rw [first m c (at_ g 0) (at_parts g 0).1]
  exact (pay1 _ _ _ _).trans (product m c g 0 a b)

/-- The result array, element by element. -/
theorem final (c : Dev nD) (g : Fin 4) (a b : Fin 512) : (G2 m c : S4x512x512.Idx → EReal) (ix3 g a b)
    = ∑ k : Fin 2048, pooled m c (ix2 k (grp g a)) * dy m c (ix2 k (grp g b)) := by
  have e : (at_ g 1).val - 1 = (at_ g 0).val := by
    show 2 * g.val + 1 - 1 = 2 * g.val + 0
    omega
  have hp : pt2Of (ix3 g a b) = (at_ g 1).val := by
    show 2 * (1 * (g.val / 1 - 0) + 1 * (a.val / 512 - 0) + 1 * (b.val / 512 - 0)) + 1 = 2 * g.val + 1
    omega
  have hl : loc2Of (ix3 g a b) = ix3 0 a b := by
    funext d
    apply Fin.ext
    match d with
    | ⟨0, _⟩ => show g.val % 1 = 0; omega
    | ⟨1, _⟩ => show a.val % 512 = a.val; omega
    | ⟨2, _⟩ => show b.val % 512 = b.val; omega
  unfold G2
  rw [dif_pos (by rw [hp]; exact (at_ g 1).isLt), hl, fold0_congr m c _ _ _ (by rw [Nat.zero_add]; exact (at_ g 1).isLt) hp,
    ← outsAt0_sweep m c (at_ g 1).val (at_ g 1).isLt, last m c (at_ g 1) (at_parts g 1).1]
  refine (pay2 _ _ _ _ _).trans ?_
  rw [product]
  simp only [e]
  rw [kept, sum_halves]

end Cert.GrpDwIdeal.Mlp

namespace Cert.GrpDwReferenceIdeal.Mlp

open Idealize.ShloMosaic Idealize.ShloMosaic.TcCoe Idealize.SL.Sem Cert.GrpDwReferenceIdeal Cert.GrpDwReferenceIdeal.Read Cert.Gate Cert.Mlp

/-- The reference's result, element by element. -/
theorem value (x0 x2 : FVec Ideal S2048x2048 .f32) (g : Fin 4) (a b : Fin 512) :
    (val_main_v8 (F := Ideal) x0 x2 (ix3 g a b) : EReal) = ∑ k : Fin 2048, x0 (ix2 k (grp g a)) * x2 (ix2 k (grp g b)) := by
  rw [val_main_v8_apply, val_main_v7_apply, val_main_v6_apply]
  refine Finset.sum_congr rfl fun k _ => ?_
  rw [val_main_v5_apply, val_main_v4_apply, val_main_v0_apply, mul_comm]
  refine congrArg₂ (· * ·) (congrArg x0 (funext fun d => Fin.ext ?_)) (congrArg x2 (funext fun d => Fin.ext ?_))
  · match d with
    | ⟨0, _⟩ => show ((k.val * 4 + g.val) * 512 + a.val) / 2048 = k.val; omega
    | ⟨1, _⟩ => show ((k.val * 4 + g.val) * 512 + a.val) % 2048 = 512 * g.val + a.val; omega
  · match d with
    | ⟨0, _⟩ => show ((k.val * 4 + g.val) * 512 + b.val) / 2048 = k.val; omega
    | ⟨1, _⟩ => show ((k.val * 4 + g.val) * 512 + b.val) % 2048 = 512 * g.val + b.val; omega

end Cert.GrpDwReferenceIdeal.Mlp

namespace Cert.Mlp

open Idealize.ShloMosaic Idealize.ShloMosaic.TcCoe Idealize.SL.Sem Cert.Gate

/-- The gradient's program runs and keeps its arguments. -/
theorem frame_GrpDw : Cert.quiescent_GrpDw (hGrpDw := Cert.GrpDw.Gen.facts) := fun m ρ _ =>
  Cert.GrpDw.Gen.frame m ρ

/-- Its idealization runs and keeps its arguments. -/
theorem frame_GrpDwIdeal : Cert.quiescent_GrpDwIdeal (hGrpDwIdeal := Cert.GrpDwIdeal.Gen.facts) := fun m ρ _ =>
  Cert.GrpDwIdeal.Gen.frame m ρ

/-- Its reference runs and keeps its arguments. -/
theorem frame_GrpDwReferenceIdeal : Cert.quiescent_GrpDwReferenceIdeal (hGrpDwReferenceIdeal := Cert.GrpDwReferenceIdeal.Gen.facts) := fun m ρ _ =>
  (θ_run Cert.GrpDwReferenceIdeal.defs _ _).mono (fun r h => ⟨fun c => (h c).2, sem_eq_zero_of_no_sems (by decide) r.2⟩)
    (Cert.GrpDwReferenceIdeal.Value.run (F := Ideal) m ρ)

/-- The kernel's result and the reference's are equal, for any arguments. -/
theorem same_GrpDw : Cert.algebraic_GrpDwIdeal_GrpDwReferenceIdeal (hGrpDwIdeal := Cert.GrpDwIdeal.Gen.facts)
    (hGrpDwReferenceIdeal := Cert.GrpDwReferenceIdeal.Gen.facts) := by
  intro m ρ m' ρ' _ hag
  refine ⟨fun c => Cert.GrpDwIdeal.Value.G2 m c, Cert.GrpDwIdeal.Value.run m ρ, ?_⟩
  refine (θ_run _ _ _).mono (fun r h c => ?_) (Cert.GrpDwReferenceIdeal.Value.run m' ρ')
  obtain ⟨e, rest⟩ := h c
  refine ⟨(e.trans (Cert.GrpDwReferenceIdeal.Read.val_main_v8_eq _ _)).trans ?_, rest⟩
  obtain ⟨a0, -, a2⟩ := hag c
  rw [a0, a2]
  funext i
  obtain ⟨g, a, b, rfl⟩ : ∃ (g : Fin 4) (a b : Fin 512), i = ix3 g a b := ⟨i 0, i 1, i 2, eq_ix3 i⟩
  exact (Cert.GrpDwReferenceIdeal.Mlp.value _ _ g a b).trans (Cert.GrpDwIdeal.Mlp.final m c g a b).symm

end Cert.Mlp

end
-- ==== Proof.Grp.lean ====
module

public import proofs.«01_k».proof.Defs
public import proofs.«01_k».proof.Proof.RealGate
public import proofs.«01_k».proof.Proof.Product
public import proofs.«01_k».proof.Proof.Group
public import proofs.«01_k».proof.Proof.Gen.Grp.Frame
public import proofs.«01_k».proof.Proof.Gen.GrpIdeal.Value
public import proofs.«01_k».proof.Proof.Gen.GrpReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The second mixer's four groups' products, and the products scaled: eight tiles, each one product of a group's columns. -/

@[expose] public section

set_option maxRecDepth 16384

noncomputable section

namespace Cert.GrpIdeal.Mlp

open Idealize.ShloMosaic Idealize.ShloMosaic.TcCoe Idealize.SL.Sem Cert.GrpIdeal Cert.GrpIdeal.Gen Cert.GrpIdeal.Value Cert.Gate Cert.Mlp

/-- The product's tile. -/
theorem pay2 (u : Vec Ideal S1024x512 .bf16) (v : Vec Ideal S1x512x512 .bf16) (i : Fin 1024) (j : Fin 512) :
    (k0_pay2 u v (ix2 i j) : EReal) = ∑ k : Fin 512, u (ix2 i k) * v (ix3 0 k j) := by
  unfold k0_pay2 k0_pay1
  pointwise

/-- The scaled product's tile. -/
theorem pay3 (u : Vec Ideal S1024x512 .bf16) (v : Vec Ideal S1x512x512 .bf16) (g : Vec Ideal S1x512 .f32) (i : Fin 1024) (j : Fin 512) :
    (k0_pay3 u v g (ix2 i j) : EReal) = (∑ k : Fin 512, u (ix2 i k) * v (ix3 0 k j)) * g (ix2 0 j) := by
  unfold k0_pay3 k0_pay1
  pointwise

/-- The body's results are its two tiles. -/
theorem out (u : Vec Ideal S1024x512 .bf16) (v : Vec Ideal S1x512x512 .bf16) (g : Vec Ideal S1x512 .f32) :
    out0_3 u v g = k0_pay2 u v ∧ out0_4 u v g = k0_pay3 u v g := by
  have hz : (![0, 0] : Fin 2 → Nat) = fun _ => 0 := funext fun a => by fin_cases a <;> rfl
  have hz3 : (![0, 0, 0] : Fin 3 → Nat) = fun _ => 0 := funext fun a => by fin_cases a <;> rfl
  unfold out0_3 out0_4
  rw [View.canon_unit_zero hz, View.canon_unit_zero hz]
  simp only [View.ld_unit_zero (S := S1024x512) hz, View.ld_unit_zero (S := S1x512x512) hz3, View.ld_unit_zero (S := S1x512) hz, and_self]

variable (m : (ℓ : Loc nD τ sig) → Buf (Elt Ideal) ℓ)

/-- The pooled rows, -/
abbrev pooled (c : Dev nD) : S2048x2048.Idx → EReal := m ((c : Thread nD τ).loc main_arg0)
/-- the weights -/
abbrev w (c : Dev nD) : S4x512x512.Idx → EReal := m ((c : Thread nD τ).loc main_arg1)
/-- and the scale, as launched. -/
abbrev scale (c : Dev nD) : S1x2048.Idx → EReal := m ((c : Thread nD τ).loc main_arg2)

/-- The pooled rows as the region finds them. -/
theorem V_pooled (c : Dev nD) (i : S2048x2048.Idx) : V m c main_v0 i = pooled m c i := by
  unfold V
  after_reads_at

/-- The weights as the region finds them. -/
theorem V_w (c : Dev nD) (i : S4x512x512.Idx) : V m c main_v1 i = w m c i := by
  unfold V
  after_reads_at

/-- Where each window's block lies at a point. -/
theorem index (t : Fin cfg0.N) : (win0_0.index t 0 = t.val / 4 ∧ win0_0.index t 1 = t.val % 4) ∧ (win0_1.index t 0 = t.val % 4 ∧ win0_1.index t 1 = 0 ∧ win0_1.index t 2 = 0)
    ∧ (win0_2.index t 0 = 0 ∧ win0_2.index t 1 = t.val % 4) ∧ (win0_3.index t 0 = t.val / 4 ∧ win0_3.index t 1 = t.val % 4)
    ∧ (win0_4.index t 0 = t.val / 4 ∧ win0_4.index t 1 = t.val % 4) :=
  (by decide +kernel : ∀ t : Fin grid0.N, (win0_0.index t 0 = t.val / 4 ∧ win0_0.index t 1 = t.val % 4) ∧ (win0_1.index t 0 = t.val % 4 ∧ win0_1.index t 1 = 0 ∧ win0_1.index t 2 = 0)
    ∧ (win0_2.index t 0 = 0 ∧ win0_2.index t 1 = t.val % 4) ∧ (win0_3.index t 0 = t.val / 4 ∧ win0_3.index t 1 = t.val % 4)
    ∧ (win0_4.index t 0 = t.val / 4 ∧ win0_4.index t 1 = t.val % 4)) t

/-- The point whose tiles hold row `r` and column `s`. -/
def at_ (r s : Fin 2048) : Fin cfg0.N := ⟨4 * (r.val / 1024) + s.val / 512, by have hN : cfg0.N = 8 := N_0; omega⟩

/-- Its block row and block column. -/
theorem at_parts (r s : Fin 2048) : (at_ r s).val / 4 = r.val / 1024 ∧ (at_ r s).val % 4 = s.val / 512 := by
  show (4 * (r.val / 1024) + s.val / 512) / 4 = _ ∧ (4 * (r.val / 1024) + s.val / 512) % 4 = _
  omega

/-- The pooled rows' block. -/
theorem blk0 (c : Dev nD) (r s : Fin 2048) (k : Fin 512) :
    (iblk m c 0 (at_ r s) : Vec Ideal S1024x512 .bf16) (ix2 (lo r) k) = pooled m c (ix2 r (grp (of_ s) k)) := by
  have hi := (index (at_ r s)).1
  rw [(at_parts r s).1, (at_parts r s).2] at hi
  refine Eq.trans ?_ (V_pooled m c (ix2 r (grp (of_ s) k)))
  unfold iblk
  rw [View.read_apply]
  show V m c main_v0 _ = _
  congr 1
  funext a
  apply Fin.ext
  match a with
  | ⟨0, _⟩ => show win0_0.index (at_ r s) 0 * 1024 + 1 * (r.val % 1024) = r.val; rw [hi.1]; omega
  | ⟨1, _⟩ => show win0_0.index (at_ r s) 1 * 512 + 1 * k.val = 512 * (s.val / 512) + k.val; rw [hi.2]; omega

/-- The weights' block. -/
theorem blk1 (c : Dev nD) (r s : Fin 2048) (k : Fin 512) :
    (iblk m c 1 (at_ r s) : Vec Ideal S1x512x512 .bf16) (ix3 0 k (in_ s)) = w m c (ix3 (of_ s) k (in_ s)) := by
  have hi := (index (at_ r s)).2.1
  rw [(at_parts r s).2] at hi
  refine Eq.trans ?_ (V_w m c (ix3 (of_ s) k (in_ s)))
  unfold iblk
  rw [View.read_apply]
  show V m c main_v1 _ = _
  congr 1
  funext a
  apply Fin.ext
  match a with
  | ⟨0, _⟩ => show win0_1.index (at_ r s) 0 * 1 + 1 * 0 = s.val / 512; rw [hi.1]; omega
  | ⟨1, _⟩ => show win0_1.index (at_ r s) 1 * 512 + 1 * k.val = k.val; rw [hi.2.1]; omega
  | ⟨2, _⟩ => show win0_1.index (at_ r s) 2 * 512 + 1 * (s.val % 512) = s.val % 512; rw [hi.2.2]; omega

/-- The scale's block. -/
theorem blk2 (c : Dev nD) (r s : Fin 2048) : (iblk m c 2 (at_ r s) : Vec Ideal S1x512 .f32) (ix2 0 (in_ s)) = scale m c (ix2 0 s) := by
  have hi := (index (at_ r s)).2.2.1
  rw [(at_parts r s).2] at hi
  refine Eq.trans ?_ (congrFun (V_main_arg2 m c) (ix2 0 s))
  unfold iblk
  rw [View.read_apply]
  show V m c main_arg2 _ = _
  congr 1
  funext a
  apply Fin.ext
  match a with
  | ⟨0, _⟩ => show win0_2.index (at_ r s) 0 * 1 + 1 * 0 = 0; rw [hi.1]
  | ⟨1, _⟩ => show win0_2.index (at_ r s) 1 * 512 + 1 * (s.val % 512) = s.val; rw [hi.2]; omega

/-- The two factors' blocks at a point, -/
abbrev left (c : Dev nD) (t : Fin cfg0.N) : Vec Ideal S1024x512 .bf16 := iblk m c 0 t
@[inherit_doc left]
abbrev right (c : Dev nD) (t : Fin cfg0.N) : Vec Ideal S1x512x512 .bf16 := iblk m c 1 t
/-- and the scale's. -/
abbrev gain (c : Dev nD) (t : Fin cfg0.N) : Vec Ideal S1x512 .f32 := iblk m c 2 t

/-- The blocks' product. -/
theorem product (c : Dev nD) (r s : Fin 2048) :
    (∑ k : Fin 512, left m c (at_ r s) (ix2 (lo r) k) * right m c (at_ r s) (ix3 0 k (in_ s)) : EReal)
      = ∑ k : Fin 512, pooled m c (ix2 r (grp (of_ s) k)) * w m c (ix3 (of_ s) k (in_ s)) :=
  Finset.sum_congr rfl fun k _ => congrArg₂ (· * ·) (blk0 m c r s k) (blk1 m c r s k)

/-- The first result, element by element: the groups' products. -/
theorem final3 (c : Dev nD) (r s : Fin 2048) :
    ((dats m 0 c).arrAt 3 cfg0.N : S2048x2048.Idx → EReal) (ix2 r s)
      = ∑ k : Fin 512, pooled m c (ix2 r (grp (of_ s) k)) * w m c (ix3 (of_ s) k (in_ s)) := by
  have key := congrFun (blocks3 m c (at_ r s) (flush0_3 _)) (ix2 (lo r) (in_ s))
  rw [View.read_apply, flushed3, (out _ _ _).1] at key
  have hi := (index (at_ r s)).2.2.2.1
  rw [(at_parts r s).1, (at_parts r s).2] at hi
  refine Eq.trans ?_ (key.trans ?_)
  · congr 1
    funext a
    apply Fin.ext
    match a with
    | ⟨0, _⟩ => show r.val = win0_3.index (at_ r s) 0 * 1024 + 1 * (r.val % 1024); rw [hi.1]; omega
    | ⟨1, _⟩ => show s.val = win0_3.index (at_ r s) 1 * 512 + 1 * (s.val % 512); rw [hi.2]; omega
  · exact (pay2 (left m c (at_ r s)) (right m c (at_ r s)) (lo r) (in_ s)).trans (product m c r s)

/-- The second result, element by element: the products scaled. -/
theorem final4 (c : Dev nD) (r s : Fin 2048) :
    ((dats m 0 c).arrAt 4 cfg0.N : S2048x2048.Idx → EReal) (ix2 r s)
      = (∑ k : Fin 512, pooled m c (ix2 r (grp (of_ s) k)) * w m c (ix3 (of_ s) k (in_ s))) * scale m c (ix2 0 s) := by
  have key := congrFun (blocks4 m c (at_ r s) (flush0_4 _)) (ix2 (lo r) (in_ s))
  rw [View.read_apply, flushed4, (out _ _ _).2] at key
  have hi := (index (at_ r s)).2.2.2.2
  rw [(at_parts r s).1, (at_parts r s).2] at hi
  refine Eq.trans ?_ (key.trans ?_)
  · congr 1
    funext a
    apply Fin.ext
    match a with
    | ⟨0, _⟩ => show r.val = win0_4.index (at_ r s) 0 * 1024 + 1 * (r.val % 1024); rw [hi.1]; omega
    | ⟨1, _⟩ => show s.val = win0_4.index (at_ r s) 1 * 512 + 1 * (s.val % 512); rw [hi.2]; omega
  · exact (pay3 (left m c (at_ r s)) (right m c (at_ r s)) (gain m c (at_ r s)) (lo r) (in_ s)).trans
      (congrArg₂ (· * ·) (product m c r s) (blk2 m c r s))

end Cert.GrpIdeal.Mlp

namespace Cert.GrpReferenceIdeal.Mlp

open Idealize.ShloMosaic Idealize.ShloMosaic.TcCoe Idealize.SL.Sem Cert.GrpReferenceIdeal Cert.GrpReferenceIdeal.Read Cert.Gate Cert.Mlp

/-- The reference's products, element by element. -/
theorem product (x0 : FVec Ideal S2048x2048 .f32) (x1 : FVec Ideal S4x512x512 .f32) (r s : Fin 2048) :
    (val_main_v3 (F := Ideal) x0 x1 (ix2 r s) : EReal) = ∑ k : Fin 512, x0 (ix2 r (grp (of_ s) k)) * x1 (ix3 (of_ s) k (in_ s)) := by
  rw [val_main_v3_apply, val_main_v2_apply, val_main_v1_apply]
  refine Finset.sum_congr rfl fun k _ => ?_
  rw [val_main_v0_apply, mul_comm]
  refine congrArg₂ (· * ·) (congrArg x0 (funext fun a => Fin.ext ?_)) (congrArg x1 (funext fun a => Fin.ext ?_))
  · match a with
    | ⟨0, _⟩ => show (((r.val * 2048 + s.val) / 2048 * 4 + (r.val * 2048 + s.val) / 512 % 4) * 512 + k.val) / 2048 = r.val; omega
    | ⟨1, _⟩ => show (((r.val * 2048 + s.val) / 2048 * 4 + (r.val * 2048 + s.val) / 512 % 4) * 512 + k.val) % 2048 = 512 * (s.val / 512) + k.val; omega
  · match a with
    | ⟨0, _⟩ => show (r.val * 2048 + s.val) / 512 % 4 = s.val / 512; omega
    | ⟨1, _⟩ => rfl
    | ⟨2, _⟩ => show (r.val * 2048 + s.val) % 512 = s.val % 512; omega

/-- Its two results, element by element. -/
theorem value (x0 : FVec Ideal S2048x2048 .f32) (x1 : FVec Ideal S4x512x512 .f32) (x2 : FVec Ideal S1x2048 .f32) (r s : Fin 2048) :
    (val_main_v4 (F := Ideal) x0 x1 (ix2 r s) : EReal) = ∑ k : Fin 512, x0 (ix2 r (grp (of_ s) k)) * x1 (ix3 (of_ s) k (in_ s))
    ∧ (val_main_v7 (F := Ideal) x0 x1 x2 (ix2 r s) : EReal) = (∑ k : Fin 512, x0 (ix2 r (grp (of_ s) k)) * x1 (ix3 (of_ s) k (in_ s))) * x2 (ix2 0 s) := by
  refine ⟨product x0 x1 r s, ?_⟩
  refine congrArg₂ (· * ·) (product x0 x1 r s) ((val_main_v5_apply x2 _).trans (congrArg x2 (funext fun a => Fin.ext ?_)))
  match a with
  | ⟨0, _⟩ => rfl
  | ⟨1, _⟩ => rfl

end Cert.GrpReferenceIdeal.Mlp

namespace Cert.Mlp

open Idealize.ShloMosaic Idealize.ShloMosaic.TcCoe Idealize.SL.Sem Cert.Gate

/-- The groups' products' program runs and keeps its arguments. -/
theorem frame_Grp : Cert.quiescent_Grp (hGrp := Cert.Grp.Gen.facts) := fun m ρ _ =>
  Cert.Grp.Gen.frame m ρ

/-- Its idealization runs and keeps its arguments. -/
theorem frame_GrpIdeal : Cert.quiescent_GrpIdeal (hGrpIdeal := Cert.GrpIdeal.Gen.facts) := fun m ρ _ =>
  Cert.GrpIdeal.Gen.frame m ρ

/-- Its reference runs and keeps its arguments. -/
theorem frame_GrpReferenceIdeal : Cert.quiescent_GrpReferenceIdeal (hGrpReferenceIdeal := Cert.GrpReferenceIdeal.Gen.facts) := fun m ρ _ =>
  (θ_run Cert.GrpReferenceIdeal.defs _ _).mono (fun r h => ⟨fun c => (h c).2.2, sem_eq_zero_of_no_sems (by decide) r.2⟩)
    (Cert.GrpReferenceIdeal.Value.run (F := Ideal) m ρ)

/-- The kernel's results and the reference's are equal, for any arguments. -/
theorem same_Grp : Cert.algebraic_GrpIdeal_GrpReferenceIdeal (hGrpIdeal := Cert.GrpIdeal.Gen.facts)
    (hGrpReferenceIdeal := Cert.GrpReferenceIdeal.Gen.facts) := by
  intro m ρ m' ρ' _ hag
  refine ⟨fun c => (Cert.GrpIdeal.Gen.dats m 0 c).arrAt 3 Cert.GrpIdeal.cfg0.N, fun c => (Cert.GrpIdeal.Gen.dats m 0 c).arrAt 4 Cert.GrpIdeal.cfg0.N,
    Cert.GrpIdeal.Value.run_blocks m ρ, ?_⟩
  refine (θ_run _ _ _).mono (fun r h c => ?_) (Cert.GrpReferenceIdeal.Value.run m' ρ')
  obtain ⟨e, e', rest⟩ := h c
  obtain ⟨a0, a1, a2⟩ := hag c
  refine ⟨(e.trans (Cert.GrpReferenceIdeal.Read.val_main_v4_eq _ _)).trans ?_, (e'.trans (Cert.GrpReferenceIdeal.Read.val_main_v7_eq _ _ _)).trans ?_, rest⟩
  · rw [a0, a1]
    funext i
    obtain ⟨r, s, rfl⟩ : ∃ (r s : Fin 2048), i = ix2 r s := ⟨i 0, i 1, eq_ix2 i⟩
    exact (Cert.GrpReferenceIdeal.Mlp.value _ _ (m ((c.tc : Thread _ _).loc Cert.GrpIdeal.main_arg2)) r s).1.trans (Cert.GrpIdeal.Mlp.final3 m c r s).symm
  · rw [a0, a1, a2]
    funext i
    obtain ⟨r, s, rfl⟩ : ∃ (r s : Fin 2048), i = ix2 r s := ⟨i 0, i 1, eq_ix2 i⟩
    exact (Cert.GrpReferenceIdeal.Mlp.value _ _ _ r s).2.trans (Cert.GrpIdeal.Mlp.final4 m c r s).symm

end Cert.Mlp

end
-- ==== Proof.GateTiles.lean ====
module

public import proofs.«01_k».proof.Proof.Canon
public import proofs.«01_k».proof.Proof.Gen.MixaGateIdeal.Frame

/-! The chunked gate's forward body over any extended reals: its formula on one chunk of 128 tokens, and the vectors of its
    eight groups, each equal to the formula's part. Arrays are functions of natural numbers: row, then column. -/

@[expose] public section

set_option maxRecDepth 16384

noncomputable section

namespace Cert.MixaGateIdeal.Fwd

open Idealize.ShloMosaic Idealize.ShloMosaic.TcCoe Idealize.SL.Sem Cert.MixaGateIdeal Cert.MixaGateIdeal.Gen Cert.Gate
open Cert.KernelIdeal.Gate (rU rV rD rG rW rB eight mem_eight of_mem_eight rowAdd rowSum8 rowMean8 centred rstd vhat normed wMask masked causal)

/-! ## The formula -/

/-- The gelu of an extended real. -/
def geluE (x : EReal) : EReal := ((1 / 2 : ℝ) : EReal) * x * (((1 : ℝ) : EReal) + Ideal.erf (x * (((Real.sqrt 2)⁻¹ : ℝ) : EReal)))

section Chunk

variable (P : ℕ → ℕ → EReal) (γ β : ℕ → EReal) (W : ℕ → ℕ → ℕ → EReal) (B : ℕ → ℕ → EReal)

/-- The right half's gelu. -/
def vE (i c : ℕ) : EReal := geluE (P i (2048 + c))
/-- Its mean along a row. -/
def muE (i : ℕ) : EReal := (∑ c ∈ Finset.range 2048, vE P i c) * ((1 / 2048 : ℝ) : EReal)
/-- Its variance along a row, with epsilon. -/
def varE (i : ℕ) : EReal :=
  (∑ c ∈ Finset.range 2048, (vE P i c - muE P i) * (vE P i c - muE P i)) * ((1 / 2048 : ℝ) : EReal) + ((epsR : ℝ) : EReal)
/-- It normalised, with gain and bias. -/
def nE (i c : ℕ) : EReal := (vE P i c - muE P i) * Ideal.rsqrt (varE P i) * γ c + β c
/-- The spatial product of group `g`, at column `c`: the matrix is zero above its diagonal. -/
def sE (g i c : ℕ) : EReal := (∑ k ∈ Finset.range 128, (if k ≤ i then W g i k else 0) * nE P γ β k c) + B g i
/-- The gate. -/
def outE (i c : ℕ) : EReal := geluE (P i c) * sE P γ β W B (c / 256) i c

end Chunk

/-! ## The vectors -/

/-- A matrix of extended reals is the matrix `f`. -/
def Has {a b : ℕ} (X : (⟨2, ![a, b]⟩ : Shape).Idx → EReal) (f : ℕ → ℕ → EReal) : Prop := ∀ (i : Fin a) (d : Fin b), X (ix2 i d) = f i d
/-- A stack of matrices is the stack `f`. -/
def Has3 {a b c : ℕ} (X : (⟨3, ![a, b, c]⟩ : Shape).Idx → EReal) (f : ℕ → ℕ → ℕ → EReal) : Prop :=
  ∀ (g : Fin a) (i : Fin b) (d : Fin c), X (ix3 g i d) = f g i d

/-- The gelu of a tile, as the body writes it. -/
def tileGelu {F : FTy → Type} [FloatOps F] [Named F] (x : FVec F S128x256 .f32) : FVec F S128x256 .f32 :=
  mulf (mulf (broadcast S128x256 (Scalar.ofBits .f32 0x3F000000#32)) x)
    (addf (broadcast S128x256 (Scalar.ofBits .f32 0x3F800000#32))
      (erf (mulf x (broadcast S128x256 (Named.named κ "sqrt_half" 0x3F3504F3#32)))))

/-- The named one over the root of two. -/
theorem root_half : Named.named (F := Ideal) κ "sqrt_half" (φ := .f32) 0x3F3504F3#32 = (((Real.sqrt 2)⁻¹ : ℝ) : EReal) :=
  IdealRules.named_const.ideal_named_scalar _ _ _ _ rfl

/-- It is the gelu of each element. -/
theorem tileGelu_has {X : FVec Ideal S128x256 .f32} {f : ℕ → ℕ → EReal} (h : Has X f) : Has (tileGelu X) fun i d => geluE (f i d) := by
  intro i d
  show Ideal.ofBits .f32 0x3F000000#32 * (X (ix2 i d) : EReal)
    * (Ideal.ofBits .f32 0x3F800000#32 + Ideal.erf (X (ix2 i d) * Named.named (F := Ideal) κ "sqrt_half" (φ := .f32) 0x3F3504F3#32)) = _
  rw [root_half, half_f32, one_f32, h i d]
  rfl

/-- Rows of a tile added to a column. -/
theorem rowAdd_has {a : FVec Ideal S128x1 .f32} {X : FVec Ideal S128x256 .f32} {u : ℕ → EReal} {f : ℕ → ℕ → EReal} (ha : Has a fun i _ => u i) (h : Has X f) :
    Has (rowAdd a X) fun i _ => u i + ∑ d ∈ Finset.range 256, f i d := by
  intro i d
  pointwise [rowAdd]
  rw [ha i d, Finset.sum_range]
  exact congrArg (u i + ·) (Finset.sum_congr rfl fun k _ => h i k)

/-- Eight terms, one by one. -/
theorem sum_eight (F : ℕ → EReal) : (∑ g ∈ Finset.range 8, F g) = 0 + F 0 + F 1 + F 2 + F 3 + F 4 + F 5 + F 6 + F 7 := by
  simp only [Finset.sum_range_succ, Finset.sum_range_zero]

/-- The mean along a row of eight tiles is the mean of the row. -/
theorem rowMean8_has {T : (g : ℕ) → g < 8 → FVec Ideal S128x256 .f32} {f : ℕ → ℕ → EReal} (h : ∀ g hg, Has (T g hg) fun i d => f i (256 * g + d)) :
    Has (rowMean8 T) fun i _ => (∑ c ∈ Finset.range 2048, f i c) * ((1 / 2048 : ℝ) : EReal) := by
  have z : Has (broadcast S128x1 (Scalar.ofBits (F := Ideal) .f32 0x00000000#32)) fun _ _ => (0 : EReal) := by
    intro i d; pointwise
  have s := rowAdd_has (rowAdd_has (rowAdd_has (rowAdd_has (rowAdd_has (rowAdd_has (rowAdd_has (rowAdd_has z
    (h 0 (by decide))) (h 1 (by decide))) (h 2 (by decide))) (h 3 (by decide))) (h 4 (by decide))) (h 5 (by decide)))
    (h 6 (by decide))) (h 7 (by decide))
  intro i d
  have e := s i d
  show (rowSum8 (F := Ideal) T (ix2 i d) : EReal) * Ideal.ofBits .f32 0x3A000000#32 = (∑ c ∈ Finset.range 2048, f i c) * _
  rw [inv2048_f32, sum_groups, sum_eight, show rowSum8 T (ix2 i d) = _ from e]

/-- A tile less a column. -/
theorem centred_has {m : FVec Ideal S128x1 .f32} {X : FVec Ideal S128x256 .f32} {u : ℕ → EReal} {f : ℕ → ℕ → EReal} (hm : Has m fun i _ => u i) (h : Has X f) :
    Has (centred m X) fun i d => f i d - u i := by
  intro i d
  pointwise [centred]
  rw [h i d, hm i 0]

/-- The reciprocal deviation of eight tiles. -/
theorem rstd_has {m : FVec Ideal S128x1 .f32} {T : (g : ℕ) → g < 8 → FVec Ideal S128x256 .f32} {u : ℕ → EReal} {f : ℕ → ℕ → EReal}
    (hm : Has m fun i _ => u i) (h : ∀ g hg, Has (T g hg) fun i d => f i (256 * g + d)) :
    Has (rstd m T) fun i _ =>
      Ideal.rsqrt ((∑ c ∈ Finset.range 2048, (f i c - u i) * (f i c - u i)) * ((1 / 2048 : ℝ) : EReal) + ((epsR : ℝ) : EReal)) := by
  intro i d
  have e := rowMean8_has (T := fun g hg => mulf (centred m (T g hg)) (centred m (T g hg))) (f := fun i c => (f i c - u i) * (f i c - u i))
    (fun g hg a b => congrArg₂ (· * ·) (centred_has hm (h g hg) a b) (centred_has hm (h g hg) a b)) i d
  show Ideal.rsqrt ((rowMean8 (F := Ideal) _ (ix2 i d) : EReal) + Ideal.ofBits .f32 0x358637BD#32) = _
  rw [e, eps_f32]

/-- A tile normalised, with gain and bias. -/
theorem normed_has {m r : FVec Ideal S128x1 .f32} {X : FVec Ideal S128x256 .f32} {gn bs : FVec Ideal S1x256 .f32} {u w γ β : ℕ → EReal} {f : ℕ → ℕ → EReal}
    (hm : Has m fun i _ => u i) (hr : Has r fun i _ => w i) (h : Has X f) (hg : Has gn fun _ d => γ d) (hb : Has bs fun _ d => β d) :
    Has (normed (vhat m r X) gn bs) fun i d => (f i d - u i) * w i * γ d + β d := by
  intro i d
  pointwise [normed, vhat, centred]
  rw [h i d, hm i 0, hr i 0, hg 0 d, hb 0 d]

/-- A choice by the causal mask, of extended reals. -/
theorem choose_causal (i d : Fin 128) (x : EReal) :
    Scalar.select (IntOp.cmpi CmpIPredicate.sge (BitVec.ofNat 32 i.val) (BitVec.ofNat 32 d.val)) x 0 = if d.val ≤ i.val then x else 0 := by
  have hi : i.val < 2 ^ (32 - 1) := lt_trans i.isLt (by norm_num)
  have hd : d.val < 2 ^ (32 - 1) := lt_trans d.isLt (by norm_num)
  unfold Scalar.select
  by_cases h : d.val ≤ i.val
  · exact (if_pos ((WordCmp.cmpi_sge_ofNat_eq_one_iff hi hd).mpr h)).trans (if_pos h).symm
  · exact (if_neg fun e => h ((WordCmp.cmpi_sge_ofNat_eq_one_iff hi hd).mp e)).trans (if_neg h).symm

/-- A tile of the gate, as the body writes it. -/
def gateTile {F : FTy → Type} [FloatOps F] [Named F] (x : FVec F S128x256 .f32) (n : FVec F S128x256 .bf16) (w : FVec F S1x128x128 .f32) (b : FVec F S1x128x1 .f32) :
    FVec F S128x256 .bf16 :=
  truncf .bf16 (mulf (tileGelu x) (addf
      (matmul dot_S128x128_S128x256_S128x256_1_0_0_1_n_n none (wMask w) n (constant S128x256 .f32 0x00000000#32))
      (broadcastTo S128x256 (shapeCast S128x1 b shapeCasts_S1x128x1_S128x1) broadcasts_S128x1_S128x256))) bitsLt_bf16_f32

/-- It is the gelu times the masked spatial product with its bias. -/
theorem gateTile_has {X : FVec Ideal S128x256 .f32} {Z : FVec Ideal S128x256 .bf16} {w : FVec Ideal S1x128x128 .f32} {b : FVec Ideal S1x128x1 .f32}
    {f n W : ℕ → ℕ → EReal} {B : ℕ → EReal} (h : Has X f) (hn : Has Z n) (hw : Has3 w fun _ => W) (hb : Has3 b fun _ i _ => B i) :
    Has (gateTile X Z w b) fun i d => geluE (f i d) * ((∑ s ∈ Finset.range 128, (if s ≤ i then W i s else 0) * n s d) + B i) := by
  intro i d
  have e := tileGelu_has h i d
  pointwise [gateTile, wMask, masked, causal]
  simp only [hw _ _ _, hn _ _, hb _ _ _, e, choose_causal, Finset.sum_range, ite_mul, zero_mul]

end Cert.MixaGateIdeal.Fwd

end
-- ==== Proof.MixaGate.lean ====
module

public import proofs.«01_k».proof.Defs
public import proofs.«01_k».proof.Proof.GateTiles
public import proofs.«01_k».proof.Proof.Blocks
public import proofs.«01_k».proof.Proof.Product
public import proofs.«01_k».proof.Proof.Gen.MixaGate.Frame
public import proofs.«01_k».proof.Proof.Gen.MixaGateIdeal.Value
public import proofs.«01_k».proof.Proof.Gen.MixaGateReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The chunked gate's forward pass: sixteen chunks of 128 tokens, each written in eight groups of 256 columns. -/

@[expose] public section

set_option maxRecDepth 16384

noncomputable section

namespace Cert.MixaGateIdeal.Fwd

open Idealize.ShloMosaic Idealize.ShloMosaic.TcCoe Idealize.SL.Sem Cert.MixaGateIdeal Cert.MixaGateIdeal.Gen Cert.MixaGateIdeal.Value Cert.Gate
open Cert.KernelIdeal.Gate (rU rV rD rG rW rB eight mem_eight of_mem_eight rowMean8 rstd vhat normed)

/-! ## One point -/

section Words

variable {F : FTy → Type} [FloatOps F] [Named F]
variable (x0 : Vec F S128x4096 .f32) (x1 x2 : Vec F S1x2048 .f32) (x3 : Vec F S8x128x128 .f32) (x4 : Vec F S8x128x1 .f32)

/-- The right half's gelu, group by group. -/
def vT (g : ℕ) (h : g < 8) : FVec F S128x256 .f32 := tileGelu (View.ld x0 (rV h))
/-- What a tile of the scratch buffer reads back as. -/
def rdV (a : Memref sig .tc .vmem S128x2048 .f32) (g : ℕ) (h : g < 8) : FVec F S128x256 .f32 :=
  a.view.readCov (eight fun g h => (⟨rD h, shapeCast S128x256 (vT x0 g h) shapeCasts_S128x256_S128x256⟩ : View.Piece (Elt F) S128x2048 .f32)) (rD h).toLoadRect
/-- A tile normalised, with gain and bias. -/
def nT (a : Memref sig .tc .vmem S128x2048 .f32) (g : ℕ) (h : g < 8) : FVec F S128x256 .bf16 :=
  normed (vhat (rowMean8 (vT x0)) (rstd (rowMean8 (vT x0)) (rdV x0 a)) (rdV x0 a g h)) (View.ld x1 (rG h)) (View.ld x2 (rG h))
/-- A tile of the gate. -/
def oT (a : Memref sig .tc .vmem S128x2048 .f32) (g : ℕ) (h : g < 8) : FVec F S128x256 .bf16 :=
  gateTile (View.ld x0 (rU h)) (nT x0 x1 x2 a g h) (View.ld x3 (rW h)) (View.ld x4 (rB h))
/-- The stores of the gate. -/
def pieceO (a : Memref sig .tc .vmem S128x2048 .f32) (g : ℕ) (h : g < 8) : View.Piece (Elt F) S128x2048 .bf16 := ⟨rD h, oT x0 x1 x2 x3 x4 a g h⟩

variable (c : Dev nD) (i : grid0.Coords) (arg1 : Memref sig .tc .vmem S128x4096 .f32) (harg1 : arg1.IsWhole) (arg2 : Memref sig .tc .vmem S1x2048 .f32) (harg2 : arg2.IsWhole)
    (arg3 : Memref sig .tc .vmem S1x2048 .f32) (harg3 : arg3.IsWhole) (arg4 : Memref sig .tc .vmem S8x128x128 .f32) (harg4 : arg4.IsWhole)
    (arg5 : Memref sig .tc .vmem S8x128x1 .f32) (harg5 : arg5.IsWhole) (arg6 : Memref sig .tc .vmem S128x2048 .bf16) (harg6 : arg6.IsWhole)
    (arg7 : Memref sig .tc .vmem S128x2048 .f32) (harg7 : arg7.IsWhole)

/-- The body's eight written-out groups are the stores above. -/
theorem words : out0_A_5 c i arg1 harg1 arg2 harg2 arg3 harg3 arg4 harg4 arg5 harg5 arg6 harg6 arg7 harg7 x0 x1 x2 x3 x4 = View.canon (eight (pieceO x0 x1 x2 x3 x4 arg7)) := by
  have e : out0_A_5 c i arg1 harg1 arg2 harg2 arg3 harg3 arg4 harg4 arg5 harg5 arg6 harg6 arg7 harg7 x0 x1 x2 x3 x4
      = View.canon (eight (pieceO (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) arg7)) := View.read_writes_junk_eq_canon _ _
  rw [e]
  simp only [harg1.read_unread, harg2.read_unread, harg3.read_unread, harg4.read_unread, harg5.read_unread]

end Words

section Point

variable {x0 : Vec Ideal S128x4096 .f32} {x1 x2 : Vec Ideal S1x2048 .f32} {x3 : Vec Ideal S8x128x128 .f32} {x4 : Vec Ideal S8x128x1 .f32}
variable {P : ℕ → ℕ → EReal} {γ β : ℕ → EReal} {W : ℕ → ℕ → ℕ → EReal} {B : ℕ → ℕ → EReal}

/-- A group's tile of the right half's gelu. -/
theorem vT_has (h0 : Has x0 P) (g : ℕ) (h : g < 8) : Has (vT x0 g h) fun i d => vE P i (256 * g + d) := by
  refine tileGelu_has (f := fun i d => P i (2048 + (256 * g + d))) fun i d => ?_
  pointwise
  rw [← Nat.add_assoc]
  exact h0 i _

/-- The scratch buffer reads back as it. -/
theorem rdV_has (a : Memref sig .tc .vmem S128x2048 .f32) (h0 : Has x0 P) (g : ℕ) (h : g < 8) : Has (rdV x0 a g h) fun i d => vE P i (256 * g + d) := by
  intro i d
  unfold rdV
  rw [View.readCov_eq_canon']
  refine (View.canon_apply_of_pieces (fun y : S128x2048.Idx => vE P (y 0) (y 1)) _ (fun p hp x => ?_) ((rD h).emb (ix2 i d)) ⟨_, mem_eight _ g h, ?_⟩).trans ?_
  · obtain ⟨g, h, rfl⟩ := of_mem_eight hp
    obtain ⟨a, b, rfl⟩ : ∃ (a : Fin 128) (b : Fin 256), x = ix2 a b := ⟨x 0, x 1, eq_ix2 x⟩
    refine Eq.trans ?_ ((vT_has h0 g h a b).trans ?_)
    · pointwise
    · simp [Rect.emb, Rect.unit]
  · rw [Rect.mem_set_unit]
    intro a
    fin_cases a
    · simp [Rect.emb, Rect.unit]
    · simp [Rect.emb, Rect.unit]
  · simp [Rect.emb, Rect.unit]

/-- A group's tile normalised. -/
theorem nT_has (a : Memref sig .tc .vmem S128x2048 .f32) (h0 : Has x0 P) (h1 : Has x1 fun _ c => γ c) (h2 : Has x2 fun _ c => β c) (g : ℕ) (h : g < 8) :
    Has (nT x0 x1 x2 a g h) fun i d => nE P γ β i (256 * g + d) := by
  have m := rowMean8_has (f := vE P) (vT_has h0)
  refine normed_has (γ := fun d => γ (256 * g + d)) (β := fun d => β (256 * g + d)) m (rstd_has m (rdV_has a h0)) (rdV_has a h0 g h) (fun i d => ?_) (fun i d => ?_)
  · pointwise
    exact h1 _ _
  · pointwise
    exact h2 _ _

/-- A group's tile of the gate. -/
theorem oT_has (a : Memref sig .tc .vmem S128x2048 .f32) (h0 : Has x0 P) (h1 : Has x1 fun _ c => γ c) (h2 : Has x2 fun _ c => β c) (h3 : Has3 x3 W)
    (h4 : Has3 x4 fun g i _ => B g i) (g : ℕ) (h : g < 8) :
    Has (oT x0 x1 x2 x3 x4 a g h) fun i d => outE P γ β W B i (256 * g + d) := by
  intro i d
  refine (gateTile_has (f := fun i d => P i (256 * g + d)) (W := W g) (B := B g) (fun i d => ?_) (nT_has a h0 h1 h2 g h) (fun e i d => ?_) (fun e i d => ?_) i d).trans ?_
  · pointwise
    exact h0 i _
  · pointwise
    exact h3 ⟨g, h⟩ i d
  · pointwise
    exact h4 ⟨g, h⟩ i 0
  · have hd := d.isLt
    unfold outE
    dsimp only
    rw [show (256 * g + d.val) / 256 = g by omega]
    rfl

/-- What the body leaves in the output block. -/
theorem out_has (a : Memref sig .tc .vmem S128x2048 .f32) (h0 : Has x0 P) (h1 : Has x1 fun _ c => γ c) (h2 : Has x2 fun _ c => β c) (h3 : Has3 x3 W)
    (h4 : Has3 x4 fun g i _ => B g i) : Has (View.canon (eight (pieceO x0 x1 x2 x3 x4 a))) (outE P γ β W B) := by
  intro i c
  have hc : c.val / 256 < 8 := by omega
  refine View.canon_apply_of_pieces (show S128x2048.Idx → Elt Ideal .bf16 from fun y => outE P γ β W B (y 0) (y 1)) _ (fun p hp x => ?_) (ix2 i c) ⟨_, mem_eight _ (c.val / 256) hc, ?_⟩
  · obtain ⟨g, h, rfl⟩ := of_mem_eight hp
    obtain ⟨j, b, rfl⟩ : ∃ (j : Fin 128) (b : Fin 256), x = ix2 j b := ⟨x 0, x 1, eq_ix2 x⟩
    refine (oT_has a h0 h1 h2 h3 h4 g h j b).trans ?_
    show outE P γ β W B j (256 * g + b) = outE P γ β W B (0 + 1 * j) (256 * g + 1 * b)
    rw [Nat.zero_add, Nat.one_mul, Nat.one_mul]
  · unfold pieceO
    rw [Rect.mem_set_unit]
    intro a
    fin_cases a
    · simp
    · simp; omega

end Point

/-! ## The sixteen points -/

/-- A stack of stacks of matrices is the stack `f`. -/
def Has4 {a b c d : ℕ} (X : (⟨4, ![a, b, c, d]⟩ : Shape).Idx → EReal) (f : ℕ → ℕ → ℕ → ℕ → EReal) : Prop :=
  ∀ (e : Fin a) (g : Fin b) (i : Fin c) (k : Fin d), X (ix4 e g i k) = f e g i k

/-- The five arguments as functions of natural numbers. -/
structure Args (a0 : S2048x4096.Idx → EReal) (a1 a2 : S1x2048.Idx → EReal) (a3 : S1x8x128x128.Idx → EReal) (a4 : S1x8x128.Idx → EReal)
    (p : ℕ → ℕ → EReal) (γ β : ℕ → EReal) (W : ℕ → ℕ → ℕ → EReal) (B : ℕ → ℕ → EReal) : Prop where
  h0 : Has a0 p
  h1 : Has a1 fun _ c => γ c
  h2 : Has a2 fun _ c => β c
  h3 : Has4 a3 fun _ => W
  h4 : Has3 a4 fun _ => B

/-- Any arguments are such functions. -/
theorem args (a0 : S2048x4096.Idx → EReal) (a1 a2 : S1x2048.Idx → EReal) (a3 : S1x8x128x128.Idx → EReal) (a4 : S1x8x128.Idx → EReal) :
    ∃ p γ β W B, Args a0 a1 a2 a3 a4 p γ β W B := by
  refine ⟨fun r c => a0 (ix2 (Fin.ofNat 2048 r) (Fin.ofNat 4096 c)), fun c => a1 (ix2 0 (Fin.ofNat 2048 c)), fun c => a2 (ix2 0 (Fin.ofNat 2048 c)),
    fun g i k => a3 (ix4 0 (Fin.ofNat 8 g) (Fin.ofNat 128 i) (Fin.ofNat 128 k)), fun g i => a4 (ix3 0 (Fin.ofNat 8 g) (Fin.ofNat 128 i)), ?_, ?_, ?_, ?_, ?_⟩
  · intro r c; simp
  · intro r c; obtain rfl := Subsingleton.elim r 0; simp
  · intro r c; obtain rfl := Subsingleton.elim r 0; simp
  · intro e g i k; obtain rfl := Subsingleton.elim e 0; simp
  · intro e g i; obtain rfl := Subsingleton.elim e 0; simp

/-- Rows `128t …` of an array. -/
def chunk (p : ℕ → ℕ → EReal) (t i c : ℕ) : EReal := p (128 * t + i) c

variable (m : (ℓ : Loc nD τ sig) → Buf (Elt Ideal) ℓ)
variable {p : ℕ → ℕ → EReal} {γ β : ℕ → EReal} {W : ℕ → ℕ → ℕ → EReal} {B : ℕ → ℕ → EReal}

/-- The five arguments of one device, as functions. -/
abbrev ArgsAt (c : Dev nD) (p : ℕ → ℕ → EReal) (γ β : ℕ → EReal) (W : ℕ → ℕ → ℕ → EReal) (B : ℕ → ℕ → EReal) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) p γ β W B

/-- The moving windows' block indices. -/
theorem index (t : Fin cfg0.N) : (win0_0.index t 0 = t.val ∧ win0_0.index t 1 = 0) ∧ win0_5.index t 0 = t.val ∧ win0_5.index t 1 = 0 :=
  (by decide +kernel : ∀ t : Fin grid0.N, (win0_0.index t 0 = t.val ∧ win0_0.index t 1 = 0) ∧ win0_5.index t 0 = t.val ∧ win0_5.index t 1 = 0) t

/-- The tokens' block is a chunk. -/
theorem blk0 (c : Dev nD) (h : ArgsAt m c p γ β W B) (t : Fin cfg0.N) : Has (iblk m c 0 t : Vec Ideal S128x4096 .f32) (chunk p t) := by
  intro i k
  have hi := (index t).1
  have ht : 128 * t.val + i.val < 2048 := by have := t.isLt; have hN : cfg0.N = 16 := N_0; omega
  refine Eq.trans ?_ (h.h0 ⟨128 * t.val + i.val, ht⟩ k)
  unfold iblk
  rw [View.read_apply]
  show V m c main_arg0 _ = _
  rw [V_main_arg0]
  congr 1
  funext a
  apply Fin.ext
  match a with
  | ⟨0, _⟩ => show win0_0.index t 0 * 128 + 1 * i.val = 128 * t.val + i.val; rw [hi.1]; omega
  | ⟨1, _⟩ => show win0_0.index t 1 * 4096 + 1 * k.val = k.val; rw [hi.2]; omega

/-- The gain is one block. -/
theorem blk1 (c : Dev nD) (h : ArgsAt m c p γ β W B) (t : Fin cfg0.N) : Has (iblk m c 1 t : Vec Ideal S1x2048 .f32) fun _ k => γ k := by
  intro i k
  refine Eq.trans ?_ (h.h1 i k)
  unfold iblk
  rw [View.read_apply]
  show V m c main_arg1 _ = _
  rw [V_main_arg1]
  congr 1
  funext a
  apply Fin.ext
  match a with
  | ⟨0, _⟩ => show 0 * 1 + 1 * i.val = i.val; omega
  | ⟨1, _⟩ => show 0 * 2048 + 1 * k.val = k.val; omega

/-- The bias is one block. -/
theorem blk2 (c : Dev nD) (h : ArgsAt m c p γ β W B) (t : Fin cfg0.N) : Has (iblk m c 2 t : Vec Ideal S1x2048 .f32) fun _ k => β k := by
  intro i k
  refine Eq.trans ?_ (h.h2 i k)
  unfold iblk
  rw [View.read_apply]
  show V m c main_arg2 _ = _
  rw [V_main_arg2]
  congr 1
  funext a
  apply Fin.ext
  match a with
  | ⟨0, _⟩ => show 0 * 1 + 1 * i.val = i.val; omega
  | ⟨1, _⟩ => show 0 * 2048 + 1 * k.val = k.val; omega

/-- The spatial matrices as the region finds them. -/
theorem V_w (c : Dev nD) : V m c main_v0 = shapeCast S8x128x128 (m ((c : Thread nD τ).loc main_arg3)) shapeCasts_S1x8x128x128_S8x128x128 := by
  show StableHlo.after hostOps0 (fun b => m (c, b)) (Proc.devRef .tc main_v0) = _
  after_results
  rfl

/-- The spatial biases as the region finds them. -/
theorem V_b (c : Dev nD) : V m c main_v2 = broadcastInDim S8x128x1 ![0, 1] bcast_S8x128_S8x128x1_0_1
    (shapeCast S8x128 (m ((c : Thread nD τ).loc main_arg4)) shapeCasts_S1x8x128_S8x128) := by
  show StableHlo.after hostOps0 (fun b => m (c, b)) (Proc.devRef .tc main_v2) = _
  after_results
  rfl

/-- The spatial matrices are one block. -/
theorem blk3 (c : Dev nD) (h : ArgsAt m c p γ β W B) (t : Fin cfg0.N) : Has3 (iblk m c 3 t : Vec Ideal S8x128x128 .f32) W := by
  intro g i k
  have e : (iblk m c 3 t : Vec Ideal S8x128x128 .f32) (ix3 g i k) = V m c main_v0 (ix3 g i k) := by
    unfold iblk
    rw [View.read_apply]
    show V m c main_v0 _ = _
    congr 1
    funext a
    apply Fin.ext
    match a with
    | ⟨0, _⟩ => show 0 * 8 + 1 * g.val = g.val; omega
    | ⟨1, _⟩ => show 0 * 128 + 1 * i.val = i.val; omega
    | ⟨2, _⟩ => show 0 * 128 + 1 * k.val = k.val; omega
  rw [e, V_w]
  exact (Cert.KernelIdeal.Gate.dropped_w _ g i k).trans (h.h3 0 g i k)

/-- The spatial biases are one block. -/
theorem blk4 (c : Dev nD) (h : ArgsAt m c p γ β W B) (t : Fin cfg0.N) : Has3 (iblk m c 4 t : Vec Ideal S8x128x1 .f32) fun g i _ => B g i := by
  intro g i k
  have e : (iblk m c 4 t : Vec Ideal S8x128x1 .f32) (ix3 g i k) = V m c main_v2 (ix3 g i k) := by
    unfold iblk
    rw [View.read_apply]
    show V m c main_v2 _ = _
    congr 1
    funext a
    apply Fin.ext
    match a with
    | ⟨0, _⟩ => show 0 * 8 + 1 * g.val = g.val; omega
    | ⟨1, _⟩ => show 0 * 128 + 1 * i.val = i.val; omega
    | ⟨2, _⟩ => show 0 * 1 + 1 * k.val = k.val; omega
  rw [e, V_b]
  exact (Cert.KernelIdeal.Gate.dropped_b _ g i k).trans (h.h4 0 g i)

/-- The result array: the gate, chunk by chunk. -/
theorem final (c : Dev nD) (h : ArgsAt m c p γ β W B) (r s : Fin 2048) :
    ((dats m 0 c).arrAt 5 cfg0.N : S2048x2048.Idx → EReal) (ix2 r s) = outE (chunk p (r / 128)) γ β W B (r % 128) s := by
  have hr := r.isLt
  have hN : cfg0.N = 16 := N_0
  let t : Fin cfg0.N := ⟨r.val / 128, by omega⟩
  have key := congrFun (blocks5 m c t (flush0_5 t)) (ix2 (⟨r.val % 128, by omega⟩ : Fin 128) s)
  rw [View.read_apply, flushed5_A, words] at key
  have hi := (index t).2
  refine Eq.trans ?_ (key.trans (out_has _ (blk0 m c h t) (blk1 m c h t) (blk2 m c h t) (blk3 m c h t) (blk4 m c h t) ⟨r.val % 128, by omega⟩ s))
  congr 1
  funext a
  apply Fin.ext
  match a with
  | ⟨0, _⟩ => show r.val = win0_5.index t 0 * 128 + 1 * (r.val % 128); rw [hi.1]; show r.val = r.val / 128 * 128 + 1 * (r.val % 128); omega
  | ⟨1, _⟩ => show s.val = win0_5.index t 1 * 2048 + 1 * s.val; rw [hi.2]; omega

end Cert.MixaGateIdeal.Fwd

namespace Cert.MixaGateReferenceIdeal.Fwd

open Idealize.ShloMosaic Idealize.ShloMosaic.TcCoe Idealize.SL.Sem Cert.MixaGateReferenceIdeal Cert.MixaGateReferenceIdeal.Read Cert.Gate
open Cert.MixaGateIdeal.Fwd

/-! ## The reference, line by line -/

variable {x0 : S2048x4096.Idx → EReal} {x1 x2 : S1x2048.Idx → EReal} {x3 : S1x8x128x128.Idx → EReal} {x4 : S1x8x128.Idx → EReal}
variable {p : ℕ → ℕ → EReal} {γ β : ℕ → EReal} {W : ℕ → ℕ → ℕ → EReal} {B : ℕ → ℕ → EReal}

/-- The root of two, as the host takes it. -/
theorem root_two (i : S_.Idx) : val_main_v2 (F := Ideal) i = ((Real.sqrt 2 : ℝ) : EReal) := by
  show Ideal.sqrt (Ideal.ofBits .f32 0x40000000#32) = _
  rw [two_f32, Ideal.sqrt_coe]
  norm_num

/-- The gelu: over the root of two is times its reciprocal. -/
theorem v8_has (h0 : Has x0 p) : Has (val_main_v8 (F := Ideal) x0) fun r c => geluE (p r c) := by
  intro r c
  rw [val_main_v8_apply, val_main_v7_apply, val_main_v6_apply, val_main_cst_1_apply, val_main_v5_apply, val_main_v4_apply, val_main_v3_apply,
    val_main_v1_apply, val_main_v0_apply, val_main_cst_apply]
  show Ideal.ofBits .f32 0x3F000000#32 * (x0 (ix2 r c) : EReal)
    * (Ideal.ofBits .f32 0x3F800000#32 + Ideal.erf (Ideal.div (x0 (ix2 r c)) (val_main_v2 (F := Ideal) _))) = _
  rw [root_two, Ideal.div_coe (by positivity), half_f32, one_f32, h0 r c, one_div (Real.sqrt 2)]
  rfl

/-- The left half. -/
theorem v9_has (h0 : Has x0 p) : Has (val_main_v9 (F := Ideal) x0) fun r c => geluE (p r c) := by
  intro r c
  rw [val_main_v9_apply]
  refine Eq.trans (congrArg _ ?_) (v8_has h0 r ⟨c.val, by omega⟩)
  funext a
  match a with
  | ⟨0, _⟩ => rfl
  | ⟨1, _⟩ => rfl

/-- The right half. -/
theorem v10_has (h0 : Has x0 p) : Has (val_main_v10 (F := Ideal) x0) fun r c => vE p r c := by
  intro r c
  rw [val_main_v10_apply]
  refine Eq.trans (congrArg _ ?_) (v8_has h0 r ⟨2048 + c.val, by omega⟩)
  funext a
  match a with
  | ⟨0, _⟩ => rfl
  | ⟨1, _⟩ => rfl

/-- Its mean: over 2048 is times its reciprocal. -/
theorem v16_has (h0 : Has x0 p) : Has (val_main_v16 (F := Ideal) x0) fun r _ => muE p r := by
  intro r z
  have e := v10_has h0
  pointwise [val_main_v16, val_main_v15, val_main_v14, val_main_v13, val_main_cst_2, val_main_cst_3]
  simp only [e _ _, n2048_f32, Ideal.div_coe (show (2048 : ℝ) ≠ 0 by norm_num), muE, Finset.sum_range]

/-- It less its mean. -/
theorem v18_has (h0 : Has x0 p) : Has (val_main_v18 (F := Ideal) x0) fun r c => vE p r c - muE p r := by
  intro r c
  have e := v10_has h0 r c
  have e' := v16_has h0 r 0
  pointwise [val_main_v18, val_main_v17]
  rw [e, e']

/-- The reciprocal deviation. -/
theorem v26_has (h0 : Has x0 p) : Has (val_main_v26 (F := Ideal) x0) fun r _ => Ideal.rsqrt (varE p r) := by
  intro r z
  have e := v18_has h0
  rw [val_main_v26_apply]
  show Ideal.rsqrt (val_main_v25 (F := Ideal) x0 (ix2 r z)) = _
  refine congrArg Ideal.rsqrt ?_
  pointwise [val_main_v25, val_main_v24, val_main_v23, val_main_v22, val_main_v21, val_main_v20, val_main_v19, val_main_cst_4, val_main_cst_5, val_main_cst_6]
  simp only [e _ _, n2048_f32, eps_f32, Ideal.div_coe (show (2048 : ℝ) ≠ 0 by norm_num), varE, Finset.sum_range]

/-- It normalised, with gain and bias. -/
theorem v34_has (h0 : Has x0 p) (h1 : Has x1 fun _ c => γ c) (h2 : Has x2 fun _ c => β c) :
    Has (val_main_v34 (F := Ideal) x0 x1 x2) fun r c => nE p γ β r c := by
  intro r c
  have e := v18_has h0 r c
  have e' := v26_has h0 r 0
  pointwise [val_main_v34, val_main_v33, val_main_v32, val_main_v31, val_main_v30, val_main_v29, val_main_v28, val_main_v27, val_main_v12, val_main_v11]
  rw [e, e', h1 0 c, h2 0 c]
  rfl

/-- In chunks and groups. -/
theorem v35_has (h0 : Has x0 p) (h1 : Has x1 fun _ c => γ c) (h2 : Has x2 fun _ c => β c) :
    Has4 (val_main_v35 (F := Ideal) x0 x1 x2) fun t i g k => nE p γ β (128 * t + i) (256 * g + k) := by
  intro t i g k
  rw [val_main_v35_apply]
  refine Eq.trans (congrArg _ ?_) (v34_has h0 h1 h2 ⟨128 * t.val + i.val, by omega⟩ ⟨256 * g.val + k.val, by omega⟩)
  funext a
  apply Fin.ext
  match a with
  | ⟨0, _⟩ => show (((t.val * 128 + i.val) * 8 + g.val) * 256 + k.val) / 2048 = 128 * t.val + i.val; omega
  | ⟨1, _⟩ => show (((t.val * 128 + i.val) * 8 + g.val) * 256 + k.val) % 2048 = 256 * g.val + k.val; omega

/-- The lower triangle of ones. -/
theorem v37_has : Has (val_main_v37 (F := Ideal)) fun i k => if k ≤ i then 1 else 0 := by
  intro i k
  pointwise [val_main_v37, val_main_v36, val_main_call0_v0, val_main_call0_v1, val_main_call0_v2, val_main_call0_v3, val_main_call0_v4, val_main_call0_v5,
    val_main_call0_c, val_main_call0_cst, val_main_cst_7]
  rw [show IntOp.addi (BitVec.ofNat 32 i.val) 0#32 = BitVec.ofNat 32 i.val from BitVec.add_zero _]
  exact choose_causal i k 1

/-- The masked spatial matrices. -/
theorem v41_has (h3 : Has4 x3 fun _ => W) : Has3 (val_main_v41 (F := Ideal) x3) fun g t k => if k ≤ t then W g t k else 0 := by
  intro g t k
  have e := v37_has t k
  pointwise [val_main_v41, val_main_v40, val_main_v39, val_main_v38]
  rw [h3 0 g t k, e, mul_ite, mul_one, mul_zero]

/-- The spatial product with its bias, in chunks and groups. -/
theorem v48_has (h : Args x0 x1 x2 x3 x4 p γ β W B) :
    Has4 (val_main_v48 (F := Ideal) x0 x1 x2 x3 x4) fun t i g k => sE (chunk p t) γ β W B g i (256 * g + k) := by
  intro t i g k
  have e := v35_has h.h0 h.h1 h.h2
  have e' := v41_has h.h3
  pointwise [val_main_v48, val_main_v47, val_main_v46, val_main_v45, val_main_v44, val_main_v43, val_main_v42]
  simp only [e _ _ _ _, e' _ _ _, h.h4 _ _ _, sE, Finset.sum_range, mul_comm (nE _ _ _ _ _)]
  rfl

/-- Its rows. -/
theorem v49_has (h : Args x0 x1 x2 x3 x4 p γ β W B) :
    Has (val_main_v49 (F := Ideal) x0 x1 x2 x3 x4) fun r c => sE (chunk p (r / 128)) γ β W B (c / 256) (r % 128) c := by
  intro r c
  have hr := r.isLt
  have hc := c.isLt
  rw [val_main_v49_apply]
  refine Eq.trans (congrArg _ ?_) ((v48_has h ⟨r.val / 128, by omega⟩ ⟨r.val % 128, by omega⟩ ⟨c.val / 256, by omega⟩ ⟨c.val % 256, by omega⟩).trans ?_)
  · funext a
    apply Fin.ext
    match a with
    | ⟨0, _⟩ => show (r.val * 2048 + c.val) / 262144 = r.val / 128; omega
    | ⟨1, _⟩ => show (r.val * 2048 + c.val) / 2048 % 128 = r.val % 128; omega
    | ⟨2, _⟩ => show (r.val * 2048 + c.val) / 256 % 8 = c.val / 256; omega
    | ⟨3, _⟩ => show (r.val * 2048 + c.val) % 256 = c.val % 256; omega
  · dsimp only
    rw [Nat.div_add_mod]

/-- The gate. -/
theorem value (h : Args x0 x1 x2 x3 x4 p γ β W B) (r s : Fin 2048) :
    (val_main_v51 (F := Ideal) x0 x1 x2 x3 x4 (ix2 r s) : EReal) = outE (chunk p (r / 128)) γ β W B (r % 128) s := by
  rw [val_main_v51_apply, val_main_v50_apply]
  show (val_main_v9 (F := Ideal) x0 (ix2 r s) : EReal) * val_main_v49 (F := Ideal) x0 x1 x2 x3 x4 (ix2 r s) = _
  rw [v9_has h.h0 r s, v49_has h r s, outE, chunk, Nat.div_add_mod]

end Cert.MixaGateReferenceIdeal.Fwd

namespace Cert.Mlp

open Idealize.ShloMosaic Idealize.ShloMosaic.TcCoe Idealize.SL.Sem Cert.Gate

/-- The gate's program runs and keeps its arguments. -/
theorem frame_MixaGate : Cert.quiescent_MixaGate (hMixaGate := Cert.MixaGate.Gen.facts) := fun m ρ _ =>
  Cert.MixaGate.Gen.frame m ρ

/-- Its idealization runs and keeps its arguments. -/
theorem frame_MixaGateIdeal : Cert.quiescent_MixaGateIdeal (hMixaGateIdeal := Cert.MixaGateIdeal.Gen.facts) := fun m ρ _ =>
  Cert.MixaGateIdeal.Gen.frame m ρ

/-- Its reference runs and keeps its arguments. -/
theorem frame_MixaGateReferenceIdeal : Cert.quiescent_MixaGateReferenceIdeal (hMixaGateReferenceIdeal := Cert.MixaGateReferenceIdeal.Gen.facts) := fun m ρ _ =>
  (θ_run Cert.MixaGateReferenceIdeal.defs _ _).mono (fun r h => ⟨fun c => (h c).2, sem_eq_zero_of_no_sems (by decide) r.2⟩)
    (Cert.MixaGateReferenceIdeal.Value.run (F := Ideal) m ρ)

/-- The kernel's result and the reference's are equal, for any arguments. -/
theorem same_MixaGate : Cert.algebraic_MixaGateIdeal_MixaGateReferenceIdeal (hMixaGateIdeal := Cert.MixaGateIdeal.Gen.facts)
    (hMixaGateReferenceIdeal := Cert.MixaGateReferenceIdeal.Gen.facts) := by
  intro m ρ m' ρ' _ hag
  refine ⟨fun c => (Cert.MixaGateIdeal.Gen.dats m 0 c).arrAt 5 Cert.MixaGateIdeal.cfg0.N, Cert.MixaGateIdeal.Value.run_blocks m ρ, ?_⟩
  refine (θ_run _ _ _).mono (fun r h c => ?_) (Cert.MixaGateReferenceIdeal.Value.run m' ρ')
  obtain ⟨e, rest⟩ := h c
  refine ⟨(e.trans (Cert.MixaGateReferenceIdeal.Read.val_main_v51_eq _ _)).trans ?_, rest⟩
  obtain ⟨a0, a1, a2, a3, a4⟩ := hag c
  rw [a0, a1, a2, a3, a4]
  obtain ⟨p, γ, β, W, B, ha⟩ := Cert.MixaGateIdeal.Fwd.args (m ((c.tc : Thread Cert.MixaGateIdeal.nD Cert.MixaGateIdeal.τ).loc Cert.MixaGateIdeal.main_arg0))
    (m ((c.tc : Thread Cert.MixaGateIdeal.nD Cert.MixaGateIdeal.τ).loc Cert.MixaGateIdeal.main_arg1))
    (m ((c.tc : Thread Cert.MixaGateIdeal.nD Cert.MixaGateIdeal.τ).loc Cert.MixaGateIdeal.main_arg2))
    (m ((c.tc : Thread Cert.MixaGateIdeal.nD Cert.MixaGateIdeal.τ).loc Cert.MixaGateIdeal.main_arg3))
    (m ((c.tc : Thread Cert.MixaGateIdeal.nD Cert.MixaGateIdeal.τ).loc Cert.MixaGateIdeal.main_arg4))
  funext i
  obtain ⟨r, s, rfl⟩ : ∃ (r s : Fin 2048), i = ix2 r s := ⟨i 0, i 1, eq_ix2 i⟩
  exact (Cert.MixaGateReferenceIdeal.Fwd.value ha r s).trans (Cert.MixaGateIdeal.Fwd.final m c ha r s).symm

end Cert.Mlp

end
-- ==== Proof.Window.lean ====
module

public import proofs.«01_k».proof.Proof.GateTiles
public import proofs.«01_k».proof.Proof.Finite
public import proofs.«01_k».proof.Proof.Gen.PoolIdeal.Value
public import proofs.«01_k».proof.Pre_finite_rows
public import Idealize.ShloMosaic.Lib.Tactic
public import Idealize.ShloMosaic.Lib.Pointwise
public import Idealize.ShloMosaic.Lib.KernelVsHost
public import Idealize.ShloMosaic.Lib.WordArith
public import Idealize.ShloMosaic.Lib.WordCmp

/-! Sums over a window of rows: the doubling a kernel does with rotations, and the difference of two cumulative sums. -/

@[expose] public section

set_option maxRecDepth 16384

noncomputable section

namespace Cert.Window

open Idealize.ShloMosaic Idealize.ShloMosaic.TcCoe Idealize.SL.Sem Cert.PoolIdeal Cert.PoolIdeal.Gen Cert.Gate
open Cert.MixaGateIdeal.Fwd (Has Has3)

/-! ## The sums -/

section Sums

variable {M : Type} [AddCommMonoid M]

/-- The sum of the `n` rows ending at row `i`. -/
def back (n : ℕ) (f : ℕ → M) (i : ℕ) : M := ∑ j ∈ Finset.range n, if j ≤ i then f (i - j) else 0
/-- The sum of the `n` rows beginning at row `i`. -/
def ahead (n : ℕ) (f : ℕ → M) (i : ℕ) : M := ∑ j ∈ Finset.range n, if i + j < 2048 then f (i + j) else 0

/-- A window in two parts. -/
theorem back_add (n k : ℕ) (f : ℕ → M) (i : ℕ) : back (n + k) f i = back n f i + if n ≤ i then back k f (i - n) else 0 := by
  unfold back
  rw [Finset.sum_range_add]
  congr 1
  by_cases h : n ≤ i
  · rw [if_pos h]
    refine Finset.sum_congr rfl fun j _ => ?_
    by_cases h2 : n + j ≤ i
    · rw [if_pos h2, if_pos (by omega : j ≤ i - n), Nat.sub_sub]
    · rw [if_neg h2, if_neg (by omega)]
  · rw [if_neg h]
    exact Finset.sum_eq_zero fun j _ => if_neg (by omega)

/-- The same, of rows to come. -/
theorem ahead_add (n k : ℕ) (f : ℕ → M) (i : ℕ) : ahead (n + k) f i = ahead n f i + if i + n < 2048 then ahead k f (i + n) else 0 := by
  unfold ahead
  rw [Finset.sum_range_add]
  congr 1
  by_cases h : i + n < 2048
  · rw [if_pos h]
    exact Finset.sum_congr rfl fun j _ => by rw [← Nat.add_assoc]
  · rw [if_neg h]
    exact Finset.sum_eq_zero fun j _ => if_neg (by omega)

/-- A window longer than the rows before is all of them. -/
theorem back_all {n i : ℕ} (h : i < n) (f : ℕ → M) : back n f i = back (i + 1) f i := by
  obtain ⟨k, rfl⟩ : ∃ k, n = i + 1 + k := ⟨n - (i + 1), by omega⟩
  rw [back_add, if_neg (by omega), add_zero]

/-- A window longer than the rows to come is all of them. -/
theorem ahead_all {n i : ℕ} (hi : i ≤ 2048) (h : 2048 ≤ i + n) (f : ℕ → M) : ahead n f i = ahead (2048 - i) f i := by
  obtain ⟨k, rfl⟩ : ∃ k, n = 2048 - i + k := ⟨n - (2048 - i), by omega⟩
  rw [ahead_add, if_neg (by omega), add_zero]

/-- One row. -/
theorem back_one (f : ℕ → M) (i : ℕ) : back 1 f i = f i := by simp [back]
/-- One row. -/
theorem ahead_one (f : ℕ → M) {i : ℕ} (h : i < 2048) : ahead 1 f i = f i := by simp [ahead, h]

end Sums

/-- A window of real numbers. -/
theorem back_coe (n : ℕ) (q : ℕ → ℝ) (i : ℕ) : back n (fun r => ((q r : ℝ) : EReal)) i = ((back n q i : ℝ) : EReal) := by
  unfold back
  rw [← coe_sumR]
  exact Finset.sum_congr rfl fun j _ => by split_ifs <;> rfl

/-- A window of real numbers. -/
theorem ahead_coe (n : ℕ) (q : ℕ → ℝ) (i : ℕ) : ahead n (fun r => ((q r : ℝ) : EReal)) i = ((ahead n q i : ℝ) : EReal) := by
  unfold ahead
  rw [← coe_sumR]
  exact Finset.sum_congr rfl fun j _ => by split_ifs <;> rfl

/-- The difference of two cumulative sums of real numbers is the window. -/
theorem back_diff {w i : ℕ} (hw : w ≤ 2048) (hi : i < 2048) (q : ℕ → ℝ) :
    back 2048 (fun r => ((q r : ℝ) : EReal)) i - (if w ≤ i then back 2048 (fun r => ((q r : ℝ) : EReal)) (i - w) else 0)
      = back w (fun r => ((q r : ℝ) : EReal)) i := by
  have e : back 2048 (fun r => ((q r : ℝ) : EReal)) i
      = back w (fun r => ((q r : ℝ) : EReal)) i + if w ≤ i then back 2048 (fun r => ((q r : ℝ) : EReal)) (i - w) else 0 := by
    conv_lhs => rw [show 2048 = w + (2048 - w) by omega]
    rw [back_add]
    by_cases h : w ≤ i
    · rw [if_pos h, if_pos h, back_all (n := 2048 - w) (by omega), back_all (n := 2048) (by omega)]
    · rw [if_neg h, if_neg h]
  rw [e]
  by_cases h : w ≤ i
  · rw [if_pos h, back_coe 2048]
    exact EReal.add_sub_cancel_right
  · rw [if_neg h, add_zero, sub_zero]

/-- The cumulative sum from the end of each row less the row `w` on is the window. -/
theorem ahead_diff {w i : ℕ} (hi : i < 2048) (q : ℕ → ℝ) :
    ahead 2048 (fun r => q r + if r + w < 2048 then -q (r + w) else 0) i = ahead w q i := by
  have a : ahead 2048 (fun r => q r + if r + w < 2048 then -q (r + w) else 0) i
      = ahead 2048 q i - if i + w < 2048 then ahead 2048 q (i + w) else 0 := by
    have b : (if i + w < 2048 then ahead 2048 q (i + w) else 0) = ∑ j ∈ Finset.range 2048, if i + j + w < 2048 then q (i + j + w) else 0 := by
      by_cases h : i + w < 2048
      · rw [if_pos h]
        exact Finset.sum_congr rfl fun j _ => by rw [show i + w + j = i + j + w by omega]
      · rw [if_neg h]
        exact (Finset.sum_eq_zero fun j _ => if_neg (by omega)).symm
    rw [b]
    unfold ahead
    rw [← Finset.sum_sub_distrib]
    refine Finset.sum_congr rfl fun j _ => ?_
    by_cases h : i + j < 2048
    · rw [if_pos h, if_pos h]
      beta_reduce
      by_cases h2 : i + j + w < 2048
      · rw [if_pos h2, if_pos h2, sub_eq_add_neg]
      · rw [if_neg h2, if_neg h2, add_zero, sub_zero]
    · rw [if_neg h, if_neg h, if_neg (by omega), sub_zero]
  have e : ahead 2048 q i = ahead w q i + if i + w < 2048 then ahead 2048 q (i + w) else 0 := by
    by_cases h : i + w < 2048
    · rw [show ahead 2048 q i = ahead (w + (2048 - w)) q i by rw [show w + (2048 - w) = 2048 by omega], ahead_add, if_pos h, if_pos h,
        ahead_all (n := 2048 - w) (by omega) (by omega), ahead_all (n := 2048) (by omega) (by omega)]
    · rw [if_neg h, add_zero, ahead_all (n := 2048) (by omega) (by omega), ahead_all (n := w) (by omega) (by omega)]
  rw [a, e, add_sub_cancel_right]

/-! ## The counts -/

/-- The number of rows in the window ending at row `i`. -/
def rows (w i : ℕ) : ℝ := ((min (i + 1) w : ℕ) : ℝ)

theorem rows_ne {w : ℕ} (hw : 0 < w) (i : ℕ) : rows w i ≠ 0 := by
  unfold rows
  exact Nat.cast_ne_zero.mpr (by omega)

/-- The count, as a word. -/
theorem count_word {w i : ℕ} (hw : w < 2048) (hi : i < 2048) :
    (((IntOp.minsi (IntOp.addi (BitVec.ofNat 32 i) 1#32) (BitVec.ofNat 32 w)).toInt : ℝ) : EReal) = ((rows w i : ℝ) : EReal) := by
  have hx : (IntOp.addi (BitVec.ofNat 32 i) 1#32).toNat = i + 1 := by
    show (BitVec.ofNat 32 i + 1#32).toNat = i + 1
    rw [BitVec.toNat_add, BitVec.toNat_ofNat, BitVec.toNat_ofNat]
    omega
  have hc : (BitVec.ofNat 32 w).toNat = w := by
    rw [BitVec.toNat_ofNat]
    omega
  have hm := WordArith.toNat_minsi_of_lt (IntOp.addi (BitVec.ofNat 32 i) 1#32) (BitVec.ofNat 32 w) (by rw [hx]; omega) (by rw [hc]; omega)
  rw [hx, hc] at hm
  rw [BitVec.toInt_eq_toNat_of_lt (by rw [hm]; omega), hm]
  simp [rows]

/-! ## The kernel's strips -/

section Strips

variable {F : FTy → Type} [FloatOps F] [Named F]

/-- A strip and it moved down `k` rows, zeros above. -/
def down (k : BitVec 32) (x : FVec F S2048x128 .f32) : FVec F S2048x128 .f32 :=
  addf x (select (cmpi .sge (iota .tc S2048x128 32 [0] iota_S2048x128_d0_w32) (broadcast S2048x128 k)) (dynamicRotate 0 k none x rotates_S2048x128_d0)
    (broadcast S2048x128 (Scalar.ofBits .f32 0x00000000#32)))
/-- A strip and it moved up, zeros below, `k` being 2048 less the distance. -/
def up (k : BitVec 32) (x : FVec F S2048x128 .f32) : FVec F S2048x128 .f32 :=
  addf x (select (cmpi .slt (iota .tc S2048x128 32 [0] iota_S2048x128_d0_w32) (broadcast S2048x128 k)) (dynamicRotate 0 k none x rotates_S2048x128_d0)
    (broadcast S2048x128 (Scalar.ofBits .f32 0x00000000#32)))
/-- One over the count. -/
def inv (w : BitVec 32) : FVec F S2048x128 .f32 :=
  divf (broadcast S2048x128 (Scalar.ofBits .f32 0x3F800000#32))
    (sitofp .f32 (minsi (addi (iota .tc S2048x128 32 [0] iota_S2048x128_d0_w32) (broadcast S2048x128 1#32)) (broadcast S2048x128 w)))

theorem inb {g : ℕ} (h : g < 4) : ∀ a, (![0, 128 * g] : Fin S2048x512.rank → ℕ) a + S2048x128.size a ≤ S2048x512.size a := by
  intro a
  fin_cases a
  · simp
  · simp; omega
/-- The columns of strip `g`. -/
abbrev rT {g : ℕ} (h : g < 4) : Rect S2048x512 := Rect.unit ![0, 128 * g] S2048x128.size (inb h)
/-- The pooling's strip, from the sum `D` and the window `w`. -/
def poolT (D : FVec F S2048x128 .f32 → FVec F S2048x128 .f32) (w : BitVec 32) (x : FVec F S2048x128 .f32) : FVec F S2048x128 .bf16 :=
  truncf .bf16 (subf (mulf (D x) (inv w)) x) bitsLt_bf16_f32
/-- Its derivative's. -/
def poolDxT (D : FVec F S2048x128 .f32 → FVec F S2048x128 .f32) (w : BitVec 32) (x : FVec F S2048x128 .f32) : FVec F S2048x128 .bf16 :=
  truncf .bf16 (subf (D (mulf x (inv w))) x) bitsLt_bf16_f32
/-- Four in the order a run leaves them. -/
abbrev four {α : Type} (p : (g : ℕ) → g < 4 → α) : List α := [p 3 (by decide), p 2 (by decide), p 1 (by decide), p 0 (by decide)]

/-- The stores of a block, strip by strip. -/
def strips (T : FVec F S2048x128 .f32 → FVec F S2048x128 .bf16) (x : Vec F S2048x512 .f32) : List (View.Piece (Elt F) S2048x512 .bf16) :=
  four fun _ h => ⟨rT h, T (View.ld x (rT h))⟩

theorem of_mem_four {α : Type} {q : (g : ℕ) → g < 4 → α} {p : α} (h : p ∈ four q) : ∃ g h, p = q g h := by
  simp only [four, List.mem_cons, List.not_mem_nil, or_false] at h
  rcases h with h | h | h | h <;> exact ⟨_, _, h⟩

theorem mem_four {α : Type} (q : (g : ℕ) → g < 4 → α) (g : ℕ) (h : g < 4) : q g h ∈ four q := by
  interval_cases g <;> simp [four]

end Strips

/-- A vector choice by a comparison of two row numbers. -/
theorem choose_sge {i k : ℕ} (hi : i < 2048) (hk : k < 2048) (x : EReal) :
    Scalar.select (IntOp.cmpi CmpIPredicate.sge (BitVec.ofNat 32 i) (BitVec.ofNat 32 k)) x 0 = if k ≤ i then x else 0 := by
  have hi' : i < 2 ^ (32 - 1) := lt_trans hi (by norm_num)
  have hk' : k < 2 ^ (32 - 1) := lt_trans hk (by norm_num)
  unfold Scalar.select
  by_cases h : k ≤ i
  · exact (if_pos ((WordCmp.cmpi_sge_ofNat_eq_one_iff hi' hk').mpr h)).trans (if_pos h).symm
  · exact (if_neg fun e => h ((WordCmp.cmpi_sge_ofNat_eq_one_iff hi' hk').mp e)).trans (if_neg h).symm

theorem choose_slt {i k : ℕ} (hi : i < 2048) (hk : k < 2048) (x : EReal) :
    Scalar.select (IntOp.cmpi CmpIPredicate.slt (BitVec.ofNat 32 i) (BitVec.ofNat 32 k)) x 0 = if i < k then x else 0 := by
  have hi' : i < 2 ^ (32 - 1) := lt_trans hi (by norm_num)
  have hk' : k < 2 ^ (32 - 1) := lt_trans hk (by norm_num)
  unfold Scalar.select
  by_cases h : i < k
  · exact (if_pos ((WordCmp.cmpi_slt_ofNat_eq_one_iff hi' hk').mpr h)).trans (if_pos h).symm
  · exact (if_neg fun e => h ((WordCmp.cmpi_slt_ofNat_eq_one_iff hi' hk').mp e)).trans (if_neg h).symm

theorem zero_f32 : Ideal.ofBits .f32 0x00000000#32 = 0 := by simp [Ideal.ofBits, Ideal.ieee]

/-- The strip moved down, row by row. -/
theorem down_has {X : FVec Ideal S2048x128 .f32} {f : ℕ → ℕ → EReal} {k : ℕ} (hk : k < 2048) (h : Has X f) :
    Has (down (BitVec.ofNat 32 k) X) fun i d => f i d + if k ≤ i then f (i - k) d else 0 := by
  intro i d
  have hi := i.isLt
  show (X (ix2 i d) : EReal) + Scalar.select (IntOp.cmpi .sge (BitVec.ofNat 32 (0 * 2048 + i.val)) (BitVec.ofNat 32 k))
    (dynamicRotate 0 (BitVec.ofNat 32 k) none X rotates_S2048x128_d0 (ix2 i d)) (Ideal.ofBits .f32 0x00000000#32) = _
  rw [Nat.zero_mul, Nat.zero_add, zero_f32, choose_sge hi hk, h i d]
  beta_reduce
  by_cases hki : k ≤ i.val
  · rw [if_pos hki, if_pos hki]
    congr 1
    refine Eq.trans (dynamicRotate_apply 0 _ X _ (ix2 i d) (ix2 ⟨i.val - k, by omega⟩ d) fun b => ?_) (h _ d)
    match b with
    | ⟨0, _⟩ =>
      show i.val - k = (i.val + 2048 - (BitVec.ofNat 32 k).toNat % 2048) % 2048
      rw [BitVec.toNat_ofNat]
      omega
    | ⟨1, _⟩ => rfl
  · rw [if_neg hki, if_neg hki]

/-- The strip moved up, row by row. -/
theorem up_has {X : FVec Ideal S2048x128 .f32} {f : ℕ → ℕ → EReal} {k : ℕ} (hk0 : 0 < k) (hk : k < 2048) (h : Has X f) :
    Has (up (BitVec.ofNat 32 (2048 - k)) X) fun i d => f i d + if i + k < 2048 then f (i + k) d else 0 := by
  intro i d
  have hi := i.isLt
  show (X (ix2 i d) : EReal) + Scalar.select (IntOp.cmpi .slt (BitVec.ofNat 32 (0 * 2048 + i.val)) (BitVec.ofNat 32 (2048 - k)))
    (dynamicRotate 0 (BitVec.ofNat 32 (2048 - k)) none X rotates_S2048x128_d0 (ix2 i d)) (Ideal.ofBits .f32 0x00000000#32) = _
  rw [Nat.zero_mul, Nat.zero_add, zero_f32, choose_slt hi (by omega), h i d]
  beta_reduce
  by_cases hki : i.val + k < 2048
  · rw [if_pos (by omega : i.val < 2048 - k), if_pos hki]
    congr 1
    refine Eq.trans (dynamicRotate_apply 0 _ X _ (ix2 i d) (ix2 ⟨i.val + k, hki⟩ d) fun b => ?_) (h _ d)
    match b with
    | ⟨0, _⟩ =>
      show i.val + k = (i.val + 2048 - (BitVec.ofNat 32 (2048 - k)).toNat % 2048) % 2048
      rw [BitVec.toNat_ofNat]
      omega
    | ⟨1, _⟩ => rfl
  · rw [if_neg (by omega : ¬i.val < 2048 - k), if_neg hki]

/-- A window doubles. -/
theorem down_back {X : FVec Ideal S2048x128 .f32} {f : ℕ → ℕ → EReal} {k : ℕ} (hk : k < 2048) (h : Has X fun i d => back k (fun r => f r d) i) :
    Has (down (BitVec.ofNat 32 k) X) fun i d => back (k + k) (fun r => f r d) i :=
  fun i d => (down_has hk h i d).trans (back_add k k _ _).symm

/-- A window of rows to come doubles. -/
theorem up_ahead {X : FVec Ideal S2048x128 .f32} {f : ℕ → ℕ → EReal} {k : ℕ} (hk0 : 0 < k) (hk : k < 2048) (h : Has X fun i d => ahead k (fun r => f r d) i) :
    Has (up (BitVec.ofNat 32 (2048 - k)) X) fun i d => ahead (k + k) (fun r => f r d) i :=
  fun i d => (up_has hk0 hk h i d).trans (ahead_add k k _ _).symm

/-- One over the count, row by row. -/
theorem inv_has {w : ℕ} (hw0 : 0 < w) (hw : w < 2048) : Has (inv (F := Ideal) (BitVec.ofNat 32 w)) fun i _ => ((1 / rows w i : ℝ) : EReal) := by
  intro i d
  show Ideal.div (Ideal.ofBits .f32 0x3F800000#32)
    (((IntOp.minsi (IntOp.addi (BitVec.ofNat 32 (0 * 2048 + i.val)) 1#32) (BitVec.ofNat 32 w)).toInt : ℝ) : EReal) = _
  rw [Nat.zero_mul, Nat.zero_add, count_word hw i.isLt, one_f32, Ideal.div_coe (rows_ne hw0 _), ← EReal.coe_mul, one_mul]

/-- Four strips, each the same function of its columns, are that function of the block's columns. -/
theorem block_has {T : FVec Ideal S2048x128 .f32 → FVec Ideal S2048x128 .bf16} {t : (ℕ → EReal) → ℕ → EReal}
    (hT : ∀ (X : FVec Ideal S2048x128 .f32) (f : ℕ → ℕ → EReal), Has X f → Has (T X) fun i d => t (fun r => f r d) i)
    {x : Vec Ideal S2048x512 .f32} {f : ℕ → ℕ → EReal} (h : Has x f) :
    Has (View.canon (strips T x)) fun i d => t (fun r => f r d) i := by
  intro i c
  have hc : c.val / 128 < 4 := by omega
  unfold strips
  refine View.canon_apply_of_pieces (show S2048x512.Idx → Elt Ideal .bf16 from fun y => t (fun r => f r (y 1)) (y 0)) _ (fun p hp z => ?_) (ix2 i c)
    ⟨_, mem_four _ (c.val / 128) hc, ?_⟩
  · obtain ⟨g, hg, rfl⟩ := of_mem_four hp
    obtain ⟨j, b, rfl⟩ : ∃ (j : Fin 2048) (b : Fin 128), z = ix2 j b := ⟨z 0, z 1, eq_ix2 z⟩
    refine (hT (View.ld x (rT hg)) (fun r d => f r (128 * g + d)) (fun r d => ?_) j b).trans ?_
    · pointwise
      exact h r _
    · show t (fun r => f r (128 * g + b)) j = t (fun r => f r (128 * g + 1 * b)) (0 + 1 * j)
      rw [Nat.zero_add, Nat.one_mul, Nat.one_mul]
  · rw [Rect.mem_set_unit]
    intro a
    fin_cases a
    · simp
    · simp; omega

/-! ## The host's stages -/

/-- A left fold of additions is a sum. -/
theorem fold_add {ι : Type} (l : List ι) (T : ι → EReal) (a : EReal) : l.foldl (fun r n => r + T n) a = a + (l.map T).sum := by
  induction l generalizing a with
  | nil => simp
  | cons n l ih => rw [List.foldl_cons, ih, List.map_cons, List.sum_cons, add_assoc]

/-- A window of 2048 rows and one column is its rows. -/
def column : Fin 2048 ≃ (⟨2, ![2048, 1]⟩ : Shape).Idx where
  toFun k := ix2 k 0
  invFun z := z 0
  left_inv _ := rfl
  right_inv z := by
    obtain ⟨j, b, rfl⟩ : ∃ (j : Fin 2048) (b : Fin 1), z = ix2 j b := ⟨z 0, z 1, eq_ix2 z⟩
    obtain rfl := Subsingleton.elim b 0
    rfl

/-- A window's sum, over the window's indices. -/
theorem window_sum {s t u : Shape} (window strides lo hi : Fin s.rank → ℕ) (x : s.Idx → EReal) (v : u.Idx → EReal) (h : s.ReduceWindows window strides lo hi t)
    (hu : 0 < u.numel) (j : t.Idx) :
    Host.reduceWindowAdd (F := Ideal) (φ := .f32) window strides lo hi x v h hu j = v (Shape.Idx.first hu) + ∑ z : (⟨s.rank, window⟩ : Shape).Idx,
      if hin : ∀ a, lo a ≤ (j (a.cast h.1.symm)).val * strides a + (z a).val ∧ (j (a.cast h.1.symm)).val * strides a + (z a).val - lo a < s.size a
      then x (fun a => ⟨(j (a.cast h.1.symm)).val * strides a + (z a).val - lo a, (hin a).2⟩) else v (Shape.Idx.first hu) := by
  rw [← Equiv.sum_comp (⟨s.rank, window⟩ : Shape).rowMajor.symm, Fin.sum_univ_def]
  unfold Host.reduceWindowAdd
  rw [Ideal.hostReduceWindowAdd_def]
  unfold Ideal.hostReduceWindowAdd Host.reduceWindow
  dsimp only
  refine (fold_add _ _ _).trans ?_
  congr!

/-- A cumulative sum along the rows, from the padding `lo` above. -/
theorem sums_has {X : S2048x512.Idx → EReal} {u : Shape} {v : u.Idx → EReal} {lo hi : ℕ}
    (hw : S2048x512.ReduceWindows ![2048, 1] ![1, 1] ![lo, 0] ![hi, 0] S2048x512) (hu : 0 < u.numel) (hv : ∀ i, v i = 0) {f : ℕ → ℕ → EReal} (h : Has X f) :
    Has (Host.reduceWindowAdd (F := Ideal) (φ := .f32) ![2048, 1] ![1, 1] ![lo, 0] ![hi, 0] X v hw hu) fun i d =>
      ∑ k ∈ Finset.range 2048, if lo ≤ i + k ∧ i + k - lo < 2048 then f (i + k - lo) d else 0 := by
  intro i d
  refine (window_sum _ _ _ _ X v hw hu (ix2 i d)).trans ?_
  rw [← Equiv.sum_comp column, hv, zero_add]
  beta_reduce
  rw [Finset.sum_range]
  refine Finset.sum_congr rfl fun k _ => ?_
  have hd := d.isLt
  by_cases hin : lo ≤ i.val + k.val ∧ i.val + k.val - lo < 2048
  · rw [if_pos hin]
    refine (dif_pos fun a => ?_).trans ?_
    · match a with
      | ⟨0, _⟩ => show lo ≤ i.val * 1 + k.val ∧ i.val * 1 + k.val - lo < 2048; omega
      | ⟨1, _⟩ => show 0 ≤ d.val * 1 + 0 ∧ d.val * 1 + 0 - 0 < 512; omega
    · refine Eq.trans (congrArg X ?_) (h ⟨i.val + k.val - lo, hin.2⟩ d)
      funext a
      apply Fin.ext
      match a with
      | ⟨0, _⟩ => show i.val * 1 + k.val - lo = i.val + k.val - lo; omega
      | ⟨1, _⟩ => show d.val * 1 + 0 - 0 = d.val; omega
  · rw [if_neg hin]
    refine dif_neg fun a => hin ?_
    have e := a 0
    change lo ≤ i.val * 1 + k.val ∧ i.val * 1 + k.val - lo < 2048 at e
    omega

/-- The cumulative sum. -/
theorem cumsum_has {X : S2048x512.Idx → EReal} {u : Shape} {v : u.Idx → EReal}
    (hw : S2048x512.ReduceWindows ![2048, 1] ![1, 1] ![2047, 0] ![0, 0] S2048x512) (hu : 0 < u.numel) (hv : ∀ i, v i = 0) {f : ℕ → ℕ → EReal} (h : Has X f) :
    Has (Host.reduceWindowAdd (F := Ideal) (φ := .f32) ![2048, 1] ![1, 1] ![2047, 0] ![0, 0] X v hw hu) fun i d => back 2048 (fun r => f r d) i := by
  intro i d
  refine (sums_has hw hu hv h i d).trans ?_
  unfold back
  beta_reduce
  rw [← Finset.sum_range_reflect]
  refine Finset.sum_congr rfl fun j hj => ?_
  have hj := Finset.mem_range.mp hj
  have hi := i.isLt
  by_cases hji : j ≤ i.val
  · rw [if_pos hji, if_pos (by omega), show i.val + (2048 - 1 - j) - 2047 = i.val - j by omega]
  · rw [if_neg hji, if_neg (by omega)]

/-- The cumulative sum from the end. -/
theorem cumsum_rev_has {X : S2048x512.Idx → EReal} {u : Shape} {v : u.Idx → EReal}
    (hw : S2048x512.ReduceWindows ![2048, 1] ![1, 1] ![0, 0] ![2047, 0] S2048x512) (hu : 0 < u.numel) (hv : ∀ i, v i = 0) {f : ℕ → ℕ → EReal} (h : Has X f) :
    Has (Host.reduceWindowAdd (F := Ideal) (φ := .f32) ![2048, 1] ![1, 1] ![0, 0] ![2047, 0] X v hw hu) fun i d => ahead 2048 (fun r => f r d) i := by
  intro i d
  refine (sums_has hw hu hv h i d).trans ?_
  unfold ahead
  refine Finset.sum_congr rfl fun j _ => ?_
  simp only [Nat.zero_le, true_and, Nat.sub_zero]

/-- Rows of zeros above a matrix. -/
theorem above_has {w n : ℕ} (hn : w + n = 2048) {Z : (⟨2, ![w, 512]⟩ : Shape).Idx → EReal} {Y : (⟨2, ![n, 512]⟩ : Shape).Idx → EReal}
    (hc : Shape.Concatenates [(⟨2, ![w, 512]⟩ : Shape), ⟨2, ![n, 512]⟩] S2048x512 0) (hZ : ∀ i, Z i = 0) {f : ℕ → ℕ → EReal} (hY : Has Y f) :
    Has (concatenate S2048x512 0 [⟨⟨2, ![w, 512]⟩, Z⟩, ⟨⟨2, ![n, 512]⟩, Y⟩] hc) fun i d => if w ≤ i then f (i - w) d else 0 := by
  intro i d
  have hi := i.isLt
  beta_reduce
  by_cases h : w ≤ i.val
  · rw [if_pos h]
    refine (concatenate_pair_apply_right 0 Z Y hc (ix2 i d) rfl rfl (ix2 ⟨i.val - w, by omega⟩ d) (fun b hb => ?_) ?_).trans (hY _ d)
    · match b with
      | ⟨0, _⟩ => exact absurd rfl hb
      | ⟨1, _⟩ => rfl
    · show i.val - w + w = i.val
      omega
  · rw [if_neg h]
    refine (concatenate_pair_apply_left 0 Z Y hc (ix2 i d) rfl (ix2 ⟨i.val, by omega⟩ d) fun b => ?_).trans (hZ _)
    match b with
    | ⟨0, _⟩ => rfl
    | ⟨1, _⟩ => rfl

/-- Rows of zeros below a matrix. -/
theorem below_has {w n : ℕ} (hn : w + n = 2048) {Y : (⟨2, ![n, 512]⟩ : Shape).Idx → EReal} {u : Shape} {v : u.Idx → EReal}
    (hp : (⟨2, ![n, 512]⟩ : Shape).Pads ![0, 0] ![w, 0] ![0, 0] S2048x512) (hu : 0 < u.numel) (hv : ∀ i, v i = 0) {f : ℕ → ℕ → EReal} (hY : Has Y fun i d => f (i + w) d) :
    Has (pad S2048x512 ![0, 0] ![w, 0] ![0, 0] Y v hp hu) fun i d => if i + w < 2048 then f (i + w) d else 0 := by
  intro i d
  beta_reduce
  by_cases h : i.val + w < 2048
  · rw [if_pos h]
    refine (pad_apply_of_inside _ _ _ Y v hp hu (ix2 i d) (ix2 ⟨i.val, by omega⟩ d) fun a => ?_).trans (hY _ d)
    match a with
    | ⟨0, _⟩ => show i.val = 0 + i.val * (0 + 1); omega
    | ⟨1, _⟩ => show d.val = 0 + d.val * (0 + 1); omega
  · rw [if_neg h]
    refine (pad_apply_of_not_inside _ _ _ Y v hp hu (ix2 i d) 0 fun a => ?_).trans (hv _)
    have e : (i.val - 0) / (0 + 1) < n := a.2.2
    omega

/-- One group among four, zeros elsewhere. -/
theorem place_has {g k : ℕ} {Y : (⟨3, ![2048, 1, 512]⟩ : Shape).Idx → EReal} {u : Shape} {v : u.Idx → EReal}
    (hp : (⟨3, ![2048, 1, 512]⟩ : Shape).Pads ![0, g, 0] ![0, k, 0] ![0, 0, 0] ⟨3, ![2048, 4, 512]⟩) (hu : 0 < u.numel) (hv : ∀ i, v i = 0)
    {f : ℕ → ℕ → EReal} (hY : Has3 Y fun i _ d => f i d) :
    Has3 (pad ⟨3, ![2048, 4, 512]⟩ ![0, g, 0] ![0, k, 0] ![0, 0, 0] Y v hp hu) fun i e d => if e = g then f i d else 0 := by
  intro i e d
  beta_reduce
  by_cases h : e.val = g
  · rw [if_pos h]
    refine (pad_apply_of_inside _ _ _ Y v hp hu (ix3 i e d) (ix3 i 0 d) fun a => ?_).trans (hY i 0 d)
    match a with
    | ⟨0, _⟩ => show i.val = 0 + i.val * (0 + 1); omega
    | ⟨1, _⟩ => show e.val = g + 0 * (0 + 1); omega
    | ⟨2, _⟩ => show d.val = 0 + d.val * (0 + 1); omega
  · rw [if_neg h]
    refine (pad_apply_of_not_inside _ _ _ Y v hp hu (ix3 i e d) 1 fun a => ?_).trans (hv _)
    have e1 : g ≤ e.val := a.1
    have e2 : (e.val - g) / (0 + 1) < 1 := a.2.2
    omega

/-- One group of columns of a matrix. -/
theorem group_has {x : S2048x2048.Idx → EReal} {f : ℕ → ℕ → EReal} (h : Has x f) (g : ℕ) (h0 : S2048x2048.ShapeCasts ⟨3, ![2048, 4, 512]⟩)
    (hs : (⟨3, ![2048, 4, 512]⟩ : Shape).Slices ![0, g, 0] ⟨3, ![2048, 1, 512]⟩) (h1 : (⟨3, ![2048, 1, 512]⟩ : Shape).ShapeCasts S2048x512) :
    Has (shapeCast S2048x512 (extractStridedSlice ⟨3, ![2048, 1, 512]⟩ ![0, g, 0] (shapeCast ⟨3, ![2048, 4, 512]⟩ x h0) hs) h1) fun i d => f i (512 * g + d) := by
  intro i d
  have hg : g + 1 ≤ 4 := hs.2 1
  refine (shapeCast_apply _ h1 (ix2 i d) (ix3 i 0 d) ?_).trans ?_
  · rw [Shape.rowMajor_val_two, Shape.rowMajor_val_three]
    show (i.val * 1 + 0) * 512 + d.val = i.val * 512 + d.val
    omega
  refine (extractStridedSlice_apply _ _ hs (ix3 i 0 d) (ix3 i ⟨g, by omega⟩ d) fun a => ?_).trans ?_
  · match a with
    | ⟨0, _⟩ => show i.val = 0 + i.val; omega
    | ⟨1, _⟩ => show g = g + 0; omega
    | ⟨2, _⟩ => show d.val = 0 + d.val; omega
  refine (shapeCast_apply x h0 (ix3 i ⟨g, by omega⟩ d) (ix2 i ⟨512 * g + d.val, by omega⟩) ?_).trans (h i _)
  rw [Shape.rowMajor_val_two, Shape.rowMajor_val_three]
  show i.val * 2048 + (512 * g + d.val) = (i.val * 4 + g) * 512 + d.val
  omega

/-- Four groups side by side. -/
theorem side_has {x : (⟨3, ![2048, 4, 512]⟩ : Shape).Idx → EReal} {f : ℕ → ℕ → ℕ → EReal} (h : Has3 x f) (h0 : (⟨3, ![2048, 4, 512]⟩ : Shape).ShapeCasts S2048x2048) :
    Has (shapeCast S2048x2048 x h0) fun i c => f i (c / 512) (c % 512) := by
  intro i c
  have hc := c.isLt
  refine (shapeCast_apply x h0 (ix2 i c) (ix3 i ⟨c.val / 512, by omega⟩ ⟨c.val % 512, by omega⟩) ?_).trans (h i _ _)
  rw [Shape.rowMajor_val_two, Shape.rowMajor_val_three]
  show (i.val * 4 + c.val / 512) * 512 + c.val % 512 = i.val * 2048 + c.val
  omega

/-- A matrix as one group. -/
theorem layer_has {X : S2048x512.Idx → EReal} {f : ℕ → ℕ → EReal} (h : Has X f) (hb : S2048x512.BroadcastsInDim ⟨3, ![2048, 1, 512]⟩ ![0, 2]) :
    Has3 (broadcastInDim ⟨3, ![2048, 1, 512]⟩ ![0, 2] hb X) fun i _ d => f i d := by
  intro i e d
  refine (broadcastInDim_apply _ hb X (ix3 i e d) (ix2 i d) fun a => ?_).trans (h i d)
  match a with
  | ⟨0, _⟩ => rfl
  | ⟨1, _⟩ => rfl

/-- A column along the columns. -/
theorem spread_has {X : (⟨2, ![2048, 1]⟩ : Shape).Idx → EReal} {f : ℕ → EReal} (h : Has X fun i _ => f i)
    (hb : (⟨2, ![2048, 1]⟩ : Shape).BroadcastsInDim S2048x512 ![0, 1]) : Has (broadcastInDim S2048x512 ![0, 1] hb X) fun i _ => f i := by
  intro i d
  refine (broadcastInDim_apply _ hb X (ix2 i d) (ix2 i 0) fun a => ?_).trans (h i 0)
  match a with
  | ⟨0, _⟩ => rfl
  | ⟨1, _⟩ => rfl

/-- The counts. -/
theorem count_has {w : ℕ} (hw : w < 2048) (b0 b1 : (⟨0, ![]⟩ : Shape).BroadcastsInDim ⟨1, ![2048]⟩ ![]) (b2 : (⟨1, ![2048]⟩ : Shape).BroadcastsInDim ⟨2, ![2048, 1]⟩ ![0]) :
    Has (broadcastInDim ⟨2, ![2048, 1]⟩ ![0] b2 (sitofp (F := Ideal) .f32 (minsi (addi (broadcastInDim ⟨1, ![2048]⟩ ![] b0 (constantI ⟨0, ![]⟩ 32 1#32)) (iotaInDim ⟨1, ![2048]⟩ 32 0))
      (broadcastInDim ⟨1, ![2048]⟩ ![] b1 (constantI ⟨0, ![]⟩ 32 (BitVec.ofNat 32 w)))))) fun i _ => ((rows w i : ℝ) : EReal) := by
  intro i d
  refine Eq.trans ?_ (count_word hw i.isLt)
  show (((IntOp.minsi (1#32 + BitVec.ofNat 32 i.val) (BitVec.ofNat 32 w)).toInt : ℝ) : EReal) = (((IntOp.minsi (BitVec.ofNat 32 i.val + 1#32) (BitVec.ofNat 32 w)).toInt : ℝ) : EReal)
  rw [BitVec.add_comm]

/-! ## The pooling and its derivative, one column -/

/-- The average over the window less the element. -/
def poolS (w : ℕ) (φ : ℕ → EReal) (i : ℕ) : EReal := back w φ i * ((1 / rows w i : ℝ) : EReal) - φ i
/-- Its derivative. -/
def poolDx (w : ℕ) (φ : ℕ → EReal) (i : ℕ) : EReal := ahead w (fun r => φ r * ((1 / rows w r : ℝ) : EReal)) i - φ i

/-- The kernel's strip, from its sum. -/
theorem pool_strip {w : ℕ} (hw0 : 0 < w) (hw : w < 2048) {D : FVec Ideal S2048x128 .f32 → FVec Ideal S2048x128 .f32}
    (hD : ∀ (X : FVec Ideal S2048x128 .f32) (f : ℕ → ℕ → EReal), (Has X fun i d => back 1 (fun r => f r d) i) → Has (D X) fun i d => back w (fun r => f r d) i)
    (X : FVec Ideal S2048x128 .f32) (f : ℕ → ℕ → EReal) (h : Has X f) :
    Has (poolT D (BitVec.ofNat 32 w) X) fun i d => poolS w (fun r => f r d) i := by
  intro i d
  show (D X (ix2 i d) : EReal) * inv (F := Ideal) (BitVec.ofNat 32 w) (ix2 i d) - X (ix2 i d) = _
  rw [hD X f (fun i d => (h i d).trans (back_one (fun r => f r d) i).symm) i d, inv_has hw0 hw i d, h i d]
  rfl

/-- The derivative's strip, from its sum. -/
theorem poolDx_strip {w : ℕ} (hw0 : 0 < w) (hw : w < 2048) {D : FVec Ideal S2048x128 .f32 → FVec Ideal S2048x128 .f32}
    (hD : ∀ (X : FVec Ideal S2048x128 .f32) (f : ℕ → ℕ → EReal), (Has X fun i d => ahead 1 (fun r => f r d) i) → Has (D X) fun i d => ahead w (fun r => f r d) i)
    (X : FVec Ideal S2048x128 .f32) (f : ℕ → ℕ → EReal) (h : Has X f) :
    Has (poolDxT D (BitVec.ofNat 32 w) X) fun i d => poolDx w (fun r => f r d) i := by
  intro i d
  have hm : Has (mulf X (inv (F := Ideal) (BitVec.ofNat 32 w))) fun i d => f i d * ((1 / rows w i : ℝ) : EReal) := by
    intro i d
    show (X (ix2 i d) : EReal) * inv (F := Ideal) (BitVec.ofNat 32 w) (ix2 i d) = _
    rw [inv_has hw0 hw i d, h i d]
  show (D (mulf X (inv (F := Ideal) (BitVec.ofNat 32 w))) (ix2 i d) : EReal) - X (ix2 i d) = _
  rw [hD _ (fun r d => f r d * ((1 / rows w r : ℝ) : EReal)) (fun i d => (hm i d).trans (ahead_one (fun r => f r d * ((1 / rows w r : ℝ) : EReal)) i.isLt).symm) i d, h i d]
  rfl

/-- The reference's group, from its cumulative sum and that moved down: their difference over the count, less the element. -/
theorem pool_diff {w : ℕ} (hw : w ≤ 2048) (hw0 : 0 < w) {C S N X : S2048x512.Idx → EReal} {q : ℕ → ℕ → ℝ}
    (hC : Has C fun i d => back 2048 (fun r => ((q r d : ℝ) : EReal)) i)
    (hS : Has S fun i d => if w ≤ i then back 2048 (fun r => ((q r d : ℝ) : EReal)) (i - w) else 0)
    (hN : Has N fun r _ => ((rows w r : ℝ) : EReal)) (hX : Has X fun r d => ((q r d : ℝ) : EReal)) :
    Has (subf (F := Ideal) (φ := .f32) (Host.divf (subf C S) N) X) fun i d => poolS w (fun r => ((q r d : ℝ) : EReal)) i := by
  intro i d
  show Ideal.div (C (ix2 i d) - S (ix2 i d)) (N (ix2 i d)) - X (ix2 i d) = _
  rw [hC i d, hS i d, hN i d, hX i d, Ideal.div_coe (rows_ne hw0 _), back_diff hw i.isLt]
  rfl

/-- The rows above the last of a matrix, below rows of zeros. -/
theorem moved_has {w n : ℕ} (hn : w + n = 2048) {Z : (⟨2, ![w, 512]⟩ : Shape).Idx → EReal} {C : S2048x512.Idx → EReal} {f : ℕ → ℕ → EReal} (hZ : ∀ i, Z i = 0) (hC : Has C f)
    (hs : S2048x512.Slices ![0, 0] ⟨2, ![n, 512]⟩) (hc : Shape.Concatenates [(⟨2, ![w, 512]⟩ : Shape), ⟨2, ![n, 512]⟩] S2048x512 0) :
    Has (concatenate S2048x512 0 [⟨⟨2, ![w, 512]⟩, Z⟩, ⟨⟨2, ![n, 512]⟩, extractStridedSlice ⟨2, ![n, 512]⟩ ![0, 0] C hs⟩] hc)
      fun i d => if w ≤ i then f (i - w) d else 0 := by
  refine above_has hn hc hZ fun i d => (extractStridedSlice_apply _ C hs (ix2 i d) (ix2 ⟨i.val, by omega⟩ d) fun a => ?_).trans (hC _ d)
  match a with
  | ⟨0, _⟩ => exact (Nat.zero_add _).symm
  | ⟨1, _⟩ => exact (Nat.zero_add _).symm

/-- The reference's group. -/
theorem pool_group {w n : ℕ} (hn : w + n = 2048) (hw0 : 0 < w) {X X' N : S2048x512.Idx → EReal} {Z : (⟨2, ![w, 512]⟩ : Shape).Idx → EReal} {u : Shape} {v : u.Idx → EReal}
    {q : ℕ → ℕ → ℝ} (hX : Has X fun r d => ((q r d : ℝ) : EReal)) (hX' : Has X' fun r d => ((q r d : ℝ) : EReal)) (hN : Has N fun r _ => ((rows w r : ℝ) : EReal))
    (hZ : ∀ i, Z i = 0) (hv : ∀ i, v i = 0) (hw : S2048x512.ReduceWindows ![2048, 1] ![1, 1] ![2047, 0] ![0, 0] S2048x512) (hu : 0 < u.numel)
    (hs : S2048x512.Slices ![0, 0] ⟨2, ![n, 512]⟩) (hc : Shape.Concatenates [(⟨2, ![w, 512]⟩ : Shape), ⟨2, ![n, 512]⟩] S2048x512 0) :
    Has (subf (F := Ideal) (φ := .f32) (Host.divf (subf (Host.reduceWindowAdd ![2048, 1] ![1, 1] ![2047, 0] ![0, 0] X v hw hu)
      (concatenate S2048x512 0 [⟨⟨2, ![w, 512]⟩, Z⟩, ⟨⟨2, ![n, 512]⟩,
        extractStridedSlice ⟨2, ![n, 512]⟩ ![0, 0] (Host.reduceWindowAdd (F := Ideal) (φ := .f32) ![2048, 1] ![1, 1] ![2047, 0] ![0, 0] X v hw hu) hs⟩] hc)) N) X')
      fun i d => poolS w (fun r => ((q r d : ℝ) : EReal)) i :=
  pool_diff (by omega) hw0 (cumsum_has hw hu hv hX) (moved_has hn hZ (cumsum_has hw hu hv hX) hs hc) hN hX'

/-- The quotient by the count. -/
theorem quot_has {w : ℕ} (hw0 : 0 < w) {X N : S2048x512.Idx → EReal} {q : ℕ → ℕ → ℝ} (hX : Has X fun r d => ((q r d : ℝ) : EReal))
    (hN : Has N fun r _ => ((rows w r : ℝ) : EReal)) : Has (Host.divf (F := Ideal) (φ := .f32) X N) fun r d => ((q r d * (1 / rows w r) : ℝ) : EReal) := by
  intro i d
  show Ideal.div (X (ix2 i d)) (N (ix2 i d)) = _
  rw [hX i d, hN i d, Ideal.div_coe (rows_ne hw0 _)]
  exact (EReal.coe_mul _ _).symm

/-- A matrix negated and moved up, above rows of zeros. -/
theorem lifted_has {w n : ℕ} (hn : w + n = 2048) {Q : S2048x512.Idx → EReal} {u : Shape} {v : u.Idx → EReal} {f : ℕ → ℕ → ℝ} (hQ : Has Q fun r d => ((f r d : ℝ) : EReal))
    (hv : ∀ i, v i = 0) (hu : 0 < u.numel) (hs : S2048x512.Slices ![w, 0] ⟨2, ![n, 512]⟩) (hp : (⟨2, ![n, 512]⟩ : Shape).Pads ![0, 0] ![w, 0] ![0, 0] S2048x512) :
    Has (pad S2048x512 ![0, 0] ![w, 0] ![0, 0] (extractStridedSlice ⟨2, ![n, 512]⟩ ![w, 0] (Host.negf (F := Ideal) (φ := .f32) Q) hs) v hp hu)
      fun i d => if i + w < 2048 then ((-f (i + w) d : ℝ) : EReal) else 0 := by
  refine below_has hn hp hu hv (f := fun r d => ((-f r d : ℝ) : EReal)) fun i d => ?_
  refine (extractStridedSlice_apply _ (Host.negf (F := Ideal) (φ := .f32) Q) hs (ix2 i d) (ix2 ⟨i.val + w, by omega⟩ d) fun a => ?_).trans ?_
  · match a with
    | ⟨0, _⟩ => exact Nat.add_comm _ _
    | ⟨1, _⟩ => exact (Nat.zero_add _).symm
  · show -(Q (ix2 ⟨i.val + w, _⟩ d) : EReal) = _
    rw [hQ]
    exact (EReal.coe_neg _).symm

/-- The cumulative sum from the end of a matrix and it negated and moved up. -/
theorem lifted_sum {w : ℕ} {Q P : S2048x512.Idx → EReal} {u : Shape} {v : u.Idx → EReal} {f : ℕ → ℕ → ℝ} (hQ : Has Q fun r d => ((f r d : ℝ) : EReal))
    (hP : Has P fun i d => if i + w < 2048 then ((-f (i + w) d : ℝ) : EReal) else 0) (hv : ∀ i, v i = 0)
    (hw : S2048x512.ReduceWindows ![2048, 1] ![1, 1] ![0, 0] ![2047, 0] S2048x512) (hu : 0 < u.numel) :
    Has (Host.reduceWindowAdd (F := Ideal) (φ := .f32) ![2048, 1] ![1, 1] ![0, 0] ![2047, 0] (addf Q P) v hw hu) fun i d => ahead w (fun r => ((f r d : ℝ) : EReal)) i := by
  have hS : Has (addf (F := Ideal) (φ := .f32) Q P) fun r d => ((f r d + (if r + w < 2048 then -f (r + w) d else 0) : ℝ) : EReal) := by
    intro i d
    show (Q (ix2 i d) : EReal) + P (ix2 i d) = _
    rw [hQ i d, hP i d]
    beta_reduce
    rw [EReal.coe_add]
    by_cases h : i.val + w < 2048
    · rw [if_pos h, if_pos h]
    · rw [if_neg h, if_neg h, EReal.coe_zero]
  intro i d
  refine (cumsum_rev_has hw hu hv hS i d).trans ?_
  beta_reduce
  rw [ahead_coe, ahead_diff (q := fun r => f r d) i.isLt, ← ahead_coe]

/-- The reference's derivative of a group's sums: a cumulative sum from the end of the quotient less itself moved up. -/
theorem poolDx_group {w n : ℕ} (hn : w + n = 2048) (hw0 : 0 < w) {X N : S2048x512.Idx → EReal} {u : Shape} {v v' : u.Idx → EReal}
    {q : ℕ → ℕ → ℝ} (hX : Has X fun r d => ((q r d : ℝ) : EReal)) (hN : Has N fun r _ => ((rows w r : ℝ) : EReal)) (hv : ∀ i, v i = 0) (hv' : ∀ i, v' i = 0)
    (hw : S2048x512.ReduceWindows ![2048, 1] ![1, 1] ![0, 0] ![2047, 0] S2048x512) (hu : 0 < u.numel)
    (hs : S2048x512.Slices ![w, 0] ⟨2, ![n, 512]⟩) (hp : (⟨2, ![n, 512]⟩ : Shape).Pads ![0, 0] ![w, 0] ![0, 0] S2048x512) :
    Has (Host.reduceWindowAdd (F := Ideal) (φ := .f32) ![2048, 1] ![1, 1] ![0, 0] ![2047, 0] (addf (Host.divf X N)
      (pad S2048x512 ![0, 0] ![w, 0] ![0, 0] (extractStridedSlice ⟨2, ![n, 512]⟩ ![w, 0] (Host.negf (F := Ideal) (φ := .f32) (Host.divf X N)) hs) v hp hu)) v' hw hu)
      fun i d => ahead w (fun r => ((q r d * (1 / rows w r) : ℝ) : EReal)) i :=
  lifted_sum (quot_has hw0 hX hN) (lifted_has hn (quot_has hw0 hX hN) hv hu hs hp) hv' hw hu

/-- Four groups stacked. -/
theorem stack_has {Y0 Y1 Y2 Y3 : (⟨3, ![2048, 1, 512]⟩ : Shape).Idx → EReal} {f : ℕ → ℕ → ℕ → EReal} (h0 : Has3 Y0 fun i _ d => f i 0 d) (h1 : Has3 Y1 fun i _ d => f i 1 d)
    (h2 : Has3 Y2 fun i _ d => f i 2 d) (h3 : Has3 Y3 fun i _ d => f i 3 d)
    (hc : Shape.Concatenates [(⟨3, ![2048, 1, 512]⟩ : Shape), ⟨3, ![2048, 1, 512]⟩, ⟨3, ![2048, 1, 512]⟩, ⟨3, ![2048, 1, 512]⟩] ⟨3, ![2048, 4, 512]⟩ 1) :
    Has3 (concatenate ⟨3, ![2048, 4, 512]⟩ 1 [⟨⟨3, ![2048, 1, 512]⟩, Y0⟩, ⟨⟨3, ![2048, 1, 512]⟩, Y1⟩, ⟨⟨3, ![2048, 1, 512]⟩, Y2⟩, ⟨⟨3, ![2048, 1, 512]⟩, Y3⟩] hc) f := by
  intro i e d
  have off : ∀ (e : Fin 4) (b : Fin 3), b ≠ 1 → ((ix3 i 0 d : (⟨3, ![2048, 1, 512]⟩ : Shape).Idx) b).val = ((ix3 i e d : (⟨3, ![2048, 4, 512]⟩ : Shape).Idx) b).val := by
    intro e b hb
    match b with
    | ⟨0, _⟩ => rfl
    | ⟨1, _⟩ => exact absurd rfl hb
    | ⟨2, _⟩ => rfl
  have piece := concatenate_apply_piece (t := ⟨3, ![2048, 4, 512]⟩) 1 [⟨⟨3, ![2048, 1, 512]⟩, Y0⟩, ⟨⟨3, ![2048, 1, 512]⟩, Y1⟩, ⟨⟨3, ![2048, 1, 512]⟩, Y2⟩, ⟨⟨3, ![2048, 1, 512]⟩, Y3⟩] hc
  match e with
  | ⟨0, _⟩ => exact (piece (ix3 i 0 d) 0 (by simp) _ Y0 rfl rfl 0 rfl (ix3 i 0 d) (off 0) rfl).trans (h0 i 0 d)
  | ⟨1, _⟩ => exact (piece (ix3 i 1 d) 1 (by simp) _ Y1 rfl rfl 1 rfl (ix3 i 0 d) (off 1) rfl).trans (h1 i 0 d)
  | ⟨2, _⟩ => exact (piece (ix3 i 2 d) 2 (by simp) _ Y2 rfl rfl 2 rfl (ix3 i 0 d) (off 2) rfl).trans (h2 i 0 d)
  | ⟨3, _⟩ => exact (piece (ix3 i 3 d) 3 (by simp) _ Y3 rfl rfl 3 rfl (ix3 i 0 d) (off 3) rfl).trans (h3 i 0 d)

/-- A matrix negated. -/
theorem neg_has {X : S2048x512.Idx → EReal} {f : ℕ → ℕ → EReal} (h : Has X f) : Has (Host.negf (F := Ideal) (φ := .f32) X) fun i d => -f i d := by
  intro i d
  show -(X (ix2 i d)) = _
  rw [h i d]

/-- Eight terms, two of each group, at one group. -/
theorem eight_terms {e : ℕ} (he : e < 4) (a b : ℕ → EReal) :
    ((((((((if e = 3 then a 3 else 0) + if e = 3 then b 3 else 0) + if e = 2 then a 2 else 0) + if e = 2 then b 2 else 0) + if e = 1 then a 1 else 0) + if e = 1 then b 1 else 0)
      + if e = 0 then a 0 else 0) + if e = 0 then b 0 else 0) = b e + a e := by
  interval_cases e <;> simp [add_comm]

/-- The windows of the four groups. -/
def width : ℕ → ℕ
  | 0 => 2
  | 1 => 4
  | 2 => 8
  | _ => 16

/-- The precondition's function's side conditions. -/
theorem facts : Cert.Pre_finite_rows.Facts := ⟨by decide⟩

/-- Where it holds, a matrix's elements are real numbers. -/
theorem real_has {x : S2048x2048.Idx → EReal} (h : @Cert.Pre_finite_rows.fn facts Ideal _ x = fun _ => 1#1) :
    Has x fun r c => ((Cert.KernelIdeal.Gate.real2 x r c : ℝ) : EReal) :=
  Cert.KernelIdeal.Gate.holds2 (Cert.KernelIdeal.Gate.real_of_test x _ h)

end Cert.Window

end
-- ==== Proof.PoolDx.lean ====
module

public import proofs.«01_k».proof.Defs
public import proofs.«01_k».proof.Proof.Window
public import proofs.«01_k».proof.Proof.Gen.PoolDx.Frame
public import proofs.«01_k».proof.Proof.Gen.PoolDxIdeal.Value
public import proofs.«01_k».proof.Proof.Gen.PoolDxReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The pooling's derivative: four blocks of 512 columns, the sum of the next 2, 4, 8 or 16 rows, each over its count, less the row. -/

@[expose] public section

set_option maxRecDepth 16384

noncomputable section

namespace Cert.PoolDxIdeal.Fwd

open Idealize.ShloMosaic Idealize.ShloMosaic.TcCoe Idealize.SL.Sem Cert.PoolDxIdeal Cert.PoolDxIdeal.Gen Cert.PoolDxIdeal.Value Cert.Gate Cert.Window
open Cert.MixaGateIdeal.Fwd (Has)

/-! ## One point -/

section Words

variable {F : FTy → Type} [FloatOps F] [Named F]

/-- The body's strips, group by group. -/
def body : ℕ → FVec F S2048x128 .f32 → FVec F S2048x128 .bf16
  | 0 => poolDxT (up 2047#32) 2#32
  | 1 => poolDxT (fun x => up 2046#32 (up 2047#32 x)) 4#32
  | 2 => poolDxT (fun x => up 2044#32 (up 2046#32 (up 2047#32 x))) 8#32
  | _ => poolDxT (fun x => up 2040#32 (up 2044#32 (up 2046#32 (up 2047#32 x)))) 16#32

variable (x0 : Vec F S2048x512 .f32) (c : Dev nD) (i : grid0.Coords) (arg1 : Memref sig .tc .vmem S2048x512 .f32) (harg1 : arg1.IsWhole)
    (arg2 : Memref sig .tc .vmem S2048x512 .bf16) (harg2 : arg2.IsWhole)

/-- Group 0's body stores them. -/
theorem words_A (hc0 : cond0_0 i) (hc1 : ¬cond0_1 i) (hc2 : ¬cond0_2 i) (hc3 : ¬cond0_3 i) : out0_A_1 c i arg1 harg1 arg2 harg2 hc0 hc1 hc2 hc3 x0 = View.canon (strips (body 0) x0) := by
  have e : out0_A_1 c i arg1 harg1 arg2 harg2 hc0 hc1 hc2 hc3 x0 = View.canon (strips (body 0) (arg1.view.read (Elt F) (harg1.unread x0))) := View.read_writes_junk_eq_canon _ _
  rw [e, harg1.read_unread]

/-- Group 1's body stores them. -/
theorem words_B (hc0 : ¬cond0_0 i) (hc1 : cond0_1 i) (hc2 : ¬cond0_2 i) (hc3 : ¬cond0_3 i) : out0_B_1 c i arg1 harg1 arg2 harg2 hc0 hc1 hc2 hc3 x0 = View.canon (strips (body 1) x0) := by
  have e : out0_B_1 c i arg1 harg1 arg2 harg2 hc0 hc1 hc2 hc3 x0 = View.canon (strips (body 1) (arg1.view.read (Elt F) (harg1.unread x0))) := View.read_writes_junk_eq_canon _ _
  rw [e, harg1.read_unread]

/-- Group 2's body stores them. -/
theorem words_C (hc0 : ¬cond0_0 i) (hc1 : ¬cond0_1 i) (hc2 : cond0_2 i) (hc3 : ¬cond0_3 i) : out0_C_1 c i arg1 harg1 arg2 harg2 hc0 hc1 hc2 hc3 x0 = View.canon (strips (body 2) x0) := by
  have e : out0_C_1 c i arg1 harg1 arg2 harg2 hc0 hc1 hc2 hc3 x0 = View.canon (strips (body 2) (arg1.view.read (Elt F) (harg1.unread x0))) := View.read_writes_junk_eq_canon _ _
  rw [e, harg1.read_unread]

/-- Group 3's body stores them. -/
theorem words_D (hc0 : ¬cond0_0 i) (hc1 : ¬cond0_1 i) (hc2 : ¬cond0_2 i) (hc3 : cond0_3 i) : out0_D_1 c i arg1 harg1 arg2 harg2 hc0 hc1 hc2 hc3 x0 = View.canon (strips (body 3) x0) := by
  have e : out0_D_1 c i arg1 harg1 arg2 harg2 hc0 hc1 hc2 hc3 x0 = View.canon (strips (body 3) (arg1.view.read (Elt F) (harg1.unread x0))) := View.read_writes_junk_eq_canon _ _
  rw [e, harg1.read_unread]

end Words

/-- Each group's strip. -/
theorem body_has (g : ℕ) (hg : g < 4) (X : FVec Ideal S2048x128 .f32) (f : ℕ → ℕ → EReal) (hX : Has X f) :
    Has (body g X) fun i d => poolDx (width g) (fun r => f r d) i := by
  interval_cases g
  · exact poolDx_strip (w := 2) (by norm_num) (by norm_num) (fun _ _ h => up_ahead (k := 1) (by norm_num) (by norm_num) h) X f hX
  · exact poolDx_strip (w := 4) (by norm_num) (by norm_num) (fun _ _ h => up_ahead (k := 2) (by norm_num) (by norm_num) (up_ahead (k := 1) (by norm_num) (by norm_num) h)) X f hX
  · exact poolDx_strip (w := 8) (by norm_num) (by norm_num) (fun _ _ h => up_ahead (k := 4) (by norm_num) (by norm_num) (up_ahead (k := 2) (by norm_num) (by norm_num) (up_ahead (k := 1) (by norm_num) (by norm_num) h))) X f hX
  · exact poolDx_strip (w := 16) (by norm_num) (by norm_num) (fun _ _ h => up_ahead (k := 8) (by norm_num) (by norm_num) (up_ahead (k := 4) (by norm_num) (by norm_num) (up_ahead (k := 2) (by norm_num) (by norm_num) (up_ahead (k := 1) (by norm_num) (by norm_num) h)))) X f hX

/-! ## The four points -/

variable (m : (ℓ : Loc nD τ sig) → Buf (Elt Ideal) ℓ)
variable {f : ℕ → ℕ → EReal}

/-- The windows' block indices. -/
theorem index (t : Fin cfg0.N) : (win0_0.index t 0 = 0 ∧ win0_0.index t 1 = t.val) ∧ win0_1.index t 0 = 0 ∧ win0_1.index t 1 = t.val :=
  (by decide +kernel : ∀ t : Fin grid0.N, (win0_0.index t 0 = 0 ∧ win0_0.index t 1 = t.val) ∧ win0_1.index t 0 = 0 ∧ win0_1.index t 1 = t.val) t

/-- The argument's block is 512 columns. -/
theorem blk0 (c : Dev nD) (h : Has (m ((c : Thread nD τ).loc main_arg0) : S2048x2048.Idx → EReal) f) (t : Fin cfg0.N) :
    Has (iblk m c 0 t : Vec Ideal S2048x512 .f32) fun i k => f i (512 * t + k) := by
  intro i k
  have hi := (index t).1
  have ht : 512 * t.val + k.val < 2048 := by have := t.isLt; have hN : cfg0.N = 4 := N_0; omega
  refine Eq.trans ?_ (h i ⟨512 * t.val + k.val, ht⟩)
  unfold iblk
  rw [View.read_apply]
  show V m c main_arg0 _ = _
  rw [V_main_arg0]
  congr 1
  funext a
  apply Fin.ext
  match a with
  | ⟨0, _⟩ => show win0_0.index t 0 * 2048 + 1 * i.val = i.val; rw [hi.1]; omega
  | ⟨1, _⟩ => show win0_0.index t 1 * 512 + 1 * k.val = 512 * t.val + k.val; rw [hi.2]; omega

/-- What a point leaves. -/
theorem left (c : Dev nD) (t : Fin cfg0.N) : (dats m 0 c).flushed 1 t = (cfg0.win 1).cut (grid0.coords t) (View.canon (strips (body t.val) (iblk m c 0 t))) := by
  have hN : cfg0.N = 4 := N_0
  have ht : t.val = 0 ∨ t.val = 1 ∨ t.val = 2 ∨ t.val = 3 := by omega
  rcases ht with e | e | e | e
  · rw [flushed1_A m c t (by omega) (by omega) (by omega) (by omega), words_A, e]
  · rw [flushed1_B m c t (by omega) (by omega) (by omega) (by omega), words_B, e]
  · rw [flushed1_C m c t (by omega) (by omega) (by omega) (by omega), words_C, e]
  · rw [flushed1_D m c t (by omega) (by omega) (by omega) (by omega), words_D, e]

/-- The result array. -/
theorem final (c : Dev nD) (h : Has (m ((c : Thread nD τ).loc main_arg0) : S2048x2048.Idx → EReal) f) (r s : Fin 2048) :
    ((dats m 0 c).arrAt 1 cfg0.N : S2048x2048.Idx → EReal) (ix2 r s) = poolDx (width (s / 512)) (fun k => f k (512 * (s / 512) + s % 512)) r := by
  have hs := s.isLt
  have hN : cfg0.N = 4 := N_0
  let t : Fin cfg0.N := ⟨s.val / 512, by omega⟩
  have ht : t.val < 4 := by have := t.isLt; omega
  have key := congrFun (blocks1 m c t (flush0_1 t)) (ix2 r (⟨s.val % 512, by omega⟩ : Fin 512))
  rw [View.read_apply, left] at key
  have hi := (index t).2
  refine Eq.trans ?_ (key.trans (block_has (body_has t.val ht) (blk0 m c h t) r ⟨s.val % 512, by omega⟩))
  congr 1
  funext a
  apply Fin.ext
  match a with
  | ⟨0, _⟩ => show r.val = win0_1.index t 0 * 2048 + 1 * r.val; rw [hi.1]; omega
  | ⟨1, _⟩ => show s.val = win0_1.index t 1 * 512 + 1 * (s.val % 512); rw [hi.2]; show s.val = s.val / 512 * 512 + 1 * (s.val % 512); omega

end Cert.PoolDxIdeal.Fwd

namespace Cert.PoolDxReferenceIdeal.Fwd

open Idealize.ShloMosaic Idealize.ShloMosaic.TcCoe Idealize.SL.Sem Cert.PoolDxReferenceIdeal Cert.PoolDxReferenceIdeal.Read Cert.Gate Cert.Window
open Cert.MixaGateIdeal.Fwd (Has Has3)

/-! ## The reference, line by line -/

variable {x0 : S2048x2048.Idx → EReal} {q : ℕ → ℕ → ℝ}

/-- A group's row, negated. -/
def own (q : ℕ → ℕ → ℝ) (i d g : ℕ) : EReal := -((q i (512 * g + d) : ℝ) : EReal)
/-- A group's sum. -/
def sums (q : ℕ → ℕ → ℝ) (i d g : ℕ) : EReal := ahead (width g) (fun r => ((q r (512 * g + d) * (1 / rows (width g) r) : ℝ) : EReal)) i

/-- Group 0's rows. -/
theorem v143_has (h : Has x0 fun r c => ((q r c : ℝ) : EReal)) : Has3 (val_main_v143 (F := Ideal) x0) fun i e d => if e = 0 then own q i d 0 else 0 :=
  place_has _ _ (fun _ => zero_f32) (layer_has (neg_has (group_has h 0 _ _ _)) _)

/-- Group 0's sums. -/
theorem v154_has (h : Has x0 fun r c => ((q r c : ℝ) : EReal)) : Has3 (val_main_v154 (F := Ideal) x0) fun i e d => if e = 0 then sums q i d 0 else 0 :=
  place_has _ _ (fun _ => zero_f32) (layer_has (poolDx_group (w := 2) (n := 2046) (q := fun r d => q r (512 * 0 + d)) rfl (by norm_num) (group_has h 0 _ _ _)
    (spread_has (count_has (w := 2) (by norm_num) _ _ _) _) (fun _ => zero_f32) (fun _ => zero_f32) _ _ _ _) _)

/-- Group 1's rows. -/
theorem v128_has (h : Has x0 fun r c => ((q r c : ℝ) : EReal)) : Has3 (val_main_v128 (F := Ideal) x0) fun i e d => if e = 1 then own q i d 1 else 0 :=
  place_has _ _ (fun _ => zero_f32) (layer_has (neg_has (group_has h 1 _ _ _)) _)

/-- Group 1's sums. -/
theorem v139_has (h : Has x0 fun r c => ((q r c : ℝ) : EReal)) : Has3 (val_main_v139 (F := Ideal) x0) fun i e d => if e = 1 then sums q i d 1 else 0 :=
  place_has _ _ (fun _ => zero_f32) (layer_has (poolDx_group (w := 4) (n := 2044) (q := fun r d => q r (512 * 1 + d)) rfl (by norm_num) (group_has h 1 _ _ _)
    (spread_has (count_has (w := 4) (by norm_num) _ _ _) _) (fun _ => zero_f32) (fun _ => zero_f32) _ _ _ _) _)

/-- Group 2's rows. -/
theorem v113_has (h : Has x0 fun r c => ((q r c : ℝ) : EReal)) : Has3 (val_main_v113 (F := Ideal) x0) fun i e d => if e = 2 then own q i d 2 else 0 :=
  place_has _ _ (fun _ => zero_f32) (layer_has (neg_has (group_has h 2 _ _ _)) _)

/-- Group 2's sums. -/
theorem v124_has (h : Has x0 fun r c => ((q r c : ℝ) : EReal)) : Has3 (val_main_v124 (F := Ideal) x0) fun i e d => if e = 2 then sums q i d 2 else 0 :=
  place_has _ _ (fun _ => zero_f32) (layer_has (poolDx_group (w := 8) (n := 2040) (q := fun r d => q r (512 * 2 + d)) rfl (by norm_num) (group_has h 2 _ _ _)
    (spread_has (count_has (w := 8) (by norm_num) _ _ _) _) (fun _ => zero_f32) (fun _ => zero_f32) _ _ _ _) _)

/-- Group 3's rows. -/
theorem v99_has (h : Has x0 fun r c => ((q r c : ℝ) : EReal)) : Has3 (val_main_v99 (F := Ideal) x0) fun i e d => if e = 3 then own q i d 3 else 0 :=
  place_has _ _ (fun _ => zero_f32) (layer_has (neg_has (group_has h 3 _ _ _)) _)

/-- Group 3's sums. -/
theorem v109_has (h : Has x0 fun r c => ((q r c : ℝ) : EReal)) : Has3 (val_main_v109 (F := Ideal) x0) fun i e d => if e = 3 then sums q i d 3 else 0 :=
  place_has _ _ (fun _ => zero_f32) (layer_has (poolDx_group (w := 16) (n := 2032) (q := fun r d => q r (512 * 3 + d)) rfl (by norm_num) (group_has h 3 _ _ _)
    (spread_has (count_has (w := 16) (by norm_num) _ _ _) _) (fun _ => zero_f32) (fun _ => zero_f32) _ _ _ _) _)

/-- Their sum. -/
theorem v155_has (h : Has x0 fun r c => ((q r c : ℝ) : EReal)) : Has3 (val_main_v155 (F := Ideal) x0) fun i e d =>
    poolDx (width e) (fun k => ((q k (512 * e + d) : ℝ) : EReal)) i := by
  intro i e d
  show (((((((val_main_v99 (F := Ideal) x0 (ix3 i e d) + val_main_v109 (F := Ideal) x0 (ix3 i e d)) + val_main_v113 (F := Ideal) x0 (ix3 i e d))
    + val_main_v124 (F := Ideal) x0 (ix3 i e d)) + val_main_v128 (F := Ideal) x0 (ix3 i e d)) + val_main_v139 (F := Ideal) x0 (ix3 i e d))
    + val_main_v143 (F := Ideal) x0 (ix3 i e d)) + val_main_v154 (F := Ideal) x0 (ix3 i e d) : EReal) = _
  rw [v99_has h i e d, v109_has h i e d, v113_has h i e d, v124_has h i e d, v128_has h i e d, v139_has h i e d, v143_has h i e d, v154_has h i e d]
  refine (eight_terms e.isLt (own q i d) (sums q i d)).trans ?_
  unfold own sums poolDx
  simp only [EReal.coe_mul, sub_eq_add_neg]

/-- The result. -/
theorem value (h : Has x0 fun r c => ((q r c : ℝ) : EReal)) (r s : Fin 2048) :
    (val_main_v157 (F := Ideal) x0 (ix2 r s) : EReal) = poolDx (width (s / 512)) (fun k => ((q k (512 * (s / 512) + s % 512) : ℝ) : EReal)) r :=
  side_has (v155_has h) _ r s

end Cert.PoolDxReferenceIdeal.Fwd

namespace Cert.Mlp

open Idealize.ShloMosaic Idealize.ShloMosaic.TcCoe Idealize.SL.Sem Cert.Gate
open Cert.MixaGateIdeal.Fwd (Has)

/-- The pooling's derivative runs and keeps its arguments. -/
theorem frame_PoolDx : Cert.quiescent_PoolDx (hPoolDx := Cert.PoolDx.Gen.facts) := fun m ρ _ => Cert.PoolDx.Gen.frame m ρ

/-- Its idealization runs and keeps its arguments. -/
theorem frame_PoolDxIdeal : Cert.quiescent_PoolDxIdeal (hPoolDxIdeal := Cert.PoolDxIdeal.Gen.facts) := fun m ρ _ => Cert.PoolDxIdeal.Gen.frame m ρ

/-- The same, where the precondition holds. -/
theorem frame_PoolDxIdeal_finite : Cert.quiescent_PoolDxIdeal_pre_finite_rows (hPoolDxIdeal := Cert.PoolDxIdeal.Gen.facts) (hPre_finite_rows := Cert.Window.facts) := fun m ρ _ =>
  Cert.PoolDxIdeal.Gen.frame m ρ

/-- Its reference runs and keeps its arguments. -/
theorem frame_PoolDxReferenceIdeal : Cert.quiescent_PoolDxReferenceIdeal (hPoolDxReferenceIdeal := Cert.PoolDxReferenceIdeal.Gen.facts) := fun m ρ _ =>
  (θ_run Cert.PoolDxReferenceIdeal.defs _ _).mono (fun r h => ⟨fun c => (h c).2, sem_eq_zero_of_no_sems (by decide) r.2⟩)
    (Cert.PoolDxReferenceIdeal.Value.run (F := Ideal) m ρ)

/-- The same, where the precondition holds. -/
theorem frame_PoolDxReferenceIdeal_finite : Cert.quiescent_PoolDxReferenceIdeal_pre_finite_rows (hPoolDxReferenceIdeal := Cert.PoolDxReferenceIdeal.Gen.facts)
    (hPre_finite_rows := Cert.Window.facts) := fun m ρ _ => frame_PoolDxReferenceIdeal m ρ trivial

/-- The kernel's result and the reference's are equal, for finite arguments. -/
theorem same_PoolDx : Cert.algebraic_PoolDxIdeal_PoolDxReferenceIdeal_pre_finite_rows (hPoolDxIdeal := Cert.PoolDxIdeal.Gen.facts)
    (hPoolDxReferenceIdeal := Cert.PoolDxReferenceIdeal.Gen.facts) (hPre_finite_rows := Cert.Window.facts) := by
  intro m ρ m' ρ' hp hag
  refine ⟨fun c => (Cert.PoolDxIdeal.Gen.dats m 0 c).arrAt 1 Cert.PoolDxIdeal.cfg0.N, Cert.PoolDxIdeal.Value.run_blocks m ρ, ?_⟩
  refine (θ_run _ _ _).mono (fun r h c => ?_) (Cert.PoolDxReferenceIdeal.Value.run m' ρ')
  obtain ⟨e, rest⟩ := h c
  refine ⟨(e.trans (Cert.PoolDxReferenceIdeal.Read.val_main_v157_eq _)).trans ?_, rest⟩
  have a0 := hag c
  rw [show StableHlo.launchContents m' c (Proc.devRef .tc Cert.PoolDxReferenceIdeal.main_arg0) = _ from a0]
  have hq := Cert.Window.real_has (hp c)
  funext i
  obtain ⟨r, s, rfl⟩ : ∃ (r s : Fin 2048), i = ix2 r s := ⟨i 0, i 1, eq_ix2 i⟩
  exact (Cert.PoolDxReferenceIdeal.Fwd.value hq r s).trans (Cert.PoolDxIdeal.Fwd.final m c hq r s).symm

end Cert.Mlp

end
-- ==== Proof.Pool.lean ====
module

public import proofs.«01_k».proof.Defs
public import proofs.«01_k».proof.Proof.Window
public import proofs.«01_k».proof.Proof.Gen.Pool.Frame
public import proofs.«01_k».proof.Proof.Gen.PoolIdeal.Value
public import proofs.«01_k».proof.Proof.Gen.PoolReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! The pooling, forward: four blocks of 512 columns, the average of the last 2, 4, 8 or 16 rows less the row. -/

@[expose] public section

set_option maxRecDepth 16384

noncomputable section

namespace Cert.PoolIdeal.Fwd

open Idealize.ShloMosaic Idealize.ShloMosaic.TcCoe Idealize.SL.Sem Cert.PoolIdeal Cert.PoolIdeal.Gen Cert.PoolIdeal.Value Cert.Gate Cert.Window
open Cert.MixaGateIdeal.Fwd (Has)

/-! ## One point -/

section Words

variable {F : FTy → Type} [FloatOps F] [Named F]

/-- The body's strips, group by group. -/
def body : ℕ → FVec F S2048x128 .f32 → FVec F S2048x128 .bf16
  | 0 => poolT (down 1#32) 2#32
  | 1 => poolT (fun x => down 2#32 (down 1#32 x)) 4#32
  | 2 => poolT (fun x => down 4#32 (down 2#32 (down 1#32 x))) 8#32
  | _ => poolT (fun x => down 8#32 (down 4#32 (down 2#32 (down 1#32 x)))) 16#32

variable (x0 : Vec F S2048x512 .f32) (c : Dev nD) (i : grid0.Coords) (arg1 : Memref sig .tc .vmem S2048x512 .f32) (harg1 : arg1.IsWhole)
    (arg2 : Memref sig .tc .vmem S2048x512 .bf16) (harg2 : arg2.IsWhole)

/-- Group 0's body stores them. -/
theorem words_A (hc0 : cond0_0 i) (hc1 : ¬cond0_1 i) (hc2 : ¬cond0_2 i) (hc3 : ¬cond0_3 i) : out0_A_1 c i arg1 harg1 arg2 harg2 hc0 hc1 hc2 hc3 x0 = View.canon (strips (body 0) x0) := by
  have e : out0_A_1 c i arg1 harg1 arg2 harg2 hc0 hc1 hc2 hc3 x0 = View.canon (strips (body 0) (arg1.view.read (Elt F) (harg1.unread x0))) := View.read_writes_junk_eq_canon _ _
  rw [e, harg1.read_unread]

/-- Group 1's body stores them. -/
theorem words_B (hc0 : ¬cond0_0 i) (hc1 : cond0_1 i) (hc2 : ¬cond0_2 i) (hc3 : ¬cond0_3 i) : out0_B_1 c i arg1 harg1 arg2 harg2 hc0 hc1 hc2 hc3 x0 = View.canon (strips (body 1) x0) := by
  have e : out0_B_1 c i arg1 harg1 arg2 harg2 hc0 hc1 hc2 hc3 x0 = View.canon (strips (body 1) (arg1.view.read (Elt F) (harg1.unread x0))) := View.read_writes_junk_eq_canon _ _
  rw [e, harg1.read_unread]

/-- Group 2's body stores them. -/
theorem words_C (hc0 : ¬cond0_0 i) (hc1 : ¬cond0_1 i) (hc2 : cond0_2 i) (hc3 : ¬cond0_3 i) : out0_C_1 c i arg1 harg1 arg2 harg2 hc0 hc1 hc2 hc3 x0 = View.canon (strips (body 2) x0) := by
  have e : out0_C_1 c i arg1 harg1 arg2 harg2 hc0 hc1 hc2 hc3 x0 = View.canon (strips (body 2) (arg1.view.read (Elt F) (harg1.unread x0))) := View.read_writes_junk_eq_canon _ _
  rw [e, harg1.read_unread]

/-- Group 3's body stores them. -/
theorem words_D (hc0 : ¬cond0_0 i) (hc1 : ¬cond0_1 i) (hc2 : ¬cond0_2 i) (hc3 : cond0_3 i) : out0_D_1 c i arg1 harg1 arg2 harg2 hc0 hc1 hc2 hc3 x0 = View.canon (strips (body 3) x0) := by
  have e : out0_D_1 c i arg1 harg1 arg2 harg2 hc0 hc1 hc2 hc3 x0 = View.canon (strips (body 3) (arg1.view.read (Elt F) (harg1.unread x0))) := View.read_writes_junk_eq_canon _ _
  rw [e, harg1.read_unread]

end Words

/-- Each group's strip. -/
theorem body_has (g : ℕ) (hg : g < 4) (X : FVec Ideal S2048x128 .f32) (f : ℕ → ℕ → EReal) (hX : Has X f) :
    Has (body g X) fun i d => poolS (width g) (fun r => f r d) i := by
  interval_cases g
  · exact pool_strip (w := 2) (by norm_num) (by norm_num) (fun _ _ h => down_back (k := 1) (by norm_num) h) X f hX
  · exact pool_strip (w := 4) (by norm_num) (by norm_num) (fun _ _ h => down_back (k := 2) (by norm_num) (down_back (k := 1) (by norm_num) h)) X f hX
  · exact pool_strip (w := 8) (by norm_num) (by norm_num) (fun _ _ h => down_back (k := 4) (by norm_num) (down_back (k := 2) (by norm_num) (down_back (k := 1) (by norm_num) h))) X f hX
  · exact pool_strip (w := 16) (by norm_num) (by norm_num) (fun _ _ h => down_back (k := 8) (by norm_num) (down_back (k := 4) (by norm_num) (down_back (k := 2) (by norm_num) (down_back (k := 1) (by norm_num) h)))) X f hX

/-! ## The four points -/

variable (m : (ℓ : Loc nD τ sig) → Buf (Elt Ideal) ℓ)
variable {f : ℕ → ℕ → EReal}

/-- The windows' block indices. -/
theorem index (t : Fin cfg0.N) : (win0_0.index t 0 = 0 ∧ win0_0.index t 1 = t.val) ∧ win0_1.index t 0 = 0 ∧ win0_1.index t 1 = t.val :=
  (by decide +kernel : ∀ t : Fin grid0.N, (win0_0.index t 0 = 0 ∧ win0_0.index t 1 = t.val) ∧ win0_1.index t 0 = 0 ∧ win0_1.index t 1 = t.val) t

/-- The argument's block is 512 columns. -/
theorem blk0 (c : Dev nD) (h : Has (m ((c : Thread nD τ).loc main_arg0) : S2048x2048.Idx → EReal) f) (t : Fin cfg0.N) :
    Has (iblk m c 0 t : Vec Ideal S2048x512 .f32) fun i k => f i (512 * t + k) := by
  intro i k
  have hi := (index t).1
  have ht : 512 * t.val + k.val < 2048 := by have := t.isLt; have hN : cfg0.N = 4 := N_0; omega
  refine Eq.trans ?_ (h i ⟨512 * t.val + k.val, ht⟩)
  unfold iblk
  rw [View.read_apply]
  show V m c main_arg0 _ = _
  rw [V_main_arg0]
  congr 1
  funext a
  apply Fin.ext
  match a with
  | ⟨0, _⟩ => show win0_0.index t 0 * 2048 + 1 * i.val = i.val; rw [hi.1]; omega
  | ⟨1, _⟩ => show win0_0.index t 1 * 512 + 1 * k.val = 512 * t.val + k.val; rw [hi.2]; omega

/-- What a point leaves. -/
theorem left (c : Dev nD) (t : Fin cfg0.N) : (dats m 0 c).flushed 1 t = (cfg0.win 1).cut (grid0.coords t) (View.canon (strips (body t.val) (iblk m c 0 t))) := by
  have hN : cfg0.N = 4 := N_0
  have ht : t.val = 0 ∨ t.val = 1 ∨ t.val = 2 ∨ t.val = 3 := by omega
  rcases ht with e | e | e | e
  · rw [flushed1_A m c t (by omega) (by omega) (by omega) (by omega), words_A, e]
  · rw [flushed1_B m c t (by omega) (by omega) (by omega) (by omega), words_B, e]
  · rw [flushed1_C m c t (by omega) (by omega) (by omega) (by omega), words_C, e]
  · rw [flushed1_D m c t (by omega) (by omega) (by omega) (by omega), words_D, e]

/-- The result array. -/
theorem final (c : Dev nD) (h : Has (m ((c : Thread nD τ).loc main_arg0) : S2048x2048.Idx → EReal) f) (r s : Fin 2048) :
    ((dats m 0 c).arrAt 1 cfg0.N : S2048x2048.Idx → EReal) (ix2 r s) = poolS (width (s / 512)) (fun k => f k (512 * (s / 512) + s % 512)) r := by
  have hs := s.isLt
  have hN : cfg0.N = 4 := N_0
  let t : Fin cfg0.N := ⟨s.val / 512, by omega⟩
  have ht : t.val < 4 := by have := t.isLt; omega
  have key := congrFun (blocks1 m c t (flush0_1 t)) (ix2 r (⟨s.val % 512, by omega⟩ : Fin 512))
  rw [View.read_apply, left] at key
  have hi := (index t).2
  refine Eq.trans ?_ (key.trans (block_has (body_has t.val ht) (blk0 m c h t) r ⟨s.val % 512, by omega⟩))
  congr 1
  funext a
  apply Fin.ext
  match a with
  | ⟨0, _⟩ => show r.val = win0_1.index t 0 * 2048 + 1 * r.val; rw [hi.1]; omega
  | ⟨1, _⟩ => show s.val = win0_1.index t 1 * 512 + 1 * (s.val % 512); rw [hi.2]; show s.val = s.val / 512 * 512 + 1 * (s.val % 512); omega

end Cert.PoolIdeal.Fwd

namespace Cert.PoolReferenceIdeal.Fwd

open Idealize.ShloMosaic Idealize.ShloMosaic.TcCoe Idealize.SL.Sem Cert.PoolReferenceIdeal Cert.PoolReferenceIdeal.Read Cert.Gate Cert.Window
open Cert.MixaGateIdeal.Fwd (Has Has3)

/-! ## The reference, line by line -/

variable {x0 : S2048x2048.Idx → EReal} {q : ℕ → ℕ → ℝ}

/-- Group 0. -/
theorem v19_has (h : Has x0 fun r c => ((q r c : ℝ) : EReal)) : Has (val_main_v19 (F := Ideal) x0) fun i d => poolS 2 (fun r => ((q r (512 * 0 + d) : ℝ) : EReal)) i :=
  pool_group (w := 2) (n := 2046) (q := fun r d => q r (512 * 0 + d)) rfl (by norm_num) (group_has h 0 _ _ _) (group_has h 0 _ _ _)
    (spread_has (count_has (w := 2) (by norm_num) _ _ _) _) (fun _ => zero_f32) (fun _ => zero_f32) _ _ _ _

/-- Group 1. -/
theorem v38_has (h : Has x0 fun r c => ((q r c : ℝ) : EReal)) : Has (val_main_v38 (F := Ideal) x0) fun i d => poolS 4 (fun r => ((q r (512 * 1 + d) : ℝ) : EReal)) i :=
  pool_group (w := 4) (n := 2044) (q := fun r d => q r (512 * 1 + d)) rfl (by norm_num) (group_has h 1 _ _ _) (group_has h 1 _ _ _)
    (spread_has (count_has (w := 4) (by norm_num) _ _ _) _) (fun _ => zero_f32) (fun _ => zero_f32) _ _ _ _

/-- Group 2. -/
theorem v57_has (h : Has x0 fun r c => ((q r c : ℝ) : EReal)) : Has (val_main_v57 (F := Ideal) x0) fun i d => poolS 8 (fun r => ((q r (512 * 2 + d) : ℝ) : EReal)) i :=
  pool_group (w := 8) (n := 2040) (q := fun r d => q r (512 * 2 + d)) rfl (by norm_num) (group_has h 2 _ _ _) (group_has h 2 _ _ _)
    (spread_has (count_has (w := 8) (by norm_num) _ _ _) _) (fun _ => zero_f32) (fun _ => zero_f32) _ _ _ _

/-- Group 3. -/
theorem v76_has (h : Has x0 fun r c => ((q r c : ℝ) : EReal)) : Has (val_main_v76 (F := Ideal) x0) fun i d => poolS 16 (fun r => ((q r (512 * 3 + d) : ℝ) : EReal)) i :=
  pool_group (w := 16) (n := 2032) (q := fun r d => q r (512 * 3 + d)) rfl (by norm_num) (group_has h 3 _ _ _) (group_has h 3 _ _ _)
    (spread_has (count_has (w := 16) (by norm_num) _ _ _) _) (fun _ => zero_f32) (fun _ => zero_f32) _ _ _ _

/-- The result. -/
theorem value (h : Has x0 fun r c => ((q r c : ℝ) : EReal)) (r s : Fin 2048) :
    (val_main_v83 (F := Ideal) x0 (ix2 r s) : EReal) = poolS (width (s / 512)) (fun k => ((q k (512 * (s / 512) + s % 512) : ℝ) : EReal)) r :=
  side_has (stack_has (f := fun i e d => poolS (width e) (fun k => ((q k (512 * e + d) : ℝ) : EReal)) i) (layer_has (v19_has h) _) (layer_has (v38_has h) _)
    (layer_has (v57_has h) _) (layer_has (v76_has h) _) Cert.PoolReferenceIdeal.Gen.concatenates_S2048x1x512_S2048x1x512_S2048x1x512_S2048x1x512_S2048x4x512_d1) _ r s

end Cert.PoolReferenceIdeal.Fwd

namespace Cert.Mlp

open Idealize.ShloMosaic Idealize.ShloMosaic.TcCoe Idealize.SL.Sem Cert.Gate
open Cert.MixaGateIdeal.Fwd (Has)

/-- The pooling runs and keeps its arguments. -/
theorem frame_Pool : Cert.quiescent_Pool (hPool := Cert.Pool.Gen.facts) := fun m ρ _ => Cert.Pool.Gen.frame m ρ

/-- Its idealization runs and keeps its arguments. -/
theorem frame_PoolIdeal : Cert.quiescent_PoolIdeal (hPoolIdeal := Cert.PoolIdeal.Gen.facts) := fun m ρ _ => Cert.PoolIdeal.Gen.frame m ρ

/-- The same, where the precondition holds. -/
theorem frame_PoolIdeal_finite : Cert.quiescent_PoolIdeal_pre_finite_rows (hPoolIdeal := Cert.PoolIdeal.Gen.facts) (hPre_finite_rows := Cert.Window.facts) := fun m ρ _ =>
  Cert.PoolIdeal.Gen.frame m ρ

/-- Its reference runs and keeps its arguments. -/
theorem frame_PoolReferenceIdeal : Cert.quiescent_PoolReferenceIdeal (hPoolReferenceIdeal := Cert.PoolReferenceIdeal.Gen.facts) := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- The same, where the precondition holds. -/
theorem frame_PoolReferenceIdeal_finite : Cert.quiescent_PoolReferenceIdeal_pre_finite_rows (hPoolReferenceIdeal := Cert.PoolReferenceIdeal.Gen.facts)
    (hPre_finite_rows := Cert.Window.facts) := fun m ρ _ => frame_PoolReferenceIdeal m ρ trivial

/-- The kernel's result and the reference's are equal, for finite arguments. -/
theorem same_Pool : Cert.algebraic_PoolIdeal_PoolReferenceIdeal_pre_finite_rows (hPoolIdeal := Cert.PoolIdeal.Gen.facts)
    (hPoolReferenceIdeal := Cert.PoolReferenceIdeal.Gen.facts) (hPre_finite_rows := Cert.Window.facts) := by
  intro m ρ m' ρ' hp hag
  refine ⟨fun c => (Cert.PoolIdeal.Gen.dats m 0 c).arrAt 1 Cert.PoolIdeal.cfg0.N, Cert.PoolIdeal.Value.run_blocks m ρ, ?_⟩
  refine (θ_run _ _ _).mono (fun r h c => ?_) (Cert.PoolReferenceIdeal.Value.run m' ρ')
  obtain ⟨e, rest⟩ := h c
  refine ⟨(e.trans (Cert.PoolReferenceIdeal.Read.val_main_v83_eq _ _)).trans ?_, rest⟩
  have a0 := hag c
  rw [a0]
  have hq := Cert.Window.real_has (hp c)
  funext i
  obtain ⟨r, s, rfl⟩ : ∃ (r s : Fin 2048), i = ix2 r s := ⟨i 0, i 1, eq_ix2 i⟩
  exact (Cert.PoolReferenceIdeal.Fwd.value hq r s).trans (Cert.PoolIdeal.Fwd.final m c hq r s).symm

end Cert.Mlp

end
-- ==== Proof.Rms.lean ====
module

public import proofs.«01_k».proof.Defs
public import proofs.«01_k».proof.Proof.RealGate
public import proofs.«01_k».proof.Proof.GateTiles
public import proofs.«01_k».proof.Proof.Product
public import proofs.«01_k».proof.Proof.Gen.Rms.Frame
public import proofs.«01_k».proof.Proof.Gen.RmsIdeal.Value
public import proofs.«01_k».proof.Proof.Gen.RmsReferenceIdeal.Read
public import Idealize.ShloMosaic.Lib.Tactic
public import Idealize.ShloMosaic.Lib.Pointwise
public import Idealize.ShloMosaic.Lib.StableHlo.ReadAt
public import Idealize.ShloMosaic.Adequacy
public import Idealize.ShloMosaic.Init
public import Idealize.ShloMosaic.Lib.Quiescent

/-! A root-mean-square norm, forward: four blocks of 512 tokens. -/

@[expose] public section

set_option maxRecDepth 16384

noncomputable section

namespace Cert.RmsIdeal.Fwd

open Idealize.ShloMosaic Idealize.ShloMosaic.TcCoe Idealize.SL.Sem Cert.RmsIdeal Cert.RmsIdeal.Gen Cert.RmsIdeal.Value Cert.Gate
open Cert.MixaGateIdeal.Fwd (Has)

/-! ## One block -/

/-- The mean of a row's squares, with epsilon. -/
def msE (p : ℕ → ℕ → EReal) (r : ℕ) : EReal := (∑ c ∈ Finset.range 2048, p r c * p r c) * ((1 / 2048 : ℝ) : EReal) + ((epsR : ℝ) : EReal)
/-- The norm with its gain. -/
def rmsE (p : ℕ → ℕ → EReal) (γ : ℕ → EReal) (r c : ℕ) : EReal := p r c * Ideal.rsqrt (msE p r) * γ c

/-- What the body leaves in the output block. -/
theorem out_has {x0 : Vec Ideal S512x2048 .f32} {x1 : Vec Ideal S1x2048 .f32} {p : ℕ → ℕ → EReal} {γ : ℕ → EReal} (h0 : Has x0 p) (h1 : Has x1 fun _ c => γ c) :
    Has (out0_2 x0 x1) (rmsE p γ) := by
  have hz : (![0, 0] : Fin 2 → ℕ) = fun _ => 0 := by decide
  have e0 : (View.ld x0 r0_0 : Vec Ideal S512x2048 .f32) = x0 := View.ld_unit_zero (S := S512x2048) hz _ _
  have e1 : (View.ld x1 r0_1 : Vec Ideal S1x2048 .f32) = x1 := View.ld_unit_zero (S := S1x2048) hz _ _
  intro i d
  unfold out0_2
  rw [e0, e1]
  refine (canon2_eq x0 x1 (ix2 i d)).trans ?_
  pointwise [E2]
  simp only [h0 _ _, h1 _ _, n2048_f32, eps_f32, Ideal.div_coe (show (2048 : ℝ) ≠ 0 by norm_num), rmsE, msE, Finset.sum_range]
  refine congrArg₂ (· * ·) (congrArg (· * _) (Eq.trans (congrArg x0 ?_) (h0 i d))) (Eq.trans (congrArg x1 ?_) (h1 0 d))
  · funext a
    match a with
    | ⟨0, _⟩ => rfl
    | ⟨1, _⟩ => rfl
  · funext a
    match a with
    | ⟨0, _⟩ => rfl
    | ⟨1, _⟩ => rfl

/-! ## The four points -/

variable (m : (ℓ : Loc nD τ sig) → Buf (Elt Ideal) ℓ)
variable {p : ℕ → ℕ → EReal} {γ : ℕ → EReal}

/-- The moving windows' block indices. -/
theorem index (t : Fin cfg0.N) : (win0_0.index t 0 = t.val ∧ win0_0.index t 1 = 0) ∧ win0_2.index t 0 = t.val ∧ win0_2.index t 1 = 0 :=
  (by decide +kernel : ∀ t : Fin grid0.N, (win0_0.index t 0 = t.val ∧ win0_0.index t 1 = 0) ∧ win0_2.index t 0 = t.val ∧ win0_2.index t 1 = 0) t

/-- The tokens' block is 512 rows. -/
theorem blk0 (c : Dev nD) (h : Has (m ((c : Thread nD τ).loc main_arg0) : S2048x2048.Idx → EReal) p) (t : Fin cfg0.N) :
    Has (iblk m c 0 t : Vec Ideal S512x2048 .f32) fun i k => p (512 * t + i) k := by
  intro i k
  have hi := (index t).1
  have ht : 512 * t.val + i.val < 2048 := by have := t.isLt; have hN : cfg0.N = 4 := N_0; omega
  refine Eq.trans ?_ (h ⟨512 * t.val + i.val, ht⟩ k)
  unfold iblk
  rw [View.read_apply]
  show V m c main_arg0 _ = _
  rw [V_main_arg0]
  congr 1
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

/-- The gain is one block. -/
theorem blk1 (c : Dev nD) (h : Has (m ((c : Thread nD τ).loc main_arg1) : S1x2048.Idx → EReal) fun _ k => γ k) (t : Fin cfg0.N) :
    Has (iblk m c 1 t : Vec Ideal S1x2048 .f32) fun _ k => γ k := by
  intro i k
  refine Eq.trans ?_ (h i k)
  unfold iblk
  rw [View.read_apply]
  show V m c main_arg1 _ = _
  rw [V_main_arg1]
  congr 1
  funext a
  apply Fin.ext
  match a with
  | ⟨0, _⟩ => show 0 * 1 + 1 * i.val = i.val; omega
  | ⟨1, _⟩ => show 0 * 2048 + 1 * k.val = k.val; omega

/-- The result array. -/
theorem final (c : Dev nD) (h0 : Has (m ((c : Thread nD τ).loc main_arg0) : S2048x2048.Idx → EReal) p)
    (h1 : Has (m ((c : Thread nD τ).loc main_arg1) : S1x2048.Idx → EReal) fun _ k => γ k) (r s : Fin 2048) :
    ((dats m 0 c).arrAt 2 cfg0.N : S2048x2048.Idx → EReal) (ix2 r s) = rmsE p γ r s := by
  have hr := r.isLt
  have hN : cfg0.N = 4 := N_0
  let t : Fin cfg0.N := ⟨r.val / 512, by omega⟩
  have key := congrFun (blocks2 m c t (flush0_2 t)) (ix2 (⟨r.val % 512, by omega⟩ : Fin 512) s)
  rw [View.read_apply, flushed2] at key
  have hi := (index t).2
  refine Eq.trans ?_ ((key.trans (out_has (blk0 m c h0 t) (blk1 m c h1 t) ⟨r.val % 512, by omega⟩ s)).trans ?_)
  · congr 1
    funext a
    apply Fin.ext
    match a with
    | ⟨0, _⟩ => show r.val = win0_2.index t 0 * 512 + 1 * (r.val % 512); rw [hi.1]; show r.val = r.val / 512 * 512 + 1 * (r.val % 512); omega
    | ⟨1, _⟩ => show s.val = win0_2.index t 1 * 2048 + 1 * s.val; rw [hi.2]; omega
  · have e : 512 * (r.val / 512) + r.val % 512 = r.val := by omega
    show rmsE (fun i k => p (512 * (r.val / 512) + i) k) γ (r.val % 512) s = _
    simp only [rmsE, msE, e]

end Cert.RmsIdeal.Fwd

namespace Cert.RmsReferenceIdeal.Fwd

open Idealize.ShloMosaic Idealize.ShloMosaic.TcCoe Idealize.SL.Sem Cert.RmsReferenceIdeal Cert.RmsReferenceIdeal.Read Cert.Gate
open Cert.MixaGateIdeal.Fwd (Has)
open Cert.RmsIdeal.Fwd

variable {x0 : S2048x2048.Idx → EReal} {x1 : S1x2048.Idx → EReal} {p : ℕ → ℕ → EReal} {γ : ℕ → EReal}

/-- The reciprocal root. -/
theorem v7_has (h0 : Has x0 p) : Has (val_main_v7 (F := Ideal) x0) fun r _ => Ideal.rsqrt (msE p r) := by
  intro r z
  rw [val_main_v7_apply]
  show Ideal.rsqrt (val_main_v6 (F := Ideal) x0 (ix2 r z)) = _
  refine congrArg Ideal.rsqrt ?_
  pointwise [val_main_v6, val_main_v5, val_main_v4, val_main_v3, val_main_v2, val_main_v1, val_main_v0, val_main_cst, val_main_cst_0, val_main_cst_1]
  simp only [h0 _ _, n2048_f32, eps_f32, Ideal.div_coe (show (2048 : ℝ) ≠ 0 by norm_num), msE, Finset.sum_range]

/-- The reference's result. -/
theorem value (h0 : Has x0 p) (h1 : Has x1 fun _ c => γ c) : Has (val_main_v12 (F := Ideal) x0 x1) (rmsE p γ) := by
  intro r c
  have e := v7_has h0 r 0
  pointwise [val_main_v12, val_main_v11, val_main_v10, val_main_v9, val_main_v8]
  rw [e, h0 r c, h1 0 c]
  rfl

end Cert.RmsReferenceIdeal.Fwd

namespace Cert.Mlp

open Idealize.ShloMosaic Idealize.ShloMosaic.TcCoe Idealize.SL.Sem Cert.Gate
open Cert.MixaGateIdeal.Fwd (Has)

/-- The norm's program runs and keeps its arguments. -/
theorem frame_Rms : Cert.quiescent_Rms (hRms := Cert.Rms.Gen.facts) := fun m ρ _ => Cert.Rms.Gen.frame m ρ

/-- Its idealization runs and keeps its arguments. -/
theorem frame_RmsIdeal : Cert.quiescent_RmsIdeal (hRmsIdeal := Cert.RmsIdeal.Gen.facts) := fun m ρ _ => Cert.RmsIdeal.Gen.frame m ρ

/-- Its reference runs and keeps its arguments. -/
theorem frame_RmsReferenceIdeal : Cert.quiescent_RmsReferenceIdeal (hRmsReferenceIdeal := Cert.RmsReferenceIdeal.Gen.facts) := fun m ρ _ =>
  (θ_run Cert.RmsReferenceIdeal.defs _ _).mono (fun r h => ⟨fun c => (h c).2, sem_eq_zero_of_no_sems (by decide) r.2⟩)
    (Cert.RmsReferenceIdeal.Value.run (F := Ideal) m ρ)

/-- The kernel's result and the reference's are equal, for any arguments. -/
theorem same_Rms : Cert.algebraic_RmsIdeal_RmsReferenceIdeal (hRmsIdeal := Cert.RmsIdeal.Gen.facts) (hRmsReferenceIdeal := Cert.RmsReferenceIdeal.Gen.facts) := by
  intro m ρ m' ρ' _ hag
  refine ⟨fun c => (Cert.RmsIdeal.Gen.dats m 0 c).arrAt 2 Cert.RmsIdeal.cfg0.N, Cert.RmsIdeal.Value.run_blocks m ρ, ?_⟩
  refine (θ_run _ _ _).mono (fun r h c => ?_) (Cert.RmsReferenceIdeal.Value.run m' ρ')
  obtain ⟨e, rest⟩ := h c
  refine ⟨(e.trans (Cert.RmsReferenceIdeal.Read.val_main_v12_eq _ _)).trans ?_, rest⟩
  obtain ⟨a0, a1⟩ := hag c
  rw [a0, a1]
  obtain ⟨p, h0⟩ : ∃ p, Has (m ((c.tc : Thread Cert.RmsIdeal.nD Cert.RmsIdeal.τ).loc Cert.RmsIdeal.main_arg0) : Cert.RmsIdeal.S2048x2048.Idx → EReal) p := by
    refine ⟨fun r c' => (m ((c.tc : Thread Cert.RmsIdeal.nD Cert.RmsIdeal.τ).loc Cert.RmsIdeal.main_arg0) : Cert.RmsIdeal.S2048x2048.Idx → EReal)
      (ix2 (Fin.ofNat 2048 r) (Fin.ofNat 2048 c')), fun r s => ?_⟩
    simp
  obtain ⟨γ, h1⟩ : ∃ γ : ℕ → EReal, Has (m ((c.tc : Thread Cert.RmsIdeal.nD Cert.RmsIdeal.τ).loc Cert.RmsIdeal.main_arg1) : Cert.RmsIdeal.S1x2048.Idx → EReal) fun _ k => γ k := by
    refine ⟨fun c' => (m ((c.tc : Thread Cert.RmsIdeal.nD Cert.RmsIdeal.τ).loc Cert.RmsIdeal.main_arg1) : Cert.RmsIdeal.S1x2048.Idx → EReal)
      (ix2 0 (Fin.ofNat 2048 c')), fun r s => ?_⟩
    obtain rfl := Subsingleton.elim r 0
    simp
  funext i
  obtain ⟨r, s, rfl⟩ : ∃ (r s : Fin 2048), i = ix2 r s := ⟨i 0, i 1, eq_ix2 i⟩
  exact (Cert.RmsReferenceIdeal.Fwd.value h0 h1 r s).trans (Cert.RmsIdeal.Fwd.final m c h0 h1 r s).symm

end Cert.Mlp

end
-- ==== Proof.lean ====
/- The claims about the chunked gate and its gradient, the MLP's products and the mixers', the pooling and its gradient, and a
   norm: the programs run and keep their arguments, the gates' named constants are the printed ones, where every argument is
   finite the gradient's five results, the pooling's and its gradient's are the references', and the forward gate's, the
   products' and the norm's results are their references', for any arguments. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Match
public import proofs.«01_k».proof.Proof.DownDx
public import proofs.«01_k».proof.Proof.UpDx
public import proofs.«01_k».proof.Proof.Up
public import proofs.«01_k».proof.Proof.Down
public import proofs.«01_k».proof.Proof.DownDwOther
public import proofs.«01_k».proof.Proof.DownDwOwn
public import proofs.«01_k».proof.Proof.UpDwOther
public import proofs.«01_k».proof.Proof.UpDwOwn
public import proofs.«01_k».proof.Proof.SquareDx
public import proofs.«01_k».proof.Proof.MixaInDx
public import proofs.«01_k».proof.Proof.SquareDwOther
public import proofs.«01_k».proof.Proof.SquareDwOwn
public import proofs.«01_k».proof.Proof.MixaInDwOther
public import proofs.«01_k».proof.Proof.MixaInDwOwn
public import proofs.«01_k».proof.Proof.MixaIn
public import proofs.«01_k».proof.Proof.MixOut
public import proofs.«01_k».proof.Proof.MixbIn
public import proofs.«01_k».proof.Proof.ScaledDx
public import proofs.«01_k».proof.Proof.GrpDx
public import proofs.«01_k».proof.Proof.GrpDw
public import proofs.«01_k».proof.Proof.Grp
public import proofs.«01_k».proof.Proof.MixaGate
public import proofs.«01_k».proof.Proof.PoolDx
public import proofs.«01_k».proof.Proof.Pool
public import proofs.«01_k».proof.Proof.Rms
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The two named constants are the printed ones. -/
theorem constants : Cert.preserves_Kernel_KernelIdeal :=
  ⟨IdealRules.named_const.statement Cert.KernelIdeal.κ "sqrt_half" .f32 0x3F3504F3#32 _ rfl,
    IdealRules.named_const.statement Cert.KernelIdeal.κ "inv_sqrt_2pi" .f32 0x3ECC422A#32 _ rfl⟩

/-- The forward gate's named constant is the printed one. -/
theorem constant_forward : Cert.preserves_MixaGate_MixaGateIdeal :=
  IdealRules.named_const.statement Cert.MixaGateIdeal.κ "sqrt_half" .f32 0x3F3504F3#32 _ rfl

/-- Every claim. -/
theorem claim : Cert.Claim :=
  ⟨Cert.Kernel.Gen.facts, Cert.KernelIdeal.Gen.facts, Cert.ReferenceIdeal.Gen.facts,
    Cert.DownDx.Gen.facts, Cert.DownDxIdeal.Gen.facts, Cert.DownDxReferenceIdeal.Gen.facts,
    Cert.UpDx.Gen.facts, Cert.UpDxIdeal.Gen.facts, Cert.UpDxReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.DownDwOther.Gen.facts, Cert.DownDwOtherIdeal.Gen.facts, Cert.DownDwOtherReferenceIdeal.Gen.facts,
    Cert.DownDwOwn.Gen.facts, Cert.DownDwOwnIdeal.Gen.facts, Cert.DownDwOwnReferenceIdeal.Gen.facts,
    Cert.UpDwOther.Gen.facts, Cert.UpDwOtherIdeal.Gen.facts, Cert.UpDwOtherReferenceIdeal.Gen.facts,
    Cert.UpDwOwn.Gen.facts, Cert.UpDwOwnIdeal.Gen.facts, Cert.UpDwOwnReferenceIdeal.Gen.facts,
    Cert.SquareDx.Gen.facts, Cert.SquareDxIdeal.Gen.facts, Cert.SquareDxReferenceIdeal.Gen.facts,
    Cert.MixaInDx.Gen.facts, Cert.MixaInDxIdeal.Gen.facts, Cert.MixaInDxReferenceIdeal.Gen.facts,
    Cert.SquareDwOther.Gen.facts, Cert.SquareDwOtherIdeal.Gen.facts, Cert.SquareDwOtherReferenceIdeal.Gen.facts,
    Cert.SquareDwOwn.Gen.facts, Cert.SquareDwOwnIdeal.Gen.facts, Cert.SquareDwOwnReferenceIdeal.Gen.facts,
    Cert.MixaInDwOther.Gen.facts, Cert.MixaInDwOtherIdeal.Gen.facts, Cert.MixaInDwOtherReferenceIdeal.Gen.facts,
    Cert.MixaInDwOwn.Gen.facts, Cert.MixaInDwOwnIdeal.Gen.facts, Cert.MixaInDwOwnReferenceIdeal.Gen.facts,
    Cert.MixaIn.Gen.facts, Cert.MixaInIdeal.Gen.facts, Cert.MixaInReferenceIdeal.Gen.facts,
    Cert.MixOut.Gen.facts, Cert.MixOutIdeal.Gen.facts, Cert.MixOutReferenceIdeal.Gen.facts,
    Cert.MixbIn.Gen.facts, Cert.MixbInIdeal.Gen.facts, Cert.MixbInReferenceIdeal.Gen.facts,
    Cert.ScaledDx.Gen.facts, Cert.ScaledDxIdeal.Gen.facts, Cert.ScaledDxReferenceIdeal.Gen.facts,
    Cert.GrpDx.Gen.facts, Cert.GrpDxIdeal.Gen.facts, Cert.GrpDxReferenceIdeal.Gen.facts,
    Cert.GrpDw.Gen.facts, Cert.GrpDwIdeal.Gen.facts, Cert.GrpDwReferenceIdeal.Gen.facts,
    Cert.Grp.Gen.facts, Cert.GrpIdeal.Gen.facts, Cert.GrpReferenceIdeal.Gen.facts,
    Cert.MixaGate.Gen.facts, Cert.MixaGateIdeal.Gen.facts, Cert.MixaGateReferenceIdeal.Gen.facts,
    Cert.PoolDx.Gen.facts, Cert.PoolDxIdeal.Gen.facts, Cert.PoolDxReferenceIdeal.Gen.facts,
    Cert.Pool.Gen.facts, Cert.PoolIdeal.Gen.facts, Cert.PoolReferenceIdeal.Gen.facts,
    Cert.Rms.Gen.facts, Cert.RmsIdeal.Gen.facts, Cert.RmsReferenceIdeal.Gen.facts,
    Cert.Pre_finite.Gate.facts, Cert.Pre_is_core.Gen.facts, Cert.Pre_is_core_down_own.Gen.facts, Cert.Pre_is_core_up.Gen.facts, Cert.Pre_is_core_up_own.Gen.facts,
    Cert.Pre_is_core_square.Gen.facts, Cert.Pre_is_core_square_own.Gen.facts, Cert.Pre_is_core_mixa.Gen.facts, Cert.Pre_is_core_mixa_own.Gen.facts, Cert.Window.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Cert.Mlp.frame_DownDx, Cert.Mlp.frame_DownDxIdeal, Cert.Mlp.frame_DownDxReferenceIdeal,
    Cert.Mlp.frame_UpDx, Cert.Mlp.frame_UpDxIdeal, Cert.Mlp.frame_UpDxReferenceIdeal,
    Cert.Mlp.frame_Up, Cert.Mlp.frame_UpIdeal, Cert.Mlp.frame_UpReferenceIdeal,
    Cert.Mlp.frame_Down, Cert.Mlp.frame_DownIdeal, Cert.Mlp.frame_DownReferenceIdeal,
    Cert.Mlp.frame_DownDwOther, Cert.Mlp.frame_DownDwOtherIdeal, Cert.Mlp.frame_DownDwOtherReferenceIdeal, fun m ρ _ => Cert.Mlp.frame_DownDwOtherReferenceIdeal m ρ trivial,
    Cert.Mlp.frame_DownDwOwn, Cert.Mlp.frame_DownDwOwnIdeal, Cert.Mlp.frame_DownDwOwnReferenceIdeal, fun m ρ _ => Cert.Mlp.frame_DownDwOwnReferenceIdeal m ρ trivial,
    Cert.Mlp.frame_UpDwOther, Cert.Mlp.frame_UpDwOtherIdeal, Cert.Mlp.frame_UpDwOtherReferenceIdeal, fun m ρ _ => Cert.Mlp.frame_UpDwOtherReferenceIdeal m ρ trivial,
    Cert.Mlp.frame_UpDwOwn, Cert.Mlp.frame_UpDwOwnIdeal, Cert.Mlp.frame_UpDwOwnReferenceIdeal, fun m ρ _ => Cert.Mlp.frame_UpDwOwnReferenceIdeal m ρ trivial,
    Cert.Mlp.frame_SquareDx, Cert.Mlp.frame_SquareDxIdeal, Cert.Mlp.frame_SquareDxReferenceIdeal,
    Cert.Mlp.frame_MixaInDx, Cert.Mlp.frame_MixaInDxIdeal, Cert.Mlp.frame_MixaInDxReferenceIdeal,
    Cert.Mlp.frame_SquareDwOther, Cert.Mlp.frame_SquareDwOtherIdeal, Cert.Mlp.frame_SquareDwOtherReferenceIdeal, fun m ρ _ => Cert.Mlp.frame_SquareDwOtherReferenceIdeal m ρ trivial,
    Cert.Mlp.frame_SquareDwOwn, Cert.Mlp.frame_SquareDwOwnIdeal, Cert.Mlp.frame_SquareDwOwnReferenceIdeal, fun m ρ _ => Cert.Mlp.frame_SquareDwOwnReferenceIdeal m ρ trivial,
    Cert.Mlp.frame_MixaInDwOther, Cert.Mlp.frame_MixaInDwOtherIdeal, Cert.Mlp.frame_MixaInDwOtherReferenceIdeal, fun m ρ _ => Cert.Mlp.frame_MixaInDwOtherReferenceIdeal m ρ trivial,
    Cert.Mlp.frame_MixaInDwOwn, Cert.Mlp.frame_MixaInDwOwnIdeal, Cert.Mlp.frame_MixaInDwOwnReferenceIdeal, fun m ρ _ => Cert.Mlp.frame_MixaInDwOwnReferenceIdeal m ρ trivial,
    Cert.Mlp.frame_MixaIn, Cert.Mlp.frame_MixaInIdeal, Cert.Mlp.frame_MixaInReferenceIdeal,
    Cert.Mlp.frame_MixOut, Cert.Mlp.frame_MixOutIdeal, Cert.Mlp.frame_MixOutReferenceIdeal,
    Cert.Mlp.frame_MixbIn, Cert.Mlp.frame_MixbInIdeal, Cert.Mlp.frame_MixbInReferenceIdeal,
    Cert.Mlp.frame_ScaledDx, Cert.Mlp.frame_ScaledDxIdeal, Cert.Mlp.frame_ScaledDxReferenceIdeal,
    Cert.Mlp.frame_GrpDx, Cert.Mlp.frame_GrpDxIdeal, Cert.Mlp.frame_GrpDxReferenceIdeal,
    Cert.Mlp.frame_GrpDw, Cert.Mlp.frame_GrpDwIdeal, Cert.Mlp.frame_GrpDwReferenceIdeal,
    Cert.Mlp.frame_Grp, Cert.Mlp.frame_GrpIdeal, Cert.Mlp.frame_GrpReferenceIdeal,
    Cert.Mlp.frame_MixaGate, Cert.Mlp.frame_MixaGateIdeal, Cert.Mlp.frame_MixaGateReferenceIdeal,
    Cert.Mlp.frame_PoolDx, Cert.Mlp.frame_PoolDxIdeal, Cert.Mlp.frame_PoolDxIdeal_finite, Cert.Mlp.frame_PoolDxReferenceIdeal, Cert.Mlp.frame_PoolDxReferenceIdeal_finite,
    Cert.Mlp.frame_Pool, Cert.Mlp.frame_PoolIdeal, Cert.Mlp.frame_PoolIdeal_finite, Cert.Mlp.frame_PoolReferenceIdeal, Cert.Mlp.frame_PoolReferenceIdeal_finite,
    Cert.Mlp.frame_Rms, Cert.Mlp.frame_RmsIdeal, Cert.Mlp.frame_RmsReferenceIdeal,
    constants, Cert.Gate.same, trivial, Cert.Mlp.same_DownDx, trivial, Cert.Mlp.same_UpDx, trivial, Cert.Mlp.same_Up, trivial, Cert.Mlp.same_Down,
    trivial, Cert.Mlp.same_DownDwOther, trivial, Cert.Mlp.same_DownDwOwn, trivial, Cert.Mlp.same_UpDwOther, trivial, Cert.Mlp.same_UpDwOwn,
    trivial, Cert.Mlp.same_SquareDx, trivial, Cert.Mlp.same_MixaInDx, trivial, Cert.Mlp.same_SquareDwOther, trivial, Cert.Mlp.same_SquareDwOwn,
    trivial, Cert.Mlp.same_MixaInDwOther, trivial, Cert.Mlp.same_MixaInDwOwn, trivial, Cert.Mlp.same_MixaIn, trivial, Cert.Mlp.same_MixOut, trivial, Cert.Mlp.same_MixbIn,
    trivial, Cert.Mlp.same_ScaledDx, trivial, Cert.Mlp.same_GrpDx, trivial, Cert.Mlp.same_GrpDw, trivial, Cert.Mlp.same_Grp, constant_forward, Cert.Mlp.same_MixaGate,
    trivial, Cert.Mlp.same_PoolDx, trivial, Cert.Mlp.same_Pool, trivial, Cert.Mlp.same_Rms⟩

end Cert.Proof

end
